-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 10240]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v5_0) i = v0 c i)
          ∧ (∀ i : (⟨2, ![8, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v5_1) i = v1 c i)
          ∧ (∀ i : (⟨2, ![8, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v5_2) i = v2 c i)
          ∧ (∀ i : (⟨3, ![16, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v5_3) i = v3 c i)
          ∧ (∀ i : (⟨2, ![128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.KernelIdeal.nD Cert.KernelIdeal.τ).loc Cert.KernelIdeal.main_v5_4) i = v4 c i)
          ∧ (∀ i : (⟨2, ![8, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.KernelIdeal.nD Cert.KernelIdeal.τ).loc Cert.KernelIdeal.main_v5_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 10240]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v179) i = v0 c i)
          ∧ (∀ i : (⟨2, ![8, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v181) i = v1 c i)
          ∧ (∀ i : (⟨2, ![8, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v183) i = v2 c i)
          ∧ (∀ i : (⟨3, ![16, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v125) i = v3 c i)
          ∧ (∀ i : (⟨2, ![128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.ReferenceIdeal.nD Cert.ReferenceIdeal.τ).loc Cert.ReferenceIdeal.main_v185) i = v4 c i)
          ∧ (∀ i : (⟨2, ![8, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.ReferenceIdeal.nD Cert.ReferenceIdeal.τ).loc Cert.ReferenceIdeal.main_v187) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v38) = v0 c
          ∧ r.2.mem ((c.tc : Thread Cert.Reference27Ideal.nD Cert.Reference27Ideal.τ).loc Cert.Reference27Ideal.main_v40) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v7) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v7) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v1_0)) (v1 : (c : Dev Cert.Kernel33Ideal.nD) → Buf (Elt Ideal) ((c.tc : Thread Cert.Kernel33Ideal.nD Cert.Kernel33Ideal.τ).loc Cert.Kernel33Ideal.main_v1_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1_0) = v0 c
          ∧ r.2.mem ((c.tc : Thread Cert.Kernel33Ideal.nD Cert.Kernel33Ideal.τ).loc Cert.Kernel33Ideal.main_v1_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v13) = v0 c
          ∧ r.2.mem ((c.tc : Thread Cert.Reference33Ideal.nD Cert.Reference33Ideal.τ).loc Cert.Reference33Ideal.main_v14) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v1_0)) (v1 : (c : Dev Cert.Kernel34Ideal.nD) → Buf (Elt Ideal) ((c.tc : Thread Cert.Kernel34Ideal.nD Cert.Kernel34Ideal.τ).loc Cert.Kernel34Ideal.main_v1_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1_0) = v0 c
          ∧ r.2.mem ((c.tc : Thread Cert.Kernel34Ideal.nD Cert.Kernel34Ideal.τ).loc Cert.Kernel34Ideal.main_v1_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v13) = v0 c
          ∧ r.2.mem ((c.tc : Thread Cert.Reference34Ideal.nD Cert.Reference34Ideal.τ).loc Cert.Reference34Ideal.main_v14) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v1_0)) (v1 : (c : Dev Cert.Kernel35Ideal.nD) → Buf (Elt Ideal) ((c.tc : Thread Cert.Kernel35Ideal.nD Cert.Kernel35Ideal.τ).loc Cert.Kernel35Ideal.main_v1_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1_0) = v0 c
          ∧ r.2.mem ((c.tc : Thread Cert.Kernel35Ideal.nD Cert.Kernel35Ideal.τ).loc Cert.Kernel35Ideal.main_v1_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v13) = v0 c
          ∧ r.2.mem ((c.tc : Thread Cert.Reference35Ideal.nD Cert.Reference35Ideal.τ).loc Cert.Reference35Ideal.main_v14) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v1_0)) (v1 : (c : Dev Cert.Kernel36Ideal.nD) → Buf (Elt Ideal) ((c.tc : Thread Cert.Kernel36Ideal.nD Cert.Kernel36Ideal.τ).loc Cert.Kernel36Ideal.main_v1_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v1_0) = v0 c
          ∧ r.2.mem ((c.tc : Thread Cert.Kernel36Ideal.nD Cert.Kernel36Ideal.τ).loc Cert.Kernel36Ideal.main_v1_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v39) = v0 c
          ∧ r.2.mem ((c.tc : Thread Cert.Reference36Ideal.nD Cert.Reference36Ideal.τ).loc Cert.Reference36Ideal.main_v41) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v1_0)) (v1 : (c : Dev Cert.Kernel37Ideal.nD) → Buf (Elt Ideal) ((c.tc : Thread Cert.Kernel37Ideal.nD Cert.Kernel37Ideal.τ).loc Cert.Kernel37Ideal.main_v1_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1_0) = v0 c
          ∧ r.2.mem ((c.tc : Thread Cert.Kernel37Ideal.nD Cert.Kernel37Ideal.τ).loc Cert.Kernel37Ideal.main_v1_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v39) = v0 c
          ∧ r.2.mem ((c.tc : Thread Cert.Reference37Ideal.nD Cert.Reference37Ideal.τ).loc Cert.Reference37Ideal.main_v41) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
-- ==== On_written.lean ====
abbrev S8192x10240 : Shape := ⟨2, ![8192, 10240]⟩
abbrev S2048 : Shape := ⟨1, ![2048]⟩
abbrev S16x128x128 : Shape := ⟨3, ![16, 128, 128]⟩
abbrev S16x128 : Shape := ⟨2, ![16, 128]⟩
abbrev S8192x4096 : Shape := ⟨2, ![8192, 4096]⟩
abbrev S_ : Shape := ⟨0, ![]⟩
abbrev S8x2048 : Shape := ⟨2, ![8, 2048]⟩
abbrev S128x128 : Shape := ⟨2, ![128, 128]⟩

class Facts : Prop where
  bcast_S_S8192x10240 : S_.BroadcastsInDim S8192x10240 (![] : Fin 0 → Fin S8192x10240.rank)
  bcast_S_S8x2048 : S_.BroadcastsInDim S8x2048 (![] : Fin 0 → Fin S8x2048.rank)
  bcast_S_S16x128x128 : S_.BroadcastsInDim S16x128x128 (![] : Fin 0 → Fin S16x128x128.rank)
  bcast_S_S128x128 : S_.BroadcastsInDim S128x128 (![] : Fin 0 → Fin S128x128.rank)

variable [Facts]

def fn {F : FTy → Type} [FloatOps F] (main_arg0 : FVec F S8192x10240 .bf16) (main_arg1 : FVec F S2048 .f32) (main_arg2 : FVec F S2048 .f32) (main_arg3 : FVec F S16x128x128 .f32) (main_arg4 : FVec F S16x128 .f32) (main_arg5 : FVec F S2048 .f32) (main_arg6 : FVec F S8192x4096 .bf16) : IVec S8192x10240 1 × IVec S8x2048 1 × IVec S8x2048 1 × IVec S16x128x128 1 × IVec S128x128 1 × IVec S8x2048 1 :=
  let main_v0 : IVec S8192x10240 32 := iotaInDim S8192x10240 32 1
  let main_c : IVec S_ 32 := constantI S_ 32 4096#32
  let main_v1 : IVec S8192x10240 32 := broadcastInDim S8192x10240 ![] bcast_S_S8192x10240 main_c
  let main_v2 : IVec S8192x10240 1 := cmpi .slt main_v0 main_v1
  let main_c_0 : IVec S_ 1 := constantI S_ 1 1#1
  let main_v3 : IVec S8x2048 1 := broadcastInDim S8x2048 ![] bcast_S_S8x2048 main_c_0
  let main_c_1 : IVec S_ 1 := constantI S_ 1 1#1
  let main_v4 : IVec S8x2048 1 := broadcastInDim S8x2048 ![] bcast_S_S8x2048 main_c_1
  let main_c_2 : IVec S_ 1 := constantI S_ 1 1#1
  let main_v5 : IVec S16x128x128 1 := broadcastInDim S16x128x128 ![] bcast_S_S16x128x128 main_c_2
  let main_c_3 : IVec S_ 1 := constantI S_ 1 1#1
  let main_v6 : IVec S128x128 1 := broadcastInDim S128x128 ![] bcast_S_S128x128 main_c_3
  let main_c_4 : IVec S_ 1 := constantI S_ 1 1#1
  let main_v7 : IVec S8x2048 1 := broadcastInDim S8x2048 ![] bcast_S_S8x2048 main_c_4
  (main_v2, main_v3, main_v4, main_v5, main_v6, main_v7)
-- ==== Kernel.lean ====
abbrev S8192x10240 : Shape := ⟨2, ![8192, 10240]⟩
abbrev S2048 : Shape := ⟨1, ![2048]⟩
abbrev S16x128x128 : Shape := ⟨3, ![16, 128, 128]⟩
abbrev S16x128 : Shape := ⟨2, ![16, 128]⟩
abbrev S8192x4096 : Shape := ⟨2, ![8192, 4096]⟩
abbrev S128x16 : Shape := ⟨2, ![128, 16]⟩
abbrev S_ : Shape := ⟨0, ![]⟩
abbrev S128x128 : Shape := ⟨2, ![128, 128]⟩
abbrev S1x2048 : Shape := ⟨2, ![1, 2048]⟩
abbrev S8x2048 : Shape := ⟨2, ![8, 2048]⟩
abbrev S128x4096 : Shape := ⟨2, ![128, 4096]⟩
abbrev S128x2048 : Shape := ⟨2, ![128, 2048]⟩
abbrev S1x128 : Shape := ⟨2, ![1, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 20
  | .vmem => 16
  | .smem => 0
  | _ => 0

abbrev bufTy : (tb : Table) → Fin (tcTables nBuf tb) → BufTy
  | .hbm, ⟨0, _⟩ => ⟨S8192x10240, .bf16⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S2048, .f32⟩
  | .hbm, ⟨6, _⟩ => ⟨S8192x4096, .bf16⟩
  | .hbm, ⟨7, _⟩ => ⟨S128x16, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S8192x10240, .bf16⟩
  | .hbm, ⟨15, _⟩ => ⟨S8x2048, .f32⟩
  | .hbm, ⟨16, _⟩ => ⟨S8x2048, .f32⟩
  | .hbm, ⟨17, _⟩ => ⟨S16x128x128, .f32⟩
  | .hbm, ⟨18, _⟩ => ⟨S128x128, .f32⟩
  | .hbm, ⟨19, _⟩ => ⟨S8x2048, .f32⟩
  | .local _ .vmem, ⟨0, _⟩ => ⟨S128x4096, .bf16⟩
  | .local _ .vmem, ⟨1, _⟩ => ⟨S128x4096, .bf16⟩
  | .local _ .vmem, ⟨2, _⟩ => ⟨S1x2048, .f32⟩
  | .local _ .vmem, ⟨3, _⟩ => ⟨S1x2048, .f32⟩
  | .local _ .vmem, ⟨4, _⟩ => ⟨S16x128x128, .f32⟩
  | .local _ .vmem, ⟨5, _⟩ => ⟨S128x128, .f32⟩
  | .local _ .vmem, ⟨6, _⟩ => ⟨S1x2048, .f32⟩
  | .local _ .vmem, ⟨7, _⟩ => ⟨S128x2048, .bf16⟩
  | .local _ .vmem, ⟨8, _⟩ => ⟨S128x2048, .bf16⟩
  | .local _ .vmem, ⟨9, _⟩ => ⟨S128x4096, .bf16⟩
  | .local _ .vmem, ⟨10, _⟩ => ⟨S128x4096, .bf16⟩
  | .local _ .vmem, ⟨11, _⟩ => ⟨S8x2048, .f32⟩
  | .local _ .vmem, ⟨12, _⟩ => ⟨S8x2048, .f32⟩
  | .local _ .vmem, ⟨13, _⟩ => ⟨S16x128x128, .f32⟩
  | .local _ .vmem, ⟨14, _⟩ => ⟨S128x128, .f32⟩
  | .local _ .vmem, ⟨15, _⟩ => ⟨S8x2048, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x10240 : Shape := ⟨2, ![8192, 10240]⟩
abbrev S2048 : Shape := ⟨1, ![2048]⟩
abbrev S16x128x128 : Shape := ⟨3, ![16, 128, 128]⟩
abbrev S16x128 : Shape := ⟨2, ![16, 128]⟩
abbrev S8192x4096 : Shape := ⟨2, ![8192, 4096]⟩
abbrev S1x8192x4096 : Shape := ⟨3, ![1, 8192, 4096]⟩
abbrev S8192x2048 : Shape := ⟨2, ![8192, 2048]⟩
abbrev S1x8192x2048 : Shape := ⟨3, ![1, 8192, 2048]⟩
abbrev S_ : Shape := ⟨0, ![]⟩
abbrev S1x64x128x16x128 : Shape := ⟨5, ![1, 64, 128, 16, 128]⟩
abbrev S1x64x128x16 : Shape := ⟨4, ![1, 64, 128, 16]⟩
abbrev S1x64x128x16x1 : Shape := ⟨5, ![1, 64, 128, 16, 1]⟩
abbrev S1x1x1x16x128 : Shape := ⟨5, ![1, 1, 1, 16, 128]⟩
abbrev S128x128 : Shape := ⟨2, ![128, 128]⟩
abbrev S1x128x128 : Shape := ⟨3, ![1, 128, 128]⟩
abbrev S16x1x64x128x128 : Shape := ⟨5, ![16, 1, 64, 128, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S1x8192 : Shape := ⟨2, ![1, 8192]⟩
abbrev S1x8192x1 : Shape := ⟨3, ![1, 8192, 1]⟩
abbrev S1x1x2048 : Shape := ⟨3, ![1, 1, 2048]⟩
abbrev S1x2048 : Shape := ⟨2, ![1, 2048]⟩
abbrev S8192 : Shape := ⟨1, ![8192]⟩
abbrev S1x128x16 : Shape := ⟨3, ![1, 128, 16]⟩
abbrev S1x16x128 : Shape := ⟨3, ![1, 16, 128]⟩
abbrev S64x128x16 : Shape := ⟨3, ![64, 128, 16]⟩
abbrev S8x2048 : Shape := ⟨2, ![8, 2048]⟩

abbrev nBuf : Space → Nat
  | .hbm => 260
  | .vmem => 0
  | .smem => 0
  | _ => 0

abbrev hbmTy0_0 (i : Nat) : BufTy := match i % 128 with
  | 0 => ⟨S8192x10240, .bf16⟩
  | 1 => ⟨S2048, .f32⟩
  | 2 => ⟨S2048, .f32⟩
  | 3 => ⟨S16x128x128, .f32⟩
  | 4 => ⟨S16x128, .f32⟩
  | 5 => ⟨S2048, .f32⟩
  | 6 => ⟨S8192x4096, .bf16⟩
  | 7 => ⟨S8192x4096, .bf16⟩
  | 8 => ⟨S1x8192x4096, .bf16⟩
  | 9 => ⟨S1x8192x4096, .f32⟩
  | 10 => ⟨S8192x2048, .bf16⟩
  | 11 => ⟨S1x8192x2048, .bf16⟩
  | 12 => ⟨S1x8192x2048, .f32⟩
  | 13 => ⟨S1x8192x4096, .f32⟩
  | 14 => ⟨S1x8192x4096, .f32⟩
  | 15 => ⟨S1x8192x4096, .f32⟩
  | 16 => ⟨S_, .f32⟩
  | 17 => ⟨S1x8192x4096, .f32⟩
  | 18 => ⟨S1x8192x4096, .f32⟩
  | 19 => ⟨S_, .f32⟩
  | 20 => ⟨S1x8192x4096, .f32⟩
  | 21 => ⟨S1x8192x4096, .f32⟩
  | 22 => ⟨S1x8192x4096, .f32⟩
  | 23 => ⟨S_, .f32⟩
  | 24 => ⟨S1x8192x4096, .f32⟩
  | 25 => ⟨S1x8192x4096, .f32⟩
  | 26 => ⟨S1x8192x4096, .f32⟩
  | 27 => ⟨S_, .f32⟩
  | 28 => ⟨S1x8192x4096, .f32⟩
  | 29 => ⟨S1x8192x4096, .f32⟩
  | 30 => ⟨S_, .f32⟩
  | 31 => ⟨S1x8192x4096, .f32⟩
  | 32 => ⟨S1x8192x4096, .f32⟩
  | 33 => ⟨S1x8192x4096, .f32⟩
  | 34 => ⟨S_, .f32⟩
  | 35 => ⟨S1x8192x4096, .f32⟩
  | 36 => ⟨S1x8192x4096, .f32⟩
  | 37 => ⟨S_, .f32⟩
  | 38 => ⟨S1x8192x4096, .f32⟩
  | 39 => ⟨S1x8192x4096, .f32⟩
  | 40 => ⟨S1x8192x4096, .f32⟩
  | 41 => ⟨S1x8192x2048, .f32⟩
  | 42 => ⟨S1x8192x2048, .f32⟩
  | 43 => ⟨S1x64x128x16x128, .f32⟩
  | 44 => ⟨S_, .f32⟩
  | 45 => ⟨S1x64x128x16, .f32⟩
  | 46 => ⟨S1x64x128x16x1, .f32⟩
  | 47 => ⟨S_, .f32⟩
  | 48 => ⟨S1x64x128x16x1, .f32⟩
  | 49 => ⟨S1x64x128x16x1, .f32⟩
  | 50 => ⟨S1x64x128x16x128, .f32⟩
  | 51 => ⟨S1x64x128x16x128, .f32⟩
  | 52 => ⟨S1x64x128x16x128, .f32⟩
  | 53 => ⟨S_, .f32⟩
  | 54 => ⟨S1x64x128x16x128, .f32⟩
  | 55 => ⟨S1x64x128x16x128, .f32⟩
  | 56 => ⟨S_, .f32⟩
  | 57 => ⟨S1x64x128x16, .f32⟩
  | 58 => ⟨S1x64x128x16x1, .f32⟩
  | 59 => ⟨S_, .f32⟩
  | 60 => ⟨S1x64x128x16x1, .f32⟩
  | 61 => ⟨S1x64x128x16x1, .f32⟩
  | 62 => ⟨S16x128, .f32⟩
  | 63 => ⟨S16x128, .f32⟩
  | 64 => ⟨S1x64x128x16x128, .f32⟩
  | 65 => ⟨S1x64x128x16x128, .f32⟩
  | 66 => ⟨S_, .f32⟩
  | 67 => ⟨S1x64x128x16x1, .f32⟩
  | 68 => ⟨S1x64x128x16x1, .f32⟩
  | 69 => ⟨S1x64x128x16x1, .f32⟩
  | 70 => ⟨S1x64x128x16x1, .f32⟩
  | 71 => ⟨S_, .f32⟩
  | 72 => ⟨S1x64x128x16x1, .f32⟩
  | 73 => ⟨S1x64x128x16x1, .f32⟩
  | 74 => ⟨S1x64x128x16x128, .f32⟩
  | 75 => ⟨S1x64x128x16x128, .f32⟩
  | 76 => ⟨S1x1x1x16x128, .f32⟩
  | 77 => ⟨S1x64x128x16x128, .f32⟩
  | 78 => ⟨S1x64x128x16x128, .f32⟩
  | 79 => ⟨S1x1x1x16x128, .f32⟩
  | 80 => ⟨S1x64x128x16x128, .f32⟩
  | 81 => ⟨S1x64x128x16x128, .f32⟩
  | 82 => ⟨S_, .i1⟩
  | 83 => ⟨S128x128, .i1⟩
  | 84 => ⟨S128x128, .i32⟩
  | 85 => ⟨S_, .i32⟩
  | 86 => ⟨S128x128, .i32⟩
  | 87 => ⟨S128x128, .i32⟩
  | 88 => ⟨S128x128, .i32⟩
  | 89 => ⟨S128x128, .i1⟩
  | 90 => ⟨S_, .i1⟩
  | 91 => ⟨S128x128, .i1⟩
  | 92 => ⟨S128x128, .i1⟩
  | 93 => ⟨S1x128x128, .i1⟩
  | 94 => ⟨S_, .f32⟩
  | 95 => ⟨S16x128x128, .f32⟩
  | 96 => ⟨S16x128x128, .i1⟩
  | 97 => ⟨S16x128x128, .f32⟩
  | 98 => ⟨S_, .f32⟩
  | 99 => ⟨S16x128x128, .f32⟩
  | 100 => ⟨S16x1x64x128x128, .f32⟩
  | 101 => ⟨S1x64x128x16x128, .f32⟩
  | 102 => ⟨S128x16, .f32⟩
  | 103 => ⟨S128x16x1, .f32⟩
  | 104 => ⟨S1x1x128x16x1, .f32⟩
  | 105 => ⟨S1x64x128x16x128, .f32⟩
  | 106 => ⟨S1x64x128x16x128, .f32⟩
  | 107 => ⟨S1x8192x2048, .f32⟩
  | 108 => ⟨S1x8192x2048, .f32⟩
  | 109 => ⟨S1x8192x2048, .f32⟩
  | 110 => ⟨S_, .f32⟩
  | 111 => ⟨S1x8192, .f32⟩
  | 112 => ⟨S1x8192x1, .f32⟩
  | 113 => ⟨S_, .f32⟩
  | 114 => ⟨S1x8192x1, .f32⟩
  | 115 => ⟨S1x8192x1, .f32⟩
  | 116 => ⟨S_, .f32⟩
  | 117 => ⟨S1x8192x1, .f32⟩
  | 118 => ⟨S1x8192x1, .f32⟩
  | 119 => ⟨S1x8192x1, .f32⟩
  | 120 => ⟨S1x8192x1, .f32⟩
  | 121 => ⟨S_, .f32⟩
  | 122 => ⟨S1x8192x1, .f32⟩
  | 123 => ⟨S1x8192x1, .f32⟩
  | 124 => ⟨S1x8192x2048, .f32⟩
  | 125 => ⟨S1x8192x2048, .f32⟩
  | 126 => ⟨S1x1x2048, .f32⟩
  | 127 => ⟨S1x8192x2048, .f32⟩
  | _ => ⟨S8192x10240, .bf16⟩

abbrev hbmTy0_1 (i : Nat) : BufTy := match i % 128 with
  | 0 => ⟨S1x8192x2048, .f32⟩
  | 1 => ⟨S1x8192x2048, .f32⟩
  | 2 => ⟨S_, .f32⟩
  | 3 => ⟨S1x2048, .f32⟩
  | 4 => ⟨S1x1x2048, .f32⟩
  | 5 => ⟨S1x8192x2048, .f32⟩
  | 6 => ⟨S1x8192x2048, .f32⟩
  | 7 => ⟨S_, .f32⟩
  | 8 => ⟨S2048, .f32⟩
  | 9 => ⟨S1x8192x2048, .f32⟩
  | 10 => ⟨S_, .f32⟩
  | 11 => ⟨S1x8192, .f32⟩
  | 12 => ⟨S1x8192x1, .f32⟩
  | 13 => ⟨S1x8192x2048, .f32⟩
  | 14 => ⟨S1x8192x2048, .f32⟩
  | 15 => ⟨S1x8192x1, .f32⟩
  | 16 => ⟨S_, .f32⟩
  | 17 => ⟨S1x8192x1, .f32⟩
  | 18 => ⟨S1x8192x1, .f32⟩
  | 19 => ⟨S_, .f32⟩
  | 20 => ⟨S8192, .f32⟩
  | 21 => ⟨S1x8192, .f32⟩
  | 22 => ⟨S1x8192x2048, .f32⟩
  | 23 => ⟨S1x8192x2048, .f32⟩
  | 24 => ⟨S1x8192x2048, .f32⟩
  | 25 => ⟨S1x8192x2048, .f32⟩
  | 26 => ⟨S1x8192x2048, .f32⟩
  | 27 => ⟨S1x8192x2048, .f32⟩
  | 28 => ⟨S1x8192x2048, .f32⟩
  | 29 => ⟨S1x64x128x16x128, .f32⟩
  | 30 => ⟨S_, .f32⟩
  | 31 => ⟨S1x128x16, .f32⟩
  | 32 => ⟨S1x1x128x16x1, .f32⟩
  | 33 => ⟨S_, .f32⟩
  | 34 => ⟨S128x16, .f32⟩
  | 35 => ⟨S128x16x1, .f32⟩
  | 36 => ⟨S_, .f32⟩
  | 37 => ⟨S128x16, .f32⟩
  | 38 => ⟨S16x128, .f32⟩
  | 39 => ⟨S16x1x64x128x128, .f32⟩
  | 40 => ⟨S16x128x128, .f32⟩
  | 41 => ⟨S16x1x64x128x128, .f32⟩
  | 42 => ⟨S1x64x128x16x128, .f32⟩
  | 43 => ⟨S_, .f32⟩
  | 44 => ⟨S16x128x128, .f32⟩
  | 45 => ⟨S16x128x128, .f32⟩
  | 46 => ⟨S_, .f32⟩
  | 47 => ⟨S1x16x128, .f32⟩
  | 48 => ⟨S1x1x1x16x128, .f32⟩
  | 49 => ⟨S_, .f32⟩
  | 50 => ⟨S16x128, .f32⟩
  | 51 => ⟨S1x64x128x16x128, .f32⟩
  | 52 => ⟨S_, .f32⟩
  | 53 => ⟨S1x16x128, .f32⟩
  | 54 => ⟨S1x1x1x16x128, .f32⟩
  | 55 => ⟨S1x64x128x16x128, .f32⟩
  | 56 => ⟨S1x64x128x16x128, .f32⟩
  | 57 => ⟨S_, .f32⟩
  | 58 => ⟨S16x128, .f32⟩
  | 59 => ⟨S1x64x128x16x128, .f32⟩
  | 60 => ⟨S_, .f32⟩
  | 61 => ⟨S1x64x128x16, .f32⟩
  | 62 => ⟨S1x64x128x16x1, .f32⟩
  | 63 => ⟨S1x64x128x16x128, .f32⟩
  | 64 => ⟨S1x64x128x16x128, .f32⟩
  | 65 => ⟨S1x64x128x16x1, .f32⟩
  | 66 => ⟨S1x64x128x16x128, .f32⟩
  | 67 => ⟨S_, .f32⟩
  | 68 => ⟨S1x64x128x16, .f32⟩
  | 69 => ⟨S1x64x128x16x1, .f32⟩
  | 70 => ⟨S2048, .f32⟩
  | 71 => ⟨S2048, .f32⟩
  | 72 => ⟨S_, .f32⟩
  | 73 => ⟨S1x64x128x16x1, .f32⟩
  | 74 => ⟨S1x64x128x16x1, .f32⟩
  | 75 => ⟨S_, .f32⟩
  | 76 => ⟨S64x128x16, .f32⟩
  | 77 => ⟨S1x64x128x16, .f32⟩
  | 78 => ⟨S1x64x128x16x128, .f32⟩
  | 79 => ⟨S1x64x128x16x128, .f32⟩
  | 80 => ⟨S1x64x128x16x128, .f32⟩
  | 81 => ⟨S_, .f32⟩
  | 82 => ⟨S1x64x128x16, .f32⟩
  | 83 => ⟨S1x64x128x16x1, .f32⟩
  | 84 => ⟨S1x64x128x16x128, .f32⟩
  | 85 => ⟨S1x64x128x16x1, .f32⟩
  | 86 => ⟨S_, .f32⟩
  | 87 => ⟨S1x64x128x16x1, .f32⟩
  | 88 => ⟨S1x64x128x16x1, .f32⟩
  | 89 => ⟨S_, .f32⟩
  | 90 => ⟨S64x128x16, .f32⟩
  | 91 => ⟨S1x64x128x16, .f32⟩
  | 92 => ⟨S1x64x128x16x128, .f32⟩
  | 93 => ⟨S1x64x128x16x128, .f32⟩
  | 94 => ⟨S1x8192x2048, .f32⟩
  | 95 => ⟨S1x8192x4096, .f32⟩
  | 96 => ⟨S1x8192x4096, .f32⟩
  | 97 => ⟨S1x8192x4096, .f32⟩
  | 98 => ⟨S_, .f32⟩
  | 99 => ⟨S1x8192x4096, .f32⟩
  | 100 => ⟨S1x8192x4096, .f32⟩
  | 101 => ⟨S1x8192x4096, .f32⟩
  | 102 => ⟨S_, .f32⟩
  | 103 => ⟨S1x8192x4096, .f32⟩
  | 104 => ⟨S1x8192x4096, .f32⟩
  | 105 => ⟨S1x8192x4096, .f32⟩
  | 106 => ⟨S_, .f32⟩
  | 107 => ⟨S1x8192x4096, .f32⟩
  | 108 => ⟨S1x8192x4096, .f32⟩
  | 109 => ⟨S1x8192x4096, .f32⟩
  | 110 => ⟨S1x8192x4096, .f32⟩
  | 111 => ⟨S8192x4096, .f32⟩
  | 112 => ⟨S8192x4096, .bf16⟩
  | 113 => ⟨S_, .i32⟩
  | 114 => ⟨S_, .bf16⟩
  | 115 => ⟨S8192x10240, .bf16⟩
  | 116 => ⟨S1x2048, .f32⟩
  | 117 => ⟨S_, .i32⟩
  | 118 => ⟨S_, .f32⟩
  | 119 => ⟨S8x2048, .f32⟩
  | 120 => ⟨S1x2048, .f32⟩
  | 121 => ⟨S_, .i32⟩
  | 122 => ⟨S_, .f32⟩
  | 123 => ⟨S8x2048, .f32⟩
  | 124 => ⟨S128x16, .f32⟩
  | 125 => ⟨S_, .i32⟩
  | 126 => ⟨S_, .f32⟩
  | 127 => ⟨S128x128, .f32⟩
  | _ => ⟨S8192x10240, .bf16⟩

abbrev hbmTy0_2 (i : Nat) : BufTy := match i % 128 with
  | 0 => ⟨S1x2048, .f32⟩
  | 1 => ⟨S_, .i32⟩
  | 2 => ⟨S_, .f32⟩
  | 3 => ⟨S8x2048, .f32⟩
  | _ => ⟨S8192x10240, .bf16⟩

abbrev hbmTy (i : Nat) : BufTy := match i / 128 with
  | 0 => hbmTy0_0 i
  | 1 => hbmTy0_1 i
  | 2 => hbmTy0_2 i
  | _ => ⟨S8192x10240, .bf16⟩

abbrev bufTy : (tb : Table) → Fin (tcTables nBuf tb) → BufTy
  | .hbm, ⟨i, _⟩ => hbmTy i
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_v61 : Ref sig .tc := ⟨.hbm, 83, rfl⟩
abbrev main_call0_v0 : Ref sig .tc := ⟨.hbm, 84, rfl⟩
abbrev main_call0_c : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_c_0 : Ref sig .tc := ⟨.hbm, 90, rfl⟩
abbrev main_call0_v5 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65_1 : Ref sig .tc := ⟨.hbm, 96, rfl⟩
abbrev main_v65_0 : Ref sig .tc := ⟨.hbm, 97, rfl⟩
abbrev main_call1_cst : Ref sig .tc := ⟨.hbm, 98, rfl⟩
abbrev main_v65_2 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_19 : Ref sig .tc := ⟨.hbm, 135, rfl⟩
abbrev main_v96 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_21 : Ref sig .tc := ⟨.hbm, 144, rfl⟩
abbrev main_v103 : Ref sig .tc := ⟨.hbm, 145, rfl⟩
abbrev main_v104 : Ref sig .tc := ⟨.hbm, 146, rfl⟩
abbrev main_cst_22 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_23 : Ref sig .tc := ⟨.hbm, 158, rfl⟩
abbrev main_v115 : Ref sig .tc := ⟨.hbm, 159, rfl⟩
abbrev main_v116 : Ref sig .tc := ⟨.hbm, 160, rfl⟩
abbrev main_cst_24 : Ref sig .tc := ⟨.hbm, 161, rfl⟩
abbrev main_v117 : Ref sig .tc := ⟨.hbm, 162, rfl⟩
abbrev main_v118 : Ref sig .tc := ⟨.hbm, 163, rfl⟩
abbrev main_cst_25 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_call2_cst : Ref sig .tc := ⟨.hbm, 171, rfl⟩
abbrev main_call2_v0 : Ref sig .tc := ⟨.hbm, 172, rfl⟩
abbrev main_v125 : Ref sig .tc := ⟨.hbm, 173, rfl⟩
abbrev main_cst_26 : Ref sig .tc := ⟨.hbm, 174, rfl⟩
abbrev main_v126 : Ref sig .tc := ⟨.hbm, 175, rfl⟩
abbrev main_v127 : Ref sig .tc := ⟨.hbm, 176, rfl⟩
abbrev main_cst_27 : Ref sig .tc := ⟨.hbm, 177, rfl⟩
abbrev main_v128 : Ref sig .tc := ⟨.hbm, 178, rfl⟩
abbrev main_v129 : Ref sig .tc := ⟨.hbm, 179, rfl⟩
abbrev main_cst_28 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_29 : Ref sig .tc := ⟨.hbm, 185, rfl⟩
abbrev main_v134 : Ref sig .tc := ⟨.hbm, 186, rfl⟩
abbrev main_v135 : Ref sig .tc := ⟨.hbm, 187, rfl⟩
abbrev main_cst_30 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_31 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_32 : Ref sig .tc := ⟨.hbm, 200, rfl⟩
abbrev main_v146 : Ref sig .tc := ⟨.hbm, 201, rfl⟩
abbrev main_v147 : Ref sig .tc := ⟨.hbm, 202, rfl⟩
abbrev main_cst_33 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_34 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_35 : Ref sig .tc := ⟨.hbm, 214, rfl⟩
abbrev main_v157 : Ref sig .tc := ⟨.hbm, 215, rfl⟩
abbrev main_v158 : Ref sig .tc := ⟨.hbm, 216, rfl⟩
abbrev main_cst_36 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_37 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_38 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_39 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_c_40 : Ref sig .tc := ⟨.hbm, 241, rfl⟩
abbrev main_call3_v0 : Ref sig .tc := ⟨.hbm, 242, rfl⟩
abbrev main_v179 : Ref sig .tc := ⟨.hbm, 243, rfl⟩
abbrev main_v180 : Ref sig .tc := ⟨.hbm, 244, rfl⟩
abbrev main_c_41 : Ref sig .tc := ⟨.hbm, 245, rfl⟩
abbrev main_call4_v0 : Ref sig .tc := ⟨.hbm, 246, rfl⟩
abbrev main_v181 : Ref sig .tc := ⟨.hbm, 247, rfl⟩
abbrev main_v182 : Ref sig .tc := ⟨.hbm, 248, rfl⟩
abbrev main_c_42 : Ref sig .tc := ⟨.hbm, 249, rfl⟩
abbrev main_call5_v0 : Ref sig .tc := ⟨.hbm, 250, rfl⟩
abbrev main_v183 : Ref sig .tc := ⟨.hbm, 251, rfl⟩
abbrev main_v184 : Ref sig .tc := ⟨.hbm, 252, rfl⟩
abbrev main_c_43 : Ref sig .tc := ⟨.hbm, 253, rfl⟩
abbrev main_call6_v0 : Ref sig .tc := ⟨.hbm, 254, rfl⟩
abbrev main_v185 : Ref sig .tc := ⟨.hbm, 255, rfl⟩
abbrev main_v186 : Ref sig .tc := ⟨.hbm, 256, rfl⟩
abbrev main_c_44 : Ref sig .tc := ⟨.hbm, 257, rfl⟩
abbrev main_call7_v0 : Ref sig .tc := ⟨.hbm, 258, rfl⟩
abbrev main_v187 : Ref sig .tc := ⟨.hbm, 259, rfl⟩

abbrev nD : Nat := 1
abbrev τ : Topo := Topo.v7x

variable {F : FTy → Type} [FloatOps F]
-- ==== Kernel2.lean ====
abbrev S8192x10240 : Shape := ⟨2, ![8192, 10240]⟩
abbrev S2048x10240 : Shape := ⟨2, ![2048, 10240]⟩
abbrev S8192x2048 : Shape := ⟨2, ![8192, 2048]⟩
abbrev S1024x5120 : Shape := ⟨2, ![1024, 5120]⟩
abbrev S512x5120 : Shape := ⟨2, ![512, 5120]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x10240, .bf16⟩
  | .hbm, ⟨1, _⟩ => ⟨S2048x10240, .bf16⟩
  | .hbm, ⟨2, _⟩ => ⟨S8192x2048, .f32⟩
  | .hbm, ⟨3, _⟩ => ⟨S8192x2048, .bf16⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x10240 : Shape := ⟨2, ![8192, 10240]⟩
abbrev S2048x10240 : Shape := ⟨2, ![2048, 10240]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S2048x10240, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x10240, .f32⟩
  | .hbm, ⟨6, _⟩ => ⟨S8192x10240, .f32⟩
  | .hbm, ⟨7, _⟩ => ⟨S8192x10240, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S2048x8192 : Shape := ⟨2, ![2048, 8192]⟩
abbrev S8192x10240 : Shape := ⟨2, ![8192, 10240]⟩
abbrev S2048x10240 : Shape := ⟨2, ![2048, 10240]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x10240, .bf16⟩
  | .hbm, ⟨2, _⟩ => ⟨S2048x10240, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S8192x10240 : Shape := ⟨2, ![8192, 10240]⟩
abbrev S_ : Shape := ⟨0, ![]⟩
abbrev S2048x10240 : Shape := ⟨2, ![2048, 10240]⟩
abbrev S8192x2048 : Shape := ⟨2, ![8192, 2048]⟩
abbrev S10240x2048 : Shape := ⟨2, ![10240, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x10240, .bf16⟩
  | .hbm, ⟨2, _⟩ => ⟨S_, .f32⟩
  | .hbm, ⟨3, _⟩ => ⟨S2048x10240, .f32⟩
  | .hbm, ⟨4, _⟩ => ⟨S8192x2048, .bf16⟩
  | .hbm, ⟨5, _⟩ => ⟨S8192x2048, .f32⟩
  | .hbm, ⟨6, _⟩ => ⟨S8192x10240, .f32⟩
  | .hbm, ⟨7, _⟩ => ⟨S8192x10240, .f32⟩
  | .hbm, ⟨8, _⟩ => ⟨S10240x2048, .f32⟩
  | .hbm, ⟨9, _⟩ => ⟨S2048x10240, .f32⟩
  | .hbm, ⟨10, _⟩ => ⟨S2048x10240, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2x8192x5632 : Shape := ⟨3, ![2, 8192, 5632]⟩
abbrev S2048x11264 : Shape := ⟨2, ![2048, 11264]⟩
abbrev S8192x2048 : Shape := ⟨2, ![8192, 2048]⟩
abbrev S1x1024x5632 : Shape := ⟨3, ![1, 1024, 5632]⟩
abbrev S512x5632 : Shape := ⟨2, ![512, 5632]⟩
abbrev S1024x512 : Shape := ⟨2, ![1024, 512]⟩
abbrev S1024x5632 : Shape := ⟨2, ![1024, 5632]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S8192x2048, .bf16⟩
  | .local _ .vmem, ⟨0, _⟩ => ⟨S1x1024x5632, .bf16⟩
  | .local _ .vmem, ⟨1, _⟩ => ⟨S1x1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_5 : BitVec 32 := 0#32
  let v9 : BitVec 1 := Scalar.cmpi .ne v8 c0_i32_5
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x8192x5632 : Shape := ⟨3, ![2, 8192, 5632]⟩
abbrev S2048x11264 : Shape := ⟨2, ![2048, 11264]⟩
abbrev S_ : Shape := ⟨0, ![]⟩
abbrev S8192x2048 : Shape := ⟨2, ![8192, 2048]⟩
abbrev S8192x11264 : Shape := ⟨2, ![8192, 11264]⟩
abbrev S8192x5632 : Shape := ⟨2, ![8192, 5632]⟩
abbrev S1x8192x5632 : Shape := ⟨3, ![1, 8192, 5632]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S_, .f32⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S1x8192x5632, .f32⟩
  | .hbm, ⟨9, _⟩ => ⟨S1x8192x5632, .f32⟩
  | .hbm, ⟨10, _⟩ => ⟨S2x8192x5632, .f32⟩
  | .hbm, ⟨11, _⟩ => ⟨S2x8192x5632, .f32⟩
  | .hbm, ⟨12, _⟩ => ⟨S1x8192x5632, .f32⟩
  | .hbm, ⟨13, _⟩ => ⟨S8192x5632, .f32⟩
  | .hbm, ⟨14, _⟩ => ⟨S1x8192x5632, .f32⟩
  | .hbm, ⟨15, _⟩ => ⟨S8192x5632, .f32⟩
  | .hbm, ⟨16, _⟩ => ⟨S8192x11264, .f32⟩
  | .hbm, ⟨17, _⟩ => ⟨S8192x2048, .f32⟩
  | .hbm, ⟨18, _⟩ => ⟨S8192x2048, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel5.lean ====
abbrev S2048x8192 : Shape := ⟨2, ![2048, 8192]⟩
abbrev S2x8192x5632 : Shape := ⟨3, ![2, 8192, 5632]⟩
abbrev S8x2048x1408 : Shape := ⟨3, ![8, 2048, 1408]⟩
abbrev S512x4096 : Shape := ⟨2, ![512, 4096]⟩
abbrev S1x4096x1408 : Shape := ⟨3, ![1, 4096, 1408]⟩
abbrev S1x512x1408 : Shape := ⟨3, ![1, 512, 1408]⟩
abbrev S512x1408 : Shape := ⟨2, ![512, 1408]⟩
abbrev S4096x1408 : Shape := ⟨2, ![4096, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2x8192x5632, .bf16⟩
  | .hbm, ⟨2, _⟩ => ⟨S8x2048x1408, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v7 : BitVec 1 := Scalar.cmpi .eq arg2 c1_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x8192 : Shape := ⟨2, ![2048, 8192]⟩
abbrev S2x8192x5632 : Shape := ⟨3, ![2, 8192, 5632]⟩
abbrev S_ : Shape := ⟨0, ![]⟩
abbrev S2048x11264 : Shape := ⟨2, ![2048, 11264]⟩
abbrev S8192x2048 : Shape := ⟨2, ![8192, 2048]⟩
abbrev S8192x11264 : Shape := ⟨2, ![8192, 11264]⟩
abbrev S8192x5632 : Shape := ⟨2, ![8192, 5632]⟩
abbrev S1x8192x5632 : Shape := ⟨3, ![1, 8192, 5632]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 23
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2x8192x5632, .bf16⟩
  | .hbm, ⟨2, _⟩ => ⟨S_, .f32⟩
  | .hbm, ⟨3, _⟩ => ⟨S2048x11264, .f32⟩
  | .hbm, ⟨4, _⟩ => ⟨S8192x2048, .bf16⟩
  | .hbm, ⟨5, _⟩ => ⟨S8192x2048, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S1x8192x5632, .f32⟩
  | .hbm, ⟨10, _⟩ => ⟨S1x8192x5632, .f32⟩
  | .hbm, ⟨11, _⟩ => ⟨S2x8192x5632, .f32⟩
  | .hbm, ⟨12, _⟩ => ⟨S2x8192x5632, .f32⟩
  | .hbm, ⟨13, _⟩ => ⟨S1x8192x5632, .f32⟩
  | .hbm, ⟨14, _⟩ => ⟨S8192x5632, .f32⟩
  | .hbm, ⟨15, _⟩ => ⟨S1x8192x5632, .f32⟩
  | .hbm, ⟨16, _⟩ => ⟨S8192x5632, .f32⟩
  | .hbm, ⟨17, _⟩ => ⟨S8192x11264, .f32⟩
  | .hbm, ⟨18, _⟩ => ⟨S11264x2048, .f32⟩
  | .hbm, ⟨19, _⟩ => ⟨S2048x11264, .f32⟩
  | .hbm, ⟨20, _⟩ => ⟨S2048x11264, .bf16⟩
  | .hbm, ⟨21, _⟩ => ⟨S2048x8x1408, .bf16⟩
  | .hbm, ⟨22, _⟩ => ⟨S8x2048x1408, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel6.lean ====
abbrev S8192x2048 : Shape := ⟨2, ![8192, 2048]⟩
abbrev S5632x2048 : Shape := ⟨2, ![5632, 2048]⟩
abbrev S8192x5632 : Shape := ⟨2, ![8192, 5632]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S5632x8192 : Shape := ⟨2, ![5632, 8192]⟩
abbrev S8192x2048 : Shape := ⟨2, ![8192, 2048]⟩
abbrev S5632x2048 : Shape := ⟨2, ![5632, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S5632x8192, .bf16⟩
  | .hbm, ⟨1, _⟩ => ⟨S8192x2048, .bf16⟩
  | .hbm, ⟨2, _⟩ => ⟨S5632x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S5632x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S5632x8192 : Shape := ⟨2, ![5632, 8192]⟩
abbrev S8192x2048 : Shape := ⟨2, ![8192, 2048]⟩
abbrev S_ : Shape := ⟨0, ![]⟩
abbrev S5632x2048 : Shape := ⟨2, ![5632, 2048]⟩
abbrev S8192x5632 : Shape := ⟨2, ![8192, 5632]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S5632x8192, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .bf16⟩
  | .hbm, ⟨5, _⟩ => ⟨S8192x5632, .f32⟩
  | .hbm, ⟨6, _⟩ => ⟨S8192x2048, .f32⟩
  | .hbm, ⟨7, _⟩ => ⟨S8192x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S5632x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x2048 : Shape := ⟨2, ![8192, 2048]⟩
abbrev S4096x2048 : Shape := ⟨2, ![4096, 2048]⟩
abbrev S8192x4096 : Shape := ⟨2, ![8192, 4096]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x8192 : Shape := ⟨2, ![4096, 8192]⟩
abbrev S8192x2048 : Shape := ⟨2, ![8192, 2048]⟩
abbrev S_ : Shape := ⟨0, ![]⟩
abbrev S4096x2048 : Shape := ⟨2, ![4096, 2048]⟩
abbrev S8192x4096 : Shape := ⟨2, ![8192, 4096]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .bf16⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S2048x4096, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x8192 : Shape := ⟨2, ![2048, 8192]⟩
abbrev S8192x2048 : Shape := ⟨2, ![8192, 2048]⟩
abbrev S2048x2048 : Shape := ⟨2, ![2048, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x2048 : Shape := ⟨2, ![8192, 2048]⟩
abbrev S2048x10240 : Shape := ⟨2, ![2048, 10240]⟩
abbrev S8192x10240 : Shape := ⟨2, ![8192, 10240]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .bf16⟩
  | .hbm, ⟨2, _⟩ => ⟨S8192x10240, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x10240 : Shape := ⟨2, ![2048, 10240]⟩
abbrev S8192x10240 : Shape := ⟨2, ![8192, 10240]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .bf16⟩
  | .hbm, ⟨2, _⟩ => ⟨S8192x2048, .f32⟩
  | .hbm, ⟨3, _⟩ => ⟨S2048x10240, .f32⟩
  | .hbm, ⟨4, _⟩ => ⟨S8192x10240, .f32⟩
  | .hbm, ⟨5, _⟩ => ⟨S8192x10240, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x2048 : Shape := ⟨2, ![8192, 2048]⟩
abbrev S2048x11264 : Shape := ⟨2, ![2048, 11264]⟩
abbrev S8192x11264 : Shape := ⟨2, ![8192, 11264]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x256 : Shape := ⟨2, ![5632, 256]⟩
abbrev S1024x256 : Shape := ⟨2, ![1024, 256]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8x256x128 : Shape := ⟨3, ![8, 256, 128]⟩
abbrev S256x128 : Shape := ⟨2, ![256, 128]⟩
abbrev S2560x128 : Shape := ⟨2, ![2560, 128]⟩
abbrev S1x256x128 : Shape := ⟨3, ![1, 256, 128]⟩

abbrev nBuf : Space → Nat
  | .hbm => 9
  | .vmem => 8
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S2560x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .local _ .vmem, ⟨0, _⟩ => ⟨S8x256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x256x128 : Shape := ⟨3, ![8, 256, 128]⟩
abbrev S256x128 : Shape := ⟨2, ![256, 128]⟩
abbrev S2560x128 : Shape := ⟨2, ![2560, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S2560x128, .f32⟩
  | .hbm, ⟨5, _⟩ => ⟨S_, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel18.lean ====
abbrev S8x2048x1284 : Shape := ⟨3, ![8, 2048, 1284]⟩
abbrev S2048x1284 : Shape := ⟨2, ![2048, 1284]⟩
abbrev S4x512 : Shape := ⟨2, ![4, 512]⟩
abbrev S8x256x1284 : Shape := ⟨3, ![8, 256, 1284]⟩
abbrev S256x1284 : Shape := ⟨2, ![256, 1284]⟩
abbrev S1x256x1284 : Shape := ⟨3, ![1, 256, 1284]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x1284, .bf16⟩
  | .hbm, ⟨1, _⟩ => ⟨S2048x1284, .f32⟩
  | .hbm, ⟨2, _⟩ => ⟨S2048x1284, .f32⟩
  | .hbm, ⟨3, _⟩ => ⟨S2048x1284, .f32⟩
  | .hbm, ⟨4, _⟩ => ⟨S4x512, .f32⟩
  | .hbm, ⟨5, _⟩ => ⟨S2048x1284, .f32⟩
  | .hbm, ⟨6, _⟩ => ⟨S2048x1284, .f32⟩
  | .hbm, ⟨7, _⟩ => ⟨S2048x1284, .f32⟩
  | .hbm, ⟨8, _⟩ => ⟨S2048x1284, .f32⟩
  | .local _ .vmem, ⟨0, _⟩ => ⟨S8x256x1284, .bf16⟩
  | .local _ .vmem, ⟨1, _⟩ => ⟨S8x256x1284, .bf16⟩
  | .local _ .vmem, ⟨2, _⟩ => ⟨S256x1284, .f32⟩
  | .local _ .vmem, ⟨3, _⟩ => ⟨S256x1284, .f32⟩
  | .local _ .vmem, ⟨4, _⟩ => ⟨S256x1284, .f32⟩
  | .local _ .vmem, ⟨5, _⟩ => ⟨S256x1284, .f32⟩
  | .local _ .vmem, ⟨6, _⟩ => ⟨S256x1284, .f32⟩
  | .local _ .vmem, ⟨7, _⟩ => ⟨S256x1284, .f32⟩
  | .local _ .vmem, ⟨8, _⟩ => ⟨S256x1284, .f32⟩
  | .local _ .vmem, ⟨9, _⟩ => ⟨S256x1284, .f32⟩
  | .local _ .vmem, ⟨10, _⟩ => ⟨S256x1284, .f32⟩
  | .local _ .vmem, ⟨11, _⟩ => ⟨S256x1284, .f32⟩
  | .local _ .vmem, ⟨12, _⟩ => ⟨S256x1284, .f32⟩
  | .local _ .vmem, ⟨13, _⟩ => ⟨S256x1284, .f32⟩
  | .local _ .vmem, ⟨14, _⟩ => ⟨S256x1284, .f32⟩
  | .local _ .vmem, ⟨15, _⟩ => ⟨S256x1284, .f32⟩
  | _, _ => ⟨S8x2048x1284, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1284 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1284 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x2048x1284 : Shape := ⟨3, ![8, 2048, 1284]⟩
abbrev S2048x1284 : Shape := ⟨2, ![2048, 1284]⟩
abbrev S4x512 : Shape := ⟨2, ![4, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1284, .bf16⟩
  | .hbm, ⟨1, _⟩ => ⟨S2048x1284, .f32⟩
  | .hbm, ⟨2, _⟩ => ⟨S2048x1284, .f32⟩
  | .hbm, ⟨3, _⟩ => ⟨S2048x1284, .f32⟩
  | .hbm, ⟨4, _⟩ => ⟨S4x512, .f32⟩
  | .hbm, ⟨5, _⟩ => ⟨S8x2048x1284, .f32⟩
  | .hbm, ⟨6, _⟩ => ⟨S_, .f32⟩
  | .hbm, ⟨7, _⟩ => ⟨S2048x1284, .f32⟩
  | .hbm, ⟨8, _⟩ => ⟨S_, .f32⟩
  | .hbm, ⟨9, _⟩ => ⟨S2048x1284, .f32⟩
  | .hbm, ⟨10, _⟩ => ⟨S2048x1284, .f32⟩
  | .hbm, ⟨11, _⟩ => ⟨S_, .f32⟩
  | .hbm, ⟨12, _⟩ => ⟨S2048x1284, .f32⟩
  | .hbm, ⟨13, _⟩ => ⟨S2048x1284, .f32⟩
  | .hbm, ⟨14, _⟩ => ⟨S2048x1284, .f32⟩
  | .hbm, ⟨15, _⟩ => ⟨S_, .f32⟩
  | .hbm, ⟨16, _⟩ => ⟨S2048x1284, .f32⟩
  | .hbm, ⟨17, _⟩ => ⟨S2048x1284, .f32⟩
  | .hbm, ⟨18, _⟩ => ⟨S2048x1284, .f32⟩
  | .hbm, ⟨19, _⟩ => ⟨S_, .f32⟩
  | .hbm, ⟨20, _⟩ => ⟨S2048x1284, .f32⟩
  | .hbm, ⟨21, _⟩ => ⟨S2048x1284, .f32⟩
  | .hbm, ⟨22, _⟩ => ⟨S2048x1284, .f32⟩
  | .hbm, ⟨23, _⟩ => ⟨S_, .f32⟩
  | .hbm, ⟨24, _⟩ => ⟨S2048x1284, .f32⟩
  | .hbm, ⟨25, _⟩ => ⟨S2048x1284, .f32⟩
  | .hbm, ⟨26, _⟩ => ⟨S_, .f32⟩
  | .hbm, ⟨27, _⟩ => ⟨S2048x1284, .f32⟩
  | .hbm, ⟨28, _⟩ => ⟨S2048x1284, .f32⟩
  | .hbm, ⟨29, _⟩ => ⟨S2048x1284, .f32⟩
  | .hbm, ⟨30, _⟩ => ⟨S_, .f32⟩
  | .hbm, ⟨31, _⟩ => ⟨S2048x1284, .f32⟩
  | .hbm, ⟨32, _⟩ => ⟨S2048x1284, .f32⟩
  | .hbm, ⟨33, _⟩ => ⟨S2048x1284, .f32⟩
  | .hbm, ⟨34, _⟩ => ⟨S_, .f32⟩
  | .hbm, ⟨35, _⟩ => ⟨S2048x1284, .f32⟩
  | .hbm, ⟨36, _⟩ => ⟨S2048x1284, .f32⟩
  | .hbm, ⟨37, _⟩ => ⟨S2048x1284, .f32⟩
  | .hbm, ⟨38, _⟩ => ⟨S_, .f32⟩
  | .hbm, ⟨39, _⟩ => ⟨S2048x1284, .f32⟩
  | .hbm, ⟨40, _⟩ => ⟨S2048x1284, .f32⟩
  | _, _ => ⟨S8x2048x1284, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel19.lean ====
abbrev S8x512x2048 : Shape := ⟨3, ![8, 512, 2048]⟩
abbrev S512x2048 : Shape := ⟨2, ![512, 2048]⟩
abbrev S2048x1408 : Shape := ⟨2, ![2048, 1408]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 9
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x1408, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x512x2048 : Shape := ⟨3, ![8, 512, 2048]⟩
abbrev S512x2048 : Shape := ⟨2, ![512, 2048]⟩
abbrev S2048x1408 : Shape := ⟨2, ![2048, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S2048x1408, .f32⟩
  | .hbm, ⟨5, _⟩ => ⟨S8x512x2048, .f32⟩
  | .hbm, ⟨6, _⟩ => ⟨S_, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel20.lean ====
abbrev S8x2048x1408 : Shape := ⟨3, ![8, 2048, 1408]⟩
abbrev S2048x1408 : Shape := ⟨2, ![2048, 1408]⟩
abbrev S3x1408 : Shape := ⟨2, ![3, 1408]⟩
abbrev S8x256x1408 : Shape := ⟨3, ![8, 256, 1408]⟩
abbrev S256x1408 : Shape := ⟨2, ![256, 1408]⟩
abbrev S1x256x1408 : Shape := ⟨3, ![1, 256, 1408]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S3x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S8x256x1408, .bf16⟩
  | .local _ .vmem, ⟨1, _⟩ => ⟨S8x256x1408, .bf16⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x2048x1408 : Shape := ⟨3, ![8, 2048, 1408]⟩
abbrev S2048x1408 : Shape := ⟨2, ![2048, 1408]⟩
abbrev S3x1408 : Shape := ⟨2, ![3, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S3x1408, .f32⟩
  | .hbm, ⟨5, _⟩ => ⟨S8x2048x1408, .f32⟩
  | .hbm, ⟨6, _⟩ => ⟨S_, .f32⟩
  | .hbm, ⟨7, _⟩ => ⟨S2048x1408, .f32⟩
  | .hbm, ⟨8, _⟩ => ⟨S_, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel21.lean ====
abbrev S8x704x2048 : Shape := ⟨3, ![8, 704, 2048]⟩
abbrev S704x2048 : Shape := ⟨2, ![704, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 9
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S256x2048, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x704x2048 : Shape := ⟨3, ![8, 704, 2048]⟩
abbrev S704x2048 : Shape := ⟨2, ![704, 2048]⟩
abbrev S256x2048 : Shape := ⟨2, ![256, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S256x2048, .f32⟩
  | .hbm, ⟨5, _⟩ => ⟨S8x704x2048, .f32⟩
  | .hbm, ⟨6, _⟩ => ⟨S_, .f32⟩
  | .hbm, ⟨7, _⟩ => ⟨S704x2048, .f32⟩
  | .hbm, ⟨8, _⟩ => ⟨S_, .f32⟩
  | .hbm, ⟨9, _⟩ => ⟨S704x2048, .f32⟩
  | .hbm, ⟨10, _⟩ => ⟨S704x2048, .f32⟩
  | .hbm, ⟨11, _⟩ => ⟨S_, .f32⟩
  | .hbm, ⟨12, _⟩ => ⟨S704x2048, .f32⟩
  | .hbm, ⟨13, _⟩ => ⟨S704x2048, .f32⟩
  | .hbm, ⟨14, _⟩ => ⟨S704x2048, .f32⟩
  | .hbm, ⟨15, _⟩ => ⟨S_, .f32⟩
  | .hbm, ⟨16, _⟩ => ⟨S704x2048, .f32⟩
  | .hbm, ⟨17, _⟩ => ⟨S704x2048, .f32⟩
  | .hbm, ⟨18, _⟩ => ⟨S704x2048, .f32⟩
  | .hbm, ⟨19, _⟩ => ⟨S_, .f32⟩
  | .hbm, ⟨20, _⟩ => ⟨S704x2048, .f32⟩
  | .hbm, ⟨21, _⟩ => ⟨S704x2048, .f32⟩
  | .hbm, ⟨22, _⟩ => ⟨S704x2048, .f32⟩
  | .hbm, ⟨23, _⟩ => ⟨S_, .f32⟩
  | .hbm, ⟨24, _⟩ => ⟨S704x2048, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | .hbm, ⟨37, _⟩ => ⟨S704x2048, .f32⟩
  | .hbm, ⟨38, _⟩ => ⟨S_, .f32⟩
  | .hbm, ⟨39, _⟩ => ⟨S704x2048, .f32⟩
  | .hbm, ⟨40, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel22.lean ====
abbrev S8x256x2048 : Shape := ⟨3, ![8, 256, 2048]⟩
abbrev S256x2048 : Shape := ⟨2, ![256, 2048]⟩
abbrev S256x256 : Shape := ⟨2, ![256, 256]⟩
abbrev S1x256x2048 : Shape := ⟨3, ![1, 256, 2048]⟩

abbrev nBuf : Space → Nat
  | .hbm => 9
  | .vmem => 8
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x256, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S8x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x256x2048 : Shape := ⟨3, ![8, 256, 2048]⟩
abbrev S256x2048 : Shape := ⟨2, ![256, 2048]⟩
abbrev S256x256 : Shape := ⟨2, ![256, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x256, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel23.lean ====
abbrev S8x256x256 : Shape := ⟨3, ![8, 256, 256]⟩
abbrev S256x256 : Shape := ⟨2, ![256, 256]⟩
abbrev S8x128 : Shape := ⟨2, ![8, 128]⟩
abbrev S1x256x256 : Shape := ⟨3, ![1, 256, 256]⟩

abbrev nBuf : Space → Nat
  | .hbm => 9
  | .vmem => 8
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x128, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S8x256x256, .bf16⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S8x256x256 : Shape := ⟨3, ![8, 256, 256]⟩
abbrev S256x256 : Shape := ⟨2, ![256, 256]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x128, .f32⟩
  | .hbm, ⟨5, _⟩ => ⟨S8x256x256, .f32⟩
  | .hbm, ⟨6, _⟩ => ⟨S_, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel24.lean ====
abbrev S8x3x1408 : Shape := ⟨3, ![8, 3, 1408]⟩
abbrev S3x1408 : Shape := ⟨2, ![3, 1408]⟩
abbrev S704x2048 : Shape := ⟨2, ![704, 2048]⟩
abbrev S1x3x1408 : Shape := ⟨3, ![1, 3, 1408]⟩

abbrev nBuf : Space → Nat
  | .hbm => 9
  | .vmem => 8
  | .smem => 0
  | _ => 0

abbrev bufTy : (tb : Table) → Fin (tcTables nBuf tb) → BufTy
  | .hbm, ⟨0, _⟩ => ⟨S8x3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S704x2048, .f32⟩
  | .hbm, ⟨5, _⟩ => ⟨S3x1408, .f32⟩
  | .hbm, ⟨6, _⟩ => ⟨S3x1408, .f32⟩
  | .hbm, ⟨7, _⟩ => ⟨S3x1408, .f32⟩
  | .hbm, ⟨8, _⟩ => ⟨S3x1408, .f32⟩
  | .local _ .vmem, ⟨0, _⟩ => ⟨S8x3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | _, _ => ⟨S8x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S8x3x1408 : Shape := ⟨3, ![8, 3, 1408]⟩
abbrev S3x1408 : Shape := ⟨2, ![3, 1408]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S704x2048, .f32⟩
  | .hbm, ⟨5, _⟩ => ⟨S_, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S_, .f32⟩
  | .hbm, ⟨11, _⟩ => ⟨S3x1408, .f32⟩
  | .hbm, ⟨12, _⟩ => ⟨S3x1408, .f32⟩
  | .hbm, ⟨13, _⟩ => ⟨S3x1408, .f32⟩
  | .hbm, ⟨14, _⟩ => ⟨S_, .f32⟩
  | .hbm, ⟨15, _⟩ => ⟨S3x1408, .f32⟩
  | .hbm, ⟨16, _⟩ => ⟨S3x1408, .f32⟩
  | .hbm, ⟨17, _⟩ => ⟨S3x1408, .f32⟩
  | .hbm, ⟨18, _⟩ => ⟨S_, .f32⟩
  | .hbm, ⟨19, _⟩ => ⟨S3x1408, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S_, .f32⟩
  | .hbm, ⟨26, _⟩ => ⟨S3x1408, .f32⟩
  | .hbm, ⟨27, _⟩ => ⟨S3x1408, .f32⟩
  | .hbm, ⟨28, _⟩ => ⟨S3x1408, .f32⟩
  | .hbm, ⟨29, _⟩ => ⟨S_, .f32⟩
  | .hbm, ⟨30, _⟩ => ⟨S3x1408, .f32⟩
  | .hbm, ⟨31, _⟩ => ⟨S3x1408, .f32⟩
  | .hbm, ⟨32, _⟩ => ⟨S3x1408, .f32⟩
  | .hbm, ⟨33, _⟩ => ⟨S_, .f32⟩
  | .hbm, ⟨34, _⟩ => ⟨S3x1408, .f32⟩
  | .hbm, ⟨35, _⟩ => ⟨S3x1408, .f32⟩
  | .hbm, ⟨36, _⟩ => ⟨S3x1408, .f32⟩
  | .hbm, ⟨37, _⟩ => ⟨S_, .f32⟩
  | .hbm, ⟨38, _⟩ => ⟨S3x1408, .f32⟩
  | .hbm, ⟨39, _⟩ => ⟨S3x1408, .f32⟩
  | _, _ => ⟨S8x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel25.lean ====
abbrev S8x4x512 : Shape := ⟨3, ![8, 4, 512]⟩
abbrev S4x512 : Shape := ⟨2, ![4, 512]⟩
abbrev S512x2048 : Shape := ⟨2, ![512, 2048]⟩
abbrev S1x4x512 : Shape := ⟨3, ![1, 4, 512]⟩

abbrev nBuf : Space → Nat
  | .hbm => 9
  | .vmem => 8
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S512x2048, .f32⟩
  | .hbm, ⟨5, _⟩ => ⟨S4x512, .f32⟩
  | .hbm, ⟨6, _⟩ => ⟨S4x512, .f32⟩
  | .hbm, ⟨7, _⟩ => ⟨S4x512, .f32⟩
  | .hbm, ⟨8, _⟩ => ⟨S4x512, .f32⟩
  | .local _ .vmem, ⟨0, _⟩ => ⟨S8x4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S8x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S8x4x512 : Shape := ⟨3, ![8, 4, 512]⟩
abbrev S4x512 : Shape := ⟨2, ![4, 512]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S512x2048, .f32⟩
  | .hbm, ⟨5, _⟩ => ⟨S_, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S4x512, .f32⟩
  | .hbm, ⟨12, _⟩ => ⟨S4x512, .f32⟩
  | .hbm, ⟨13, _⟩ => ⟨S4x512, .f32⟩
  | .hbm, ⟨14, _⟩ => ⟨S_, .f32⟩
  | .hbm, ⟨15, _⟩ => ⟨S4x512, .f32⟩
  | .hbm, ⟨16, _⟩ => ⟨S4x512, .f32⟩
  | .hbm, ⟨17, _⟩ => ⟨S4x512, .f32⟩
  | .hbm, ⟨18, _⟩ => ⟨S_, .f32⟩
  | .hbm, ⟨19, _⟩ => ⟨S4x512, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S_, .f32⟩
  | .hbm, ⟨26, _⟩ => ⟨S4x512, .f32⟩
  | .hbm, ⟨27, _⟩ => ⟨S4x512, .f32⟩
  | .hbm, ⟨28, _⟩ => ⟨S4x512, .f32⟩
  | .hbm, ⟨29, _⟩ => ⟨S_, .f32⟩
  | .hbm, ⟨30, _⟩ => ⟨S4x512, .f32⟩
  | .hbm, ⟨31, _⟩ => ⟨S4x512, .f32⟩
  | .hbm, ⟨32, _⟩ => ⟨S4x512, .f32⟩
  | .hbm, ⟨33, _⟩ => ⟨S_, .f32⟩
  | .hbm, ⟨34, _⟩ => ⟨S4x512, .f32⟩
  | .hbm, ⟨35, _⟩ => ⟨S4x512, .f32⟩
  | .hbm, ⟨36, _⟩ => ⟨S4x512, .f32⟩
  | .hbm, ⟨37, _⟩ => ⟨S_, .f32⟩
  | .hbm, ⟨38, _⟩ => ⟨S4x512, .f32⟩
  | .hbm, ⟨39, _⟩ => ⟨S4x512, .f32⟩
  | _, _ => ⟨S8x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel26.lean ====
abbrev S8x2560x128 : Shape := ⟨3, ![8, 2560, 128]⟩
abbrev S2560x128 : Shape := ⟨2, ![2560, 128]⟩
abbrev S2048x1284 : Shape := ⟨2, ![2048, 1284]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 9
  | .vmem => 16
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S2048x1284, .f32⟩
  | .hbm, ⟨5, _⟩ => ⟨S2560x128, .f32⟩
  | .hbm, ⟨6, _⟩ => ⟨S2560x128, .f32⟩
  | .hbm, ⟨7, _⟩ => ⟨S2560x128, .f32⟩
  | .hbm, ⟨8, _⟩ => ⟨S2560x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x2560x128 : Shape := ⟨3, ![8, 2560, 128]⟩
abbrev S2560x128 : Shape := ⟨2, ![2560, 128]⟩
abbrev S2048x1284 : Shape := ⟨2, ![2048, 1284]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S2048x1284, .f32⟩
  | .hbm, ⟨5, _⟩ => ⟨S_, .f32⟩
  | .hbm, ⟨6, _⟩ => ⟨S2560x128, .f32⟩
  | .hbm, ⟨7, _⟩ => ⟨S_, .f32⟩
  | .hbm, ⟨8, _⟩ => ⟨S2560x128, .f32⟩
  | .hbm, ⟨9, _⟩ => ⟨S2560x128, .f32⟩
  | .hbm, ⟨10, _⟩ => ⟨S_, .f32⟩
  | .hbm, ⟨11, _⟩ => ⟨S2560x128, .f32⟩
  | .hbm, ⟨12, _⟩ => ⟨S2560x128, .f32⟩
  | .hbm, ⟨13, _⟩ => ⟨S2560x128, .f32⟩
  | .hbm, ⟨14, _⟩ => ⟨S_, .f32⟩
  | .hbm, ⟨15, _⟩ => ⟨S2560x128, .f32⟩
  | .hbm, ⟨16, _⟩ => ⟨S2560x128, .f32⟩
  | .hbm, ⟨17, _⟩ => ⟨S2560x128, .f32⟩
  | .hbm, ⟨18, _⟩ => ⟨S_, .f32⟩
  | .hbm, ⟨19, _⟩ => ⟨S2560x128, .f32⟩
  | .hbm, ⟨20, _⟩ => ⟨S2560x128, .f32⟩
  | .hbm, ⟨21, _⟩ => ⟨S2560x128, .f32⟩
  | .hbm, ⟨22, _⟩ => ⟨S_, .f32⟩
  | .hbm, ⟨23, _⟩ => ⟨S2560x128, .f32⟩
  | .hbm, ⟨24, _⟩ => ⟨S2560x128, .f32⟩
  | .hbm, ⟨25, _⟩ => ⟨S_, .f32⟩
  | .hbm, ⟨26, _⟩ => ⟨S2560x128, .f32⟩
  | .hbm, ⟨27, _⟩ => ⟨S2560x128, .f32⟩
  | .hbm, ⟨28, _⟩ => ⟨S2560x128, .f32⟩
  | .hbm, ⟨29, _⟩ => ⟨S_, .f32⟩
  | .hbm, ⟨30, _⟩ => ⟨S2560x128, .f32⟩
  | .hbm, ⟨31, _⟩ => ⟨S2560x128, .f32⟩
  | .hbm, ⟨32, _⟩ => ⟨S2560x128, .f32⟩
  | .hbm, ⟨33, _⟩ => ⟨S_, .f32⟩
  | .hbm, ⟨34, _⟩ => ⟨S2560x128, .f32⟩
  | .hbm, ⟨35, _⟩ => ⟨S2560x128, .f32⟩
  | .hbm, ⟨36, _⟩ => ⟨S2560x128, .f32⟩
  | .hbm, ⟨37, _⟩ => ⟨S_, .f32⟩
  | .hbm, ⟨38, _⟩ => ⟨S2560x128, .f32⟩
  | .hbm, ⟨39, _⟩ => ⟨S2560x128, .f32⟩
  | _, _ => ⟨S8x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel27.lean ====
abbrev S8192x2048 : Shape := ⟨2, ![8192, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .bf16⟩
  | .hbm, ⟨4, _⟩ => ⟨S1x2048, .f32⟩
  | .hbm, ⟨5, _⟩ => ⟨S8192x2048, .f32⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8x2048 : Shape := ⟨2, ![8, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S_, .i32⟩
  | .hbm, ⟨54, _⟩ => ⟨S_, .f32⟩
  | .hbm, ⟨55, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_call0_v0 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel28.lean ====
abbrev S8192x256 : Shape := ⟨2, ![8192, 256]⟩
abbrev S256x2048 : Shape := ⟨2, ![256, 2048]⟩
abbrev S8192x2048 : Shape := ⟨2, ![8192, 2048]⟩
abbrev S2048x256 : Shape := ⟨2, ![2048, 256]⟩
abbrev S256x512 : Shape := ⟨2, ![256, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x2048, .bf16⟩
  | .local _ .vmem, ⟨0, _⟩ => ⟨S2048x256, .bf16⟩
  | .local _ .vmem, ⟨1, _⟩ => ⟨S2048x256, .bf16⟩
  | .local _ .vmem, ⟨2, _⟩ => ⟨S256x512, .bf16⟩
  | .local _ .vmem, ⟨3, _⟩ => ⟨S256x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x256, .f32⟩
  | .hbm, ⟨3, _⟩ => ⟨S256x2048, .f32⟩
  | .hbm, ⟨4, _⟩ => ⟨S8192x2048, .f32⟩
  | .hbm, ⟨5, _⟩ => ⟨S8192x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S256x8192 : Shape := ⟨2, ![256, 8192]⟩
abbrev S8192x2048 : Shape := ⟨2, ![8192, 2048]⟩
abbrev S256x2048 : Shape := ⟨2, ![256, 2048]⟩
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x8192, .bf16⟩
  | .hbm, ⟨1, _⟩ => ⟨S8192x2048, .bf16⟩
  | .hbm, ⟨2, _⟩ => ⟨S256x2048, .bf16⟩
  | .local _ .vmem, ⟨0, _⟩ => ⟨S256x8192, .bf16⟩
  | .local _ .vmem, ⟨1, _⟩ => ⟨S8192x1024, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S256x8192 : Shape := ⟨2, ![256, 8192]⟩
abbrev S8192x2048 : Shape := ⟨2, ![8192, 2048]⟩
abbrev S_ : Shape := ⟨0, ![]⟩
abbrev S256x2048 : Shape := ⟨2, ![256, 2048]⟩
abbrev S8192x256 : Shape := ⟨2, ![8192, 256]⟩
abbrev S2048x256 : Shape := ⟨2, ![2048, 256]⟩

abbrev nBuf : Space → Nat
  | .hbm => 11
  | .vmem => 0
  | .smem => 0
  | _ => 0

abbrev bufTy : (tb : Table) → Fin (tcTables nBuf tb) → BufTy
  | .hbm, ⟨0, _⟩ => ⟨S256x8192, .bf16⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x256, .bf16⟩
  | .hbm, ⟨5, _⟩ => ⟨S8192x256, .f32⟩
  | .hbm, ⟨6, _⟩ => ⟨S8192x2048, .f32⟩
  | .hbm, ⟨7, _⟩ => ⟨S8192x2048, .f32⟩
  | .hbm, ⟨8, _⟩ => ⟨S2048x256, .f32⟩
  | .hbm, ⟨9, _⟩ => ⟨S256x2048, .f32⟩
  | .hbm, ⟨10, _⟩ => ⟨S256x2048, .bf16⟩
  | _, _ => ⟨S256x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel30.lean ====
abbrev S8192x2048 : Shape := ⟨2, ![8192, 2048]⟩
abbrev S2048x128 : Shape := ⟨2, ![2048, 128]⟩
abbrev S8192x128 : Shape := ⟨2, ![8192, 128]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S2048x128, .bf16⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S2048x8192 : Shape := ⟨2, ![2048, 8192]⟩
abbrev S8192x128 : Shape := ⟨2, ![8192, 128]⟩
abbrev S2048x128 : Shape := ⟨2, ![2048, 128]⟩
abbrev S1024x8192 : Shape := ⟨2, ![1024, 8192]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S8192x128, .bf16⟩
  | .hbm, ⟨2, _⟩ => ⟨S2048x128, .bf16⟩
  | .local _ .vmem, ⟨0, _⟩ => ⟨S1024x8192, .bf16⟩
  | .local _ .vmem, ⟨1, _⟩ => ⟨S1024x8192, .bf16⟩
  | .local _ .vmem, ⟨2, _⟩ => ⟨S8192x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S2048x8192 : Shape := ⟨2, ![2048, 8192]⟩
abbrev S8192x128 : Shape := ⟨2, ![8192, 128]⟩
abbrev S_ : Shape := ⟨0, ![]⟩
abbrev S2048x128 : Shape := ⟨2, ![2048, 128]⟩
abbrev S8192x2048 : Shape := ⟨2, ![8192, 2048]⟩
abbrev S128x2048 : Shape := ⟨2, ![128, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x128, .bf16⟩
  | .hbm, ⟨2, _⟩ => ⟨S_, .f32⟩
  | .hbm, ⟨3, _⟩ => ⟨S2048x128, .f32⟩
  | .hbm, ⟨4, _⟩ => ⟨S8192x2048, .bf16⟩
  | .hbm, ⟨5, _⟩ => ⟨S8192x2048, .f32⟩
  | .hbm, ⟨6, _⟩ => ⟨S8192x128, .f32⟩
  | .hbm, ⟨7, _⟩ => ⟨S8192x128, .f32⟩
  | .hbm, ⟨8, _⟩ => ⟨S128x2048, .f32⟩
  | .hbm, ⟨9, _⟩ => ⟨S2048x128, .f32⟩
  | .hbm, ⟨10, _⟩ => ⟨S2048x128, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel32.lean ====
abbrev S8192x128 : Shape := ⟨2, ![8192, 128]⟩
abbrev S2048x128 : Shape := ⟨2, ![2048, 128]⟩
abbrev S8192x2048 : Shape := ⟨2, ![8192, 2048]⟩
abbrev S512x128 : Shape := ⟨2, ![512, 128]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x2048, .f32⟩
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S8192x128 : Shape := ⟨2, ![8192, 128]⟩
abbrev S2048x128 : Shape := ⟨2, ![2048, 128]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S_, .f32⟩
  | .hbm, ⟨3, _⟩ => ⟨S8192x2048, .f32⟩
  | .hbm, ⟨4, _⟩ => ⟨S2048x128, .f32⟩
  | .hbm, ⟨5, _⟩ => ⟨S8192x128, .f32⟩
  | .hbm, ⟨6, _⟩ => ⟨S8192x128, .f32⟩
  | .hbm, ⟨7, _⟩ => ⟨S8192x2048, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel33.lean ====
abbrev S8192x2048 : Shape := ⟨2, ![8192, 2048]⟩
abbrev S2048 : Shape := ⟨1, ![2048]⟩
abbrev S1x2048 : Shape := ⟨2, ![1, 2048]⟩
abbrev S2048x8192 : Shape := ⟨2, ![2048, 8192]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .hbm, ⟨4, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference33Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x8192 : Shape := ⟨2, ![2048, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel34.lean ====
abbrev S8192x2048 : Shape := ⟨2, ![8192, 2048]⟩
abbrev S2048 : Shape := ⟨1, ![2048]⟩
abbrev S1x2048 : Shape := ⟨2, ![1, 2048]⟩
abbrev S2048x8192 : Shape := ⟨2, ![2048, 8192]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .hbm, ⟨4, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference34Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x8192 : Shape := ⟨2, ![2048, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel35.lean ====
abbrev S8192x2048 : Shape := ⟨2, ![8192, 2048]⟩
abbrev S2048 : Shape := ⟨1, ![2048]⟩
abbrev S1x2048 : Shape := ⟨2, ![1, 2048]⟩
abbrev S2048x8192 : Shape := ⟨2, ![2048, 8192]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .hbm, ⟨4, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference35Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x8192 : Shape := ⟨2, ![2048, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel36.lean ====
abbrev S8192x2048 : Shape := ⟨2, ![8192, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .bf16⟩
  | .hbm, ⟨4, _⟩ => ⟨S1x2048, .f32⟩
  | .hbm, ⟨5, _⟩ => ⟨S8192x2048, .bf16⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference36Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8x2048 : Shape := ⟨2, ![8, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S1x2048, .f32⟩
  | .hbm, ⟨54, _⟩ => ⟨S_, .i32⟩
  | .hbm, ⟨55, _⟩ => ⟨S_, .f32⟩
  | .hbm, ⟨56, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel37.lean ====
abbrev S8192x2048 : Shape := ⟨2, ![8192, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .bf16⟩
  | .hbm, ⟨4, _⟩ => ⟨S1x2048, .f32⟩
  | .hbm, ⟨5, _⟩ => ⟨S8192x2048, .bf16⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference37Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8x2048 : Shape := ⟨2, ![8, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S1x2048, .f32⟩
  | .hbm, ⟨54, _⟩ => ⟨S_, .i32⟩
  | .hbm, ⟨55, _⟩ => ⟨S_, .f32⟩
  | .hbm, ⟨56, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.Voc.lean ====
/-
  The words of the spatial-gating gradient's body: each intermediate value of one group, as a function of the values it
  is computed from, in the order of operations the body has; then the values of a whole block, from the families of the
  sixteen groups' operands.
-/
module
public import proofs.«01_k».proof.Proof.Gen.KernelIdeal.Frame
@[expose] public section
noncomputable section
namespace Cert.KernelIdeal.Hand
open Cert.KernelIdeal Cert.KernelIdeal.Gen Idealize.ShloMosaic Idealize.ShloMosaic.TcCoe Idealize.SL.Sem
variable {F : FTy → Type} [FloatOps F]

/-- One number at every place of a square tile. -/
abbrev bc (b : BitVec 32) : FVec F S128x128 .f32 := broadcast S128x128 (Scalar.ofBits .f32 b)
/-- One number at every place of a column. -/
abbrev bc1 (b : BitVec 32) : FVec F S128x1 .f32 := broadcast S128x1 (Scalar.ofBits .f32 b)
/-- The places of a tile's rows, of its columns, and of a row. -/
abbrev i0 : IVec S128x128 32 := iota .tc S128x128 32 [0] iota_S128x128_d0_w32
abbrev i1 : IVec S128x128 32 := iota .tc S128x128 32 [1] iota_S128x128_d1_w32
abbrev iL : IVec S1x128 32 := iota .tc S1x128 32 [1] iota_S1x128_d1_w32
/-- A tile's row sums, as a column. -/
def sum1 (z : FVec F S128x128 .f32) : FVec F S128x1 .f32 :=
  shapeCast S128x1 (multiReduction .add [1] S128 z 0x00000000#32 reduces_S128x128_S128 (.inl rfl) rfl) shapeCasts_S128_S128x1
/-- A column's row sums. -/
def sumC (z : FVec F S128x1 .f32) : FVec F S128x1 .f32 :=
  shapeCast S128x1 (multiReduction .add [1] S128 z 0x00000000#32 reduces_S128x1_S128 (.inl rfl) rfl) shapeCasts_S128_S128x1
/-- A tile's column sums, as a row. -/
def sum0 (z : FVec F S128x128 .f32) : FVec F S1x128 .f32 :=
  shapeCast S1x128 (multiReduction .add [0] S128 z 0x00000000#32 reduces_S128x128_S128_2 (.inl rfl) rfl) shapeCasts_S128_S1x128
/-- A column repeated along its rows. -/
abbrev bR (z : FVec F S128x1 .f32) : FVec F S128x128 .f32 := broadcastTo S128x128 z broadcasts_S128x1_S128x128
/-- A row repeated down a tile. -/
abbrev bL (z : FVec F S1x128 .f32) : FVec F S128x128 .f32 := broadcastTo S128x128 z broadcasts_S1x128_S128x128

/-! ## The activation -/

def gTanh (x : FVec F S128x128 .f32) : FVec F S128x128 .f32 :=
  tanh (mulf (bc 0x3F4C422A#32) (addf x (mulf (bc 0x3D372713#32) (mulf x (mulf x x)))))
def gHalf (x : FVec F S128x128 .f32) : FVec F S128x128 .f32 := mulf (bc 0x3F000000#32) (addf (bc 0x3F800000#32) (gTanh x))
def gelu (x : FVec F S128x128 .f32) : FVec F S128x128 .f32 := mulf x (gHalf x)
def gK (x D : FVec F S128x128 .f32) : FVec F S128x128 .f32 :=
  mulf (bc 0x3F4C422A#32) (mulf (mulf (bc 0x3F000000#32) (mulf x D))
    (mulf (addf (bc 0x3F800000#32) (gTanh x)) (subf (bc 0x3F800000#32) (gTanh x))))
/-- The activation's gradient at `x` of a cotangent `D`. -/
def gBack (x D : FVec F S128x128 .f32) : FVec F S128x128 .f32 :=
  addf (addf (mulf D (gHalf x)) (gK x D)) (mulf (mulf (bc 0x3D372713#32) (gK x D)) (mulf (bc 0x40400000#32) (mulf x x)))

abbrev gOn (x : FVec F S128x128 .f32) : FVec F S128x128 .f32 := addf (bc 0x3F800000#32) (gTanh x)
abbrev gNe (x : FVec F S128x128 .f32) : FVec F S128x128 .f32 := subf (bc 0x3F800000#32) (gTanh x)
abbrev gS (x : FVec F S128x128 .f32) : FVec F S128x128 .f32 := mulf (bc 0x40400000#32) (mulf x x)

/-! ## The normalisation of a tile's rows -/

def nMu (v : FVec F S128x128 .f32) : FVec F S128x1 .f32 := divf (sum1 v) (bc1 0x43000000#32)
def nCen (v : FVec F S128x128 .f32) : FVec F S128x128 .f32 := subf v (bR (nMu v))
def nVe (v : FVec F S128x128 .f32) : FVec F S128x1 .f32 :=
  addf (divf (sum1 (mulf (nCen v) (nCen v))) (bc1 0x43000000#32)) (bc1 0x358637BD#32)
def nRs (v : FVec F S128x128 .f32) : FVec F S128x1 .f32 := rsqrt (nVe v)
def nDr (v : FVec F S128x128 .f32) : FVec F S128x1 .f32 := mulf (bc1 0xBF000000#32) (divf (nRs v) (nVe v))
def nNrm (v : FVec F S128x128 .f32) : FVec F S128x128 .f32 := mulf (nCen v) (bR (nRs v))
def nOut (v : FVec F S128x128 .f32) (lg lb : FVec F S1x128 .f32) : FVec F S128x128 .f32 := addf (mulf (nNrm v) (bL lg)) (bL lb)
def nA (lg : FVec F S1x128 .f32) (dvn : FVec F S128x128 .f32) : FVec F S128x128 .f32 := mulf dvn (bL lg)
def nB (v : FVec F S128x128 .f32) (lg : FVec F S1x128 .f32) (dvn : FVec F S128x128 .f32) : FVec F S128x128 .f32 :=
  mulf (nA lg dvn) (bR (nRs v))
def nK (v : FVec F S128x128 .f32) (lg : FVec F S1x128 .f32) (dvn : FVec F S128x128 .f32) : FVec F S128x128 .f32 :=
  mulf (bR (sumC (divf (mulf (sum1 (mulf (nCen v) (nA lg dvn))) (nDr v)) (bc1 0x43000000#32)))) (mulf (bc 0x40000000#32) (nCen v))
def nNeg (z : FVec F S128x128 .f32) : FVec F S128x1 .f32 := sum1 (subf (bc 0x00000000#32) z)
/-- The normalisation's gradient at `v` of a cotangent `dvn`. -/
def nBack (v : FVec F S128x128 .f32) (lg : FVec F S1x128 .f32) (dvn : FVec F S128x128 .f32) : FVec F S128x128 .f32 :=
  addf (addf (nB v lg dvn) (nK v lg dvn))
    (bR (sumC (divf (addf (nNeg (nB v lg dvn)) (nNeg (nK v lg dvn))) (bc1 0x43000000#32))))

/-! ## The gate -/

def tri : IVec S128x128 1 := cmpi .sge (iota .tc S128x128 32 [0] iota_S128x128_d0_w32) (iota .tc S128x128 32 [1] iota_S128x128_d1_w32)
def wM (w : FVec F S128x128 .f32) : FVec F S128x128 .bf16 := truncf .bf16 (select tri w (bc 0x00000000#32)) bitsLt_bf16_f32
def vT (v : FVec F S128x128 .f32) (lg lb : FVec F S1x128 .f32) : FVec F S128x128 .bf16 := truncf .bf16 (nOut v lg lb) bitsLt_bf16_f32
def sg (v : FVec F S128x128 .f32) (lg lb : FVec F S1x128 .f32) (w : FVec F S128x128 .f32) (b : FVec F S128x1 .f32) :
    FVec F S128x128 .f32 :=
  addf (matmul dot_S128x128_S128x128_S128x128_1_0_0_1_n_n none (wM w) (vT v lg lb) (constant S128x128 .f32 0x00000000#32)) (bR b)
def dsg (xu D : FVec F S128x128 .f32) : FVec F S128x128 .f32 := mulf (gelu xu) D
def dvn (w xu D : FVec F S128x128 .f32) : FVec F S128x128 .f32 :=
  extf .f32 (truncf .bf16 (transpose S128x128 [1, 0]
    (matmul dot_S128x128_S128x128_S128x128_0_0_1_1_n_n none (dsg xu D) (wM w) (constant S128x128 .f32 0x00000000#32))
    transposes_S128x128_p1_0_S128x128) bitsLt_bf16_f32) bitsLt_bf16_f32
def dW (v : FVec F S128x128 .f32) (lg lb : FVec F S1x128 .f32) (xu D : FVec F S128x128 .f32) : FVec F S128x128 .f32 :=
  select tri (extf .f32 (truncf .bf16
    (matmul dot_S128x128_S128x128_S128x128_1_1_0_0_n_n none (dsg xu D) (vT v lg lb) (constant S128x128 .f32 0x00000000#32))
    bitsLt_bf16_f32) bitsLt_bf16_f32) (bc 0x00000000#32)
def dBias (n : ℕ) (d : FVec F S128x1 .f32) : FVec F S128x128 .f32 :=
  mulf (bR d) (bL (sitofp .f32 (extui 32 (cmpi .eq (iota .tc S1x128 32 [1] iota_S1x128_d1_w32) (broadcast S1x128 (BitVec.ofNat 32 n)))
    natLt_1_32)))

/-! ## A whole block -/

/-- The operands of the sixteen groups in one block. -/
structure Ops (F : FTy → Type) where
  xu : Fin 16 → FVec F S128x128 .bf16
  xv : Fin 16 → FVec F S128x128 .bf16
  lg : Fin 16 → FVec F S1x128 .f32
  lb : Fin 16 → FVec F S1x128 .f32
  w : Fin 16 → FVec F S1x128x128 .f32
  b : Fin 16 → FVec F S128x1 .f32
  ng : FVec F S1x2048 .f32
  dy : FVec F S128x2048 .bf16

variable (o : Ops F)

def Ops.xu' (g : Fin 16) : FVec F S128x128 .f32 := extf .f32 (o.xu g) bitsLt_bf16_f32
def Ops.xv' (g : Fin 16) : FVec F S128x128 .f32 := extf .f32 (o.xv g) bitsLt_bf16_f32
def Ops.lg' (g : Fin 16) : FVec F S1x128 .f32 := shapeCast S1x128 (o.lg g) shapeCasts_S1x128_S1x128
def Ops.lb' (g : Fin 16) : FVec F S1x128 .f32 := shapeCast S1x128 (o.lb g) shapeCasts_S1x128_S1x128
def Ops.w' (g : Fin 16) : FVec F S128x128 .f32 := shapeCast S128x128 (o.w g) shapeCasts_S1x128x128_S128x128
def Ops.b' (g : Fin 16) : FVec F S128x1 .f32 := shapeCast S128x1 (o.b g) shapeCasts_S128x1_S128x1
def Ops.sg' (g : Fin 16) : FVec F S128x128 .f32 := sg (gelu (o.xv' g)) (o.lg' g) (o.lb' g) (o.w' g) (o.b' g)
def Ops.out (g : Fin 16) : FVec F S128x128 .f32 := mulf (gelu (o.xu' g)) (o.sg' g)
def cat (Y : Fin 16 → FVec F S128x128 .f32) : FVec F S128x2048 .f32 :=
  concatenate S128x2048 1 (List.ofFn fun g => (⟨S128x128, Y g⟩ : (s : Shape) × (s.Idx → F .f32)))
    concatenates_S128x128_S128x128_S128x128_S128x128_S128x128_S128x128_S128x128_S128x128_S128x128_S128x128_S128x128_S128x128_S128x128_S128x128_S128x128_S128x128_S128x2048_d1
def Ops.Y : FVec F S128x2048 .f32 := cat o.out
def sumW (z : FVec F S128x2048 .f32) : FVec F S128x1 .f32 :=
  shapeCast S128x1 (multiReduction .add [1] S128 z 0x00000000#32 reduces_S128x2048_S128 (.inl rfl) rfl) shapeCasts_S128_S128x1
abbrev bW (z : FVec F S128x1 .f32) : FVec F S128x2048 .f32 := broadcastTo S128x2048 z broadcasts_S128x1_S128x2048
def rMe (Y : FVec F S128x2048 .f32) : FVec F S128x1 .f32 := addf (divf (sumW (mulf Y Y)) (bc1 0x45000000#32)) (bc1 0x358637BD#32)
def rR (Y : FVec F S128x2048 .f32) : FVec F S128x1 .f32 := rsqrt (rMe Y)
def rD (Y : FVec F S128x2048 .f32) : FVec F S128x1 .f32 := mulf (bc1 0xBF000000#32) (divf (rR Y) (rMe Y))
def rNg (Y dy : FVec F S128x2048 .f32) : FVec F S1x2048 .f32 :=
  shapeCast S1x2048 (multiReduction .add [0] S2048 (mulf (mulf Y (bW (rR Y))) dy) 0x00000000#32 reduces_S128x2048_S2048 (.inl rfl) rfl)
    shapeCasts_S2048_S1x2048
def rE (ng : FVec F S1x2048 .f32) (dy : FVec F S128x2048 .f32) : FVec F S128x2048 .f32 :=
  mulf dy (broadcastTo S128x2048 ng broadcasts_S1x2048_S128x2048)
def rQ (Y e : FVec F S128x2048 .f32) : FVec F S128x2048 .f32 :=
  bW (sumC (divf (mulf (sumW (mulf Y e)) (rD Y)) (bc1 0x45000000#32)))
def rBack (Y e : FVec F S128x2048 .f32) : FVec F S128x2048 .f32 :=
  addf (addf (mulf e (bW (rR Y))) (mulf Y (rQ Y e))) (mulf (rQ Y e) Y)
def Ops.dy' : FVec F S128x2048 .f32 := extf .f32 o.dy bitsLt_bf16_f32
def Ops.e : FVec F S128x2048 .f32 := rE (shapeCast S1x2048 o.ng shapeCasts_S1x2048_S1x2048) o.dy'
def Ops.dY : FVec F S128x2048 .f32 := rBack o.Y o.e
theorem slicesD (g : Fin 16) : S128x2048.Slices ![0, 128 * g.val] S128x128 := by revert g; decide
def Ops.D (g : Fin 16) : FVec F S128x128 .f32 := extractStridedSlice S128x128 ![0, 128 * g.val] o.dY (slicesD g)
def Ops.dU (g : Fin 16) : FVec F S128x128 .f32 := gBack (o.xu' g) (mulf (o.D g) (o.sg' g))
def Ops.dvn (g : Fin 16) : FVec F S128x128 .f32 := Hand.dvn (o.w' g) (o.xu' g) (o.D g)
def Ops.dV (g : Fin 16) : FVec F S128x128 .f32 := gBack (o.xv' g) (nBack (gelu (o.xv' g)) (o.lg' g) (o.dvn g))
def Ops.dLb (g : Fin 16) : FVec F S1x128 .f32 := sum0 (o.dvn g)
def Ops.dLg (g : Fin 16) : FVec F S1x128 .f32 := sum0 (mulf (nNrm (gelu (o.xv' g))) (o.dvn g))
def Ops.dW (g : Fin 16) : FVec F S128x128 .f32 := Hand.dW (gelu (o.xv' g)) (o.lg' g) (o.lb' g) (o.xu' g) (o.D g)
def Ops.dBs (g : Fin 16) : FVec F S128x1 .f32 := sum1 (dsg (o.xu' g) (o.D g))
def Ops.dB : (n : ℕ) → n ≤ 16 → FVec F S128x128 .f32
  | 0, _ => bc 0x00000000#32
  | n + 1, h => addf (Ops.dB n (Nat.le_of_succ_le h)) (dBias n (o.dBs ⟨n, h⟩))
def Ops.dNg : FVec F S1x2048 .f32 := rNg o.Y o.dy'

end Cert.KernelIdeal.Hand
end
-- ==== Proof.Pays.lean ====
/-
  What the body's payloads are, in the words of one group: each payload at the words it is given is the word it computes.
-/
module
public import proofs.«01_k».proof.Proof.Voc
@[expose] public section
noncomputable section
namespace Cert.KernelIdeal.Hand
open Cert.KernelIdeal Cert.KernelIdeal.Gen Idealize.ShloMosaic Idealize.ShloMosaic.TcCoe Idealize.SL.Sem
variable {F : FTy → Type} [FloatOps F] (o : Ops F)

theorem pays1 :
  (∀ (z : Vec F S128x128 .f32), k0_pay1 (o.dB 15 (by omega)) (bR (o.dBs 15)) (bL (sitofp .f32 (extui 32 (cmpi .eq iL (broadcast S1x128 15#32)) natLt_1_32))) z = (addf (shapeCast S128x128 z shapeCasts_S128x128_S128x128) (o.dB 16 (by omega)))) ∧
(∀ (z : Vec F S1x2048 .f32), k0_pay2 o.dNg z = (addf (shapeCast S1x2048 z shapeCasts_S1x2048_S1x2048) o.dNg)) ∧
k0_pay8 (o.xu 0) = o.xu' 0 ∧
k0_pay9 (o.xu 1) = o.xu' 1 ∧
k0_pay10 (o.xu 2) = o.xu' 2 ∧
k0_pay11 (o.xu 3) = o.xu' 3 ∧
k0_pay12 (o.xu 4) = o.xu' 4 ∧
k0_pay13 (o.xu 5) = o.xu' 5 ∧
k0_pay14 (o.xu 6) = o.xu' 6 ∧
k0_pay15 (o.xu 7) = o.xu' 7 ∧
k0_pay16 (o.xu 8) = o.xu' 8 ∧
k0_pay17 (o.xu 9) = o.xu' 9 ∧
k0_pay18 (o.xu 10) = o.xu' 10 ∧
k0_pay19 (o.xu 11) = o.xu' 11 ∧
k0_pay20 (o.xu 12) = o.xu' 12 ∧
k0_pay21 (o.xu 13) = o.xu' 13 ∧
k0_pay22 (o.xu 14) = o.xu' 14 ∧
k0_pay23 (o.xu 15) = o.xu' 15 ∧
k0_pay24 (o.xv 0) = o.xv' 0 ∧
k0_pay25 (o.xv 1) = o.xv' 1 ∧
k0_pay26 (o.xv 2) = o.xv' 2 ∧
k0_pay27 (o.xv 3) = o.xv' 3 ∧
k0_pay28 (o.xv 4) = o.xv' 4 ∧
k0_pay29 (o.xv 5) = o.xv' 5 ∧
k0_pay30 (o.xv 6) = o.xv' 6 ∧
k0_pay31 (o.xv 7) = o.xv' 7 ∧
k0_pay32 (o.xv 8) = o.xv' 8 ∧
k0_pay33 (o.xv 9) = o.xv' 9 ∧
k0_pay34 (o.xv 10) = o.xv' 10 ∧
k0_pay35 (o.xv 11) = o.xv' 11 ∧
k0_pay36 (o.xv 12) = o.xv' 12 ∧
k0_pay37 (o.xv 13) = o.xv' 13 ∧
k0_pay38 (o.xv 14) = o.xv' 14 ∧
k0_pay39 (o.xv 15) = o.xv' 15 ∧
k0_pay40 (o.lg 0) = o.lg' 0 ∧
k0_pay41 (o.lg 1) = o.lg' 1 ∧
k0_pay42 (o.lg 2) = o.lg' 2 ∧
k0_pay43 (o.lg 3) = o.lg' 3 ∧
k0_pay44 (o.lg 4) = o.lg' 4 ∧
k0_pay45 (o.lg 5) = o.lg' 5 := by
  and_intros <;> intros <;> rfl
theorem pays2 :
  k0_pay46 (o.lg 6) = o.lg' 6 ∧
k0_pay47 (o.lg 7) = o.lg' 7 ∧
k0_pay48 (o.lg 8) = o.lg' 8 ∧
k0_pay49 (o.lg 9) = o.lg' 9 ∧
k0_pay50 (o.lg 10) = o.lg' 10 ∧
k0_pay92 (o.b 4) = o.b' 4 ∧
k0_pay93 (o.b 5) = o.b' 5 ∧
k0_pay94 (o.b 6) = o.b' 6 ∧
k0_pay95 (o.b 7) = o.b' 7 ∧
k0_pay96 (o.b 8) = o.b' 8 ∧
k0_pay97 (o.b 9) = o.b' 9 ∧
k0_pay98 (o.b 10) = o.b' 10 ∧
k0_pay99 (o.b 11) = o.b' 11 ∧
k0_pay100 (o.b 12) = o.b' 12 ∧
k0_pay101 (o.b 13) = o.b' 13 ∧
k0_pay102 (o.b 14) = o.b' 14 ∧
k0_pay103 (o.b 15) = o.b' 15 ∧
k0_pay104 o.ng = shapeCast S1x2048 o.ng shapeCasts_S1x2048_S1x2048 ∧
k0_pay105 (o.xu' 0) = mulf (o.xu' 0) (mulf (o.xu' 0) (o.xu' 0)) ∧
k0_pay106 (o.xu' 0) = gS (o.xu' 0) ∧
k0_pay108 (o.xu' 0) (mulf (o.xu' 0) (mulf (o.xu' 0) (o.xu' 0))) (Scalar.ofBits .f32 0x3D372713#32) = mulf (gOn (o.xu' 0)) (gNe (o.xu' 0)) ∧
k0_pay109 (o.xu' 0) (mulf (o.xu' 0) (mulf (o.xu' 0) (o.xu' 0))) (Scalar.ofBits .f32 0x3D372713#32) = gHalf (o.xu' 0) ∧
k0_pay110 (o.xu' 0) (mulf (o.xu' 0) (mulf (o.xu' 0) (o.xu' 0))) (Scalar.ofBits .f32 0x3D372713#32) = gelu (o.xu' 0) ∧
k0_pay111 (o.xv' 0) = gS (o.xv' 0) ∧
k0_pay113 (o.xv' 0) = mulf (gOn (o.xv' 0)) (gNe (o.xv' 0)) ∧
k0_pay114 (o.xv' 0) = gHalf (o.xv' 0) ∧
k0_pay115 (o.xv' 0) = gelu (o.xv' 0) ∧
k0_pay116 (o.xv' 0) = nMu (gelu (o.xv' 0)) ∧
k0_pay117 (o.xv' 0) = nCen (gelu (o.xv' 0)) ∧
k0_pay118 (o.xv' 0) = mulf (nCen (gelu (o.xv' 0))) (nCen (gelu (o.xv' 0))) ∧
k0_pay119 (F := F) = bc 0x40000000#32 ∧
k0_pay120 (nCen (gelu (o.xv' 0))) (bc 0x40000000#32) = mulf (bc 0x40000000#32) (nCen (gelu (o.xv' 0))) ∧
k0_pay121 (gelu (o.xv' 0)) (nMu (gelu (o.xv' 0))) = nCen (gelu (o.xv' 0)) ∧
k0_pay123 (mulf (nCen (gelu (o.xv' 0))) (nCen (gelu (o.xv' 0)))) = nRs (gelu (o.xv' 0)) ∧
k0_pay124 (mulf (nCen (gelu (o.xv' 0))) (nCen (gelu (o.xv' 0)))) = nDr (gelu (o.xv' 0)) ∧
k0_pay125 (gelu (o.xv' 0)) (nMu (gelu (o.xv' 0))) (mulf (nCen (gelu (o.xv' 0))) (nCen (gelu (o.xv' 0)))) = nNrm (gelu (o.xv' 0)) ∧
k0_pay126 i0 i1 = tri ∧
k0_pay127 (o.w' 0) i0 i1 = wM (o.w' 0) ∧
k0_pay128 (o.lg' 0) (o.lb' 0) (gelu (o.xv' 0)) (nMu (gelu (o.xv' 0))) (mulf (nCen (gelu (o.xv' 0))) (nCen (gelu (o.xv' 0)))) = vT (gelu (o.xv' 0)) (o.lg' 0) (o.lb' 0) ∧
k0_pay129 (o.lg' 0) (o.lb' 0) (o.w' 0) (o.b' 0) i0 i1 (gelu (o.xv' 0)) (nMu (gelu (o.xv' 0))) (mulf (nCen (gelu (o.xv' 0))) (nCen (gelu (o.xv' 0)))) = o.sg' 0 := by
  and_intros <;> intros <;> rfl
theorem pays3 :
  k0_pay130 (o.lg' 0) (o.lb' 0) (o.w' 0) (o.b' 0) i0 i1 (gelu (o.xu' 0)) (gelu (o.xv' 0)) (nMu (gelu (o.xv' 0))) (mulf (nCen (gelu (o.xv' 0))) (nCen (gelu (o.xv' 0)))) = o.out 0 ∧
k0_pay131 (o.xu' 1) = gS (o.xu' 1) ∧
k0_pay133 (o.xu' 1) = mulf (gOn (o.xu' 1)) (gNe (o.xu' 1)) ∧
k0_pay134 (o.xu' 1) = gOn (o.xu' 1) ∧
k0_pay135 (F := F) = bc 0x3F000000#32 ∧
k0_pay136 (gOn (o.xu' 1)) (bc 0x3F000000#32) = gHalf (o.xu' 1) ∧
k0_pay137 (o.xu' 1) (gOn (o.xu' 1)) (bc 0x3F000000#32) = gelu (o.xu' 1) ∧
k0_pay138 (o.xv' 1) = gS (o.xv' 1) ∧
k0_pay140 (o.xv' 1) = mulf (gOn (o.xv' 1)) (gNe (o.xv' 1)) ∧
k0_pay141 (o.xv' 1) = gHalf (o.xv' 1) ∧
k0_pay145 (o.xv' 1) = mulf (bc 0x40000000#32) (nCen (gelu (o.xv' 1))) ∧
k0_pay146 (o.xv' 1) = nCen (gelu (o.xv' 1)) ∧
k0_pay148 (o.xv' 1) = nRs (gelu (o.xv' 1)) ∧
k0_pay149 (o.xv' 1) = nDr (gelu (o.xv' 1)) ∧
k0_pay150 (o.xv' 1) = nNrm (gelu (o.xv' 1)) ∧
k0_pay151 i0 i1 = tri ∧
k0_pay152 (o.w' 1) i0 i1 = wM (o.w' 1) ∧
k0_pay153 (o.lg' 1) (o.lb' 1) (nNrm (gelu (o.xv' 1))) = vT (gelu (o.xv' 1)) (o.lg' 1) (o.lb' 1) ∧
k0_pay154 (o.lg' 1) (o.lb' 1) (o.w' 1) (o.b' 1) i0 i1 (nNrm (gelu (o.xv' 1))) = o.sg' 1 ∧
k0_pay155 (o.lg' 1) (o.lb' 1) (o.w' 1) (o.b' 1) i0 i1 (gelu (o.xu' 1)) (nNrm (gelu (o.xv' 1))) = o.out 1 ∧
k0_pay156 (o.xu' 2) = gS (o.xu' 2) ∧
k0_pay158 (o.xu' 2) = mulf (gOn (o.xu' 2)) (gNe (o.xu' 2)) ∧
k0_pay159 (o.xu' 2) = gHalf (o.xu' 2) ∧
k0_pay160 (o.xu' 2) = gelu (o.xu' 2) ∧
k0_pay161 (o.xv' 2) = gS (o.xv' 2) ∧
k0_pay162 (o.xv' 2) = gTanh (o.xv' 2) ∧
k0_pay163 (o.xv' 2) = gOn (o.xv' 2) ∧
k0_pay164 (gTanh (o.xv' 2)) (gOn (o.xv' 2)) = mulf (gOn (o.xv' 2)) (gNe (o.xv' 2)) ∧
k0_pay165 (gTanh (o.xv' 2)) = gHalf (o.xv' 2) ∧
k0_pay169 (o.xv' 2) (gTanh (o.xv' 2)) = mulf (bc 0x40000000#32) (nCen (gelu (o.xv' 2))) ∧
k0_pay170 (o.xv' 2) (gTanh (o.xv' 2)) = nCen (gelu (o.xv' 2)) ∧
k0_pay172 (o.xv' 2) (gTanh (o.xv' 2)) = nRs (gelu (o.xv' 2)) ∧
k0_pay173 (o.xv' 2) (gTanh (o.xv' 2)) = nDr (gelu (o.xv' 2)) ∧
k0_pay174 (o.xv' 2) (gTanh (o.xv' 2)) = nNrm (gelu (o.xv' 2)) ∧
k0_pay175 i0 i1 = tri ∧
k0_pay176 (o.w' 2) i0 i1 = wM (o.w' 2) ∧
k0_pay177 (o.xv' 2) (o.lg' 2) (o.lb' 2) (gTanh (o.xv' 2)) = vT (gelu (o.xv' 2)) (o.lg' 2) (o.lb' 2) ∧
k0_pay178 (o.xv' 2) (o.lg' 2) (o.lb' 2) (o.w' 2) (o.b' 2) i0 i1 (gTanh (o.xv' 2)) = o.sg' 2 ∧
k0_pay179 (o.xv' 2) (o.lg' 2) (o.lb' 2) (o.w' 2) (o.b' 2) i0 i1 (gelu (o.xu' 2)) (gTanh (o.xv' 2)) = o.out 2 ∧
k0_pay180 (o.xu' 3) = mulf (o.xu' 3) (mulf (o.xu' 3) (o.xu' 3)) := by
  and_intros <;> intros <;> rfl
theorem pays4 :
  k0_pay181 (o.xu' 3) = mulf (o.xu' 3) (o.xu' 3) ∧
k0_pay182 (mulf (o.xu' 3) (o.xu' 3)) (Scalar.ofBits .f32 0x40400000#32) = gS (o.xu' 3) ∧
k0_pay184 (o.xu' 3) (mulf (o.xu' 3) (mulf (o.xu' 3) (o.xu' 3))) = mulf (gOn (o.xu' 3)) (gNe (o.xu' 3)) ∧
k0_pay185 (o.xu' 3) (mulf (o.xu' 3) (mulf (o.xu' 3) (o.xu' 3))) = gHalf (o.xu' 3) ∧
k0_pay186 (o.xu' 3) (mulf (o.xu' 3) (mulf (o.xu' 3) (o.xu' 3))) = gelu (o.xu' 3) ∧
k0_pay187 (o.xv' 3) = gS (o.xv' 3) ∧
k0_pay189 (o.xv' 3) = mulf (gOn (o.xv' 3)) (gNe (o.xv' 3)) ∧
k0_pay190 (o.xv' 3) = gHalf (o.xv' 3) ∧
k0_pay191 (o.xv' 3) = gelu (o.xv' 3) ∧
k0_pay192 (o.xv' 3) = nMu (gelu (o.xv' 3)) ∧
k0_pay193 (o.xv' 3) = nCen (gelu (o.xv' 3)) ∧
k0_pay194 (nCen (gelu (o.xv' 3))) = mulf (bc 0x40000000#32) (nCen (gelu (o.xv' 3))) ∧
k0_pay195 (gelu (o.xv' 3)) (nMu (gelu (o.xv' 3))) = nCen (gelu (o.xv' 3)) ∧
k0_pay197 (nCen (gelu (o.xv' 3))) = nRs (gelu (o.xv' 3)) ∧
k0_pay198 (nCen (gelu (o.xv' 3))) = nDr (gelu (o.xv' 3)) ∧
k0_pay199 (gelu (o.xv' 3)) (nMu (gelu (o.xv' 3))) (nCen (gelu (o.xv' 3))) = nNrm (gelu (o.xv' 3)) ∧
k0_pay200 i0 i1 = tri ∧
k0_pay201 (o.w' 3) i0 i1 = wM (o.w' 3) ∧
k0_pay202 (o.lg' 3) (o.lb' 3) (gelu (o.xv' 3)) (nMu (gelu (o.xv' 3))) (nCen (gelu (o.xv' 3))) = vT (gelu (o.xv' 3)) (o.lg' 3) (o.lb' 3) ∧
k0_pay203 (o.lg' 3) (o.lb' 3) (o.w' 3) (o.b' 3) i0 i1 (gelu (o.xv' 3)) (nMu (gelu (o.xv' 3))) (nCen (gelu (o.xv' 3))) = o.sg' 3 ∧
k0_pay204 (o.lg' 3) (o.lb' 3) (o.w' 3) (o.b' 3) i0 i1 (gelu (o.xu' 3)) (gelu (o.xv' 3)) (nMu (gelu (o.xv' 3))) (nCen (gelu (o.xv' 3))) = o.out 3 ∧
k0_pay205 (o.xu' 4) = gS (o.xu' 4) ∧
k0_pay206 (o.xu' 4) = gTanh (o.xu' 4) ∧
k0_pay207 (o.xu' 4) = mulf (gOn (o.xu' 4)) (gNe (o.xu' 4)) ∧
k0_pay208 (F := F) = bc 0x3F800000#32 ∧
k0_pay209 (gTanh (o.xu' 4)) (bc 0x3F800000#32) = gHalf (o.xu' 4) ∧
k0_pay210 (o.xu' 4) (gTanh (o.xu' 4)) (bc 0x3F800000#32) = gelu (o.xu' 4) ∧
k0_pay211 (o.xv' 4) = gS (o.xv' 4) ∧
k0_pay213 (o.xv' 4) = mulf (gOn (o.xv' 4)) (gNe (o.xv' 4)) ∧
k0_pay214 (o.xv' 4) = gHalf (o.xv' 4) ∧
k0_pay218 (o.xv' 4) = mulf (bc 0x40000000#32) (nCen (gelu (o.xv' 4))) ∧
k0_pay219 (o.xv' 4) = nCen (gelu (o.xv' 4)) ∧
k0_pay221 (o.xv' 4) = nRs (gelu (o.xv' 4)) ∧
k0_pay222 (o.xv' 4) = divf (nRs (gelu (o.xv' 4))) (nVe (gelu (o.xv' 4))) ∧
k0_pay223 (F := F) = bc1 0xBF000000#32 ∧
k0_pay224 (divf (nRs (gelu (o.xv' 4))) (nVe (gelu (o.xv' 4)))) (bc1 0xBF000000#32) = nDr (gelu (o.xv' 4)) ∧
k0_pay225 (nCen (gelu (o.xv' 4))) (nRs (gelu (o.xv' 4))) = nNrm (gelu (o.xv' 4)) ∧
k0_pay226 i0 i1 = tri ∧
k0_pay227 (o.w' 4) i0 i1 = wM (o.w' 4) ∧
k0_pay228 (o.lg' 4) (o.lb' 4) (nCen (gelu (o.xv' 4))) (nRs (gelu (o.xv' 4))) = vT (gelu (o.xv' 4)) (o.lg' 4) (o.lb' 4) := by
  and_intros <;> intros <;> rfl
theorem pays5 :
  k0_pay229 (o.lg' 4) (o.lb' 4) (o.w' 4) (o.b' 4) i0 i1 (nCen (gelu (o.xv' 4))) (nRs (gelu (o.xv' 4))) = o.sg' 4 ∧
k0_pay230 (o.lg' 4) (o.lb' 4) (o.w' 4) (o.b' 4) i0 i1 (gelu (o.xu' 4)) (nCen (gelu (o.xv' 4))) (nRs (gelu (o.xv' 4))) = o.out 4 ∧
k0_pay231 (o.xu' 5) = gS (o.xu' 5) ∧
k0_pay233 (o.xu' 5) = mulf (gOn (o.xu' 5)) (gNe (o.xu' 5)) ∧
k0_pay234 (o.xu' 5) = gHalf (o.xu' 5) ∧
k0_pay235 (o.xu' 5) = gelu (o.xu' 5) ∧
k0_pay236 (o.xv' 5) = gS (o.xv' 5) ∧
k0_pay237 (o.xv' 5) = gTanh (o.xv' 5) ∧
k0_pay238 (gTanh (o.xv' 5)) = mulf (gOn (o.xv' 5)) (gNe (o.xv' 5)) ∧
k0_pay239 (gTanh (o.xv' 5)) = gHalf (o.xv' 5) ∧
k0_pay243 (o.xv' 5) (gTanh (o.xv' 5)) = mulf (bc 0x40000000#32) (nCen (gelu (o.xv' 5))) ∧
k0_pay244 (o.xv' 5) (gTanh (o.xv' 5)) = nCen (gelu (o.xv' 5)) ∧
k0_pay246 (o.xv' 5) (gTanh (o.xv' 5)) = nRs (gelu (o.xv' 5)) ∧
k0_pay247 (o.xv' 5) (gTanh (o.xv' 5)) = nDr (gelu (o.xv' 5)) ∧
k0_pay248 (o.xv' 5) (gTanh (o.xv' 5)) = nNrm (gelu (o.xv' 5)) ∧
k0_pay249 i0 i1 = tri ∧
k0_pay250 (o.w' 5) i0 i1 = wM (o.w' 5) ∧
k0_pay251 (o.xv' 5) (o.lg' 5) (o.lb' 5) (gTanh (o.xv' 5)) = vT (gelu (o.xv' 5)) (o.lg' 5) (o.lb' 5) ∧
k0_pay252 (o.xv' 5) (o.lg' 5) (o.lb' 5) (o.w' 5) (o.b' 5) i0 i1 (gTanh (o.xv' 5)) = o.sg' 5 ∧
k0_pay253 (o.xv' 5) (o.lg' 5) (o.lb' 5) (o.w' 5) (o.b' 5) i0 i1 (gelu (o.xu' 5)) (gTanh (o.xv' 5)) = o.out 5 ∧
k0_pay254 (o.xu' 6) = mulf (o.xu' 6) (o.xu' 6) ∧
k0_pay255 (o.xu' 6) = gS (o.xu' 6) ∧
k0_pay257 (o.xu' 6) (mulf (o.xu' 6) (o.xu' 6)) = mulf (gOn (o.xu' 6)) (gNe (o.xu' 6)) ∧
k0_pay258 (o.xu' 6) (mulf (o.xu' 6) (o.xu' 6)) = gHalf (o.xu' 6) ∧
k0_pay259 (o.xu' 6) (mulf (o.xu' 6) (o.xu' 6)) = gelu (o.xu' 6) ∧
k0_pay260 (o.xv' 6) = gS (o.xv' 6) ∧
k0_pay262 (o.xv' 6) = mulf (gOn (o.xv' 6)) (gNe (o.xv' 6)) ∧
k0_pay263 (o.xv' 6) = gHalf (o.xv' 6) ∧
k0_pay264 (o.xv' 6) = gelu (o.xv' 6) ∧
k0_pay265 (o.xv' 6) = sum1 (gelu (o.xv' 6)) ∧
k0_pay266 (F := F) = bc1 0x43000000#32 ∧
k0_pay269 (gelu (o.xv' 6)) (sum1 (gelu (o.xv' 6))) (bc1 0x43000000#32) = mulf (bc 0x40000000#32) (nCen (gelu (o.xv' 6))) ∧
k0_pay270 (gelu (o.xv' 6)) (sum1 (gelu (o.xv' 6))) (bc1 0x43000000#32) = nCen (gelu (o.xv' 6)) ∧
k0_pay272 (gelu (o.xv' 6)) (sum1 (gelu (o.xv' 6))) (bc1 0x43000000#32) = nRs (gelu (o.xv' 6)) ∧
k0_pay273 (gelu (o.xv' 6)) (sum1 (gelu (o.xv' 6))) (bc1 0x43000000#32) = nDr (gelu (o.xv' 6)) ∧
k0_pay274 (gelu (o.xv' 6)) (sum1 (gelu (o.xv' 6))) (bc1 0x43000000#32) = nNrm (gelu (o.xv' 6)) ∧
k0_pay275 i0 i1 = tri ∧
k0_pay276 (o.w' 6) i0 i1 = wM (o.w' 6) ∧
k0_pay277 (o.lg' 6) (o.lb' 6) (gelu (o.xv' 6)) (sum1 (gelu (o.xv' 6))) (bc1 0x43000000#32) = vT (gelu (o.xv' 6)) (o.lg' 6) (o.lb' 6) ∧
k0_pay278 (o.lg' 6) (o.lb' 6) (o.w' 6) (o.b' 6) i0 i1 (gelu (o.xv' 6)) (sum1 (gelu (o.xv' 6))) (bc1 0x43000000#32) = o.sg' 6 := by
  and_intros <;> intros <;> rfl
theorem pays6 :
  k0_pay279 (o.lg' 6) (o.lb' 6) (o.w' 6) (o.b' 6) i0 i1 (gelu (o.xu' 6)) (gelu (o.xv' 6)) (sum1 (gelu (o.xv' 6))) (bc1 0x43000000#32) = o.out 6 ∧
k0_pay280 (o.xu' 7) = gS (o.xu' 7) ∧
k0_pay281 (o.xu' 7) = gTanh (o.xu' 7) ∧
k0_pay282 (o.xu' 7) = gOn (o.xu' 7) ∧
k0_pay283 (o.xu' 7) = gNe (o.xu' 7) ∧
k0_pay284 (gOn (o.xu' 7)) (gNe (o.xu' 7)) = mulf (gOn (o.xu' 7)) (gNe (o.xu' 7)) ∧
k0_pay285 (gTanh (o.xu' 7)) = gHalf (o.xu' 7) ∧
k0_pay286 (o.xu' 7) (gTanh (o.xu' 7)) = gelu (o.xu' 7) ∧
k0_pay287 (o.xv' 7) = gS (o.xv' 7) ∧
k0_pay289 (o.xv' 7) = mulf (gOn (o.xv' 7)) (gNe (o.xv' 7)) ∧
k0_pay290 (o.xv' 7) = gHalf (o.xv' 7) ∧
k0_pay294 (o.xv' 7) = mulf (bc 0x40000000#32) (nCen (gelu (o.xv' 7))) ∧
k0_pay295 (o.xv' 7) = nCen (gelu (o.xv' 7)) ∧
k0_pay296 (o.xv' 7) = nVe (gelu (o.xv' 7)) ∧
k0_pay297 (o.xv' 7) = nRs (gelu (o.xv' 7)) ∧
k0_pay298 (nVe (gelu (o.xv' 7))) (nRs (gelu (o.xv' 7))) = nDr (gelu (o.xv' 7)) ∧
k0_pay299 (nCen (gelu (o.xv' 7))) (nRs (gelu (o.xv' 7))) = nNrm (gelu (o.xv' 7)) ∧
k0_pay300 i0 i1 = tri ∧
k0_pay301 (o.w' 7) i0 i1 = wM (o.w' 7) ∧
k0_pay302 (o.lg' 7) (o.lb' 7) (nCen (gelu (o.xv' 7))) (nRs (gelu (o.xv' 7))) = vT (gelu (o.xv' 7)) (o.lg' 7) (o.lb' 7) ∧
k0_pay303 (o.lg' 7) (o.lb' 7) (o.w' 7) (o.b' 7) i0 i1 (nCen (gelu (o.xv' 7))) (nRs (gelu (o.xv' 7))) = o.sg' 7 ∧
k0_pay304 (o.lg' 7) (o.lb' 7) (o.w' 7) (o.b' 7) i0 i1 (gelu (o.xu' 7)) (nCen (gelu (o.xv' 7))) (nRs (gelu (o.xv' 7))) = o.out 7 ∧
k0_pay305 (o.xu' 8) = gS (o.xu' 8) ∧
k0_pay307 (o.xu' 8) = mulf (gOn (o.xu' 8)) (gNe (o.xu' 8)) ∧
k0_pay308 (o.xu' 8) = gHalf (o.xu' 8) ∧
k0_pay309 (o.xu' 8) = gelu (o.xu' 8) ∧
k0_pay310 (o.xv' 8) = gS (o.xv' 8) ∧
k0_pay311 (o.xv' 8) = addf (o.xv' 8) (mulf (bc 0x3D372713#32) (mulf (o.xv' 8) (mulf (o.xv' 8) (o.xv' 8)))) ∧
k0_pay313 (addf (o.xv' 8) (mulf (bc 0x3D372713#32) (mulf (o.xv' 8) (mulf (o.xv' 8) (o.xv' 8))))) (Scalar.ofBits .f32 0x3F4C422A#32) = mulf (gOn (o.xv' 8)) (gNe (o.xv' 8)) ∧
k0_pay314 (addf (o.xv' 8) (mulf (bc 0x3D372713#32) (mulf (o.xv' 8) (mulf (o.xv' 8) (o.xv' 8))))) (Scalar.ofBits .f32 0x3F4C422A#32) = gHalf (o.xv' 8) ∧
k0_pay318 (o.xv' 8) (addf (o.xv' 8) (mulf (bc 0x3D372713#32) (mulf (o.xv' 8) (mulf (o.xv' 8) (o.xv' 8))))) (Scalar.ofBits .f32 0x3F4C422A#32) = mulf (bc 0x40000000#32) (nCen (gelu (o.xv' 8))) ∧
k0_pay319 (o.xv' 8) (addf (o.xv' 8) (mulf (bc 0x3D372713#32) (mulf (o.xv' 8) (mulf (o.xv' 8) (o.xv' 8))))) (Scalar.ofBits .f32 0x3F4C422A#32) = nCen (gelu (o.xv' 8)) ∧
k0_pay321 (o.xv' 8) (addf (o.xv' 8) (mulf (bc 0x3D372713#32) (mulf (o.xv' 8) (mulf (o.xv' 8) (o.xv' 8))))) (Scalar.ofBits .f32 0x3F4C422A#32) = nRs (gelu (o.xv' 8)) ∧
k0_pay322 (o.xv' 8) (addf (o.xv' 8) (mulf (bc 0x3D372713#32) (mulf (o.xv' 8) (mulf (o.xv' 8) (o.xv' 8))))) (Scalar.ofBits .f32 0x3F4C422A#32) = nDr (gelu (o.xv' 8)) ∧
k0_pay323 (o.xv' 8) (addf (o.xv' 8) (mulf (bc 0x3D372713#32) (mulf (o.xv' 8) (mulf (o.xv' 8) (o.xv' 8))))) (Scalar.ofBits .f32 0x3F4C422A#32) = nNrm (gelu (o.xv' 8)) ∧
k0_pay324 i0 i1 = tri ∧
k0_pay325 (o.w' 8) i0 i1 = wM (o.w' 8) ∧
k0_pay326 (o.xv' 8) (o.lg' 8) (o.lb' 8) (addf (o.xv' 8) (mulf (bc 0x3D372713#32) (mulf (o.xv' 8) (mulf (o.xv' 8) (o.xv' 8))))) (Scalar.ofBits .f32 0x3F4C422A#32) = vT (gelu (o.xv' 8)) (o.lg' 8) (o.lb' 8) ∧
k0_pay327 (o.xv' 8) (o.lg' 8) (o.lb' 8) (o.w' 8) i0 i1 (addf (o.xv' 8) (mulf (bc 0x3D372713#32) (mulf (o.xv' 8) (mulf (o.xv' 8) (o.xv' 8))))) (Scalar.ofBits .f32 0x3F4C422A#32) = matmul dot_S128x128_S128x128_S128x128_1_0_0_1_n_n none (wM (o.w' 8)) (vT (gelu (o.xv' 8)) (o.lg' 8) (o.lb' 8)) (constant S128x128 .f32 0x00000000#32) ∧
k0_pay328 (o.b' 8) = bR (o.b' 8) := by
  and_intros <;> intros <;> rfl
theorem pays7 :
  k0_pay329 (matmul dot_S128x128_S128x128_S128x128_1_0_0_1_n_n none (wM (o.w' 8)) (vT (gelu (o.xv' 8)) (o.lg' 8) (o.lb' 8)) (constant S128x128 .f32 0x00000000#32)) (bR (o.b' 8)) = o.sg' 8 ∧
k0_pay330 (gelu (o.xu' 8)) (matmul dot_S128x128_S128x128_S128x128_1_0_0_1_n_n none (wM (o.w' 8)) (vT (gelu (o.xv' 8)) (o.lg' 8) (o.lb' 8)) (constant S128x128 .f32 0x00000000#32)) (bR (o.b' 8)) = o.out 8 ∧
k0_pay331 (o.xu' 9) = gS (o.xu' 9) ∧
k0_pay333 (o.xu' 9) = mulf (gOn (o.xu' 9)) (gNe (o.xu' 9)) ∧
k0_pay334 (o.xu' 9) = gHalf (o.xu' 9) ∧
k0_pay335 (o.xu' 9) = gelu (o.xu' 9) ∧
k0_pay336 (o.xv' 9) = gS (o.xv' 9) ∧
k0_pay338 (o.xv' 9) = mulf (gOn (o.xv' 9)) (gNe (o.xv' 9)) ∧
k0_pay339 (o.xv' 9) = gHalf (o.xv' 9) ∧
k0_pay340 (o.xv' 9) = gelu (o.xv' 9) ∧
k0_pay341 (o.xv' 9) = multiReduction .add [1] S128 (gelu (o.xv' 9)) 0x00000000#32 reduces_S128x128_S128 (.inl rfl) rfl ∧
k0_pay344 (gelu (o.xv' 9)) (multiReduction .add [1] S128 (gelu (o.xv' 9)) 0x00000000#32 reduces_S128x128_S128 (.inl rfl) rfl) = mulf (bc 0x40000000#32) (nCen (gelu (o.xv' 9))) ∧
k0_pay345 (gelu (o.xv' 9)) (multiReduction .add [1] S128 (gelu (o.xv' 9)) 0x00000000#32 reduces_S128x128_S128 (.inl rfl) rfl) = nCen (gelu (o.xv' 9)) ∧
k0_pay347 (gelu (o.xv' 9)) (multiReduction .add [1] S128 (gelu (o.xv' 9)) 0x00000000#32 reduces_S128x128_S128 (.inl rfl) rfl) = nRs (gelu (o.xv' 9)) ∧
k0_pay348 (gelu (o.xv' 9)) (multiReduction .add [1] S128 (gelu (o.xv' 9)) 0x00000000#32 reduces_S128x128_S128 (.inl rfl) rfl) = nDr (gelu (o.xv' 9)) ∧
k0_pay349 (gelu (o.xv' 9)) (multiReduction .add [1] S128 (gelu (o.xv' 9)) 0x00000000#32 reduces_S128x128_S128 (.inl rfl) rfl) = nNrm (gelu (o.xv' 9)) ∧
k0_pay350 i0 i1 = tri ∧
k0_pay351 (o.w' 9) i0 i1 = wM (o.w' 9) ∧
k0_pay352 (o.lg' 9) (o.lb' 9) (gelu (o.xv' 9)) (multiReduction .add [1] S128 (gelu (o.xv' 9)) 0x00000000#32 reduces_S128x128_S128 (.inl rfl) rfl) = vT (gelu (o.xv' 9)) (o.lg' 9) (o.lb' 9) ∧
k0_pay353 (o.lg' 9) (o.lb' 9) (o.w' 9) (o.b' 9) i0 i1 (gelu (o.xv' 9)) (multiReduction .add [1] S128 (gelu (o.xv' 9)) 0x00000000#32 reduces_S128x128_S128 (.inl rfl) rfl) = o.sg' 9 ∧
k0_pay354 (o.lg' 9) (o.lb' 9) (o.w' 9) (o.b' 9) i0 i1 (gelu (o.xu' 9)) (gelu (o.xv' 9)) (multiReduction .add [1] S128 (gelu (o.xv' 9)) 0x00000000#32 reduces_S128x128_S128 (.inl rfl) rfl) = o.out 9 ∧
k0_pay355 (o.xu' 10) = gS (o.xu' 10) ∧
k0_pay356 (o.xu' 10) = gTanh (o.xu' 10) ∧
k0_pay357 (o.xu' 10) = gOn (o.xu' 10) ∧
k0_pay358 (gTanh (o.xu' 10)) (gOn (o.xu' 10)) = mulf (gOn (o.xu' 10)) (gNe (o.xu' 10)) ∧
k0_pay359 (gTanh (o.xu' 10)) = gHalf (o.xu' 10) ∧
k0_pay360 (o.xu' 10) (gTanh (o.xu' 10)) = gelu (o.xu' 10) ∧
k0_pay361 (o.xv' 10) = gS (o.xv' 10) ∧
k0_pay363 (o.xv' 10) = mulf (gOn (o.xv' 10)) (gNe (o.xv' 10)) ∧
k0_pay364 (o.xv' 10) = gHalf (o.xv' 10) ∧
k0_pay368 (o.xv' 10) = mulf (bc 0x40000000#32) (nCen (gelu (o.xv' 10))) ∧
k0_pay369 (o.xv' 10) = divf (sum1 (mulf (nCen (gelu (o.xv' 10))) (nCen (gelu (o.xv' 10))))) (bc1 0x43000000#32) ∧
k0_pay370 (o.xv' 10) = nCen (gelu (o.xv' 10)) ∧
k0_pay372 (divf (sum1 (mulf (nCen (gelu (o.xv' 10))) (nCen (gelu (o.xv' 10))))) (bc1 0x43000000#32)) (Scalar.ofBits .f32 0x358637BD#32) = nRs (gelu (o.xv' 10)) ∧
k0_pay373 (divf (sum1 (mulf (nCen (gelu (o.xv' 10))) (nCen (gelu (o.xv' 10))))) (bc1 0x43000000#32)) (Scalar.ofBits .f32 0x358637BD#32) = nDr (gelu (o.xv' 10)) ∧
k0_pay374 (divf (sum1 (mulf (nCen (gelu (o.xv' 10))) (nCen (gelu (o.xv' 10))))) (bc1 0x43000000#32)) (nCen (gelu (o.xv' 10))) (Scalar.ofBits .f32 0x358637BD#32) = nNrm (gelu (o.xv' 10)) ∧
k0_pay375 i0 i1 = tri ∧
k0_pay376 (o.w' 10) i0 i1 = wM (o.w' 10) ∧
k0_pay377 (o.lg' 10) (o.lb' 10) (divf (sum1 (mulf (nCen (gelu (o.xv' 10))) (nCen (gelu (o.xv' 10))))) (bc1 0x43000000#32)) (nCen (gelu (o.xv' 10))) (Scalar.ofBits .f32 0x358637BD#32) = vT (gelu (o.xv' 10)) (o.lg' 10) (o.lb' 10) ∧
k0_pay378 (o.lg' 10) (o.lb' 10) (o.w' 10) (o.b' 10) i0 i1 (divf (sum1 (mulf (nCen (gelu (o.xv' 10))) (nCen (gelu (o.xv' 10))))) (bc1 0x43000000#32)) (nCen (gelu (o.xv' 10))) (Scalar.ofBits .f32 0x358637BD#32) = o.sg' 10 := by
  and_intros <;> intros <;> rfl
theorem pays8 :
  k0_pay379 (o.lg' 10) (o.lb' 10) (o.w' 10) (o.b' 10) i0 i1 (gelu (o.xu' 10)) (divf (sum1 (mulf (nCen (gelu (o.xv' 10))) (nCen (gelu (o.xv' 10))))) (bc1 0x43000000#32)) (nCen (gelu (o.xv' 10))) (Scalar.ofBits .f32 0x358637BD#32) = o.out 10 ∧
k0_pay380 (o.xu' 11) = gS (o.xu' 11) ∧
k0_pay382 (o.xu' 11) = mulf (gOn (o.xu' 11)) (gNe (o.xu' 11)) ∧
k0_pay383 (o.xu' 11) = gHalf (o.xu' 11) ∧
k0_pay384 (o.xu' 11) = gelu (o.xu' 11) ∧
k0_pay385 (o.xv' 11) = mulf (o.xv' 11) (mulf (o.xv' 11) (o.xv' 11)) ∧
k0_pay386 (o.xv' 11) = gS (o.xv' 11) ∧
k0_pay387 (F := F) = bc 0x3D372713#32 ∧
k0_pay389 (o.xv' 11) (mulf (o.xv' 11) (mulf (o.xv' 11) (o.xv' 11))) (bc 0x3D372713#32) = mulf (gOn (o.xv' 11)) (gNe (o.xv' 11)) ∧
k0_pay390 (o.xv' 11) (mulf (o.xv' 11) (mulf (o.xv' 11) (o.xv' 11))) (bc 0x3D372713#32) = gHalf (o.xv' 11) ∧
k0_pay394 (o.xv' 11) (mulf (o.xv' 11) (mulf (o.xv' 11) (o.xv' 11))) (bc 0x3D372713#32) = mulf (bc 0x40000000#32) (nCen (gelu (o.xv' 11))) ∧
k0_pay395 (o.xv' 11) (mulf (o.xv' 11) (mulf (o.xv' 11) (o.xv' 11))) (bc 0x3D372713#32) = nCen (gelu (o.xv' 11)) ∧
k0_pay397 (o.xv' 11) (mulf (o.xv' 11) (mulf (o.xv' 11) (o.xv' 11))) (bc 0x3D372713#32) = nRs (gelu (o.xv' 11)) ∧
k0_pay398 (o.xv' 11) (mulf (o.xv' 11) (mulf (o.xv' 11) (o.xv' 11))) (bc 0x3D372713#32) = nDr (gelu (o.xv' 11)) ∧
k0_pay399 (o.xv' 11) (mulf (o.xv' 11) (mulf (o.xv' 11) (o.xv' 11))) (bc 0x3D372713#32) = nNrm (gelu (o.xv' 11)) ∧
k0_pay400 i0 i1 = tri ∧
k0_pay401 (o.w' 11) i0 i1 = wM (o.w' 11) ∧
k0_pay402 (o.xv' 11) (o.lg' 11) (o.lb' 11) (mulf (o.xv' 11) (mulf (o.xv' 11) (o.xv' 11))) (bc 0x3D372713#32) = vT (gelu (o.xv' 11)) (o.lg' 11) (o.lb' 11) ∧
k0_pay403 (o.b' 11) (wM (o.w' 11)) (vT (gelu (o.xv' 11)) (o.lg' 11) (o.lb' 11)) = o.sg' 11 ∧
k0_pay404 (o.b' 11) (gelu (o.xu' 11)) (wM (o.w' 11)) (vT (gelu (o.xv' 11)) (o.lg' 11) (o.lb' 11)) = o.out 11 ∧
k0_pay405 (o.xu' 12) = gS (o.xu' 12) ∧
k0_pay407 (o.xu' 12) = mulf (gOn (o.xu' 12)) (gNe (o.xu' 12)) ∧
k0_pay408 (o.xu' 12) = gHalf (o.xu' 12) ∧
k0_pay409 (o.xu' 12) = gelu (o.xu' 12) ∧
k0_pay410 (o.xv' 12) = gS (o.xv' 12) ∧
k0_pay412 (o.xv' 12) = mulf (gOn (o.xv' 12)) (gNe (o.xv' 12)) ∧
k0_pay413 (o.xv' 12) = gHalf (o.xv' 12) ∧
k0_pay417 (o.xv' 12) (gHalf (o.xv' 12)) = mulf (bc 0x40000000#32) (nCen (gelu (o.xv' 12))) ∧
k0_pay418 (o.xv' 12) (gHalf (o.xv' 12)) = nCen (gelu (o.xv' 12)) ∧
k0_pay420 (o.xv' 12) (gHalf (o.xv' 12)) = nRs (gelu (o.xv' 12)) ∧
k0_pay421 (o.xv' 12) (gHalf (o.xv' 12)) = nDr (gelu (o.xv' 12)) ∧
k0_pay422 (o.xv' 12) (gHalf (o.xv' 12)) = nNrm (gelu (o.xv' 12)) ∧
k0_pay423 i0 i1 = tri ∧
k0_pay424 (o.w' 12) i0 i1 = wM (o.w' 12) ∧
k0_pay425 (o.xv' 12) (o.lg' 12) (o.lb' 12) (gHalf (o.xv' 12)) = vT (gelu (o.xv' 12)) (o.lg' 12) (o.lb' 12) ∧
k0_pay426 (o.xv' 12) (o.lg' 12) (o.lb' 12) (o.w' 12) (o.b' 12) i0 i1 (gHalf (o.xv' 12)) = o.sg' 12 ∧
k0_pay427 (o.xv' 12) (o.lg' 12) (o.lb' 12) (o.w' 12) (o.b' 12) i0 i1 (gelu (o.xu' 12)) (gHalf (o.xv' 12)) = o.out 12 ∧
k0_pay428 (o.xu' 13) = gS (o.xu' 13) ∧
k0_pay429 (o.xu' 13) = gTanh (o.xu' 13) ∧
k0_pay430 (gTanh (o.xu' 13)) = mulf (gOn (o.xu' 13)) (gNe (o.xu' 13)) := by
  and_intros <;> intros <;> rfl
theorem pays9 :
  k0_pay431 (gTanh (o.xu' 13)) = gHalf (o.xu' 13) ∧
k0_pay432 (o.xu' 13) (gTanh (o.xu' 13)) = gelu (o.xu' 13) ∧
k0_pay433 (o.xv' 13) = gS (o.xv' 13) ∧
k0_pay435 (o.xv' 13) = mulf (gOn (o.xv' 13)) (gNe (o.xv' 13)) ∧
k0_pay436 (o.xv' 13) = gHalf (o.xv' 13) ∧
k0_pay437 (o.xv' 13) = gelu (o.xv' 13) ∧
k0_pay438 (o.xv' 13) = nMu (gelu (o.xv' 13)) ∧
k0_pay440 (o.xv' 13) = mulf (bc 0x40000000#32) (nCen (gelu (o.xv' 13))) ∧
k0_pay441 (o.xv' 13) = divf (sum1 (mulf (nCen (gelu (o.xv' 13))) (nCen (gelu (o.xv' 13))))) (bc1 0x43000000#32) ∧
k0_pay442 (gelu (o.xv' 13)) (nMu (gelu (o.xv' 13))) = nCen (gelu (o.xv' 13)) ∧
k0_pay444 (divf (sum1 (mulf (nCen (gelu (o.xv' 13))) (nCen (gelu (o.xv' 13))))) (bc1 0x43000000#32)) = nRs (gelu (o.xv' 13)) ∧
k0_pay445 (divf (sum1 (mulf (nCen (gelu (o.xv' 13))) (nCen (gelu (o.xv' 13))))) (bc1 0x43000000#32)) = nDr (gelu (o.xv' 13)) ∧
k0_pay446 (gelu (o.xv' 13)) (nMu (gelu (o.xv' 13))) (divf (sum1 (mulf (nCen (gelu (o.xv' 13))) (nCen (gelu (o.xv' 13))))) (bc1 0x43000000#32)) = nNrm (gelu (o.xv' 13)) ∧
k0_pay447 i0 i1 = tri ∧
k0_pay448 (o.w' 13) i0 i1 = wM (o.w' 13) ∧
k0_pay449 (o.lg' 13) (o.lb' 13) (gelu (o.xv' 13)) (nMu (gelu (o.xv' 13))) (divf (sum1 (mulf (nCen (gelu (o.xv' 13))) (nCen (gelu (o.xv' 13))))) (bc1 0x43000000#32)) = vT (gelu (o.xv' 13)) (o.lg' 13) (o.lb' 13) ∧
k0_pay450 (o.lg' 13) (o.lb' 13) (o.w' 13) (o.b' 13) i0 i1 (gelu (o.xv' 13)) (nMu (gelu (o.xv' 13))) (divf (sum1 (mulf (nCen (gelu (o.xv' 13))) (nCen (gelu (o.xv' 13))))) (bc1 0x43000000#32)) = o.sg' 13 ∧
k0_pay451 (o.lg' 13) (o.lb' 13) (o.w' 13) (o.b' 13) i0 i1 (gelu (o.xu' 13)) (gelu (o.xv' 13)) (nMu (gelu (o.xv' 13))) (divf (sum1 (mulf (nCen (gelu (o.xv' 13))) (nCen (gelu (o.xv' 13))))) (bc1 0x43000000#32)) = o.out 13 ∧
k0_pay452 (o.xu' 14) = gS (o.xu' 14) ∧
k0_pay454 (o.xu' 14) = mulf (gOn (o.xu' 14)) (gNe (o.xu' 14)) ∧
k0_pay455 (o.xu' 14) = gHalf (o.xu' 14) ∧
k0_pay456 (o.xu' 14) = gelu (o.xu' 14) ∧
k0_pay457 (o.xv' 14) = mulf (o.xv' 14) (mulf (o.xv' 14) (o.xv' 14)) ∧
k0_pay458 (o.xv' 14) = mulf (o.xv' 14) (o.xv' 14) ∧
k0_pay459 (F := F) = bc 0x40400000#32 ∧
k0_pay460 (mulf (o.xv' 14) (o.xv' 14)) (bc 0x40400000#32) = gS (o.xv' 14) ∧
k0_pay462 (o.xv' 14) (mulf (o.xv' 14) (mulf (o.xv' 14) (o.xv' 14))) = mulf (gOn (o.xv' 14)) (gNe (o.xv' 14)) ∧
k0_pay463 (o.xv' 14) (mulf (o.xv' 14) (mulf (o.xv' 14) (o.xv' 14))) = gHalf (o.xv' 14) ∧
k0_pay467 (o.xv' 14) (mulf (o.xv' 14) (mulf (o.xv' 14) (o.xv' 14))) = mulf (bc 0x40000000#32) (nCen (gelu (o.xv' 14))) ∧
k0_pay468 (o.xv' 14) (mulf (o.xv' 14) (mulf (o.xv' 14) (o.xv' 14))) = nCen (gelu (o.xv' 14)) ∧
k0_pay470 (o.xv' 14) (mulf (o.xv' 14) (mulf (o.xv' 14) (o.xv' 14))) = nRs (gelu (o.xv' 14)) ∧
k0_pay471 (o.xv' 14) (mulf (o.xv' 14) (mulf (o.xv' 14) (o.xv' 14))) = nDr (gelu (o.xv' 14)) ∧
k0_pay472 (o.xv' 14) (mulf (o.xv' 14) (mulf (o.xv' 14) (o.xv' 14))) = nNrm (gelu (o.xv' 14)) ∧
k0_pay473 (o.xv' 14) (o.lg' 14) (o.lb' 14) (mulf (o.xv' 14) (mulf (o.xv' 14) (o.xv' 14))) = nOut (gelu (o.xv' 14)) (o.lg' 14) (o.lb' 14) ∧
k0_pay474 i0 i1 = tri ∧
k0_pay475 (F := F) = bc 0x00000000#32 ∧
k0_pay476 (o.w' 14) tri (bc 0x00000000#32) = wM (o.w' 14) ∧
k0_pay477 (nOut (gelu (o.xv' 14)) (o.lg' 14) (o.lb' 14)) = vT (gelu (o.xv' 14)) (o.lg' 14) (o.lb' 14) ∧
k0_pay478 (o.w' 14) (o.b' 14) (nOut (gelu (o.xv' 14)) (o.lg' 14) (o.lb' 14)) tri (bc 0x00000000#32) = o.sg' 14 ∧
k0_pay479 (o.w' 14) (o.b' 14) (gelu (o.xu' 14)) (nOut (gelu (o.xv' 14)) (o.lg' 14) (o.lb' 14)) tri (bc 0x00000000#32) = o.out 14 := by
  and_intros <;> intros <;> rfl
theorem pays10 :
  k0_pay480 (o.xu' 15) = gS (o.xu' 15) ∧
k0_pay482 (o.xu' 15) = mulf (gOn (o.xu' 15)) (gNe (o.xu' 15)) ∧
k0_pay483 (o.xu' 15) = gHalf (o.xu' 15) ∧
k0_pay484 (o.xu' 15) = gelu (o.xu' 15) ∧
k0_pay485 (o.xv' 15) = gS (o.xv' 15) ∧
k0_pay487 (o.xv' 15) = mulf (gOn (o.xv' 15)) (gNe (o.xv' 15)) ∧
k0_pay488 (o.xv' 15) = gOn (o.xv' 15) ∧
k0_pay489 (gOn (o.xv' 15)) = gHalf (o.xv' 15) ∧
k0_pay493 (o.xv' 15) (gOn (o.xv' 15)) = mulf (bc 0x40000000#32) (nCen (gelu (o.xv' 15))) ∧
k0_pay494 (o.xv' 15) (gOn (o.xv' 15)) = nCen (gelu (o.xv' 15)) ∧
k0_pay496 (o.xv' 15) (gOn (o.xv' 15)) = nRs (gelu (o.xv' 15)) ∧
k0_pay497 (o.xv' 15) (gOn (o.xv' 15)) = nDr (gelu (o.xv' 15)) ∧
k0_pay498 (o.xv' 15) (gOn (o.xv' 15)) = nNrm (gelu (o.xv' 15)) ∧
k0_pay499 i0 i1 = tri ∧
k0_pay500 (o.w' 15) i0 i1 = wM (o.w' 15) ∧
k0_pay501 (o.xv' 15) (o.lg' 15) (o.lb' 15) (gOn (o.xv' 15)) = vT (gelu (o.xv' 15)) (o.lg' 15) (o.lb' 15) ∧
k0_pay502 (o.xv' 15) (o.lg' 15) (o.lb' 15) (o.w' 15) (o.b' 15) i0 i1 (gOn (o.xv' 15)) = o.sg' 15 ∧
k0_pay503 (o.xv' 15) (o.lg' 15) (o.lb' 15) (o.w' 15) (o.b' 15) i0 i1 (o.out 0) (o.out 1) (o.out 2) (o.out 3) (o.out 4) (o.out 5) (o.out 6) (o.out 7) (o.out 8) (o.out 9) (o.out 10) (o.out 11) (o.out 12) (o.out 13) (o.out 14) (gelu (o.xu' 15)) (gOn (o.xv' 15)) = o.Y ∧
k0_pay504 (o.xv' 15) (o.lg' 15) (o.lb' 15) (o.w' 15) (o.b' 15) i0 i1 (o.out 0) (o.out 1) (o.out 2) (o.out 3) (o.out 4) (o.out 5) (o.out 6) (o.out 7) (o.out 8) (o.out 9) (o.out 10) (o.out 11) (o.out 12) (o.out 13) (o.out 14) (gelu (o.xu' 15)) (gOn (o.xv' 15)) = rMe o.Y ∧
k0_pay507 o.Y (rMe o.Y) o.dy = o.dNg ∧
k0_pay509 (shapeCast S1x2048 o.ng shapeCasts_S1x2048_S1x2048) o.Y (rMe o.Y) o.dy = o.D 0 ∧
k0_pay510 (shapeCast S1x2048 o.ng shapeCasts_S1x2048_S1x2048) o.Y (rMe o.Y) o.dy = o.D 1 ∧
k0_pay511 (shapeCast S1x2048 o.ng shapeCasts_S1x2048_S1x2048) o.Y (rMe o.Y) o.dy = o.D 2 ∧
k0_pay512 (shapeCast S1x2048 o.ng shapeCasts_S1x2048_S1x2048) o.Y (rMe o.Y) o.dy = o.D 3 ∧
k0_pay513 (shapeCast S1x2048 o.ng shapeCasts_S1x2048_S1x2048) o.Y (rMe o.Y) o.dy = o.D 4 ∧
k0_pay514 (shapeCast S1x2048 o.ng shapeCasts_S1x2048_S1x2048) o.Y (rMe o.Y) o.dy = o.D 5 ∧
k0_pay515 (shapeCast S1x2048 o.ng shapeCasts_S1x2048_S1x2048) o.Y (rMe o.Y) o.dy = o.D 6 ∧
k0_pay516 (shapeCast S1x2048 o.ng shapeCasts_S1x2048_S1x2048) o.Y (rMe o.Y) o.dy = o.D 7 ∧
k0_pay517 (shapeCast S1x2048 o.ng shapeCasts_S1x2048_S1x2048) o.Y (rMe o.Y) o.dy = o.D 8 ∧
k0_pay518 (shapeCast S1x2048 o.ng shapeCasts_S1x2048_S1x2048) o.Y (rMe o.Y) o.dy = o.D 9 ∧
k0_pay519 (shapeCast S1x2048 o.ng shapeCasts_S1x2048_S1x2048) o.Y (rMe o.Y) o.dy = o.D 10 ∧
k0_pay520 (shapeCast S1x2048 o.ng shapeCasts_S1x2048_S1x2048) o.Y (rMe o.Y) o.dy = o.D 11 ∧
k0_pay521 (shapeCast S1x2048 o.ng shapeCasts_S1x2048_S1x2048) o.Y (rMe o.Y) o.dy = o.D 12 ∧
k0_pay522 (shapeCast S1x2048 o.ng shapeCasts_S1x2048_S1x2048) o.Y (rMe o.Y) o.dy = o.D 13 ∧
k0_pay523 (shapeCast S1x2048 o.ng shapeCasts_S1x2048_S1x2048) o.Y (rMe o.Y) o.dy = o.D 14 ∧
k0_pay525 (shapeCast S1x2048 o.ng shapeCasts_S1x2048_S1x2048) (gelu (o.xu' 15)) o.Y (rMe o.Y) o.dy = dsg (o.xu' 15) (o.D 15) ∧
k0_pay526 (shapeCast S1x2048 o.ng shapeCasts_S1x2048_S1x2048) (o.sg' 15) o.Y (rMe o.Y) o.dy = mulf (o.D 15) (o.sg' 15) ∧
k0_pay527 (shapeCast S1x2048 o.ng shapeCasts_S1x2048_S1x2048) (gelu (o.xu' 15)) o.Y (rMe o.Y) o.dy = o.dBs 15 ∧
k0_pay528 (shapeCast S1x2048 o.ng shapeCasts_S1x2048_S1x2048) (gelu (o.xu' 15)) (wM (o.w' 15)) o.Y (rMe o.Y) o.dy = truncf .bf16 (transpose S128x128 [1, 0] (matmul dot_S128x128_S128x128_S128x128_0_0_1_1_n_n none (dsg (o.xu' 15) (o.D 15)) (wM (o.w' 15)) (constant S128x128 .f32 0x00000000#32)) transposes_S128x128_p1_0_S128x128) bitsLt_bf16_f32 ∧
k0_pay530 tri (vT (gelu (o.xv' 15)) (o.lg' 15) (o.lb' 15)) (dsg (o.xu' 15) (o.D 15)) = o.dW 15 := by
  and_intros <;> intros <;> rfl
theorem pays11 :
  k0_pay531 (truncf .bf16 (transpose S128x128 [1, 0] (matmul dot_S128x128_S128x128_S128x128_0_0_1_1_n_n none (dsg (o.xu' 15) (o.D 15)) (wM (o.w' 15)) (constant S128x128 .f32 0x00000000#32)) transposes_S128x128_p1_0_S128x128) bitsLt_bf16_f32) = o.dLb 15 ∧
k0_pay532 (nNrm (gelu (o.xv' 15))) (truncf .bf16 (transpose S128x128 [1, 0] (matmul dot_S128x128_S128x128_S128x128_0_0_1_1_n_n none (dsg (o.xu' 15) (o.D 15)) (wM (o.w' 15)) (constant S128x128 .f32 0x00000000#32)) transposes_S128x128_p1_0_S128x128) bitsLt_bf16_f32) = o.dLg 15 ∧
k0_pay534 (o.lg' 15) (gHalf (o.xv' 15)) (mulf (bc 0x40000000#32) (nCen (gelu (o.xv' 15)))) (nCen (gelu (o.xv' 15))) (nRs (gelu (o.xv' 15))) (nDr (gelu (o.xv' 15))) (truncf .bf16 (transpose S128x128 [1, 0] (matmul dot_S128x128_S128x128_S128x128_0_0_1_1_n_n none (dsg (o.xu' 15) (o.D 15)) (wM (o.w' 15)) (constant S128x128 .f32 0x00000000#32)) transposes_S128x128_p1_0_S128x128) bitsLt_bf16_f32) = mulf (nBack (gelu (o.xv' 15)) (o.lg' 15) (o.dvn 15)) (gHalf (o.xv' 15)) ∧
k0_pay535 (o.xv' 15) (o.lg' 15) (mulf (gOn (o.xv' 15)) (gNe (o.xv' 15))) (mulf (bc 0x40000000#32) (nCen (gelu (o.xv' 15)))) (nCen (gelu (o.xv' 15))) (nRs (gelu (o.xv' 15))) (nDr (gelu (o.xv' 15))) (truncf .bf16 (transpose S128x128 [1, 0] (matmul dot_S128x128_S128x128_S128x128_0_0_1_1_n_n none (dsg (o.xu' 15) (o.D 15)) (wM (o.w' 15)) (constant S128x128 .f32 0x00000000#32)) transposes_S128x128_p1_0_S128x128) bitsLt_bf16_f32) = mulf (mulf (bc 0x3F000000#32) (mulf (o.xv' 15) (nBack (gelu (o.xv' 15)) (o.lg' 15) (o.dvn 15)))) (mulf (gOn (o.xv' 15)) (gNe (o.xv' 15))) ∧
k0_pay536 (gS (o.xv' 15)) (mulf (nBack (gelu (o.xv' 15)) (o.lg' 15) (o.dvn 15)) (gHalf (o.xv' 15))) (mulf (mulf (bc 0x3F000000#32) (mulf (o.xv' 15) (nBack (gelu (o.xv' 15)) (o.lg' 15) (o.dvn 15)))) (mulf (gOn (o.xv' 15)) (gNe (o.xv' 15)))) = o.dV 15 ∧
k0_pay537 (o.xu' 15) (gS (o.xu' 15)) (mulf (gOn (o.xu' 15)) (gNe (o.xu' 15))) (gHalf (o.xu' 15)) (mulf (o.D 15) (o.sg' 15)) = o.dU 15 ∧
k0_pay539 (o.sg' 14) (o.D 14) = mulf (o.D 14) (o.sg' 14) ∧
k0_pay540 (gelu (o.xu' 14)) (o.D 14) = o.dBs 14 ∧
k0_pay542 (gelu (o.xu' 14)) tri (vT (gelu (o.xv' 14)) (o.lg' 14) (o.lb' 14)) (o.D 14) = o.dW 14 ∧
k0_pay543 (gelu (o.xu' 14)) (wM (o.w' 14)) (o.D 14) = o.dLb 14 ∧
k0_pay544 (gelu (o.xu' 14)) (nNrm (gelu (o.xv' 14))) (wM (o.w' 14)) (o.D 14) = o.dLg 14 ∧
k0_pay546 (o.lg' 14) (gelu (o.xu' 14)) (nRs (gelu (o.xv' 14))) (wM (o.w' 14)) (o.D 14) = nB (gelu (o.xv' 14)) (o.lg' 14) (o.dvn 14) ∧
k0_pay547 (o.lg' 14) (gelu (o.xu' 14)) (nCen (gelu (o.xv' 14))) (nDr (gelu (o.xv' 14))) (wM (o.w' 14)) (o.D 14) = mulf (sum1 (mulf (nCen (gelu (o.xv' 14))) (nA (o.lg' 14) (o.dvn 14)))) (nDr (gelu (o.xv' 14))) ∧
k0_pay548 (o.lg' 14) (gelu (o.xu' 14)) (nRs (gelu (o.xv' 14))) (wM (o.w' 14)) (o.D 14) = subf (bc 0x00000000#32) (nB (gelu (o.xv' 14)) (o.lg' 14) (o.dvn 14)) ∧
k0_pay549 (o.xv' 14) (gS (o.xv' 14)) (mulf (gOn (o.xv' 14)) (gNe (o.xv' 14))) (gHalf (o.xv' 14)) (mulf (bc 0x40000000#32) (nCen (gelu (o.xv' 14)))) (nB (gelu (o.xv' 14)) (o.lg' 14) (o.dvn 14)) (mulf (sum1 (mulf (nCen (gelu (o.xv' 14))) (nA (o.lg' 14) (o.dvn 14)))) (nDr (gelu (o.xv' 14)))) (subf (bc 0x00000000#32) (nB (gelu (o.xv' 14)) (o.lg' 14) (o.dvn 14))) = o.dV 14 ∧
k0_pay550 (o.xu' 14) (gS (o.xu' 14)) (mulf (gOn (o.xu' 14)) (gNe (o.xu' 14))) (gHalf (o.xu' 14)) (mulf (o.D 14) (o.sg' 14)) = o.dU 14 ∧
k0_pay551 (gelu (o.xu' 13)) (o.D 13) = dsg (o.xu' 13) (o.D 13) ∧
k0_pay552 (o.sg' 13) (o.D 13) = mulf (o.D 13) (o.sg' 13) ∧
k0_pay553 (dsg (o.xu' 13) (o.D 13)) = o.dBs 13 ∧
k0_pay555 tri (vT (gelu (o.xv' 13)) (o.lg' 13) (o.lb' 13)) (dsg (o.xu' 13) (o.D 13)) = o.dW 13 ∧
k0_pay556 (wM (o.w' 13)) (dsg (o.xu' 13) (o.D 13)) = o.dLb 13 ∧
k0_pay557 (nNrm (gelu (o.xv' 13))) (wM (o.w' 13)) (dsg (o.xu' 13) (o.D 13)) = o.dLg 13 ∧
k0_pay558 (o.lg' 13) (mulf (bc 0x40000000#32) (nCen (gelu (o.xv' 13)))) (nCen (gelu (o.xv' 13))) (nRs (gelu (o.xv' 13))) (nDr (gelu (o.xv' 13))) (wM (o.w' 13)) (dsg (o.xu' 13) (o.D 13)) = nBack (gelu (o.xv' 13)) (o.lg' 13) (o.dvn 13) ∧
k0_pay559 (o.xv' 13) (gS (o.xv' 13)) (mulf (gOn (o.xv' 13)) (gNe (o.xv' 13))) (gHalf (o.xv' 13)) (nBack (gelu (o.xv' 13)) (o.lg' 13) (o.dvn 13)) = o.dV 13 ∧
k0_pay560 (o.xu' 13) (gS (o.xu' 13)) (mulf (gOn (o.xu' 13)) (gNe (o.xu' 13))) (gHalf (o.xu' 13)) (mulf (o.D 13) (o.sg' 13)) = o.dU 13 ∧
k0_pay562 (o.sg' 12) (o.D 12) = mulf (o.D 12) (o.sg' 12) ∧
k0_pay563 (gelu (o.xu' 12)) (o.D 12) = o.dBs 12 ∧
k0_pay565 (gelu (o.xu' 12)) tri (vT (gelu (o.xv' 12)) (o.lg' 12) (o.lb' 12)) (o.D 12) = o.dW 12 ∧
k0_pay566 (gelu (o.xu' 12)) (wM (o.w' 12)) (o.D 12) = o.dLb 12 ∧
k0_pay567 (gelu (o.xu' 12)) (nNrm (gelu (o.xv' 12))) (wM (o.w' 12)) (o.D 12) = o.dLg 12 ∧
k0_pay568 (o.lg' 12) (gelu (o.xu' 12)) (wM (o.w' 12)) (o.D 12) = nA (o.lg' 12) (o.dvn 12) ∧
k0_pay569 (o.lg' 12) (gelu (o.xu' 12)) (nCen (gelu (o.xv' 12))) (wM (o.w' 12)) (o.D 12) = sum1 (mulf (nCen (gelu (o.xv' 12))) (nA (o.lg' 12) (o.dvn 12))) ∧
k0_pay570 (o.xv' 12) (gS (o.xv' 12)) (mulf (gOn (o.xv' 12)) (gNe (o.xv' 12))) (gHalf (o.xv' 12)) (mulf (bc 0x40000000#32) (nCen (gelu (o.xv' 12)))) (nRs (gelu (o.xv' 12))) (nDr (gelu (o.xv' 12))) (nA (o.lg' 12) (o.dvn 12)) (sum1 (mulf (nCen (gelu (o.xv' 12))) (nA (o.lg' 12) (o.dvn 12)))) = o.dV 12 ∧
k0_pay571 (o.xu' 12) (mulf (gOn (o.xu' 12)) (gNe (o.xu' 12))) (mulf (o.D 12) (o.sg' 12)) = gK (o.xu' 12) (mulf (o.D 12) (o.sg' 12)) ∧
k0_pay572 (o.xu' 12) (mulf (gOn (o.xu' 12)) (gNe (o.xu' 12))) (gHalf (o.xu' 12)) (mulf (o.D 12) (o.sg' 12)) = addf (mulf (mulf (o.D 12) (o.sg' 12)) (gHalf (o.xu' 12))) (gK (o.xu' 12) (mulf (o.D 12) (o.sg' 12))) ∧
k0_pay573 (F := F) = bc 0x3D372713#32 ∧
k0_pay574 (gS (o.xu' 12)) (gK (o.xu' 12) (mulf (o.D 12) (o.sg' 12))) (addf (mulf (mulf (o.D 12) (o.sg' 12)) (gHalf (o.xu' 12))) (gK (o.xu' 12) (mulf (o.D 12) (o.sg' 12)))) (bc 0x3D372713#32) = o.dU 12 ∧
k0_pay576 (o.sg' 11) (o.D 11) = mulf (o.D 11) (o.sg' 11) ∧
k0_pay577 (gelu (o.xu' 11)) (o.D 11) = o.dBs 11 ∧
k0_pay579 (gelu (o.xu' 11)) tri (vT (gelu (o.xv' 11)) (o.lg' 11) (o.lb' 11)) (o.D 11) = o.dW 11 := by
  and_intros <;> intros <;> rfl
theorem pays12 :
  k0_pay580 (gelu (o.xu' 11)) (wM (o.w' 11)) (o.D 11) = o.dLb 11 ∧
k0_pay581 (gelu (o.xu' 11)) (nNrm (gelu (o.xv' 11))) (wM (o.w' 11)) (o.D 11) = o.dLg 11 ∧
k0_pay585 (o.lg' 11) (gelu (o.xu' 11)) (mulf (bc 0x40000000#32) (nCen (gelu (o.xv' 11)))) (nCen (gelu (o.xv' 11))) (nRs (gelu (o.xv' 11))) (nDr (gelu (o.xv' 11))) (wM (o.w' 11)) (o.D 11) = addf (nB (gelu (o.xv' 11)) (o.lg' 11) (o.dvn 11)) (nK (gelu (o.xv' 11)) (o.lg' 11) (o.dvn 11)) ∧
k0_pay586 (o.lg' 11) (gelu (o.xu' 11)) (mulf (bc 0x40000000#32) (nCen (gelu (o.xv' 11)))) (nCen (gelu (o.xv' 11))) (nRs (gelu (o.xv' 11))) (nDr (gelu (o.xv' 11))) (wM (o.w' 11)) (o.D 11) = addf (sum1 (subf (bc 0x00000000#32) (nB (gelu (o.xv' 11)) (o.lg' 11) (o.dvn 11)))) (sum1 (subf (bc 0x00000000#32) (nK (gelu (o.xv' 11)) (o.lg' 11) (o.dvn 11)))) ∧
k0_pay587 (F := F) = bc1 0x43000000#32 ∧
k0_pay588 (o.xv' 11) (gS (o.xv' 11)) (mulf (gOn (o.xv' 11)) (gNe (o.xv' 11))) (gHalf (o.xv' 11)) (addf (nB (gelu (o.xv' 11)) (o.lg' 11) (o.dvn 11)) (nK (gelu (o.xv' 11)) (o.lg' 11) (o.dvn 11))) (addf (sum1 (subf (bc 0x00000000#32) (nB (gelu (o.xv' 11)) (o.lg' 11) (o.dvn 11)))) (sum1 (subf (bc 0x00000000#32) (nK (gelu (o.xv' 11)) (o.lg' 11) (o.dvn 11))))) (bc1 0x43000000#32) = o.dV 11 ∧
k0_pay589 (o.xu' 11) (gS (o.xu' 11)) (mulf (gOn (o.xu' 11)) (gNe (o.xu' 11))) (gHalf (o.xu' 11)) (mulf (o.D 11) (o.sg' 11)) = o.dU 11 ∧
k0_pay591 (o.sg' 10) (o.D 10) = mulf (o.D 10) (o.sg' 10) ∧
k0_pay592 (gelu (o.xu' 10)) (o.D 10) = o.dBs 10 ∧
k0_pay593 (gelu (o.xu' 10)) (wM (o.w' 10)) (o.D 10) = o.dvn 10 ∧
k0_pay594 (gelu (o.xu' 10)) tri (vT (gelu (o.xv' 10)) (o.lg' 10) (o.lb' 10)) (o.D 10) = o.dW 10 ∧
k0_pay595 (gelu (o.xu' 10)) (wM (o.w' 10)) (o.D 10) = o.dLb 10 ∧
k0_pay596 (gelu (o.xu' 10)) (nNrm (gelu (o.xv' 10))) (wM (o.w' 10)) (o.D 10) = o.dLg 10 ∧
k0_pay597 (o.xv' 10) (o.lg' 10) (gS (o.xv' 10)) (mulf (gOn (o.xv' 10)) (gNe (o.xv' 10))) (gHalf (o.xv' 10)) (mulf (bc 0x40000000#32) (nCen (gelu (o.xv' 10)))) (nCen (gelu (o.xv' 10))) (nRs (gelu (o.xv' 10))) (nDr (gelu (o.xv' 10))) (o.dvn 10) = o.dV 10 ∧
k0_pay598 (gHalf (o.xu' 10)) (mulf (o.D 10) (o.sg' 10)) = mulf (mulf (o.D 10) (o.sg' 10)) (gHalf (o.xu' 10)) ∧
k0_pay599 (o.xu' 10) (mulf (gOn (o.xu' 10)) (gNe (o.xu' 10))) (mulf (o.D 10) (o.sg' 10)) = mulf (mulf (bc 0x3F000000#32) (mulf (o.xu' 10) (mulf (o.D 10) (o.sg' 10)))) (mulf (gOn (o.xu' 10)) (gNe (o.xu' 10))) ∧
k0_pay600 (gS (o.xu' 10)) (mulf (mulf (o.D 10) (o.sg' 10)) (gHalf (o.xu' 10))) (mulf (mulf (bc 0x3F000000#32) (mulf (o.xu' 10) (mulf (o.D 10) (o.sg' 10)))) (mulf (gOn (o.xu' 10)) (gNe (o.xu' 10)))) = o.dU 10 ∧
k0_pay602 (o.sg' 9) (o.D 9) = mulf (o.D 9) (o.sg' 9) ∧
k0_pay603 (gelu (o.xu' 9)) (o.D 9) = o.dBs 9 ∧
k0_pay605 (gelu (o.xu' 9)) tri (vT (gelu (o.xv' 9)) (o.lg' 9) (o.lb' 9)) (o.D 9) = o.dW 9 ∧
k0_pay606 (gelu (o.xu' 9)) (wM (o.w' 9)) (o.D 9) = o.dLb 9 ∧
k0_pay607 (gelu (o.xu' 9)) (nNrm (gelu (o.xv' 9))) (wM (o.w' 9)) (o.D 9) = o.dLg 9 ∧
k0_pay609 (o.lg' 9) (gelu (o.xu' 9)) (nRs (gelu (o.xv' 9))) (wM (o.w' 9)) (o.D 9) = nB (gelu (o.xv' 9)) (o.lg' 9) (o.dvn 9) ∧
k0_pay610 (o.lg' 9) (gelu (o.xu' 9)) (nRs (gelu (o.xv' 9))) (wM (o.w' 9)) (o.D 9) = sum1 (subf (bc 0x00000000#32) (nB (gelu (o.xv' 9)) (o.lg' 9) (o.dvn 9))) ∧
k0_pay611 (o.lg' 9) (gelu (o.xu' 9)) (mulf (bc 0x40000000#32) (nCen (gelu (o.xv' 9)))) (nCen (gelu (o.xv' 9))) (nDr (gelu (o.xv' 9))) (wM (o.w' 9)) (o.D 9) = nK (gelu (o.xv' 9)) (o.lg' 9) (o.dvn 9) ∧
k0_pay612 (o.lg' 9) (gelu (o.xu' 9)) (mulf (bc 0x40000000#32) (nCen (gelu (o.xv' 9)))) (nCen (gelu (o.xv' 9))) (nDr (gelu (o.xv' 9))) (wM (o.w' 9)) (o.D 9) = subf (bc 0x00000000#32) (nK (gelu (o.xv' 9)) (o.lg' 9) (o.dvn 9)) ∧
k0_pay613 (o.xv' 9) (gS (o.xv' 9)) (mulf (gOn (o.xv' 9)) (gNe (o.xv' 9))) (gHalf (o.xv' 9)) (nB (gelu (o.xv' 9)) (o.lg' 9) (o.dvn 9)) (sum1 (subf (bc 0x00000000#32) (nB (gelu (o.xv' 9)) (o.lg' 9) (o.dvn 9)))) (nK (gelu (o.xv' 9)) (o.lg' 9) (o.dvn 9)) (subf (bc 0x00000000#32) (nK (gelu (o.xv' 9)) (o.lg' 9) (o.dvn 9))) = o.dV 9 ∧
k0_pay614 (o.xu' 9) (gS (o.xu' 9)) (mulf (gOn (o.xu' 9)) (gNe (o.xu' 9))) (gHalf (o.xu' 9)) (mulf (o.D 9) (o.sg' 9)) = o.dU 9 ∧
k0_pay616 (o.sg' 8) (o.D 8) = mulf (o.D 8) (o.sg' 8) ∧
k0_pay617 (gelu (o.xu' 8)) (o.D 8) = o.dBs 8 ∧
k0_pay618 (gelu (o.xu' 8)) (wM (o.w' 8)) (o.D 8) = o.dvn 8 ∧
k0_pay619 (gelu (o.xu' 8)) tri (vT (gelu (o.xv' 8)) (o.lg' 8) (o.lb' 8)) (o.D 8) = o.dW 8 ∧
k0_pay620 (o.dvn 8) = o.dLb 8 ∧
k0_pay621 (nNrm (gelu (o.xv' 8))) (o.dvn 8) = o.dLg 8 ∧
k0_pay622 (o.xv' 8) (o.lg' 8) (gS (o.xv' 8)) (mulf (gOn (o.xv' 8)) (gNe (o.xv' 8))) (gHalf (o.xv' 8)) (mulf (bc 0x40000000#32) (nCen (gelu (o.xv' 8)))) (nCen (gelu (o.xv' 8))) (nRs (gelu (o.xv' 8))) (nDr (gelu (o.xv' 8))) (o.dvn 8) = o.dV 8 ∧
k0_pay623 (o.xu' 8) (gS (o.xu' 8)) (mulf (gOn (o.xu' 8)) (gNe (o.xu' 8))) (gHalf (o.xu' 8)) (mulf (o.D 8) (o.sg' 8)) = o.dU 8 ∧
k0_pay625 (o.sg' 7) (o.D 7) = mulf (o.D 7) (o.sg' 7) ∧
k0_pay626 (gelu (o.xu' 7)) (o.D 7) = o.dBs 7 ∧
k0_pay628 (gelu (o.xu' 7)) tri (vT (gelu (o.xv' 7)) (o.lg' 7) (o.lb' 7)) (o.D 7) = o.dW 7 ∧
k0_pay629 (gelu (o.xu' 7)) (wM (o.w' 7)) (o.D 7) = o.dLb 7 := by
  and_intros <;> intros <;> rfl
theorem pays13 :
  k0_pay630 (gelu (o.xu' 7)) (nNrm (gelu (o.xv' 7))) (wM (o.w' 7)) (o.D 7) = o.dLg 7 ∧
k0_pay632 (o.lg' 7) (gelu (o.xu' 7)) (nRs (gelu (o.xv' 7))) (wM (o.w' 7)) (o.D 7) = nB (gelu (o.xv' 7)) (o.lg' 7) (o.dvn 7) ∧
k0_pay633 (o.lg' 7) (gelu (o.xu' 7)) (nRs (gelu (o.xv' 7))) (wM (o.w' 7)) (o.D 7) = sum1 (subf (bc 0x00000000#32) (nB (gelu (o.xv' 7)) (o.lg' 7) (o.dvn 7))) ∧
k0_pay634 (o.lg' 7) (gelu (o.xu' 7)) (nCen (gelu (o.xv' 7))) (nDr (gelu (o.xv' 7))) (wM (o.w' 7)) (o.D 7) = sumC (divf (mulf (sum1 (mulf (nCen (gelu (o.xv' 7))) (nA (o.lg' 7) (o.dvn 7)))) (nDr (gelu (o.xv' 7)))) (bc1 0x43000000#32)) ∧
k0_pay635 (o.xv' 7) (gS (o.xv' 7)) (mulf (gOn (o.xv' 7)) (gNe (o.xv' 7))) (gHalf (o.xv' 7)) (mulf (bc 0x40000000#32) (nCen (gelu (o.xv' 7)))) (nB (gelu (o.xv' 7)) (o.lg' 7) (o.dvn 7)) (sum1 (subf (bc 0x00000000#32) (nB (gelu (o.xv' 7)) (o.lg' 7) (o.dvn 7)))) (sumC (divf (mulf (sum1 (mulf (nCen (gelu (o.xv' 7))) (nA (o.lg' 7) (o.dvn 7)))) (nDr (gelu (o.xv' 7)))) (bc1 0x43000000#32))) = o.dV 7 ∧
k0_pay636 (o.xu' 7) (gS (o.xu' 7)) (mulf (gOn (o.xu' 7)) (gNe (o.xu' 7))) (gHalf (o.xu' 7)) (mulf (o.D 7) (o.sg' 7)) = o.dU 7 ∧
k0_pay638 (o.sg' 6) (o.D 6) = mulf (o.D 6) (o.sg' 6) ∧
k0_pay639 (gelu (o.xu' 6)) (o.D 6) = o.dBs 6 ∧
k0_pay640 (gelu (o.xu' 6)) (wM (o.w' 6)) (o.D 6) = truncf .bf16 (transpose S128x128 [1, 0] (matmul dot_S128x128_S128x128_S128x128_0_0_1_1_n_n none (dsg (o.xu' 6) (o.D 6)) (wM (o.w' 6)) (constant S128x128 .f32 0x00000000#32)) transposes_S128x128_p1_0_S128x128) bitsLt_bf16_f32 ∧
k0_pay641 (gelu (o.xu' 6)) (vT (gelu (o.xv' 6)) (o.lg' 6) (o.lb' 6)) (o.D 6) = truncf .bf16 (matmul dot_S128x128_S128x128_S128x128_1_1_0_0_n_n none (dsg (o.xu' 6) (o.D 6)) (vT (gelu (o.xv' 6)) (o.lg' 6) (o.lb' 6)) (constant S128x128 .f32 0x00000000#32)) bitsLt_bf16_f32 ∧
k0_pay643 tri (truncf .bf16 (matmul dot_S128x128_S128x128_S128x128_1_1_0_0_n_n none (dsg (o.xu' 6) (o.D 6)) (vT (gelu (o.xv' 6)) (o.lg' 6) (o.lb' 6)) (constant S128x128 .f32 0x00000000#32)) bitsLt_bf16_f32) = o.dW 6 ∧
k0_pay644 (truncf .bf16 (transpose S128x128 [1, 0] (matmul dot_S128x128_S128x128_S128x128_0_0_1_1_n_n none (dsg (o.xu' 6) (o.D 6)) (wM (o.w' 6)) (constant S128x128 .f32 0x00000000#32)) transposes_S128x128_p1_0_S128x128) bitsLt_bf16_f32) = o.dLb 6 ∧
k0_pay645 (nNrm (gelu (o.xv' 6))) (truncf .bf16 (transpose S128x128 [1, 0] (matmul dot_S128x128_S128x128_S128x128_0_0_1_1_n_n none (dsg (o.xu' 6) (o.D 6)) (wM (o.w' 6)) (constant S128x128 .f32 0x00000000#32)) transposes_S128x128_p1_0_S128x128) bitsLt_bf16_f32) = o.dLg 6 ∧
k0_pay647 (o.lg' 6) (gHalf (o.xv' 6)) (mulf (bc 0x40000000#32) (nCen (gelu (o.xv' 6)))) (nCen (gelu (o.xv' 6))) (nRs (gelu (o.xv' 6))) (nDr (gelu (o.xv' 6))) (truncf .bf16 (transpose S128x128 [1, 0] (matmul dot_S128x128_S128x128_S128x128_0_0_1_1_n_n none (dsg (o.xu' 6) (o.D 6)) (wM (o.w' 6)) (constant S128x128 .f32 0x00000000#32)) transposes_S128x128_p1_0_S128x128) bitsLt_bf16_f32) = mulf (nBack (gelu (o.xv' 6)) (o.lg' 6) (o.dvn 6)) (gHalf (o.xv' 6)) ∧
k0_pay648 (o.xv' 6) (o.lg' 6) (mulf (gOn (o.xv' 6)) (gNe (o.xv' 6))) (mulf (bc 0x40000000#32) (nCen (gelu (o.xv' 6)))) (nCen (gelu (o.xv' 6))) (nRs (gelu (o.xv' 6))) (nDr (gelu (o.xv' 6))) (truncf .bf16 (transpose S128x128 [1, 0] (matmul dot_S128x128_S128x128_S128x128_0_0_1_1_n_n none (dsg (o.xu' 6) (o.D 6)) (wM (o.w' 6)) (constant S128x128 .f32 0x00000000#32)) transposes_S128x128_p1_0_S128x128) bitsLt_bf16_f32) = gK (o.xv' 6) (nBack (gelu (o.xv' 6)) (o.lg' 6) (o.dvn 6)) ∧
k0_pay649 (gS (o.xv' 6)) (mulf (nBack (gelu (o.xv' 6)) (o.lg' 6) (o.dvn 6)) (gHalf (o.xv' 6))) (gK (o.xv' 6) (nBack (gelu (o.xv' 6)) (o.lg' 6) (o.dvn 6))) = o.dV 6 ∧
k0_pay650 (o.xu' 6) (gS (o.xu' 6)) (mulf (gOn (o.xu' 6)) (gNe (o.xu' 6))) (gHalf (o.xu' 6)) (mulf (o.D 6) (o.sg' 6)) = o.dU 6 ∧
k0_pay652 (o.sg' 5) (o.D 5) = mulf (o.D 5) (o.sg' 5) ∧
k0_pay653 (gelu (o.xu' 5)) (o.D 5) = o.dBs 5 ∧
k0_pay655 (gelu (o.xu' 5)) tri (vT (gelu (o.xv' 5)) (o.lg' 5) (o.lb' 5)) (o.D 5) = o.dW 5 ∧
k0_pay656 (gelu (o.xu' 5)) (wM (o.w' 5)) (o.D 5) = o.dLb 5 ∧
k0_pay657 (gelu (o.xu' 5)) (nNrm (gelu (o.xv' 5))) (wM (o.w' 5)) (o.D 5) = o.dLg 5 ∧
k0_pay659 (o.lg' 5) (gelu (o.xu' 5)) (nRs (gelu (o.xv' 5))) (wM (o.w' 5)) (o.D 5) = nB (gelu (o.xv' 5)) (o.lg' 5) (o.dvn 5) ∧
k0_pay660 (o.lg' 5) (gelu (o.xu' 5)) (nCen (gelu (o.xv' 5))) (nDr (gelu (o.xv' 5))) (wM (o.w' 5)) (o.D 5) = mulf (sum1 (mulf (nCen (gelu (o.xv' 5))) (nA (o.lg' 5) (o.dvn 5)))) (nDr (gelu (o.xv' 5))) ∧
k0_pay661 (o.lg' 5) (gelu (o.xu' 5)) (nRs (gelu (o.xv' 5))) (wM (o.w' 5)) (o.D 5) = sum1 (subf (bc 0x00000000#32) (nB (gelu (o.xv' 5)) (o.lg' 5) (o.dvn 5))) ∧
k0_pay662 (o.xv' 5) (gS (o.xv' 5)) (mulf (gOn (o.xv' 5)) (gNe (o.xv' 5))) (gHalf (o.xv' 5)) (mulf (bc 0x40000000#32) (nCen (gelu (o.xv' 5)))) (nB (gelu (o.xv' 5)) (o.lg' 5) (o.dvn 5)) (mulf (sum1 (mulf (nCen (gelu (o.xv' 5))) (nA (o.lg' 5) (o.dvn 5)))) (nDr (gelu (o.xv' 5)))) (sum1 (subf (bc 0x00000000#32) (nB (gelu (o.xv' 5)) (o.lg' 5) (o.dvn 5)))) = o.dV 5 ∧
k0_pay663 (o.xu' 5) (gS (o.xu' 5)) (mulf (gOn (o.xu' 5)) (gNe (o.xu' 5))) (gHalf (o.xu' 5)) (mulf (o.D 5) (o.sg' 5)) = o.dU 5 ∧
k0_pay664 (gelu (o.xu' 4)) (o.D 4) = dsg (o.xu' 4) (o.D 4) ∧
k0_pay665 (o.sg' 4) (o.D 4) = mulf (o.D 4) (o.sg' 4) ∧
k0_pay666 (gelu (o.xu' 4)) (o.D 4) = o.dBs 4 ∧
k0_pay668 tri (vT (gelu (o.xv' 4)) (o.lg' 4) (o.lb' 4)) (dsg (o.xu' 4) (o.D 4)) = o.dW 4 ∧
k0_pay669 (wM (o.w' 4)) (dsg (o.xu' 4) (o.D 4)) (constant S128x128 .f32 0x00000000#32) = o.dLb 4 ∧
k0_pay670 (nNrm (gelu (o.xv' 4))) (wM (o.w' 4)) (dsg (o.xu' 4) (o.D 4)) (constant S128x128 .f32 0x00000000#32) = o.dLg 4 ∧
k0_pay672 (o.xv' 4) (o.lg' 4) (mulf (bc 0x40000000#32) (nCen (gelu (o.xv' 4)))) (nCen (gelu (o.xv' 4))) (nRs (gelu (o.xv' 4))) (nDr (gelu (o.xv' 4))) (wM (o.w' 4)) (dsg (o.xu' 4) (o.D 4)) (constant S128x128 .f32 0x00000000#32) = mulf (o.xv' 4) (nBack (gelu (o.xv' 4)) (o.lg' 4) (o.dvn 4)) ∧
k0_pay673 (o.lg' 4) (gHalf (o.xv' 4)) (mulf (bc 0x40000000#32) (nCen (gelu (o.xv' 4)))) (nCen (gelu (o.xv' 4))) (nRs (gelu (o.xv' 4))) (nDr (gelu (o.xv' 4))) (wM (o.w' 4)) (dsg (o.xu' 4) (o.D 4)) (constant S128x128 .f32 0x00000000#32) = mulf (nBack (gelu (o.xv' 4)) (o.lg' 4) (o.dvn 4)) (gHalf (o.xv' 4)) ∧
k0_pay674 (gS (o.xv' 4)) (mulf (gOn (o.xv' 4)) (gNe (o.xv' 4))) (mulf (o.xv' 4) (nBack (gelu (o.xv' 4)) (o.lg' 4) (o.dvn 4))) (mulf (nBack (gelu (o.xv' 4)) (o.lg' 4) (o.dvn 4)) (gHalf (o.xv' 4))) (Scalar.ofBits .f32 0x3F000000#32) = o.dV 4 ∧
k0_pay675 (o.xu' 4) (gS (o.xu' 4)) (mulf (gOn (o.xu' 4)) (gNe (o.xu' 4))) (gHalf (o.xu' 4)) (mulf (o.D 4) (o.sg' 4)) = o.dU 4 ∧
k0_pay677 (o.sg' 3) (o.D 3) = mulf (o.D 3) (o.sg' 3) ∧
k0_pay678 (gelu (o.xu' 3)) (o.D 3) = o.dBs 3 ∧
k0_pay680 (gelu (o.xu' 3)) tri (vT (gelu (o.xv' 3)) (o.lg' 3) (o.lb' 3)) (o.D 3) = o.dW 3 := by
  and_intros <;> intros <;> rfl
theorem pays14 :
  k0_pay681 (gelu (o.xu' 3)) (wM (o.w' 3)) (o.D 3) = o.dLb 3 ∧
k0_pay682 (gelu (o.xu' 3)) (nNrm (gelu (o.xv' 3))) (wM (o.w' 3)) (o.D 3) = o.dLg 3 ∧
k0_pay684 (o.lg' 3) (gelu (o.xu' 3)) (nRs (gelu (o.xv' 3))) (wM (o.w' 3)) (o.D 3) = nB (gelu (o.xv' 3)) (o.lg' 3) (o.dvn 3) ∧
k0_pay685 (o.lg' 3) (gelu (o.xu' 3)) (nCen (gelu (o.xv' 3))) (nDr (gelu (o.xv' 3))) (wM (o.w' 3)) (o.D 3) = mulf (sum1 (mulf (nCen (gelu (o.xv' 3))) (nA (o.lg' 3) (o.dvn 3)))) (nDr (gelu (o.xv' 3))) ∧
k0_pay686 (o.xv' 3) (gS (o.xv' 3)) (mulf (gOn (o.xv' 3)) (gNe (o.xv' 3))) (gHalf (o.xv' 3)) (mulf (bc 0x40000000#32) (nCen (gelu (o.xv' 3)))) (nB (gelu (o.xv' 3)) (o.lg' 3) (o.dvn 3)) (mulf (sum1 (mulf (nCen (gelu (o.xv' 3))) (nA (o.lg' 3) (o.dvn 3)))) (nDr (gelu (o.xv' 3)))) = o.dV 3 ∧
k0_pay687 (o.xu' 3) (gS (o.xu' 3)) (mulf (gOn (o.xu' 3)) (gNe (o.xu' 3))) (gHalf (o.xu' 3)) (mulf (o.D 3) (o.sg' 3)) = o.dU 3 ∧
k0_pay689 (o.sg' 2) (o.D 2) = mulf (o.D 2) (o.sg' 2) ∧
k0_pay690 (gelu (o.xu' 2)) (o.D 2) = o.dBs 2 ∧
k0_pay692 (gelu (o.xu' 2)) tri (vT (gelu (o.xv' 2)) (o.lg' 2) (o.lb' 2)) (o.D 2) = o.dW 2 ∧
k0_pay693 (gelu (o.xu' 2)) (wM (o.w' 2)) (o.D 2) = o.dLb 2 ∧
k0_pay694 (gelu (o.xu' 2)) (nNrm (gelu (o.xv' 2))) (wM (o.w' 2)) (o.D 2) = o.dLg 2 ∧
k0_pay698 (o.lg' 2) (gelu (o.xu' 2)) (mulf (bc 0x40000000#32) (nCen (gelu (o.xv' 2)))) (nCen (gelu (o.xv' 2))) (nRs (gelu (o.xv' 2))) (nDr (gelu (o.xv' 2))) (wM (o.w' 2)) (o.D 2) = addf (nB (gelu (o.xv' 2)) (o.lg' 2) (o.dvn 2)) (nK (gelu (o.xv' 2)) (o.lg' 2) (o.dvn 2)) ∧
k0_pay699 (o.lg' 2) (gelu (o.xu' 2)) (mulf (bc 0x40000000#32) (nCen (gelu (o.xv' 2)))) (nCen (gelu (o.xv' 2))) (nRs (gelu (o.xv' 2))) (nDr (gelu (o.xv' 2))) (wM (o.w' 2)) (o.D 2) = multiReduction .add [1] S128 (divf (addf (sum1 (subf (bc 0x00000000#32) (nB (gelu (o.xv' 2)) (o.lg' 2) (o.dvn 2)))) (sum1 (subf (bc 0x00000000#32) (nK (gelu (o.xv' 2)) (o.lg' 2) (o.dvn 2))))) (bc1 0x43000000#32)) 0x00000000#32 reduces_S128x1_S128 (.inl rfl) rfl ∧
k0_pay700 (o.xv' 2) (gS (o.xv' 2)) (mulf (gOn (o.xv' 2)) (gNe (o.xv' 2))) (gHalf (o.xv' 2)) (addf (nB (gelu (o.xv' 2)) (o.lg' 2) (o.dvn 2)) (nK (gelu (o.xv' 2)) (o.lg' 2) (o.dvn 2))) (multiReduction .add [1] S128 (divf (addf (sum1 (subf (bc 0x00000000#32) (nB (gelu (o.xv' 2)) (o.lg' 2) (o.dvn 2)))) (sum1 (subf (bc 0x00000000#32) (nK (gelu (o.xv' 2)) (o.lg' 2) (o.dvn 2))))) (bc1 0x43000000#32)) 0x00000000#32 reduces_S128x1_S128 (.inl rfl) rfl) = o.dV 2 ∧
k0_pay701 (o.xu' 2) (gS (o.xu' 2)) (mulf (gOn (o.xu' 2)) (gNe (o.xu' 2))) (gHalf (o.xu' 2)) (mulf (o.D 2) (o.sg' 2)) = o.dU 2 ∧
k0_pay703 (o.sg' 1) (o.D 1) = mulf (o.D 1) (o.sg' 1) ∧
k0_pay704 (gelu (o.xu' 1)) (o.D 1) = o.dBs 1 ∧
k0_pay706 (gelu (o.xu' 1)) tri (vT (gelu (o.xv' 1)) (o.lg' 1) (o.lb' 1)) (o.D 1) = o.dW 1 ∧
k0_pay707 (gelu (o.xu' 1)) (wM (o.w' 1)) (o.D 1) = o.dLb 1 ∧
k0_pay708 (gelu (o.xu' 1)) (nNrm (gelu (o.xv' 1))) (wM (o.w' 1)) (o.D 1) = o.dLg 1 ∧
k0_pay709 (o.lg' 1) (gelu (o.xu' 1)) (wM (o.w' 1)) (o.D 1) = nA (o.lg' 1) (o.dvn 1) ∧
k0_pay710 (o.lg' 1) (gelu (o.xu' 1)) (nCen (gelu (o.xv' 1))) (wM (o.w' 1)) (o.D 1) = mulf (nCen (gelu (o.xv' 1))) (nA (o.lg' 1) (o.dvn 1)) ∧
k0_pay711 (o.xv' 1) (gS (o.xv' 1)) (mulf (gOn (o.xv' 1)) (gNe (o.xv' 1))) (gHalf (o.xv' 1)) (mulf (bc 0x40000000#32) (nCen (gelu (o.xv' 1)))) (nRs (gelu (o.xv' 1))) (nDr (gelu (o.xv' 1))) (nA (o.lg' 1) (o.dvn 1)) (mulf (nCen (gelu (o.xv' 1))) (nA (o.lg' 1) (o.dvn 1))) = o.dV 1 ∧
k0_pay712 (gHalf (o.xu' 1)) (mulf (o.D 1) (o.sg' 1)) = mulf (mulf (o.D 1) (o.sg' 1)) (gHalf (o.xu' 1)) ∧
k0_pay713 (o.xu' 1) (mulf (gOn (o.xu' 1)) (gNe (o.xu' 1))) (mulf (o.D 1) (o.sg' 1)) = gK (o.xu' 1) (mulf (o.D 1) (o.sg' 1)) ∧
k0_pay714 (gS (o.xu' 1)) (mulf (mulf (o.D 1) (o.sg' 1)) (gHalf (o.xu' 1))) (gK (o.xu' 1) (mulf (o.D 1) (o.sg' 1))) = o.dU 1 ∧
k0_pay716 (o.sg' 0) (o.D 0) = mulf (o.D 0) (o.sg' 0) ∧
k0_pay717 (gelu (o.xu' 0)) (o.D 0) = o.dBs 0 ∧
k0_pay719 (gelu (o.xu' 0)) tri (vT (gelu (o.xv' 0)) (o.lg' 0) (o.lb' 0)) (o.D 0) = o.dW 0 ∧
k0_pay720 (gelu (o.xu' 0)) (wM (o.w' 0)) (o.D 0) = o.dLb 0 ∧
k0_pay721 (gelu (o.xu' 0)) (nNrm (gelu (o.xv' 0))) (wM (o.w' 0)) (o.D 0) = o.dLg 0 ∧
k0_pay724 (o.lg' 0) (gelu (o.xu' 0)) (nRs (gelu (o.xv' 0))) (wM (o.w' 0)) (o.D 0) = sum1 (subf (bc 0x00000000#32) (nB (gelu (o.xv' 0)) (o.lg' 0) (o.dvn 0))) ∧
k0_pay726 (o.lg' 0) (gelu (o.xu' 0)) (mulf (bc 0x40000000#32) (nCen (gelu (o.xv' 0)))) (nCen (gelu (o.xv' 0))) (nDr (gelu (o.xv' 0))) (wM (o.w' 0)) (o.D 0) = sum1 (subf (bc 0x00000000#32) (nK (gelu (o.xv' 0)) (o.lg' 0) (o.dvn 0))) ∧
k0_pay727 (o.lg' 0) (gelu (o.xu' 0)) (mulf (bc 0x40000000#32) (nCen (gelu (o.xv' 0)))) (nCen (gelu (o.xv' 0))) (nRs (gelu (o.xv' 0))) (nDr (gelu (o.xv' 0))) (wM (o.w' 0)) (o.D 0) = addf (nB (gelu (o.xv' 0)) (o.lg' 0) (o.dvn 0)) (nK (gelu (o.xv' 0)) (o.lg' 0) (o.dvn 0)) ∧
k0_pay728 (F := F) = bc 0x00000000#32 ∧
k0_pay729 (o.xu' 0) (gS (o.xu' 0)) (mulf (gOn (o.xu' 0)) (gNe (o.xu' 0))) (gHalf (o.xu' 0)) (mulf (o.D 0) (o.sg' 0)) = truncf .bf16 (o.dU 0) bitsLt_bf16_f32 ∧
k0_pay730 (o.xv' 0) (gS (o.xv' 0)) (mulf (gOn (o.xv' 0)) (gNe (o.xv' 0))) (gHalf (o.xv' 0)) (sum1 (subf (bc 0x00000000#32) (nB (gelu (o.xv' 0)) (o.lg' 0) (o.dvn 0)))) (sum1 (subf (bc 0x00000000#32) (nK (gelu (o.xv' 0)) (o.lg' 0) (o.dvn 0)))) (addf (nB (gelu (o.xv' 0)) (o.lg' 0) (o.dvn 0)) (nK (gelu (o.xv' 0)) (o.lg' 0) (o.dvn 0))) = truncf .bf16 (o.dV 0) bitsLt_bf16_f32 ∧
(∀ (z : Vec F S1x128 .f32), k0_pay731 (o.dLg 0) z = (addf (shapeCast S1x128 z shapeCasts_S1x128_S1x128) (o.dLg 0))) ∧
(∀ (z : Vec F S1x128 .f32), k0_pay732 (o.dLb 0) z = (addf (shapeCast S1x128 z shapeCasts_S1x128_S1x128) (o.dLb 0))) ∧
(∀ (z : Vec F S1x128x128 .f32), k0_pay733 (o.dW 0) z = (shapeCast S1x128x128 (addf (shapeCast S128x128 z shapeCasts_S1x128x128_S128x128) (o.dW 0)) shapeCasts_S128x128_S1x128x128)) := by
  and_intros <;> intros <;> rfl
theorem pays15 :
  k0_pay734 (o.dBs 0) iL (bc 0x00000000#32) = o.dB 1 (by omega) ∧
k0_pay735 (o.dU 1) = truncf .bf16 (o.dU 1) bitsLt_bf16_f32 ∧
k0_pay736 (o.dV 1) = truncf .bf16 (o.dV 1) bitsLt_bf16_f32 ∧
(∀ (z : Vec F S1x128 .f32), k0_pay737 (o.dLg 1) z = (addf (shapeCast S1x128 z shapeCasts_S1x128_S1x128) (o.dLg 1))) ∧
(∀ (z : Vec F S1x128 .f32), k0_pay738 (o.dLb 1) z = (addf (shapeCast S1x128 z shapeCasts_S1x128_S1x128) (o.dLb 1))) ∧
(∀ (z : Vec F S1x128x128 .f32), k0_pay739 (o.dW 1) z = (shapeCast S1x128x128 (addf (shapeCast S128x128 z shapeCasts_S1x128x128_S128x128) (o.dW 1)) shapeCasts_S128x128_S1x128x128)) ∧
k0_pay740 (o.dBs 1) iL (o.dB 1 (by omega)) = o.dB 2 (by omega) ∧
k0_pay741 (o.dU 2) = truncf .bf16 (o.dU 2) bitsLt_bf16_f32 ∧
k0_pay742 (o.dV 2) = truncf .bf16 (o.dV 2) bitsLt_bf16_f32 ∧
(∀ (z : Vec F S1x128 .f32), k0_pay743 (o.dLg 2) z = (addf (shapeCast S1x128 z shapeCasts_S1x128_S1x128) (o.dLg 2))) ∧
(∀ (z : Vec F S1x128 .f32), k0_pay744 (o.dLb 2) z = (addf (shapeCast S1x128 z shapeCasts_S1x128_S1x128) (o.dLb 2))) ∧
(∀ (z : Vec F S1x128x128 .f32), k0_pay745 (o.dW 2) z = (addf (shapeCast S128x128 z shapeCasts_S1x128x128_S128x128) (o.dW 2))) ∧
(∀ (z : Vec F S1x128x128 .f32), k0_pay746 (addf (shapeCast S128x128 z shapeCasts_S1x128x128_S128x128) (o.dW 2)) = (shapeCast S1x128x128 (addf (shapeCast S128x128 z shapeCasts_S1x128x128_S128x128) (o.dW 2)) shapeCasts_S128x128_S1x128x128)) ∧
k0_pay747 (o.dBs 2) iL (o.dB 2 (by omega)) = o.dB 3 (by omega) ∧
k0_pay748 (o.dU 3) = truncf .bf16 (o.dU 3) bitsLt_bf16_f32 ∧
k0_pay749 (o.dV 3) = truncf .bf16 (o.dV 3) bitsLt_bf16_f32 ∧
(∀ (z : Vec F S1x128 .f32), k0_pay750 (o.dLg 3) z = (addf (shapeCast S1x128 z shapeCasts_S1x128_S1x128) (o.dLg 3))) ∧
(∀ (z : Vec F S1x128 .f32), k0_pay751 (o.dLb 3) z = (addf (shapeCast S1x128 z shapeCasts_S1x128_S1x128) (o.dLb 3))) ∧
(∀ (z : Vec F S1x128x128 .f32), k0_pay752 (o.dW 3) z = (shapeCast S1x128x128 (addf (shapeCast S128x128 z shapeCasts_S1x128x128_S128x128) (o.dW 3)) shapeCasts_S128x128_S1x128x128)) ∧
k0_pay753 (o.dBs 3) = bR (o.dBs 3) ∧
k0_pay754 (F := F) iL = bL (sitofp .f32 (extui 32 (cmpi .eq iL (broadcast S1x128 3#32)) natLt_1_32)) ∧
k0_pay755 (o.dU 4) = truncf .bf16 (o.dU 4) bitsLt_bf16_f32 ∧
k0_pay756 (o.dV 4) = truncf .bf16 (o.dV 4) bitsLt_bf16_f32 ∧
(∀ (z : Vec F S1x128 .f32), k0_pay757 (o.dLg 4) z = (addf (shapeCast S1x128 z shapeCasts_S1x128_S1x128) (o.dLg 4))) ∧
(∀ (z : Vec F S1x128 .f32), k0_pay758 (o.dLb 4) z = (addf (shapeCast S1x128 z shapeCasts_S1x128_S1x128) (o.dLb 4))) ∧
(∀ (z : Vec F S1x128x128 .f32), k0_pay759 (o.dW 4) z = (shapeCast S1x128x128 (addf (shapeCast S128x128 z shapeCasts_S1x128x128_S128x128) (o.dW 4)) shapeCasts_S128x128_S1x128x128)) ∧
k0_pay760 (o.dBs 4) iL (o.dB 3 (by omega)) (bR (o.dBs 3)) (bL (sitofp .f32 (extui 32 (cmpi .eq iL (broadcast S1x128 3#32)) natLt_1_32))) = o.dB 5 (by omega) ∧
k0_pay761 (o.dU 5) = truncf .bf16 (o.dU 5) bitsLt_bf16_f32 ∧
k0_pay762 (o.dV 5) = truncf .bf16 (o.dV 5) bitsLt_bf16_f32 ∧
(∀ (z : Vec F S1x128 .f32), k0_pay763 (o.dLg 5) z = (addf (shapeCast S1x128 z shapeCasts_S1x128_S1x128) (o.dLg 5))) ∧
(∀ (z : Vec F S1x128 .f32), k0_pay764 (o.dLb 5) z = (addf (shapeCast S1x128 z shapeCasts_S1x128_S1x128) (o.dLb 5))) ∧
(∀ (z : Vec F S1x128x128 .f32), k0_pay765 (o.dW 5) z = (shapeCast S1x128x128 (addf (shapeCast S128x128 z shapeCasts_S1x128x128_S128x128) (o.dW 5)) shapeCasts_S128x128_S1x128x128)) ∧
k0_pay766 (o.dBs 5) iL (o.dB 5 (by omega)) = o.dB 6 (by omega) ∧
k0_pay767 (o.dU 6) = truncf .bf16 (o.dU 6) bitsLt_bf16_f32 ∧
k0_pay768 (o.dV 6) = truncf .bf16 (o.dV 6) bitsLt_bf16_f32 ∧
(∀ (z : Vec F S1x128 .f32), k0_pay769 (o.dLg 6) z = (addf (shapeCast S1x128 z shapeCasts_S1x128_S1x128) (o.dLg 6))) ∧
(∀ (z : Vec F S1x128 .f32), k0_pay770 (o.dLb 6) z = (addf (shapeCast S1x128 z shapeCasts_S1x128_S1x128) (o.dLb 6))) ∧
(∀ (z : Vec F S1x128x128 .f32), k0_pay771 (o.dW 6) z = (shapeCast S1x128x128 (addf (shapeCast S128x128 z shapeCasts_S1x128x128_S128x128) (o.dW 6)) shapeCasts_S128x128_S1x128x128)) ∧
k0_pay772 (o.dBs 6) iL (o.dB 6 (by omega)) = o.dB 7 (by omega) ∧
k0_pay773 (o.dU 7) = truncf .bf16 (o.dU 7) bitsLt_bf16_f32 := by
  and_intros <;> intros <;> rfl
theorem pays16 :
  k0_pay774 (o.dV 7) = truncf .bf16 (o.dV 7) bitsLt_bf16_f32 ∧
(∀ (z : Vec F S1x128 .f32), k0_pay775 (o.dLg 7) z = (addf (shapeCast S1x128 z shapeCasts_S1x128_S1x128) (o.dLg 7))) ∧
(∀ (z : Vec F S1x128 .f32), k0_pay776 (o.dLb 7) z = (addf (shapeCast S1x128 z shapeCasts_S1x128_S1x128) (o.dLb 7))) ∧
(∀ (z : Vec F S1x128x128 .f32), k0_pay777 (o.dW 7) z = (shapeCast S1x128x128 (addf (shapeCast S128x128 z shapeCasts_S1x128x128_S128x128) (o.dW 7)) shapeCasts_S128x128_S1x128x128)) ∧
k0_pay778 (o.dBs 7) iL (o.dB 7 (by omega)) = o.dB 8 (by omega) ∧
k0_pay779 (o.dU 8) = truncf .bf16 (o.dU 8) bitsLt_bf16_f32 ∧
k0_pay780 (o.dV 8) = truncf .bf16 (o.dV 8) bitsLt_bf16_f32 ∧
(∀ (z : Vec F S1x128 .f32), k0_pay781 (o.dLg 8) z = (addf (shapeCast S1x128 z shapeCasts_S1x128_S1x128) (o.dLg 8))) ∧
(∀ (z : Vec F S1x128 .f32), k0_pay782 (o.dLb 8) z = (addf (shapeCast S1x128 z shapeCasts_S1x128_S1x128) (o.dLb 8))) ∧
(∀ (z : Vec F S1x128x128 .f32), k0_pay783 (o.dW 8) z = (addf (shapeCast S128x128 z shapeCasts_S1x128x128_S128x128) (o.dW 8))) ∧
(∀ (z : Vec F S1x128x128 .f32), k0_pay784 (addf (shapeCast S128x128 z shapeCasts_S1x128x128_S128x128) (o.dW 8)) = (shapeCast S1x128x128 (addf (shapeCast S128x128 z shapeCasts_S1x128x128_S128x128) (o.dW 8)) shapeCasts_S128x128_S1x128x128)) ∧
k0_pay785 (o.dBs 8) iL (o.dB 8 (by omega)) = o.dB 9 (by omega) ∧
k0_pay786 (o.dU 9) = truncf .bf16 (o.dU 9) bitsLt_bf16_f32 ∧
k0_pay787 (o.dV 9) = truncf .bf16 (o.dV 9) bitsLt_bf16_f32 ∧
(∀ (z : Vec F S1x128 .f32), k0_pay788 (o.dLg 9) z = (addf (shapeCast S1x128 z shapeCasts_S1x128_S1x128) (o.dLg 9))) ∧
(∀ (z : Vec F S1x128 .f32), k0_pay789 (o.dLb 9) z = (addf (shapeCast S1x128 z shapeCasts_S1x128_S1x128) (o.dLb 9))) ∧
(∀ (z : Vec F S1x128x128 .f32), k0_pay790 (o.dW 9) z = (shapeCast S1x128x128 (addf (shapeCast S128x128 z shapeCasts_S1x128x128_S128x128) (o.dW 9)) shapeCasts_S128x128_S1x128x128)) ∧
k0_pay791 (o.dBs 9) = bR (o.dBs 9) ∧
k0_pay792 (F := F) iL = bL (sitofp .f32 (extui 32 (cmpi .eq iL (broadcast S1x128 9#32)) natLt_1_32)) ∧
k0_pay793 (o.dU 10) = truncf .bf16 (o.dU 10) bitsLt_bf16_f32 ∧
k0_pay794 (o.dV 10) = truncf .bf16 (o.dV 10) bitsLt_bf16_f32 ∧
(∀ (z : Vec F S1x128 .f32), k0_pay795 (o.dLg 10) z = (addf (shapeCast S1x128 z shapeCasts_S1x128_S1x128) (o.dLg 10))) ∧
(∀ (z : Vec F S1x128 .f32), k0_pay796 (o.dLb 10) z = (addf (shapeCast S1x128 z shapeCasts_S1x128_S1x128) (o.dLb 10))) ∧
(∀ (z : Vec F S1x128x128 .f32), k0_pay797 (o.dW 10) z = (shapeCast S1x128x128 (addf (shapeCast S128x128 z shapeCasts_S1x128x128_S128x128) (o.dW 10)) shapeCasts_S128x128_S1x128x128)) ∧
k0_pay798 (o.dBs 10) iL (o.dB 9 (by omega)) (bR (o.dBs 9)) (bL (sitofp .f32 (extui 32 (cmpi .eq iL (broadcast S1x128 9#32)) natLt_1_32))) = o.dB 11 (by omega) ∧
k0_pay799 (o.dU 11) = truncf .bf16 (o.dU 11) bitsLt_bf16_f32 ∧
k0_pay800 (o.dV 11) = truncf .bf16 (o.dV 11) bitsLt_bf16_f32 ∧
(∀ (z : Vec F S1x128 .f32), k0_pay801 (o.dLg 11) z = (addf (shapeCast S1x128 z shapeCasts_S1x128_S1x128) (o.dLg 11))) ∧
(∀ (z : Vec F S1x128 .f32), k0_pay802 (o.dLb 11) z = (addf (shapeCast S1x128 z shapeCasts_S1x128_S1x128) (o.dLb 11))) ∧
(∀ (z : Vec F S1x128x128 .f32), k0_pay803 (o.dW 11) z = (shapeCast S1x128x128 (addf (shapeCast S128x128 z shapeCasts_S1x128x128_S128x128) (o.dW 11)) shapeCasts_S128x128_S1x128x128)) ∧
k0_pay804 (o.dBs 11) iL (o.dB 11 (by omega)) = o.dB 12 (by omega) ∧
k0_pay805 (o.dU 12) = truncf .bf16 (o.dU 12) bitsLt_bf16_f32 ∧
k0_pay806 (o.dV 12) = truncf .bf16 (o.dV 12) bitsLt_bf16_f32 ∧
(∀ (z : Vec F S1x128 .f32), k0_pay807 (o.dLg 12) z = (addf (shapeCast S1x128 z shapeCasts_S1x128_S1x128) (o.dLg 12))) ∧
(∀ (z : Vec F S1x128 .f32), k0_pay808 (o.dLb 12) z = (addf (shapeCast S1x128 z shapeCasts_S1x128_S1x128) (o.dLb 12))) ∧
(∀ (z : Vec F S1x128x128 .f32), k0_pay809 (o.dW 12) z = (shapeCast S1x128x128 (addf (shapeCast S128x128 z shapeCasts_S1x128x128_S128x128) (o.dW 12)) shapeCasts_S128x128_S1x128x128)) ∧
k0_pay810 (o.dBs 12) iL (o.dB 12 (by omega)) = o.dB 13 (by omega) ∧
k0_pay811 (o.dU 13) = truncf .bf16 (o.dU 13) bitsLt_bf16_f32 ∧
k0_pay812 (o.dV 13) = truncf .bf16 (o.dV 13) bitsLt_bf16_f32 ∧
(∀ (z : Vec F S1x128 .f32), k0_pay813 (o.dLg 13) z = (addf (shapeCast S1x128 z shapeCasts_S1x128_S1x128) (o.dLg 13))) := by
  and_intros <;> intros <;> rfl
theorem pays17 :
  (∀ (z : Vec F S1x128 .f32), k0_pay814 (o.dLb 13) z = (addf (shapeCast S1x128 z shapeCasts_S1x128_S1x128) (o.dLb 13))) ∧
(∀ (z : Vec F S1x128x128 .f32), k0_pay815 (o.dW 13) z = (shapeCast S1x128x128 (addf (shapeCast S128x128 z shapeCasts_S1x128x128_S128x128) (o.dW 13)) shapeCasts_S128x128_S1x128x128)) ∧
k0_pay816 (o.dBs 13) iL (o.dB 13 (by omega)) = o.dB 14 (by omega) ∧
k0_pay817 (o.dU 14) = truncf .bf16 (o.dU 14) bitsLt_bf16_f32 ∧
k0_pay818 (o.dV 14) = truncf .bf16 (o.dV 14) bitsLt_bf16_f32 ∧
(∀ (z : Vec F S1x128 .f32), k0_pay819 (o.dLg 14) z = (addf (shapeCast S1x128 z shapeCasts_S1x128_S1x128) (o.dLg 14))) ∧
(∀ (z : Vec F S1x128 .f32), k0_pay820 (o.dLb 14) z = (addf (shapeCast S1x128 z shapeCasts_S1x128_S1x128) (o.dLb 14))) ∧
(∀ (z : Vec F S1x128x128 .f32), k0_pay821 (o.dW 14) z = (addf (shapeCast S128x128 z shapeCasts_S1x128x128_S128x128) (o.dW 14))) ∧
(∀ (z : Vec F S1x128x128 .f32), k0_pay822 (addf (shapeCast S128x128 z shapeCasts_S1x128x128_S128x128) (o.dW 14)) = (shapeCast S1x128x128 (addf (shapeCast S128x128 z shapeCasts_S1x128x128_S128x128) (o.dW 14)) shapeCasts_S128x128_S1x128x128)) ∧
k0_pay823 (o.dBs 14) iL (o.dB 14 (by omega)) = o.dB 15 (by omega) ∧
k0_pay824 (o.dU 15) = truncf .bf16 (o.dU 15) bitsLt_bf16_f32 ∧
k0_pay825 (o.dV 15) = truncf .bf16 (o.dV 15) bitsLt_bf16_f32 ∧
(∀ (z : Vec F S1x128 .f32), k0_pay826 (o.dLg 15) z = (addf (shapeCast S1x128 z shapeCasts_S1x128_S1x128) (o.dLg 15))) ∧
(∀ (z : Vec F S1x128 .f32), k0_pay827 (o.dLb 15) z = (addf (shapeCast S1x128 z shapeCasts_S1x128_S1x128) (o.dLb 15))) ∧
(∀ (z : Vec F S1x128x128 .f32), k0_pay828 (o.dW 15) z = (shapeCast S1x128x128 (addf (shapeCast S128x128 z shapeCasts_S1x128x128_S128x128) (o.dW 15)) shapeCasts_S128x128_S1x128x128)) ∧
k0_pay829 (o.dBs 15) = bR (o.dBs 15) := by
  and_intros <;> intros <;> rfl

end Cert.KernelIdeal.Hand
end
-- ==== Proof.Pieces.lean ====
/-
  The lists of stores a point of the spatial-gating gradient makes into its six result blocks.
-/
module
public import proofs.«01_k».proof.Proof.Pays
public import Idealize.ShloMosaic.Lib.Tactic
@[expose] public section
noncomputable section
namespace Cert.KernelIdeal.Hand
open Cert.KernelIdeal Cert.KernelIdeal.Gen Idealize.ShloMosaic Idealize.ShloMosaic.TcCoe Idealize.SL.Sem
variable {F : FTy → Type} [FloatOps F]

theorem inbX (n : ℕ) (h : n + 128 ≤ 4096) : ∀ a, (![0, n] : Fin 2 → Nat) a + S128x128.size a ≤ S128x4096.size a := by
  intro a; fin_cases a
  · show 0 + 128 ≤ 128; omega
  · show n + 128 ≤ 4096; exact h
theorem inbL (g : Fin 16) : ∀ a, (![0, 128 * g.val] : Fin 2 → Nat) a + S1x128.size a ≤ S1x2048.size a := by
  intro a; fin_cases a
  · show 0 + 1 ≤ 1; omega
  · show 128 * g.val + 128 ≤ 2048; omega
theorem inbW (g : Fin 16) : ∀ a, (![g.val, 0, 0] : Fin 3 → Nat) a + S1x128x128.size a ≤ S16x128x128.size a := by
  intro a; fin_cases a
  · show g.val + 1 ≤ 16; omega
  · show 0 + 128 ≤ 128; omega
  · show 0 + 128 ≤ 128; omega
theorem inbB (g : Fin 16) : ∀ a, (![0, g.val] : Fin 2 → Nat) a + S128x1.size a ≤ S128x128.size a := by
  intro a; fin_cases a
  · show 0 + 128 ≤ 128; omega
  · show g.val + 1 ≤ 128; omega

/-- The operands a body reads through its seven input buffers holding `x0 … x6`. -/
def ld (arg1 : Memref sig .tc .vmem S128x4096 .bf16) (harg1 : arg1.IsWhole) (arg2 : Memref sig .tc .vmem S1x2048 .f32) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x128 .f32) (harg5 : arg5.IsWhole) (arg6 : Memref sig .tc .vmem S1x2048 .f32) (harg6 : arg6.IsWhole) (arg7 : Memref sig .tc .vmem S128x2048 .bf16) (harg7 : arg7.IsWhole)
    (x0 : Vec F S128x4096 .bf16) (x1 : Vec F S1x2048 .f32) (x2 : Vec F S1x2048 .f32) (x3 : Vec F S16x128x128 .f32) (x4 : Vec F S128x128 .f32) (x5 : Vec F S1x2048 .f32) (x6 : Vec F S128x2048 .bf16) : Ops F where
  xu g := View.readAt (Elt F) arg1.view (Rect.unit (s := S128x4096) ![0, 128 * g.val] S128x128.size (inbX _ (by omega))).toLoadRect (harg1.unread x0)
  xv g := View.readAt (Elt F) arg1.view (Rect.unit (s := S128x4096) ![0, 2048 + 128 * g.val] S128x128.size (inbX _ (by omega))).toLoadRect (harg1.unread x0)
  lg g := View.readAt (Elt F) arg2.view (Rect.unit (s := S1x2048) ![0, 128 * g.val] S1x128.size (inbL g)).toLoadRect (harg2.unread x1)
  lb g := View.readAt (Elt F) arg3.view (Rect.unit (s := S1x2048) ![0, 128 * g.val] S1x128.size (inbL g)).toLoadRect (harg3.unread x2)
  w g := View.readAt (Elt F) arg4.view (Rect.unit (s := S16x128x128) ![g.val, 0, 0] S1x128x128.size (inbW g)).toLoadRect (harg4.unread x3)
  b g := View.readAt (Elt F) arg5.view (Rect.unit (s := S128x128) ![0, g.val] S128x1.size (inbB g)).toLoadRect (harg5.unread x4)
  ng := View.readAt (Elt F) arg6.view (Rect.unit ![0, 0] S1x2048.size inb_S1x2048_S1x2048_0_0).toLoadRect (harg6.unread x5)
  dy := View.readAt (Elt F) arg7.view (Rect.unit ![0, 0] S128x2048.size inb_S128x2048_S128x2048_0_0).toLoadRect (harg7.unread x6)

set_option maxHeartbeats 8000000 in
/-- Every read of the body, at its own place. -/
theorem lds (a1 : Memref sig .tc .vmem S128x4096 .bf16) (h1 : a1.IsWhole) (a2 : Memref sig .tc .vmem S1x2048 .f32) (h2 : a2.IsWhole) (a3 : Memref sig .tc .vmem S1x2048 .f32) (h3 : a3.IsWhole) (a4 : Memref sig .tc .vmem S16x128x128 .f32) (h4 : a4.IsWhole) (a5 : Memref sig .tc .vmem S128x128 .f32) (h5 : a5.IsWhole) (a6 : Memref sig .tc .vmem S1x2048 .f32) (h6 : a6.IsWhole) (a7 : Memref sig .tc .vmem S128x2048 .bf16) (h7 : a7.IsWhole)
    (x0 : Vec F S128x4096 .bf16) (x1 : Vec F S1x2048 .f32) (x2 : Vec F S1x2048 .f32) (x3 : Vec F S16x128x128 .f32) (x4 : Vec F S128x128 .f32) (x5 : Vec F S1x2048 .f32) (x6 : Vec F S128x2048 .bf16) (o : Ops F)
    (ho : ld a1 h1 a2 h2 a3 h3 a4 h4 a5 h5 a6 h6 a7 h7 x0 x1 x2 x3 x4 x5 x6 = o) :
    View.readAt (Elt F) a1.view (Rect.unit (s := S128x4096) ![0, 0] S128x128.size inb_S128x4096_S128x128_0_0).toLoadRect (h1.unread x0) = o.xu 0
    ∧ View.readAt (Elt F) a1.view (Rect.unit (s := S128x4096) ![0, 2048] S128x128.size inb_S128x4096_S128x128_0_2048).toLoadRect (h1.unread x0) = o.xv 0
    ∧ View.readAt (Elt F) a2.view (Rect.unit (s := S1x2048) ![0, 0] S1x128.size inb_S1x2048_S1x128_0_0).toLoadRect (h2.unread x1) = o.lg 0
    ∧ View.readAt (Elt F) a3.view (Rect.unit (s := S1x2048) ![0, 0] S1x128.size inb_S1x2048_S1x128_0_0).toLoadRect (h3.unread x2) = o.lb 0
    ∧ View.readAt (Elt F) a4.view (Rect.unit (s := S16x128x128) ![0, 0, 0] S1x128x128.size inb_S16x128x128_S1x128x128_0_0_0).toLoadRect (h4.unread x3) = o.w 0
    ∧ View.readAt (Elt F) a5.view (Rect.unit (s := S128x128) ![0, 0] S128x1.size inb_S128x128_S128x1_0_0).toLoadRect (h5.unread x4) = o.b 0
    ∧ View.readAt (Elt F) a1.view (Rect.unit (s := S128x4096) ![0, 128] S128x128.size inb_S128x4096_S128x128_0_128).toLoadRect (h1.unread x0) = o.xu 1
    ∧ View.readAt (Elt F) a1.view (Rect.unit (s := S128x4096) ![0, 2176] S128x128.size inb_S128x4096_S128x128_0_2176).toLoadRect (h1.unread x0) = o.xv 1
    ∧ View.readAt (Elt F) a2.view (Rect.unit (s := S1x2048) ![0, 128] S1x128.size inb_S1x2048_S1x128_0_128).toLoadRect (h2.unread x1) = o.lg 1
    ∧ View.readAt (Elt F) a3.view (Rect.unit (s := S1x2048) ![0, 128] S1x128.size inb_S1x2048_S1x128_0_128).toLoadRect (h3.unread x2) = o.lb 1
    ∧ View.readAt (Elt F) a4.view (Rect.unit (s := S16x128x128) ![1, 0, 0] S1x128x128.size inb_S16x128x128_S1x128x128_1_0_0).toLoadRect (h4.unread x3) = o.w 1
    ∧ View.readAt (Elt F) a5.view (Rect.unit (s := S128x128) ![0, 1] S128x1.size inb_S128x128_S128x1_0_1).toLoadRect (h5.unread x4) = o.b 1
    ∧ View.readAt (Elt F) a1.view (Rect.unit (s := S128x4096) ![0, 256] S128x128.size inb_S128x4096_S128x128_0_256).toLoadRect (h1.unread x0) = o.xu 2
    ∧ View.readAt (Elt F) a1.view (Rect.unit (s := S128x4096) ![0, 2304] S128x128.size inb_S128x4096_S128x128_0_2304).toLoadRect (h1.unread x0) = o.xv 2
    ∧ View.readAt (Elt F) a2.view (Rect.unit (s := S1x2048) ![0, 256] S1x128.size inb_S1x2048_S1x128_0_256).toLoadRect (h2.unread x1) = o.lg 2
    ∧ View.readAt (Elt F) a3.view (Rect.unit (s := S1x2048) ![0, 256] S1x128.size inb_S1x2048_S1x128_0_256).toLoadRect (h3.unread x2) = o.lb 2
    ∧ View.readAt (Elt F) a4.view (Rect.unit (s := S16x128x128) ![2, 0, 0] S1x128x128.size inb_S16x128x128_S1x128x128_2_0_0).toLoadRect (h4.unread x3) = o.w 2
    ∧ View.readAt (Elt F) a5.view (Rect.unit (s := S128x128) ![0, 2] S128x1.size inb_S128x128_S128x1_0_2).toLoadRect (h5.unread x4) = o.b 2
    ∧ View.readAt (Elt F) a1.view (Rect.unit (s := S128x4096) ![0, 384] S128x128.size inb_S128x4096_S128x128_0_384).toLoadRect (h1.unread x0) = o.xu 3
    ∧ View.readAt (Elt F) a1.view (Rect.unit (s := S128x4096) ![0, 2432] S128x128.size inb_S128x4096_S128x128_0_2432).toLoadRect (h1.unread x0) = o.xv 3
    ∧ View.readAt (Elt F) a2.view (Rect.unit (s := S1x2048) ![0, 384] S1x128.size inb_S1x2048_S1x128_0_384).toLoadRect (h2.unread x1) = o.lg 3
    ∧ View.readAt (Elt F) a3.view (Rect.unit (s := S1x2048) ![0, 384] S1x128.size inb_S1x2048_S1x128_0_384).toLoadRect (h3.unread x2) = o.lb 3
    ∧ View.readAt (Elt F) a4.view (Rect.unit (s := S16x128x128) ![3, 0, 0] S1x128x128.size inb_S16x128x128_S1x128x128_3_0_0).toLoadRect (h4.unread x3) = o.w 3
    ∧ View.readAt (Elt F) a5.view (Rect.unit (s := S128x128) ![0, 3] S128x1.size inb_S128x128_S128x1_0_3).toLoadRect (h5.unread x4) = o.b 3
    ∧ View.readAt (Elt F) a1.view (Rect.unit (s := S128x4096) ![0, 512] S128x128.size inb_S128x4096_S128x128_0_512).toLoadRect (h1.unread x0) = o.xu 4
    ∧ View.readAt (Elt F) a1.view (Rect.unit (s := S128x4096) ![0, 2560] S128x128.size inb_S128x4096_S128x128_0_2560).toLoadRect (h1.unread x0) = o.xv 4
    ∧ View.readAt (Elt F) a2.view (Rect.unit (s := S1x2048) ![0, 512] S1x128.size inb_S1x2048_S1x128_0_512).toLoadRect (h2.unread x1) = o.lg 4
    ∧ View.readAt (Elt F) a3.view (Rect.unit (s := S1x2048) ![0, 512] S1x128.size inb_S1x2048_S1x128_0_512).toLoadRect (h3.unread x2) = o.lb 4
    ∧ View.readAt (Elt F) a4.view (Rect.unit (s := S16x128x128) ![4, 0, 0] S1x128x128.size inb_S16x128x128_S1x128x128_4_0_0).toLoadRect (h4.unread x3) = o.w 4
    ∧ View.readAt (Elt F) a5.view (Rect.unit (s := S128x128) ![0, 4] S128x1.size inb_S128x128_S128x1_0_4).toLoadRect (h5.unread x4) = o.b 4
    ∧ View.readAt (Elt F) a1.view (Rect.unit (s := S128x4096) ![0, 640] S128x128.size inb_S128x4096_S128x128_0_640).toLoadRect (h1.unread x0) = o.xu 5
    ∧ View.readAt (Elt F) a1.view (Rect.unit (s := S128x4096) ![0, 2688] S128x128.size inb_S128x4096_S128x128_0_2688).toLoadRect (h1.unread x0) = o.xv 5
    ∧ View.readAt (Elt F) a2.view (Rect.unit (s := S1x2048) ![0, 640] S1x128.size inb_S1x2048_S1x128_0_640).toLoadRect (h2.unread x1) = o.lg 5
    ∧ View.readAt (Elt F) a3.view (Rect.unit (s := S1x2048) ![0, 640] S1x128.size inb_S1x2048_S1x128_0_640).toLoadRect (h3.unread x2) = o.lb 5
    ∧ View.readAt (Elt F) a4.view (Rect.unit (s := S16x128x128) ![5, 0, 0] S1x128x128.size inb_S16x128x128_S1x128x128_5_0_0).toLoadRect (h4.unread x3) = o.w 5
    ∧ View.readAt (Elt F) a5.view (Rect.unit (s := S128x128) ![0, 5] S128x1.size inb_S128x128_S128x1_0_5).toLoadRect (h5.unread x4) = o.b 5
    ∧ View.readAt (Elt F) a1.view (Rect.unit (s := S128x4096) ![0, 768] S128x128.size inb_S128x4096_S128x128_0_768).toLoadRect (h1.unread x0) = o.xu 6
    ∧ View.readAt (Elt F) a1.view (Rect.unit (s := S128x4096) ![0, 2816] S128x128.size inb_S128x4096_S128x128_0_2816).toLoadRect (h1.unread x0) = o.xv 6
    ∧ View.readAt (Elt F) a2.view (Rect.unit (s := S1x2048) ![0, 768] S1x128.size inb_S1x2048_S1x128_0_768).toLoadRect (h2.unread x1) = o.lg 6
    ∧ View.readAt (Elt F) a3.view (Rect.unit (s := S1x2048) ![0, 768] S1x128.size inb_S1x2048_S1x128_0_768).toLoadRect (h3.unread x2) = o.lb 6
    ∧ View.readAt (Elt F) a4.view (Rect.unit (s := S16x128x128) ![6, 0, 0] S1x128x128.size inb_S16x128x128_S1x128x128_6_0_0).toLoadRect (h4.unread x3) = o.w 6
    ∧ View.readAt (Elt F) a5.view (Rect.unit (s := S128x128) ![0, 6] S128x1.size inb_S128x128_S128x1_0_6).toLoadRect (h5.unread x4) = o.b 6
    ∧ View.readAt (Elt F) a1.view (Rect.unit (s := S128x4096) ![0, 896] S128x128.size inb_S128x4096_S128x128_0_896).toLoadRect (h1.unread x0) = o.xu 7
    ∧ View.readAt (Elt F) a1.view (Rect.unit (s := S128x4096) ![0, 2944] S128x128.size inb_S128x4096_S128x128_0_2944).toLoadRect (h1.unread x0) = o.xv 7
    ∧ View.readAt (Elt F) a2.view (Rect.unit (s := S1x2048) ![0, 896] S1x128.size inb_S1x2048_S1x128_0_896).toLoadRect (h2.unread x1) = o.lg 7
    ∧ View.readAt (Elt F) a3.view (Rect.unit (s := S1x2048) ![0, 896] S1x128.size inb_S1x2048_S1x128_0_896).toLoadRect (h3.unread x2) = o.lb 7
    ∧ View.readAt (Elt F) a4.view (Rect.unit (s := S16x128x128) ![7, 0, 0] S1x128x128.size inb_S16x128x128_S1x128x128_7_0_0).toLoadRect (h4.unread x3) = o.w 7
    ∧ View.readAt (Elt F) a5.view (Rect.unit (s := S128x128) ![0, 7] S128x1.size inb_S128x128_S128x1_0_7).toLoadRect (h5.unread x4) = o.b 7
    ∧ View.readAt (Elt F) a1.view (Rect.unit (s := S128x4096) ![0, 1024] S128x128.size inb_S128x4096_S128x128_0_1024).toLoadRect (h1.unread x0) = o.xu 8
    ∧ View.readAt (Elt F) a1.view (Rect.unit (s := S128x4096) ![0, 3072] S128x128.size inb_S128x4096_S128x128_0_3072).toLoadRect (h1.unread x0) = o.xv 8
    ∧ View.readAt (Elt F) a2.view (Rect.unit (s := S1x2048) ![0, 1024] S1x128.size inb_S1x2048_S1x128_0_1024).toLoadRect (h2.unread x1) = o.lg 8
    ∧ View.readAt (Elt F) a3.view (Rect.unit (s := S1x2048) ![0, 1024] S1x128.size inb_S1x2048_S1x128_0_1024).toLoadRect (h3.unread x2) = o.lb 8
    ∧ View.readAt (Elt F) a4.view (Rect.unit (s := S16x128x128) ![8, 0, 0] S1x128x128.size inb_S16x128x128_S1x128x128_8_0_0).toLoadRect (h4.unread x3) = o.w 8
    ∧ View.readAt (Elt F) a5.view (Rect.unit (s := S128x128) ![0, 8] S128x1.size inb_S128x128_S128x1_0_8).toLoadRect (h5.unread x4) = o.b 8
    ∧ View.readAt (Elt F) a1.view (Rect.unit (s := S128x4096) ![0, 1152] S128x128.size inb_S128x4096_S128x128_0_1152).toLoadRect (h1.unread x0) = o.xu 9
    ∧ View.readAt (Elt F) a1.view (Rect.unit (s := S128x4096) ![0, 3200] S128x128.size inb_S128x4096_S128x128_0_3200).toLoadRect (h1.unread x0) = o.xv 9
    ∧ View.readAt (Elt F) a2.view (Rect.unit (s := S1x2048) ![0, 1152] S1x128.size inb_S1x2048_S1x128_0_1152).toLoadRect (h2.unread x1) = o.lg 9
    ∧ View.readAt (Elt F) a3.view (Rect.unit (s := S1x2048) ![0, 1152] S1x128.size inb_S1x2048_S1x128_0_1152).toLoadRect (h3.unread x2) = o.lb 9
    ∧ View.readAt (Elt F) a4.view (Rect.unit (s := S16x128x128) ![9, 0, 0] S1x128x128.size inb_S16x128x128_S1x128x128_9_0_0).toLoadRect (h4.unread x3) = o.w 9
    ∧ View.readAt (Elt F) a5.view (Rect.unit (s := S128x128) ![0, 9] S128x1.size inb_S128x128_S128x1_0_9).toLoadRect (h5.unread x4) = o.b 9
    ∧ View.readAt (Elt F) a1.view (Rect.unit (s := S128x4096) ![0, 1280] S128x128.size inb_S128x4096_S128x128_0_1280).toLoadRect (h1.unread x0) = o.xu 10
    ∧ View.readAt (Elt F) a1.view (Rect.unit (s := S128x4096) ![0, 3328] S128x128.size inb_S128x4096_S128x128_0_3328).toLoadRect (h1.unread x0) = o.xv 10
    ∧ View.readAt (Elt F) a2.view (Rect.unit (s := S1x2048) ![0, 1280] S1x128.size inb_S1x2048_S1x128_0_1280).toLoadRect (h2.unread x1) = o.lg 10
    ∧ View.readAt (Elt F) a3.view (Rect.unit (s := S1x2048) ![0, 1280] S1x128.size inb_S1x2048_S1x128_0_1280).toLoadRect (h3.unread x2) = o.lb 10
    ∧ View.readAt (Elt F) a4.view (Rect.unit (s := S16x128x128) ![10, 0, 0] S1x128x128.size inb_S16x128x128_S1x128x128_10_0_0).toLoadRect (h4.unread x3) = o.w 10
    ∧ View.readAt (Elt F) a5.view (Rect.unit (s := S128x128) ![0, 10] S128x1.size inb_S128x128_S128x1_0_10).toLoadRect (h5.unread x4) = o.b 10
    ∧ View.readAt (Elt F) a1.view (Rect.unit (s := S128x4096) ![0, 1408] S128x128.size inb_S128x4096_S128x128_0_1408).toLoadRect (h1.unread x0) = o.xu 11
    ∧ View.readAt (Elt F) a1.view (Rect.unit (s := S128x4096) ![0, 3456] S128x128.size inb_S128x4096_S128x128_0_3456).toLoadRect (h1.unread x0) = o.xv 11
    ∧ View.readAt (Elt F) a2.view (Rect.unit (s := S1x2048) ![0, 1408] S1x128.size inb_S1x2048_S1x128_0_1408).toLoadRect (h2.unread x1) = o.lg 11
    ∧ View.readAt (Elt F) a3.view (Rect.unit (s := S1x2048) ![0, 1408] S1x128.size inb_S1x2048_S1x128_0_1408).toLoadRect (h3.unread x2) = o.lb 11
    ∧ View.readAt (Elt F) a4.view (Rect.unit (s := S16x128x128) ![11, 0, 0] S1x128x128.size inb_S16x128x128_S1x128x128_11_0_0).toLoadRect (h4.unread x3) = o.w 11
    ∧ View.readAt (Elt F) a5.view (Rect.unit (s := S128x128) ![0, 11] S128x1.size inb_S128x128_S128x1_0_11).toLoadRect (h5.unread x4) = o.b 11
    ∧ View.readAt (Elt F) a1.view (Rect.unit (s := S128x4096) ![0, 1536] S128x128.size inb_S128x4096_S128x128_0_1536).toLoadRect (h1.unread x0) = o.xu 12
    ∧ View.readAt (Elt F) a1.view (Rect.unit (s := S128x4096) ![0, 3584] S128x128.size inb_S128x4096_S128x128_0_3584).toLoadRect (h1.unread x0) = o.xv 12
    ∧ View.readAt (Elt F) a2.view (Rect.unit (s := S1x2048) ![0, 1536] S1x128.size inb_S1x2048_S1x128_0_1536).toLoadRect (h2.unread x1) = o.lg 12
    ∧ View.readAt (Elt F) a3.view (Rect.unit (s := S1x2048) ![0, 1536] S1x128.size inb_S1x2048_S1x128_0_1536).toLoadRect (h3.unread x2) = o.lb 12
    ∧ View.readAt (Elt F) a4.view (Rect.unit (s := S16x128x128) ![12, 0, 0] S1x128x128.size inb_S16x128x128_S1x128x128_12_0_0).toLoadRect (h4.unread x3) = o.w 12
    ∧ View.readAt (Elt F) a5.view (Rect.unit (s := S128x128) ![0, 12] S128x1.size inb_S128x128_S128x1_0_12).toLoadRect (h5.unread x4) = o.b 12
    ∧ View.readAt (Elt F) a1.view (Rect.unit (s := S128x4096) ![0, 1664] S128x128.size inb_S128x4096_S128x128_0_1664).toLoadRect (h1.unread x0) = o.xu 13
    ∧ View.readAt (Elt F) a1.view (Rect.unit (s := S128x4096) ![0, 3712] S128x128.size inb_S128x4096_S128x128_0_3712).toLoadRect (h1.unread x0) = o.xv 13
    ∧ View.readAt (Elt F) a2.view (Rect.unit (s := S1x2048) ![0, 1664] S1x128.size inb_S1x2048_S1x128_0_1664).toLoadRect (h2.unread x1) = o.lg 13
    ∧ View.readAt (Elt F) a3.view (Rect.unit (s := S1x2048) ![0, 1664] S1x128.size inb_S1x2048_S1x128_0_1664).toLoadRect (h3.unread x2) = o.lb 13
    ∧ View.readAt (Elt F) a4.view (Rect.unit (s := S16x128x128) ![13, 0, 0] S1x128x128.size inb_S16x128x128_S1x128x128_13_0_0).toLoadRect (h4.unread x3) = o.w 13
    ∧ View.readAt (Elt F) a5.view (Rect.unit (s := S128x128) ![0, 13] S128x1.size inb_S128x128_S128x1_0_13).toLoadRect (h5.unread x4) = o.b 13
    ∧ View.readAt (Elt F) a1.view (Rect.unit (s := S128x4096) ![0, 1792] S128x128.size inb_S128x4096_S128x128_0_1792).toLoadRect (h1.unread x0) = o.xu 14
    ∧ View.readAt (Elt F) a1.view (Rect.unit (s := S128x4096) ![0, 3840] S128x128.size inb_S128x4096_S128x128_0_3840).toLoadRect (h1.unread x0) = o.xv 14
    ∧ View.readAt (Elt F) a2.view (Rect.unit (s := S1x2048) ![0, 1792] S1x128.size inb_S1x2048_S1x128_0_1792).toLoadRect (h2.unread x1) = o.lg 14
    ∧ View.readAt (Elt F) a3.view (Rect.unit (s := S1x2048) ![0, 1792] S1x128.size inb_S1x2048_S1x128_0_1792).toLoadRect (h3.unread x2) = o.lb 14
    ∧ View.readAt (Elt F) a4.view (Rect.unit (s := S16x128x128) ![14, 0, 0] S1x128x128.size inb_S16x128x128_S1x128x128_14_0_0).toLoadRect (h4.unread x3) = o.w 14
    ∧ View.readAt (Elt F) a5.view (Rect.unit (s := S128x128) ![0, 14] S128x1.size inb_S128x128_S128x1_0_14).toLoadRect (h5.unread x4) = o.b 14
    ∧ View.readAt (Elt F) a1.view (Rect.unit (s := S128x4096) ![0, 1920] S128x128.size inb_S128x4096_S128x128_0_1920).toLoadRect (h1.unread x0) = o.xu 15
    ∧ View.readAt (Elt F) a1.view (Rect.unit (s := S128x4096) ![0, 3968] S128x128.size inb_S128x4096_S128x128_0_3968).toLoadRect (h1.unread x0) = o.xv 15
    ∧ View.readAt (Elt F) a2.view (Rect.unit (s := S1x2048) ![0, 1920] S1x128.size inb_S1x2048_S1x128_0_1920).toLoadRect (h2.unread x1) = o.lg 15
    ∧ View.readAt (Elt F) a3.view (Rect.unit (s := S1x2048) ![0, 1920] S1x128.size inb_S1x2048_S1x128_0_1920).toLoadRect (h3.unread x2) = o.lb 15
    ∧ View.readAt (Elt F) a4.view (Rect.unit (s := S16x128x128) ![15, 0, 0] S1x128x128.size inb_S16x128x128_S1x128x128_15_0_0).toLoadRect (h4.unread x3) = o.w 15
    ∧ View.readAt (Elt F) a5.view (Rect.unit (s := S128x128) ![0, 15] S128x1.size inb_S128x128_S128x1_0_15).toLoadRect (h5.unread x4) = o.b 15
    ∧ View.readAt (Elt F) a6.view (Rect.unit (s := S1x2048) ![0, 0] S1x2048.size inb_S1x2048_S1x2048_0_0).toLoadRect (h6.unread x5) = o.ng
    ∧ View.readAt (Elt F) a7.view (Rect.unit (s := S128x2048) ![0, 0] S128x2048.size inb_S128x2048_S128x2048_0_0).toLoadRect (h7.unread x6) = o.dy := by
  subst ho
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## The stored pieces, the last group first -/

theorem inbA (n : ℕ) (h : n < 16) : ∀ a, (![0, 128 * n] : Fin 2 → Nat) a + S1x128.size a ≤ S8x2048.size a := by
  intro a; fin_cases a
  · show 0 + 1 ≤ 8; omega
  · show 128 * n + 128 ≤ 2048; omega
abbrev rA (n : ℕ) (h : n < 16) : Rect S8x2048 := Rect.unit (s := S8x2048) ![0, 128 * n] S1x128.size (inbA n h)
abbrev rW (n : ℕ) (h : n < 16) : Rect S16x128x128 := Rect.unit (s := S16x128x128) ![n, 0, 0] S1x128x128.size (inbW ⟨n, h⟩)

/-- The first result's block. -/
def P7 (o : Ops F) : (n : ℕ) → n ≤ 16 → List (View.Piece (Elt F) S128x4096 .bf16)
  | 0, _ => []
  | n + 1, h => ⟨Rect.unit (s := S128x4096) ![0, 2048 + 128 * n] S128x128.size (inbX _ (by omega)), truncf .bf16 (o.dV ⟨n, h⟩) bitsLt_bf16_f32⟩
      :: ⟨Rect.unit (s := S128x4096) ![0, 128 * n] S128x128.size (inbX _ (by omega)), truncf .bf16 (o.dU ⟨n, h⟩) bitsLt_bf16_f32⟩
      :: P7 o n (Nat.le_of_succ_le h)
/-- A row of sums added to what row 0 held, group after group. -/
def PA (f : Fin 16 → FVec F S1x128 .f32) (rd : (n : ℕ) → n < 16 → Vec F S1x128 .f32) : (n : ℕ) → n ≤ 16 → List (View.Piece (Elt F) S8x2048 .f32)
  | 0, _ => []
  | n + 1, h => ⟨rA n h, addf (shapeCast S1x128 (rd n h) shapeCasts_S1x128_S1x128) (f ⟨n, h⟩)⟩ :: PA f rd n (Nat.le_of_succ_le h)
/-- A tile added to what the group's tile held, group after group. -/
def PW (f : Fin 16 → FVec F S128x128 .f32) (rd : (n : ℕ) → n < 16 → Vec F S1x128x128 .f32) : (n : ℕ) → n ≤ 16 → List (View.Piece (Elt F) S16x128x128 .f32)
  | 0, _ => []
  | n + 1, h => ⟨rW n h, shapeCast S1x128x128 (addf (shapeCast S128x128 (rd n h) shapeCasts_S1x128x128_S128x128) (f ⟨n, h⟩)) shapeCasts_S128x128_S1x128x128⟩
      :: PW f rd n (Nat.le_of_succ_le h)

/-- The same from a block of zeros: each group reads what the groups before it left. -/
def PA0 (v : View sig .tc .vmem S8x2048 .f32) (f : Fin 16 → FVec F S1x128 .f32) : (n : ℕ) → n ≤ 16 → List (View.Piece (Elt F) S8x2048 .f32)
  | 0, _ => [⟨Rect.unit (s := S8x2048) ![0, 0] S8x2048.size inb_S8x2048_S8x2048_0_0, broadcast S8x2048 (Scalar.ofBits .f32 0x00000000#32)⟩]
  | n + 1, h => ⟨rA n h, addf (shapeCast S1x128 (v.readCov (PA0 v f n (Nat.le_of_succ_le h)) (rA n h).toLoadRect) shapeCasts_S1x128_S1x128) (f ⟨n, h⟩)⟩
      :: PA0 v f n (Nat.le_of_succ_le h)
def PW0 (v : View sig .tc .vmem S16x128x128 .f32) (f : Fin 16 → FVec F S128x128 .f32) : (n : ℕ) → n ≤ 16 → List (View.Piece (Elt F) S16x128x128 .f32)
  | 0, _ => [⟨Rect.unit (s := S16x128x128) ![0, 0, 0] S16x128x128.size inb_S16x128x128_S16x128x128_0_0_0, broadcast S16x128x128 (Scalar.ofBits .f32 0x00000000#32)⟩]
  | n + 1, h => ⟨rW n h, shapeCast S1x128x128 (addf (shapeCast S128x128 (v.readCov (PW0 v f n (Nat.le_of_succ_le h)) (rW n h).toLoadRect)
        shapeCasts_S1x128x128_S128x128) (f ⟨n, h⟩)) shapeCasts_S128x128_S1x128x128⟩
      :: PW0 v f n (Nat.le_of_succ_le h)
/-- One store more on a list of stores. -/
abbrev qA (v : View sig .tc .vmem S8x2048 .f32) (L : List (View.Piece (Elt F) S8x2048 .f32)) (n : ℕ) (h : n < 16) (d : FVec F S1x128 .f32) : List (View.Piece (Elt F) S8x2048 .f32) :=
  ⟨rA n h, addf (shapeCast S1x128 (View.readCov (Val := Elt F) v L (rA n h).toLoadRect) shapeCasts_S1x128_S1x128) d⟩ :: L
abbrev qW (v : View sig .tc .vmem S16x128x128 .f32) (L : List (View.Piece (Elt F) S16x128x128 .f32)) (n : ℕ) (h : n < 16) (d : FVec F S128x128 .f32) : List (View.Piece (Elt F) S16x128x128 .f32) :=
  ⟨rW n h, shapeCast S1x128x128 (addf (shapeCast S128x128 (View.readCov (Val := Elt F) v L (rW n h).toLoadRect) shapeCasts_S1x128x128_S128x128) d) shapeCasts_S128x128_S1x128x128⟩ :: L
abbrev Z11 : List (View.Piece (Elt F) S128x128 .f32) :=
  [⟨Rect.unit (s := S128x128) ![0, 0] S128x128.size inb_S128x128_S128x128_0_0, broadcast S128x128 (Scalar.ofBits .f32 0x00000000#32)⟩]
abbrev Z12 : List (View.Piece (Elt F) S8x2048 .f32) :=
  [⟨Rect.unit (s := S8x2048) ![0, 0] S8x2048.size inb_S8x2048_S8x2048_0_0, broadcast S8x2048 (Scalar.ofBits .f32 0x00000000#32)⟩]

end Cert.KernelIdeal.Hand
end
-- ==== Proof.RunA.lean ====
/-
  The stores of a point that begins a block of steps.
-/
module
public import proofs.«01_k».proof.Proof.Pieces
public import Idealize.ShloMosaic.Lib.Tactic
@[expose] public section
noncomputable section
namespace Cert.KernelIdeal.Hand
open Cert.KernelIdeal Cert.KernelIdeal.Gen Cert.KernelIdeal.Gen.kernelRun0_A Cert.KernelIdeal.Gen.kernelRun0_A.sl Idealize.ShloMosaic Idealize.ShloMosaic.TcCoe Idealize.SL.Sem
variable {F : FTy → Type} [FloatOps F]

set_option maxHeartbeats 8000000 in
set_option maxRecDepth 100000 in
/-- The first point of a block of steps: what each list of stores adds to the one before it. -/
theorem steps_A (c : Dev nD) (i : grid0.Coords) (a1 : Memref sig .tc .vmem S128x4096 .bf16) (h1 : a1.IsWhole) (a2 : Memref sig .tc .vmem S1x2048 .f32) (h2 : a2.IsWhole) (a3 : Memref sig .tc .vmem S1x2048 .f32) (h3 : a3.IsWhole) (a4 : Memref sig .tc .vmem S16x128x128 .f32) (h4 : a4.IsWhole) (a5 : Memref sig .tc .vmem S128x128 .f32) (h5 : a5.IsWhole) (a6 : Memref sig .tc .vmem S1x2048 .f32) (h6 : a6.IsWhole) (a7 : Memref sig .tc .vmem S128x2048 .bf16) (h7 : a7.IsWhole) (a8 : Memref sig .tc .vmem S128x4096 .bf16) (h8 : a8.IsWhole) (a9 : Memref sig .tc .vmem S8x2048 .f32) (h9 : a9.IsWhole) (a10 : Memref sig .tc .vmem S8x2048 .f32) (h10 : a10.IsWhole) (a11 : Memref sig .tc .vmem S16x128x128 .f32) (h11 : a11.IsWhole) (a12 : Memref sig .tc .vmem S128x128 .f32) (h12 : a12.IsWhole) (a13 : Memref sig .tc .vmem S8x2048 .f32) (h13 : a13.IsWhole) (hc0 : cond0_0 i)
    (x0 : Vec F S128x4096 .bf16) (x1 : Vec F S1x2048 .f32) (x2 : Vec F S1x2048 .f32) (x3 : Vec F S16x128x128 .f32) (x4 : Vec F S128x128 .f32) (x5 : Vec F S1x2048 .f32) (x6 : Vec F S128x2048 .bf16)
    (o : Ops F) (ho : (ld a1 h1 a2 h2 a3 h3 a4 h4 a5 h5 a6 h6 a7 h7 x0 x1 x2 x3 x4 x5 x6) = o) :
    H8_2 c a1 h1 a2 h2 a3 h3 a4 h4 a5 h5 a6 h6 a7 h7 a9 x0 x1 x2 x3 x4 x5 x6 = ⟨rA 0 (by omega), addf (shapeCast S1x128 (View.readCov (Val := Elt F) a9.view (H8_1 : List (View.Piece (Elt F) S8x2048 .f32)) (rA 0 (by omega)).toLoadRect) shapeCasts_S1x128_S1x128) (o.dLg 0)⟩ :: (H8_1 : List (View.Piece (Elt F) S8x2048 .f32))
    ∧ H8_3 c a1 h1 a2 h2 a3 h3 a4 h4 a5 h5 a6 h6 a7 h7 a9 x0 x1 x2 x3 x4 x5 x6 = qA a9.view (H8_2 c a1 h1 a2 h2 a3 h3 a4 h4 a5 h5 a6 h6 a7 h7 a9 x0 x1 x2 x3 x4 x5 x6) 1 (by omega) (o.dLg 1)
    ∧ H8_4 c a1 h1 a2 h2 a3 h3 a4 h4 a5 h5 a6 h6 a7 h7 a9 x0 x1 x2 x3 x4 x5 x6 = qA a9.view (H8_3 c a1 h1 a2 h2 a3 h3 a4 h4 a5 h5 a6 h6 a7 h7 a9 x0 x1 x2 x3 x4 x5 x6) 2 (by omega) (o.dLg 2)
    ∧ H8_5 c a1 h1 a2 h2 a3 h3 a4 h4 a5 h5 a6 h6 a7 h7 a9 x0 x1 x2 x3 x4 x5 x6 = qA a9.view (H8_4 c a1 h1 a2 h2 a3 h3 a4 h4 a5 h5 a6 h6 a7 h7 a9 x0 x1 x2 x3 x4 x5 x6) 3 (by omega) (o.dLg 3)
    ∧ H8_6 c a1 h1 a2 h2 a3 h3 a4 h4 a5 h5 a6 h6 a7 h7 a9 x0 x1 x2 x3 x4 x5 x6 = qA a9.view (H8_5 c a1 h1 a2 h2 a3 h3 a4 h4 a5 h5 a6 h6 a7 h7 a9 x0 x1 x2 x3 x4 x5 x6) 4 (by omega) (o.dLg 4)
    ∧ H8_7 c a1 h1 a2 h2 a3 h3 a4 h4 a5 h5 a6 h6 a7 h7 a9 x0 x1 x2 x3 x4 x5 x6 = qA a9.view (H8_6 c a1 h1 a2 h2 a3 h3 a4 h4 a5 h5 a6 h6 a7 h7 a9 x0 x1 x2 x3 x4 x5 x6) 5 (by omega) (o.dLg 5)
    ∧ H8_8 c a1 h1 a2 h2 a3 h3 a4 h4 a5 h5 a6 h6 a7 h7 a9 x0 x1 x2 x3 x4 x5 x6 = qA a9.view (H8_7 c a1 h1 a2 h2 a3 h3 a4 h4 a5 h5 a6 h6 a7 h7 a9 x0 x1 x2 x3 x4 x5 x6) 6 (by omega) (o.dLg 6)
    ∧ H8_9 c a1 h1 a2 h2 a3 h3 a4 h4 a5 h5 a6 h6 a7 h7 a9 x0 x1 x2 x3 x4 x5 x6 = qA a9.view (H8_8 c a1 h1 a2 h2 a3 h3 a4 h4 a5 h5 a6 h6 a7 h7 a9 x0 x1 x2 x3 x4 x5 x6) 7 (by omega) (o.dLg 7)
    ∧ H8_10 c a1 h1 a2 h2 a3 h3 a4 h4 a5 h5 a6 h6 a7 h7 a9 x0 x1 x2 x3 x4 x5 x6 = qA a9.view (H8_9 c a1 h1 a2 h2 a3 h3 a4 h4 a5 h5 a6 h6 a7 h7 a9 x0 x1 x2 x3 x4 x5 x6) 8 (by omega) (o.dLg 8)
    ∧ H8_11 c a1 h1 a2 h2 a3 h3 a4 h4 a5 h5 a6 h6 a7 h7 a9 x0 x1 x2 x3 x4 x5 x6 = qA a9.view (H8_10 c a1 h1 a2 h2 a3 h3 a4 h4 a5 h5 a6 h6 a7 h7 a9 x0 x1 x2 x3 x4 x5 x6) 9 (by omega) (o.dLg 9)
    ∧ H8_12 c a1 h1 a2 h2 a3 h3 a4 h4 a5 h5 a6 h6 a7 h7 a9 x0 x1 x2 x3 x4 x5 x6 = qA a9.view (H8_11 c a1 h1 a2 h2 a3 h3 a4 h4 a5 h5 a6 h6 a7 h7 a9 x0 x1 x2 x3 x4 x5 x6) 10 (by omega) (o.dLg 10)
    ∧ H8_13 c a1 h1 a2 h2 a3 h3 a4 h4 a5 h5 a6 h6 a7 h7 a9 x0 x1 x2 x3 x4 x5 x6 = qA a9.view (H8_12 c a1 h1 a2 h2 a3 h3 a4 h4 a5 h5 a6 h6 a7 h7 a9 x0 x1 x2 x3 x4 x5 x6) 11 (by omega) (o.dLg 11)
    ∧ H8_14 c a1 h1 a2 h2 a3 h3 a4 h4 a5 h5 a6 h6 a7 h7 a9 x0 x1 x2 x3 x4 x5 x6 = qA a9.view (H8_13 c a1 h1 a2 h2 a3 h3 a4 h4 a5 h5 a6 h6 a7 h7 a9 x0 x1 x2 x3 x4 x5 x6) 12 (by omega) (o.dLg 12)
    ∧ H8_15 c a1 h1 a2 h2 a3 h3 a4 h4 a5 h5 a6 h6 a7 h7 a9 x0 x1 x2 x3 x4 x5 x6 = qA a9.view (H8_14 c a1 h1 a2 h2 a3 h3 a4 h4 a5 h5 a6 h6 a7 h7 a9 x0 x1 x2 x3 x4 x5 x6) 13 (by omega) (o.dLg 13)
    ∧ H8_16 c a1 h1 a2 h2 a3 h3 a4 h4 a5 h5 a6 h6 a7 h7 a9 x0 x1 x2 x3 x4 x5 x6 = qA a9.view (H8_15 c a1 h1 a2 h2 a3 h3 a4 h4 a5 h5 a6 h6 a7 h7 a9 x0 x1 x2 x3 x4 x5 x6) 14 (by omega) (o.dLg 14)
    ∧ H9_2 c a1 h1 a2 h2 a3 h3 a4 h4 a5 h5 a6 h6 a7 h7 a10 x0 x1 x2 x3 x4 x5 x6 = ⟨rA 0 (by omega), addf (shapeCast S1x128 (View.readCov (Val := Elt F) a10.view (H9_1 : List (View.Piece (Elt F) S8x2048 .f32)) (rA 0 (by omega)).toLoadRect) shapeCasts_S1x128_S1x128) (o.dLb 0)⟩ :: (H9_1 : List (View.Piece (Elt F) S8x2048 .f32))
    ∧ H9_3 c a1 h1 a2 h2 a3 h3 a4 h4 a5 h5 a6 h6 a7 h7 a10 x0 x1 x2 x3 x4 x5 x6 = qA a10.view (H9_2 c a1 h1 a2 h2 a3 h3 a4 h4 a5 h5 a6 h6 a7 h7 a10 x0 x1 x2 x3 x4 x5 x6) 1 (by omega) (o.dLb 1)
    ∧ H9_4 c a1 h1 a2 h2 a3 h3 a4 h4 a5 h5 a6 h6 a7 h7 a10 x0 x1 x2 x3 x4 x5 x6 = qA a10.view (H9_3 c a1 h1 a2 h2 a3 h3 a4 h4 a5 h5 a6 h6 a7 h7 a10 x0 x1 x2 x3 x4 x5 x6) 2 (by omega) (o.dLb 2)
    ∧ H9_5 c a1 h1 a2 h2 a3 h3 a4 h4 a5 h5 a6 h6 a7 h7 a10 x0 x1 x2 x3 x4 x5 x6 = qA a10.view (H9_4 c a1 h1 a2 h2 a3 h3 a4 h4 a5 h5 a6 h6 a7 h7 a10 x0 x1 x2 x3 x4 x5 x6) 3 (by omega) (o.dLb 3)
    ∧ H9_6 c a1 h1 a2 h2 a3 h3 a4 h4 a5 h5 a6 h6 a7 h7 a10 x0 x1 x2 x3 x4 x5 x6 = qA a10.view (H9_5 c a1 h1 a2 h2 a3 h3 a4 h4 a5 h5 a6 h6 a7 h7 a10 x0 x1 x2 x3 x4 x5 x6) 4 (by omega) (o.dLb 4)
    ∧ H9_7 c a1 h1 a2 h2 a3 h3 a4 h4 a5 h5 a6 h6 a7 h7 a10 x0 x1 x2 x3 x4 x5 x6 = qA a10.view (H9_6 c a1 h1 a2 h2 a3 h3 a4 h4 a5 h5 a6 h6 a7 h7 a10 x0 x1 x2 x3 x4 x5 x6) 5 (by omega) (o.dLb 5)
    ∧ H9_8 c a1 h1 a2 h2 a3 h3 a4 h4 a5 h5 a6 h6 a7 h7 a10 x0 x1 x2 x3 x4 x5 x6 = qA a10.view (H9_7 c a1 h1 a2 h2 a3 h3 a4 h4 a5 h5 a6 h6 a7 h7 a10 x0 x1 x2 x3 x4 x5 x6) 6 (by omega) (o.dLb 6)
    ∧ H9_9 c a1 h1 a2 h2 a3 h3 a4 h4 a5 h5 a6 h6 a7 h7 a10 x0 x1 x2 x3 x4 x5 x6 = qA a10.view (H9_8 c a1 h1 a2 h2 a3 h3 a4 h4 a5 h5 a6 h6 a7 h7 a10 x0 x1 x2 x3 x4 x5 x6) 7 (by omega) (o.dLb 7)
    ∧ H9_10 c a1 h1 a2 h2 a3 h3 a4 h4 a5 h5 a6 h6 a7 h7 a10 x0 x1 x2 x3 x4 x5 x6 = qA a10.view (H9_9 c a1 h1 a2 h2 a3 h3 a4 h4 a5 h5 a6 h6 a7 h7 a10 x0 x1 x2 x3 x4 x5 x6) 8 (by omega) (o.dLb 8)
    ∧ H9_11 c a1 h1 a2 h2 a3 h3 a4 h4 a5 h5 a6 h6 a7 h7 a10 x0 x1 x2 x3 x4 x5 x6 = qA a10.view (H9_10 c a1 h1 a2 h2 a3 h3 a4 h4 a5 h5 a6 h6 a7 h7 a10 x0 x1 x2 x3 x4 x5 x6) 9 (by omega) (o.dLb 9)
    ∧ H9_12 c a1 h1 a2 h2 a3 h3 a4 h4 a5 h5 a6 h6 a7 h7 a10 x0 x1 x2 x3 x4 x5 x6 = qA a10.view (H9_11 c a1 h1 a2 h2 a3 h3 a4 h4 a5 h5 a6 h6 a7 h7 a10 x0 x1 x2 x3 x4 x5 x6) 10 (by omega) (o.dLb 10)
    ∧ H9_13 c a1 h1 a2 h2 a3 h3 a4 h4 a5 h5 a6 h6 a7 h7 a10 x0 x1 x2 x3 x4 x5 x6 = qA a10.view (H9_12 c a1 h1 a2 h2 a3 h3 a4 h4 a5 h5 a6 h6 a7 h7 a10 x0 x1 x2 x3 x4 x5 x6) 11 (by omega) (o.dLb 11)
    ∧ H9_14 c a1 h1 a2 h2 a3 h3 a4 h4 a5 h5 a6 h6 a7 h7 a10 x0 x1 x2 x3 x4 x5 x6 = qA a10.view (H9_13 c a1 h1 a2 h2 a3 h3 a4 h4 a5 h5 a6 h6 a7 h7 a10 x0 x1 x2 x3 x4 x5 x6) 12 (by omega) (o.dLb 12)
    ∧ H9_15 c a1 h1 a2 h2 a3 h3 a4 h4 a5 h5 a6 h6 a7 h7 a10 x0 x1 x2 x3 x4 x5 x6 = qA a10.view (H9_14 c a1 h1 a2 h2 a3 h3 a4 h4 a5 h5 a6 h6 a7 h7 a10 x0 x1 x2 x3 x4 x5 x6) 13 (by omega) (o.dLb 13)
    ∧ H9_16 c a1 h1 a2 h2 a3 h3 a4 h4 a5 h5 a6 h6 a7 h7 a10 x0 x1 x2 x3 x4 x5 x6 = qA a10.view (H9_15 c a1 h1 a2 h2 a3 h3 a4 h4 a5 h5 a6 h6 a7 h7 a10 x0 x1 x2 x3 x4 x5 x6) 14 (by omega) (o.dLb 14)
    ∧ H10_2 c a1 h1 a2 h2 a3 h3 a4 h4 a5 h5 a6 h6 a7 h7 a11 x0 x1 x2 x3 x4 x5 x6 = ⟨rW 0 (by omega), shapeCast S1x128x128 (addf (shapeCast S128x128 (View.readCov (Val := Elt F) a11.view (H10_1 : List (View.Piece (Elt F) S16x128x128 .f32)) (rW 0 (by omega)).toLoadRect) shapeCasts_S1x128x128_S128x128) (o.dW 0)) shapeCasts_S128x128_S1x128x128⟩ :: (H10_1 : List (View.Piece (Elt F) S16x128x128 .f32))
    ∧ H10_3 c a1 h1 a2 h2 a3 h3 a4 h4 a5 h5 a6 h6 a7 h7 a11 x0 x1 x2 x3 x4 x5 x6 = qW a11.view (H10_2 c a1 h1 a2 h2 a3 h3 a4 h4 a5 h5 a6 h6 a7 h7 a11 x0 x1 x2 x3 x4 x5 x6) 1 (by omega) (o.dW 1)
    ∧ H10_4 c a1 h1 a2 h2 a3 h3 a4 h4 a5 h5 a6 h6 a7 h7 a11 x0 x1 x2 x3 x4 x5 x6 = qW a11.view (H10_3 c a1 h1 a2 h2 a3 h3 a4 h4 a5 h5 a6 h6 a7 h7 a11 x0 x1 x2 x3 x4 x5 x6) 2 (by omega) (o.dW 2)
    ∧ H10_5 c a1 h1 a2 h2 a3 h3 a4 h4 a5 h5 a6 h6 a7 h7 a11 x0 x1 x2 x3 x4 x5 x6 = qW a11.view (H10_4 c a1 h1 a2 h2 a3 h3 a4 h4 a5 h5 a6 h6 a7 h7 a11 x0 x1 x2 x3 x4 x5 x6) 3 (by omega) (o.dW 3)
    ∧ H10_6 c a1 h1 a2 h2 a3 h3 a4 h4 a5 h5 a6 h6 a7 h7 a11 x0 x1 x2 x3 x4 x5 x6 = qW a11.view (H10_5 c a1 h1 a2 h2 a3 h3 a4 h4 a5 h5 a6 h6 a7 h7 a11 x0 x1 x2 x3 x4 x5 x6) 4 (by omega) (o.dW 4)
    ∧ H10_7 c a1 h1 a2 h2 a3 h3 a4 h4 a5 h5 a6 h6 a7 h7 a11 x0 x1 x2 x3 x4 x5 x6 = qW a11.view (H10_6 c a1 h1 a2 h2 a3 h3 a4 h4 a5 h5 a6 h6 a7 h7 a11 x0 x1 x2 x3 x4 x5 x6) 5 (by omega) (o.dW 5)
    ∧ H10_8 c a1 h1 a2 h2 a3 h3 a4 h4 a5 h5 a6 h6 a7 h7 a11 x0 x1 x2 x3 x4 x5 x6 = qW a11.view (H10_7 c a1 h1 a2 h2 a3 h3 a4 h4 a5 h5 a6 h6 a7 h7 a11 x0 x1 x2 x3 x4 x5 x6) 6 (by omega) (o.dW 6)
    ∧ H10_9 c a1 h1 a2 h2 a3 h3 a4 h4 a5 h5 a6 h6 a7 h7 a11 x0 x1 x2 x3 x4 x5 x6 = qW a11.view (H10_8 c a1 h1 a2 h2 a3 h3 a4 h4 a5 h5 a6 h6 a7 h7 a11 x0 x1 x2 x3 x4 x5 x6) 7 (by omega) (o.dW 7)
    ∧ H10_10 c a1 h1 a2 h2 a3 h3 a4 h4 a5 h5 a6 h6 a7 h7 a11 x0 x1 x2 x3 x4 x5 x6 = qW a11.view (H10_9 c a1 h1 a2 h2 a3 h3 a4 h4 a5 h5 a6 h6 a7 h7 a11 x0 x1 x2 x3 x4 x5 x6) 8 (by omega) (o.dW 8)
    ∧ H10_11 c a1 h1 a2 h2 a3 h3 a4 h4 a5 h5 a6 h6 a7 h7 a11 x0 x1 x2 x3 x4 x5 x6 = qW a11.view (H10_10 c a1 h1 a2 h2 a3 h3 a4 h4 a5 h5 a6 h6 a7 h7 a11 x0 x1 x2 x3 x4 x5 x6) 9 (by omega) (o.dW 9)
    ∧ H10_12 c a1 h1 a2 h2 a3 h3 a4 h4 a5 h5 a6 h6 a7 h7 a11 x0 x1 x2 x3 x4 x5 x6 = qW a11.view (H10_11 c a1 h1 a2 h2 a3 h3 a4 h4 a5 h5 a6 h6 a7 h7 a11 x0 x1 x2 x3 x4 x5 x6) 10 (by omega) (o.dW 10)
    ∧ H10_13 c a1 h1 a2 h2 a3 h3 a4 h4 a5 h5 a6 h6 a7 h7 a11 x0 x1 x2 x3 x4 x5 x6 = qW a11.view (H10_12 c a1 h1 a2 h2 a3 h3 a4 h4 a5 h5 a6 h6 a7 h7 a11 x0 x1 x2 x3 x4 x5 x6) 11 (by omega) (o.dW 11)
    ∧ H10_14 c a1 h1 a2 h2 a3 h3 a4 h4 a5 h5 a6 h6 a7 h7 a11 x0 x1 x2 x3 x4 x5 x6 = qW a11.view (H10_13 c a1 h1 a2 h2 a3 h3 a4 h4 a5 h5 a6 h6 a7 h7 a11 x0 x1 x2 x3 x4 x5 x6) 12 (by omega) (o.dW 12)
    ∧ H10_15 c a1 h1 a2 h2 a3 h3 a4 h4 a5 h5 a6 h6 a7 h7 a11 x0 x1 x2 x3 x4 x5 x6 = qW a11.view (H10_14 c a1 h1 a2 h2 a3 h3 a4 h4 a5 h5 a6 h6 a7 h7 a11 x0 x1 x2 x3 x4 x5 x6) 13 (by omega) (o.dW 13)
    ∧ H10_16 c a1 h1 a2 h2 a3 h3 a4 h4 a5 h5 a6 h6 a7 h7 a11 x0 x1 x2 x3 x4 x5 x6 = qW a11.view (H10_15 c a1 h1 a2 h2 a3 h3 a4 h4 a5 h5 a6 h6 a7 h7 a11 x0 x1 x2 x3 x4 x5 x6) 14 (by omega) (o.dW 14)
    ∧ (kernelRun0_A c i a1 h1 a2 h2 a3 h3 a4 h4 a5 h5 a6 h6 a7 h7 a8 h8 a9 h9 a10 h10 a11 h11 a12 h12 a13 h13 hc0 x0 x1 x2 x3 x4 x5 x6).1 = P7 o 16 (le_refl _)
    ∧ (kernelRun0_A c i a1 h1 a2 h2 a3 h3 a4 h4 a5 h5 a6 h6 a7 h7 a8 h8 a9 h9 a10 h10 a11 h11 a12 h12 a13 h13 hc0 x0 x1 x2 x3 x4 x5 x6).2.1 = qA a9.view (H8_16 c a1 h1 a2 h2 a3 h3 a4 h4 a5 h5 a6 h6 a7 h7 a9 x0 x1 x2 x3 x4 x5 x6) 15 (by omega) (o.dLg 15)
    ∧ (kernelRun0_A c i a1 h1 a2 h2 a3 h3 a4 h4 a5 h5 a6 h6 a7 h7 a8 h8 a9 h9 a10 h10 a11 h11 a12 h12 a13 h13 hc0 x0 x1 x2 x3 x4 x5 x6).2.2.1 = qA a10.view (H9_16 c a1 h1 a2 h2 a3 h3 a4 h4 a5 h5 a6 h6 a7 h7 a10 x0 x1 x2 x3 x4 x5 x6) 15 (by omega) (o.dLb 15)
    ∧ (kernelRun0_A c i a1 h1 a2 h2 a3 h3 a4 h4 a5 h5 a6 h6 a7 h7 a8 h8 a9 h9 a10 h10 a11 h11 a12 h12 a13 h13 hc0 x0 x1 x2 x3 x4 x5 x6).2.2.2.1 = qW a11.view (H10_16 c a1 h1 a2 h2 a3 h3 a4 h4 a5 h5 a6 h6 a7 h7 a11 x0 x1 x2 x3 x4 x5 x6) 15 (by omega) (o.dW 15)
    ∧ (kernelRun0_A c i a1 h1 a2 h2 a3 h3 a4 h4 a5 h5 a6 h6 a7 h7 a8 h8 a9 h9 a10 h10 a11 h11 a12 h12 a13 h13 hc0 x0 x1 x2 x3 x4 x5 x6).2.2.2.2.1 = ⟨Rect.unit ![0, 0] ![128, 128] inb_S128x128_S128x128_0_0, addf (shapeCast S128x128 (View.readCov (Val := Elt F) a12.view Z11 (Rect.unit (s := S128x128) ![0, 0] ![128, 128] inb_S128x128_S128x128_0_0).toLoadRect) shapeCasts_S128x128_S128x128) (o.dB 16 (le_refl _))⟩ :: Z11
    ∧ (kernelRun0_A c i a1 h1 a2 h2 a3 h3 a4 h4 a5 h5 a6 h6 a7 h7 a8 h8 a9 h9 a10 h10 a11 h11 a12 h12 a13 h13 hc0 x0 x1 x2 x3 x4 x5 x6).2.2.2.2.2.1 = ⟨Rect.unit ![0, 0] ![1, 2048] inb_S8x2048_S1x2048_0_0, addf (shapeCast S1x2048 (View.readCov (Val := Elt F) a13.view Z12 (Rect.unit (s := S8x2048) ![0, 0] ![1, 2048] inb_S8x2048_S1x2048_0_0).toLoadRect) shapeCasts_S1x2048_S1x2048) o.dNg⟩ :: Z12 := by
  have L := lds a1 h1 a2 h2 a3 h3 a4 h4 a5 h5 a6 h6 a7 h7 x0 x1 x2 x3 x4 x5 x6 o ho
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  on_goal 1 => unfold H8_2
  on_goal 2 => unfold H8_3
  on_goal 3 => unfold H8_4
  on_goal 4 => unfold H8_5
  on_goal 5 => unfold H8_6
  on_goal 6 => unfold H8_7
  on_goal 7 => unfold H8_8
  on_goal 8 => unfold H8_9
  on_goal 9 => unfold H8_10
  on_goal 10 => unfold H8_11
  on_goal 11 => unfold H8_12
  on_goal 12 => unfold H8_13
  on_goal 13 => unfold H8_14
  on_goal 14 => unfold H8_15
  on_goal 15 => unfold H8_16
  on_goal 16 => unfold H9_2
  on_goal 17 => unfold H9_3
  on_goal 18 => unfold H9_4
  on_goal 19 => unfold H9_5
  on_goal 20 => unfold H9_6
  on_goal 21 => unfold H9_7
  on_goal 22 => unfold H9_8
  on_goal 23 => unfold H9_9
  on_goal 24 => unfold H9_10
  on_goal 25 => unfold H9_11
  on_goal 26 => unfold H9_12
  on_goal 27 => unfold H9_13
  on_goal 28 => unfold H9_14
  on_goal 29 => unfold H9_15
  on_goal 30 => unfold H9_16
  on_goal 31 => unfold H10_2
  on_goal 32 => unfold H10_3
  on_goal 33 => unfold H10_4
  on_goal 34 => unfold H10_5
  on_goal 35 => unfold H10_6
  on_goal 36 => unfold H10_7
  on_goal 37 => unfold H10_8
  on_goal 38 => unfold H10_9
  on_goal 39 => unfold H10_10
  on_goal 40 => unfold H10_11
  on_goal 41 => unfold H10_12
  on_goal 42 => unfold H10_13
  on_goal 43 => unfold H10_14
  on_goal 44 => unfold H10_15
  on_goal 45 => unfold H10_16
  on_goal 46 => (unfold kernelRun0_A; dsimp only)
  on_goal 47 => (unfold kernelRun0_A; dsimp only)
  on_goal 48 => (unfold kernelRun0_A; dsimp only)
  on_goal 49 => (unfold kernelRun0_A; dsimp only)
  on_goal 50 => (unfold kernelRun0_A; dsimp only)
  on_goal 51 => (unfold kernelRun0_A; dsimp only)
  all_goals
    simp only [
    cst_164, cst_232, cst_356, cst_412, cst_773, cst_787, r, r_1, r_10, r_100, r_101, r_102, r_103, r_104, r_105, r_106, r_107, r_108,
    r_109, r_11, r_110, r_111, r_112, r_113, r_114, r_115, r_116, r_117, r_118, r_119, r_12, r_120, r_121, r_122, r_123, r_124, r_125,
    r_126, r_127, r_128, r_129, r_13, r_130, r_131, r_132, r_133, r_134, r_135, r_136, r_137, r_138, r_139, r_14, r_140, r_141, r_142,
    r_143, r_144, r_145, r_146, r_147, r_148, r_149, r_15, r_150, r_151, r_152, r_153, r_154, r_155, r_156, r_157, r_158, r_159, r_16,
    r_160, r_161, r_162, r_163, r_164, r_165, r_166, r_167, r_168, r_169, r_17, r_170, r_171, r_172, r_173, r_174, r_175, r_176, r_177,
    r_178, r_179, r_18, r_180, r_181, r_182, r_183, r_184, r_185, r_186, r_187, r_188, r_189, r_19, r_190, r_191, r_192, r_193, r_194,
    r_195, r_196, r_197, r_198, r_199, r_2, r_20, r_200, r_201, r_202, r_203, r_204, r_205, r_206, r_207, r_208, r_209, r_21, r_210, r_211,
    r_212, r_213, r_214, r_215, r_216, r_217, r_218, r_219, r_22, r_220, r_221, r_222, r_223, r_224, r_225, r_226, r_227, r_228, r_229,
    r_23, r_230, r_231, r_232, r_233, r_234, r_235, r_236, r_237, r_238, r_239, r_24, r_240, r_241, r_242, r_243, r_244, r_245, r_246,
    r_247, r_248, r_249, r_25, r_250, r_251, r_252, r_253, r_254, r_255, r_256, r_257, r_258, r_259, r_26, r_260, r_261, r_262, r_263,
    r_264, r_265, r_266, r_267, r_268, r_269, r_27, r_270, r_271, r_272, r_273, r_274, r_275, r_276, r_277, r_278, r_279, r_28, r_280,
    r_281, r_282, r_283, r_284, r_285, r_286, r_287, r_288, r_289, r_29, r_290, r_291, r_292, r_293, r_294, r_295, r_296, r_297, r_298,
    r_299, r_3, r_30, r_300, r_301, r_302, r_303, r_304, r_305, r_306, r_307, r_308, r_309, r_31, r_310, r_311, r_312, r_313, r_314, r_315,
    r_316, r_317, r_318, r_319, r_32, r_320, r_321, r_322, r_323, r_324, r_325, r_326, r_327, r_328, r_329, r_33, r_330, r_331, r_332,
    r_333, r_334, r_335, r_336, r_337, r_338, r_339, r_34, r_340, r_341, r_342, r_343, r_344, r_345, r_346, r_347, r_348, r_349, r_35,
    r_350, r_351, r_352, r_353, r_354, r_355, r_356, r_357, r_358, r_359, r_36, r_360, r_361, r_362, r_363, r_364, r_365, r_366, r_367,
    r_368, r_369, r_37, r_370, r_371, r_372, r_373, r_374, r_375, r_376, r_377, r_378, r_379, r_38, r_380, r_381, r_382, r_383, r_384,
    r_385, r_386, r_387, r_388, r_389, r_39, r_390, r_391, r_392, r_393, r_394, r_395, r_396, r_397, r_398, r_399, r_4, r_40, r_400, r_401,
    r_402, r_403, r_404, r_405, r_406, r_407, r_408, r_409, r_41, r_410, r_411, r_412, r_413, r_414, r_415, r_416, r_417, r_418, r_419,
    r_42, r_420, r_421, r_422, r_423, r_424, r_425, r_426, r_427, r_428, r_429, r_43, r_430, r_431, r_432, r_433, r_434, r_435, r_436,
    r_437, r_438, r_439, r_44, r_440, r_441, r_442, r_443, r_444, r_445, r_446, r_447, r_448, r_449, r_45, r_450, r_451, r_452, r_453,
    r_454, r_455, r_456, r_457, r_458, r_459, r_46, r_460, r_461, r_462, r_463, r_464, r_465, r_466, r_467, r_468, r_469, r_47, r_470,
    r_471, r_472, r_473, r_474, r_475, r_476, r_477, r_478, r_479, r_48, r_480, r_481, r_482, r_483, r_484, r_485, r_486, r_487, r_488,
    r_489, r_49, r_490, r_491, r_492, r_493, r_494, r_495, r_496, r_497, r_498, r_499, r_5, r_50, r_500, r_501, r_502, r_503, r_504, r_505,
    r_506, r_507, r_508, r_509, r_51, r_510, r_511, r_512, r_513, r_514, r_515, r_516, r_517, r_518, r_519, r_52, r_520, r_521, r_522,
    r_523, r_524, r_525, r_526, r_527, r_528, r_529, r_53, r_530, r_531, r_532, r_533, r_534, r_535, r_536, r_537, r_538, r_539, r_54,
    r_540, r_541, r_542, r_543, r_544, r_545, r_546, r_547, r_548, r_549, r_55, r_56, r_57, r_58, r_59, r_6, r_60, r_61, r_62, r_63, r_64,
    r_65, r_66, r_67, r_68, r_69, r_7, r_70, r_71, r_72, r_73, r_74, r_75, r_76, r_77, r_78, r_79, r_8, r_80, r_81, r_82, r_83, r_84, r_85,
    r_86, r_87, r_88, r_89, r_9, r_90, r_91, r_92, r_93, r_94, r_95, r_96, r_97, r_98, r_99, v0, v1, v100, v102, v104, v106, v108, v110,
    v112, v114, v116, v118, v120, v122, v124, v126, v128, v130, v132, v134, v136, v138, v140, v142, v144, v146, v148, v150, v152, v154,
    v156, v158, v160, v162, v164, v166, v168, v170, v197, v198, v2, v2651, v2657, v2661, v2665, v2683, v2687, v2691, v2709, v2713, v2717,
    v2735, v2739, v2743, v2761, v2765, v2769, v2787, v2791, v2795, v2813, v2817, v2821, v2839, v2843, v2847, v2865, v2869, v2873, v2891,
    v2895, v2899, v2917, v2921, v2925, v2943, v2947, v2951, v2969, v2973, v2977, v2995, v2999, v3003, v3021, v3025, v3029, v3047, v3051,
    v3055, v3069, v3073, v90, v92, v94, v96, v98, H11_1, H12_1, k0_pay3, k0_pay4, k0_pay5, k0_pay6, k0_pay7, L, pays1, pays2, pays3, pays4,
    pays5, pays6, pays7, pays8, pays9, pays10, pays11, pays12, pays13, pays14, pays15, pays16, pays17]
  all_goals rfl

set_option maxHeartbeats 8000000 in
set_option maxRecDepth 100000 in
theorem run_A (c : Dev nD) (i : grid0.Coords) (a1 : Memref sig .tc .vmem S128x4096 .bf16) (h1 : a1.IsWhole) (a2 : Memref sig .tc .vmem S1x2048 .f32) (h2 : a2.IsWhole) (a3 : Memref sig .tc .vmem S1x2048 .f32) (h3 : a3.IsWhole) (a4 : Memref sig .tc .vmem S16x128x128 .f32) (h4 : a4.IsWhole) (a5 : Memref sig .tc .vmem S128x128 .f32) (h5 : a5.IsWhole) (a6 : Memref sig .tc .vmem S1x2048 .f32) (h6 : a6.IsWhole) (a7 : Memref sig .tc .vmem S128x2048 .bf16) (h7 : a7.IsWhole) (a8 : Memref sig .tc .vmem S128x4096 .bf16) (h8 : a8.IsWhole) (a9 : Memref sig .tc .vmem S8x2048 .f32) (h9 : a9.IsWhole) (a10 : Memref sig .tc .vmem S8x2048 .f32) (h10 : a10.IsWhole) (a11 : Memref sig .tc .vmem S16x128x128 .f32) (h11 : a11.IsWhole) (a12 : Memref sig .tc .vmem S128x128 .f32) (h12 : a12.IsWhole) (a13 : Memref sig .tc .vmem S8x2048 .f32) (h13 : a13.IsWhole) (hc0 : cond0_0 i)
    (x0 : Vec F S128x4096 .bf16) (x1 : Vec F S1x2048 .f32) (x2 : Vec F S1x2048 .f32) (x3 : Vec F S16x128x128 .f32) (x4 : Vec F S128x128 .f32) (x5 : Vec F S1x2048 .f32) (x6 : Vec F S128x2048 .bf16)
    (o : Ops F) (ho : (ld a1 h1 a2 h2 a3 h3 a4 h4 a5 h5 a6 h6 a7 h7 x0 x1 x2 x3 x4 x5 x6) = o) :
    (kernelRun0_A c i a1 h1 a2 h2 a3 h3 a4 h4 a5 h5 a6 h6 a7 h7 a8 h8 a9 h9 a10 h10 a11 h11 a12 h12 a13 h13 hc0 x0 x1 x2 x3 x4 x5 x6).1 = P7 o 16 (le_refl _)
    ∧ (kernelRun0_A c i a1 h1 a2 h2 a3 h3 a4 h4 a5 h5 a6 h6 a7 h7 a8 h8 a9 h9 a10 h10 a11 h11 a12 h12 a13 h13 hc0 x0 x1 x2 x3 x4 x5 x6).2.1 = PA0 a9.view o.dLg 16 (le_refl _)
    ∧ (kernelRun0_A c i a1 h1 a2 h2 a3 h3 a4 h4 a5 h5 a6 h6 a7 h7 a8 h8 a9 h9 a10 h10 a11 h11 a12 h12 a13 h13 hc0 x0 x1 x2 x3 x4 x5 x6).2.2.1 = PA0 a10.view o.dLb 16 (le_refl _)
    ∧ (kernelRun0_A c i a1 h1 a2 h2 a3 h3 a4 h4 a5 h5 a6 h6 a7 h7 a8 h8 a9 h9 a10 h10 a11 h11 a12 h12 a13 h13 hc0 x0 x1 x2 x3 x4 x5 x6).2.2.2.1 = PW0 a11.view o.dW 16 (le_refl _)
    ∧ (kernelRun0_A c i a1 h1 a2 h2 a3 h3 a4 h4 a5 h5 a6 h6 a7 h7 a8 h8 a9 h9 a10 h10 a11 h11 a12 h12 a13 h13 hc0 x0 x1 x2 x3 x4 x5 x6).2.2.2.2.1 = ⟨Rect.unit ![0, 0] ![128, 128] inb_S128x128_S128x128_0_0, addf (shapeCast S128x128 (View.readCov (Val := Elt F) a12.view Z11 (Rect.unit (s := S128x128) ![0, 0] ![128, 128] inb_S128x128_S128x128_0_0).toLoadRect) shapeCasts_S128x128_S128x128) (o.dB 16 (le_refl _))⟩ :: Z11
    ∧ (kernelRun0_A c i a1 h1 a2 h2 a3 h3 a4 h4 a5 h5 a6 h6 a7 h7 a8 h8 a9 h9 a10 h10 a11 h11 a12 h12 a13 h13 hc0 x0 x1 x2 x3 x4 x5 x6).2.2.2.2.2.1 = ⟨Rect.unit ![0, 0] ![1, 2048] inb_S8x2048_S1x2048_0_0, addf (shapeCast S1x2048 (View.readCov (Val := Elt F) a13.view Z12 (Rect.unit (s := S8x2048) ![0, 0] ![1, 2048] inb_S8x2048_S1x2048_0_0).toLoadRect) shapeCasts_S1x2048_S1x2048) o.dNg⟩ :: Z12 := by
  obtain ⟨s8_1, s8_2, s8_3, s8_4, s8_5, s8_6, s8_7, s8_8, s8_9, s8_10, s8_11, s8_12, s8_13, s8_14, s8_15, s9_1, s9_2, s9_3, s9_4, s9_5, s9_6, s9_7, s9_8, s9_9, s9_10, s9_11, s9_12, s9_13, s9_14, s9_15, s10_1, s10_2, s10_3, s10_4, s10_5, s10_6, s10_7, s10_8, s10_9, s10_10, s10_11, s10_12, s10_13, s10_14, s10_15, f7, f8, f9, f10, f11, S⟩ := steps_A c i a1 h1 a2 h2 a3 h3 a4 h4 a5 h5 a6 h6 a7 h7 a8 h8 a9 h9 a10 h10 a11 h11 a12 h12 a13 h13 hc0 x0 x1 x2 x3 x4 x5 x6 o ho
  have c8_0 : (H8_1 : List (View.Piece (Elt F) S8x2048 .f32)) = PA0 a9.view o.dLg 0 (by omega) := rfl
  have c8_1 : _ = PA0 a9.view o.dLg 1 (by omega) := s8_1.trans (by rw [c8_0]; rfl)
  have c8_2 : _ = PA0 a9.view o.dLg 2 (by omega) := s8_2.trans (by rw [c8_1]; rfl)
  have c8_3 : _ = PA0 a9.view o.dLg 3 (by omega) := s8_3.trans (by rw [c8_2]; rfl)
  have c8_4 : _ = PA0 a9.view o.dLg 4 (by omega) := s8_4.trans (by rw [c8_3]; rfl)
  have c8_5 : _ = PA0 a9.view o.dLg 5 (by omega) := s8_5.trans (by rw [c8_4]; rfl)
  have c8_6 : _ = PA0 a9.view o.dLg 6 (by omega) := s8_6.trans (by rw [c8_5]; rfl)
  have c8_7 : _ = PA0 a9.view o.dLg 7 (by omega) := s8_7.trans (by rw [c8_6]; rfl)
  have c8_8 : _ = PA0 a9.view o.dLg 8 (by omega) := s8_8.trans (by rw [c8_7]; rfl)
  have c8_9 : _ = PA0 a9.view o.dLg 9 (by omega) := s8_9.trans (by rw [c8_8]; rfl)
  have c8_10 : _ = PA0 a9.view o.dLg 10 (by omega) := s8_10.trans (by rw [c8_9]; rfl)
  have c8_11 : _ = PA0 a9.view o.dLg 11 (by omega) := s8_11.trans (by rw [c8_10]; rfl)
  have c8_12 : _ = PA0 a9.view o.dLg 12 (by omega) := s8_12.trans (by rw [c8_11]; rfl)
  have c8_13 : _ = PA0 a9.view o.dLg 13 (by omega) := s8_13.trans (by rw [c8_12]; rfl)
  have c8_14 : _ = PA0 a9.view o.dLg 14 (by omega) := s8_14.trans (by rw [c8_13]; rfl)
  have c8_15 : _ = PA0 a9.view o.dLg 15 (by omega) := s8_15.trans (by rw [c8_14]; rfl)
  have c9_0 : (H9_1 : List (View.Piece (Elt F) S8x2048 .f32)) = PA0 a10.view o.dLb 0 (by omega) := rfl
  have c9_1 : _ = PA0 a10.view o.dLb 1 (by omega) := s9_1.trans (by rw [c9_0]; rfl)
  have c9_2 : _ = PA0 a10.view o.dLb 2 (by omega) := s9_2.trans (by rw [c9_1]; rfl)
  have c9_3 : _ = PA0 a10.view o.dLb 3 (by omega) := s9_3.trans (by rw [c9_2]; rfl)
  have c9_4 : _ = PA0 a10.view o.dLb 4 (by omega) := s9_4.trans (by rw [c9_3]; rfl)
  have c9_5 : _ = PA0 a10.view o.dLb 5 (by omega) := s9_5.trans (by rw [c9_4]; rfl)
  have c9_6 : _ = PA0 a10.view o.dLb 6 (by omega) := s9_6.trans (by rw [c9_5]; rfl)
  have c9_7 : _ = PA0 a10.view o.dLb 7 (by omega) := s9_7.trans (by rw [c9_6]; rfl)
  have c9_8 : _ = PA0 a10.view o.dLb 8 (by omega) := s9_8.trans (by rw [c9_7]; rfl)
  have c9_9 : _ = PA0 a10.view o.dLb 9 (by omega) := s9_9.trans (by rw [c9_8]; rfl)
  have c9_10 : _ = PA0 a10.view o.dLb 10 (by omega) := s9_10.trans (by rw [c9_9]; rfl)
  have c9_11 : _ = PA0 a10.view o.dLb 11 (by omega) := s9_11.trans (by rw [c9_10]; rfl)
  have c9_12 : _ = PA0 a10.view o.dLb 12 (by omega) := s9_12.trans (by rw [c9_11]; rfl)
  have c9_13 : _ = PA0 a10.view o.dLb 13 (by omega) := s9_13.trans (by rw [c9_12]; rfl)
  have c9_14 : _ = PA0 a10.view o.dLb 14 (by omega) := s9_14.trans (by rw [c9_13]; rfl)
  have c9_15 : _ = PA0 a10.view o.dLb 15 (by omega) := s9_15.trans (by rw [c9_14]; rfl)
  have c10_0 : (H10_1 : List (View.Piece (Elt F) S16x128x128 .f32)) = PW0 a11.view o.dW 0 (by omega) := rfl
  have c10_1 : _ = PW0 a11.view o.dW 1 (by omega) := s10_1.trans (by rw [c10_0]; rfl)
  have c10_2 : _ = PW0 a11.view o.dW 2 (by omega) := s10_2.trans (by rw [c10_1]; rfl)
  have c10_3 : _ = PW0 a11.view o.dW 3 (by omega) := s10_3.trans (by rw [c10_2]; rfl)
  have c10_4 : _ = PW0 a11.view o.dW 4 (by omega) := s10_4.trans (by rw [c10_3]; rfl)
  have c10_5 : _ = PW0 a11.view o.dW 5 (by omega) := s10_5.trans (by rw [c10_4]; rfl)
  have c10_6 : _ = PW0 a11.view o.dW 6 (by omega) := s10_6.trans (by rw [c10_5]; rfl)
  have c10_7 : _ = PW0 a11.view o.dW 7 (by omega) := s10_7.trans (by rw [c10_6]; rfl)
  have c10_8 : _ = PW0 a11.view o.dW 8 (by omega) := s10_8.trans (by rw [c10_7]; rfl)
  have c10_9 : _ = PW0 a11.view o.dW 9 (by omega) := s10_9.trans (by rw [c10_8]; rfl)
  have c10_10 : _ = PW0 a11.view o.dW 10 (by omega) := s10_10.trans (by rw [c10_9]; rfl)
  have c10_11 : _ = PW0 a11.view o.dW 11 (by omega) := s10_11.trans (by rw [c10_10]; rfl)
  have c10_12 : _ = PW0 a11.view o.dW 12 (by omega) := s10_12.trans (by rw [c10_11]; rfl)
  have c10_13 : _ = PW0 a11.view o.dW 13 (by omega) := s10_13.trans (by rw [c10_12]; rfl)
  have c10_14 : _ = PW0 a11.view o.dW 14 (by omega) := s10_14.trans (by rw [c10_13]; rfl)
  have c10_15 : _ = PW0 a11.view o.dW 15 (by omega) := s10_15.trans (by rw [c10_14]; rfl)
  refine ⟨f7, ?_, ?_, ?_, f11, S⟩
  · rw [f8, c8_15]; rfl
  · rw [f9, c9_15]; rfl
  · rw [f10, c10_15]; rfl

end Cert.KernelIdeal.Hand
end
-- ==== Proof.RunB.lean ====
/-
  The stores of a point that continues a block of steps.
-/
module
public import proofs.«01_k».proof.Proof.Pieces
public import Idealize.ShloMosaic.Lib.Tactic
@[expose] public section
noncomputable section
namespace Cert.KernelIdeal.Hand
open Cert.KernelIdeal Cert.KernelIdeal.Gen Cert.KernelIdeal.Gen.kernelRun0_B Cert.KernelIdeal.Gen.kernelRun0_B.sl Idealize.ShloMosaic Idealize.ShloMosaic.TcCoe Idealize.SL.Sem
variable {F : FTy → Type} [FloatOps F]

set_option maxHeartbeats 4000000 in
set_option maxRecDepth 100000 in
theorem run_B (c : Dev nD) (i : grid0.Coords) (a1 : Memref sig .tc .vmem S128x4096 .bf16) (h1 : a1.IsWhole) (a2 : Memref sig .tc .vmem S1x2048 .f32) (h2 : a2.IsWhole) (a3 : Memref sig .tc .vmem S1x2048 .f32) (h3 : a3.IsWhole) (a4 : Memref sig .tc .vmem S16x128x128 .f32) (h4 : a4.IsWhole) (a5 : Memref sig .tc .vmem S128x128 .f32) (h5 : a5.IsWhole) (a6 : Memref sig .tc .vmem S1x2048 .f32) (h6 : a6.IsWhole) (a7 : Memref sig .tc .vmem S128x2048 .bf16) (h7 : a7.IsWhole) (a8 : Memref sig .tc .vmem S128x4096 .bf16) (h8 : a8.IsWhole) (a9 : Memref sig .tc .vmem S8x2048 .f32) (h9 : a9.IsWhole) (a10 : Memref sig .tc .vmem S8x2048 .f32) (h10 : a10.IsWhole) (a11 : Memref sig .tc .vmem S16x128x128 .f32) (h11 : a11.IsWhole) (a12 : Memref sig .tc .vmem S128x128 .f32) (h12 : a12.IsWhole) (a13 : Memref sig .tc .vmem S8x2048 .f32) (h13 : a13.IsWhole) (hc0 : ¬cond0_0 i)
    (x0 : Vec F S128x4096 .bf16) (x1 : Vec F S1x2048 .f32) (x2 : Vec F S1x2048 .f32) (x3 : Vec F S16x128x128 .f32) (x4 : Vec F S128x128 .f32) (x5 : Vec F S1x2048 .f32) (x6 : Vec F S128x2048 .bf16) (xo8 : Vec F S8x2048 .f32) (xo9 : Vec F S8x2048 .f32) (xo10 : Vec F S16x128x128 .f32) (xo11 : Vec F S128x128 .f32) (xo12 : Vec F S8x2048 .f32)
    (o : Ops F) (ho : (ld a1 h1 a2 h2 a3 h3 a4 h4 a5 h5 a6 h6 a7 h7 x0 x1 x2 x3 x4 x5 x6) = o) :
    (kernelRun0_B c i a1 h1 a2 h2 a3 h3 a4 h4 a5 h5 a6 h6 a7 h7 a8 h8 a9 h9 a10 h10 a11 h11 a12 h12 a13 h13 hc0 x0 x1 x2 x3 x4 x5 x6 xo8 xo9 xo10 xo11 xo12).1 = P7 o 16 (le_refl _)
    ∧ (kernelRun0_B c i a1 h1 a2 h2 a3 h3 a4 h4 a5 h5 a6 h6 a7 h7 a8 h8 a9 h9 a10 h10 a11 h11 a12 h12 a13 h13 hc0 x0 x1 x2 x3 x4 x5 x6 xo8 xo9 xo10 xo11 xo12).2.1 = PA o.dLg (fun n h => View.readAt (Elt F) a9.view (rA n h).toLoadRect (h9.unread xo8)) 16 (le_refl _)
    ∧ (kernelRun0_B c i a1 h1 a2 h2 a3 h3 a4 h4 a5 h5 a6 h6 a7 h7 a8 h8 a9 h9 a10 h10 a11 h11 a12 h12 a13 h13 hc0 x0 x1 x2 x3 x4 x5 x6 xo8 xo9 xo10 xo11 xo12).2.2.1 = PA o.dLb (fun n h => View.readAt (Elt F) a10.view (rA n h).toLoadRect (h10.unread xo9)) 16 (le_refl _)
    ∧ (kernelRun0_B c i a1 h1 a2 h2 a3 h3 a4 h4 a5 h5 a6 h6 a7 h7 a8 h8 a9 h9 a10 h10 a11 h11 a12 h12 a13 h13 hc0 x0 x1 x2 x3 x4 x5 x6 xo8 xo9 xo10 xo11 xo12).2.2.2.1 = PW o.dW (fun n h => View.readAt (Elt F) a11.view (rW n h).toLoadRect (h11.unread xo10)) 16 (le_refl _)
    ∧ (kernelRun0_B c i a1 h1 a2 h2 a3 h3 a4 h4 a5 h5 a6 h6 a7 h7 a8 h8 a9 h9 a10 h10 a11 h11 a12 h12 a13 h13 hc0 x0 x1 x2 x3 x4 x5 x6 xo8 xo9 xo10 xo11 xo12).2.2.2.2.1 = [⟨Rect.unit ![0, 0] ![128, 128] inb_S128x128_S128x128_0_0, addf (shapeCast S128x128 (View.readAt (Elt F) a12.view (Rect.unit (s := S128x128) ![0, 0] ![128, 128] inb_S128x128_S128x128_0_0).toLoadRect (h12.unread xo11)) shapeCasts_S128x128_S128x128) (o.dB 16 (le_refl _))⟩]
    ∧ (kernelRun0_B c i a1 h1 a2 h2 a3 h3 a4 h4 a5 h5 a6 h6 a7 h7 a8 h8 a9 h9 a10 h10 a11 h11 a12 h12 a13 h13 hc0 x0 x1 x2 x3 x4 x5 x6 xo8 xo9 xo10 xo11 xo12).2.2.2.2.2.1 = [⟨Rect.unit ![0, 0] ![1, 2048] inb_S8x2048_S1x2048_0_0, addf (shapeCast S1x2048 (View.readAt (Elt F) a13.view (Rect.unit (s := S8x2048) ![0, 0] ![1, 2048] inb_S8x2048_S1x2048_0_0).toLoadRect (h13.unread xo12)) shapeCasts_S1x2048_S1x2048) o.dNg⟩] := by
  unfold kernelRun0_B
  dsimp only
  have L := lds a1 h1 a2 h2 a3 h3 a4 h4 a5 h5 a6 h6 a7 h7 x0 x1 x2 x3 x4 x5 x6 o ho
  simp only [
    cst_164, cst_232, cst_356, cst_412, cst_773, cst_787, r, r_1, r_10, r_100, r_101, r_102, r_103, r_104, r_105, r_106, r_107, r_108,
    r_109, r_11, r_110, r_111, r_112, r_113, r_114, r_115, r_116, r_117, r_118, r_119, r_12, r_120, r_121, r_122, r_123, r_124, r_125,
    r_126, r_127, r_128, r_129, r_13, r_130, r_131, r_132, r_133, r_134, r_135, r_136, r_137, r_138, r_139, r_14, r_140, r_141, r_142,
    r_143, r_144, r_145, r_146, r_147, r_148, r_149, r_15, r_150, r_151, r_152, r_153, r_154, r_155, r_156, r_157, r_158, r_159, r_16,
    r_160, r_161, r_162, r_163, r_164, r_165, r_166, r_167, r_168, r_169, r_17, r_170, r_171, r_172, r_173, r_174, r_175, r_176, r_177,
    r_178, r_179, r_18, r_180, r_181, r_182, r_183, r_184, r_185, r_186, r_187, r_188, r_189, r_19, r_190, r_191, r_192, r_193, r_194,
    r_195, r_196, r_197, r_198, r_199, r_2, r_20, r_200, r_201, r_202, r_203, r_204, r_205, r_206, r_207, r_208, r_209, r_21, r_210, r_211,
    r_212, r_213, r_214, r_215, r_216, r_217, r_218, r_219, r_22, r_220, r_221, r_222, r_223, r_224, r_225, r_226, r_227, r_228, r_229,
    r_23, r_230, r_231, r_232, r_233, r_234, r_235, r_236, r_237, r_238, r_239, r_24, r_240, r_241, r_242, r_243, r_244, r_245, r_246,
    r_247, r_248, r_249, r_25, r_250, r_251, r_252, r_253, r_254, r_255, r_256, r_257, r_258, r_259, r_26, r_260, r_261, r_262, r_263,
    r_264, r_265, r_266, r_267, r_268, r_269, r_27, r_270, r_271, r_272, r_273, r_274, r_275, r_276, r_277, r_278, r_279, r_28, r_280,
    r_281, r_282, r_283, r_284, r_285, r_286, r_287, r_288, r_289, r_29, r_290, r_291, r_292, r_293, r_294, r_295, r_296, r_297, r_298,
    r_299, r_3, r_30, r_300, r_301, r_302, r_303, r_304, r_305, r_306, r_307, r_308, r_309, r_31, r_310, r_311, r_312, r_313, r_314, r_315,
    r_316, r_317, r_318, r_319, r_32, r_320, r_321, r_322, r_323, r_324, r_325, r_326, r_327, r_328, r_329, r_33, r_330, r_331, r_332,
    r_333, r_334, r_335, r_336, r_337, r_338, r_339, r_34, r_340, r_341, r_342, r_343, r_344, r_345, r_346, r_347, r_348, r_349, r_35,
    r_350, r_351, r_352, r_353, r_354, r_355, r_356, r_357, r_358, r_359, r_36, r_360, r_361, r_362, r_363, r_364, r_365, r_366, r_367,
    r_368, r_369, r_37, r_370, r_371, r_372, r_373, r_374, r_375, r_376, r_377, r_378, r_379, r_38, r_380, r_381, r_382, r_383, r_384,
    r_385, r_386, r_387, r_388, r_389, r_39, r_390, r_391, r_392, r_393, r_394, r_395, r_396, r_397, r_398, r_399, r_4, r_40, r_400, r_401,
    r_402, r_403, r_404, r_405, r_406, r_407, r_408, r_409, r_41, r_410, r_411, r_412, r_413, r_414, r_415, r_416, r_417, r_418, r_419,
    r_42, r_420, r_421, r_422, r_423, r_424, r_425, r_426, r_427, r_428, r_429, r_43, r_430, r_431, r_432, r_433, r_434, r_435, r_436,
    r_437, r_438, r_439, r_44, r_440, r_441, r_442, r_443, r_444, r_445, r_446, r_447, r_448, r_449, r_45, r_450, r_451, r_452, r_453,
    r_454, r_455, r_456, r_457, r_458, r_459, r_46, r_460, r_461, r_462, r_463, r_464, r_465, r_466, r_467, r_468, r_469, r_47, r_470,
    r_471, r_472, r_473, r_474, r_475, r_476, r_477, r_478, r_479, r_48, r_480, r_481, r_482, r_483, r_484, r_485, r_486, r_487, r_488,
    r_489, r_49, r_490, r_491, r_492, r_493, r_494, r_495, r_496, r_497, r_498, r_499, r_5, r_50, r_500, r_501, r_502, r_503, r_504, r_505,
    r_506, r_507, r_508, r_509, r_51, r_510, r_511, r_512, r_513, r_514, r_515, r_516, r_517, r_518, r_519, r_52, r_520, r_521, r_522,
    r_523, r_524, r_525, r_526, r_527, r_528, r_529, r_53, r_530, r_531, r_532, r_533, r_534, r_535, r_536, r_537, r_538, r_539, r_54,
    r_540, r_541, r_542, r_543, r_544, r_545, r_546, r_547, r_548, r_549, r_55, r_56, r_57, r_58, r_59, r_6, r_60, r_61, r_62, r_63, r_64,
    r_65, r_66, r_67, r_68, r_69, r_7, r_70, r_71, r_72, r_73, r_74, r_75, r_76, r_77, r_78, r_79, r_8, r_80, r_81, r_82, r_83, r_84, r_85,
    r_86, r_87, r_88, r_89, r_9, r_90, r_91, r_92, r_93, r_94, r_95, r_96, r_97, r_98, r_99, v0, v1, v100, v102, v104, v106, v108, v110,
    v112, v114, v116, v118, v120, v122, v124, v126, v128, v130, v132, v134, v136, v138, v140, v142, v144, v146, v148, v150, v152, v154,
    v156, v158, v160, v162, v164, v166, v168, v170, v197, v198, v2, v2651, v2683, v2687, v2691, v2709, v2713, v2717, v2735, v2739, v2743,
    v2761, v2765, v2769, v2787, v2791, v2795, v2813, v2817, v2821, v2839, v2843, v2847, v2865, v2869, v2873, v2891, v2895, v2899, v2917,
    v2921, v2925, v2943, v2947, v2951, v2969, v2973, v2977, v2995, v2999, v3003, v3021, v3025, v3029, v3047, v3051, v3055, v90, v92, v94,
    v96, v98, L, pays1, pays2, pays3, pays4, pays5, pays6, pays7, pays8, pays9, pays10, pays11, pays12, pays13, pays14, pays15, pays16,
    pays17]
  refine ⟨?_, ?_, ?_, ?_, ?_, ?_⟩
  · rfl
  · rfl
  · rfl
  · rfl
  · rfl
  · rfl

end Cert.KernelIdeal.Hand
end
-- ==== Proof.Spec.lean ====
/-
  The gradient of the chunked spatial gating unit with its row normalisation, over the extended reals: one chunk of 128
  rows, its sixteen groups of 128 lanes, and the sums the parameters' gradients are made of.
-/
module
public import Idealize.ShloMosaic.Lib.Pipeline.Value
public import Idealize.ShloMosaic.Lib.ValueIdx
public import Idealize.ShloMosaic.PureOps.Ideal.Laws
@[expose] public section
noncomputable section
namespace Cert.Spec
open Idealize.ShloMosaic

/-- The number a 32-bit pattern stands for. -/
abbrev k (b : BitVec 32) : EReal := Ideal.ofBits .f32 b

/-! ## The activation and its gradient -/

def hT (x : EReal) : EReal := Ideal.tanh (k 0x3F4C422A#32 * (x + k 0x3D372713#32 * (x * (x * x))))
def hH (x : EReal) : EReal := k 0x3F000000#32 * (k 0x3F800000#32 + hT x)
def hG (x : EReal) : EReal := x * hH x
def hK (x D : EReal) : EReal :=
  k 0x3F4C422A#32 * ((k 0x3F000000#32 * (x * D)) * ((k 0x3F800000#32 + hT x) * (k 0x3F800000#32 - hT x)))
def hBack (x D : EReal) : EReal := (D * hH x + hK x D) + (k 0x3D372713#32 * hK x D) * (k 0x40400000#32 * (x * x))

/-! ## The normalisation of 128 lanes and its gradient -/

section Norm
variable (v a : Fin 128 → EReal)
def mu : EReal := Ideal.div (∑ d, v d) (k 0x43000000#32)
def cen (d : Fin 128) : EReal := v d - mu v
def ve : EReal := Ideal.div (∑ d, cen v d * cen v d) (k 0x43000000#32) + k 0x358637BD#32
def rs : EReal := Ideal.rsqrt (ve v)
def dr : EReal := k 0xBF000000#32 * Ideal.div (rs v) (ve v)
def nrm (d : Fin 128) : EReal := cen v d * rs v
def nB (d : Fin 128) : EReal := a d * rs v
def nK (d : Fin 128) : EReal := Ideal.div ((∑ e, cen v e * a e) * dr v) (k 0x43000000#32) * (k 0x40000000#32 * cen v d)
def nBk (d : Fin 128) : EReal :=
  (nB v a d + nK v a d) + Ideal.div ((∑ e, -(nB v a e)) + ∑ e, -(nK v a e)) (k 0x43000000#32)
end Norm

/-! ## The normalisation of 2048 lanes and its gradient -/

section Rms
variable (Y e : Fin 2048 → EReal)
def me : EReal := Ideal.div (∑ j, Y j * Y j) (k 0x45000000#32) + k 0x358637BD#32
def rr : EReal := Ideal.rsqrt (me Y)
def rd : EReal := k 0xBF000000#32 * Ideal.div (rr Y) (me Y)
def rq : EReal := Ideal.div ((∑ j, Y j * e j) * rd Y) (k 0x45000000#32)
def rBk (j : Fin 2048) : EReal := (e j * rr Y + Y j * rq Y e) + rq Y e * Y j
end Rms

/-! ## One chunk -/

/-- The group and the lane within the group of a lane of the whole row. -/
abbrev gO (j : Fin 2048) : Fin 16 := ⟨j.val / 128, by omega⟩
abbrev dO (j : Fin 2048) : Fin 128 := ⟨j.val % 128, by omega⟩
abbrev ln (g : Fin 16) (d : Fin 128) : Fin 2048 := ⟨128 * g.val + d.val, by omega⟩
theorem gO_ln (g : Fin 16) (d : Fin 128) : gO (ln g d) = g := Fin.ext (by show (128 * g.val + d.val) / 128 = g.val; omega)
theorem dO_ln (g : Fin 16) (d : Fin 128) : dO (ln g d) = d := Fin.ext (by show (128 * g.val + d.val) % 128 = d.val; omega)

/-- What one chunk is computed from. -/
@[ext] structure Dat where
  u : Fin 16 → Fin 128 → Fin 128 → EReal
  v : Fin 16 → Fin 128 → Fin 128 → EReal
  lg : Fin 16 → Fin 128 → EReal
  lb : Fin 16 → Fin 128 → EReal
  w : Fin 16 → Fin 128 → Fin 128 → EReal
  b : Fin 16 → Fin 128 → EReal
  ng : Fin 2048 → EReal
  dy : Fin 128 → Fin 2048 → EReal

namespace Dat
variable (o : Dat)
def gu (g : Fin 16) (t d : Fin 128) : EReal := hG (o.u g t d)
def gv (g : Fin 16) (t d : Fin 128) : EReal := hG (o.v g t d)
def vn (g : Fin 16) (t d : Fin 128) : EReal := nrm (o.gv g t) d * o.lg g d + o.lb g d
def wm (g : Fin 16) (t s : Fin 128) : EReal := if s.val ≤ t.val then o.w g t s else 0
def sg (g : Fin 16) (t d : Fin 128) : EReal := (∑ s, o.wm g t s * o.vn g s d) + o.b g t
def Y (t : Fin 128) (j : Fin 2048) : EReal := o.gu (gO j) t (dO j) * o.sg (gO j) t (dO j)
def e (t : Fin 128) (j : Fin 2048) : EReal := o.dy t j * o.ng j
def D (g : Fin 16) (t d : Fin 128) : EReal := rBk (o.Y t) (o.e t) (ln g d)
def dU (g : Fin 16) (t d : Fin 128) : EReal := hBack (o.u g t d) (o.D g t d * o.sg g t d)
def dsg (g : Fin 16) (t d : Fin 128) : EReal := o.gu g t d * o.D g t d
def dvn (g : Fin 16) (s d : Fin 128) : EReal := ∑ t, o.dsg g t d * o.wm g t s
def dV (g : Fin 16) (t d : Fin 128) : EReal := hBack (o.v g t d) (nBk (o.gv g t) (fun d => o.dvn g t d * o.lg g d) d)
def dLb (g : Fin 16) (d : Fin 128) : EReal := ∑ t, o.dvn g t d
def dLg (g : Fin 16) (d : Fin 128) : EReal := ∑ t, nrm (o.gv g t) d * o.dvn g t d
def dW (g : Fin 16) (t s : Fin 128) : EReal := if s.val ≤ t.val then ∑ d, o.dsg g t d * o.vn g s d else 0
def dBs (g : Fin 16) (t : Fin 128) : EReal := ∑ d, o.dsg g t d
def dNg (j : Fin 2048) : EReal := ∑ t, (o.Y t j * rr (o.Y t)) * o.dy t j
end Dat

end Cert.Spec
end
-- ==== Proof.Words.lean ====
/-
  The words of the spatial-gating gradient's body, read at an index over the extended reals.
-/
module
public import proofs.«01_k».proof.Proof.Voc
public import proofs.«01_k».proof.Proof.Spec
public import Idealize.ShloMosaic.Lib.Pointwise
public import Idealize.ShloMosaic.Lib.MatmulPlain
public import Idealize.ShloMosaic.Lib.WordCmp
@[expose] public section
noncomputable section
namespace Cert.KernelIdeal.Hand
open Cert.KernelIdeal Cert.KernelIdeal.Gen Idealize.ShloMosaic.TcCoe Idealize.SL.Sem Cert.Spec
open Idealize.ShloMosaic hiding ix1 ix2 ix3
open Idealize.ShloMosaic.ValueIdx (ix1 ix2 ix3)

abbrev T128 := FVec Ideal S128x128 .f32
abbrev C128 := FVec Ideal S128x1 .f32
abbrev L128 := FVec Ideal S1x128 .f32

theorem bc_apply (b : BitVec 32) (i : S128x128.Idx) : bc (F := Ideal) b i = k b := rfl
theorem bc1_apply (b : BitVec 32) (i : S128x1.Idx) : bc1 (F := Ideal) b i = k b := rfl
theorem k_zero : k 0x00000000#32 = 0 := Ideal.ofBits_zero .f32

theorem col_cast (z : FVec Ideal S128 .f32) (r : Fin 128) (q : Fin 1) : shapeCast S128x1 z shapeCasts_S128_S128x1 (ix2 r q) = z (ix1 r) :=
  shapeCast_apply z _ _ _ (by
    rewrite [Shape.rowMajor_val_one, Shape.rowMajor_val_two]
    show r.val = r.val * 1 + q.val
    omega)
theorem row_cast (z : FVec Ideal S128 .f32) (q : Fin 1) (d : Fin 128) : shapeCast S1x128 z shapeCasts_S128_S1x128 (ix2 q d) = z (ix1 d) :=
  shapeCast_apply z _ _ _ (by
    rewrite [Shape.rowMajor_val_one, Shape.rowMajor_val_two]
    show d.val = q.val * 128 + d.val
    omega)

theorem sum1_apply (z : T128) (r : Fin 128) (q : Fin 1) : sum1 z (ix2 r q) = ∑ d : Fin 128, z (ix2 r d) := by
  unfold sum1
  rw [col_cast]
  simp only [pointwise, Ideal.reduceAdd_def]
  exact Finset.sum_congr rfl fun d _ => congrArg z (by funext a; match a with | ⟨0, _⟩ => rfl | ⟨1, _⟩ => rfl)
theorem sumC_apply (z : C128) (r : Fin 128) (q : Fin 1) : sumC z (ix2 r q) = z (ix2 r 0) := by
  unfold sumC
  rw [col_cast]
  simp only [pointwise, Ideal.reduceAdd_def]
  rw [Fin.sum_univ_one]
  exact congrArg z (by funext a; match a with | ⟨0, _⟩ => rfl | ⟨1, _⟩ => rfl)
theorem sum0_apply (z : T128) (q : Fin 1) (d : Fin 128) : sum0 z (ix2 q d) = ∑ r : Fin 128, z (ix2 r d) := by
  unfold sum0
  rw [row_cast]
  simp only [pointwise, Ideal.reduceAdd_def]
  exact Finset.sum_congr rfl fun d _ => congrArg z (by funext a; match a with | ⟨0, _⟩ => rfl | ⟨1, _⟩ => rfl)
theorem bR_apply (z : C128) (r d : Fin 128) : bR z (ix2 r d) = z (ix2 r 0) :=
  broadcastTo_apply z _ _ _ (fun a => match a with | ⟨0, _⟩ => rfl | ⟨1, _⟩ => rfl)
theorem bL_apply (z : L128) (r d : Fin 128) : bL z (ix2 r d) = z (ix2 0 d) :=
  broadcastTo_apply z _ _ _ (fun a => match a with | ⟨0, _⟩ => rfl | ⟨1, _⟩ => rfl)

/-! ## The activation -/

theorem gTanh_apply (x : T128) (i : S128x128.Idx) : gTanh x i = hT (x i) := rfl
theorem gHalf_apply (x : T128) (i : S128x128.Idx) : gHalf x i = hH (x i) := rfl
theorem gelu_apply (x : T128) (i : S128x128.Idx) : gelu x i = hG (x i) := rfl
theorem gBack_apply (x D : T128) (i : S128x128.Idx) : gBack x D i = hBack (x i) (D i) := rfl

/-! ## The normalisation of a tile's rows -/

/-- A row of a tile. -/
abbrev rw' (z : T128) (r : Fin 128) : Fin 128 → EReal := fun d => z (ix2 r d)

theorem nMu_apply (v : T128) (r : Fin 128) (q : Fin 1) : nMu v (ix2 r q) = mu (rw' v r) := by
  show Ideal.div (sum1 v (ix2 r q)) _ = _
  rw [sum1_apply]; rfl
theorem nCen_apply (v : T128) (r d : Fin 128) : nCen v (ix2 r d) = cen (rw' v r) d := by
  show v (ix2 r d) - bR (nMu v) (ix2 r d) = _
  rw [bR_apply, nMu_apply]; rfl
theorem nVe_apply (v : T128) (r : Fin 128) (q : Fin 1) : nVe v (ix2 r q) = ve (rw' v r) := by
  show Ideal.div (sum1 (mulf (nCen v) (nCen v)) (ix2 r q)) _ + _ = _
  rw [sum1_apply]
  show Ideal.div (∑ d : Fin 128, nCen v (ix2 r d) * nCen v (ix2 r d)) _ + _ = _
  simp only [nCen_apply]; rfl
theorem nRs_apply (v : T128) (r : Fin 128) (q : Fin 1) : nRs v (ix2 r q) = rs (rw' v r) := by
  show Ideal.rsqrt (nVe v (ix2 r q)) = _
  rw [nVe_apply]; rfl
theorem nDr_apply (v : T128) (r : Fin 128) (q : Fin 1) : nDr v (ix2 r q) = dr (rw' v r) := by
  show k 0xBF000000#32 * Ideal.div (nRs v (ix2 r q)) (nVe v (ix2 r q)) = _
  rw [nVe_apply, nRs_apply]; rfl
theorem nNrm_apply (v : T128) (r d : Fin 128) : nNrm v (ix2 r d) = nrm (rw' v r) d := by
  show nCen v (ix2 r d) * bR (nRs v) (ix2 r d) = _
  rw [bR_apply, nRs_apply, nCen_apply]; rfl
theorem nOut_apply (v : T128) (lg lb : L128) (r d : Fin 128) :
    nOut v lg lb (ix2 r d) = nrm (rw' v r) d * lg (ix2 0 d) + lb (ix2 0 d) := by
  show nNrm v (ix2 r d) * bL lg (ix2 r d) + bL lb (ix2 r d) = _
  rw [bL_apply, bL_apply, nNrm_apply]
theorem nA_apply (lg : L128) (g : T128) (r d : Fin 128) : nA lg g (ix2 r d) = g (ix2 r d) * lg (ix2 0 d) := by
  show g (ix2 r d) * bL lg (ix2 r d) = _
  rw [bL_apply]
theorem nB_apply (v : T128) (lg : L128) (g : T128) (r d : Fin 128) :
    Hand.nB v lg g (ix2 r d) = Spec.nB (rw' v r) (fun d => g (ix2 r d) * lg (ix2 0 d)) d := by
  show nA lg g (ix2 r d) * bR (nRs v) (ix2 r d) = _
  rw [bR_apply, nRs_apply, nA_apply]; rfl
theorem nK_apply (v : T128) (lg : L128) (g : T128) (r d : Fin 128) :
    Hand.nK v lg g (ix2 r d) = Spec.nK (rw' v r) (fun d => g (ix2 r d) * lg (ix2 0 d)) d := by
  show bR (F := Ideal) (sumC _) (ix2 r d) * (k 0x40000000#32 * nCen v (ix2 r d)) = _
  rw [bR_apply, sumC_apply]
  show Ideal.div (sum1 (mulf (nCen v) (nA lg g)) (ix2 r 0) * nDr v (ix2 r 0)) _ * _ = _
  rw [sum1_apply]
  show Ideal.div ((∑ e : Fin 128, nCen v (ix2 r e) * nA lg g (ix2 r e)) * nDr v (ix2 r 0)) _ * _ = _
  simp only [nCen_apply, nA_apply, nDr_apply]; rfl
theorem nNeg_apply (z : T128) (r : Fin 128) (q : Fin 1) : nNeg z (ix2 r q) = ∑ e : Fin 128, -(z (ix2 r e)) := by
  unfold nNeg
  rw [sum1_apply]
  refine Finset.sum_congr rfl fun d _ => ?_
  show k 0x00000000#32 - z (ix2 r d) = _
  rw [k_zero, zero_sub]
theorem nBack_apply (v : T128) (lg : L128) (g : T128) (r d : Fin 128) :
    nBack v lg g (ix2 r d) = nBk (rw' v r) (fun d => g (ix2 r d) * lg (ix2 0 d)) d := by
  show (Hand.nB v lg g (ix2 r d) + Hand.nK v lg g (ix2 r d)) + bR (F := Ideal) (sumC _) (ix2 r d) = _
  rw [bR_apply, sumC_apply]
  show _ + Ideal.div (nNeg (Hand.nB v lg g) (ix2 r 0) + nNeg (Hand.nK v lg g) (ix2 r 0)) _ = _
  rw [nNeg_apply, nNeg_apply]
  simp only [nB_apply, nK_apply]; rfl

/-! ## The gate -/

theorem tri_select (w z : T128) (r c : Fin 128) : select tri w z (ix2 r c) = if c.val ≤ r.val then w (ix2 r c) else z (ix2 r c) := by
  show Scalar.select (IntOp.cmpi .sge (iota .tc S128x128 32 [0] iota_S128x128_d0_w32 (ix2 r c)) (iota .tc S128x128 32 [1] iota_S128x128_d1_w32 (ix2 r c))) _ _ = _
  rw [iota_single_apply, iota_single_apply]
  show Scalar.select (IntOp.cmpi .sge (BitVec.ofNat 32 r.val) (BitVec.ofNat 32 c.val)) _ _ = _
  rw [WordCmp.cmpi_sge_ofNat (by have := r.isLt; omega) (by have := c.isLt; omega), WordCmp.select_ofBool]
  simp only [decide_eq_true_eq]
theorem wM_apply (w : T128) (r c : Fin 128) : wM w (ix2 r c) = if c.val ≤ r.val then w (ix2 r c) else 0 := by
  show select tri w (bc 0x00000000#32) (ix2 r c) = _
  rw [tri_select, bc_apply, k_zero]
theorem vT_apply (v : T128) (lg lb : L128) (r d : Fin 128) :
    vT v lg lb (ix2 r d) = nrm (rw' v r) d * lg (ix2 0 d) + lb (ix2 0 d) := nOut_apply v lg lb r d

/-- A product from a block of zeros. -/
theorem mm_w (a : FVec Ideal S128x128 .bf16) (b : FVec Ideal S128x128 .bf16) (r d : Fin 128) :
    matmul dot_S128x128_S128x128_S128x128_1_0_0_1_n_n none a b (constant S128x128 .f32 0x00000000#32) (ix2 r d)
      = ∑ s : Fin 128, a (ix2 r s) * b (ix2 s d) := by
  have h := Ideal.matmul_plain_apply (M := 128) (K := 128) (N := 128) none a b (constant S128x128 .f32 0x00000000#32) r d
  refine h.trans ?_
  show k 0x00000000#32 + _ = _
  rw [k_zero, zero_add]
theorem mm_t (a b : T128) (r d : Fin 128) :
    matmul dot_S128x128_S128x128_S128x128_1_1_0_0_n_n none a (b : FVec Ideal S128x128 .bf16) (constant S128x128 .f32 0x00000000#32) (ix2 r d)
      = ∑ s : Fin 128, a (ix2 r s) * b (ix2 d s) := by
  have h := Ideal.matmul_transposedRhs_apply (M := 128) (K := 128) (N := 128) (φ₂ := .bf16) none a b (constant S128x128 .f32 0x00000000#32) r d
  refine h.trans ?_
  show k 0x00000000#32 + _ = _
  rw [k_zero, zero_add]
/-- A product of the left operand's columns with the right operand's columns. -/
theorem mm_c (a b : T128) (r d : Fin 128) :
    matmul dot_S128x128_S128x128_S128x128_0_0_1_1_n_n none a (b : FVec Ideal S128x128 .bf16) (constant S128x128 .f32 0x00000000#32) (ix2 r d)
      = ∑ s : Fin 128, a (ix2 s r) * b (ix2 s d) := by
  show FloatOps.matmul dot_S128x128_S128x128_S128x128_0_0_1_1_n_n none (φ₁ := .f32) (φ₂ := .bf16) a b (constant S128x128 .f32 0x00000000#32) (ix2 r d) = _
  rw [Ideal.matmul_apply, ← Equiv.sum_comp (ValueIdx.contrEquiv1 dot_S128x128_S128x128_S128x128_0_0_1_1_n_n 128 rfl rfl).symm]
  show k 0x00000000#32 + _ = _
  rw [k_zero, zero_add]
  refine Finset.sum_congr rfl fun s _ => ?_
  have hk := ValueIdx.contrEquiv1_symm_val dot_S128x128_S128x128_S128x128_0_0_1_1_n_n 128 rfl rfl s
  refine congrArg₂ (· * ·) (congrArg a ?_) (congrArg b ?_)
  · funext x; apply Fin.ext
    match x with
    | ⟨0, _⟩ => exact hk
    | ⟨1, _⟩ => rfl
  · funext x; apply Fin.ext
    match x with
    | ⟨0, _⟩ => exact hk
    | ⟨1, _⟩ => rfl

theorem sg_apply (v : T128) (lg lb : L128) (w : T128) (b : C128) (r d : Fin 128) :
    sg v lg lb w b (ix2 r d)
      = (∑ s : Fin 128, (if s.val ≤ r.val then w (ix2 r s) else 0) * (nrm (rw' v s) d * lg (ix2 0 d) + lb (ix2 0 d))) + b (ix2 r 0) := by
  show matmul _ none (wM w) (vT v lg lb) _ (ix2 r d) + bR b (ix2 r d) = _
  rw [bR_apply, mm_w]
  simp only [wM_apply, vT_apply]
theorem dsg_apply (x D : T128) (i : S128x128.Idx) : dsg x D i = hG (x i) * D i := rfl
theorem dvn_apply (w x D : T128) (r d : Fin 128) :
    dvn w x D (ix2 r d) = ∑ t : Fin 128, (hG (x (ix2 t d)) * D (ix2 t d)) * (if r.val ≤ t.val then w (ix2 t r) else 0) := by
  refine (transpose_apply [1, 0] (matmul dot_S128x128_S128x128_S128x128_0_0_1_1_n_n none (dsg x D) (wM w) (constant S128x128 .f32 0x00000000#32))
    transposes_S128x128_p1_0_S128x128 (ix2 r d) (ix2 d r) (fun b => match b with | ⟨0, _⟩ => rfl | ⟨1, _⟩ => rfl)).trans ?_
  refine (mm_c (dsg x D) (wM w) d r).trans ?_
  simp only [wM_apply, dsg_apply]
theorem dW_apply (v : T128) (lg lb : L128) (x D : T128) (r c : Fin 128) :
    dW v lg lb x D (ix2 r c) = if c.val ≤ r.val then
      ∑ d : Fin 128, (hG (x (ix2 r d)) * D (ix2 r d)) * (nrm (rw' v c) d * lg (ix2 0 d) + lb (ix2 0 d)) else 0 := by
  unfold dW
  rw [tri_select, bc_apply, k_zero]
  refine if_congr Iff.rfl ?_ rfl
  refine (mm_t (dsg x D) (vT v lg lb) r c).trans ?_
  simp only [vT_apply, dsg_apply]
theorem dBias_apply (n : ℕ) (hn : n < 16) (z : C128) (r c : Fin 128) : dBias n z (ix2 r c) = if c.val = n then z (ix2 r 0) else 0 := by
  show bR z (ix2 r c) * bL _ (ix2 r c) = _
  rw [bR_apply, bL_apply]
  show _ * ((((IntOp.cmpi .eq (iota .tc S1x128 32 [1] iota_S1x128_d1_w32 (ix2 0 c)) (BitVec.ofNat 32 n)).setWidth 32).toInt : ℝ) : EReal) = _
  rw [iota_single_apply]
  show _ * ((((IntOp.cmpi .eq (BitVec.ofNat 32 c.val) (BitVec.ofNat 32 n)).setWidth 32).toInt : ℝ) : EReal) = _
  have hc : c.val < 128 := c.isLt
  by_cases h : c.val = n
  · rw [if_pos h, h, show IntOp.cmpi .eq (BitVec.ofNat 32 n) (BitVec.ofNat 32 n) = 1#1 from by simp [IntOp.cmpi]]
    norm_num
  · rw [if_neg h, show IntOp.cmpi .eq (BitVec.ofNat 32 c.val) (BitVec.ofNat 32 n) = 0#1 from by
      have : BitVec.ofNat 32 c.val ≠ BitVec.ofNat 32 n := fun e => h (by
        have := congrArg BitVec.toNat e
        simp only [BitVec.toNat_ofNat] at this
        omega)
      exact congrArg BitVec.ofBool (beq_false_of_ne this)]
    norm_num

/-! ## The row of 2048 lanes -/

abbrev T2048 := FVec Ideal S128x2048 .f32
abbrev rW' (z : T2048) (r : Fin 128) : Fin 2048 → EReal := fun j => z (ix2 r j)

theorem cat_apply (Y : Fin 16 → T128) (r : Fin 128) (j : Fin 2048) : cat Y (ix2 r j) = Y (gO j) (ix2 r (dO j)) := by
  unfold cat
  exact concatenate_ofFn_apply (t := S128x2048) (s₁ := S128x128) (1 : Fin 2) Y _ rfl 128 rfl (ix2 r j) (gO j) rfl (ix2 r (dO j)) rfl (fun b hb => match b with | ⟨0, _⟩ => rfl | ⟨1, _⟩ => absurd rfl hb)
theorem sumW_apply (z : T2048) (r : Fin 128) (q : Fin 1) : sumW z (ix2 r q) = ∑ d : Fin 2048, z (ix2 r d) := by
  unfold sumW
  rw [col_cast]
  simp only [pointwise, Ideal.reduceAdd_def]
  exact Finset.sum_congr rfl fun d _ => congrArg z (by funext a; match a with | ⟨0, _⟩ => rfl | ⟨1, _⟩ => rfl)
theorem bW_apply (z : C128) (r : Fin 128) (j : Fin 2048) : bW z (ix2 r j) = z (ix2 r 0) :=
  broadcastTo_apply z _ _ _ (fun a => match a with | ⟨0, _⟩ => rfl | ⟨1, _⟩ => rfl)
theorem rMe_apply (Y : T2048) (r : Fin 128) (q : Fin 1) : rMe Y (ix2 r q) = me (rW' Y r) := by
  show Ideal.div (sumW (mulf Y Y) (ix2 r q)) _ + _ = _
  rw [sumW_apply]; rfl
theorem rR_apply (Y : T2048) (r : Fin 128) (q : Fin 1) : rR Y (ix2 r q) = rr (rW' Y r) := by
  show Ideal.rsqrt (rMe Y (ix2 r q)) = _
  rw [rMe_apply]; rfl
theorem rD_apply (Y : T2048) (r : Fin 128) (q : Fin 1) : rD Y (ix2 r q) = rd (rW' Y r) := by
  show k 0xBF000000#32 * Ideal.div (rR Y (ix2 r q)) (rMe Y (ix2 r q)) = _
  rw [rMe_apply, rR_apply]; rfl
theorem sum0W_apply (z : T2048) (q : Fin 1) (j : Fin 2048) :
    shapeCast S1x2048 (multiReduction .add [0] S2048 z 0x00000000#32 reduces_S128x2048_S2048 (.inl rfl) rfl) shapeCasts_S2048_S1x2048 (ix2 q j)
      = ∑ t : Fin 128, z (ix2 t j) := by
  rw [shapeCast_apply _ shapeCasts_S2048_S1x2048 (ix2 q j) (ix1 j) (by
    rewrite [Shape.rowMajor_val_one, Shape.rowMajor_val_two]
    show j.val = q.val * 2048 + j.val
    omega)]
  simp only [pointwise, Ideal.reduceAdd_def]
  exact Finset.sum_congr rfl fun d _ => congrArg z (by funext a; match a with | ⟨0, _⟩ => rfl | ⟨1, _⟩ => rfl)
theorem rNg_apply (Y dy : T2048) (q : Fin 1) (j : Fin 2048) :
    rNg Y dy (ix2 q j) = ∑ t : Fin 128, (Y (ix2 t j) * rr (rW' Y t)) * dy (ix2 t j) := by
  refine (sum0W_apply (mulf (mulf Y (bW (rR Y))) dy) q j).trans (Finset.sum_congr rfl fun t _ => ?_)
  show (Y (ix2 t j) * bW (rR Y) (ix2 t j)) * dy (ix2 t j) = _
  rw [bW_apply, rR_apply]
theorem rE_apply (ng : FVec Ideal S1x2048 .f32) (dy : T2048) (r : Fin 128) (j : Fin 2048) : rE ng dy (ix2 r j) = dy (ix2 r j) * ng (ix2 0 j) := by
  show dy (ix2 r j) * broadcastTo S128x2048 ng broadcasts_S1x2048_S128x2048 (ix2 r j) = _
  rw [broadcastTo_apply ng broadcasts_S1x2048_S128x2048 (ix2 r j) (ix2 0 j) (fun a => match a with | ⟨0, _⟩ => rfl | ⟨1, _⟩ => rfl)]
theorem rQ_apply (Y e : T2048) (r : Fin 128) (j : Fin 2048) : rQ Y e (ix2 r j) = rq (rW' Y r) (rW' e r) := by
  unfold rQ
  rw [bW_apply, sumC_apply]
  show Ideal.div (sumW (mulf Y e) (ix2 r 0) * rD Y (ix2 r 0)) _ = _
  rw [sumW_apply, rD_apply]; rfl
theorem rBack_apply (Y e : T2048) (r : Fin 128) (j : Fin 2048) : rBack Y e (ix2 r j) = rBk (rW' Y r) (rW' e r) j := by
  show (e (ix2 r j) * bW (rR Y) (ix2 r j) + Y (ix2 r j) * rQ Y e (ix2 r j)) + rQ Y e (ix2 r j) * Y (ix2 r j) = _
  rw [bW_apply, rR_apply, rQ_apply]; rfl

end Cert.KernelIdeal.Hand
end
-- ==== Proof.Block.lean ====
/-
  The values of a whole block of the body are the chunk's gradient over the extended reals.
-/
module
public import proofs.«01_k».proof.Proof.Words
@[expose] public section
noncomputable section
namespace Cert.KernelIdeal.Hand
open Cert.KernelIdeal Cert.KernelIdeal.Gen Idealize.ShloMosaic.TcCoe Idealize.SL.Sem Cert.Spec
open Idealize.ShloMosaic hiding ix1 ix2 ix3
open Idealize.ShloMosaic.ValueIdx (ix1 ix2 ix3)

/-- The chunk a block's operands hold. -/
def dat (o : Ops Ideal) : Dat where
  u g t d := o.xu g (ix2 t d)
  v g t d := o.xv g (ix2 t d)
  lg g d := o.lg g (ix2 0 d)
  lb g d := o.lb g (ix2 0 d)
  w g t s := o.w g (ix3 0 t s)
  b g t := o.b g (ix2 t 0)
  ng j := o.ng (ix2 0 j)
  dy t j := o.dy (ix2 t j)

variable (o : Ops Ideal)

theorem lg'_apply (g : Fin 16) (d : Fin 128) : o.lg' g (ix2 0 d) = (dat o).lg g d := shapeCast_apply _ _ _ _ rfl
theorem lb'_apply (g : Fin 16) (d : Fin 128) : o.lb' g (ix2 0 d) = (dat o).lb g d := shapeCast_apply _ _ _ _ rfl
theorem b'_apply (g : Fin 16) (t : Fin 128) : o.b' g (ix2 t 0) = (dat o).b g t := shapeCast_apply _ _ _ _ rfl
theorem w'_apply (g : Fin 16) (t s : Fin 128) : o.w' g (ix2 t s) = (dat o).w g t s :=
  shapeCast_apply _ _ _ _ (by
    rewrite [Shape.rowMajor_val_three, Shape.rowMajor_val_two]
    show (0 * 128 + t.val) * 128 + s.val = t.val * 128 + s.val
    omega)
theorem gv_row (g : Fin 16) (t : Fin 128) : rw' (gelu (o.xv' g)) t = (dat o).gv g t := rfl
theorem vn_eq (g : Fin 16) (t d : Fin 128) :
    nrm (rw' (gelu (o.xv' g)) t) d * o.lg' g (ix2 0 d) + o.lb' g (ix2 0 d) = (dat o).vn g t d := by
  rw [lg'_apply, lb'_apply, gv_row]; rfl
theorem wm_eq (g : Fin 16) (t s : Fin 128) : (if s.val ≤ t.val then o.w' g (ix2 t s) else 0) = (dat o).wm g t s := by
  rw [w'_apply]; rfl
theorem sg'_apply (g : Fin 16) (t d : Fin 128) : o.sg' g (ix2 t d) = (dat o).sg g t d := by
  unfold Ops.sg'
  rw [sg_apply]
  simp only [vn_eq, wm_eq, b'_apply]; rfl
theorem out_apply (g : Fin 16) (t d : Fin 128) : o.out g (ix2 t d) = (dat o).gu g t d * (dat o).sg g t d := by
  show _ * o.sg' g (ix2 t d) = _
  rw [sg'_apply]; rfl
theorem Y_apply (t : Fin 128) (j : Fin 2048) : o.Y (ix2 t j) = (dat o).Y t j := by
  unfold Ops.Y
  rw [cat_apply, out_apply]; rfl
theorem e_apply (t : Fin 128) (j : Fin 2048) : o.e (ix2 t j) = (dat o).e t j := by
  unfold Ops.e
  rw [rE_apply, shapeCast_apply o.ng shapeCasts_S1x2048_S1x2048 (ix2 0 j) (ix2 0 j) rfl]; rfl
theorem dY_apply (t : Fin 128) (j : Fin 2048) : o.dY (ix2 t j) = rBk ((dat o).Y t) ((dat o).e t) j := by
  unfold Ops.dY
  rw [rBack_apply, show rW' o.Y t = (dat o).Y t from funext (Y_apply o t), show rW' o.e t = (dat o).e t from funext (e_apply o t)]
theorem D_apply (g : Fin 16) (t d : Fin 128) : o.D g (ix2 t d) = (dat o).D g t d := by
  unfold Ops.D
  rw [extractStridedSlice_apply _ _ _ (ix2 t d) (ix2 t (ln g d)) (fun a => match a with
    | ⟨0, _⟩ => (Nat.zero_add _).symm
    | ⟨1, _⟩ => rfl), dY_apply]; rfl
theorem dU_apply (g : Fin 16) (t d : Fin 128) : o.dU g (ix2 t d) = (dat o).dU g t d := by
  show hBack _ (o.D g (ix2 t d) * o.sg' g (ix2 t d)) = _
  rw [D_apply, sg'_apply]; rfl
theorem dsg_eq (g : Fin 16) (t d : Fin 128) : hG (o.xu' g (ix2 t d)) * o.D g (ix2 t d) = (dat o).dsg g t d := by
  rw [D_apply]; rfl
theorem dvn_apply' (g : Fin 16) (s d : Fin 128) : o.dvn g (ix2 s d) = (dat o).dvn g s d := by
  unfold Ops.dvn
  rw [dvn_apply]
  simp only [dsg_eq, wm_eq]; rfl
theorem dV_apply (g : Fin 16) (t d : Fin 128) : o.dV g (ix2 t d) = (dat o).dV g t d := by
  show hBack _ (nBack (F := Ideal) _ _ _ (ix2 t d)) = _
  rw [nBack_apply, gv_row]
  simp only [dvn_apply', lg'_apply]; rfl
theorem dLb_apply (g : Fin 16) (d : Fin 128) : o.dLb g (ix2 0 d) = (dat o).dLb g d := by
  unfold Ops.dLb
  rw [sum0_apply]
  simp only [dvn_apply']; rfl
theorem dLg_apply (g : Fin 16) (d : Fin 128) : o.dLg g (ix2 0 d) = (dat o).dLg g d := by
  unfold Ops.dLg
  rw [sum0_apply]
  refine Finset.sum_congr rfl fun t _ => ?_
  show nNrm _ (ix2 t d) * o.dvn g (ix2 t d) = _
  rw [nNrm_apply, dvn_apply', gv_row]
theorem dW_apply' (g : Fin 16) (t s : Fin 128) : o.dW g (ix2 t s) = (dat o).dW g t s := by
  unfold Ops.dW
  rw [dW_apply]
  simp only [dsg_eq, vn_eq]; rfl
theorem dBs_apply (g : Fin 16) (t : Fin 128) : o.dBs g (ix2 t 0) = (dat o).dBs g t := by
  unfold Ops.dBs
  rw [sum1_apply]
  exact Finset.sum_congr rfl fun d _ => dsg_eq o g t d
/-- The sums' column a lane of the padded block stands for. -/
abbrev lo (c : Fin 128) : Fin 16 := ⟨c.val % 16, by omega⟩
theorem dB_apply (t c : Fin 128) : ∀ (n : ℕ) (h : n ≤ 16), o.dB n h (ix2 t c) = if c.val < n then (dat o).dBs (lo c) t else 0
  | 0, _ => k_zero
  | n + 1, h => by
    refine (congrArg₂ (· + ·) (dB_apply t c n (Nat.le_of_succ_le h)) ((dBias_apply n h (o.dBs ⟨n, h⟩) t c).trans
      (congrArg (fun x : EReal => if c.val = n then x else 0) (dBs_apply o ⟨n, h⟩ t)))).trans ?_
    show ((if c.val < n then (dat o).dBs (lo c) t else 0) + if c.val = n then (dat o).dBs ⟨n, h⟩ t else 0) = _
    rcases lt_trichotomy c.val n with h1 | h1 | h1
    · rw [if_pos h1, if_neg (Nat.ne_of_lt h1), add_zero, if_pos (Nat.lt_succ_of_lt h1)]
    · rw [if_neg (by omega), if_pos h1, zero_add, if_pos (by omega)]
      exact congrArg (fun g => (dat o).dBs g t) (Fin.ext (by show n = c.val % 16; omega))
    · rw [if_neg (by omega), if_neg (by omega), zero_add, if_neg (by omega)]
theorem dNg_apply (j : Fin 2048) : o.dNg (ix2 0 j) = (dat o).dNg j := by
  refine (rNg_apply o.Y o.dy' 0 j).trans (Finset.sum_congr rfl fun t _ => ?_)
  rw [Y_apply, show rW' o.Y t = (dat o).Y t from funext (Y_apply o t)]
  rfl

end Cert.KernelIdeal.Hand
end
-- ==== Proof.Lists.lean ====
/-
  What the six lists of stores leave, read at an index over the extended reals.
-/
module
public import proofs.«01_k».proof.Proof.Block
public import proofs.«01_k».proof.Proof.Pieces
public import Idealize.ShloMosaic.Lib.Pipeline.Value
public import Idealize.ShloMosaic.Lib.Pipeline.ValueKit.Tiles
@[expose] public section
noncomputable section
namespace Cert.KernelIdeal.Hand
open Cert.KernelIdeal Cert.KernelIdeal.Gen Idealize.ShloMosaic.TcCoe Idealize.SL.Sem Cert.Spec
open Idealize.ShloMosaic hiding ix1 ix2 ix3
open Idealize.ShloMosaic.ValueIdx (ix1 ix2 ix3)

theorem hz2 : (![0, 0] : Fin 2 → Nat) = fun _ => 0 := funext fun a => by fin_cases a <;> rfl
theorem hz3 : (![0, 0, 0] : Fin 3 → Nat) = fun _ => 0 := funext fun a => by fin_cases a <;> rfl
/-- A point inside a box is the box's own point at the differences. -/
theorem exists_emb {s : Shape} {off size : Fin s.rank → Nat} {inb} {y : s.Idx} (h : y ∈ (Rect.unit off size inb).set) :
    ∃ x : (Rect.unit off size inb).shape.Idx, (Rect.unit off size inb).emb x = y ∧ ∀ a, (y a).val = off a + (x a).val := by
  obtain ⟨x, hx⟩ := LoadRect.exists_idx_of_mem _ h
  exact ⟨x, hx, fun a => by rw [← hx]; exact Rect.idx_unit_val off size inb x a⟩

/-- The first result's block: the first 2048 columns and the next. -/
def G7 (D : Dat) : Vec Ideal S128x4096 .bf16 := fun i =>
  if h : (i 1).val < 2048 then D.dU (gO ⟨(i 1).val, h⟩) ⟨(i 0).val, (i 0).isLt⟩ (dO ⟨(i 1).val, h⟩)
  else D.dV (gO ⟨(i 1).val - 2048, by have : (i 1).val < 4096 := (i 1).isLt; omega⟩) ⟨(i 0).val, (i 0).isLt⟩
    (dO ⟨(i 1).val - 2048, by have : (i 1).val < 4096 := (i 1).isLt; omega⟩)

theorem G7_v (o : Ops Ideal) (n : ℕ) (h : n < 16) (x : S128x128.Idx) (y : S128x4096.Idx) (h0 : (y 0).val = 0 + (x 0).val)
    (h1 : (y 1).val = 2048 + 128 * n + (x 1).val) : truncf .bf16 (o.dV ⟨n, h⟩) bitsLt_bf16_f32 x = G7 (dat o) y := by
  have l1 : (x 1).val < 128 := (x 1).isLt
  have l0 : (x 0).val < 128 := (x 0).isLt
  have ex : x = ix2 (n0 := 128) (n1 := 128) ⟨(x 0).val, l0⟩ ⟨(x 1).val, l1⟩ := by
    funext a; fin_cases a <;> rfl
  unfold G7
  rw [dif_neg (show ¬ (y 1).val < 2048 by omega)]
  have E : truncf .bf16 (o.dV ⟨n, h⟩) bitsLt_bf16_f32 x = o.dV ⟨n, h⟩ x := rfl
  rw [E, congrArg (o.dV ⟨n, h⟩) ex, dV_apply]
  exact congr (congr (congrArg _ (Fin.ext (by show n = ((y 1).val - 2048) / 128; omega))) (Fin.ext (by show (x 0).val = (y 0).val; omega)))
    (Fin.ext (by show (x 1).val = ((y 1).val - 2048) % 128; omega))

theorem G7_u (o : Ops Ideal) (n : ℕ) (h : n < 16) (x : S128x128.Idx) (y : S128x4096.Idx) (h0 : (y 0).val = 0 + (x 0).val)
    (h1 : (y 1).val = 128 * n + (x 1).val) : truncf .bf16 (o.dU ⟨n, h⟩) bitsLt_bf16_f32 x = G7 (dat o) y := by
  have l1 : (x 1).val < 128 := (x 1).isLt
  have l0 : (x 0).val < 128 := (x 0).isLt
  have ex : x = ix2 (n0 := 128) (n1 := 128) ⟨(x 0).val, l0⟩ ⟨(x 1).val, l1⟩ := by
    funext a; fin_cases a <;> rfl
  unfold G7
  rw [dif_pos (show (y 1).val < 2048 by omega)]
  have E : truncf .bf16 (o.dU ⟨n, h⟩) bitsLt_bf16_f32 x = o.dU ⟨n, h⟩ x := rfl
  rw [E, congrArg (o.dU ⟨n, h⟩) ex, dU_apply]
  congr 1
  · exact Fin.ext (by show n = (y 1).val / 128; omega)
  · exact Fin.ext (by show (x 0).val = (y 0).val; omega)
  · exact Fin.ext (by show (x 1).val = (y 1).val % 128; omega)

theorem canon_P7 (o : Ops Ideal) (y : S128x4096.Idx) (hy : ∃ p ∈ P7 o 16 (le_refl _), y ∈ p.1.set) :
    View.canon (P7 o 16 (le_refl _)) y = G7 (dat o) y := by
  refine View.canon_apply_of_pieces (G7 (dat o)) _ ?_ y hy
  have key : ∀ (n : ℕ) (h : n ≤ 16), ∀ p ∈ P7 o n h, ∀ x : p.1.shape.Idx, p.2 x = G7 (dat o) (p.1.emb x) := by
    intro n
    induction n with
    | zero => intro h p hp; simp [P7] at hp
    | succ n ih =>
      intro h p hp
      rw [P7, List.mem_cons, List.mem_cons] at hp
      rcases hp with rfl | rfl | hp
      · intro x
        exact G7_v o n h x _ (Rect.idx_unit_val (s := S128x4096) ![0, 2048 + 128 * n] S128x128.size (inbX _ (by omega)) x 0) (Rect.idx_unit_val (s := S128x4096) ![0, 2048 + 128 * n] S128x128.size (inbX _ (by omega)) x 1)
      · intro x
        exact G7_u o n h x _ (Rect.idx_unit_val (s := S128x4096) ![0, 128 * n] S128x128.size (inbX _ (by omega)) x 0) (Rect.idx_unit_val (s := S128x4096) ![0, 128 * n] S128x128.size (inbX _ (by omega)) x 1)
      · exact ih _ p hp
  exact key 16 _

/-- Row 0 added to, the other rows kept. -/
def addRow (D : Fin 16 → Fin 128 → EReal) (x : Vec Ideal S8x2048 .f32) : Vec Ideal S8x2048 .f32 := fun y =>
  if (y 0).val = 0 then x y + D (gO ⟨(y 1).val, (y 1).isLt⟩) (dO ⟨(y 1).val, (y 1).isLt⟩) else x y
def addTile (D : Fin 16 → Fin 128 → Fin 128 → EReal) (x : Vec Ideal S16x128x128 .f32) : Vec Ideal S16x128x128 .f32 := fun y =>
  x y + D ⟨(y 0).val, (y 0).isLt⟩ ⟨(y 1).val, (y 1).isLt⟩ ⟨(y 2).val, (y 2).isLt⟩

theorem mem_rA (n : ℕ) (h : n < 16) (y : S8x2048.Idx) :
    y ∈ (rA n h).set ↔ (y 0).val = 0 ∧ 128 * n ≤ (y 1).val ∧ (y 1).val < 128 * n + 128 := by
  rw [Rect.mem_set_unit]
  constructor
  · intro H; have h0 := H 0; have h1 := H 1
    change 0 ≤ (y 0).val ∧ (y 0).val < 0 + 1 at h0
    change 128 * n ≤ (y 1).val ∧ (y 1).val < 128 * n + 128 at h1
    omega
  · rintro ⟨h0, h1, h2⟩ a
    fin_cases a
    · show 0 ≤ (y 0).val ∧ (y 0).val < 0 + 1; omega
    · show 128 * n ≤ (y 1).val ∧ (y 1).val < 128 * n + 128; omega

theorem mem_rW (n : ℕ) (h : n < 16) (y : S16x128x128.Idx) : y ∈ (rW n h).set ↔ (y 0).val = n := by
  rw [Rect.mem_set_unit]
  have l1 : (y 1).val < 128 := (y 1).isLt
  have l2 : (y 2).val < 128 := (y 2).isLt
  constructor
  · intro H; have h0 := H 0
    change n ≤ (y 0).val ∧ (y 0).val < n + 1 at h0
    omega
  · rintro h0 a
    fin_cases a
    · show n ≤ (y 0).val ∧ (y 0).val < n + 1; omega
    · show 0 ≤ (y 1).val ∧ (y 1).val < 0 + 128; omega
    · show 0 ≤ (y 2).val ∧ (y 2).val < 0 + 128; omega

/-- The value the store of group `n` puts at a point of its row. -/
theorem row_val (f : Fin 16 → FVec Ideal S1x128 .f32) (D : Fin 16 → Fin 128 → EReal) (hf : ∀ g d, f g (ix2 0 d) = D g d)
    (n : ℕ) (h : n < 16) (r : Vec Ideal S1x128 .f32) (x : (rA n h).shape.Idx) (y : S8x2048.Idx) (hx : ∀ a, (y a).val = (![0, 128 * n] : Fin 2 → ℕ) a + (x a).val) :
    addf (shapeCast S1x128 r shapeCasts_S1x128_S1x128) (f ⟨n, h⟩) x = r x + D (gO ⟨(y 1).val, (y 1).isLt⟩) (dO ⟨(y 1).val, (y 1).isLt⟩) := by
  have h1 : (y 1).val = 128 * n + (x 1).val := hx 1
  have l0 : (x 0).val < 1 := (x 0).isLt
  have l1 : (x 1).val < 128 := (x 1).isLt
  have ex : x = ix2 (n0 := 1) (n1 := 128) 0 ⟨(x 1).val, l1⟩ := by
    funext a; fin_cases a
    · exact Fin.ext (by show (x 0).val = 0; omega)
    · rfl
  have eg : (⟨n, h⟩ : Fin 16) = gO ⟨(y 1).val, (y 1).isLt⟩ := Fin.ext (by show n = (y 1).val / 128; omega)
  have ed : (⟨(x 1).val, l1⟩ : Fin 128) = dO ⟨(y 1).val, (y 1).isLt⟩ := Fin.ext (by show (x 1).val = (y 1).val % 128; omega)
  rw [← eg, ← ed, ← hf]
  show shapeCast S1x128 r shapeCasts_S1x128_S1x128 x + f ⟨n, h⟩ x = _
  rw [shapeCast_self]
  exact congrArg (fun z => r x + f ⟨n, h⟩ z) ex

theorem read_PA {sp} (v : View sig .tc sp S8x2048 .f32) (f : Fin 16 → FVec Ideal S1x128 .f32) (D : Fin 16 → Fin 128 → EReal)
    (hf : ∀ g d, f g (ix2 0 d) = D g d) (B : v.ty.Contents (Elt Ideal)) (x0 : Vec Ideal S8x2048 .f32) (hB : v.read (Elt Ideal) B = x0) :
    ∀ (n : ℕ) (h : n ≤ 16) (y : S8x2048.Idx),
      v.read (Elt Ideal) (v.writes (Elt Ideal) B (PA f (fun n h => View.readAt (Elt Ideal) v (rA n h).toLoadRect B) n h)) y
        = if (y 1).val < 128 * n then addRow D x0 y else x0 y := by
  intro n
  induction n with
  | zero => intro h y; rw [if_neg (by omega), PA, View.writes_nil, hB]
  | succ n ih =>
    intro h y
    rw [PA]
    by_cases hy : y ∈ (rA n h).set
    · have hm := (mem_rA n h y).1 hy
      obtain ⟨x, rfl, hx⟩ := exists_emb hy
      rw [View.read_writes_cons_emb, row_val f D hf n h _ x _ hx, View.readAt_eq_ld, hB, if_pos (by omega), addRow, if_pos hm.1]
      rfl
    · rw [View.writes_cons, View.read_slice_write_of_not_mem _ _ _ _ (by rw [Rect.map_emb_univ]; exact hy), ih]
      have hm : ¬ ((y 0).val = 0 ∧ 128 * n ≤ (y 1).val ∧ (y 1).val < 128 * n + 128) := fun q => hy ((mem_rA n h y).2 q)
      by_cases h0 : (y 0).val = 0
      · by_cases h1 : (y 1).val < 128 * n
        · rw [if_pos h1, if_pos (by omega)]
        · rw [if_neg h1, if_neg (by omega)]
      · rw [addRow, if_neg h0]; simp

theorem canon_PA0 (v : View sig .tc .vmem S8x2048 .f32) (f : Fin 16 → FVec Ideal S1x128 .f32) (D : Fin 16 → Fin 128 → EReal)
    (hf : ∀ g d, f g (ix2 0 d) = D g d) :
    ∀ (n : ℕ) (h : n ≤ 16) (y : S8x2048.Idx), View.canon (PA0 v f n h) y = if (y 1).val < 128 * n then addRow D (fun _ => 0) y else 0 := by
  intro n
  induction n with
  | zero =>
    intro h y
    rw [if_neg (by omega), PA0, View.canon_unit_zero hz2]
    exact Ideal.ofBits_zero .f32
  | succ n ih =>
    intro h y
    rw [PA0]
    by_cases hy : y ∈ (rA n h).set
    · have hm := (mem_rA n h y).1 hy
      obtain ⟨x, rfl, hx⟩ := exists_emb hy
      rw [View.canon_cons_emb, row_val f D hf n h _ x _ hx, View.readCov_eq_canon', if_pos (by omega), addRow, if_pos hm.1]
      refine congrArg (· + _) ?_
      refine (ih _ _).trans (if_neg ?_)
      exact not_lt.2 hm.2.1
    · refine (View.canon_cons_of_not_mem (e := .f32) ⟨rA n h, _⟩ _ hy).trans ((ih _ _).trans ?_)
      have hm : ¬ ((y 0).val = 0 ∧ 128 * n ≤ (y 1).val ∧ (y 1).val < 128 * n + 128) := fun q => hy ((mem_rA n h y).2 q)
      by_cases h0 : (y 0).val = 0
      · by_cases h1 : (y 1).val < 128 * n
        · rw [if_pos h1, if_pos (by omega)]
        · rw [if_neg h1, if_neg (by omega)]
      · rw [addRow, if_neg h0]; simp

theorem tile_cast (f : FVec Ideal S128x128 .f32) (r : Vec Ideal S1x128x128 .f32) (x : S1x128x128.Idx) (a b : Fin 128) (ex : x = ix3 0 a b) :
    shapeCast S1x128x128 (addf (shapeCast S128x128 r shapeCasts_S1x128x128_S128x128) f) shapeCasts_S128x128_S1x128x128 x = r x + f (ix2 a b) := by
  subst ex
  refine (shapeCast_apply _ _ _ (ix2 a b) ?_).trans ?_
  · rw [Shape.rowMajor_val_two, Shape.rowMajor_val_three]; show a.val * 128 + b.val = (0 * 128 + a.val) * 128 + b.val; omega
  · show shapeCast S128x128 r shapeCasts_S1x128x128_S128x128 _ + _ = _
    refine congrArg (· + _) (shapeCast_apply _ _ _ _ ?_)
    rw [Shape.rowMajor_val_two, Shape.rowMajor_val_three]; show (0 * 128 + a.val) * 128 + b.val = a.val * 128 + b.val; omega

/-- The value the store of group `n` puts at a point of its tile. -/
theorem tile_val (f : Fin 16 → FVec Ideal S128x128 .f32) (D : Fin 16 → Fin 128 → Fin 128 → EReal) (hf : ∀ g t d, f g (ix2 t d) = D g t d)
    (n : ℕ) (h : n < 16) (r : Vec Ideal S1x128x128 .f32) (x : (rW n h).shape.Idx) (y : S16x128x128.Idx)
    (hx : ∀ a, (y a).val = (![n, 0, 0] : Fin 3 → ℕ) a + (x a).val) :
    shapeCast S1x128x128 (addf (shapeCast S128x128 r shapeCasts_S1x128x128_S128x128) (f ⟨n, h⟩)) shapeCasts_S128x128_S1x128x128 x
      = r x + D ⟨(y 0).val, (y 0).isLt⟩ ⟨(y 1).val, (y 1).isLt⟩ ⟨(y 2).val, (y 2).isLt⟩ := by
  have h0 : (y 0).val = n + (x 0).val := hx 0
  have h1 : (y 1).val = 0 + (x 1).val := hx 1
  have h2 : (y 2).val = 0 + (x 2).val := hx 2
  have l0 : (x 0).val < 1 := (x 0).isLt
  have l1 : (x 1).val < 128 := (x 1).isLt
  have l2 : (x 2).val < 128 := (x 2).isLt
  have ex : x = ix3 (n0 := 1) (n1 := 128) (n2 := 128) 0 ⟨(x 1).val, l1⟩ ⟨(x 2).val, l2⟩ := by
    funext a; fin_cases a
    · exact Fin.ext (by show (x 0).val = 0; omega)
    · rfl
    · rfl
  have e0 : (⟨n, h⟩ : Fin 16) = ⟨(y 0).val, (y 0).isLt⟩ := Fin.ext (by show n = (y 0).val; omega)
  have e1 : (⟨(x 1).val, l1⟩ : Fin 128) = ⟨(y 1).val, (y 1).isLt⟩ := Fin.ext (by show (x 1).val = (y 1).val; omega)
  have e2 : (⟨(x 2).val, l2⟩ : Fin 128) = ⟨(y 2).val, (y 2).isLt⟩ := Fin.ext (by show (x 2).val = (y 2).val; omega)
  rw [← e0, ← e1, ← e2, ← hf]
  exact tile_cast (f ⟨n, h⟩) r x _ _ ex

theorem read_PW {sp} (v : View sig .tc sp S16x128x128 .f32) (f : Fin 16 → FVec Ideal S128x128 .f32) (D : Fin 16 → Fin 128 → Fin 128 → EReal)
    (hf : ∀ g t d, f g (ix2 t d) = D g t d) (B : v.ty.Contents (Elt Ideal)) (x0 : Vec Ideal S16x128x128 .f32) (hB : v.read (Elt Ideal) B = x0) :
    ∀ (n : ℕ) (h : n ≤ 16) (y : S16x128x128.Idx),
      v.read (Elt Ideal) (v.writes (Elt Ideal) B (PW f (fun n h => View.readAt (Elt Ideal) v (rW n h).toLoadRect B) n h)) y
        = if (y 0).val < n then addTile D x0 y else x0 y := by
  intro n
  induction n with
  | zero => intro h y; rw [if_neg (by omega), PW, View.writes_nil, hB]
  | succ n ih =>
    intro h y
    rw [PW]
    by_cases hy : y ∈ (rW n h).set
    · have hm := (mem_rW n h y).1 hy
      obtain ⟨x, rfl, hx⟩ := exists_emb hy
      rw [View.read_writes_cons_emb, tile_val f D hf n h _ x _ hx, View.readAt_eq_ld, hB, if_pos (by omega), addTile]
      rfl
    · rw [View.writes_cons, View.read_slice_write_of_not_mem _ _ _ _ (by rw [Rect.map_emb_univ]; exact hy), ih]
      have hm : ¬ ((y 0).val = n) := fun q => hy ((mem_rW n h y).2 q)
      by_cases h1 : (y 0).val < n
      · rw [if_pos h1, if_pos (by omega)]
      · rw [if_neg h1, if_neg (by omega)]

theorem canon_PW0 (v : View sig .tc .vmem S16x128x128 .f32) (f : Fin 16 → FVec Ideal S128x128 .f32) (D : Fin 16 → Fin 128 → Fin 128 → EReal)
    (hf : ∀ g t d, f g (ix2 t d) = D g t d) :
    ∀ (n : ℕ) (h : n ≤ 16) (y : S16x128x128.Idx), View.canon (PW0 v f n h) y = if (y 0).val < n then addTile D (fun _ => 0) y else 0 := by
  intro n
  induction n with
  | zero =>
    intro h y
    rw [if_neg (by omega), PW0, View.canon_unit_zero hz3]
    exact Ideal.ofBits_zero .f32
  | succ n ih =>
    intro h y
    rw [PW0]
    by_cases hy : y ∈ (rW n h).set
    · have hm := (mem_rW n h y).1 hy
      obtain ⟨x, rfl, hx⟩ := exists_emb hy
      rw [View.canon_cons_emb, tile_val f D hf n h _ x _ hx, View.readCov_eq_canon', if_pos (by omega), addTile]
      refine congrArg (· + _) ?_
      refine (ih _ _).trans (if_neg ?_)
      exact not_lt.2 hm.ge
    · refine (View.canon_cons_of_not_mem (e := .f32) ⟨rW n h, _⟩ _ hy).trans ((ih _ _).trans ?_)
      have hm : ¬ ((y 0).val = n) := fun q => hy ((mem_rW n h y).2 q)
      by_cases h1 : (y 0).val < n
      · rw [if_pos h1, if_pos (by omega)]
      · rw [if_neg h1, if_neg (by omega)]
end Cert.KernelIdeal.Hand
-- ==== Proof.Lists2.lean ====
/-
  The last two lists of stores, read at an index over the extended reals.
-/
module
public import proofs.«01_k».proof.Proof.Lists
@[expose] public section
noncomputable section
namespace Cert.KernelIdeal.Hand
open Cert.KernelIdeal Cert.KernelIdeal.Gen Idealize.ShloMosaic.TcCoe Idealize.SL.Sem Cert.Spec
open Idealize.ShloMosaic hiding ix1 ix2 ix3
open Idealize.ShloMosaic.ValueIdx (ix1 ix2 ix3)

/-- The bias table's transpose, its first 16 columns added to. -/
def addB (D : Fin 16 → Fin 128 → EReal) (x : Vec Ideal S128x128 .f32) : Vec Ideal S128x128 .f32 := fun y =>
  x y + if (y 1).val < 16 then D (lo ⟨(y 1).val, (y 1).isLt⟩) ⟨(y 0).val, (y 0).isLt⟩ else 0
/-- Row 0 added to. -/
def addN (D : Fin 2048 → EReal) (x : Vec Ideal S8x2048 .f32) : Vec Ideal S8x2048 .f32 := fun y =>
  if (y 0).val = 0 then x y + D ⟨(y 1).val, (y 1).isLt⟩ else x y

abbrev rB : Rect S128x128 := Rect.unit (s := S128x128) ![0, 0] S128x128.size inb_S128x128_S128x128_0_0
abbrev rN : Rect S8x2048 := Rect.unit (s := S8x2048) ![0, 0] S1x2048.size inb_S8x2048_S1x2048_0_0

theorem B_val (o : Ops Ideal) (r : Vec Ideal S128x128 .f32) :
    addf (shapeCast S128x128 r shapeCasts_S128x128_S128x128) (o.dB 16 (le_refl _)) = addB (dat o).dBs r := by
  funext y
  show shapeCast S128x128 r shapeCasts_S128x128_S128x128 y + o.dB 16 (le_refl _) y = _
  have ey : y = ix2 (n0 := 128) (n1 := 128) ⟨(y 0).val, (y 0).isLt⟩ ⟨(y 1).val, (y 1).isLt⟩ := by funext a; fin_cases a <;> rfl
  rw [shapeCast_self, congrArg (o.dB 16 (le_refl _)) ey, dB_apply]
  rfl

theorem canon_B0 (o : Ops Ideal) (v : View sig .tc .vmem S128x128 .f32) :
    View.canon (⟨rB, addf (shapeCast S128x128 (View.readCov (Val := Elt Ideal) v Z11 rB.toLoadRect) shapeCasts_S128x128_S128x128) (o.dB 16 (le_refl _))⟩ :: Z11)
      = addB (dat o).dBs (fun _ => 0) := by
  rw [View.canon_cons_unit_zero (S := S128x128) hz2, B_val, View.readCov_unit_zero (S := S128x128) _ hz2]
  exact congrArg (addB _) (funext fun _ => Ideal.ofBits_zero .f32)

theorem canon_B (o : Ops Ideal) (v : View sig .tc .vmem S128x128 .f32) (B : v.ty.Contents (Elt Ideal)) (x0 : Vec Ideal S128x128 .f32) (hB : v.read (Elt Ideal) B = x0) :
    View.canon [⟨rB, addf (shapeCast S128x128 (View.readAt (Elt Ideal) v rB.toLoadRect B) shapeCasts_S128x128_S128x128) (o.dB 16 (le_refl _))⟩]
      = addB (dat o).dBs x0 := by
  rw [View.canon_unit_zero (S := S128x128) hz2, B_val, View.readAt_eq_ld, hB, View.ld_unit_zero (S := S128x128) hz2]

theorem mem_rN (y : S8x2048.Idx) : y ∈ rN.set ↔ (y 0).val = 0 := by
  rw [Rect.mem_set_unit]
  have l1 : (y 1).val < 2048 := (y 1).isLt
  constructor
  · intro H; have h0 := H 0
    change 0 ≤ (y 0).val ∧ (y 0).val < 0 + 1 at h0
    omega
  · rintro h0 a
    fin_cases a
    · show 0 ≤ (y 0).val ∧ (y 0).val < 0 + 1; omega
    · show 0 ≤ (y 1).val ∧ (y 1).val < 0 + 2048; omega

theorem N_val (o : Ops Ideal) (r : Vec Ideal S1x2048 .f32) (x : rN.shape.Idx) (y : S8x2048.Idx) (hx : ∀ a, (y a).val = (![0, 0] : Fin 2 → ℕ) a + (x a).val) :
    addf (shapeCast S1x2048 r shapeCasts_S1x2048_S1x2048) o.dNg x = r x + (dat o).dNg ⟨(y 1).val, (y 1).isLt⟩ := by
  have h1 : (y 1).val = 0 + (x 1).val := hx 1
  have l0 : (x 0).val < 1 := (x 0).isLt
  have l1 : (x 1).val < 2048 := (x 1).isLt
  have ex : x = ix2 (n0 := 1) (n1 := 2048) 0 ⟨(x 1).val, l1⟩ := by
    funext a; fin_cases a
    · exact Fin.ext (by show (x 0).val = 0; omega)
    · rfl
  have ed : (⟨(x 1).val, l1⟩ : Fin 2048) = ⟨(y 1).val, (y 1).isLt⟩ := Fin.ext (by show (x 1).val = (y 1).val; omega)
  rw [← ed, ← dNg_apply]
  show shapeCast S1x2048 r shapeCasts_S1x2048_S1x2048 x + o.dNg x = _
  rw [shapeCast_self]
  exact congrArg (fun z => r x + o.dNg z) ex

theorem canon_N0 (o : Ops Ideal) (v : View sig .tc .vmem S8x2048 .f32) (y : S8x2048.Idx) :
    View.canon (⟨rN, addf (shapeCast S1x2048 (View.readCov (Val := Elt Ideal) v Z12 rN.toLoadRect) shapeCasts_S1x2048_S1x2048) o.dNg⟩ :: Z12) y
      = addN (dat o).dNg (fun _ => 0) y := by
  have hz : ∀ z, View.canon (Val := Elt Ideal) Z12 z = (0 : EReal) := fun z => by
    rw [View.canon_unit_zero (S := S8x2048) hz2]; exact Ideal.ofBits_zero .f32
  by_cases hy : y ∈ rN.set
  · have hm := (mem_rN y).1 hy
    obtain ⟨x, rfl, hx⟩ := exists_emb hy
    rw [View.canon_cons_emb, N_val o _ x _ hx, View.readCov_eq_canon', addN, if_pos hm]
    exact congrArg (· + _) (hz _)
  · refine (View.canon_cons_of_not_mem (e := .f32) ⟨rN, _⟩ _ hy).trans ((hz _).trans ?_)
    rw [addN, if_neg (fun h => hy ((mem_rN y).2 h))]

theorem read_N (o : Ops Ideal) {sp} (v : View sig .tc sp S8x2048 .f32) (B : v.ty.Contents (Elt Ideal)) (x0 : Vec Ideal S8x2048 .f32) (hB : v.read (Elt Ideal) B = x0)
    (y : S8x2048.Idx) :
    v.read (Elt Ideal) (v.writes (Elt Ideal) B [⟨rN, addf (shapeCast S1x2048 (View.readAt (Elt Ideal) v rN.toLoadRect B) shapeCasts_S1x2048_S1x2048) o.dNg⟩]) y
      = addN (dat o).dNg x0 y := by
  by_cases hy : y ∈ rN.set
  · have hm := (mem_rN y).1 hy
    obtain ⟨x, rfl, hx⟩ := exists_emb hy
    rw [View.read_writes_cons_emb, N_val o _ x _ hx, View.readAt_eq_ld, hB, addN, if_pos hm]
    rfl
  · rw [View.writes_cons, View.read_slice_write_of_not_mem _ _ _ _ (by rw [Rect.map_emb_univ]; exact hy), View.writes_nil, hB, addN,
      if_neg (fun h => hy ((mem_rN y).2 h))]
end Cert.KernelIdeal.Hand
-- ==== Proof.Out.lean ====
/-
  What a point leaves in each of its six result blocks: at the first point of the run the blocks start from zero, at
  every other one the five sums go on from what the point before left.
-/
module
public import proofs.«01_k».proof.Proof.RunA
public import proofs.«01_k».proof.Proof.RunB
public import proofs.«01_k».proof.Proof.Lists2
public import proofs.«01_k».proof.Proof.Gen.KernelIdeal.Frame
@[expose] public section
noncomputable section
namespace Cert.KernelIdeal.Hand
open Cert.KernelIdeal Cert.KernelIdeal.Gen Idealize.ShloMosaic.TcCoe Idealize.SL.Sem Cert.Spec
open Idealize.ShloMosaic hiding ix1 ix2 ix3

section
variable (c : Dev nD) (i : grid0.Coords) (arg1 : Memref sig .tc .vmem S128x4096 .bf16) (harg1 : arg1.IsWhole) (arg2 : Memref sig .tc .vmem S1x2048 .f32) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x128 .f32) (harg5 : arg5.IsWhole) (arg6 : Memref sig .tc .vmem S1x2048 .f32) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S8x2048 .f32) (harg9 : arg9.IsWhole) (arg10 : Memref sig .tc .vmem S8x2048 .f32) (harg10 : arg10.IsWhole) (arg11 : Memref sig .tc .vmem S16x128x128 .f32) (harg11 : arg11.IsWhole) (arg12 : Memref sig .tc .vmem S128x128 .f32) (harg12 : arg12.IsWhole) (arg13 : Memref sig .tc .vmem S8x2048 .f32) (harg13 : arg13.IsWhole) (hc0 : cond0_0 i)
    (x0 : Vec Ideal S128x4096 .bf16) (x1 : Vec Ideal S1x2048 .f32) (x2 : Vec Ideal S1x2048 .f32) (x3 : Vec Ideal S16x128x128 .f32) (x4 : Vec Ideal S128x128 .f32) (x5 : Vec Ideal S1x2048 .f32) (x6 : Vec Ideal S128x2048 .bf16)

theorem out0_A_7_eq :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = G7 (dat (ld arg1 harg1 arg2 harg2 arg3 harg3 arg4 harg4 arg5 harg5 arg6 harg6 arg7 harg7 x0 x1 x2 x3 x4 x5 x6)) := by
  funext y
  unfold out0_A_7
  have cv := cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 y
  rw [(run_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 _ rfl).1] at cv ⊢
  exact (View.read_writes_junk_apply_eq_canon _ y _).trans (canon_P7 _ y cv)

theorem out0_A_8_eq :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = addRow (dat (ld arg1 harg1 arg2 harg2 arg3 harg3 arg4 harg4 arg5 harg5 arg6 harg6 arg7 harg7 x0 x1 x2 x3 x4 x5 x6)).dLg (fun _ => 0) := by
  funext y
  unfold out0_A_8
  rw [(run_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 _ rfl).2.1]
  exact (View.read_writes_junk_apply_eq_canon _ y _).trans ((canon_PA0 _ _ _ (dLg_apply _) 16 (le_refl _) y).trans (if_pos (show (y 1).val < 2048 from (y 1).isLt)))

theorem out0_A_9_eq :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = addRow (dat (ld arg1 harg1 arg2 harg2 arg3 harg3 arg4 harg4 arg5 harg5 arg6 harg6 arg7 harg7 x0 x1 x2 x3 x4 x5 x6)).dLb (fun _ => 0) := by
  funext y
  unfold out0_A_9
  rw [(run_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 _ rfl).2.2.1]
  exact (View.read_writes_junk_apply_eq_canon _ y _).trans ((canon_PA0 _ _ _ (dLb_apply _) 16 (le_refl _) y).trans (if_pos (show (y 1).val < 2048 from (y 1).isLt)))

theorem out0_A_10_eq :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = addTile (dat (ld arg1 harg1 arg2 harg2 arg3 harg3 arg4 harg4 arg5 harg5 arg6 harg6 arg7 harg7 x0 x1 x2 x3 x4 x5 x6)).dW (fun _ => 0) := by
  funext y
  unfold out0_A_10
  rw [(run_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 _ rfl).2.2.2.1]
  exact (View.read_writes_junk_apply_eq_canon _ y _).trans ((canon_PW0 _ _ _ (dW_apply' _) 16 (le_refl _) y).trans (if_pos (show (y 0).val < 16 from (y 0).isLt)))

theorem out0_A_11_eq :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = addB (dat (ld arg1 harg1 arg2 harg2 arg3 harg3 arg4 harg4 arg5 harg5 arg6 harg6 arg7 harg7 x0 x1 x2 x3 x4 x5 x6)).dBs (fun _ => 0) := by
  funext y
  unfold out0_A_11
  rw [(run_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 _ rfl).2.2.2.2.1]
  exact (View.read_writes_junk_apply_eq_canon _ y _).trans (congrFun (canon_B0 _ _) y)

theorem out0_A_12_eq :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 = addN (dat (ld arg1 harg1 arg2 harg2 arg3 harg3 arg4 harg4 arg5 harg5 arg6 harg6 arg7 harg7 x0 x1 x2 x3 x4 x5 x6)).dNg (fun _ => 0) := by
  funext y
  unfold out0_A_12
  rw [(run_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 _ rfl).2.2.2.2.2]
  exact (View.read_writes_junk_apply_eq_canon _ y _).trans (canon_N0 _ _ y)

end

section
variable (c : Dev nD) (i : grid0.Coords) (arg1 : Memref sig .tc .vmem S128x4096 .bf16) (harg1 : arg1.IsWhole) (arg2 : Memref sig .tc .vmem S1x2048 .f32) (harg2 : arg2.IsWhole) (arg3 : Memref sig .tc .vmem S1x2048 .f32) (harg3 : arg3.IsWhole) (arg4 : Memref sig .tc .vmem S16x128x128 .f32) (harg4 : arg4.IsWhole) (arg5 : Memref sig .tc .vmem S128x128 .f32) (harg5 : arg5.IsWhole) (arg6 : Memref sig .tc .vmem S1x2048 .f32) (harg6 : arg6.IsWhole) (arg7 : Memref sig .tc .vmem S128x2048 .bf16) (harg7 : arg7.IsWhole) (arg8 : Memref sig .tc .vmem S128x4096 .bf16) (harg8 : arg8.IsWhole) (arg9 : Memref sig .tc .vmem S8x2048 .f32) (harg9 : arg9.IsWhole) (arg10 : Memref sig .tc .vmem S8x2048 .f32) (harg10 : arg10.IsWhole) (arg11 : Memref sig .tc .vmem S16x128x128 .f32) (harg11 : arg11.IsWhole) (arg12 : Memref sig .tc .vmem S128x128 .f32) (harg12 : arg12.IsWhole) (arg13 : Memref sig .tc .vmem S8x2048 .f32) (harg13 : arg13.IsWhole) (hc0 : ¬cond0_0 i)
    (x0 : Vec Ideal S128x4096 .bf16) (x1 : Vec Ideal S1x2048 .f32) (x2 : Vec Ideal S1x2048 .f32) (x3 : Vec Ideal S16x128x128 .f32) (x4 : Vec Ideal S128x128 .f32) (x5 : Vec Ideal S1x2048 .f32) (x6 : Vec Ideal S128x2048 .bf16) (xo8 : Vec Ideal S8x2048 .f32) (xo9 : Vec Ideal S8x2048 .f32) (xo10 : Vec Ideal S16x128x128 .f32) (xo11 : Vec Ideal S128x128 .f32) (xo12 : Vec Ideal S8x2048 .f32)

theorem out0_B_7_eq :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 = G7 (dat (ld arg1 harg1 arg2 harg2 arg3 harg3 arg4 harg4 arg5 harg5 arg6 harg6 arg7 harg7 x0 x1 x2 x3 x4 x5 x6)) := by
  funext y
  unfold out0_B_7
  have cv := cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 y
  rw [(run_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 _ rfl).1] at cv ⊢
  exact (View.read_writes_junk_apply_eq_canon _ y _).trans (canon_P7 _ y cv)

theorem out0_B_8_eq :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 = addRow (dat (ld arg1 harg1 arg2 harg2 arg3 harg3 arg4 harg4 arg5 harg5 arg6 harg6 arg7 harg7 x0 x1 x2 x3 x4 x5 x6)).dLg xo8 := by
  funext y
  unfold out0_B_8
  rw [(run_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 _ rfl).2.1]
  exact (read_PA _ _ _ (dLg_apply _) _ xo8 (harg9.read_unread xo8) 16 (le_refl _) y).trans (if_pos (show (y 1).val < 2048 from (y 1).isLt))

theorem out0_B_9_eq :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 = addRow (dat (ld arg1 harg1 arg2 harg2 arg3 harg3 arg4 harg4 arg5 harg5 arg6 harg6 arg7 harg7 x0 x1 x2 x3 x4 x5 x6)).dLb xo9 := by
  funext y
  unfold out0_B_9
  rw [(run_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 _ rfl).2.2.1]
  exact (read_PA _ _ _ (dLb_apply _) _ xo9 (harg10.read_unread xo9) 16 (le_refl _) y).trans (if_pos (show (y 1).val < 2048 from (y 1).isLt))

theorem out0_B_10_eq :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 = addTile (dat (ld arg1 harg1 arg2 harg2 arg3 harg3 arg4 harg4 arg5 harg5 arg6 harg6 arg7 harg7 x0 x1 x2 x3 x4 x5 x6)).dW xo10 := by
  funext y
  unfold out0_B_10
  have cv := cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12
  rw [(run_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 _ rfl).2.2.2.1] at cv ⊢
  refine (View.read_writes_junk_apply_eq_canon _ y _).trans ((congrFun (View.read_writes_eq_canon arg11.view (harg11.unread xo10) _ cv) y).symm.trans ?_)
  exact (read_PW _ _ _ (dW_apply' _) _ xo10 (harg11.read_unread xo10) 16 (le_refl _) y).trans (if_pos (show (y 0).val < 16 from (y 0).isLt))

theorem out0_B_11_eq :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 = addB (dat (ld arg1 harg1 arg2 harg2 arg3 harg3 arg4 harg4 arg5 harg5 arg6 harg6 arg7 harg7 x0 x1 x2 x3 x4 x5 x6)).dBs xo11 := by
  funext y
  unfold out0_B_11
  rw [(run_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 _ rfl).2.2.2.2.1]
  exact (View.read_writes_junk_apply_eq_canon _ y _).trans (congrFun (canon_B _ _ _ xo11 (harg12.read_unread xo11)) y)

theorem out0_B_12_eq :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 = addN (dat (ld arg1 harg1 arg2 harg2 arg3 harg3 arg4 harg4 arg5 harg5 arg6 harg6 arg7 harg7 x0 x1 x2 x3 x4 x5 x6)).dNg xo12 := by
  funext y
  unfold out0_B_12
  rw [(run_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 _ rfl).2.2.2.2.2]
  exact read_N _ _ _ xo12 (harg13.read_unread xo12) y
end

end Cert.KernelIdeal.Hand
-- ==== Proof.Chunk.lean ====
/-
  The chunk a grid point works on, in terms of the seven arguments: rows `128 t …` of the projection and of the
  cotangent, the whole of the scales, biases and weights.
-/
module
public import proofs.«01_k».proof.Proof.Out
public import Idealize.ShloMosaic.Lib.KernelVsHost
public import Idealize.ShloMosaic.Lib.StableHlo.Run
@[expose] public section
noncomputable section
namespace Cert.Spec
open Cert.KernelIdeal Idealize.ShloMosaic.TcCoe Idealize.SL.Sem
open Idealize.ShloMosaic hiding ix1 ix2 ix3
open Idealize.ShloMosaic.ValueIdx (ix1 ix2 ix3)

abbrev row (t : Fin 64) (r : Fin 128) : Fin 8192 := ⟨128 * t.val + r.val, by omega⟩
/-- Chunk `t` of the arguments. -/
def chunk (a0 : S8192x10240.Idx → EReal) (a1 a2 : S2048.Idx → EReal) (a3 : S16x128x128.Idx → EReal) (a4 : S16x128.Idx → EReal)
    (a5 : S2048.Idx → EReal) (a6 : S8192x4096.Idx → EReal) (t : Fin 64) : Dat where
  u g r d := a0 (ix2 (row t r) ⟨128 * g.val + d.val, by omega⟩)
  v g r d := a0 (ix2 (row t r) ⟨2048 + 128 * g.val + d.val, by omega⟩)
  lg g d := a1 (ix1 (ln g d))
  lb g d := a2 (ix1 (ln g d))
  w g i s := a3 (ix3 g i s)
  b g i := a4 (ix2 g i)
  ng j := a5 (ix1 j)
  dy r j := a6 (ix2 (row t r) ⟨j.val, by omega⟩)
end Cert.Spec
namespace Cert.KernelIdeal.Hand
open Cert.KernelIdeal Cert.KernelIdeal.Gen Idealize.ShloMosaic.TcCoe Idealize.SL.Sem Cert.Spec
open Idealize.ShloMosaic hiding ix1 ix2 ix3
open Idealize.ShloMosaic.ValueIdx (ix1 ix2 ix3)
variable (m : (ℓ : Loc nD τ sig) → Buf (Elt Ideal) ℓ)

theorem V_main_v1 (c : Dev nD) : V m c main_v1 = pad S128x128 ![0, 0] ![0, 112] ![0, 0]
    (transpose S128x16 [1, 0] (m ((c : Thread nD τ).loc main_arg4)) transposes_S16x128_S128x16_1_0)
    (sitofp (F := Ideal) .f32 (constantI S_ 32 0#32)) pads_S128x16_S128x128_000_01120 h_S_ := by
  unfold V
  simp only [hostOps0, hostOps0_1, hostOps0_2, List.flatten_cons, List.flatten_nil, List.append_nil, List.cons_append, List.nil_append]
  after_results
  rfl
theorem V_main_v2 (c : Dev nD) : V m c main_v2 = shapeCast S1x2048 (m ((c : Thread nD τ).loc main_arg1)) shapeCasts_S2048_S1x2048 := by
  unfold V
  simp only [hostOps0, hostOps0_1, hostOps0_2, List.flatten_cons, List.flatten_nil, List.append_nil, List.cons_append, List.nil_append]
  after_results
  rfl
theorem V_main_v3 (c : Dev nD) : V m c main_v3 = shapeCast S1x2048 (m ((c : Thread nD τ).loc main_arg2)) shapeCasts_S2048_S1x2048 := by
  unfold V
  simp only [hostOps0, hostOps0_1, hostOps0_2, List.flatten_cons, List.flatten_nil, List.append_nil, List.cons_append, List.nil_append]
  after_results
  rfl
theorem V_main_v4 (c : Dev nD) : V m c main_v4 = shapeCast S1x2048 (m ((c : Thread nD τ).loc main_arg5)) shapeCasts_S2048_S1x2048 := by
  unfold V
  simp only [hostOps0, hostOps0_1, hostOps0_2, List.flatten_cons, List.flatten_nil, List.append_nil, List.cons_append, List.nil_append]
  after_results
  rfl
abbrev p64 (t : Fin cfg0.N) : Fin 64 := ⟨t.val, by have : cfg0.N = 64 := N_0; have := t.isLt; omega⟩

theorem index0 : ∀ t : Fin cfg0.N, win0_0.index t 0 = t.val ∧ win0_0.index t 1 = 0 ∧ win0_6.index t 0 = t.val ∧ win0_6.index t 1 = 0 := by
  decide +kernel
theorem index1 : ∀ t : Fin cfg0.N, (∀ a, win0_1.index t a = 0) ∧ (∀ a, win0_2.index t a = 0) ∧ (∀ a, win0_3.index t a = 0) ∧ (∀ a, win0_4.index t a = 0)
    ∧ (∀ a, win0_5.index t a = 0) := by
  decide +kernel

theorem X0_at (c : Dev nD) (t : Fin cfg0.N) (i : Fin 128) (j : Fin 4096) :
    X0_0 m c t (ix2 (n0 := 128) (n1 := 4096) i j) = m ((c : Thread nD τ).loc main_arg0) (ix2 (row (p64 t) i) ⟨j.val, by omega⟩) := by
  unfold X0_0 Pipeline.Window.fill
  rw [dif_pos (moved0_0 t _)]
  unfold iblk
  rw [View.read_apply]
  show V m c main_arg0 _ = _
  rw [V_main_arg0]
  congr 1
  have hi := index0 t
  funext a
  apply Fin.ext
  match a with
  | ⟨0, _⟩ => show win0_0.index t 0 * 128 + 1 * i.val = 128 * t.val + i.val; rw [hi.1]; omega
  | ⟨1, _⟩ => show win0_0.index t 1 * 4096 + 1 * j.val = j.val; rw [hi.2.1]; omega

theorem X6_at (c : Dev nD) (t : Fin cfg0.N) (i : Fin 128) (j : Fin 2048) :
    iblk m c 6 t (ix2 (n0 := 128) (n1 := 2048) i j) = m ((c : Thread nD τ).loc main_arg6) (ix2 (row (p64 t) i) ⟨j.val, by omega⟩) := by
  unfold iblk
  rw [View.read_apply]
  show V m c main_arg6 _ = _
  rw [V_main_arg6]
  congr 1
  have hi := index0 t
  funext a
  apply Fin.ext
  match a with
  | ⟨0, _⟩ => show win0_6.index t 0 * 128 + 1 * i.val = 128 * t.val + i.val; rw [hi.2.2.1]; omega
  | ⟨1, _⟩ => show win0_6.index t 1 * 2048 + 1 * j.val = j.val; rw [hi.2.2.2]; omega

theorem X1_at (c : Dev nD) (t : Fin cfg0.N) (j : Fin 2048) :
    iblk m c 1 t (ix2 (n0 := 1) (n1 := 2048) 0 j) = m ((c : Thread nD τ).loc main_arg1) (ix1 j) := by
  unfold iblk
  rw [View.read_apply]
  show V m c main_v2 _ = _
  rw [V_main_v2]
  have hi := (index1 t).1
  refine shapeCast_apply _ _ _ _ ?_
  show (Shape.rowMajor S2048 (ix1 j)).val = (Shape.rowMajor S1x2048 _).val
  rw [Shape.rowMajor_val_one, Shape.rowMajor_val_two]
  show j.val = (win0_1.index t 0 * 1 + 1 * 0) * 2048 + (win0_1.index t 1 * 2048 + 1 * j.val)
  rw [hi, hi]; omega
theorem X2_at (c : Dev nD) (t : Fin cfg0.N) (j : Fin 2048) :
    iblk m c 2 t (ix2 (n0 := 1) (n1 := 2048) 0 j) = m ((c : Thread nD τ).loc main_arg2) (ix1 j) := by
  unfold iblk
  rw [View.read_apply]
  show V m c main_v3 _ = _
  rw [V_main_v3]
  have hi := (index1 t).2.1
  refine shapeCast_apply _ _ _ _ ?_
  show (Shape.rowMajor S2048 (ix1 j)).val = (Shape.rowMajor S1x2048 _).val
  rw [Shape.rowMajor_val_one, Shape.rowMajor_val_two]
  show j.val = (win0_2.index t 0 * 1 + 1 * 0) * 2048 + (win0_2.index t 1 * 2048 + 1 * j.val)
  rw [hi, hi]; omega
theorem X5_at (c : Dev nD) (t : Fin cfg0.N) (j : Fin 2048) :
    iblk m c 5 t (ix2 (n0 := 1) (n1 := 2048) 0 j) = m ((c : Thread nD τ).loc main_arg5) (ix1 j) := by
  unfold iblk
  rw [View.read_apply]
  show V m c main_v4 _ = _
  rw [V_main_v4]
  have hi := (index1 t).2.2.2.2
  refine shapeCast_apply _ _ _ _ ?_
  show (Shape.rowMajor S2048 (ix1 j)).val = (Shape.rowMajor S1x2048 _).val
  rw [Shape.rowMajor_val_one, Shape.rowMajor_val_two]
  show j.val = (win0_5.index t 0 * 1 + 1 * 0) * 2048 + (win0_5.index t 1 * 2048 + 1 * j.val)
  rw [hi, hi]; omega
theorem X3_at (c : Dev nD) (t : Fin cfg0.N) (g : Fin 16) (i s : Fin 128) :
    iblk m c 3 t (ix3 (n0 := 16) (n1 := 128) (n2 := 128) g i s) = m ((c : Thread nD τ).loc main_arg3) (ix3 g i s) := by
  unfold iblk
  rw [View.read_apply]
  show V m c main_arg3 _ = _
  rw [V_main_arg3]
  have hi := (index1 t).2.2.1
  congr 1
  funext a
  apply Fin.ext
  match a with
  | ⟨0, _⟩ => show win0_3.index t 0 * 16 + 1 * g.val = g.val; rw [hi]; omega
  | ⟨1, _⟩ => show win0_3.index t 1 * 128 + 1 * i.val = i.val; rw [hi]; omega
  | ⟨2, _⟩ => show win0_3.index t 2 * 128 + 1 * s.val = s.val; rw [hi]; omega
theorem X4_at (c : Dev nD) (t : Fin cfg0.N) (i : Fin 128) (g : Fin 16) :
    iblk m c 4 t (ix2 (n0 := 128) (n1 := 128) i ⟨g.val, by omega⟩) = m ((c : Thread nD τ).loc main_arg4) (ix2 g i) := by
  unfold iblk
  rw [View.read_apply]
  show V m c main_v1 _ = _
  rw [V_main_v1]
  have hi := (index1 t).2.2.2.1
  refine (pad_apply_of_inside _ _ _ _ _ _ _ _ (ix2 (n0 := 128) (n1 := 16) i g) ?_).trans ?_
  · intro a
    match a with
    | ⟨0, _⟩ => show win0_4.index t 0 * 128 + 1 * i.val = 0 + i.val * (0 + 1); rw [hi]; omega
    | ⟨1, _⟩ => show win0_4.index t 1 * 128 + 1 * g.val = 0 + g.val * (0 + 1); rw [hi]; omega
  · refine transpose_apply _ _ _ _ _ ?_
    intro a; match a with
    | ⟨0, _⟩ => rfl
    | ⟨1, _⟩ => rfl

/-- The chunk of the arguments on device `c`. -/
abbrev chk (c : Dev nD) (t : Fin cfg0.N) : Dat := chunk (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (p64 t)

theorem ld_at {s : Shape} {e : EltTy} (v : View sig .tc .vmem s e) (B : v.ty.Contents (Elt Ideal)) (X : s.Idx → Elt Ideal e) (hB : v.read (Elt Ideal) B = X)
    (off size : Fin s.rank → Nat) (inb) (x : (Rect.unit off size inb).shape.Idx) (i : s.Idx) (hi : ∀ a, (i a).val = off a + (x a).val) :
    View.readAt (Elt Ideal) v (Rect.unit off size inb).toLoadRect B x = X i := by
  rw [View.readAt_eq_ld, hB]
  exact View.ld_unit_apply_of X off size inb x i hi

theorem dat_ld (c : Dev nD) (t : Fin cfg0.N) : dat (ld (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (X0_0 m c t) (iblk m c 1 t) (iblk m c 2 t) (iblk m c 3 t) (iblk m c 4 t) (iblk m c 5 t) (iblk m c 6 t)) = chk m c t := by
  unfold dat ld chk chunk
  ext
  · rename_i g r d
    refine (ld_at _ _ _ ((hs0_0 t).read_unread _) _ _ _ _ (ix2 (n0 := 128) (n1 := 4096) r ⟨128 * g.val + d.val, by omega⟩) ?_).trans (X0_at m c t _ _)
    intro a; match a with
    | ⟨0, _⟩ => show r.val = 0 + r.val; omega
    | ⟨1, _⟩ => rfl
  · rename_i g r d
    refine (ld_at _ _ _ ((hs0_0 t).read_unread _) _ _ _ _ (ix2 (n0 := 128) (n1 := 4096) r ⟨2048 + 128 * g.val + d.val, by omega⟩) ?_).trans (X0_at m c t _ _)
    intro a; match a with
    | ⟨0, _⟩ => show r.val = 0 + r.val; omega
    | ⟨1, _⟩ => rfl
  · rename_i g d
    refine (ld_at _ _ _ ((hs0_1 t).read_unread _) _ _ _ _ (ix2 (n0 := 1) (n1 := 2048) 0 (ln g d)) ?_).trans (X1_at m c t _)
    intro a; match a with
    | ⟨0, _⟩ => rfl
    | ⟨1, _⟩ => rfl
  · rename_i g d
    refine (ld_at _ _ _ ((hs0_2 t).read_unread _) _ _ _ _ (ix2 (n0 := 1) (n1 := 2048) 0 (ln g d)) ?_).trans (X2_at m c t _)
    intro a; match a with
    | ⟨0, _⟩ => rfl
    | ⟨1, _⟩ => rfl
  · rename_i g i s
    refine (ld_at _ _ _ ((hs0_3 t).read_unread _) _ _ _ _ (ix3 (n0 := 16) (n1 := 128) (n2 := 128) g i s) ?_).trans (X3_at m c t _ _ _)
    intro a; match a with
    | ⟨0, _⟩ => rfl
    | ⟨1, _⟩ => show i.val = 0 + i.val; omega
    | ⟨2, _⟩ => show s.val = 0 + s.val; omega
  · rename_i g i
    refine (ld_at _ _ _ ((hs0_4 t).read_unread _) _ _ _ _ (ix2 (n0 := 128) (n1 := 128) i ⟨g.val, by omega⟩) ?_).trans (X4_at m c t _ _)
    intro a; match a with
    | ⟨0, _⟩ => show i.val = 0 + i.val; omega
    | ⟨1, _⟩ => rfl
  · rename_i j
    refine (ld_at _ _ _ ((hs0_5 t).read_unread _) _ _ _ _ (ix2 (n0 := 1) (n1 := 2048) 0 j) ?_).trans (X5_at m c t _)
    intro a; match a with
    | ⟨0, _⟩ => rfl
    | ⟨1, _⟩ => show j.val = 0 + j.val; omega
  · rename_i r j
    refine (ld_at _ _ _ ((hs0_6 t).read_unread _) _ _ _ _ (ix2 (n0 := 128) (n1 := 2048) r j) ?_).trans (X6_at m c t _ _)
    intro a; match a with
    | ⟨0, _⟩ => show r.val = 0 + r.val; omega
    | ⟨1, _⟩ => show j.val = 0 + j.val; omega
end Cert.KernelIdeal.Hand
-- ==== Proof.Acc.lean ====
/-
  The five running sums over the chunks, by induction on the point, and the arrays the region leaves.
-/
module
public import proofs.«01_k».proof.Proof.Chunk
public import proofs.«01_k».proof.Proof.Gen.KernelIdeal.Value
@[expose] public section
noncomputable section
namespace Cert.KernelIdeal.Hand
open Cert.KernelIdeal Cert.KernelIdeal.Gen Idealize.ShloMosaic.TcCoe Idealize.SL.Sem Cert.Spec
open Idealize.ShloMosaic hiding ix1 ix2 ix3
open Idealize.ShloMosaic.ValueIdx (ix1 ix2 ix3)
open scoped BigOperators
variable (m : (ℓ : Loc nD τ sig) → Buf (Elt Ideal) ℓ)

/-- Chunk number `k` of the arguments on device `c`. -/
def ck (c : Dev nD) (k : Fin 64) : Dat := chunk (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) k
abbrev md (k : ℕ) : Fin 64 := ⟨k % 64, by omega⟩

def R8 (D : Fin 64 → Fin 16 → Fin 128 → EReal) (n : ℕ) : Vec Ideal S8x2048 .f32 := fun y =>
  if (y 0).val = 0 then ∑ k ∈ Finset.range n, D (md k) (gO ⟨(y 1).val, (y 1).isLt⟩) (dO ⟨(y 1).val, (y 1).isLt⟩) else 0
def R10 (D : Fin 64 → Fin 16 → Fin 128 → Fin 128 → EReal) (n : ℕ) : Vec Ideal S16x128x128 .f32 := fun y =>
  ∑ k ∈ Finset.range n, D (md k) ⟨(y 0).val, (y 0).isLt⟩ ⟨(y 1).val, (y 1).isLt⟩ ⟨(y 2).val, (y 2).isLt⟩
def R11 (D : Fin 64 → Fin 16 → Fin 128 → EReal) (n : ℕ) : Vec Ideal S128x128 .f32 := fun y =>
  ∑ k ∈ Finset.range n, if (y 1).val < 16 then D (md k) (lo ⟨(y 1).val, (y 1).isLt⟩) ⟨(y 0).val, (y 0).isLt⟩ else 0
def R12 (D : Fin 64 → Fin 2048 → EReal) (n : ℕ) : Vec Ideal S8x2048 .f32 := fun y =>
  if (y 0).val = 0 then ∑ k ∈ Finset.range n, D (md k) ⟨(y 1).val, (y 1).isLt⟩ else 0

theorem R8_zero (D) : R8 D 0 = fun _ => 0 := by funext y; simp [R8]
theorem R8_succ (D) (n : ℕ) : addRow (D (md n)) (R8 D n) = R8 D (n + 1) := by
  funext y
  unfold addRow R8
  by_cases h : (y 0).val = 0
  · simp only [if_pos h, Finset.sum_range_succ]
  · simp only [if_neg h]
theorem R10_zero (D) : R10 D 0 = fun _ => 0 := by funext y; simp [R10]
theorem R10_succ (D) (n : ℕ) : addTile (D (md n)) (R10 D n) = R10 D (n + 1) := by
  funext y
  unfold addTile R10
  rw [Finset.sum_range_succ]
theorem R11_zero (D) : R11 D 0 = fun _ => 0 := by funext y; simp [R11]
theorem R11_succ (D) (n : ℕ) : addB (D (md n)) (R11 D n) = R11 D (n + 1) := by
  funext y
  unfold addB R11
  rw [Finset.sum_range_succ]
theorem R12_zero (D) : R12 D 0 = fun _ => 0 := by funext y; simp [R12]
theorem R12_succ (D) (n : ℕ) : addN (D (md n)) (R12 D n) = R12 D (n + 1) := by
  funext y
  unfold addN R12
  by_cases h : (y 0).val = 0
  · simp only [if_pos h, Finset.sum_range_succ]
  · simp only [if_neg h]

theorem chk_eq (c : Dev nD) (t : Fin cfg0.N) : chk m c t = ck m c (md t.val) :=
  congrArg (chunk _ _ _ _ _ _ _) (Fin.ext (by have : cfg0.N = 64 := N_0; have := t.isLt; show t.val = t.val % 64; omega))

/-- What the six blocks hold after point `n`. -/
def st (c : Dev nD) (n : ℕ) : Vec Ideal S128x4096 .bf16 × Vec Ideal S8x2048 .f32 × Vec Ideal S8x2048 .f32 × Vec Ideal S16x128x128 .f32
    × Vec Ideal S128x128 .f32 × Vec Ideal S8x2048 .f32 :=
  (G7 (ck m c (md n)), R8 (fun k => (ck m c k).dLg) (n + 1), R8 (fun k => (ck m c k).dLb) (n + 1), R10 (fun k => (ck m c k).dW) (n + 1),
    R11 (fun k => (ck m c k).dBs) (n + 1), R12 (fun k => (ck m c k).dNg) (n + 1))

theorem outsAt_eq (c : Dev nD) : ∀ (n : ℕ) (h : n < cfg0.N), outsAt0 m c n h = st m c n
  | 0, h => by
    refine (outsAt0_A m c ⟨0, h⟩ rfl).trans ?_
    rw [out0_A_7_eq, out0_A_8_eq, out0_A_9_eq, out0_A_10_eq, out0_A_11_eq, out0_A_12_eq, dat_ld, chk_eq]
    unfold st
    rw [← R8_succ, ← R8_succ, ← R10_succ, ← R11_succ, ← R12_succ, R8_zero, R8_zero, R10_zero, R11_zero, R12_zero]
  | n + 1, h => by
    have hN : cfg0.N = 64 := N_0
    have hB : ¬(⟨n + 1, h⟩ : Fin cfg0.N).val % 64 = 0 := by dsimp only; omega
    refine (outsAt0_B m c ⟨n + 1, h⟩ hB).trans ?_
    rw [out0_B_7_eq, out0_B_8_eq, out0_B_9_eq, out0_B_10_eq, out0_B_11_eq, out0_B_12_eq, dat_ld, chk_eq]
    have e : outsAt0 m c ((⟨n + 1, h⟩ : Fin cfg0.N).val - 1) (Nat.lt_of_le_of_lt (Nat.sub_le _ _) h) = st m c n := outsAt_eq c n _
    rw [e]
    unfold st
    rw [← R8_succ _ (n + 1), ← R8_succ _ (n + 1), ← R10_succ _ (n + 1), ← R11_succ _ (n + 1), ← R12_succ _ (n + 1)]
end Cert.KernelIdeal.Hand
-- ==== Proof.Arrs.lean ====
/-
  The six arrays the region leaves: the projection's gradient chunk by chunk, and the sums over all 64 chunks.
-/
module
public import proofs.«01_k».proof.Proof.Acc
@[expose] public section
noncomputable section
namespace Cert.KernelIdeal.Hand
open Cert.KernelIdeal Cert.KernelIdeal.Gen Idealize.ShloMosaic.TcCoe Idealize.SL.Sem Cert.Spec
open Idealize.ShloMosaic hiding ix1 ix2 ix3
open Idealize.ShloMosaic.ValueIdx (ix1 ix2 ix3)
open Cert.KernelIdeal.Value
open scoped BigOperators
variable (m : (ℓ : Loc nD τ sig) → Buf (Elt Ideal) ℓ)

abbrev tL : Fin cfg0.N := ⟨63, by rw [show cfg0.N = 64 from N_0]; omega⟩
theorem indexL : (∀ a, win0_8.index tL a = 0) ∧ (∀ a, win0_9.index tL a = 0) ∧ (∀ a, win0_10.index tL a = 0) ∧ (∀ a, win0_11.index tL a = 0)
    ∧ (∀ a, win0_12.index tL a = 0) := by decide +kernel
theorem index7 : ∀ t : Fin cfg0.N, win0_7.index t 0 = t.val ∧ win0_7.index t 1 = 0 := by decide +kernel

theorem xsize7 : ∀ t : Fin cfg0.N, ∀ a, (cfg0.win 7).xsize (cfg0.grid.coords t) a = (cfg0.win 7).size a := by decide +kernel
abbrev at7 (t : Fin cfg0.N) (y : (cfg0.win 7).block.Idx) : ((cfg0.win 7).xblock (cfg0.grid.coords t)).Idx :=
  fun a => ⟨(y a).val, by show (y a).val < (cfg0.win 7).xsize (cfg0.grid.coords t) a; rw [xsize7 t a]; exact (y a).isLt⟩

theorem last_unique (t t' : Fin cfg0.N) (h : t.val % 64 = 63) (h' : t'.val % 64 = 63) : t = t' :=
  Fin.ext (by have : cfg0.N = 64 := N_0; have := t.isLt; have := t'.isLt; omega)

theorem arr7 (c : Dev nD) (k : Fin 64) (r : Fin 128) (j : Fin 4096) :
    (dats m 0 c).arrAt 7 cfg0.N (ix2 (n0 := 8192) (n1 := 10240) (row k r) ⟨j.val, by omega⟩) = G7 (ck m c k) (ix2 r j) := by
  have hN : cfg0.N = 64 := N_0
  have hk : k.val < cfg0.N := by omega
  have hi : win0_7.index ⟨k.val, hk⟩ 0 = k.val ∧ win0_7.index ⟨k.val, hk⟩ 1 = 0 := index7 ⟨k.val, hk⟩
  have e := (dats m 0 c).arrAt_emb_eq_flushed 7 disjoint7 ⟨k.val, hk⟩ (flush0_7 _) (at7 _ (ix2 (n0 := 128) (n1 := 4096) r j))
  have ei : ((cfg0.win 7).blk ⟨k.val, hk⟩).view.emb (at7 _ (ix2 (n0 := 128) (n1 := 4096) r j)) = ix2 (n0 := 8192) (n1 := 10240) (row k r) ⟨j.val, by omega⟩ := by
    funext a
    apply Fin.ext
    match a with
    | ⟨0, _⟩ => show win0_7.index ⟨k.val, hk⟩ 0 * 128 + 1 * r.val = 128 * k.val + r.val; rw [hi.1]; omega
    | ⟨1, _⟩ => show win0_7.index ⟨k.val, hk⟩ 1 * 4096 + 1 * j.val = j.val; rw [hi.2]; omega
  rw [ei] at e
  refine e.trans ?_
  rw [flushed7, outsAt_eq]
  show G7 (ck m c (md k.val)) _ = _
  rw [show md k.val = k from Fin.ext (by show k.val % 64 = k.val; omega)]
  rfl

theorem arr8 (c : Dev nD) (y : S8x2048.Idx) : (dats m 0 c).arrAt 8 cfg0.N y = (st m c 63).2.1 y := by
  have hi := indexL.1
  have e := (dats m 0 c).arrAt_emb_eq_flushed 8 (fun t t' h h' hne => absurd (last_unique t t' ((flush0_8 t).mp h) ((flush0_8 t').mp h')) hne)
    tL ((flush0_8 tL).mpr rfl) y
  have ei : ((cfg0.win 8).blk tL).view.emb y = y := by
    funext a
    apply Fin.ext
    match a with
    | ⟨0, _⟩ => show win0_8.index tL 0 * 8 + 1 * (y 0).val = (y 0).val; rw [hi]; omega
    | ⟨1, _⟩ => show win0_8.index tL 1 * 2048 + 1 * (y 1).val = (y 1).val; rw [hi]; omega
  rw [ei] at e
  refine e.trans ?_
  rw [flushed8, outsAt_eq]
  rfl

theorem arr9 (c : Dev nD) (y : S8x2048.Idx) : (dats m 0 c).arrAt 9 cfg0.N y = (st m c 63).2.2.1 y := by
  have hi := indexL.2.1
  have e := (dats m 0 c).arrAt_emb_eq_flushed 9 (fun t t' h h' hne => absurd (last_unique t t' ((flush0_9 t).mp h) ((flush0_9 t').mp h')) hne)
    tL ((flush0_9 tL).mpr rfl) y
  have ei : ((cfg0.win 9).blk tL).view.emb y = y := by
    funext a
    apply Fin.ext
    match a with
    | ⟨0, _⟩ => show win0_9.index tL 0 * 8 + 1 * (y 0).val = (y 0).val; rw [hi]; omega
    | ⟨1, _⟩ => show win0_9.index tL 1 * 2048 + 1 * (y 1).val = (y 1).val; rw [hi]; omega
  rw [ei] at e
  refine e.trans ?_
  rw [flushed9, outsAt_eq]
  rfl

theorem arr10 (c : Dev nD) (y : S16x128x128.Idx) : (dats m 0 c).arrAt 10 cfg0.N y = (st m c 63).2.2.2.1 y := by
  have hi := indexL.2.2.1
  have e := (dats m 0 c).arrAt_emb_eq_flushed 10 (fun t t' h h' hne => absurd (last_unique t t' ((flush0_10 t).mp h) ((flush0_10 t').mp h')) hne)
    tL ((flush0_10 tL).mpr rfl) y
  have ei : ((cfg0.win 10).blk tL).view.emb y = y := by
    funext a
    apply Fin.ext
    match a with
    | ⟨0, _⟩ => show win0_10.index tL 0 * 16 + 1 * (y 0).val = (y 0).val; rw [hi]; omega
    | ⟨1, _⟩ => show win0_10.index tL 1 * 128 + 1 * (y 1).val = (y 1).val; rw [hi]; omega
    | ⟨2, _⟩ => show win0_10.index tL 2 * 128 + 1 * (y 2).val = (y 2).val; rw [hi]; omega
  rw [ei] at e
  refine e.trans ?_
  rw [flushed10, outsAt_eq]
  rfl

theorem arr11 (c : Dev nD) (y : S128x128.Idx) : (dats m 0 c).arrAt 11 cfg0.N y = (st m c 63).2.2.2.2.1 y := by
  have hi := indexL.2.2.2.1
  have e := (dats m 0 c).arrAt_emb_eq_flushed 11 (fun t t' h h' hne => absurd (last_unique t t' ((flush0_11 t).mp h) ((flush0_11 t').mp h')) hne)
    tL ((flush0_11 tL).mpr rfl) y
  have ei : ((cfg0.win 11).blk tL).view.emb y = y := by
    funext a
    apply Fin.ext
    match a with
    | ⟨0, _⟩ => show win0_11.index tL 0 * 128 + 1 * (y 0).val = (y 0).val; rw [hi]; omega
    | ⟨1, _⟩ => show win0_11.index tL 1 * 128 + 1 * (y 1).val = (y 1).val; rw [hi]; omega
  rw [ei] at e
  refine e.trans ?_
  rw [flushed11, outsAt_eq]
  rfl

theorem arr12 (c : Dev nD) (y : S8x2048.Idx) : (dats m 0 c).arrAt 12 cfg0.N y = (st m c 63).2.2.2.2.2 y := by
  have hi := indexL.2.2.2.2
  have e := (dats m 0 c).arrAt_emb_eq_flushed 12 (fun t t' h h' hne => absurd (last_unique t t' ((flush0_12 t).mp h) ((flush0_12 t').mp h')) hne)
    tL ((flush0_12 tL).mpr rfl) y
  have ei : ((cfg0.win 12).blk tL).view.emb y = y := by
    funext a
    apply Fin.ext
    match a with
    | ⟨0, _⟩ => show win0_12.index tL 0 * 8 + 1 * (y 0).val = (y 0).val; rw [hi]; omega
    | ⟨1, _⟩ => show win0_12.index tL 1 * 2048 + 1 * (y 1).val = (y 1).val; rw [hi]; omega
  rw [ei] at e
  refine e.trans ?_
  rw [flushed12, outsAt_eq]
  rfl

end Cert.KernelIdeal.Hand
-- ==== Proof.Halves.lean ====
/-
  Lemmas the products share: a sum over twice as many terms is the sum of its two halves, and a block with a
  leading axis of one entry is read with or without that axis; an entry of a product started from zero is a sum.
-/
module
public import Idealize.ShloMosaic.PureOps.Ideal.Laws
public import Idealize.ShloMosaic.Lib.VecWindow
public import Idealize.ShloMosaic.Lib.WholeRead
public import Idealize.ShloMosaic.Lib.Pipeline.Value
public import Idealize.ShloMosaic.Lib.ValueIdxCore
@[expose] public section
noncomputable section
namespace Cert.Halves
open Idealize.ShloMosaic
open Idealize.ShloMosaic.ValueIdx (ix1 ix2 ix3)

theorem ext1 {a : ℕ} {x i : (⟨1, ![a]⟩ : Shape).Idx} (h : (x 0).val = (i 0).val) : x = i :=
  funext fun d => Fin.ext (match d with | ⟨0, _⟩ => h)
theorem ext2 {a b : ℕ} {x i : (⟨2, ![a, b]⟩ : Shape).Idx} (h0 : (x 0).val = (i 0).val) (h1 : (x 1).val = (i 1).val) : x = i :=
  funext fun d => Fin.ext (match d with | ⟨0, _⟩ => h0 | ⟨1, _⟩ => h1)
theorem ext3 {a b c : ℕ} {x i : (⟨3, ![a, b, c]⟩ : Shape).Idx} (h0 : (x 0).val = (i 0).val) (h1 : (x 1).val = (i 1).val)
    (h2 : (x 2).val = (i 2).val) : x = i :=
  funext fun d => Fin.ext (match d with | ⟨0, _⟩ => h0 | ⟨1, _⟩ => h1 | ⟨2, _⟩ => h2)

theorem halves (K : ℕ) {n : ℕ} (h : n = K + K) (f : Fin n → EReal) :
    ∑ k, f k = (∑ k : Fin K, f ⟨k.val, by omega⟩) + ∑ k : Fin K, f ⟨K + k.val, by omega⟩ := by
  subst h
  exact Fin.sum_univ_add f

theorem mulSum {sl sr so : Shape} (D : DotDims sl sr so) (K : ℕ) (hr : D.contr.rank = 1) (hs : D.contr.size ⟨0, by omega⟩ = K)
    (a : sl.Idx → EReal) (b : sr.Idx → EReal) (y : so.Idx) (f : Fin K → sl.Idx) (g : Fin K → sr.Idx)
    (hf : ∀ k x, (D.lhsIdx y ((ValueIdx.contrEquiv1 D K hr hs).symm k) x).val = (f k x).val)
    (hg : ∀ k x, (D.rhsIdx y ((ValueIdx.contrEquiv1 D K hr hs).symm k) x).val = (g k x).val) :
    FloatOps.matmul (F := Ideal) D none (φ₁ := .bf16) (φ₂ := .bf16) a b (constant so .f32 0x00000000#32) y
      = (∑ k, a (f k) * b (g k) : EReal) := by
  refine (Ideal.matmul_apply _ _ _ _ _ _).trans ?_
  refine (congrArg₂ (· + ·) Ideal.ofBits_zero_f32 (Equiv.sum_comp (ValueIdx.contrEquiv1 D K hr hs).symm _).symm).trans ((zero_add _).trans ?_)
  exact Finset.sum_congr rfl fun k _ => congrArg₂ (· * ·) (congrArg a (funext fun x => Fin.ext (hf k x))) (congrArg b (funext fun x => Fin.ext (hg k x)))

theorem unsq {α : Type} {a b : ℕ} (v : (⟨3, ![1, a, b]⟩ : Shape).Idx → α) (h : (⟨3, ![1, a, b]⟩ : Shape).ShapeCasts ⟨2, ![a, b]⟩)
    (y : (⟨2, ![a, b]⟩ : Shape).Idx) : shapeCast ⟨2, ![a, b]⟩ v h y = v (ix3 0 (y 0) (y 1)) :=
  (shapeCast_dropUnit_apply ![a, b] v h y).trans (congrArg v (funext fun x => Fin.ext (match x with
    | ⟨0, _⟩ => rfl
    | ⟨1, _⟩ => rfl
    | ⟨2, _⟩ => rfl)))

theorem sq {a b : ℕ} (v : (⟨2, ![a, b]⟩ : Shape).Idx → EReal) (h : (⟨2, ![a, b]⟩ : Shape).ShapeCasts ⟨3, ![1, a, b]⟩)
    (y : (⟨3, ![1, a, b]⟩ : Shape).Idx) : shapeCast ⟨3, ![1, a, b]⟩ v h y = v (ix2 (y 1) (y 2)) :=
  (shapeCast_addUnit_apply ![a, b] v h y).trans (congrArg v (funext fun x => Fin.ext (match x with
    | ⟨0, _⟩ => rfl
    | ⟨1, _⟩ => rfl)))
end Cert.Halves
end
-- ==== Proof.RefIdx.lean ====
/-
  The arguments of the reference cut into the sixty-four chunks, the places of its arrays in terms of chunk, row of the chunk,
  group and lane, and the sums over more than one axis.
-/
module
public import proofs.«01_k».proof.Proof.Chunk
public import proofs.«01_k».proof.Proof.Gen.ReferenceIdeal.Read
public import Idealize.ShloMosaic.Lib.Pointwise
public import Idealize.ShloMosaic.Lib.KernelVsHost
public import proofs.«01_k».proof.Proof.Halves
@[expose] public section
set_option backward.proofsInPublic true
noncomputable section
namespace Cert.ReferenceIdeal.Hand
open Cert.ReferenceIdeal Cert.ReferenceIdeal.Gen Cert.ReferenceIdeal.Read Cert.Spec Idealize.ShloMosaic.TcCoe Idealize.SL.Sem Idealize.ShloMosaic.StableHlo Cert.Halves
open Idealize.ShloMosaic hiding ix1 ix2 ix3
open Idealize.ShloMosaic.ValueIdx (ix1 ix2 ix3)

/-- The seven arguments. -/
structure Args where
  a0 : (⟨S8192x10240, .bf16⟩ : BufTy).Contents (Elt Ideal)
  a1 : (⟨S2048, .f32⟩ : BufTy).Contents (Elt Ideal)
  a2 : (⟨S2048, .f32⟩ : BufTy).Contents (Elt Ideal)
  a3 : (⟨S16x128x128, .f32⟩ : BufTy).Contents (Elt Ideal)
  a4 : (⟨S16x128, .f32⟩ : BufTy).Contents (Elt Ideal)
  a5 : (⟨S2048, .f32⟩ : BufTy).Contents (Elt Ideal)
  a6 : (⟨S8192x4096, .bf16⟩ : BufTy).Contents (Elt Ideal)
variable (A : Args)
/-- Chunk `c` of them. -/
abbrev Args.K (c : Fin 64) : Dat := chunk A.a0 A.a1 A.a2 A.a3 A.a4 A.a5 A.a6 c

abbrev jw (c : Fin 64) (t : Fin 128) (j : Fin 4096) : S1x8192x4096.Idx := fun a => match a with
  | ⟨0, _⟩ => ⟨0, Nat.one_pos⟩
  | ⟨1, _⟩ => ⟨128 * c.val + t.val, by show 128 * c.val + t.val < 8192; omega⟩
  | ⟨2, _⟩ => ⟨j.val, j.isLt⟩
abbrev jw2 (c : Fin 64) (t : Fin 128) (j : Fin 4096) : S8192x4096.Idx := fun a => match a with
  | ⟨0, _⟩ => ⟨128 * c.val + t.val, by show 128 * c.val + t.val < 8192; omega⟩
  | ⟨1, _⟩ => ⟨j.val, j.isLt⟩
abbrev j3 (c : Fin 64) (t : Fin 128) (j : Fin 2048) : S1x8192x2048.Idx := fun a => match a with
  | ⟨0, _⟩ => ⟨0, Nat.one_pos⟩
  | ⟨1, _⟩ => ⟨128 * c.val + t.val, by show 128 * c.val + t.val < 8192; omega⟩
  | ⟨2, _⟩ => ⟨j.val, j.isLt⟩
abbrev j32 (c : Fin 64) (t : Fin 128) (j : Fin 2048) : S8192x2048.Idx := fun a => match a with
  | ⟨0, _⟩ => ⟨128 * c.val + t.val, by show 128 * c.val + t.val < 8192; omega⟩
  | ⟨1, _⟩ => ⟨j.val, j.isLt⟩
abbrev r2 (c : Fin 64) (t : Fin 128) : S1x8192.Idx := fun a => match a with
  | ⟨0, _⟩ => ⟨0, Nat.one_pos⟩
  | ⟨1, _⟩ => ⟨128 * c.val + t.val, by show 128 * c.val + t.val < 8192; omega⟩
abbrev r1 (c : Fin 64) (t : Fin 128) : S8192.Idx := fun a => match a with
  | ⟨0, _⟩ => ⟨128 * c.val + t.val, by show 128 * c.val + t.val < 8192; omega⟩
abbrev r3 (c : Fin 64) (t : Fin 128) : S1x8192x1.Idx := fun a => match a with
  | ⟨0, _⟩ => ⟨0, Nat.one_pos⟩
  | ⟨1, _⟩ => ⟨128 * c.val + t.val, by show 128 * c.val + t.val < 8192; omega⟩
  | ⟨2, _⟩ => ⟨0, Nat.one_pos⟩
abbrev i5 (c : Fin 64) (t : Fin 128) (g : Fin 16) (d : Fin 128) : S1x64x128x16x128.Idx := fun a => match a with
  | ⟨0, _⟩ => ⟨0, Nat.one_pos⟩
  | ⟨1, _⟩ => ⟨c.val, c.isLt⟩
  | ⟨2, _⟩ => ⟨t.val, t.isLt⟩
  | ⟨3, _⟩ => ⟨g.val, g.isLt⟩
  | ⟨4, _⟩ => ⟨d.val, d.isLt⟩
abbrev i51 (c : Fin 64) (t : Fin 128) (g : Fin 16) : S1x64x128x16x1.Idx := fun a => match a with
  | ⟨0, _⟩ => ⟨0, Nat.one_pos⟩
  | ⟨1, _⟩ => ⟨c.val, c.isLt⟩
  | ⟨2, _⟩ => ⟨t.val, t.isLt⟩
  | ⟨3, _⟩ => ⟨g.val, g.isLt⟩
  | ⟨4, _⟩ => ⟨0, Nat.one_pos⟩
abbrev i4 (c : Fin 64) (t : Fin 128) (g : Fin 16) : S1x64x128x16.Idx := fun a => match a with
  | ⟨0, _⟩ => ⟨0, Nat.one_pos⟩
  | ⟨1, _⟩ => ⟨c.val, c.isLt⟩
  | ⟨2, _⟩ => ⟨t.val, t.isLt⟩
  | ⟨3, _⟩ => ⟨g.val, g.isLt⟩
abbrev i3 (c : Fin 64) (t : Fin 128) (g : Fin 16) : S64x128x16.Idx := fun a => match a with
  | ⟨0, _⟩ => ⟨c.val, c.isLt⟩
  | ⟨1, _⟩ => ⟨t.val, t.isLt⟩
  | ⟨2, _⟩ => ⟨g.val, g.isLt⟩
abbrev gd (g : Fin 16) (d : Fin 128) : S16x128.Idx := fun a => match a with
  | ⟨0, _⟩ => ⟨g.val, g.isLt⟩
  | ⟨1, _⟩ => ⟨d.val, d.isLt⟩
abbrev gd3 (g : Fin 16) (d : Fin 128) : S1x16x128.Idx := fun a => match a with
  | ⟨0, _⟩ => ⟨0, Nat.one_pos⟩
  | ⟨1, _⟩ => ⟨g.val, g.isLt⟩
  | ⟨2, _⟩ => ⟨d.val, d.isLt⟩
abbrev gd5 (g : Fin 16) (d : Fin 128) : S1x1x1x16x128.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨g.val, g.isLt⟩
  | ⟨4, _⟩ => ⟨d.val, d.isLt⟩
abbrev tg (t : Fin 128) (g : Fin 16) : S128x16.Idx := fun a => match a with
  | ⟨0, _⟩ => ⟨t.val, t.isLt⟩
  | ⟨1, _⟩ => ⟨g.val, g.isLt⟩
abbrev tg3 (t : Fin 128) (g : Fin 16) : S128x16x1.Idx := fun a => match a with
  | ⟨0, _⟩ => ⟨t.val, t.isLt⟩
  | ⟨1, _⟩ => ⟨g.val, g.isLt⟩
  | ⟨2, _⟩ => ⟨0, Nat.one_pos⟩
abbrev tg03 (t : Fin 128) (g : Fin 16) : S1x128x16.Idx := fun a => match a with
  | ⟨0, _⟩ => ⟨0, Nat.one_pos⟩
  | ⟨1, _⟩ => ⟨t.val, t.isLt⟩
  | ⟨2, _⟩ => ⟨g.val, g.isLt⟩
abbrev tg5 (t : Fin 128) (g : Fin 16) : S1x1x128x16x1.Idx := fun a => match a with
  | ⟨0, _⟩ => ⟨0, Nat.one_pos⟩
  | ⟨1, _⟩ => ⟨0, Nat.one_pos⟩
  | ⟨2, _⟩ => ⟨t.val, t.isLt⟩
  | ⟨3, _⟩ => ⟨g.val, g.isLt⟩
  | ⟨4, _⟩ => ⟨0, Nat.one_pos⟩
abbrev f1 (j : Fin 2048) : S2048.Idx := fun a => match a with
  | ⟨0, _⟩ => ⟨j.val, j.isLt⟩
abbrev f2 (j : Fin 2048) : S1x2048.Idx := fun a => match a with
  | ⟨0, _⟩ => ⟨0, Nat.one_pos⟩
  | ⟨1, _⟩ => ⟨j.val, j.isLt⟩
abbrev f3 (j : Fin 2048) : S1x1x2048.Idx := fun a => match a with
  | ⟨0, _⟩ => ⟨0, Nat.one_pos⟩
  | ⟨1, _⟩ => ⟨0, Nat.one_pos⟩
  | ⟨2, _⟩ => ⟨j.val, j.isLt⟩
abbrev gts (g : Fin 16) (t : Fin 128) (s : Fin 128) : S16x128x128.Idx := fun a => match a with
  | ⟨0, _⟩ => ⟨g.val, g.isLt⟩
  | ⟨1, _⟩ => ⟨t.val, t.isLt⟩
  | ⟨2, _⟩ => ⟨s.val, s.isLt⟩
abbrev ts (t : Fin 128) (s : Fin 128) : S128x128.Idx := fun a => match a with
  | ⟨0, _⟩ => ⟨t.val, t.isLt⟩
  | ⟨1, _⟩ => ⟨s.val, s.isLt⟩
abbrev ts3 (t : Fin 128) (s : Fin 128) : S1x128x128.Idx := fun a => match a with
  | ⟨0, _⟩ => ⟨0, Nat.one_pos⟩
  | ⟨1, _⟩ => ⟨t.val, t.isLt⟩
  | ⟨2, _⟩ => ⟨s.val, s.isLt⟩
abbrev q5 (g : Fin 16) (c : Fin 64) (d : Fin 128) (t : Fin 128) : S16x1x64x128x128.Idx := fun a => match a with
  | ⟨0, _⟩ => ⟨g.val, g.isLt⟩
  | ⟨1, _⟩ => ⟨0, Nat.one_pos⟩
  | ⟨2, _⟩ => ⟨c.val, c.isLt⟩
  | ⟨3, _⟩ => ⟨d.val, d.isLt⟩
  | ⟨4, _⟩ => ⟨t.val, t.isLt⟩
abbrev p0 (c : Fin 64) (t : Fin 128) (j : Fin 4096) : S8192x10240.Idx := fun a => match a with
  | ⟨0, _⟩ => ⟨128 * c.val + t.val, by show 128 * c.val + t.val < 8192; omega⟩
  | ⟨1, _⟩ => ⟨j.val, by show j.val < 10240; omega⟩
abbrev p6 (c : Fin 64) (t : Fin 128) (j : Fin 2048) : S8192x4096.Idx := fun a => match a with
  | ⟨0, _⟩ => ⟨128 * c.val + t.val, by show 128 * c.val + t.val < 8192; omega⟩
  | ⟨1, _⟩ => ⟨j.val, by show j.val < 4096; omega⟩

abbrev Args.X (c : Fin 64) (t : Fin 128) (j : Fin 4096) : EReal := A.a0 (p0 c t j)
def Args.wm (g : Fin 16) (t s : Fin 128) : EReal := if s.val ≤ t.val then A.a3 (gts g t s) else 0
/-- What reaches the second half of the activation. -/
abbrev Args.N (c : Fin 64) (g : Fin 16) (t d : Fin 128) : EReal :=
  nBk ((A.K c).gv g t) (fun e => (A.K c).dvn g t e * (A.K c).lg g e) d
/-- What reaches the activation, both halves. -/
def Args.DD (c : Fin 64) (t : Fin 128) (j : Fin 4096) : EReal :=
  if h : j.val < 2048 then (A.K c).D (gO ⟨j.val, h⟩) t (dO ⟨j.val, h⟩) * (A.K c).sg (gO ⟨j.val, h⟩) t (dO ⟨j.val, h⟩)
  else A.N c (gO ⟨j.val - 2048, by omega⟩) t (dO ⟨j.val - 2048, by omega⟩)

theorem X_u (c : Fin 64) (t : Fin 128) (j : Fin 2048) : A.X c t ⟨j.val, by omega⟩ = (A.K c).u (gO j) t (dO j) :=
  congrArg A.a0 (ext2 rfl (by show j.val = 128 * (j.val / 128) + j.val % 128; omega))
theorem X_v (c : Fin 64) (t : Fin 128) (j : Fin 2048) : A.X c t ⟨2048 + j.val, by omega⟩ = (A.K c).v (gO j) t (dO j) :=
  congrArg A.a0 (ext2 rfl (by show 2048 + j.val = 2048 + 128 * (j.val / 128) + j.val % 128; omega))
theorem K_lg (c : Fin 64) (g : Fin 16) (d : Fin 128) : (A.K c).lg g d = A.a1 (f1 (ln g d)) :=
  congrArg A.a1 (ext1 rfl)
theorem K_lb (c : Fin 64) (g : Fin 16) (d : Fin 128) : (A.K c).lb g d = A.a2 (f1 (ln g d)) :=
  congrArg A.a2 (ext1 rfl)
theorem K_ng (c : Fin 64) (j : Fin 2048) : (A.K c).ng j = A.a5 (f1 j) :=
  congrArg A.a5 (ext1 rfl)
theorem K_b (c : Fin 64) (g : Fin 16) (t : Fin 128) : (A.K c).b g t = A.a4 (gd g t) :=
  congrArg A.a4 (ext2 rfl rfl)
theorem K_dy (c : Fin 64) (t : Fin 128) (j : Fin 2048) : (A.K c).dy t j = A.a6 (p6 c t j) :=
  congrArg A.a6 (ext2 rfl rfl)
theorem K_w (c : Fin 64) (g : Fin 16) (t s : Fin 128) : (A.K c).w g t s = A.a3 (gts g t s) :=
  congrArg A.a3 (ext3 rfl rfl rfl)
theorem K_wm (c : Fin 64) (g : Fin 16) (t s : Fin 128) : (A.K c).wm g t s = A.wm g t s := by
  unfold Dat.wm Args.wm
  rw [K_w]
theorem D_at (o : Dat) (t : Fin 128) (j : Fin 2048) : o.D (gO j) t (dO j) = rBk (o.Y t) (o.e t) j :=
  congrArg (rBk (o.Y t) (o.e t)) (Fin.ext (by show 128 * (j.val / 128) + j.val % 128 = j.val; omega))

/-- A sum over all the rows, chunk by chunk. -/
theorem sum_rows (f : Fin 8192 → EReal) : ∑ r, f r = ∑ c : Fin 64, ∑ t : Fin 128, f (row c t) := by
  rw [← Fintype.sum_prod_type (f := fun p : Fin 64 × Fin 128 => f (row p.1 p.2))]
  refine (Fintype.sum_bijective (fun p : Fin 64 × Fin 128 => row p.1 p.2) ⟨fun p q e => ?_, fun r => ?_⟩ _ _ fun _ => rfl).symm
  · have h : 128 * p.1.val + p.2.val = 128 * q.1.val + q.2.val := congrArg Fin.val e
    exact Prod.ext (Fin.ext (by omega)) (Fin.ext (by omega))
  · exact ⟨(⟨r.val / 128, by omega⟩, ⟨r.val % 128, by omega⟩), Fin.ext (by show 128 * (r.val / 128) + r.val % 128 = r.val; omega)⟩
/-- A host sum from zero whose source places over `j` are listed by `f`. -/
theorem sum_fiber {s t : Shape} {axes : List (Fin s.rank)} (h : s.ReducesTo axes t) (x : s.Idx → EReal) (z : EReal) (hz : z = 0)
    (j : t.Idx) {κ : Type} [Fintype κ] (f : κ → s.Idx) (inj : ∀ a b, f a = f b → a = b) (hf : ∀ i, h.drop i = j ↔ ∃ k, f k = i) :
    Ideal.hostReduceAdd h x z j = ∑ k, x (f k) := by
  subst hz
  unfold Ideal.hostReduceAdd
  rw [zero_add, ← Finset.sum_image (s := Finset.univ) (g := f) (f := x) (fun a _ b _ e => inj a b e)]
  refine Finset.sum_congr (Finset.ext fun i => ?_) fun _ _ => rfl
  simp only [Finset.mem_filter, Finset.mem_univ, true_and, Finset.mem_image]
  exact hf i

theorem zero_cst_14 : val_main_cst_14 (F := Ideal) (Shape.Idx.first h_S_) = 0 := (val_main_cst_14_apply ..).trans (Ideal.ofBits_zero _)
theorem zero_cst_18 : val_main_cst_18 (F := Ideal) (Shape.Idx.first h_S_) = 0 := (val_main_cst_18_apply ..).trans (Ideal.ofBits_zero _)
theorem zero_cst_19 : val_main_cst_19 (F := Ideal) (Shape.Idx.first h_S_) = 0 := (val_main_cst_19_apply ..).trans (Ideal.ofBits_zero _)
theorem zero_cst_20 : val_main_cst_20 (F := Ideal) (Shape.Idx.first h_S_) = 0 := (val_main_cst_20_apply ..).trans (Ideal.ofBits_zero _)
theorem zero_cst_22 : val_main_cst_22 (F := Ideal) (Shape.Idx.first h_S_) = 0 := (val_main_cst_22_apply ..).trans (Ideal.ofBits_zero _)
theorem zero_cst_23 : val_main_cst_23 (F := Ideal) (Shape.Idx.first h_S_) = 0 := (val_main_cst_23_apply ..).trans (Ideal.ofBits_zero _)
theorem zero_cst_24 : val_main_cst_24 (F := Ideal) (Shape.Idx.first h_S_) = 0 := (val_main_cst_24_apply ..).trans (Ideal.ofBits_zero _)
theorem zero_cst_25 : val_main_cst_25 (F := Ideal) (Shape.Idx.first h_S_) = 0 := (val_main_cst_25_apply ..).trans (Ideal.ofBits_zero _)
theorem zero_cst_26 : val_main_cst_26 (F := Ideal) (Shape.Idx.first h_S_) = 0 := (val_main_cst_26_apply ..).trans (Ideal.ofBits_zero _)
theorem zero_cst_27 : val_main_cst_27 (F := Ideal) (Shape.Idx.first h_S_) = 0 := (val_main_cst_27_apply ..).trans (Ideal.ofBits_zero _)
theorem zero_cst_28 : val_main_cst_28 (F := Ideal) (Shape.Idx.first h_S_) = 0 := (val_main_cst_28_apply ..).trans (Ideal.ofBits_zero _)
theorem zero_cst_29 : val_main_cst_29 (F := Ideal) (Shape.Idx.first h_S_) = 0 := (val_main_cst_29_apply ..).trans (Ideal.ofBits_zero _)
theorem zero_cst_30 : val_main_cst_30 (F := Ideal) (Shape.Idx.first h_S_) = 0 := (val_main_cst_30_apply ..).trans (Ideal.ofBits_zero _)
theorem zero_cst_31 : val_main_cst_31 (F := Ideal) (Shape.Idx.first h_S_) = 0 := (val_main_cst_31_apply ..).trans (Ideal.ofBits_zero _)
theorem zero_cst_33 : val_main_cst_33 (F := Ideal) (Shape.Idx.first h_S_) = 0 := (val_main_cst_33_apply ..).trans (Ideal.ofBits_zero _)
theorem zero_cst_34 : val_main_cst_34 (F := Ideal) (Shape.Idx.first h_S_) = 0 := (val_main_cst_34_apply ..).trans (Ideal.ofBits_zero _)
theorem zero_cst_36 : val_main_cst_36 (F := Ideal) (Shape.Idx.first h_S_) = 0 := (val_main_cst_36_apply ..).trans (Ideal.ofBits_zero _)
theorem zero_cst_6 : val_main_cst_6 (F := Ideal) (Shape.Idx.first h_S_) = 0 := (val_main_cst_6_apply ..).trans (Ideal.ofBits_zero _)
theorem zero_cst_9 : val_main_cst_9 (F := Ideal) (Shape.Idx.first h_S_) = 0 := (val_main_cst_9_apply ..).trans (Ideal.ofBits_zero _)
end Cert.ReferenceIdeal.Hand
end
-- ==== Proof.RefA.lean ====
/-
  The reference read up to the normalised product: every array at a place of chunk `c`.
-/
module
public import proofs.«01_k».proof.Proof.RefIdx
@[expose] public section
set_option backward.proofsInPublic true
noncomputable section
namespace Cert.ReferenceIdeal.Hand
open Cert.ReferenceIdeal Cert.ReferenceIdeal.Gen Cert.ReferenceIdeal.Read Cert.Spec Idealize.ShloMosaic.TcCoe Idealize.SL.Sem Idealize.ShloMosaic.StableHlo Cert.Halves
open Idealize.ShloMosaic hiding ix1 ix2 ix3
open Idealize.ShloMosaic.ValueIdx (ix1 ix2 ix3)
variable (A : Args)
theorem e_v0 (c : Fin 64) (t : Fin 128) (j : Fin 4096) : idx_main_v0 (jw2 c t j) = p0 c t j := ext2 rfl rfl
theorem s_v0 (c : Fin 64) (t : Fin 128) (j : Fin 4096) : val_main_v0 (F := Ideal) A.a0 (jw2 c t j) = A.X c t j :=
  (val_main_v0_apply ..).trans ((congrArg _ (e_v0 c t j)).trans rfl)
theorem e_v1 (c : Fin 64) (t : Fin 128) (j : Fin 4096) : idx_main_v1 (jw c t j) = jw2 c t j := ext2 rfl rfl
theorem s_v1 (c : Fin 64) (t : Fin 128) (j : Fin 4096) : val_main_v1 (F := Ideal) A.a0 (jw c t j) = A.X c t j :=
  (val_main_v1_apply ..).trans ((congrArg _ (e_v1 c t j)).trans (s_v0 A c t j))
theorem s_v2 (c : Fin 64) (t : Fin 128) (j : Fin 4096) : val_main_v2 (F := Ideal) A.a0 (jw c t j) = A.X c t j := by
  rw [val_main_v2_apply, s_v1]
  rfl
theorem s_v6 (c : Fin 64) (t : Fin 128) (j : Fin 4096) : val_main_v6 (F := Ideal) A.a0 (jw c t j) = A.X c t j * A.X c t j := by
  rw [val_main_v6_apply, s_v2]
  rfl
theorem s_v7 (c : Fin 64) (t : Fin 128) (j : Fin 4096) : val_main_v7 (F := Ideal) A.a0 (jw c t j) = (A.X c t j * A.X c t j) * A.X c t j := by
  rw [val_main_v7_apply, s_v6, s_v2]
  rfl
theorem s_v8 (c : Fin 64) (t : Fin 128) (j : Fin 4096) : val_main_v8 (F := Ideal) A.a0 (jw c t j) = A.X c t j * A.X c t j := by
  rw [val_main_v8_apply, s_v2]
  rfl
theorem s_v10 (c : Fin 64) (t : Fin 128) (j : Fin 4096) : val_main_v10 (F := Ideal) A.a0 (jw c t j) = k 0x40400000#32 * (A.X c t j * A.X c t j) := by
  rw [val_main_v10_apply, val_main_v9_apply, val_main_cst_apply, s_v8]
  rfl
theorem s_v12 (c : Fin 64) (t : Fin 128) (j : Fin 4096) : val_main_v12 (F := Ideal) A.a0 (jw c t j) = k 0x3D372713#32 * ((A.X c t j * A.X c t j) * A.X c t j) := by
  rw [val_main_v12_apply, val_main_v11_apply, val_main_cst_0_apply, s_v7]
  rfl
theorem s_v13 (c : Fin 64) (t : Fin 128) (j : Fin 4096) : val_main_v13 (F := Ideal) A.a0 (jw c t j) = A.X c t j + k 0x3D372713#32 * ((A.X c t j * A.X c t j) * A.X c t j) := by
  rw [val_main_v13_apply, s_v2, s_v12]
  rfl
theorem s_v15 (c : Fin 64) (t : Fin 128) (j : Fin 4096) : val_main_v15 (F := Ideal) A.a0 (jw c t j) = k 0x3F4C422A#32 * (A.X c t j + k 0x3D372713#32 * ((A.X c t j * A.X c t j) * A.X c t j)) := by
  rw [val_main_v15_apply, val_main_v14_apply, val_main_cst_1_apply, s_v13]
  rfl
theorem s_v16 (c : Fin 64) (t : Fin 128) (j : Fin 4096) : val_main_v16 (F := Ideal) A.a0 (jw c t j) = hT (A.X c t j) := by
  rw [val_main_v16_apply, s_v15]
  exact congrArg (fun z => Ideal.tanh (k 0x3F4C422A#32 * (A.X c t j + k 0x3D372713#32 * z))) (mul_comm _ _)
theorem s_v18 (c : Fin 64) (t : Fin 128) (j : Fin 4096) : val_main_v18 (F := Ideal) A.a0 (jw c t j) = k 0x3F800000#32 + hT (A.X c t j) := by
  rw [val_main_v18_apply, val_main_v17_apply, val_main_cst_2_apply, s_v16]
  rfl
theorem s_v20 (c : Fin 64) (t : Fin 128) (j : Fin 4096) : val_main_v20 (F := Ideal) A.a0 (jw c t j) = k 0x3F800000#32 - hT (A.X c t j) := by
  rw [val_main_v20_apply, val_main_v19_apply, val_main_cst_3_apply, s_v16]
  rfl
theorem s_v21 (c : Fin 64) (t : Fin 128) (j : Fin 4096) : val_main_v21 (F := Ideal) A.a0 (jw c t j) = (k 0x3F800000#32 + hT (A.X c t j)) * (k 0x3F800000#32 - hT (A.X c t j)) := by
  rw [val_main_v21_apply, s_v18, s_v20]
  rfl
theorem s_v23 (c : Fin 64) (t : Fin 128) (j : Fin 4096) : val_main_v23 (F := Ideal) A.a0 (jw c t j) = k 0x3F800000#32 + hT (A.X c t j) := by
  rw [val_main_v23_apply, val_main_v22_apply, val_main_cst_4_apply, s_v16]
  rfl
theorem s_v25 (c : Fin 64) (t : Fin 128) (j : Fin 4096) : val_main_v25 (F := Ideal) A.a0 (jw c t j) = hH (A.X c t j) := by
  rw [val_main_v25_apply, val_main_v24_apply, val_main_cst_5_apply, s_v23]
  rfl
theorem s_v26 (c : Fin 64) (t : Fin 128) (j : Fin 4096) : val_main_v26 (F := Ideal) A.a0 (jw c t j) = hG (A.X c t j) := by
  rw [val_main_v26_apply, s_v2, s_v25]
  rfl
theorem e_v27 (c : Fin 64) (t : Fin 128) (j : Fin 2048) : idx_main_v27 (j3 c t j) = jw c t ⟨j.val, by omega⟩ := ext3 rfl rfl rfl
theorem s_v27 (c : Fin 64) (t : Fin 128) (j : Fin 2048) : val_main_v27 (F := Ideal) A.a0 (j3 c t j) = (A.K c).gu (gO j) t (dO j) := by
  refine (val_main_v27_apply ..).trans ((congrArg _ (e_v27 c t j)).trans ((s_v26 A c t ⟨j.val, by omega⟩).trans ?_))
  exact congrArg hG (X_u A c t j)
theorem e_v28 (c : Fin 64) (t : Fin 128) (j : Fin 2048) : idx_main_v28 (j3 c t j) = jw c t ⟨2048 + j.val, by omega⟩ := ext3 rfl rfl rfl
theorem s_v28 (c : Fin 64) (t : Fin 128) (j : Fin 2048) : val_main_v28 (F := Ideal) A.a0 (j3 c t j) = (A.K c).gv (gO j) t (dO j) := by
  refine (val_main_v28_apply ..).trans ((congrArg _ (e_v28 c t j)).trans ((s_v26 A c t ⟨2048 + j.val, by omega⟩).trans ?_))
  exact congrArg hG (X_v A c t j)
theorem e_v29 (c : Fin 64) (t : Fin 128) (g : Fin 16) (d : Fin 128) : idx_main_v29 (i5 c t g d) = j3 c t (ln g d) := ext3 rfl (by show (((((0) * 64 + (c.val)) * 128 + (t.val)) * 16 + (g.val)) * 128 + (d.val)) / 2048 % 8192 = 128 * c.val + t.val; omega) (by show (((((0) * 64 + (c.val)) * 128 + (t.val)) * 16 + (g.val)) * 128 + (d.val)) % 2048 = (128 * g.val + d.val); omega)
theorem s_v29 (c : Fin 64) (t : Fin 128) (g : Fin 16) (d : Fin 128) : val_main_v29 (F := Ideal) A.a0 (i5 c t g d) = (A.K c).gv g t d := by
  refine (val_main_v29_apply ..).trans ((congrArg _ (e_v29 c t g d)).trans ((s_v28 A c t (ln g d)).trans ?_))
  rw [gO_ln, dO_ln]
theorem e_v30 (c : Fin 64) (t : Fin 128) (g : Fin 16) (k : Fin 128) : idx_main_v30 (i4 c t g) k = i5 c t g k := funext fun a => Fin.ext (match a with
  | ⟨0, _⟩ => rfl
  | ⟨1, _⟩ => rfl
  | ⟨2, _⟩ => rfl
  | ⟨3, _⟩ => rfl
  | ⟨4, _⟩ => rfl)
theorem s_v30 (c : Fin 64) (t : Fin 128) (g : Fin 16) : val_main_v30 (F := Ideal) A.a0 (i4 c t g) = ∑ e, ((A.K c).gv g t) e := by
  refine (val_main_v30_apply ..).trans ?_
  refine (congr (congrArg _ zero_cst_6) (Finset.sum_congr rfl fun k _ => (congrArg _ (e_v30 c t g k)).trans (s_v29 A c t g k))).trans (zero_add _)
theorem e_v31 (c : Fin 64) (t : Fin 128) (g : Fin 16) : idx_main_v31 (i51 c t g) = i4 c t g := funext fun a => Fin.ext (match a with
  | ⟨0, _⟩ => rfl
  | ⟨1, _⟩ => rfl
  | ⟨2, _⟩ => rfl
  | ⟨3, _⟩ => rfl)
theorem s_v31 (c : Fin 64) (t : Fin 128) (g : Fin 16) : val_main_v31 (F := Ideal) A.a0 (i51 c t g) = ∑ e, ((A.K c).gv g t) e :=
  (val_main_v31_apply ..).trans ((congrArg _ (e_v31 c t g)).trans (s_v30 A c t g))
theorem s_v33 (c : Fin 64) (t : Fin 128) (g : Fin 16) : val_main_v33 (F := Ideal) A.a0 (i51 c t g) = mu ((A.K c).gv g t) := by
  rw [val_main_v33_apply, s_v31, val_main_v32_apply, val_main_cst_7_apply]
  rfl
theorem e_v34 (c : Fin 64) (t : Fin 128) (g : Fin 16) (d : Fin 128) : idx_main_v34 (i5 c t g d) = i51 c t g := funext fun a => Fin.ext (match a with
  | ⟨0, _⟩ => rfl
  | ⟨1, _⟩ => rfl
  | ⟨2, _⟩ => rfl
  | ⟨3, _⟩ => rfl
  | ⟨4, _⟩ => rfl)
theorem s_v34 (c : Fin 64) (t : Fin 128) (g : Fin 16) (d : Fin 128) : val_main_v34 (F := Ideal) A.a0 (i5 c t g d) = mu ((A.K c).gv g t) :=
  (val_main_v34_apply ..).trans ((congrArg _ (e_v34 c t g d)).trans (s_v33 A c t g))
theorem s_v35 (c : Fin 64) (t : Fin 128) (g : Fin 16) (d : Fin 128) : val_main_v35 (F := Ideal) A.a0 (i5 c t g d) = cen ((A.K c).gv g t) d := by
  rw [val_main_v35_apply, s_v29, s_v34]
  rfl
theorem s_v36 (c : Fin 64) (t : Fin 128) (g : Fin 16) (d : Fin 128) : val_main_v36 (F := Ideal) A.a0 (i5 c t g d) = cen ((A.K c).gv g t) d * cen ((A.K c).gv g t) d := by
  rw [val_main_v36_apply, s_v35]
  rfl
theorem s_v38 (c : Fin 64) (t : Fin 128) (g : Fin 16) (d : Fin 128) : val_main_v38 (F := Ideal) A.a0 (i5 c t g d) = k 0x40000000#32 * cen ((A.K c).gv g t) d := by
  rw [val_main_v38_apply, val_main_v37_apply, val_main_cst_8_apply, s_v35]
  rfl
theorem e_v39 (c : Fin 64) (t : Fin 128) (g : Fin 16) (k : Fin 128) : idx_main_v39 (i4 c t g) k = i5 c t g k := funext fun a => Fin.ext (match a with
  | ⟨0, _⟩ => rfl
  | ⟨1, _⟩ => rfl
  | ⟨2, _⟩ => rfl
  | ⟨3, _⟩ => rfl
  | ⟨4, _⟩ => rfl)
theorem s_v39 (c : Fin 64) (t : Fin 128) (g : Fin 16) : val_main_v39 (F := Ideal) A.a0 (i4 c t g) = ∑ e, cen ((A.K c).gv g t) e * cen ((A.K c).gv g t) e := by
  refine (val_main_v39_apply ..).trans ?_
  refine (congr (congrArg _ zero_cst_9) (Finset.sum_congr rfl fun k _ => (congrArg _ (e_v39 c t g k)).trans (s_v36 A c t g k))).trans (zero_add _)
theorem e_v40 (c : Fin 64) (t : Fin 128) (g : Fin 16) : idx_main_v40 (i51 c t g) = i4 c t g := funext fun a => Fin.ext (match a with
  | ⟨0, _⟩ => rfl
  | ⟨1, _⟩ => rfl
  | ⟨2, _⟩ => rfl
  | ⟨3, _⟩ => rfl)
theorem s_v40 (c : Fin 64) (t : Fin 128) (g : Fin 16) : val_main_v40 (F := Ideal) A.a0 (i51 c t g) = ∑ e, cen ((A.K c).gv g t) e * cen ((A.K c).gv g t) e :=
  (val_main_v40_apply ..).trans ((congrArg _ (e_v40 c t g)).trans (s_v39 A c t g))
theorem s_v42 (c : Fin 64) (t : Fin 128) (g : Fin 16) : val_main_v42 (F := Ideal) A.a0 (i51 c t g) = Ideal.div (∑ e, cen ((A.K c).gv g t) e * cen ((A.K c).gv g t) e) (k 0x43000000#32) := by
  rw [val_main_v42_apply, s_v40, val_main_v41_apply, val_main_cst_10_apply]
  rfl
theorem e_v45 (c : Fin 64) (t : Fin 128) (g : Fin 16) (d : Fin 128) : idx_main_v45 (i5 c t g d) = i51 c t g := funext fun a => Fin.ext (match a with
  | ⟨0, _⟩ => rfl
  | ⟨1, _⟩ => rfl
  | ⟨2, _⟩ => rfl
  | ⟨3, _⟩ => rfl
  | ⟨4, _⟩ => rfl)
theorem s_v45 (c : Fin 64) (t : Fin 128) (g : Fin 16) (d : Fin 128) : val_main_v45 (F := Ideal) A.a0 (i5 c t g d) = mu ((A.K c).gv g t) :=
  (val_main_v45_apply ..).trans ((congrArg _ (e_v45 c t g d)).trans (s_v33 A c t g))
theorem s_v46 (c : Fin 64) (t : Fin 128) (g : Fin 16) (d : Fin 128) : val_main_v46 (F := Ideal) A.a0 (i5 c t g d) = cen ((A.K c).gv g t) d := by
  rw [val_main_v46_apply, s_v29, s_v45]
  rfl
theorem s_v48 (c : Fin 64) (t : Fin 128) (g : Fin 16) : val_main_v48 (F := Ideal) A.a0 (i51 c t g) = ve ((A.K c).gv g t) := by
  rw [val_main_v48_apply, s_v42, val_main_v47_apply, val_main_cst_11_apply]
  rfl
theorem s_v49 (c : Fin 64) (t : Fin 128) (g : Fin 16) : val_main_v49 (F := Ideal) A.a0 (i51 c t g) = rs ((A.K c).gv g t) := by
  rw [val_main_v49_apply, s_v48]
  rfl
theorem s_v50 (c : Fin 64) (t : Fin 128) (g : Fin 16) : val_main_v50 (F := Ideal) A.a0 (i51 c t g) = Ideal.div (rs ((A.K c).gv g t)) (ve ((A.K c).gv g t)) := by
  rw [val_main_v50_apply, s_v49, s_v48]
  rfl
theorem s_v52 (c : Fin 64) (t : Fin 128) (g : Fin 16) : val_main_v52 (F := Ideal) A.a0 (i51 c t g) = dr ((A.K c).gv g t) := by
  rw [val_main_v52_apply, val_main_v51_apply, val_main_cst_12_apply, s_v50]
  rfl
theorem e_v53 (c : Fin 64) (t : Fin 128) (g : Fin 16) (d : Fin 128) : idx_main_v53 (i5 c t g d) = i51 c t g := funext fun a => Fin.ext (match a with
  | ⟨0, _⟩ => rfl
  | ⟨1, _⟩ => rfl
  | ⟨2, _⟩ => rfl
  | ⟨3, _⟩ => rfl
  | ⟨4, _⟩ => rfl)
theorem s_v53 (c : Fin 64) (t : Fin 128) (g : Fin 16) (d : Fin 128) : val_main_v53 (F := Ideal) A.a0 (i5 c t g d) = rs ((A.K c).gv g t) :=
  (val_main_v53_apply ..).trans ((congrArg _ (e_v53 c t g d)).trans (s_v49 A c t g))
theorem s_v54 (c : Fin 64) (t : Fin 128) (g : Fin 16) (d : Fin 128) : val_main_v54 (F := Ideal) A.a0 (i5 c t g d) = nrm ((A.K c).gv g t) d := by
  rw [val_main_v54_apply, s_v46, s_v53]
  rfl
theorem e_v43 (g : Fin 16) (d : Fin 128) : idx_main_v43 (gd g d) = f1 (ln g d) := ext1 (by show (g.val) * 128 + (d.val) = (128 * g.val + d.val); omega)
theorem s_v43 (g : Fin 16) (d : Fin 128) : val_main_v43 (F := Ideal) A.a1 (gd g d) = A.a1 (f1 (ln g d)) :=
  (val_main_v43_apply ..).trans ((congrArg _ (e_v43 g d)).trans rfl)
theorem e_v55 (g : Fin 16) (d : Fin 128) : idx_main_v55 (gd5 g d) = gd g d := ext2 rfl rfl
theorem s_v55 (g : Fin 16) (d : Fin 128) : val_main_v55 (F := Ideal) A.a1 (gd5 g d) = A.a1 (f1 (ln g d)) :=
  (val_main_v55_apply ..).trans ((congrArg _ (e_v55 g d)).trans (s_v43 A g d))
theorem e_v56 (c : Fin 64) (t : Fin 128) (g : Fin 16) (d : Fin 128) : idx_main_v56 (i5 c t g d) = gd5 g d := funext fun a => Fin.ext (match a with
  | ⟨0, _⟩ => rfl
  | ⟨1, _⟩ => rfl
  | ⟨2, _⟩ => rfl
  | ⟨3, _⟩ => rfl
  | ⟨4, _⟩ => rfl)
theorem s_v56 (c : Fin 64) (t : Fin 128) (g : Fin 16) (d : Fin 128) : val_main_v56 (F := Ideal) A.a1 (i5 c t g d) = (A.K c).lg g d := by
  refine (val_main_v56_apply ..).trans ((congrArg _ (e_v56 c t g d)).trans ((s_v55 A g d).trans ?_))
  exact (K_lg A c g d).symm
theorem s_v57 (c : Fin 64) (t : Fin 128) (g : Fin 16) (d : Fin 128) : val_main_v57 (F := Ideal) A.a0 A.a1 (i5 c t g d) = nrm ((A.K c).gv g t) d * (A.K c).lg g d := by
  rw [val_main_v57_apply, s_v54, s_v56]
  rfl
theorem e_v44 (g : Fin 16) (d : Fin 128) : idx_main_v44 (gd g d) = f1 (ln g d) := ext1 (by show (g.val) * 128 + (d.val) = (128 * g.val + d.val); omega)
theorem s_v44 (g : Fin 16) (d : Fin 128) : val_main_v44 (F := Ideal) A.a2 (gd g d) = A.a2 (f1 (ln g d)) :=
  (val_main_v44_apply ..).trans ((congrArg _ (e_v44 g d)).trans rfl)
theorem e_v58 (g : Fin 16) (d : Fin 128) : idx_main_v58 (gd5 g d) = gd g d := ext2 rfl rfl
theorem s_v58 (g : Fin 16) (d : Fin 128) : val_main_v58 (F := Ideal) A.a2 (gd5 g d) = A.a2 (f1 (ln g d)) :=
  (val_main_v58_apply ..).trans ((congrArg _ (e_v58 g d)).trans (s_v44 A g d))
theorem e_v59 (c : Fin 64) (t : Fin 128) (g : Fin 16) (d : Fin 128) : idx_main_v59 (i5 c t g d) = gd5 g d := funext fun a => Fin.ext (match a with
  | ⟨0, _⟩ => rfl
  | ⟨1, _⟩ => rfl
  | ⟨2, _⟩ => rfl
  | ⟨3, _⟩ => rfl
  | ⟨4, _⟩ => rfl)
theorem s_v59 (c : Fin 64) (t : Fin 128) (g : Fin 16) (d : Fin 128) : val_main_v59 (F := Ideal) A.a2 (i5 c t g d) = (A.K c).lb g d := by
  refine (val_main_v59_apply ..).trans ((congrArg _ (e_v59 c t g d)).trans ((s_v58 A g d).trans ?_))
  exact (K_lb A c g d).symm
theorem s_v60 (c : Fin 64) (t : Fin 128) (g : Fin 16) (d : Fin 128) : val_main_v60 (F := Ideal) A.a0 A.a1 A.a2 (i5 c t g d) = (A.K c).vn g t d := by
  rw [val_main_v60_apply, s_v57, s_v59]
  rfl
theorem s_v62 (t s : Fin 128) : val_main_v62 (F := Ideal) (ts t s) = BitVec.ofBool (decide (s.val ≤ t.val)) := by
  rw [val_main_v62_apply, val_main_call0_v4_apply, val_main_call0_v2_apply, val_main_call0_v0_apply, val_main_call0_v1_apply,
    val_main_call0_c_apply, val_main_call0_v3_apply, val_main_v61_apply, val_main_c_apply, val_main_call0_v5_apply, val_main_call0_c_0_apply]
  show Scalar.select (IntOp.cmpi .sge (IntOp.addi (BitVec.ofNat 32 t.val) 0#32) (BitVec.ofNat 32 s.val)) 1#1 0#1 = _
  rw [show IntOp.addi (BitVec.ofNat 32 t.val) 0#32 = BitVec.ofNat 32 t.val from BitVec.add_zero _,
    WordCmp.cmpi_sge_ofNat (by omega) (by omega), WordCmp.select_ofBool]
  by_cases h : s.val ≤ t.val
  · rw [if_pos (decide_eq_true h), decide_eq_true h]; rfl
  · rw [if_neg (by simpa using h), decide_eq_false h]; rfl
theorem e_v63 (t : Fin 128) (s : Fin 128) : idx_main_v63 (ts3 t s) = ts t s := ext2 rfl rfl
theorem s_v63 (t : Fin 128) (s : Fin 128) : val_main_v63 (F := Ideal) (ts3 t s) = BitVec.ofBool (decide (s.val ≤ t.val)) :=
  (val_main_v63_apply ..).trans ((congrArg _ (e_v63 t s)).trans (s_v62 t s))
theorem e_v65_1 (g : Fin 16) (t : Fin 128) (s : Fin 128) : idx_main_v65_1 (gts g t s) = ts3 t s := ext3 rfl rfl rfl
theorem s_v65_1 (g : Fin 16) (t : Fin 128) (s : Fin 128) : val_main_v65_1 (F := Ideal) (gts g t s) = BitVec.ofBool (decide (s.val ≤ t.val)) :=
  (val_main_v65_1_apply ..).trans ((congrArg _ (e_v65_1 g t s)).trans (s_v63 t s))
theorem s_v65_0 (g : Fin 16) (t s : Fin 128) : val_main_v65_0 (F := Ideal) A.a3 (gts g t s) = A.wm g t s := by
  rw [val_main_v65_0_apply, s_v65_1, val_main_v64_apply, val_main_cst_13_apply, WordCmp.select_ofBool]
  show (if _ then _ else Ideal.ofBits .f32 0#32) = _
  rw [Ideal.ofBits_zero]
  unfold Args.wm
  by_cases h : s.val ≤ t.val
  · rw [if_pos (decide_eq_true h), if_pos h]
  · rw [if_neg (by simpa using h), if_neg h]
theorem el_v66 (g : Fin 16) (c : Fin 64) (d : Fin 128) (t : Fin 128) (k : Fin 128) : lidx_main_v66 (q5 g c d t) k = i5 c k g d := funext fun a => Fin.ext (match a with
  | ⟨0, _⟩ => rfl
  | ⟨1, _⟩ => rfl
  | ⟨2, _⟩ => rfl
  | ⟨3, _⟩ => rfl
  | ⟨4, _⟩ => rfl)
theorem er_v66 (g : Fin 16) (c : Fin 64) (d : Fin 128) (t : Fin 128) (k : Fin 128) : ridx_main_v66 (q5 g c d t) k = gts g t k := ext3 rfl rfl rfl
theorem s_v66 (g : Fin 16) (c : Fin 64) (d : Fin 128) (t : Fin 128) : val_main_v66 (F := Ideal) A.a0 A.a1 A.a2 A.a3 (q5 g c d t) = ∑ s, (A.K c).vn g s d * (A.K c).wm g t s := by
  refine (val_main_v66_apply ..).trans (Finset.sum_congr rfl fun k _ => ?_)
  exact congr (congrArg _ ((congrArg _ (el_v66 g c d t k)).trans (s_v60 A c k g d))) (((congrArg _ (er_v66 g c d t k)).trans (s_v65_0 A g t k)).trans (K_wm A c g t k).symm)
theorem e_v67 (c : Fin 64) (t : Fin 128) (g : Fin 16) (d : Fin 128) : idx_main_v67 (i5 c t g d) = q5 g c d t := funext fun a => Fin.ext (match a with
  | ⟨0, _⟩ => rfl
  | ⟨1, _⟩ => rfl
  | ⟨2, _⟩ => rfl
  | ⟨3, _⟩ => rfl
  | ⟨4, _⟩ => rfl)
theorem s_v67 (c : Fin 64) (t : Fin 128) (g : Fin 16) (d : Fin 128) : val_main_v67 (F := Ideal) A.a0 A.a1 A.a2 A.a3 (i5 c t g d) = ∑ s, (A.K c).vn g s d * (A.K c).wm g t s :=
  (val_main_v67_apply ..).trans ((congrArg _ (e_v67 c t g d)).trans (s_v66 A g c d t))
theorem e_v68 (t : Fin 128) (g : Fin 16) : idx_main_v68 (tg t g) = gd g t := ext2 rfl rfl
theorem s_v68 (t : Fin 128) (g : Fin 16) : val_main_v68 (F := Ideal) A.a4 (tg t g) = A.a4 (gd g t) :=
  (val_main_v68_apply ..).trans ((congrArg _ (e_v68 t g)).trans rfl)
theorem e_v69 (t : Fin 128) (g : Fin 16) : idx_main_v69 (tg3 t g) = tg t g := ext2 rfl rfl
theorem s_v69 (t : Fin 128) (g : Fin 16) : val_main_v69 (F := Ideal) A.a4 (tg3 t g) = A.a4 (gd g t) :=
  (val_main_v69_apply ..).trans ((congrArg _ (e_v69 t g)).trans (s_v68 A t g))
theorem e_v70 (t : Fin 128) (g : Fin 16) : idx_main_v70 (tg5 t g) = tg3 t g := ext3 rfl rfl rfl
theorem s_v70 (t : Fin 128) (g : Fin 16) : val_main_v70 (F := Ideal) A.a4 (tg5 t g) = A.a4 (gd g t) :=
  (val_main_v70_apply ..).trans ((congrArg _ (e_v70 t g)).trans (s_v69 A t g))
theorem e_v71 (c : Fin 64) (t : Fin 128) (g : Fin 16) (d : Fin 128) : idx_main_v71 (i5 c t g d) = tg5 t g := funext fun a => Fin.ext (match a with
  | ⟨0, _⟩ => rfl
  | ⟨1, _⟩ => rfl
  | ⟨2, _⟩ => rfl
  | ⟨3, _⟩ => rfl
  | ⟨4, _⟩ => rfl)
theorem s_v71 (c : Fin 64) (t : Fin 128) (g : Fin 16) (d : Fin 128) : val_main_v71 (F := Ideal) A.a4 (i5 c t g d) = (A.K c).b g t := by
  refine (val_main_v71_apply ..).trans ((congrArg _ (e_v71 c t g d)).trans ((s_v70 A t g).trans ?_))
  exact (K_b A c g t).symm
theorem s_v72 (c : Fin 64) (t : Fin 128) (g : Fin 16) (d : Fin 128) : val_main_v72 (F := Ideal) A.a0 A.a1 A.a2 A.a3 A.a4 (i5 c t g d) = (A.K c).sg g t d := by
  rw [val_main_v72_apply, s_v67, s_v71]
  exact congrArg (· + (A.K c).b g t) (Finset.sum_congr rfl fun s _ => mul_comm _ _)
theorem e_v73 (c : Fin 64) (t : Fin 128) (j : Fin 2048) : idx_main_v73 (j3 c t j) = i5 c t (gO j) (dO j) := funext fun a => Fin.ext (match a with
  | ⟨0, _⟩ => rfl
  | ⟨1, _⟩ => (by show (((0) * 8192 + (128 * c.val + t.val)) * 2048 + (j.val)) / 262144 % 64 = c.val; omega)
  | ⟨2, _⟩ => (by show (((0) * 8192 + (128 * c.val + t.val)) * 2048 + (j.val)) / 2048 % 128 = t.val; omega)
  | ⟨3, _⟩ => (by show (((0) * 8192 + (128 * c.val + t.val)) * 2048 + (j.val)) / 128 % 16 = (j.val / 128); omega)
  | ⟨4, _⟩ => (by show (((0) * 8192 + (128 * c.val + t.val)) * 2048 + (j.val)) % 128 = (j.val % 128); omega))
theorem s_v73 (c : Fin 64) (t : Fin 128) (j : Fin 2048) : val_main_v73 (F := Ideal) A.a0 A.a1 A.a2 A.a3 A.a4 (j3 c t j) = (A.K c).sg (gO j) t (dO j) :=
  (val_main_v73_apply ..).trans ((congrArg _ (e_v73 c t j)).trans (s_v72 A c t (gO j) (dO j)))
theorem s_v74 (c : Fin 64) (t : Fin 128) (j : Fin 2048) : val_main_v74 (F := Ideal) A.a0 A.a1 A.a2 A.a3 A.a4 (j3 c t j) = (A.K c).Y t j := by
  rw [val_main_v74_apply, s_v27, s_v73]
  rfl
theorem s_v75 (c : Fin 64) (t : Fin 128) (j : Fin 2048) : val_main_v75 (F := Ideal) A.a0 A.a1 A.a2 A.a3 A.a4 (j3 c t j) = (A.K c).Y t j * (A.K c).Y t j := by
  rw [val_main_v75_apply, s_v74]
  rfl
theorem e_v76 (c : Fin 64) (t : Fin 128) (k : Fin 2048) : idx_main_v76 (r2 c t) k = j3 c t k := ext3 rfl rfl rfl
theorem s_v76 (c : Fin 64) (t : Fin 128) : val_main_v76 (F := Ideal) A.a0 A.a1 A.a2 A.a3 A.a4 (r2 c t) = ∑ j, ((A.K c).Y t) j * ((A.K c).Y t) j := by
  refine (val_main_v76_apply ..).trans ?_
  refine (congr (congrArg _ zero_cst_14) (Finset.sum_congr rfl fun k _ => (congrArg _ (e_v76 c t k)).trans (s_v75 A c t k))).trans (zero_add _)
theorem e_v77 (c : Fin 64) (t : Fin 128) : idx_main_v77 (r3 c t) = r2 c t := ext2 rfl rfl
theorem s_v77 (c : Fin 64) (t : Fin 128) : val_main_v77 (F := Ideal) A.a0 A.a1 A.a2 A.a3 A.a4 (r3 c t) = ∑ j, ((A.K c).Y t) j * ((A.K c).Y t) j :=
  (val_main_v77_apply ..).trans ((congrArg _ (e_v77 c t)).trans (s_v76 A c t))
theorem s_v79 (c : Fin 64) (t : Fin 128) : val_main_v79 (F := Ideal) A.a0 A.a1 A.a2 A.a3 A.a4 (r3 c t) = Ideal.div (∑ j, ((A.K c).Y t) j * ((A.K c).Y t) j) (k 0x45000000#32) := by
  rw [val_main_v79_apply, s_v77, val_main_v78_apply, val_main_cst_15_apply]
  rfl
theorem s_v81 (c : Fin 64) (t : Fin 128) : val_main_v81 (F := Ideal) A.a0 A.a1 A.a2 A.a3 A.a4 (r3 c t) = me ((A.K c).Y t) := by
  rw [val_main_v81_apply, s_v79, val_main_v80_apply, val_main_cst_16_apply]
  rfl
theorem s_v82 (c : Fin 64) (t : Fin 128) : val_main_v82 (F := Ideal) A.a0 A.a1 A.a2 A.a3 A.a4 (r3 c t) = rr ((A.K c).Y t) := by
  rw [val_main_v82_apply, s_v81]
  rfl
theorem s_v83 (c : Fin 64) (t : Fin 128) : val_main_v83 (F := Ideal) A.a0 A.a1 A.a2 A.a3 A.a4 (r3 c t) = Ideal.div (rr ((A.K c).Y t)) (me ((A.K c).Y t)) := by
  rw [val_main_v83_apply, s_v82, s_v81]
  rfl
theorem s_v85 (c : Fin 64) (t : Fin 128) : val_main_v85 (F := Ideal) A.a0 A.a1 A.a2 A.a3 A.a4 (r3 c t) = rd ((A.K c).Y t) := by
  rw [val_main_v85_apply, val_main_v84_apply, val_main_cst_17_apply, s_v83]
  rfl
theorem e_v86 (c : Fin 64) (t : Fin 128) (j : Fin 2048) : idx_main_v86 (j3 c t j) = r3 c t := ext3 rfl rfl rfl
theorem s_v86 (c : Fin 64) (t : Fin 128) (j : Fin 2048) : val_main_v86 (F := Ideal) A.a0 A.a1 A.a2 A.a3 A.a4 (j3 c t j) = rr ((A.K c).Y t) :=
  (val_main_v86_apply ..).trans ((congrArg _ (e_v86 c t j)).trans (s_v82 A c t))
theorem s_v87 (c : Fin 64) (t : Fin 128) (j : Fin 2048) : val_main_v87 (F := Ideal) A.a0 A.a1 A.a2 A.a3 A.a4 (j3 c t j) = ((A.K c).Y t) j * rr ((A.K c).Y t) := by
  rw [val_main_v87_apply, s_v74, s_v86]
  rfl
theorem e_v3 (c : Fin 64) (t : Fin 128) (j : Fin 2048) : idx_main_v3 (j32 c t j) = p6 c t j := ext2 rfl rfl
theorem s_v3 (c : Fin 64) (t : Fin 128) (j : Fin 2048) : val_main_v3 (F := Ideal) A.a6 (j32 c t j) = A.a6 (p6 c t j) :=
  (val_main_v3_apply ..).trans ((congrArg _ (e_v3 c t j)).trans rfl)
theorem e_v4 (c : Fin 64) (t : Fin 128) (j : Fin 2048) : idx_main_v4 (j3 c t j) = j32 c t j := ext2 rfl rfl
theorem s_v4 (c : Fin 64) (t : Fin 128) (j : Fin 2048) : val_main_v4 (F := Ideal) A.a6 (j3 c t j) = A.a6 (p6 c t j) :=
  (val_main_v4_apply ..).trans ((congrArg _ (e_v4 c t j)).trans (s_v3 A c t j))
theorem s_v5 (c : Fin 64) (t : Fin 128) (j : Fin 2048) : val_main_v5 (F := Ideal) A.a6 (j3 c t j) = (A.K c).dy t j := by
  rw [val_main_v5_apply, s_v4]
  exact (K_dy A c t j).symm
theorem s_v91 (c : Fin 64) (t : Fin 128) (j : Fin 2048) : val_main_v91 (F := Ideal) A.a0 A.a1 A.a2 A.a3 A.a4 A.a6 (j3 c t j) = (((A.K c).Y t) j * rr ((A.K c).Y t)) * (A.K c).dy t j := by
  rw [val_main_v91_apply, s_v87, s_v5]
  rfl
theorem s_v92 (j : Fin 2048) : val_main_v92 (F := Ideal) A.a0 A.a1 A.a2 A.a3 A.a4 A.a6 (f2 j) = ∑ c, (A.K c).dNg j := by
  refine (val_main_v92_apply ..).trans ?_
  rw [zero_cst_18, zero_add, sum_rows]
  refine Finset.sum_congr rfl fun c _ => Finset.sum_congr rfl fun t _ => ?_
  refine Eq.trans (congrArg _ (show _ = j3 c t j from ext3 rfl rfl rfl)) (s_v91 A c t j)
theorem e_v93 (j : Fin 2048) : idx_main_v93 (f3 j) = f2 j := ext2 rfl (by show (((0) * 1 + (0)) * 2048 + (j.val)) % 2048 = j.val; omega)
theorem s_v93 (j : Fin 2048) : val_main_v93 (F := Ideal) A.a0 A.a1 A.a2 A.a3 A.a4 A.a6 (f3 j) = ∑ c, (A.K c).dNg j :=
  (val_main_v93_apply ..).trans ((congrArg _ (e_v93 j)).trans (s_v92 A j))
end Cert.ReferenceIdeal.Hand
end
-- ==== Proof.RefB.lean ====
/-
  The reference read from the cotangent of the normalised product back to the arguments.
-/
module
public import proofs.«01_k».proof.Proof.RefA
@[expose] public section
set_option backward.proofsInPublic true
noncomputable section
namespace Cert.ReferenceIdeal.Hand
open Cert.ReferenceIdeal Cert.ReferenceIdeal.Gen Cert.ReferenceIdeal.Read Cert.Spec Idealize.ShloMosaic.TcCoe Idealize.SL.Sem Idealize.ShloMosaic.StableHlo Cert.Halves
open Idealize.ShloMosaic hiding ix1 ix2 ix3
open Idealize.ShloMosaic.ValueIdx (ix1 ix2 ix3)
variable (A : Args)
theorem s_v96 (j : Fin 2048) : val_main_v96 (F := Ideal) A.a0 A.a1 A.a2 A.a3 A.a4 A.a6 (f1 j) = ∑ c, (A.K c).dNg j := by
  unfold val_main_v96
  simp only [Host.reduceAdd, Ideal.hostReduceAdd_def]
  refine (sum_fiber _ _ _ zero_cst_19 _ (κ := Unit) (fun k => f3 j) (fun _ _ e => rfl) (fun i => ⟨fun e => ⟨(), funext fun a => Fin.ext (match a with
      | ⟨0, _⟩ => (Nat.lt_one_iff.mp (i 0).isLt).symm
      | ⟨1, _⟩ => (Nat.lt_one_iff.mp (i 1).isLt).symm
      | ⟨2, _⟩ => (congrArg Fin.val (congrFun e ⟨0, by decide⟩)).symm)⟩, ?_⟩)).trans ?_
  · rintro ⟨k, rfl⟩
    exact funext fun b => Fin.ext (match b with
      | ⟨0, _⟩ => rfl)
  · exact (Fintype.sum_unique _).trans (s_v93 A j)
theorem e_v88 (j : Fin 2048) : idx_main_v88 (f3 j) = f1 j := ext1 rfl
theorem s_v88 (j : Fin 2048) : val_main_v88 (F := Ideal) A.a5 (f3 j) = A.a5 (f1 j) :=
  (val_main_v88_apply ..).trans ((congrArg _ (e_v88 j)).trans rfl)
theorem e_v94 (c : Fin 64) (t : Fin 128) (j : Fin 2048) : idx_main_v94 (j3 c t j) = f3 j := ext3 rfl rfl rfl
theorem s_v94 (c : Fin 64) (t : Fin 128) (j : Fin 2048) : val_main_v94 (F := Ideal) A.a5 (j3 c t j) = (A.K c).ng j := by
  refine (val_main_v94_apply ..).trans ((congrArg _ (e_v94 c t j)).trans ((s_v88 A j).trans ?_))
  exact (K_ng A c j).symm
theorem s_v95 (c : Fin 64) (t : Fin 128) (j : Fin 2048) : val_main_v95 (F := Ideal) A.a5 A.a6 (j3 c t j) = ((A.K c).e t) j := by
  rw [val_main_v95_apply, s_v5, s_v94]
  rfl
theorem s_v97 (c : Fin 64) (t : Fin 128) (j : Fin 2048) : val_main_v97 (F := Ideal) A.a0 A.a1 A.a2 A.a3 A.a4 A.a5 A.a6 (j3 c t j) = ((A.K c).Y t) j * ((A.K c).e t) j := by
  rw [val_main_v97_apply, s_v74, s_v95]
  rfl
theorem e_v98 (c : Fin 64) (t : Fin 128) (k : Fin 2048) : idx_main_v98 (r2 c t) k = j3 c t k := ext3 rfl rfl rfl
theorem s_v98 (c : Fin 64) (t : Fin 128) : val_main_v98 (F := Ideal) A.a0 A.a1 A.a2 A.a3 A.a4 A.a5 A.a6 (r2 c t) = ∑ j, ((A.K c).Y t) j * ((A.K c).e t) j := by
  refine (val_main_v98_apply ..).trans ?_
  refine (congr (congrArg _ zero_cst_20) (Finset.sum_congr rfl fun k _ => (congrArg _ (e_v98 c t k)).trans (s_v97 A c t k))).trans (zero_add _)
theorem e_v99 (c : Fin 64) (t : Fin 128) : idx_main_v99 (r3 c t) = r2 c t := ext2 rfl (by show (((0) * 8192 + (128 * c.val + t.val)) * 1 + (0)) % 8192 = 128 * c.val + t.val; omega)
theorem s_v99 (c : Fin 64) (t : Fin 128) : val_main_v99 (F := Ideal) A.a0 A.a1 A.a2 A.a3 A.a4 A.a5 A.a6 (r3 c t) = ∑ j, ((A.K c).Y t) j * ((A.K c).e t) j :=
  (val_main_v99_apply ..).trans ((congrArg _ (e_v99 c t)).trans (s_v98 A c t))
theorem e_v100 (c : Fin 64) (t : Fin 128) (j : Fin 2048) : idx_main_v100 (j3 c t j) = r3 c t := ext3 rfl rfl rfl
theorem s_v100 (c : Fin 64) (t : Fin 128) (j : Fin 2048) : val_main_v100 (F := Ideal) A.a0 A.a1 A.a2 A.a3 A.a4 (j3 c t j) = rr ((A.K c).Y t) :=
  (val_main_v100_apply ..).trans ((congrArg _ (e_v100 c t j)).trans (s_v82 A c t))
theorem s_v101 (c : Fin 64) (t : Fin 128) (j : Fin 2048) : val_main_v101 (F := Ideal) A.a0 A.a1 A.a2 A.a3 A.a4 A.a5 A.a6 (j3 c t j) = ((A.K c).e t) j * rr ((A.K c).Y t) := by
  rw [val_main_v101_apply, s_v95, s_v100]
  rfl
theorem s_v102 (c : Fin 64) (t : Fin 128) : val_main_v102 (F := Ideal) A.a0 A.a1 A.a2 A.a3 A.a4 A.a5 A.a6 (r3 c t) = (∑ j, ((A.K c).Y t) j * ((A.K c).e t) j) * rd ((A.K c).Y t) := by
  rw [val_main_v102_apply, s_v99, s_v85]
  rfl
theorem s_v104 (c : Fin 64) (t : Fin 128) : val_main_v104 (F := Ideal) A.a0 A.a1 A.a2 A.a3 A.a4 A.a5 A.a6 (r3 c t) = rq ((A.K c).Y t) ((A.K c).e t) := by
  rw [val_main_v104_apply, s_v102, val_main_v103_apply, val_main_cst_21_apply]
  rfl
theorem s_v105 (c : Fin 64) (t : Fin 128) : val_main_v105 (F := Ideal) A.a0 A.a1 A.a2 A.a3 A.a4 A.a5 A.a6 (r1 c t) = rq ((A.K c).Y t) ((A.K c).e t) := by
  unfold val_main_v105
  simp only [Host.reduceAdd, Ideal.hostReduceAdd_def]
  refine (sum_fiber _ _ _ zero_cst_22 _ (κ := Unit) (fun k => r3 c t) (fun _ _ e => rfl) (fun i => ⟨fun e => ⟨(), funext fun a => Fin.ext (match a with
      | ⟨0, _⟩ => (Nat.lt_one_iff.mp (i 0).isLt).symm
      | ⟨1, _⟩ => (congrArg Fin.val (congrFun e ⟨0, by decide⟩)).symm
      | ⟨2, _⟩ => (Nat.lt_one_iff.mp (i 2).isLt).symm)⟩, ?_⟩)).trans ?_
  · rintro ⟨k, rfl⟩
    exact funext fun b => Fin.ext (match b with
      | ⟨0, _⟩ => rfl)
  · exact (Fintype.sum_unique _).trans (s_v104 A c t)
theorem e_v106 (c : Fin 64) (t : Fin 128) : idx_main_v106 (r2 c t) = r1 c t := ext1 rfl
theorem s_v106 (c : Fin 64) (t : Fin 128) : val_main_v106 (F := Ideal) A.a0 A.a1 A.a2 A.a3 A.a4 A.a5 A.a6 (r2 c t) = rq ((A.K c).Y t) ((A.K c).e t) :=
  (val_main_v106_apply ..).trans ((congrArg _ (e_v106 c t)).trans (s_v105 A c t))
theorem e_v107 (c : Fin 64) (t : Fin 128) (j : Fin 2048) : idx_main_v107 (j3 c t j) = r2 c t := ext2 rfl rfl
theorem s_v107 (c : Fin 64) (t : Fin 128) (j : Fin 2048) : val_main_v107 (F := Ideal) A.a0 A.a1 A.a2 A.a3 A.a4 A.a5 A.a6 (j3 c t j) = rq ((A.K c).Y t) ((A.K c).e t) :=
  (val_main_v107_apply ..).trans ((congrArg _ (e_v107 c t j)).trans (s_v106 A c t))
theorem s_v108 (c : Fin 64) (t : Fin 128) (j : Fin 2048) : val_main_v108 (F := Ideal) A.a0 A.a1 A.a2 A.a3 A.a4 A.a5 A.a6 (j3 c t j) = ((A.K c).Y t) j * rq ((A.K c).Y t) ((A.K c).e t) := by
  rw [val_main_v108_apply, s_v74, s_v107]
  rfl
theorem s_v109 (c : Fin 64) (t : Fin 128) (j : Fin 2048) : val_main_v109 (F := Ideal) A.a0 A.a1 A.a2 A.a3 A.a4 A.a5 A.a6 (j3 c t j) = ((A.K c).e t) j * rr ((A.K c).Y t) + ((A.K c).Y t) j * rq ((A.K c).Y t) ((A.K c).e t) := by
  rw [val_main_v109_apply, s_v101, s_v108]
  rfl
theorem s_v110 (c : Fin 64) (t : Fin 128) (j : Fin 2048) : val_main_v110 (F := Ideal) A.a0 A.a1 A.a2 A.a3 A.a4 A.a5 A.a6 (j3 c t j) = rq ((A.K c).Y t) ((A.K c).e t) * ((A.K c).Y t) j := by
  rw [val_main_v110_apply, s_v107, s_v74]
  rfl
theorem s_v111 (c : Fin 64) (t : Fin 128) (j : Fin 2048) : val_main_v111 (F := Ideal) A.a0 A.a1 A.a2 A.a3 A.a4 A.a5 A.a6 (j3 c t j) = (A.K c).D (gO j) t (dO j) := by
  rw [val_main_v111_apply, s_v109, s_v110]
  exact (D_at _ t j).symm
theorem s_v112 (c : Fin 64) (t : Fin 128) (j : Fin 2048) : val_main_v112 (F := Ideal) A.a0 A.a1 A.a2 A.a3 A.a4 A.a5 A.a6 (j3 c t j) = (A.K c).dsg (gO j) t (dO j) := by
  rw [val_main_v112_apply, s_v27, s_v111]
  rfl
theorem s_v113 (c : Fin 64) (t : Fin 128) (j : Fin 2048) : val_main_v113 (F := Ideal) A.a0 A.a1 A.a2 A.a3 A.a4 A.a5 A.a6 (j3 c t j) = (A.K c).D (gO j) t (dO j) * (A.K c).sg (gO j) t (dO j) := by
  rw [val_main_v113_apply, s_v111, s_v73]
  rfl
theorem e_v114 (c : Fin 64) (t : Fin 128) (g : Fin 16) (d : Fin 128) : idx_main_v114 (i5 c t g d) = j3 c t (ln g d) := ext3 rfl (by show (((((0) * 64 + (c.val)) * 128 + (t.val)) * 16 + (g.val)) * 128 + (d.val)) / 2048 % 8192 = 128 * c.val + t.val; omega) (by show (((((0) * 64 + (c.val)) * 128 + (t.val)) * 16 + (g.val)) * 128 + (d.val)) % 2048 = (128 * g.val + d.val); omega)
theorem s_v114 (c : Fin 64) (t : Fin 128) (g : Fin 16) (d : Fin 128) : val_main_v114 (F := Ideal) A.a0 A.a1 A.a2 A.a3 A.a4 A.a5 A.a6 (i5 c t g d) = (A.K c).dsg g t d := by
  refine (val_main_v114_apply ..).trans ((congrArg _ (e_v114 c t g d)).trans ((s_v112 A c t (ln g d)).trans ?_))
  rw [gO_ln, dO_ln]
theorem s_v115 (t : Fin 128) (g : Fin 16) : val_main_v115 (F := Ideal) A.a0 A.a1 A.a2 A.a3 A.a4 A.a5 A.a6 (tg03 t g) = ∑ c, (A.K c).dBs g t := by
  unfold val_main_v115
  simp only [Host.reduceAdd, Ideal.hostReduceAdd_def]
  refine (sum_fiber _ _ _ zero_cst_23 _ (κ := Fin 64 × Fin 128) (fun k => i5 k.1 t g k.2) (fun _ _ e => Prod.ext (congrFun e 1) (congrFun e 4)) (fun i => ⟨fun e => ⟨(i 1, i 4), funext fun a => Fin.ext (match a with
      | ⟨0, _⟩ => (Nat.lt_one_iff.mp (i 0).isLt).symm
      | ⟨1, _⟩ => rfl
      | ⟨2, _⟩ => (congrArg Fin.val (congrFun e ⟨1, by decide⟩)).symm
      | ⟨3, _⟩ => (congrArg Fin.val (congrFun e ⟨2, by decide⟩)).symm
      | ⟨4, _⟩ => rfl)⟩, ?_⟩)).trans ?_
  · rintro ⟨k, rfl⟩
    exact funext fun b => Fin.ext (match b with
      | ⟨0, _⟩ => rfl
      | ⟨1, _⟩ => rfl
      | ⟨2, _⟩ => rfl)
  · exact (Fintype.sum_prod_type _).trans (Finset.sum_congr rfl fun c _ => Finset.sum_congr rfl fun d _ => s_v114 A c t g d)
theorem e_v116 (t : Fin 128) (g : Fin 16) : idx_main_v116 (tg5 t g) = tg03 t g := ext3 rfl (by show (((((0) * 1 + (0)) * 128 + (t.val)) * 16 + (g.val)) * 1 + (0)) / 16 % 128 = t.val; omega) (by show (((((0) * 1 + (0)) * 128 + (t.val)) * 16 + (g.val)) * 1 + (0)) % 16 = g.val; omega)
theorem s_v116 (t : Fin 128) (g : Fin 16) : val_main_v116 (F := Ideal) A.a0 A.a1 A.a2 A.a3 A.a4 A.a5 A.a6 (tg5 t g) = ∑ c, (A.K c).dBs g t :=
  (val_main_v116_apply ..).trans ((congrArg _ (e_v116 t g)).trans (s_v115 A t g))
theorem s_v117 (t : Fin 128) (g : Fin 16) : val_main_v117 (F := Ideal) A.a0 A.a1 A.a2 A.a3 A.a4 A.a5 A.a6 (tg t g) = ∑ c, (A.K c).dBs g t := by
  unfold val_main_v117
  simp only [Host.reduceAdd, Ideal.hostReduceAdd_def]
  refine (sum_fiber _ _ _ zero_cst_24 _ (κ := Unit) (fun k => tg5 t g) (fun _ _ e => rfl) (fun i => ⟨fun e => ⟨(), funext fun a => Fin.ext (match a with
      | ⟨0, _⟩ => (Nat.lt_one_iff.mp (i 0).isLt).symm
      | ⟨1, _⟩ => (Nat.lt_one_iff.mp (i 1).isLt).symm
      | ⟨2, _⟩ => (congrArg Fin.val (congrFun e ⟨0, by decide⟩)).symm
      | ⟨3, _⟩ => (congrArg Fin.val (congrFun e ⟨1, by decide⟩)).symm
      | ⟨4, _⟩ => (Nat.lt_one_iff.mp (i 4).isLt).symm)⟩, ?_⟩)).trans ?_
  · rintro ⟨k, rfl⟩
    exact funext fun b => Fin.ext (match b with
      | ⟨0, _⟩ => rfl
      | ⟨1, _⟩ => rfl)
  · exact (Fintype.sum_unique _).trans (s_v116 A t g)
theorem e_v118 (t : Fin 128) (g : Fin 16) : idx_main_v118 (tg3 t g) = tg t g := ext2 rfl rfl
theorem s_v118 (t : Fin 128) (g : Fin 16) : val_main_v118 (F := Ideal) A.a0 A.a1 A.a2 A.a3 A.a4 A.a5 A.a6 (tg3 t g) = ∑ c, (A.K c).dBs g t :=
  (val_main_v118_apply ..).trans ((congrArg _ (e_v118 t g)).trans (s_v117 A t g))
theorem s_v119 (t : Fin 128) (g : Fin 16) : val_main_v119 (F := Ideal) A.a0 A.a1 A.a2 A.a3 A.a4 A.a5 A.a6 (tg t g) = ∑ c, (A.K c).dBs g t := by
  refine (val_main_v119_apply ..).trans ?_
  refine (congr (congrArg _ zero_cst_25) (Fintype.sum_unique _)).trans ((zero_add _).trans ?_)
  exact (congrArg _ (show _ = tg3 t g from ext3 rfl rfl rfl)).trans (s_v118 A t g)
theorem e_v120 (g : Fin 16) (d : Fin 128) : idx_main_v120 (gd g d) = tg d g := ext2 rfl rfl
theorem s_v120 (g : Fin 16) (d : Fin 128) : val_main_v120 (F := Ideal) A.a0 A.a1 A.a2 A.a3 A.a4 A.a5 A.a6 (gd g d) = ∑ c, (A.K c).dBs g d :=
  (val_main_v120_apply ..).trans ((congrArg _ (e_v120 g d)).trans (s_v119 A d g))
theorem e_v121 (g : Fin 16) (c : Fin 64) (d : Fin 128) (t : Fin 128) : idx_main_v121 (q5 g c d t) = i5 c t g d := funext fun a => Fin.ext (match a with
  | ⟨0, _⟩ => rfl
  | ⟨1, _⟩ => rfl
  | ⟨2, _⟩ => rfl
  | ⟨3, _⟩ => rfl
  | ⟨4, _⟩ => rfl)
theorem s_v121 (g : Fin 16) (c : Fin 64) (d : Fin 128) (t : Fin 128) : val_main_v121 (F := Ideal) A.a0 A.a1 A.a2 A.a3 A.a4 A.a5 A.a6 (q5 g c d t) = (A.K c).dsg g t d :=
  (val_main_v121_apply ..).trans ((congrArg _ (e_v121 g c d t)).trans (s_v114 A c t g d))
theorem el_v123 (g : Fin 16) (c : Fin 64) (d : Fin 128) (t : Fin 128) (k : Fin 128) : lidx_main_v123 (q5 g c d t) k = q5 g c d k := funext fun a => Fin.ext (match a with
  | ⟨0, _⟩ => rfl
  | ⟨1, _⟩ => rfl
  | ⟨2, _⟩ => rfl
  | ⟨3, _⟩ => rfl
  | ⟨4, _⟩ => rfl)
theorem er_v123 (g : Fin 16) (c : Fin 64) (d : Fin 128) (t : Fin 128) (k : Fin 128) : ridx_main_v123 (q5 g c d t) k = gts g k t := ext3 rfl rfl rfl
theorem s_v123 (g : Fin 16) (c : Fin 64) (d : Fin 128) (t : Fin 128) : val_main_v123 (F := Ideal) A.a0 A.a1 A.a2 A.a3 A.a4 A.a5 A.a6 (q5 g c d t) = (A.K c).dvn g t d := by
  refine (val_main_v123_apply ..).trans (Finset.sum_congr rfl fun k _ => ?_)
  exact congr (congrArg _ ((congrArg _ (el_v123 g c d t k)).trans (s_v121 A g c d k))) (((congrArg _ (er_v123 g c d t k)).trans (s_v65_0 A g k t)).trans (K_wm A c g k t).symm)
theorem e_v124 (c : Fin 64) (t : Fin 128) (g : Fin 16) (d : Fin 128) : idx_main_v124 (i5 c t g d) = q5 g c d t := funext fun a => Fin.ext (match a with
  | ⟨0, _⟩ => rfl
  | ⟨1, _⟩ => rfl
  | ⟨2, _⟩ => rfl
  | ⟨3, _⟩ => rfl
  | ⟨4, _⟩ => rfl)
theorem s_v124 (c : Fin 64) (t : Fin 128) (g : Fin 16) (d : Fin 128) : val_main_v124 (F := Ideal) A.a0 A.a1 A.a2 A.a3 A.a4 A.a5 A.a6 (i5 c t g d) = (A.K c).dvn g t d :=
  (val_main_v124_apply ..).trans ((congrArg _ (e_v124 c t g d)).trans (s_v123 A g c d t))
abbrev dW122 := dot_S16x1x64x128x128_S1x64x128x16x128_S16x128x128_123_014_4_2_0_3
theorem l122_0 (i : S16x128x128.Idx) (q : dW122.contr.Idx) : (dW122.lhsIdx i q 0).val = (i 0).val := by
  unfold DotDims.lhsIdx
  rw [dif_pos (show (0 : Fin S16x1x64x128x128.rank) ∈ dW122.lhsBatch by decide)]
  rfl
theorem l122_1 (i : S16x128x128.Idx) (q : dW122.contr.Idx) : (dW122.lhsIdx i q 1).val = (q ⟨0, by decide⟩).val := by
  unfold DotDims.lhsIdx
  rw [dif_neg (show ¬(1 : Fin S16x1x64x128x128.rank) ∈ dW122.lhsBatch by decide), dif_neg (show ¬(1 : Fin S16x1x64x128x128.rank) ∈ dW122.lhsNonContracting by decide)]
  rfl
theorem l122_2 (i : S16x128x128.Idx) (q : dW122.contr.Idx) : (dW122.lhsIdx i q 2).val = (q ⟨1, by decide⟩).val := by
  unfold DotDims.lhsIdx
  rw [dif_neg (show ¬(2 : Fin S16x1x64x128x128.rank) ∈ dW122.lhsBatch by decide), dif_neg (show ¬(2 : Fin S16x1x64x128x128.rank) ∈ dW122.lhsNonContracting by decide)]
  rfl
theorem l122_3 (i : S16x128x128.Idx) (q : dW122.contr.Idx) : (dW122.lhsIdx i q 3).val = (q ⟨2, by decide⟩).val := by
  unfold DotDims.lhsIdx
  rw [dif_neg (show ¬(3 : Fin S16x1x64x128x128.rank) ∈ dW122.lhsBatch by decide), dif_neg (show ¬(3 : Fin S16x1x64x128x128.rank) ∈ dW122.lhsNonContracting by decide)]
  rfl
theorem l122_4 (i : S16x128x128.Idx) (q : dW122.contr.Idx) : (dW122.lhsIdx i q 4).val = (i 1).val := by
  unfold DotDims.lhsIdx
  rw [dif_neg (show ¬(4 : Fin S16x1x64x128x128.rank) ∈ dW122.lhsBatch by decide), dif_pos (show (4 : Fin S16x1x64x128x128.rank) ∈ dW122.lhsNonContracting by decide)]
  rfl
theorem r122_0 (i : S16x128x128.Idx) (q : dW122.contr.Idx) : (dW122.rhsIdx i q 0).val = (q ⟨0, by decide⟩).val := by
  unfold DotDims.rhsIdx
  rw [dif_neg (show ¬(0 : Fin S1x64x128x16x128.rank) ∈ dW122.rhsBatch by decide), dif_neg (show ¬(0 : Fin S1x64x128x16x128.rank) ∈ dW122.rhsNonContracting by decide)]
  rfl
theorem r122_1 (i : S16x128x128.Idx) (q : dW122.contr.Idx) : (dW122.rhsIdx i q 1).val = (q ⟨1, by decide⟩).val := by
  unfold DotDims.rhsIdx
  rw [dif_neg (show ¬(1 : Fin S1x64x128x16x128.rank) ∈ dW122.rhsBatch by decide), dif_neg (show ¬(1 : Fin S1x64x128x16x128.rank) ∈ dW122.rhsNonContracting by decide)]
  rfl
theorem r122_2 (i : S16x128x128.Idx) (q : dW122.contr.Idx) : (dW122.rhsIdx i q 2).val = (i 2).val := by
  unfold DotDims.rhsIdx
  rw [dif_neg (show ¬(2 : Fin S1x64x128x16x128.rank) ∈ dW122.rhsBatch by decide), dif_pos (show (2 : Fin S1x64x128x16x128.rank) ∈ dW122.rhsNonContracting by decide)]
  rfl
theorem r122_3 (i : S16x128x128.Idx) (q : dW122.contr.Idx) : (dW122.rhsIdx i q 3).val = (i 0).val := by
  unfold DotDims.rhsIdx
  rw [dif_pos (show (3 : Fin S1x64x128x16x128.rank) ∈ dW122.rhsBatch by decide)]
  rfl
theorem r122_4 (i : S16x128x128.Idx) (q : dW122.contr.Idx) : (dW122.rhsIdx i q 4).val = (q ⟨2, by decide⟩).val := by
  unfold DotDims.rhsIdx
  rw [dif_neg (show ¬(4 : Fin S1x64x128x16x128.rank) ∈ dW122.rhsBatch by decide), dif_neg (show ¬(4 : Fin S1x64x128x16x128.rank) ∈ dW122.rhsNonContracting by decide)]
  rfl
def conv (p : Fin 64 × Fin 128) (a : Fin 3) : Nat := match a with
  | ⟨0, _⟩ => 0
  | ⟨1, _⟩ => p.1.val
  | ⟨2, _⟩ => p.2.val
theorem conv_lt (p : Fin 64 × Fin 128) (a : Fin 3) : conv p a < dW122.contr.size a := match a with
  | ⟨0, _⟩ => Nat.one_pos
  | ⟨1, _⟩ => p.1.isLt
  | ⟨2, _⟩ => p.2.isLt
/-- The contracted place of chunk `p.1` and lane `p.2`. -/
def con (p : Fin 64 × Fin 128) : dW122.contr.Idx := fun a => ⟨conv p a, conv_lt p a⟩
theorem con_bij : Function.Bijective con := by
  refine ⟨fun p q e => Prod.ext (Fin.ext ?_) (Fin.ext ?_), fun q => ⟨(⟨(q ⟨1, by decide⟩).val, (q ⟨1, by decide⟩).isLt⟩, ⟨(q ⟨2, by decide⟩).val, (q ⟨2, by decide⟩).isLt⟩), ?_⟩⟩
  · exact congrArg (fun z : dW122.contr.Idx => (z ⟨1, by decide⟩).val) e
  · exact congrArg (fun z : dW122.contr.Idx => (z ⟨2, by decide⟩).val) e
  · exact funext fun a => Fin.ext (match a with
      | ⟨0, _⟩ => (Nat.lt_one_iff.mp (q ⟨0, by decide⟩).isLt).symm
      | ⟨1, _⟩ => rfl
      | ⟨2, _⟩ => rfl)
theorem s_v122 (g : Fin 16) (t s : Fin 128) : val_main_v122 (F := Ideal) A.a0 A.a1 A.a2 A.a3 A.a4 A.a5 A.a6 (gts g t s) = ∑ c, ∑ d, (A.K c).dsg g t d * (A.K c).vn g s d := by
  unfold val_main_v122
  simp only [Host.dotGeneral]
  rw [Ideal.dotGeneral_apply]
  refine (Fintype.sum_bijective con con_bij (fun p => (A.K p.1).dsg g t p.2 * (A.K p.1).vn g s p.2) _ fun p => ?_).symm.trans (Fintype.sum_prod_type _)
  refine (congr (congrArg _ ((congrArg _ (show _ = q5 g p.1 p.2 t from funext fun a => Fin.ext (match a with
    | ⟨0, _⟩ => l122_0 _ _
    | ⟨1, _⟩ => l122_1 _ _
    | ⟨2, _⟩ => l122_2 _ _
    | ⟨3, _⟩ => l122_3 _ _
    | ⟨4, _⟩ => l122_4 _ _))).trans (s_v121 A g p.1 p.2 t))) ((congrArg _ (show _ = i5 p.1 s g p.2 from funext fun a => Fin.ext (match a with
    | ⟨0, _⟩ => r122_0 _ _
    | ⟨1, _⟩ => r122_1 _ _
    | ⟨2, _⟩ => r122_2 _ _
    | ⟨3, _⟩ => r122_3 _ _
    | ⟨4, _⟩ => r122_4 _ _))).trans (s_v60 A p.1 s g p.2))).symm
theorem s_v125 (g : Fin 16) (t s : Fin 128) : val_main_v125 (F := Ideal) A.a0 A.a1 A.a2 A.a3 A.a4 A.a5 A.a6 (gts g t s) = ∑ c, (A.K c).dW g t s := by
  rw [val_main_v125_apply, s_v65_1, s_v122, val_main_call2_v0_apply, val_main_call2_cst_apply, WordCmp.select_ofBool]
  show (if _ then _ else Ideal.ofBits .f32 0#32) = _
  rw [Ideal.ofBits_zero]
  unfold Dat.dW
  by_cases h : s.val ≤ t.val
  · rw [if_pos (decide_eq_true h)]
    exact Finset.sum_congr rfl fun c _ => (if_pos h).symm
  · rw [if_neg (by simpa using h)]
    exact (Finset.sum_eq_zero fun c _ => if_neg h).symm
theorem s_v126 (g : Fin 16) (d : Fin 128) : val_main_v126 (F := Ideal) A.a0 A.a1 A.a2 A.a3 A.a4 A.a5 A.a6 (gd3 g d) = ∑ c, (A.K c).dLb g d := by
  unfold val_main_v126
  simp only [Host.reduceAdd, Ideal.hostReduceAdd_def]
  refine (sum_fiber _ _ _ zero_cst_26 _ (κ := Fin 64 × Fin 128) (fun k => i5 k.1 k.2 g d) (fun _ _ e => Prod.ext (congrFun e 1) (congrFun e 2)) (fun i => ⟨fun e => ⟨(i 1, i 2), funext fun a => Fin.ext (match a with
      | ⟨0, _⟩ => (Nat.lt_one_iff.mp (i 0).isLt).symm
      | ⟨1, _⟩ => rfl
      | ⟨2, _⟩ => rfl
      | ⟨3, _⟩ => (congrArg Fin.val (congrFun e ⟨1, by decide⟩)).symm
      | ⟨4, _⟩ => (congrArg Fin.val (congrFun e ⟨2, by decide⟩)).symm)⟩, ?_⟩)).trans ?_
  · rintro ⟨k, rfl⟩
    exact funext fun b => Fin.ext (match b with
      | ⟨0, _⟩ => rfl
      | ⟨1, _⟩ => rfl
      | ⟨2, _⟩ => rfl)
  · exact (Fintype.sum_prod_type _).trans (Finset.sum_congr rfl fun c _ => Finset.sum_congr rfl fun t _ => s_v124 A c t g d)
theorem e_v127 (g : Fin 16) (d : Fin 128) : idx_main_v127 (gd5 g d) = gd3 g d := ext3 rfl (by show (((((0) * 1 + (0)) * 1 + (0)) * 16 + (g.val)) * 128 + (d.val)) / 128 % 16 = g.val; omega) (by show (((((0) * 1 + (0)) * 1 + (0)) * 16 + (g.val)) * 128 + (d.val)) % 128 = d.val; omega)
theorem s_v127 (g : Fin 16) (d : Fin 128) : val_main_v127 (F := Ideal) A.a0 A.a1 A.a2 A.a3 A.a4 A.a5 A.a6 (gd5 g d) = ∑ c, (A.K c).dLb g d :=
  (val_main_v127_apply ..).trans ((congrArg _ (e_v127 g d)).trans (s_v126 A g d))
theorem s_v128 (g : Fin 16) (d : Fin 128) : val_main_v128 (F := Ideal) A.a0 A.a1 A.a2 A.a3 A.a4 A.a5 A.a6 (gd g d) = ∑ c, (A.K c).dLb g d := by
  unfold val_main_v128
  simp only [Host.reduceAdd, Ideal.hostReduceAdd_def]
  refine (sum_fiber _ _ _ zero_cst_27 _ (κ := Unit) (fun k => gd5 g d) (fun _ _ e => rfl) (fun i => ⟨fun e => ⟨(), funext fun a => Fin.ext (match a with
      | ⟨0, _⟩ => (Nat.lt_one_iff.mp (i 0).isLt).symm
      | ⟨1, _⟩ => (Nat.lt_one_iff.mp (i 1).isLt).symm
      | ⟨2, _⟩ => (Nat.lt_one_iff.mp (i 2).isLt).symm
      | ⟨3, _⟩ => (congrArg Fin.val (congrFun e ⟨0, by decide⟩)).symm
      | ⟨4, _⟩ => (congrArg Fin.val (congrFun e ⟨1, by decide⟩)).symm)⟩, ?_⟩)).trans ?_
  · rintro ⟨k, rfl⟩
    exact funext fun b => Fin.ext (match b with
      | ⟨0, _⟩ => rfl
      | ⟨1, _⟩ => rfl)
  · exact (Fintype.sum_unique _).trans (s_v127 A g d)
theorem s_v129 (c : Fin 64) (t : Fin 128) (g : Fin 16) (d : Fin 128) : val_main_v129 (F := Ideal) A.a0 A.a1 A.a2 A.a3 A.a4 A.a5 A.a6 (i5 c t g d) = nrm ((A.K c).gv g t) d * (A.K c).dvn g t d := by
  rw [val_main_v129_apply, s_v54, s_v124]
  rfl
theorem s_v130 (g : Fin 16) (d : Fin 128) : val_main_v130 (F := Ideal) A.a0 A.a1 A.a2 A.a3 A.a4 A.a5 A.a6 (gd3 g d) = ∑ c, (A.K c).dLg g d := by
  unfold val_main_v130
  simp only [Host.reduceAdd, Ideal.hostReduceAdd_def]
  refine (sum_fiber _ _ _ zero_cst_28 _ (κ := Fin 64 × Fin 128) (fun k => i5 k.1 k.2 g d) (fun _ _ e => Prod.ext (congrFun e 1) (congrFun e 2)) (fun i => ⟨fun e => ⟨(i 1, i 2), funext fun a => Fin.ext (match a with
      | ⟨0, _⟩ => (Nat.lt_one_iff.mp (i 0).isLt).symm
      | ⟨1, _⟩ => rfl
      | ⟨2, _⟩ => rfl
      | ⟨3, _⟩ => (congrArg Fin.val (congrFun e ⟨1, by decide⟩)).symm
      | ⟨4, _⟩ => (congrArg Fin.val (congrFun e ⟨2, by decide⟩)).symm)⟩, ?_⟩)).trans ?_
  · rintro ⟨k, rfl⟩
    exact funext fun b => Fin.ext (match b with
      | ⟨0, _⟩ => rfl
      | ⟨1, _⟩ => rfl
      | ⟨2, _⟩ => rfl)
  · exact (Fintype.sum_prod_type _).trans (Finset.sum_congr rfl fun c _ => Finset.sum_congr rfl fun t _ => s_v129 A c t g d)
theorem e_v131 (g : Fin 16) (d : Fin 128) : idx_main_v131 (gd5 g d) = gd3 g d := ext3 rfl (by show (((((0) * 1 + (0)) * 1 + (0)) * 16 + (g.val)) * 128 + (d.val)) / 128 % 16 = g.val; omega) (by show (((((0) * 1 + (0)) * 1 + (0)) * 16 + (g.val)) * 128 + (d.val)) % 128 = d.val; omega)
theorem s_v131 (g : Fin 16) (d : Fin 128) : val_main_v131 (F := Ideal) A.a0 A.a1 A.a2 A.a3 A.a4 A.a5 A.a6 (gd5 g d) = ∑ c, (A.K c).dLg g d :=
  (val_main_v131_apply ..).trans ((congrArg _ (e_v131 g d)).trans (s_v130 A g d))
theorem s_v134 (g : Fin 16) (d : Fin 128) : val_main_v134 (F := Ideal) A.a0 A.a1 A.a2 A.a3 A.a4 A.a5 A.a6 (gd g d) = ∑ c, (A.K c).dLg g d := by
  unfold val_main_v134
  simp only [Host.reduceAdd, Ideal.hostReduceAdd_def]
  refine (sum_fiber _ _ _ zero_cst_29 _ (κ := Unit) (fun k => gd5 g d) (fun _ _ e => rfl) (fun i => ⟨fun e => ⟨(), funext fun a => Fin.ext (match a with
      | ⟨0, _⟩ => (Nat.lt_one_iff.mp (i 0).isLt).symm
      | ⟨1, _⟩ => (Nat.lt_one_iff.mp (i 1).isLt).symm
      | ⟨2, _⟩ => (Nat.lt_one_iff.mp (i 2).isLt).symm
      | ⟨3, _⟩ => (congrArg Fin.val (congrFun e ⟨0, by decide⟩)).symm
      | ⟨4, _⟩ => (congrArg Fin.val (congrFun e ⟨1, by decide⟩)).symm)⟩, ?_⟩)).trans ?_
  · rintro ⟨k, rfl⟩
    exact funext fun b => Fin.ext (match b with
      | ⟨0, _⟩ => rfl
      | ⟨1, _⟩ => rfl)
  · exact (Fintype.sum_unique _).trans (s_v131 A g d)
theorem e_v132 (c : Fin 64) (t : Fin 128) (g : Fin 16) (d : Fin 128) : idx_main_v132 (i5 c t g d) = gd5 g d := funext fun a => Fin.ext (match a with
  | ⟨0, _⟩ => rfl
  | ⟨1, _⟩ => rfl
  | ⟨2, _⟩ => rfl
  | ⟨3, _⟩ => rfl
  | ⟨4, _⟩ => rfl)
theorem s_v132 (c : Fin 64) (t : Fin 128) (g : Fin 16) (d : Fin 128) : val_main_v132 (F := Ideal) A.a1 (i5 c t g d) = (A.K c).lg g d := by
  refine (val_main_v132_apply ..).trans ((congrArg _ (e_v132 c t g d)).trans ((s_v55 A g d).trans ?_))
  exact (K_lg A c g d).symm
theorem s_v133 (c : Fin 64) (t : Fin 128) (g : Fin 16) (d : Fin 128) : val_main_v133 (F := Ideal) A.a0 A.a1 A.a2 A.a3 A.a4 A.a5 A.a6 (i5 c t g d) = (fun e => (A.K c).dvn g t e * (A.K c).lg g e) d := by
  rw [val_main_v133_apply, s_v124, s_v132]
  rfl
theorem s_v135 (c : Fin 64) (t : Fin 128) (g : Fin 16) (d : Fin 128) : val_main_v135 (F := Ideal) A.a0 A.a1 A.a2 A.a3 A.a4 A.a5 A.a6 (i5 c t g d) = cen ((A.K c).gv g t) d * (fun e => (A.K c).dvn g t e * (A.K c).lg g e) d := by
  rw [val_main_v135_apply, s_v46, s_v133]
  rfl
theorem e_v136 (c : Fin 64) (t : Fin 128) (g : Fin 16) (k : Fin 128) : idx_main_v136 (i4 c t g) k = i5 c t g k := funext fun a => Fin.ext (match a with
  | ⟨0, _⟩ => rfl
  | ⟨1, _⟩ => rfl
  | ⟨2, _⟩ => rfl
  | ⟨3, _⟩ => rfl
  | ⟨4, _⟩ => rfl)
theorem s_v136 (c : Fin 64) (t : Fin 128) (g : Fin 16) : val_main_v136 (F := Ideal) A.a0 A.a1 A.a2 A.a3 A.a4 A.a5 A.a6 (i4 c t g) = ∑ e, cen ((A.K c).gv g t) e * (fun e => (A.K c).dvn g t e * (A.K c).lg g e) e := by
  refine (val_main_v136_apply ..).trans ?_
  refine (congr (congrArg _ zero_cst_30) (Finset.sum_congr rfl fun k _ => (congrArg _ (e_v136 c t g k)).trans (s_v135 A c t g k))).trans (zero_add _)
theorem e_v137 (c : Fin 64) (t : Fin 128) (g : Fin 16) : idx_main_v137 (i51 c t g) = i4 c t g := funext fun a => Fin.ext (match a with
  | ⟨0, _⟩ => rfl
  | ⟨1, _⟩ => (by show (((((0) * 64 + (c.val)) * 128 + (t.val)) * 16 + (g.val)) * 1 + (0)) / 2048 % 64 = c.val; omega)
  | ⟨2, _⟩ => (by show (((((0) * 64 + (c.val)) * 128 + (t.val)) * 16 + (g.val)) * 1 + (0)) / 16 % 128 = t.val; omega)
  | ⟨3, _⟩ => (by show (((((0) * 64 + (c.val)) * 128 + (t.val)) * 16 + (g.val)) * 1 + (0)) % 16 = g.val; omega))
theorem s_v137 (c : Fin 64) (t : Fin 128) (g : Fin 16) : val_main_v137 (F := Ideal) A.a0 A.a1 A.a2 A.a3 A.a4 A.a5 A.a6 (i51 c t g) = ∑ e, cen ((A.K c).gv g t) e * (fun e => (A.K c).dvn g t e * (A.K c).lg g e) e :=
  (val_main_v137_apply ..).trans ((congrArg _ (e_v137 c t g)).trans (s_v136 A c t g))
theorem e_v138 (c : Fin 64) (t : Fin 128) (g : Fin 16) (d : Fin 128) : idx_main_v138 (i5 c t g d) = i51 c t g := funext fun a => Fin.ext (match a with
  | ⟨0, _⟩ => rfl
  | ⟨1, _⟩ => rfl
  | ⟨2, _⟩ => rfl
  | ⟨3, _⟩ => rfl
  | ⟨4, _⟩ => rfl)
theorem s_v138 (c : Fin 64) (t : Fin 128) (g : Fin 16) (d : Fin 128) : val_main_v138 (F := Ideal) A.a0 (i5 c t g d) = rs ((A.K c).gv g t) :=
  (val_main_v138_apply ..).trans ((congrArg _ (e_v138 c t g d)).trans (s_v49 A c t g))
theorem s_v139 (c : Fin 64) (t : Fin 128) (g : Fin 16) (d : Fin 128) : val_main_v139 (F := Ideal) A.a0 A.a1 A.a2 A.a3 A.a4 A.a5 A.a6 (i5 c t g d) = nB ((A.K c).gv g t) (fun e => (A.K c).dvn g t e * (A.K c).lg g e) d := by
  rw [val_main_v139_apply, s_v133, s_v138]
  rfl
theorem s_v140 (c : Fin 64) (t : Fin 128) (g : Fin 16) : val_main_v140 (F := Ideal) A.a0 A.a1 A.a2 A.a3 A.a4 A.a5 A.a6 (i51 c t g) = (∑ e, cen ((A.K c).gv g t) e * (fun e => (A.K c).dvn g t e * (A.K c).lg g e) e) * dr ((A.K c).gv g t) := by
  rw [val_main_v140_apply, s_v137, s_v52]
  rfl
theorem s_v141 (c : Fin 64) (t : Fin 128) (g : Fin 16) (d : Fin 128) : val_main_v141 (F := Ideal) A.a0 A.a1 A.a2 A.a3 A.a4 A.a5 A.a6 (i5 c t g d) = -(nB ((A.K c).gv g t) (fun e => (A.K c).dvn g t e * (A.K c).lg g e) d) := by
  rw [val_main_v141_apply, s_v139]
  rfl
theorem e_v142 (c : Fin 64) (t : Fin 128) (g : Fin 16) (k : Fin 128) : idx_main_v142 (i4 c t g) k = i5 c t g k := funext fun a => Fin.ext (match a with
  | ⟨0, _⟩ => rfl
  | ⟨1, _⟩ => rfl
  | ⟨2, _⟩ => rfl
  | ⟨3, _⟩ => rfl
  | ⟨4, _⟩ => rfl)
theorem s_v142 (c : Fin 64) (t : Fin 128) (g : Fin 16) : val_main_v142 (F := Ideal) A.a0 A.a1 A.a2 A.a3 A.a4 A.a5 A.a6 (i4 c t g) = ∑ e, -(nB ((A.K c).gv g t) (fun e => (A.K c).dvn g t e * (A.K c).lg g e) e) := by
  refine (val_main_v142_apply ..).trans ?_
  refine (congr (congrArg _ zero_cst_31) (Finset.sum_congr rfl fun k _ => (congrArg _ (e_v142 c t g k)).trans (s_v141 A c t g k))).trans (zero_add _)
theorem e_v143 (c : Fin 64) (t : Fin 128) (g : Fin 16) : idx_main_v143 (i51 c t g) = i4 c t g := funext fun a => Fin.ext (match a with
  | ⟨0, _⟩ => rfl
  | ⟨1, _⟩ => (by show (((((0) * 64 + (c.val)) * 128 + (t.val)) * 16 + (g.val)) * 1 + (0)) / 2048 % 64 = c.val; omega)
  | ⟨2, _⟩ => (by show (((((0) * 64 + (c.val)) * 128 + (t.val)) * 16 + (g.val)) * 1 + (0)) / 16 % 128 = t.val; omega)
  | ⟨3, _⟩ => (by show (((((0) * 64 + (c.val)) * 128 + (t.val)) * 16 + (g.val)) * 1 + (0)) % 16 = g.val; omega))
theorem s_v143 (c : Fin 64) (t : Fin 128) (g : Fin 16) : val_main_v143 (F := Ideal) A.a0 A.a1 A.a2 A.a3 A.a4 A.a5 A.a6 (i51 c t g) = ∑ e, -(nB ((A.K c).gv g t) (fun e => (A.K c).dvn g t e * (A.K c).lg g e) e) :=
  (val_main_v143_apply ..).trans ((congrArg _ (e_v143 c t g)).trans (s_v142 A c t g))
theorem s_v147 (c : Fin 64) (t : Fin 128) (g : Fin 16) : val_main_v147 (F := Ideal) A.a0 A.a1 A.a2 A.a3 A.a4 A.a5 A.a6 (i51 c t g) = Ideal.div ((∑ e, cen ((A.K c).gv g t) e * (fun e => (A.K c).dvn g t e * (A.K c).lg g e) e) * dr ((A.K c).gv g t)) (k 0x43000000#32) := by
  rw [val_main_v147_apply, s_v140, val_main_v146_apply, val_main_cst_32_apply]
  rfl
theorem s_v148 (c : Fin 64) (t : Fin 128) (g : Fin 16) : val_main_v148 (F := Ideal) A.a0 A.a1 A.a2 A.a3 A.a4 A.a5 A.a6 (i3 c t g) = Ideal.div ((∑ e, cen ((A.K c).gv g t) e * (fun e => (A.K c).dvn g t e * (A.K c).lg g e) e) * dr ((A.K c).gv g t)) (k 0x43000000#32) := by
  unfold val_main_v148
  simp only [Host.reduceAdd, Ideal.hostReduceAdd_def]
  refine (sum_fiber _ _ _ zero_cst_33 _ (κ := Unit) (fun k => i51 c t g) (fun _ _ e => rfl) (fun i => ⟨fun e => ⟨(), funext fun a => Fin.ext (match a with
      | ⟨0, _⟩ => (Nat.lt_one_iff.mp (i 0).isLt).symm
      | ⟨1, _⟩ => (congrArg Fin.val (congrFun e ⟨0, by decide⟩)).symm
      | ⟨2, _⟩ => (congrArg Fin.val (congrFun e ⟨1, by decide⟩)).symm
      | ⟨3, _⟩ => (congrArg Fin.val (congrFun e ⟨2, by decide⟩)).symm
      | ⟨4, _⟩ => (Nat.lt_one_iff.mp (i 4).isLt).symm)⟩, ?_⟩)).trans ?_
  · rintro ⟨k, rfl⟩
    exact funext fun b => Fin.ext (match b with
      | ⟨0, _⟩ => rfl
      | ⟨1, _⟩ => rfl
      | ⟨2, _⟩ => rfl)
  · exact (Fintype.sum_unique _).trans (s_v147 A c t g)
theorem e_v149 (c : Fin 64) (t : Fin 128) (g : Fin 16) : idx_main_v149 (i4 c t g) = i3 c t g := ext3 rfl rfl rfl
theorem s_v149 (c : Fin 64) (t : Fin 128) (g : Fin 16) : val_main_v149 (F := Ideal) A.a0 A.a1 A.a2 A.a3 A.a4 A.a5 A.a6 (i4 c t g) = Ideal.div ((∑ e, cen ((A.K c).gv g t) e * (fun e => (A.K c).dvn g t e * (A.K c).lg g e) e) * dr ((A.K c).gv g t)) (k 0x43000000#32) :=
  (val_main_v149_apply ..).trans ((congrArg _ (e_v149 c t g)).trans (s_v148 A c t g))
theorem e_v150 (c : Fin 64) (t : Fin 128) (g : Fin 16) (d : Fin 128) : idx_main_v150 (i5 c t g d) = i4 c t g := funext fun a => Fin.ext (match a with
  | ⟨0, _⟩ => rfl
  | ⟨1, _⟩ => rfl
  | ⟨2, _⟩ => rfl
  | ⟨3, _⟩ => rfl)
theorem s_v150 (c : Fin 64) (t : Fin 128) (g : Fin 16) (d : Fin 128) : val_main_v150 (F := Ideal) A.a0 A.a1 A.a2 A.a3 A.a4 A.a5 A.a6 (i5 c t g d) = Ideal.div ((∑ e, cen ((A.K c).gv g t) e * (fun e => (A.K c).dvn g t e * (A.K c).lg g e) e) * dr ((A.K c).gv g t)) (k 0x43000000#32) :=
  (val_main_v150_apply ..).trans ((congrArg _ (e_v150 c t g d)).trans (s_v149 A c t g))
theorem s_v151 (c : Fin 64) (t : Fin 128) (g : Fin 16) (d : Fin 128) : val_main_v151 (F := Ideal) A.a0 A.a1 A.a2 A.a3 A.a4 A.a5 A.a6 (i5 c t g d) = nK ((A.K c).gv g t) (fun e => (A.K c).dvn g t e * (A.K c).lg g e) d := by
  rw [val_main_v151_apply, s_v150, s_v38]
  rfl
theorem s_v152 (c : Fin 64) (t : Fin 128) (g : Fin 16) (d : Fin 128) : val_main_v152 (F := Ideal) A.a0 A.a1 A.a2 A.a3 A.a4 A.a5 A.a6 (i5 c t g d) = -(nK ((A.K c).gv g t) (fun e => (A.K c).dvn g t e * (A.K c).lg g e) d) := by
  rw [val_main_v152_apply, s_v151]
  rfl
theorem e_v153 (c : Fin 64) (t : Fin 128) (g : Fin 16) (k : Fin 128) : idx_main_v153 (i4 c t g) k = i5 c t g k := funext fun a => Fin.ext (match a with
  | ⟨0, _⟩ => rfl
  | ⟨1, _⟩ => rfl
  | ⟨2, _⟩ => rfl
  | ⟨3, _⟩ => rfl
  | ⟨4, _⟩ => rfl)
theorem s_v153 (c : Fin 64) (t : Fin 128) (g : Fin 16) : val_main_v153 (F := Ideal) A.a0 A.a1 A.a2 A.a3 A.a4 A.a5 A.a6 (i4 c t g) = ∑ e, -(nK ((A.K c).gv g t) (fun e => (A.K c).dvn g t e * (A.K c).lg g e) e) := by
  refine (val_main_v153_apply ..).trans ?_
  refine (congr (congrArg _ zero_cst_34) (Finset.sum_congr rfl fun k _ => (congrArg _ (e_v153 c t g k)).trans (s_v152 A c t g k))).trans (zero_add _)
theorem e_v154 (c : Fin 64) (t : Fin 128) (g : Fin 16) : idx_main_v154 (i51 c t g) = i4 c t g := funext fun a => Fin.ext (match a with
  | ⟨0, _⟩ => rfl
  | ⟨1, _⟩ => (by show (((((0) * 64 + (c.val)) * 128 + (t.val)) * 16 + (g.val)) * 1 + (0)) / 2048 % 64 = c.val; omega)
  | ⟨2, _⟩ => (by show (((((0) * 64 + (c.val)) * 128 + (t.val)) * 16 + (g.val)) * 1 + (0)) / 16 % 128 = t.val; omega)
  | ⟨3, _⟩ => (by show (((((0) * 64 + (c.val)) * 128 + (t.val)) * 16 + (g.val)) * 1 + (0)) % 16 = g.val; omega))
theorem s_v154 (c : Fin 64) (t : Fin 128) (g : Fin 16) : val_main_v154 (F := Ideal) A.a0 A.a1 A.a2 A.a3 A.a4 A.a5 A.a6 (i51 c t g) = ∑ e, -(nK ((A.K c).gv g t) (fun e => (A.K c).dvn g t e * (A.K c).lg g e) e) :=
  (val_main_v154_apply ..).trans ((congrArg _ (e_v154 c t g)).trans (s_v153 A c t g))
theorem s_v155 (c : Fin 64) (t : Fin 128) (g : Fin 16) (d : Fin 128) : val_main_v155 (F := Ideal) A.a0 A.a1 A.a2 A.a3 A.a4 A.a5 A.a6 (i5 c t g d) = nB ((A.K c).gv g t) (fun e => (A.K c).dvn g t e * (A.K c).lg g e) d + nK ((A.K c).gv g t) (fun e => (A.K c).dvn g t e * (A.K c).lg g e) d := by
  rw [val_main_v155_apply, s_v139, s_v151]
  rfl
theorem s_v156 (c : Fin 64) (t : Fin 128) (g : Fin 16) : val_main_v156 (F := Ideal) A.a0 A.a1 A.a2 A.a3 A.a4 A.a5 A.a6 (i51 c t g) = (∑ e, -(nB ((A.K c).gv g t) (fun e => (A.K c).dvn g t e * (A.K c).lg g e) e)) + ∑ e, -(nK ((A.K c).gv g t) (fun e => (A.K c).dvn g t e * (A.K c).lg g e) e) := by
  rw [val_main_v156_apply, s_v143, s_v154]
  rfl
theorem s_v158 (c : Fin 64) (t : Fin 128) (g : Fin 16) : val_main_v158 (F := Ideal) A.a0 A.a1 A.a2 A.a3 A.a4 A.a5 A.a6 (i51 c t g) = Ideal.div ((∑ e, -(nB ((A.K c).gv g t) (fun e => (A.K c).dvn g t e * (A.K c).lg g e) e)) + ∑ e, -(nK ((A.K c).gv g t) (fun e => (A.K c).dvn g t e * (A.K c).lg g e) e)) (k 0x43000000#32) := by
  rw [val_main_v158_apply, s_v156, val_main_v157_apply, val_main_cst_35_apply]
  rfl
theorem s_v159 (c : Fin 64) (t : Fin 128) (g : Fin 16) : val_main_v159 (F := Ideal) A.a0 A.a1 A.a2 A.a3 A.a4 A.a5 A.a6 (i3 c t g) = Ideal.div ((∑ e, -(nB ((A.K c).gv g t) (fun e => (A.K c).dvn g t e * (A.K c).lg g e) e)) + ∑ e, -(nK ((A.K c).gv g t) (fun e => (A.K c).dvn g t e * (A.K c).lg g e) e)) (k 0x43000000#32) := by
  unfold val_main_v159
  simp only [Host.reduceAdd, Ideal.hostReduceAdd_def]
  refine (sum_fiber _ _ _ zero_cst_36 _ (κ := Unit) (fun k => i51 c t g) (fun _ _ e => rfl) (fun i => ⟨fun e => ⟨(), funext fun a => Fin.ext (match a with
      | ⟨0, _⟩ => (Nat.lt_one_iff.mp (i 0).isLt).symm
      | ⟨1, _⟩ => (congrArg Fin.val (congrFun e ⟨0, by decide⟩)).symm
      | ⟨2, _⟩ => (congrArg Fin.val (congrFun e ⟨1, by decide⟩)).symm
      | ⟨3, _⟩ => (congrArg Fin.val (congrFun e ⟨2, by decide⟩)).symm
      | ⟨4, _⟩ => (Nat.lt_one_iff.mp (i 4).isLt).symm)⟩, ?_⟩)).trans ?_
  · rintro ⟨k, rfl⟩
    exact funext fun b => Fin.ext (match b with
      | ⟨0, _⟩ => rfl
      | ⟨1, _⟩ => rfl
      | ⟨2, _⟩ => rfl)
  · exact (Fintype.sum_unique _).trans (s_v158 A c t g)
theorem e_v160 (c : Fin 64) (t : Fin 128) (g : Fin 16) : idx_main_v160 (i4 c t g) = i3 c t g := ext3 rfl rfl rfl
theorem s_v160 (c : Fin 64) (t : Fin 128) (g : Fin 16) : val_main_v160 (F := Ideal) A.a0 A.a1 A.a2 A.a3 A.a4 A.a5 A.a6 (i4 c t g) = Ideal.div ((∑ e, -(nB ((A.K c).gv g t) (fun e => (A.K c).dvn g t e * (A.K c).lg g e) e)) + ∑ e, -(nK ((A.K c).gv g t) (fun e => (A.K c).dvn g t e * (A.K c).lg g e) e)) (k 0x43000000#32) :=
  (val_main_v160_apply ..).trans ((congrArg _ (e_v160 c t g)).trans (s_v159 A c t g))
theorem e_v161 (c : Fin 64) (t : Fin 128) (g : Fin 16) (d : Fin 128) : idx_main_v161 (i5 c t g d) = i4 c t g := funext fun a => Fin.ext (match a with
  | ⟨0, _⟩ => rfl
  | ⟨1, _⟩ => rfl
  | ⟨2, _⟩ => rfl
  | ⟨3, _⟩ => rfl)
theorem s_v161 (c : Fin 64) (t : Fin 128) (g : Fin 16) (d : Fin 128) : val_main_v161 (F := Ideal) A.a0 A.a1 A.a2 A.a3 A.a4 A.a5 A.a6 (i5 c t g d) = Ideal.div ((∑ e, -(nB ((A.K c).gv g t) (fun e => (A.K c).dvn g t e * (A.K c).lg g e) e)) + ∑ e, -(nK ((A.K c).gv g t) (fun e => (A.K c).dvn g t e * (A.K c).lg g e) e)) (k 0x43000000#32) :=
  (val_main_v161_apply ..).trans ((congrArg _ (e_v161 c t g d)).trans (s_v160 A c t g))
theorem s_v162 (c : Fin 64) (t : Fin 128) (g : Fin 16) (d : Fin 128) : val_main_v162 (F := Ideal) A.a0 A.a1 A.a2 A.a3 A.a4 A.a5 A.a6 (i5 c t g d) = nBk ((A.K c).gv g t) (fun e => (A.K c).dvn g t e * (A.K c).lg g e) d := by
  rw [val_main_v162_apply, s_v155, s_v161]
  rfl
theorem e_v163 (c : Fin 64) (t : Fin 128) (j : Fin 2048) : idx_main_v163 (j3 c t j) = i5 c t (gO j) (dO j) := funext fun a => Fin.ext (match a with
  | ⟨0, _⟩ => rfl
  | ⟨1, _⟩ => (by show (((0) * 8192 + (128 * c.val + t.val)) * 2048 + (j.val)) / 262144 % 64 = c.val; omega)
  | ⟨2, _⟩ => (by show (((0) * 8192 + (128 * c.val + t.val)) * 2048 + (j.val)) / 2048 % 128 = t.val; omega)
  | ⟨3, _⟩ => (by show (((0) * 8192 + (128 * c.val + t.val)) * 2048 + (j.val)) / 128 % 16 = (j.val / 128); omega)
  | ⟨4, _⟩ => (by show (((0) * 8192 + (128 * c.val + t.val)) * 2048 + (j.val)) % 128 = (j.val % 128); omega))
theorem s_v163 (c : Fin 64) (t : Fin 128) (j : Fin 2048) : val_main_v163 (F := Ideal) A.a0 A.a1 A.a2 A.a3 A.a4 A.a5 A.a6 (j3 c t j) = A.N c (gO j) t (dO j) :=
  (val_main_v163_apply ..).trans ((congrArg _ (e_v163 c t j)).trans (s_v162 A c t (gO j) (dO j)))
theorem e_v144 (j : Fin 2048) : idx_main_v144 (f1 j) = gd (gO j) (dO j) := ext2 (by show ((j.val)) / 128 = (j.val / 128); omega) (by show ((j.val)) % 128 = (j.val % 128); omega)
theorem s_v144 (j : Fin 2048) : val_main_v144 (F := Ideal) A.a0 A.a1 A.a2 A.a3 A.a4 A.a5 A.a6 (f1 j) = ∑ c, (A.K c).dLb (gO j) (dO j) :=
  (val_main_v144_apply ..).trans ((congrArg _ (e_v144 j)).trans (s_v128 A (gO j) (dO j)))
theorem e_v145 (j : Fin 2048) : idx_main_v145 (f1 j) = gd (gO j) (dO j) := ext2 (by show ((j.val)) / 128 = (j.val / 128); omega) (by show ((j.val)) % 128 = (j.val % 128); omega)
theorem s_v145 (j : Fin 2048) : val_main_v145 (F := Ideal) A.a0 A.a1 A.a2 A.a3 A.a4 A.a5 A.a6 (f1 j) = ∑ c, (A.K c).dLg (gO j) (dO j) :=
  (val_main_v145_apply ..).trans ((congrArg _ (e_v145 j)).trans (s_v134 A (gO j) (dO j)))
theorem s_v164 (c : Fin 64) (t : Fin 128) (j : Fin 4096) : val_main_v164 (F := Ideal) A.a0 A.a1 A.a2 A.a3 A.a4 A.a5 A.a6 (jw c t j) = A.DD c t j := by
  unfold val_main_v164 Args.DD
  by_cases h : j.val < 2048
  · rw [dif_pos h]
    refine (concatenate_pair_apply_left (s₁ := S1x8192x2048) (s₂ := S1x8192x2048) 2 _ _ concatenates_S1x8192x2048_S1x8192x2048_S1x8192x4096_d2 (jw c t j) rfl (j3 c t ⟨j.val, h⟩) (fun a => match a with
      | ⟨0, _⟩ => rfl
      | ⟨1, _⟩ => rfl
      | ⟨2, _⟩ => rfl)).trans (s_v113 A c t ⟨j.val, h⟩)
  · rw [dif_neg h]
    refine (concatenate_pair_apply_right (s₁ := S1x8192x2048) (s₂ := S1x8192x2048) 2 _ _ concatenates_S1x8192x2048_S1x8192x2048_S1x8192x4096_d2 (jw c t j) rfl rfl (j3 c t ⟨j.val - 2048, by omega⟩) (fun a => match a with
      | ⟨0, _⟩ => fun _ => rfl
      | ⟨1, _⟩ => fun _ => rfl
      | ⟨2, _⟩ => fun hn => absurd rfl hn) (by show j.val - 2048 + 2048 = j.val; omega)).trans (s_v163 A c t ⟨j.val - 2048, by omega⟩)
theorem s_v165 (c : Fin 64) (t : Fin 128) (j : Fin 4096) : val_main_v165 (F := Ideal) A.a0 A.a1 A.a2 A.a3 A.a4 A.a5 A.a6 (jw c t j) = A.X c t j * A.DD c t j := by
  rw [val_main_v165_apply, s_v2, s_v164]
  rfl
theorem s_v166 (c : Fin 64) (t : Fin 128) (j : Fin 4096) : val_main_v166 (F := Ideal) A.a0 A.a1 A.a2 A.a3 A.a4 A.a5 A.a6 (jw c t j) = A.DD c t j * hH (A.X c t j) := by
  rw [val_main_v166_apply, s_v164, s_v25]
  rfl
theorem s_v168 (c : Fin 64) (t : Fin 128) (j : Fin 4096) : val_main_v168 (F := Ideal) A.a0 A.a1 A.a2 A.a3 A.a4 A.a5 A.a6 (jw c t j) = k 0x3F000000#32 * (A.X c t j * A.DD c t j) := by
  rw [val_main_v168_apply, val_main_v167_apply, val_main_cst_37_apply, s_v165]
  rfl
theorem s_v169 (c : Fin 64) (t : Fin 128) (j : Fin 4096) : val_main_v169 (F := Ideal) A.a0 A.a1 A.a2 A.a3 A.a4 A.a5 A.a6 (jw c t j) = (k 0x3F000000#32 * (A.X c t j * A.DD c t j)) * ((k 0x3F800000#32 + hT (A.X c t j)) * (k 0x3F800000#32 - hT (A.X c t j))) := by
  rw [val_main_v169_apply, s_v168, s_v21]
  rfl
theorem s_v171 (c : Fin 64) (t : Fin 128) (j : Fin 4096) : val_main_v171 (F := Ideal) A.a0 A.a1 A.a2 A.a3 A.a4 A.a5 A.a6 (jw c t j) = hK (A.X c t j) (A.DD c t j) := by
  rw [val_main_v171_apply, val_main_v170_apply, val_main_cst_38_apply, s_v169]
  rfl
theorem s_v172 (c : Fin 64) (t : Fin 128) (j : Fin 4096) : val_main_v172 (F := Ideal) A.a0 A.a1 A.a2 A.a3 A.a4 A.a5 A.a6 (jw c t j) = A.DD c t j * hH (A.X c t j) + hK (A.X c t j) (A.DD c t j) := by
  rw [val_main_v172_apply, s_v166, s_v171]
  rfl
theorem s_v174 (c : Fin 64) (t : Fin 128) (j : Fin 4096) : val_main_v174 (F := Ideal) A.a0 A.a1 A.a2 A.a3 A.a4 A.a5 A.a6 (jw c t j) = k 0x3D372713#32 * hK (A.X c t j) (A.DD c t j) := by
  rw [val_main_v174_apply, val_main_v173_apply, val_main_cst_39_apply, s_v171]
  rfl
theorem s_v175 (c : Fin 64) (t : Fin 128) (j : Fin 4096) : val_main_v175 (F := Ideal) A.a0 A.a1 A.a2 A.a3 A.a4 A.a5 A.a6 (jw c t j) = (k 0x3D372713#32 * hK (A.X c t j) (A.DD c t j)) * (k 0x40400000#32 * (A.X c t j * A.X c t j)) := by
  rw [val_main_v175_apply, s_v174, s_v10]
  rfl
theorem s_v176 (c : Fin 64) (t : Fin 128) (j : Fin 4096) : val_main_v176 (F := Ideal) A.a0 A.a1 A.a2 A.a3 A.a4 A.a5 A.a6 (jw c t j) = hBack (A.X c t j) (A.DD c t j) := by
  rw [val_main_v176_apply, s_v172, s_v175]
  rfl
theorem e_v177 (c : Fin 64) (t : Fin 128) (j : Fin 4096) : idx_main_v177 (jw2 c t j) = jw c t j := ext3 rfl (by show ((128 * c.val + t.val) * 4096 + (j.val)) / 4096 % 8192 = 128 * c.val + t.val; omega) (by show ((128 * c.val + t.val) * 4096 + (j.val)) % 4096 = j.val; omega)
theorem s_v177 (c : Fin 64) (t : Fin 128) (j : Fin 4096) : val_main_v177 (F := Ideal) A.a0 A.a1 A.a2 A.a3 A.a4 A.a5 A.a6 (jw2 c t j) = hBack (A.X c t j) (A.DD c t j) :=
  (val_main_v177_apply ..).trans ((congrArg _ (e_v177 c t j)).trans (s_v176 A c t j))
theorem s_v178 (c : Fin 64) (t : Fin 128) (j : Fin 4096) : val_main_v178 (F := Ideal) A.a0 A.a1 A.a2 A.a3 A.a4 A.a5 A.a6 (jw2 c t j) = hBack (A.X c t j) (A.DD c t j) := by
  rw [val_main_v178_apply, s_v177]
  rfl
theorem e_v180 (j : Fin 2048) : idx_main_v180 (f2 j) = f1 j := ext1 rfl
theorem s_v180 (j : Fin 2048) : val_main_v180 (F := Ideal) A.a0 A.a1 A.a2 A.a3 A.a4 A.a5 A.a6 (f2 j) = ∑ c, (A.K c).dLg (gO j) (dO j) :=
  (val_main_v180_apply ..).trans ((congrArg _ (e_v180 j)).trans (s_v145 A j))
theorem e_v182 (j : Fin 2048) : idx_main_v182 (f2 j) = f1 j := ext1 rfl
theorem s_v182 (j : Fin 2048) : val_main_v182 (F := Ideal) A.a0 A.a1 A.a2 A.a3 A.a4 A.a5 A.a6 (f2 j) = ∑ c, (A.K c).dLb (gO j) (dO j) :=
  (val_main_v182_apply ..).trans ((congrArg _ (e_v182 j)).trans (s_v144 A j))
theorem e_v186 (j : Fin 2048) : idx_main_v186 (f2 j) = f1 j := ext1 rfl
theorem s_v186 (j : Fin 2048) : val_main_v186 (F := Ideal) A.a0 A.a1 A.a2 A.a3 A.a4 A.a6 (f2 j) = ∑ c, (A.K c).dNg j :=
  (val_main_v186_apply ..).trans ((congrArg _ (e_v186 j)).trans (s_v96 A j))
theorem e_v184 (t : Fin 128) (g : Fin 16) : idx_main_v184 (tg t g) = gd g t := ext2 rfl rfl
theorem s_v184 (t : Fin 128) (g : Fin 16) : val_main_v184 (F := Ideal) A.a0 A.a1 A.a2 A.a3 A.a4 A.a5 A.a6 (tg t g) = ∑ c, (A.K c).dBs g t :=
  (val_main_v184_apply ..).trans ((congrArg _ (e_v184 t g)).trans (s_v120 A g t))
/-- What a padded place holds. -/
theorem pad_zero (x : S_.Idx) : FloatOps.sitofp (F := Ideal) .f32 ((fun _ => 0#32 : S_.Idx → BitVec 32) x) = 0 := by
  show ((((0#32 : BitVec 32).toInt : Int) : ℝ) : EReal) = 0
  simp
theorem s_v181 (i : Fin 8) (j : Fin 2048) : val_main_v181 (F := Ideal) A.a0 A.a1 A.a2 A.a3 A.a4 A.a5 A.a6 (ix2 (n0 := 8) (n1 := 2048) i j) = if i.val = 0 then ∑ c, (A.K c).dLg (gO j) (dO j) else 0 := by
  unfold val_main_v181
  by_cases h : i.val = 0
  · rw [if_pos h]
    refine (pad_apply_of_inside _ _ _ _ _ _ _ _ (f2 j) (fun a => match a with
      | ⟨0, _⟩ => (by show i.val = 0 + 0 * (0 + 1); omega)
      | ⟨1, _⟩ => (by show j.val = 0 + j.val * (0 + 1); omega))).trans (s_v180 A j)
  · rw [if_neg h]
    refine (pad_apply_of_not_inside _ _ _ _ _ _ _ _ 0 (fun hin => h ?_)).trans (pad_zero (Shape.Idx.first h_S_))
    have h3 : (i.val - 0) / (0 + 1) < 1 := hin.2.2
    omega
theorem s_v183 (i : Fin 8) (j : Fin 2048) : val_main_v183 (F := Ideal) A.a0 A.a1 A.a2 A.a3 A.a4 A.a5 A.a6 (ix2 (n0 := 8) (n1 := 2048) i j) = if i.val = 0 then ∑ c, (A.K c).dLb (gO j) (dO j) else 0 := by
  unfold val_main_v183
  by_cases h : i.val = 0
  · rw [if_pos h]
    refine (pad_apply_of_inside _ _ _ _ _ _ _ _ (f2 j) (fun a => match a with
      | ⟨0, _⟩ => (by show i.val = 0 + 0 * (0 + 1); omega)
      | ⟨1, _⟩ => (by show j.val = 0 + j.val * (0 + 1); omega))).trans (s_v182 A j)
  · rw [if_neg h]
    refine (pad_apply_of_not_inside _ _ _ _ _ _ _ _ 0 (fun hin => h ?_)).trans (pad_zero (Shape.Idx.first h_S_))
    have h3 : (i.val - 0) / (0 + 1) < 1 := hin.2.2
    omega
theorem s_v187 (i : Fin 8) (j : Fin 2048) : val_main_v187 (F := Ideal) A.a0 A.a1 A.a2 A.a3 A.a4 A.a6 (ix2 (n0 := 8) (n1 := 2048) i j) = if i.val = 0 then ∑ c, (A.K c).dNg j else 0 := by
  unfold val_main_v187
  by_cases h : i.val = 0
  · rw [if_pos h]
    refine (pad_apply_of_inside _ _ _ _ _ _ _ _ (f2 j) (fun a => match a with
      | ⟨0, _⟩ => (by show i.val = 0 + 0 * (0 + 1); omega)
      | ⟨1, _⟩ => (by show j.val = 0 + j.val * (0 + 1); omega))).trans (s_v186 A j)
  · rw [if_neg h]
    refine (pad_apply_of_not_inside _ _ _ _ _ _ _ _ 0 (fun hin => h ?_)).trans (pad_zero (Shape.Idx.first h_S_))
    have h3 : (i.val - 0) / (0 + 1) < 1 := hin.2.2
    omega
theorem s_v185 (t j : Fin 128) : val_main_v185 (F := Ideal) A.a0 A.a1 A.a2 A.a3 A.a4 A.a5 A.a6 (ix2 (n0 := 128) (n1 := 128) t j) = if h : j.val < 16 then ∑ c, (A.K c).dBs ⟨j.val, h⟩ t else 0 := by
  unfold val_main_v185
  by_cases h : j.val < 16
  · rw [dif_pos h]
    refine (pad_apply_of_inside _ _ _ _ _ _ _ _ (tg t ⟨j.val, h⟩) (fun a => match a with
      | ⟨0, _⟩ => (by show t.val = 0 + t.val * (0 + 1); omega)
      | ⟨1, _⟩ => (by show j.val = 0 + j.val * (0 + 1); omega))).trans (s_v184 A t ⟨j.val, h⟩)
  · rw [dif_neg h]
    refine (pad_apply_of_not_inside _ _ _ _ _ _ _ _ 1 (fun hin => h ?_)).trans (pad_zero (Shape.Idx.first h_S_))
    have h3 : (j.val - 0) / (0 + 1) < 16 := hin.2.2
    omega
theorem s_v179 (c : Fin 64) (t : Fin 128) (j : Fin 4096) : val_main_v179 (F := Ideal) A.a0 A.a1 A.a2 A.a3 A.a4 A.a5 A.a6 (ix2 (n0 := 8192) (n1 := 10240) (row c t) ⟨j.val, by omega⟩) = hBack (A.X c t j) (A.DD c t j) := by
  unfold val_main_v179
  exact (pad_apply_of_inside _ _ _ _ _ _ _ _ (jw2 c t j) (fun a => match a with
      | ⟨0, _⟩ => (by show 128 * c.val + t.val = 0 + (128 * c.val + t.val) * (0 + 1); omega)
      | ⟨1, _⟩ => (by show j.val = 0 + j.val * (0 + 1); omega))).trans (s_v178 A c t j)
end Cert.ReferenceIdeal.Hand
end
-- ==== Proof.Join.lean ====
/-
  The arrays the kernel leaves are the reference's, and the claim of equal results where the mask is set.
-/
module
public import proofs.«01_k».proof.Defs
public import proofs.«01_k».proof.Proof.Arrs
public import proofs.«01_k».proof.Proof.RefB
public import proofs.«01_k».proof.Proof.Gen.On_written
@[expose] public section
noncomputable section
namespace Cert.Join
open Cert.KernelIdeal Cert.KernelIdeal.Gen Cert.KernelIdeal.Hand Cert.KernelIdeal.Value Cert.ReferenceIdeal.Hand Cert.ReferenceIdeal.Read Cert.Spec Cert.Halves
open Idealize.ShloMosaic.TcCoe Idealize.SL.Sem Idealize.ShloMosaic.StableHlo
open Idealize.ShloMosaic hiding ix1 ix2 ix3
open Idealize.ShloMosaic.ValueIdx (ix1 ix2 ix3)
variable (m : (ℓ : Loc nD τ sig) → Buf (Elt Ideal) ℓ) (c : Dev nD)

/-- The arguments the kernel starts from. -/
abbrev ag : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5), m ((c : Thread nD τ).loc main_arg6)⟩
theorem ck_ag (k : Fin 64) : ck m c k = (ag m c).K k := rfl

/-- One place of the first result. -/
theorem back_eq (A : Args) (k : Fin 64) (r : Fin 128) (j : Fin 4096) : hBack (A.X k r j) (A.DD k r j) = G7 (A.K k) (ix2 r j) := by
  unfold Args.DD G7
  by_cases h : j.val < 2048
  · rw [dif_pos h, dif_pos (show ((ix2 (n0 := 128) (n1 := 4096) r j) 1).val < 2048 from h)]
    exact congrArg (fun z => hBack z _) (X_u A k r ⟨j.val, h⟩)
  · rw [dif_neg h, dif_neg (show ¬((ix2 (n0 := 128) (n1 := 4096) r j) 1).val < 2048 from h)]
    refine congrArg (fun z => hBack z _) ((congrArg (A.X k r) (Fin.ext ?_)).trans (X_v A k r ⟨j.val - 2048, by omega⟩))
    show j.val = 2048 + (j.val - 2048)
    omega

theorem sum64 (f : Fin 64 → EReal) : ∑ k ∈ Finset.range (63 + 1), f (md k) = ∑ k, f k :=
  (Finset.sum_range (fun k => f (md k))).trans (Finset.sum_congr rfl fun k _ => congrArg f (Fin.ext (Nat.mod_eq_of_lt k.isLt)))

theorem j7 (i : S8192x10240.Idx) (h : (i 1).val < 4096) :
    val_main_v179 (F := Ideal) (ag m c).a0 (ag m c).a1 (ag m c).a2 (ag m c).a3 (ag m c).a4 (ag m c).a5 (ag m c).a6 i
      = (dats m 0 c).arrAt 7 cfg0.N i := by
  have h0 : (i 0).val < 8192 := (i 0).isLt
  have e : i = ix2 (n0 := 8192) (n1 := 10240) (row ⟨(i 0).val / 128, by omega⟩ ⟨(i 0).val % 128, by omega⟩) ⟨(⟨(i 1).val, h⟩ : Fin 4096).val, by omega⟩ :=
    ext2 (by show (i 0).val = 128 * ((i 0).val / 128) + (i 0).val % 128; omega) rfl
  rw [e]
  exact (s_v179 (ag m c) _ _ _).trans ((back_eq _ _ _ _).trans (arr7 m c _ _ _).symm)
theorem j8 (i : S8x2048.Idx) :
    val_main_v181 (F := Ideal) (ag m c).a0 (ag m c).a1 (ag m c).a2 (ag m c).a3 (ag m c).a4 (ag m c).a5 (ag m c).a6 i
      = (dats m 0 c).arrAt 8 cfg0.N i := by
  have e : i = ix2 (n0 := 8) (n1 := 2048) ⟨(i 0).val, (i 0).isLt⟩ ⟨(i 1).val, (i 1).isLt⟩ :=
    ext2 rfl rfl
  rw [arr8 m c i]
  refine (congrArg _ e).trans ((s_v181 (ag m c) _ _).trans ?_)
  show _ = R8 (fun k => (ck m c k).dLg) (63 + 1) i
  unfold R8
  by_cases h : (i 0).val = 0
  · rw [if_pos h, if_pos h]
    exact (sum64 fun k => (ck m c k).dLg _ _).symm
  · rw [if_neg h, if_neg h]
theorem j9 (i : S8x2048.Idx) :
    val_main_v183 (F := Ideal) (ag m c).a0 (ag m c).a1 (ag m c).a2 (ag m c).a3 (ag m c).a4 (ag m c).a5 (ag m c).a6 i
      = (dats m 0 c).arrAt 9 cfg0.N i := by
  have e : i = ix2 (n0 := 8) (n1 := 2048) ⟨(i 0).val, (i 0).isLt⟩ ⟨(i 1).val, (i 1).isLt⟩ :=
    ext2 rfl rfl
  rw [arr9 m c i]
  refine (congrArg _ e).trans ((s_v183 (ag m c) _ _).trans ?_)
  show _ = R8 (fun k => (ck m c k).dLb) (63 + 1) i
  unfold R8
  by_cases h : (i 0).val = 0
  · rw [if_pos h, if_pos h]
    exact (sum64 fun k => (ck m c k).dLb _ _).symm
  · rw [if_neg h, if_neg h]
theorem j10 (i : S16x128x128.Idx) :
    val_main_v125 (F := Ideal) (ag m c).a0 (ag m c).a1 (ag m c).a2 (ag m c).a3 (ag m c).a4 (ag m c).a5 (ag m c).a6 i
      = (dats m 0 c).arrAt 10 cfg0.N i := by
  have e : i = gts ⟨(i 0).val, (i 0).isLt⟩ ⟨(i 1).val, (i 1).isLt⟩ ⟨(i 2).val, (i 2).isLt⟩ :=
    ext3 rfl rfl rfl
  rw [arr10 m c i]
  refine (congrArg _ e).trans ((s_v125 (ag m c) _ _ _).trans ?_)
  exact (sum64 fun k => (ck m c k).dW _ _ _).symm
theorem j11 (i : S128x128.Idx) :
    val_main_v185 (F := Ideal) (ag m c).a0 (ag m c).a1 (ag m c).a2 (ag m c).a3 (ag m c).a4 (ag m c).a5 (ag m c).a6 i
      = (dats m 0 c).arrAt 11 cfg0.N i := by
  have e : i = ix2 (n0 := 128) (n1 := 128) ⟨(i 0).val, (i 0).isLt⟩ ⟨(i 1).val, (i 1).isLt⟩ :=
    ext2 rfl rfl
  rw [arr11 m c i]
  refine (congrArg _ e).trans ((s_v185 (ag m c) _ _).trans ?_)
  show _ = R11 (fun k => (ck m c k).dBs) (63 + 1) i
  unfold R11
  by_cases h : (i 1).val < 16
  · rw [dif_pos h]
    simp only [if_pos h]
    refine Eq.trans ?_ (sum64 fun k => (ck m c k).dBs _ _).symm
    exact Finset.sum_congr rfl fun k _ => congrArg (fun g => (ck m c k).dBs g _) (Fin.ext (Nat.mod_eq_of_lt h).symm)
  · rw [dif_neg h]
    simp only [if_neg h, Finset.sum_const_zero]
theorem j12 (i : S8x2048.Idx) :
    val_main_v187 (F := Ideal) (ag m c).a0 (ag m c).a1 (ag m c).a2 (ag m c).a3 (ag m c).a4 (ag m c).a6 i
      = (dats m 0 c).arrAt 12 cfg0.N i := by
  have e : i = ix2 (n0 := 8) (n1 := 2048) ⟨(i 0).val, (i 0).isLt⟩ ⟨(i 1).val, (i 1).isLt⟩ :=
    ext2 rfl rfl
  rw [arr12 m c i]
  refine (congrArg _ e).trans ((s_v187 (ag m c) _ _).trans ?_)
  show _ = R12 (fun k => (ck m c k).dNg) (63 + 1) i
  unfold R12
  by_cases h : (i 0).val = 0
  · rw [if_pos h, if_pos h]
    exact (sum64 fun k => (ck m c k).dNg _).symm
  · rw [if_neg h, if_neg h]

/-- The mask of the first result is set exactly in the first 4096 columns. -/
theorem mask_iff (x0 : FVec Ideal S8192x10240 .bf16) (x1 x2 : FVec Ideal S2048 .f32) (x3 : FVec Ideal S16x128x128 .f32)
    (x4 : FVec Ideal S16x128 .f32) (x5 : FVec Ideal S2048 .f32) (x6 : FVec Ideal S8192x4096 .bf16) (i : S8192x10240.Idx) :
    (Cert.On_written.fn (F := Ideal) x0 x1 x2 x3 x4 x5 x6).1 i = 1#1 ↔ (i 1).val < 4096 := by
  have h1 : (i 1).val < 10240 := (i 1).isLt
  show IntOp.cmpi .slt (BitVec.ofNat 32 (i 1).val) 4096#32 = 1#1 ↔ _
  rw [show (4096#32 : BitVec 32) = BitVec.ofNat 32 4096 from rfl, WordCmp.cmpi_slt_ofNat (by omega) (by omega)]
  by_cases h : (i 1).val < 4096
  · simp [h]
  · simp [h]
end Cert.Join

namespace Cert.Proof
open Cert.Join Cert.KernelIdeal.Value Cert.KernelIdeal.Gen Idealize.SL.Sem Idealize.ShloMosaic
/-- Where the mask is set, the kernel's six results and the reference's are the same extended reals. -/
theorem equal : Cert.algebraic_KernelIdeal_ReferenceIdeal_on_written := by
  intro m ρ m' ρ' _ hagree
  refine ⟨fun c => (dats m 0 c).arrAt 7 Cert.KernelIdeal.cfg0.N, fun c => (dats m 0 c).arrAt 8 Cert.KernelIdeal.cfg0.N,
    fun c => (dats m 0 c).arrAt 9 Cert.KernelIdeal.cfg0.N, fun c => (dats m 0 c).arrAt 10 Cert.KernelIdeal.cfg0.N,
    fun c => (dats m 0 c).arrAt 11 Cert.KernelIdeal.cfg0.N, fun c => (dats m 0 c).arrAt 12 Cert.KernelIdeal.cfg0.N, ?_, ?_⟩
  · exact (θ_run Cert.KernelIdeal.defs _ _).mono (fun r h c => ⟨fun i _ => congrFun (h c).1 i, fun i _ => congrFun (h c).2.1 i,
      fun i _ => congrFun (h c).2.2.1 i, fun i _ => congrFun (h c).2.2.2.1 i, fun i _ => congrFun (h c).2.2.2.2.1 i,
      fun i _ => congrFun (h c).2.2.2.2.2.1 i, (h c).2.2.2.2.2.2⟩) (run_blocks m ρ)
  · refine (θ_run Cert.ReferenceIdeal.defs _ _).mono (fun r h c => ?_) (Cert.ReferenceIdeal.Value.run (F := Idealize.ShloMosaic.Ideal) m' ρ')
    obtain ⟨r0, r1, r2, r3, r4, r5, rest⟩ := h c
    obtain ⟨g0, g1, g2, g3, g4, g5, g6⟩ := hagree c
    refine ⟨fun i hi => ?_, fun i _ => ?_, fun i _ => ?_, fun i _ => ?_, fun i _ => ?_, fun i _ => ?_, rest⟩
    · refine (congrFun (r0.trans (Cert.ReferenceIdeal.Read.val_main_v179_eq _)) i).trans ?_
      simp only [Idealize.ShloMosaic.StableHlo.launchContents_devRef, g0, g1, g2, g3, g4, g5, g6]
      exact j7 m c i ((mask_iff _ _ _ _ _ _ _ i).mp hi)
    · refine (congrFun (r1.trans (Cert.ReferenceIdeal.Read.val_main_v181_eq _)) i).trans ?_
      simp only [Idealize.ShloMosaic.StableHlo.launchContents_devRef, g0, g1, g2, g3, g4, g5, g6]
      exact j8 m c i
    · refine (congrFun (r2.trans (Cert.ReferenceIdeal.Read.val_main_v183_eq _)) i).trans ?_
      simp only [Idealize.ShloMosaic.StableHlo.launchContents_devRef, g0, g1, g2, g3, g4, g5, g6]
      exact j9 m c i
    · refine (congrFun (r3.trans (Cert.ReferenceIdeal.Read.val_main_v125_eq _)) i).trans ?_
      simp only [Idealize.ShloMosaic.StableHlo.launchContents_devRef, g0, g1, g2, g3, g4, g5, g6]
      exact j10 m c i
    · refine (congrFun (r4.trans (Cert.ReferenceIdeal.Read.val_main_v185_eq _)) i).trans ?_
      simp only [Idealize.ShloMosaic.StableHlo.launchContents_devRef, g0, g1, g2, g3, g4, g5, g6]
      exact j11 m c i
    · refine (congrFun (r5.trans (Cert.ReferenceIdeal.Read.val_main_v187_eq _)) i).trans ?_
      simp only [Idealize.ShloMosaic.StableHlo.launchContents_devRef, g0, g1, g2, g3, g4, g5, g6]
      exact j12 m c i
end Cert.Proof
end
-- ==== Proof.Prod2.lean ====
/-
  The product `dg_in`: what its blocks hold, and the equality of its result with the reference's.
-/
module
public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Halves
@[expose] public section
set_option maxRecDepth 65536
noncomputable section
namespace Cert.Prod2
open Kernel2Ideal Kernel2Ideal.Gen Kernel2Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x10240.Idx → EReal := m ((c : Thread nD τ).loc main_arg0)
abbrev B : S2048x10240.Idx → EReal := m ((c : Thread nD τ).loc main_arg1)
abbrev R : S8192x2048.Idx → EReal := m ((c : Thread nD τ).loc main_arg2)
abbrev ia (i : S8192x2048.Idx) (k : Fin 10240) : S8192x10240.Idx := ix2 (i 0) k
abbrev ib (i : S8192x2048.Idx) (k : Fin 10240) : S2048x10240.Idx := ix2 (i 1) k

theorem prod (a : S1024x5120.Idx → EReal) (b : S512x5120.Idx → EReal) (y : S1024x512.Idx) :
    k0_pay1 (F := Ideal) a b y = (∑ k : Fin 5120, a (ix2 (y 0) k) * b (ix2 (y 1) k) : EReal) :=
  mulSum dot_S1024x5120_S512x5120_S1024x512_1_1_0_0_n_n 5120 rfl rfl a b y _ _ (fun k x => match x with | ⟨0, _⟩ => rfl | ⟨1, _⟩ => ValueIdx.contrEquiv1_symm_val dot_S1024x5120_S512x5120_S1024x512_1_1_0_0_n_n 5120 rfl rfl k)
    (fun k x => match x with | ⟨0, _⟩ => rfl | ⟨1, _⟩ => ValueIdx.contrEquiv1_symm_val dot_S1024x5120_S512x5120_S1024x512_1_1_0_0_n_n 5120 rfl rfl k)

theorem idx : ∀ t : Fin cfg0.N, win0_0.index t 0 = t.val / 8 ∧ win0_0.index t 1 = t.val % 2 ∧ win0_1.index t 0 = t.val / 2 % 4 ∧ win0_1.index t 1 = t.val % 2 ∧ win0_2.index t 0 = t.val / 8 ∧ win0_2.index t 1 = t.val / 2 % 4 := by decide +kernel

theorem rd0 (t : Fin cfg0.N) (y : S1024x5120.Idx) (x : S8192x10240.Idx) (h0 : (x 0).val = (t.val / 8) * 1024 + (y 0).val) (h1 : (x 1).val = (t.val % 2) * 5120 + (y 1).val) :
    iblk m c 0 t y = A m c x := by
  have e := idx t
  refine congrArg (A m c) (ext2 ?_ ?_)
  · show win0_0.index t 0 * 1024 + 1 * (y 0).val = (x 0).val; omega
  · show win0_0.index t 1 * 5120 + 1 * (y 1).val = (x 1).val; omega

theorem rd1 (t : Fin cfg0.N) (y : S512x5120.Idx) (x : S2048x10240.Idx) (h0 : (x 0).val = (t.val / 2 % 4) * 512 + (y 0).val) (h1 : (x 1).val = (t.val % 2) * 5120 + (y 1).val) :
    iblk m c 1 t y = B m c x := by
  have e := idx t
  refine congrArg (B m c) (ext2 ?_ ?_)
  · show win0_1.index t 0 * 512 + 1 * (y 0).val = (x 0).val; omega
  · show win0_1.index t 1 * 5120 + 1 * (y 1).val = (x 1).val; omega

theorem rd2 (t : Fin cfg0.N) (y : S1024x512.Idx) (x : S8192x2048.Idx) (h0 : (x 0).val = (t.val / 8) * 1024 + (y 0).val) (h1 : (x 1).val = (t.val / 2 % 4) * 512 + (y 1).val) :
    iblk m c 2 t y = R m c x := by
  have e := idx t
  refine congrArg (R m c) (ext2 ?_ ?_)
  · show win0_2.index t 0 * 1024 + 1 * (y 0).val = (x 0).val; omega
  · show win0_2.index t 1 * 512 + 1 * (y 1).val = (x 1).val; omega

/-- What a point of the first half leaves in the accumulator. -/
theorem even (n : ℕ) (hn : n < cfg0.N) (h : n % 2 = 0) (y : S1024x512.Idx) :
    (outsAt0 m c n hn).2 y = k0_pay1 (iblk m c 0 ⟨n, hn⟩) (iblk m c 1 ⟨n, hn⟩) y := by
  have e := outsAt0_A m c ⟨n, hn⟩ h (by show ¬ n % 2 = 1; omega)
  refine (congrFun (congrArg Prod.snd e) y).trans ?_
  dsimp only
  unfold sout0_A_0
  refine (congrFun (View.read_writes_full VS0_0 _ inb_S1024x512_S1024x512_0_0 _ _) y).trans ?_
  refine (congrFun (shapeCast_self _ _) y).trans (congrFun (congrArg₂ k0_pay1 ?_ ?_) y)
  · exact (View.readAt_full _ _ inb_S1024x5120_S1024x5120_0_0).trans (Memref.IsWhole.read_unread _ _)
  · exact (View.readAt_full _ _ inb_S512x5120_S512x5120_0_0).trans (Memref.IsWhole.read_unread _ _)

/-- What a point of the second half leaves in its block. -/
theorem odd (t : Fin cfg0.N) (h : t.val % 2 = 1) : (outsAt0 m c t.val t.isLt).1
    = k0_pay3 (iblk m c 0 t) (iblk m c 1 t) (outsAt0 m c (t.val - 1) (Nat.lt_of_le_of_lt (Nat.sub_le _ _) t.isLt)).2 (iblk m c 2 t) := by
  have e := outsAt0_B m c t (by omega) h
  refine (congrArg Prod.fst e).trans ?_
  dsimp only
  unfold out0_B_3
  refine (View.read_writes_full VO0_3 _ inb_S1024x512_S1024x512_0_0 _ _).trans ?_
  refine congr (congr (congrArg₂ k0_pay3 ?_ ?_) ?_) ?_
  · exact (View.readAt_full _ _ inb_S1024x5120_S1024x5120_0_0).trans (Memref.IsWhole.read_unread _ _)
  · exact (View.readAt_full _ _ inb_S512x5120_S512x5120_0_0).trans (Memref.IsWhole.read_unread _ _)
  · exact (View.readAt_full _ _ inb_S1024x512_S1024x512_0_0).trans (Memref.IsWhole.read_unread _ _)
  · exact (View.readAt_full _ _ inb_S1024x512_S1024x512_0_0).trans (Memref.IsWhole.read_unread _ _)

theorem pair (t u : Fin cfg0.N) (hu : t.val = u.val + 1) (h : u.val % 2 = 0) (y : S1024x512.Idx) : (outsAt0 m c t.val t.isLt).1 y
    = k0_pay1 (iblk m c 0 u) (iblk m c 1 u) y + k0_pay1 (iblk m c 0 t) (iblk m c 1 t) y + iblk m c 2 t y := by
  have e : ∀ (n : ℕ) (hn : n < cfg0.N), n = u.val → (outsAt0 m c n hn).2 y = k0_pay1 (iblk m c 0 u) (iblk m c 1 u) y := by
    rintro n hn rfl
    exact even m c _ _ h _
  refine (congrFun (odd m c t (by omega)) y).trans ?_
  show (outsAt0 m c (t.val - 1) _).2 y + k0_pay1 (iblk m c 0 t) (iblk m c 1 t) y + iblk m c 2 t y = _
  rw [e _ _ (by omega)]

/-- The result of the call. -/
theorem arr (i : S8192x2048.Idx) : G3 m c i
    = (R m c i + ∑ k : Fin 10240, A m c (ia i k) * B m c (ib i k) : EReal) := by
  have h0 : (i 0).val < 8192 := (i 0).isLt
  have h1 : (i 1).val < 2048 := (i 1).isLt
  have hN : cfg0.N = 64 := N_0
  have hp : pt3Of i < cfg0.N := by rw [hN]; show 2 * (4 * ((i 0).val / 1024 - 0) + 1 * ((i 1).val / 512 - 0)) + 1 < 64; omega
  obtain ⟨t, ht⟩ : ∃ t : Fin cfg0.N, t = ⟨pt3Of i, hp⟩ := ⟨_, rfl⟩
  have hv : t.val = 2 * (4 * ((i 0).val / 1024 - 0) + 1 * ((i 1).val / 512 - 0)) + 1 := by rw [ht]
  obtain ⟨u, hu⟩ : ∃ u : Fin cfg0.N, t.val = u.val + 1 := ⟨⟨t.val - 1, by omega⟩, by show _ = t.val - 1 + 1; omega⟩
  have e : G3 m c i = (outsAt0 m c t.val t.isLt).1 (loc3Of i) := by
    subst ht
    exact (dif_pos hp).trans (congrFun (congrArg Prod.fst (outsAt0_sweep m c _ hp).symm) _)
  refine e.trans ((pair m c t u hu (by omega) _).trans ?_)
  refine (congrArg₂ (· + ·) ?_ (rd2 m c t _ i (by show (i 0).val = (t.val / 8) * 1024 + (i 0).val % 1024; omega) (by show (i 1).val = (t.val / 2 % 4) * 512 + (i 1).val % 512; omega))).trans (add_comm _ _)
  refine Eq.trans (congrArg₂ (· + ·) ?_ ?_) (halves 5120 rfl _).symm
  · exact (prod _ _ _).trans (Finset.sum_congr rfl fun k _ => by
      have hk := k.isLt
      exact congrArg₂ (· * ·) (rd0 m c u _ _ (by show (i 0).val = (u.val / 8) * 1024 + (i 0).val % 1024; omega) (by show k.val = (u.val % 2) * 5120 + k.val; omega))
        (rd1 m c u _ _ (by show (i 1).val = (u.val / 2 % 4) * 512 + (i 1).val % 512; omega) (by show k.val = (u.val % 2) * 5120 + k.val; omega)))
  · exact (prod _ _ _).trans (Finset.sum_congr rfl fun k _ => by
      have hk := k.isLt
      exact congrArg₂ (· * ·) (rd0 m c t _ _ (by show (i 0).val = (t.val / 8) * 1024 + (i 0).val % 1024; omega) (by show (5120 + k.val) = (t.val % 2) * 5120 + k.val; omega))
        (rd1 m c t _ _ (by show (i 1).val = (t.val / 2 % 4) * 512 + (i 1).val % 512; omega) (by show (5120 + k.val) = (t.val % 2) * 5120 + k.val; omega)))

/-- The reference at one index. -/
theorem ref (x0 : S8192x10240.Idx → EReal) (x1 : S2048x10240.Idx → EReal) (x2 : S8192x2048.Idx → EReal) (i : S8192x2048.Idx) : Reference2Ideal.Read.val_main_v6 (F := Ideal) x0 x1 x2 i
    = (x2 i + ∑ k : Fin 10240, x0 (ia i k) * x1 (ib i k) : EReal) := by
  refine (show _ = x2 i + Reference2Ideal.Read.val_main_v4 (F := Ideal) x0 x1 i from rfl).trans (congrArg (x2 i + ·) ((Reference2Ideal.Read.val_main_v4_apply x0 x1 i).trans ?_))
  exact Finset.sum_congr rfl fun k _ => congrArg₂ (· * ·) (congrArg x0 (ext2 rfl rfl)) (congrArg x1 (ext2 rfl rfl))

theorem equal : algebraic_Kernel2Ideal_Reference2Ideal := by
  intro m ρ m' ρ' _ hagree
  refine ⟨fun c => G3 m c, run m ρ, ?_⟩
  refine (θ_run Reference2Ideal.defs _ _).mono (fun r h c => ?_) (Reference2Ideal.Value.run (F := Ideal) m' ρ')
  obtain ⟨r0, rest⟩ := h c
  obtain ⟨g0, g1, g2⟩ := hagree c
  refine ⟨funext fun i => (congrFun (r0.trans (Reference2Ideal.Read.val_main_v6_eq _ _ _)) i).trans ?_, rest⟩
  rw [g0, g1, g2]
  exact (ref _ _ _ i).trans (arr m c i).symm

theorem quiet [Reference2Ideal.Facts] : quiescent_Reference2Ideal := fun m ρ _ =>
  (θ_run Reference2Ideal.defs _ _).mono (fun r h => ⟨fun c => (h c).2, sem_eq_zero_of_no_sems (by decide) r.2⟩)
    (Reference2Ideal.Value.run (F := Ideal) m ρ)
end Cert.Prod2
end
-- ==== Proof.Prod3.lean ====
/-
  The product `wg_in`: what its blocks hold, and the equality of its result with the reference's.
-/
module
public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Halves
@[expose] public section
set_option maxRecDepth 65536
noncomputable section
namespace Cert.Prod3
open Kernel3Ideal Kernel3Ideal.Gen Kernel3Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S2048x8192.Idx → EReal := m ((c : Thread nD τ).loc main_arg0)
abbrev B : S8192x10240.Idx → EReal := m ((c : Thread nD τ).loc main_arg1)
abbrev ia (i : S2048x10240.Idx) (k : Fin 8192) : S2048x8192.Idx := ix2 (i 0) k
abbrev ib (i : S2048x10240.Idx) (k : Fin 8192) : S8192x10240.Idx := ix2 k (i 1)

theorem prod (a : S1024x4096.Idx → EReal) (b : S4096x1024.Idx → EReal) (y : S1024x1024.Idx) :
    k0_pay1 (F := Ideal) a b y = (∑ k : Fin 4096, a (ix2 (y 0) k) * b (ix2 k (y 1)) : EReal) :=
  mulSum dot_S1024x4096_S4096x1024_S1024x1024_1_0_0_1_n_n 4096 rfl rfl a b y _ _ (fun k x => match x with | ⟨0, _⟩ => rfl | ⟨1, _⟩ => ValueIdx.contrEquiv1_symm_val dot_S1024x4096_S4096x1024_S1024x1024_1_0_0_1_n_n 4096 rfl rfl k)
    (fun k x => match x with | ⟨0, _⟩ => ValueIdx.contrEquiv1_symm_val dot_S1024x4096_S4096x1024_S1024x1024_1_0_0_1_n_n 4096 rfl rfl k | ⟨1, _⟩ => rfl)

theorem idx : ∀ t : Fin cfg0.N, win0_0.index t 0 = t.val / 20 ∧ win0_0.index t 1 = t.val % 2 ∧ win0_1.index t 0 = t.val % 2 ∧ win0_1.index t 1 = t.val / 2 % 10 := by decide +kernel

theorem rd0 (t : Fin cfg0.N) (y : S1024x4096.Idx) (x : S2048x8192.Idx) (h0 : (x 0).val = (t.val / 20) * 1024 + (y 0).val) (h1 : (x 1).val = (t.val % 2) * 4096 + (y 1).val) :
    iblk m c 0 t y = A m c x := by
  have e := idx t
  refine congrArg (A m c) (ext2 ?_ ?_)
  · show win0_0.index t 0 * 1024 + 1 * (y 0).val = (x 0).val; omega
  · show win0_0.index t 1 * 4096 + 1 * (y 1).val = (x 1).val; omega

theorem rd1 (t : Fin cfg0.N) (y : S4096x1024.Idx) (x : S8192x10240.Idx) (h0 : (x 0).val = (t.val % 2) * 4096 + (y 0).val) (h1 : (x 1).val = (t.val / 2 % 10) * 1024 + (y 1).val) :
    iblk m c 1 t y = B m c x := by
  have e := idx t
  refine congrArg (B m c) (ext2 ?_ ?_)
  · show win0_1.index t 0 * 4096 + 1 * (y 0).val = (x 0).val; omega
  · show win0_1.index t 1 * 1024 + 1 * (y 1).val = (x 1).val; omega

/-- What a point of the first half leaves in the accumulator. -/
theorem even (n : ℕ) (hn : n < cfg0.N) (h : n % 2 = 0) (y : S1024x1024.Idx) :
    (outsAt0 m c n hn).2 y = k0_pay1 (iblk m c 0 ⟨n, hn⟩) (iblk m c 1 ⟨n, hn⟩) y := by
  have e := outsAt0_A m c ⟨n, hn⟩ h (by show ¬ n % 2 = 1; omega)
  refine (congrFun (congrArg Prod.snd e) y).trans ?_
  dsimp only
  unfold sout0_A_0
  refine (congrFun (View.read_writes_full VS0_0 _ inb_S1024x1024_S1024x1024_0_0 _ _) y).trans ?_
  refine (congrFun (shapeCast_self _ _) y).trans (congrFun (congrArg₂ k0_pay1 ?_ ?_) y)
  · exact (View.readAt_full _ _ inb_S1024x4096_S1024x4096_0_0).trans (Memref.IsWhole.read_unread _ _)
  · exact (View.readAt_full _ _ inb_S4096x1024_S4096x1024_0_0).trans (Memref.IsWhole.read_unread _ _)

/-- What a point of the second half leaves in its block. -/
theorem odd (t : Fin cfg0.N) (h : t.val % 2 = 1) : (outsAt0 m c t.val t.isLt).1
    = k0_pay3 (iblk m c 0 t) (iblk m c 1 t) (outsAt0 m c (t.val - 1) (Nat.lt_of_le_of_lt (Nat.sub_le _ _) t.isLt)).2 := by
  have e := outsAt0_B m c t (by omega) h
  refine (congrArg Prod.fst e).trans ?_
  dsimp only
  unfold out0_B_2
  refine (View.read_writes_full VO0_2 _ inb_S1024x1024_S1024x1024_0_0 _ _).trans ?_
  refine congr (congrArg₂ k0_pay3 ?_ ?_) ?_
  · exact (View.readAt_full _ _ inb_S1024x4096_S1024x4096_0_0).trans (Memref.IsWhole.read_unread _ _)
  · exact (View.readAt_full _ _ inb_S4096x1024_S4096x1024_0_0).trans (Memref.IsWhole.read_unread _ _)
  · exact (View.readAt_full _ _ inb_S1024x1024_S1024x1024_0_0).trans (Memref.IsWhole.read_unread _ _)

theorem pair (t u : Fin cfg0.N) (hu : t.val = u.val + 1) (h : u.val % 2 = 0) (y : S1024x1024.Idx) : (outsAt0 m c t.val t.isLt).1 y
    = k0_pay1 (iblk m c 0 u) (iblk m c 1 u) y + k0_pay1 (iblk m c 0 t) (iblk m c 1 t) y := by
  have e : ∀ (n : ℕ) (hn : n < cfg0.N), n = u.val → (outsAt0 m c n hn).2 y = k0_pay1 (iblk m c 0 u) (iblk m c 1 u) y := by
    rintro n hn rfl
    exact even m c _ _ h _
  refine (congrFun (odd m c t (by omega)) y).trans ?_
  show (outsAt0 m c (t.val - 1) _).2 y + k0_pay1 (iblk m c 0 t) (iblk m c 1 t) y = _
  rw [e _ _ (by omega)]

/-- The result of the call. -/
theorem arr (i : S2048x10240.Idx) : G2 m c i
    = (∑ k : Fin 8192, A m c (ia i k) * B m c (ib i k) : EReal) := by
  have h0 : (i 0).val < 2048 := (i 0).isLt
  have h1 : (i 1).val < 10240 := (i 1).isLt
  have hN : cfg0.N = 40 := N_0
  have hp : pt2Of i < cfg0.N := by rw [hN]; show 2 * (10 * ((i 0).val / 1024 - 0) + 1 * ((i 1).val / 1024 - 0)) + 1 < 40; omega
  obtain ⟨t, ht⟩ : ∃ t : Fin cfg0.N, t = ⟨pt2Of i, hp⟩ := ⟨_, rfl⟩
  have hv : t.val = 2 * (10 * ((i 0).val / 1024 - 0) + 1 * ((i 1).val / 1024 - 0)) + 1 := by rw [ht]
  obtain ⟨u, hu⟩ : ∃ u : Fin cfg0.N, t.val = u.val + 1 := ⟨⟨t.val - 1, by omega⟩, by show _ = t.val - 1 + 1; omega⟩
  have e : G2 m c i = (outsAt0 m c t.val t.isLt).1 (loc2Of i) := by
    subst ht
    exact (dif_pos hp).trans (congrFun (congrArg Prod.fst (outsAt0_sweep m c _ hp).symm) _)
  refine e.trans ((pair m c t u hu (by omega) _).trans ?_)
  refine Eq.trans (congrArg₂ (· + ·) ?_ ?_) (halves 4096 rfl _).symm
  · exact (prod _ _ _).trans (Finset.sum_congr rfl fun k _ => by
      have hk := k.isLt
      exact congrArg₂ (· * ·) (rd0 m c u _ _ (by show (i 0).val = (u.val / 20) * 1024 + (i 0).val % 1024; omega) (by show k.val = (u.val % 2) * 4096 + k.val; omega))
        (rd1 m c u _ _ (by show k.val = (u.val % 2) * 4096 + k.val; omega) (by show (i 1).val = (u.val / 2 % 10) * 1024 + (i 1).val % 1024; omega)))
  · exact (prod _ _ _).trans (Finset.sum_congr rfl fun k _ => by
      have hk := k.isLt
      exact congrArg₂ (· * ·) (rd0 m c t _ _ (by show (i 0).val = (t.val / 20) * 1024 + (i 0).val % 1024; omega) (by show (4096 + k.val) = (t.val % 2) * 4096 + k.val; omega))
        (rd1 m c t _ _ (by show (4096 + k.val) = (t.val % 2) * 4096 + k.val; omega) (by show (i 1).val = (t.val / 2 % 10) * 1024 + (i 1).val % 1024; omega)))

/-- The reference at one index. -/
theorem ref (x0 : S2048x8192.Idx → EReal) (x1 : S8192x10240.Idx → EReal) (i : S2048x10240.Idx) : Reference3Ideal.Read.val_main_v7 (F := Ideal) x0 x1 i
    = (∑ k : Fin 8192, x0 (ia i k) * x1 (ib i k) : EReal) := by
  refine (show _ = Reference3Ideal.Read.val_main_v6 (F := Ideal) x0 x1 i from rfl).trans ((Reference3Ideal.Read.val_main_v6_apply (F := Ideal) x0 x1 i).trans ((Reference3Ideal.Read.val_main_v5_apply x0 x1 _).trans ?_))
  refine Finset.sum_congr rfl fun k _ => ?_
  refine (mul_comm _ _).trans (congrArg₂ (· * ·) ?_ ?_)
  on_goal 2 => exact congrArg x1 (ext2 rfl rfl)
  exact (Reference3Ideal.Read.val_main_v1_apply (F := Ideal) x0 _).trans (congrArg x0 (ext2 rfl rfl))

theorem equal : algebraic_Kernel3Ideal_Reference3Ideal := by
  intro m ρ m' ρ' _ hagree
  refine ⟨fun c => G2 m c, run m ρ, ?_⟩
  refine (θ_run Reference3Ideal.defs _ _).mono (fun r h c => ?_) (Reference3Ideal.Value.run (F := Ideal) m' ρ')
  obtain ⟨r0, rest⟩ := h c
  obtain ⟨g0, g1⟩ := hagree c
  refine ⟨funext fun i => (congrFun (r0.trans (Reference3Ideal.Read.val_main_v7_eq _ _)) i).trans ?_, rest⟩
  rw [g0, g1]
  exact (ref _ _ i).trans (arr m c i).symm

theorem quiet [Reference3Ideal.Facts] : quiescent_Reference3Ideal := fun m ρ _ =>
  (θ_run Reference3Ideal.defs _ _).mono (fun r h => ⟨fun c => (h c).2, sem_eq_zero_of_no_sems (by decide) r.2⟩)
    (Reference3Ideal.Value.run (F := Ideal) m ρ)
end Cert.Prod3
end
-- ==== Proof.Prod4.lean ====
/-
  The product `dg_up`: what its blocks hold, and the equality of its result with the reference's.
-/
module
public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Halves
@[expose] public section
set_option maxRecDepth 65536
noncomputable section
namespace Cert.Prod4
open Kernel4Ideal Kernel4Ideal.Gen Kernel4Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S2x8192x5632.Idx → EReal := m ((c : Thread nD τ).loc main_arg0)
abbrev B : S2048x11264.Idx → EReal := m ((c : Thread nD τ).loc main_arg1)
abbrev ia (i : S8192x2048.Idx) (k : Fin 11264) : S2x8192x5632.Idx := ix3 ⟨k.val / 5632, by omega⟩ (i 0) ⟨k.val % 5632, by omega⟩
abbrev ib (i : S8192x2048.Idx) (k : Fin 11264) : S2048x11264.Idx := ix2 (i 1) k

theorem prod (a : S1x1024x5632.Idx → EReal) (b : S512x5632.Idx → EReal) (y : S1024x512.Idx) :
    k0_pay1 (F := Ideal) a b y = (∑ k : Fin 5632, a (ix3 0 (y 0) k) * b (ix2 (y 1) k) : EReal) := by
  show FloatOps.matmul (F := Ideal) dot_S1024x5632_S512x5632_S1024x512_1_1_0_0_n_n none (φ₁ := .bf16) (φ₂ := .bf16) (shapeCast S1024x5632 a shapeCasts_S1x1024x5632_S1024x5632) b (constant S1024x512 .f32 0x00000000#32) y = _
  refine (Ideal.matmul_apply _ _ _ _ _ _).trans ?_
  refine (congrArg₂ (· + ·) (Ideal.ofBits_zero_f32) (Equiv.sum_comp (ValueIdx.contrEquiv1 dot_S1024x5632_S512x5632_S1024x512_1_1_0_0_n_n 5632 rfl rfl).symm _).symm).trans ((zero_add _).trans ?_)
  refine Finset.sum_congr rfl fun k _ => ?_
  have hk := ValueIdx.contrEquiv1_symm_val dot_S1024x5632_S512x5632_S1024x512_1_1_0_0_n_n 5632 rfl rfl k
  refine congrArg₂ (· * ·) ?_ ?_
  · refine (congrArg _ (show _ = ix2 (y 0) k from funext fun x => Fin.ext ?_)).trans (unsq a _ _)
    match x with
    | ⟨0, _⟩ => rfl
    | ⟨1, _⟩ => exact hk
  · refine congrArg b (funext fun x => Fin.ext ?_)
    match x with
    | ⟨0, _⟩ => rfl
    | ⟨1, _⟩ => exact hk

theorem idx : ∀ t : Fin cfg0.N, win0_0.index t 0 = t.val % 2 ∧ win0_0.index t 1 = t.val / 8 ∧ win0_0.index t 2 = 0 ∧ win0_1.index t 0 = t.val / 2 % 4 ∧ win0_1.index t 1 = t.val % 2 := by decide +kernel

theorem rd0 (t : Fin cfg0.N) (y : S1x1024x5632.Idx) (x : S2x8192x5632.Idx) (h0 : (x 0).val = (t.val % 2) * 1 + (y 0).val) (h1 : (x 1).val = (t.val / 8) * 1024 + (y 1).val) (h2 : (x 2).val = 0 * 5632 + (y 2).val) :
    iblk m c 0 t y = A m c x := by
  have e := idx t
  refine congrArg (A m c) (ext3 ?_ ?_ ?_)
  · show win0_0.index t 0 * 1 + 1 * (y 0).val = (x 0).val; omega
  · show win0_0.index t 1 * 1024 + 1 * (y 1).val = (x 1).val; omega
  · show win0_0.index t 2 * 5632 + 1 * (y 2).val = (x 2).val; omega

theorem rd1 (t : Fin cfg0.N) (y : S512x5632.Idx) (x : S2048x11264.Idx) (h0 : (x 0).val = (t.val / 2 % 4) * 512 + (y 0).val) (h1 : (x 1).val = (t.val % 2) * 5632 + (y 1).val) :
    iblk m c 1 t y = B m c x := by
  have e := idx t
  refine congrArg (B m c) (ext2 ?_ ?_)
  · show win0_1.index t 0 * 512 + 1 * (y 0).val = (x 0).val; omega
  · show win0_1.index t 1 * 5632 + 1 * (y 1).val = (x 1).val; omega

/-- What a point of the first half leaves in the accumulator. -/
theorem even (n : ℕ) (hn : n < cfg0.N) (h : n % 2 = 0) (y : S1024x512.Idx) :
    (outsAt0 m c n hn).2 y = k0_pay1 (iblk m c 0 ⟨n, hn⟩) (iblk m c 1 ⟨n, hn⟩) y := by
  have e := outsAt0_A m c ⟨n, hn⟩ h (by show ¬ n % 2 = 1; omega)
  refine (congrFun (congrArg Prod.snd e) y).trans ?_
  dsimp only
  unfold sout0_A_0
  refine (congrFun (View.read_writes_full VS0_0 _ inb_S1024x512_S1024x512_0_0 _ _) y).trans ?_
  refine (congrFun (shapeCast_self _ _) y).trans (congrFun (congrArg₂ k0_pay1 ?_ ?_) y)
  · exact (View.readAt_full _ _ inb_S1x1024x5632_S1x1024x5632_0_0_0).trans (Memref.IsWhole.read_unread _ _)
  · exact (View.readAt_full _ _ inb_S512x5632_S512x5632_0_0).trans (Memref.IsWhole.read_unread _ _)

/-- What a point of the second half leaves in its block. -/
theorem odd (t : Fin cfg0.N) (h : t.val % 2 = 1) : (outsAt0 m c t.val t.isLt).1
    = k0_pay3 (iblk m c 0 t) (iblk m c 1 t) (outsAt0 m c (t.val - 1) (Nat.lt_of_le_of_lt (Nat.sub_le _ _) t.isLt)).2 := by
  have e := outsAt0_B m c t (by omega) h
  refine (congrArg Prod.fst e).trans ?_
  dsimp only
  unfold out0_B_2
  refine (View.read_writes_full VO0_2 _ inb_S1024x512_S1024x512_0_0 _ _).trans ?_
  refine congr (congrArg₂ k0_pay3 ?_ ?_) ?_
  · exact (View.readAt_full _ _ inb_S1x1024x5632_S1x1024x5632_0_0_0).trans (Memref.IsWhole.read_unread _ _)
  · exact (View.readAt_full _ _ inb_S512x5632_S512x5632_0_0).trans (Memref.IsWhole.read_unread _ _)
  · exact (View.readAt_full _ _ inb_S1024x512_S1024x512_0_0).trans (Memref.IsWhole.read_unread _ _)

theorem pair (t u : Fin cfg0.N) (hu : t.val = u.val + 1) (h : u.val % 2 = 0) (y : S1024x512.Idx) : (outsAt0 m c t.val t.isLt).1 y
    = k0_pay1 (iblk m c 0 u) (iblk m c 1 u) y + k0_pay1 (iblk m c 0 t) (iblk m c 1 t) y := by
  have e : ∀ (n : ℕ) (hn : n < cfg0.N), n = u.val → (outsAt0 m c n hn).2 y = k0_pay1 (iblk m c 0 u) (iblk m c 1 u) y := by
    rintro n hn rfl
    exact even m c _ _ h _
  refine (congrFun (odd m c t (by omega)) y).trans ?_
  show (outsAt0 m c (t.val - 1) _).2 y + k0_pay1 (iblk m c 0 t) (iblk m c 1 t) y = _
  rw [e _ _ (by omega)]

/-- The result of the call. -/
theorem arr (i : S8192x2048.Idx) : G2 m c i
    = (∑ k : Fin 11264, A m c (ia i k) * B m c (ib i k) : EReal) := by
  have h0 : (i 0).val < 8192 := (i 0).isLt
  have h1 : (i 1).val < 2048 := (i 1).isLt
  have hN : cfg0.N = 64 := N_0
  have hp : pt2Of i < cfg0.N := by rw [hN]; show 2 * (4 * ((i 0).val / 1024 - 0) + 1 * ((i 1).val / 512 - 0)) + 1 < 64; omega
  obtain ⟨t, ht⟩ : ∃ t : Fin cfg0.N, t = ⟨pt2Of i, hp⟩ := ⟨_, rfl⟩
  have hv : t.val = 2 * (4 * ((i 0).val / 1024 - 0) + 1 * ((i 1).val / 512 - 0)) + 1 := by rw [ht]
  obtain ⟨u, hu⟩ : ∃ u : Fin cfg0.N, t.val = u.val + 1 := ⟨⟨t.val - 1, by omega⟩, by show _ = t.val - 1 + 1; omega⟩
  have e : G2 m c i = (outsAt0 m c t.val t.isLt).1 (loc2Of i) := by
    subst ht
    exact (dif_pos hp).trans (congrFun (congrArg Prod.fst (outsAt0_sweep m c _ hp).symm) _)
  refine e.trans ((pair m c t u hu (by omega) _).trans ?_)
  refine Eq.trans (congrArg₂ (· + ·) ?_ ?_) (halves 5632 rfl _).symm
  · exact (prod _ _ _).trans (Finset.sum_congr rfl fun k _ => by
      have hk := k.isLt
      exact congrArg₂ (· * ·) (rd0 m c u _ _ (by show k.val / 5632 = (u.val % 2) * 1 + 0; omega) (by show (i 0).val = (u.val / 8) * 1024 + (i 0).val % 1024; omega) (by show k.val % 5632 = 0 * 5632 + k.val; omega))
        (rd1 m c u _ _ (by show (i 1).val = (u.val / 2 % 4) * 512 + (i 1).val % 512; omega) (by show k.val = (u.val % 2) * 5632 + k.val; omega)))
  · exact (prod _ _ _).trans (Finset.sum_congr rfl fun k _ => by
      have hk := k.isLt
      exact congrArg₂ (· * ·) (rd0 m c t _ _ (by show (5632 + k.val) / 5632 = (t.val % 2) * 1 + 0; omega) (by show (i 0).val = (t.val / 8) * 1024 + (i 0).val % 1024; omega) (by show (5632 + k.val) % 5632 = 0 * 5632 + k.val; omega))
        (rd1 m c t _ _ (by show (i 1).val = (t.val / 2 % 4) * 512 + (i 1).val % 512; omega) (by show (5632 + k.val) = (t.val % 2) * 5632 + k.val; omega)))

/-- The two halves side by side. -/
theorem cat (x : S2x8192x5632.Idx → EReal) (j : Reference4Ideal.S8192x11264.Idx) (y : S2x8192x5632.Idx) (e0 : (y 0).val = (j 1).val / 5632)
    (e1 : (y 1).val = (j 0).val) (e2 : (y 2).val = (j 1).val % 5632) : Reference4Ideal.Read.val_main_v13 (F := Ideal) x j = x y := by
  have h0 : (j 0).val < 8192 := (j 0).isLt
  have h1 : (j 1).val < 11264 := (j 1).isLt
  have hj : Reference4Ideal.Read.val_main_v13 (F := Ideal) x j = x (ix3 ⟨(j 1).val / 5632, by omega⟩ (j 0) ⟨(j 1).val % 5632, by omega⟩) := by
    unfold Reference4Ideal.Read.val_main_v13
    by_cases h : (j 1).val < 5632
    · refine (concatenate_pair_apply_left (s₁ := Reference4Ideal.S8192x5632) (s₂ := Reference4Ideal.S8192x5632) 1 _ _ Reference4Ideal.Gen.concatenates_S8192x5632_S8192x5632_S8192x11264_d1 j rfl (ix2 (j 0) ⟨(j 1).val, h⟩) (fun a => match a with | ⟨0, _⟩ => rfl | ⟨1, _⟩ => rfl)).trans ?_
      refine (Reference4Ideal.Read.val_main_v10_apply (F := Ideal) x _).trans ((Reference4Ideal.Read.val_main_v9_apply (F := Ideal) x _).trans (congrArg x (funext fun a => Fin.ext (match a with
        | ⟨0, _⟩ => ?_
        | ⟨1, _⟩ => ?_
        | ⟨2, _⟩ => ?_))))
      · show 0 = (j 1).val / 5632; omega
      · show ((j 0).val * 5632 + (j 1).val) / 5632 % 8192 = (j 0).val; omega
      · show ((j 0).val * 5632 + (j 1).val) % 5632 = (j 1).val % 5632; omega
    · refine (concatenate_pair_apply_right (s₁ := Reference4Ideal.S8192x5632) (s₂ := Reference4Ideal.S8192x5632) 1 _ _ Reference4Ideal.Gen.concatenates_S8192x5632_S8192x5632_S8192x11264_d1 j rfl rfl (ix2 (j 0) ⟨(j 1).val - 5632, by omega⟩) (fun a => match a with | ⟨0, _⟩ => fun _ => rfl | ⟨1, _⟩ => fun hn => absurd rfl hn) (by show (j 1).val - 5632 + 5632 = (j 1).val; omega)).trans ?_
      refine (Reference4Ideal.Read.val_main_v12_apply (F := Ideal) x _).trans ((Reference4Ideal.Read.val_main_v11_apply (F := Ideal) x _).trans (congrArg x (funext fun a => Fin.ext (match a with
        | ⟨0, _⟩ => ?_
        | ⟨1, _⟩ => ?_
        | ⟨2, _⟩ => ?_))))
      · show 1 + 0 = (j 1).val / 5632; omega
      · show ((j 0).val * 5632 + ((j 1).val - 5632)) / 5632 % 8192 = (j 0).val; omega
      · show ((j 0).val * 5632 + ((j 1).val - 5632)) % 5632 = (j 1).val % 5632; omega
  exact hj.trans (congrArg x (funext fun a => Fin.ext (match a with
    | ⟨0, _⟩ => e0.symm
    | ⟨1, _⟩ => e1.symm
    | ⟨2, _⟩ => e2.symm)))
/-- The reference at one index. -/
theorem ref (x0 : S2x8192x5632.Idx → EReal) (x1 : S2048x11264.Idx → EReal) (i : S8192x2048.Idx) : Reference4Ideal.Read.val_main_v15 (F := Ideal) x0 x1 i
    = (∑ k : Fin 11264, x0 (ia i k) * x1 (ib i k) : EReal) := by
  refine (show _ = Reference4Ideal.Read.val_main_v14 (F := Ideal) x0 x1 i from rfl).trans ((Reference4Ideal.Read.val_main_v14_apply x0 x1 i).trans ?_)
  exact Finset.sum_congr rfl fun k _ => congrArg₂ (· * ·) (cat x0 _ _ rfl rfl rfl) (congrArg x1 (ext2 rfl rfl))

theorem equal : algebraic_Kernel4Ideal_Reference4Ideal := by
  intro m ρ m' ρ' _ hagree
  refine ⟨fun c => G2 m c, run m ρ, ?_⟩
  refine (θ_run Reference4Ideal.defs _ _).mono (fun r h c => ?_) (Reference4Ideal.Value.run (F := Ideal) m' ρ')
  obtain ⟨r0, rest⟩ := h c
  obtain ⟨g0, g1⟩ := hagree c
  refine ⟨funext fun i => (congrFun (r0.trans (Reference4Ideal.Read.val_main_v15_eq _ _)) i).trans ?_, rest⟩
  rw [g0, g1]
  exact (ref _ _ i).trans (arr m c i).symm

theorem quiet [Reference4Ideal.Facts] : quiescent_Reference4Ideal := fun m ρ _ =>
  (θ_run Reference4Ideal.defs _ _).mono (fun r h => ⟨fun c => (h c).2, sem_eq_zero_of_no_sems (by decide) r.2⟩)
    (Reference4Ideal.Value.run (F := Ideal) m ρ)
end Cert.Prod4
end
-- ==== Proof.Prod5.lean ====
/-
  The product `wg_up`: what its blocks hold, and the equality of its result with the reference's.
-/
module
public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Halves
@[expose] public section
set_option maxRecDepth 65536
noncomputable section
namespace Cert.Prod5
open Kernel5Ideal Kernel5Ideal.Gen Kernel5Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S2048x8192.Idx → EReal := m ((c : Thread nD τ).loc main_arg0)
abbrev B : S2x8192x5632.Idx → EReal := m ((c : Thread nD τ).loc main_arg1)
abbrev ia (i : S8x2048x1408.Idx) (k : Fin 8192) : S2048x8192.Idx := ix2 (i 1) k
abbrev ib (i : S8x2048x1408.Idx) (k : Fin 8192) : S2x8192x5632.Idx :=
  have h0 : (i 0).val < 8 := (i 0).isLt
  have h2 : (i 2).val < 1408 := (i 2).isLt
  ix3 ⟨((i 0).val * 1408 + (i 2).val) / 5632, by omega⟩ k ⟨((i 0).val * 1408 + (i 2).val) % 5632, by omega⟩

theorem prod (a : S512x4096.Idx → EReal) (b : S1x4096x1408.Idx → EReal) (y : S512x1408.Idx) :
    k0_pay1 (F := Ideal) a b y = (∑ k : Fin 4096, a (ix2 (y 0) k) * b (ix3 0 k (y 1)) : EReal) := by
  show FloatOps.matmul (F := Ideal) dot_S512x4096_S4096x1408_S512x1408_1_0_0_1_n_n none (φ₁ := .bf16) (φ₂ := .bf16) a (shapeCast S4096x1408 b shapeCasts_S1x4096x1408_S4096x1408) (constant S512x1408 .f32 0x00000000#32) y = _
  refine (Ideal.matmul_apply _ _ _ _ _ _).trans ?_
  refine (congrArg₂ (· + ·) (Ideal.ofBits_zero_f32) (Equiv.sum_comp (ValueIdx.contrEquiv1 dot_S512x4096_S4096x1408_S512x1408_1_0_0_1_n_n 4096 rfl rfl).symm _).symm).trans ((zero_add _).trans ?_)
  refine Finset.sum_congr rfl fun k _ => ?_
  have hk := ValueIdx.contrEquiv1_symm_val dot_S512x4096_S4096x1408_S512x1408_1_0_0_1_n_n 4096 rfl rfl k
  refine congrArg₂ (· * ·) ?_ ?_
  · refine congrArg a (funext fun x => Fin.ext ?_)
    match x with
    | ⟨0, _⟩ => rfl
    | ⟨1, _⟩ => exact hk
  · refine (congrArg _ (show _ = ix2 k (y 1) from funext fun x => Fin.ext ?_)).trans (unsq b _ _)
    match x with
    | ⟨0, _⟩ => exact hk
    | ⟨1, _⟩ => rfl

theorem idx : ∀ t : Fin cfg0.N, win0_0.index t 0 = t.val / 16 ∧ win0_0.index t 1 = t.val % 2 ∧ win0_1.index t 0 = t.val / 2 % 8 / 4 ∧ win0_1.index t 1 = t.val % 2 ∧ win0_1.index t 2 = t.val / 2 % 8 % 4 := by decide +kernel

theorem rd0 (t : Fin cfg0.N) (y : S512x4096.Idx) (x : S2048x8192.Idx) (h0 : (x 0).val = (t.val / 16) * 512 + (y 0).val) (h1 : (x 1).val = (t.val % 2) * 4096 + (y 1).val) :
    iblk m c 0 t y = A m c x := by
  have e := idx t
  refine congrArg (A m c) (ext2 ?_ ?_)
  · show win0_0.index t 0 * 512 + 1 * (y 0).val = (x 0).val; omega
  · show win0_0.index t 1 * 4096 + 1 * (y 1).val = (x 1).val; omega

theorem rd1 (t : Fin cfg0.N) (y : S1x4096x1408.Idx) (x : S2x8192x5632.Idx) (h0 : (x 0).val = (t.val / 2 % 8 / 4) * 1 + (y 0).val) (h1 : (x 1).val = (t.val % 2) * 4096 + (y 1).val) (h2 : (x 2).val = (t.val / 2 % 8 % 4) * 1408 + (y 2).val) :
    iblk m c 1 t y = B m c x := by
  have e := idx t
  refine congrArg (B m c) (ext3 ?_ ?_ ?_)
  · show win0_1.index t 0 * 1 + 1 * (y 0).val = (x 0).val; omega
  · show win0_1.index t 1 * 4096 + 1 * (y 1).val = (x 1).val; omega
  · show win0_1.index t 2 * 1408 + 1 * (y 2).val = (x 2).val; omega

/-- What a point of the first half leaves in the accumulator. -/
theorem even (n : ℕ) (hn : n < cfg0.N) (h : n % 2 = 0) (y : S512x1408.Idx) :
    (outsAt0 m c n hn).2 y = k0_pay1 (iblk m c 0 ⟨n, hn⟩) (iblk m c 1 ⟨n, hn⟩) y := by
  have e := outsAt0_A m c ⟨n, hn⟩ h (by show ¬ n % 2 = 1; omega)
  refine (congrFun (congrArg Prod.snd e) y).trans ?_
  dsimp only
  unfold sout0_A_0
  refine (congrFun (View.read_writes_full VS0_0 _ inb_S512x1408_S512x1408_0_0 _ _) y).trans ?_
  refine (congrFun (shapeCast_self _ _) y).trans (congrFun (congrArg₂ k0_pay1 ?_ ?_) y)
  · exact (View.readAt_full _ _ inb_S512x4096_S512x4096_0_0).trans (Memref.IsWhole.read_unread _ _)
  · exact (View.readAt_full _ _ inb_S1x4096x1408_S1x4096x1408_0_0_0).trans (Memref.IsWhole.read_unread _ _)

/-- What a point of the second half leaves in its block. -/
theorem odd (t : Fin cfg0.N) (h : t.val % 2 = 1) : (outsAt0 m c t.val t.isLt).1
    = k0_pay3 (iblk m c 0 t) (iblk m c 1 t) (outsAt0 m c (t.val - 1) (Nat.lt_of_le_of_lt (Nat.sub_le _ _) t.isLt)).2 := by
  have e := outsAt0_B m c t (by omega) h
  refine (congrArg Prod.fst e).trans ?_
  dsimp only
  unfold out0_B_2
  refine (View.read_writes_full VO0_2 _ inb_S1x512x1408_S1x512x1408_0_0_0 _ _).trans ?_
  refine congr (congrArg₂ k0_pay3 ?_ ?_) ?_
  · exact (View.readAt_full _ _ inb_S512x4096_S512x4096_0_0).trans (Memref.IsWhole.read_unread _ _)
  · exact (View.readAt_full _ _ inb_S1x4096x1408_S1x4096x1408_0_0_0).trans (Memref.IsWhole.read_unread _ _)
  · exact (View.readAt_full _ _ inb_S512x1408_S512x1408_0_0).trans (Memref.IsWhole.read_unread _ _)

theorem pair (t u : Fin cfg0.N) (hu : t.val = u.val + 1) (h : u.val % 2 = 0) (y : S1x512x1408.Idx) : (outsAt0 m c t.val t.isLt).1 y
    = k0_pay1 (iblk m c 0 u) (iblk m c 1 u) (ix2 (y 1) (y 2)) + k0_pay1 (iblk m c 0 t) (iblk m c 1 t) (ix2 (y 1) (y 2)) := by
  have e : ∀ (n : ℕ) (hn : n < cfg0.N), n = u.val → (outsAt0 m c n hn).2 (ix2 (y 1) (y 2)) = k0_pay1 (iblk m c 0 u) (iblk m c 1 u) (ix2 (y 1) (y 2)) := by
    rintro n hn rfl
    exact even m c _ _ h _
  refine (congrFun (odd m c t (by omega)) y).trans ?_
  show shapeCast S1x512x1408 (truncf (F := Ideal) .bf16 (addf (outsAt0 m c (t.val - 1) _).2 (k0_pay1 (iblk m c 0 t) (iblk m c 1 t))) bitsLt_bf16_f32) shapeCasts_S512x1408_S1x512x1408 y = _
  refine (sq _ _ y).trans ?_
  show (outsAt0 m c (t.val - 1) _).2 (ix2 (y 1) (y 2)) + k0_pay1 (iblk m c 0 t) (iblk m c 1 t) (ix2 (y 1) (y 2)) = _
  rw [e _ _ (by omega)]

/-- The result of the call. -/
theorem arr (i : S8x2048x1408.Idx) : G2 m c i
    = (∑ k : Fin 8192, A m c (ia i k) * B m c (ib i k) : EReal) := by
  have h0 : (i 0).val < 8 := (i 0).isLt
  have h1 : (i 1).val < 2048 := (i 1).isLt
  have h2 : (i 2).val < 1408 := (i 2).isLt
  have hN : cfg0.N = 64 := N_0
  have hp : pt2Of i < cfg0.N := by rw [hN]; show 2 * (1 * ((i 0).val / 1 - 0) + 8 * ((i 1).val / 512 - 0) + 32 * ((i 2).val / 1408 - 0)) + 1 < 64; omega
  obtain ⟨t, ht⟩ : ∃ t : Fin cfg0.N, t = ⟨pt2Of i, hp⟩ := ⟨_, rfl⟩
  have hv : t.val = 2 * (1 * ((i 0).val / 1 - 0) + 8 * ((i 1).val / 512 - 0) + 32 * ((i 2).val / 1408 - 0)) + 1 := by rw [ht]
  obtain ⟨u, hu⟩ : ∃ u : Fin cfg0.N, t.val = u.val + 1 := ⟨⟨t.val - 1, by omega⟩, by show _ = t.val - 1 + 1; omega⟩
  have e : G2 m c i = (outsAt0 m c t.val t.isLt).1 (loc2Of i) := by
    subst ht
    exact (dif_pos hp).trans (congrFun (congrArg Prod.fst (outsAt0_sweep m c _ hp).symm) _)
  refine e.trans ((pair m c t u hu (by omega) _).trans ?_)
  refine Eq.trans (congrArg₂ (· + ·) ?_ ?_) (halves 4096 rfl _).symm
  · exact (prod _ _ _).trans (Finset.sum_congr rfl fun k _ => by
      have hk := k.isLt
      exact congrArg₂ (· * ·) (rd0 m c u _ _ (by show (i 1).val = (u.val / 16) * 512 + (i 1).val % 512; omega) (by show k.val = (u.val % 2) * 4096 + k.val; omega))
        (rd1 m c u _ _ (by show ((i 0).val * 1408 + (i 2).val) / 5632 = (u.val / 2 % 8 / 4) * 1 + 0; omega) (by show k.val = (u.val % 2) * 4096 + k.val; omega) (by show ((i 0).val * 1408 + (i 2).val) % 5632 = (u.val / 2 % 8 % 4) * 1408 + (i 2).val % 1408; omega)))
  · exact (prod _ _ _).trans (Finset.sum_congr rfl fun k _ => by
      have hk := k.isLt
      exact congrArg₂ (· * ·) (rd0 m c t _ _ (by show (i 1).val = (t.val / 16) * 512 + (i 1).val % 512; omega) (by show (4096 + k.val) = (t.val % 2) * 4096 + k.val; omega))
        (rd1 m c t _ _ (by show ((i 0).val * 1408 + (i 2).val) / 5632 = (t.val / 2 % 8 / 4) * 1 + 0; omega) (by show (4096 + k.val) = (t.val % 2) * 4096 + k.val; omega) (by show ((i 0).val * 1408 + (i 2).val) % 5632 = (t.val / 2 % 8 % 4) * 1408 + (i 2).val % 1408; omega)))

/-- The two halves side by side. -/
theorem cat (x : S2x8192x5632.Idx → EReal) (j : Reference5Ideal.S8192x11264.Idx) (y : S2x8192x5632.Idx) (e0 : (y 0).val = (j 1).val / 5632)
    (e1 : (y 1).val = (j 0).val) (e2 : (y 2).val = (j 1).val % 5632) : Reference5Ideal.Read.val_main_v14 (F := Ideal) x j = x y := by
  have h0 : (j 0).val < 8192 := (j 0).isLt
  have h1 : (j 1).val < 11264 := (j 1).isLt
  have hj : Reference5Ideal.Read.val_main_v14 (F := Ideal) x j = x (ix3 ⟨(j 1).val / 5632, by omega⟩ (j 0) ⟨(j 1).val % 5632, by omega⟩) := by
    unfold Reference5Ideal.Read.val_main_v14
    by_cases h : (j 1).val < 5632
    · refine (concatenate_pair_apply_left (s₁ := Reference5Ideal.S8192x5632) (s₂ := Reference5Ideal.S8192x5632) 1 _ _ Reference5Ideal.Gen.concatenates_S8192x5632_S8192x5632_S8192x11264_d1 j rfl (ix2 (j 0) ⟨(j 1).val, h⟩) (fun a => match a with | ⟨0, _⟩ => rfl | ⟨1, _⟩ => rfl)).trans ?_
      refine (Reference5Ideal.Read.val_main_v11_apply (F := Ideal) x _).trans ((Reference5Ideal.Read.val_main_v10_apply (F := Ideal) x _).trans (congrArg x (funext fun a => Fin.ext (match a with
        | ⟨0, _⟩ => ?_
        | ⟨1, _⟩ => ?_
        | ⟨2, _⟩ => ?_))))
      · show 0 = (j 1).val / 5632; omega
      · show ((j 0).val * 5632 + (j 1).val) / 5632 % 8192 = (j 0).val; omega
      · show ((j 0).val * 5632 + (j 1).val) % 5632 = (j 1).val % 5632; omega
    · refine (concatenate_pair_apply_right (s₁ := Reference5Ideal.S8192x5632) (s₂ := Reference5Ideal.S8192x5632) 1 _ _ Reference5Ideal.Gen.concatenates_S8192x5632_S8192x5632_S8192x11264_d1 j rfl rfl (ix2 (j 0) ⟨(j 1).val - 5632, by omega⟩) (fun a => match a with | ⟨0, _⟩ => fun _ => rfl | ⟨1, _⟩ => fun hn => absurd rfl hn) (by show (j 1).val - 5632 + 5632 = (j 1).val; omega)).trans ?_
      refine (Reference5Ideal.Read.val_main_v13_apply (F := Ideal) x _).trans ((Reference5Ideal.Read.val_main_v12_apply (F := Ideal) x _).trans (congrArg x (funext fun a => Fin.ext (match a with
        | ⟨0, _⟩ => ?_
        | ⟨1, _⟩ => ?_
        | ⟨2, _⟩ => ?_))))
      · show 1 + 0 = (j 1).val / 5632; omega
      · show ((j 0).val * 5632 + ((j 1).val - 5632)) / 5632 % 8192 = (j 0).val; omega
      · show ((j 0).val * 5632 + ((j 1).val - 5632)) % 5632 = (j 1).val % 5632; omega
  exact hj.trans (congrArg x (funext fun a => Fin.ext (match a with
    | ⟨0, _⟩ => e0.symm
    | ⟨1, _⟩ => e1.symm
    | ⟨2, _⟩ => e2.symm)))
/-- The reference at one index. -/
theorem ref (x0 : S2048x8192.Idx → EReal) (x1 : S2x8192x5632.Idx → EReal) (i : S8x2048x1408.Idx) : Reference5Ideal.Read.val_main_v19 (F := Ideal) x0 x1 i
    = (∑ k : Fin 8192, x0 (ia i k) * x1 (ib i k) : EReal) := by
  have h0 : (i 0).val < 8 := (i 0).isLt
  have h1 : (i 1).val < 2048 := (i 1).isLt
  have h2 : (i 2).val < 1408 := (i 2).isLt
  refine (Reference5Ideal.Read.val_main_v19_apply (F := Ideal) x0 x1 i).trans ((Reference5Ideal.Read.val_main_v18_apply (F := Ideal) x0 x1 _).trans ?_)
  refine (show _ = Reference5Ideal.Read.val_main_v16 (F := Ideal) x0 x1 _ from rfl).trans ((Reference5Ideal.Read.val_main_v16_apply (F := Ideal) x0 x1 _).trans ((Reference5Ideal.Read.val_main_v15_apply x0 x1 _).trans ?_))
  refine Finset.sum_congr rfl fun k _ => ?_
  refine (mul_comm _ _).trans (congrArg₂ (· * ·) ?_ (cat x1 _ _ ?_ rfl ?_))
  · refine (Reference5Ideal.Read.val_main_v1_apply (F := Ideal) x0 _).trans (congrArg x0 (funext fun a => Fin.ext (match a with
      | ⟨0, _⟩ => ?_
      | ⟨1, _⟩ => rfl)))
    show (((i 1).val * 8 + (i 0).val) * 1408 + (i 2).val) / 11264 = (i 1).val; omega
  · show ((i 0).val * 1408 + (i 2).val) / 5632 = (((i 1).val * 8 + (i 0).val) * 1408 + (i 2).val) % 11264 / 5632; omega
  · show ((i 0).val * 1408 + (i 2).val) % 5632 = (((i 1).val * 8 + (i 0).val) * 1408 + (i 2).val) % 11264 % 5632; omega

theorem equal : algebraic_Kernel5Ideal_Reference5Ideal := by
  intro m ρ m' ρ' _ hagree
  refine ⟨fun c => G2 m c, run m ρ, ?_⟩
  refine (θ_run Reference5Ideal.defs _ _).mono (fun r h c => ?_) (Reference5Ideal.Value.run (F := Ideal) m' ρ')
  obtain ⟨r0, rest⟩ := h c
  obtain ⟨g0, g1⟩ := hagree c
  refine ⟨funext fun i => (congrFun (r0.trans (Reference5Ideal.Read.val_main_v19_eq _ _)) i).trans ?_, rest⟩
  rw [g0, g1]
  exact (ref _ _ i).trans (arr m c i).symm

theorem quiet [Reference5Ideal.Facts] : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)
end Cert.Prod5
end
-- ==== Proof.Prod6.lean ====
/-
  The product `dg_down`: what its blocks hold, and the equality of its result with the reference's.
-/
module
public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Halves
@[expose] public section
set_option maxRecDepth 65536
noncomputable section
namespace Cert.Prod6
open Kernel6Ideal Kernel6Ideal.Gen Kernel6Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x2048.Idx → EReal := m ((c : Thread nD τ).loc main_arg0)
abbrev B : S5632x2048.Idx → EReal := m ((c : Thread nD τ).loc main_arg1)
abbrev ia (i : S8192x5632.Idx) (k : Fin 2048) : S8192x2048.Idx := ix2 (i 0) k
abbrev ib (i : S8192x5632.Idx) (k : Fin 2048) : S5632x2048.Idx := ix2 (i 1) k

theorem prod (a : S2048x2048.Idx → EReal) (b : S512x2048.Idx → EReal) (y : S2048x512.Idx) :
    k0_pay1 (F := Ideal) a b y = (∑ k : Fin 2048, a (ix2 (y 0) k) * b (ix2 (y 1) k) : EReal) :=
  mulSum dot_S2048x2048_S512x2048_S2048x512_1_1_0_0_n_n 2048 rfl rfl a b y _ _ (fun k x => match x with | ⟨0, _⟩ => rfl | ⟨1, _⟩ => ValueIdx.contrEquiv1_symm_val dot_S2048x2048_S512x2048_S2048x512_1_1_0_0_n_n 2048 rfl rfl k)
    (fun k x => match x with | ⟨0, _⟩ => rfl | ⟨1, _⟩ => ValueIdx.contrEquiv1_symm_val dot_S2048x2048_S512x2048_S2048x512_1_1_0_0_n_n 2048 rfl rfl k)

theorem idx : ∀ t : Fin cfg0.N, win0_0.index t 0 = t.val / 11 ∧ win0_0.index t 1 = 0 ∧ win0_1.index t 0 = t.val % 11 ∧ win0_1.index t 1 = 0 ∧ win0_2.index t 0 = t.val / 11 ∧ win0_2.index t 1 = t.val % 11 := by decide +kernel

theorem rd0 (t : Fin cfg0.N) (y : S2048x2048.Idx) (x : S8192x2048.Idx) (h0 : (x 0).val = (t.val / 11) * 2048 + (y 0).val) (h1 : (x 1).val = 0 * 2048 + (y 1).val) :
    iblk m c 0 t y = A m c x := by
  have e := idx t
  refine congrArg (A m c) (ext2 ?_ ?_)
  · show win0_0.index t 0 * 2048 + 1 * (y 0).val = (x 0).val; omega
  · show win0_0.index t 1 * 2048 + 1 * (y 1).val = (x 1).val; omega

theorem rd1 (t : Fin cfg0.N) (y : S512x2048.Idx) (x : S5632x2048.Idx) (h0 : (x 0).val = (t.val % 11) * 512 + (y 0).val) (h1 : (x 1).val = 0 * 2048 + (y 1).val) :
    iblk m c 1 t y = B m c x := by
  have e := idx t
  refine congrArg (B m c) (ext2 ?_ ?_)
  · show win0_1.index t 0 * 512 + 1 * (y 0).val = (x 0).val; omega
  · show win0_1.index t 1 * 2048 + 1 * (y 1).val = (x 1).val; omega

/-- What a point leaves in its block. -/
theorem left (t : Fin cfg0.N) (y : S2048x512.Idx) : outsAt0 m c t y = k0_pay1 (iblk m c 0 t) (iblk m c 1 t) y := by
  unfold outsAt0 out0_A_2
  refine (congrFun (View.read_writes_full VO0_2 _ inb_S2048x512_S2048x512_0_0 _ _) y).trans ?_
  refine congrFun (congrArg₂ k0_pay1 ?_ ?_) y
  · exact (View.readAt_full _ _ inb_S2048x2048_S2048x2048_0_0).trans (Memref.IsWhole.read_unread _ _)
  · exact (View.readAt_full _ _ inb_S512x2048_S512x2048_0_0).trans (Memref.IsWhole.read_unread _ _)

/-- The result of the call. -/
theorem arr (i : S8192x5632.Idx) : (dats m 0 c).arrAt 2 cfg0.N i
    = (∑ k : Fin 2048, A m c (ia i k) * B m c (ib i k) : EReal) := by
  have h0 : (i 0).val < 8192 := (i 0).isLt
  have h1 : (i 1).val < 5632 := (i 1).isLt
  have hN : cfg0.N = 44 := N_0
  obtain ⟨t, ht⟩ : ∃ t : Fin cfg0.N, t.val = (i 0).val / 2048 * 11 + (i 1).val / 512 := ⟨⟨_, by omega⟩, rfl⟩
  obtain ⟨e00, e01, e10, e11, e20, e21⟩ := idx t
  have e : ((cfg0.win 2).blk t).view.emb (ix2 (n0 := 2048) (n1 := 512) ⟨(i 0).val % 2048, by omega⟩ ⟨(i 1).val % 512, by omega⟩) = i :=
    ext2 (by show win0_2.index t 0 * 2048 + 1 * ((i 0).val % 2048) = (i 0).val; rw [e20]; omega) (by show win0_2.index t 1 * 512 + 1 * ((i 1).val % 512) = (i 1).val; rw [e21]; omega)
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 11) * 2048 + (i 0).val % 2048; omega) (by show k.val = 0 * 2048 + k.val; omega))
        (rd1 m c t _ _ (by show (i 1).val = (t.val % 11) * 512 + (i 1).val % 512; omega) (by show k.val = 0 * 2048 + k.val; omega)))

/-- The reference at one index. -/
theorem ref (x0 : S8192x2048.Idx → EReal) (x1 : S5632x2048.Idx → EReal) (i : S8192x5632.Idx) : Reference6Ideal.Read.val_main_v5 (F := Ideal) x0 x1 i
    = (∑ k : Fin 2048, x0 (ia i k) * x1 (ib i k) : EReal) := by
  refine (show _ = Reference6Ideal.Read.val_main_v4 (F := Ideal) x0 x1 i from rfl).trans ((Reference6Ideal.Read.val_main_v4_apply x0 x1 i).trans ?_)
  exact Finset.sum_congr rfl fun k _ => congrArg₂ (· * ·) (congrArg x0 (ext2 rfl rfl)) (congrArg x1 (ext2 rfl rfl))

theorem equal : algebraic_Kernel6Ideal_Reference6Ideal := by
  intro m ρ m' ρ' _ hagree
  refine ⟨fun c => (dats m 0 c).arrAt 2 cfg0.N, run_blocks m ρ, ?_⟩
  refine (θ_run Reference6Ideal.defs _ _).mono (fun r h c => ?_) (Reference6Ideal.Value.run (F := Ideal) m' ρ')
  obtain ⟨r0, rest⟩ := h c
  obtain ⟨g0, g1⟩ := hagree c
  refine ⟨funext fun i => (congrFun (r0.trans (Reference6Ideal.Read.val_main_v5_eq _ _)) i).trans ?_, rest⟩
  rw [g0, g1]
  exact (ref _ _ i).trans (arr m c i).symm

theorem quiet [Reference6Ideal.Facts] : quiescent_Reference6Ideal := fun m ρ _ =>
  (θ_run Reference6Ideal.defs _ _).mono (fun r h => ⟨fun c => (h c).2, sem_eq_zero_of_no_sems (by decide) r.2⟩)
    (Reference6Ideal.Value.run (F := Ideal) m ρ)
end Cert.Prod6
end
-- ==== Proof.Prod7.lean ====
/-
  The product `wg_down`: what its blocks hold, and the equality of its result with the reference's.
-/
module
public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Halves
@[expose] public section
set_option maxRecDepth 65536
noncomputable section
namespace Cert.Prod7
open Kernel7Ideal Kernel7Ideal.Gen Kernel7Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S5632x8192.Idx → EReal := m ((c : Thread nD τ).loc main_arg0)
abbrev B : S8192x2048.Idx → EReal := m ((c : Thread nD τ).loc main_arg1)
abbrev ia (i : S5632x2048.Idx) (k : Fin 8192) : S5632x8192.Idx := ix2 (i 0) k
abbrev ib (i : S5632x2048.Idx) (k : Fin 8192) : S8192x2048.Idx := ix2 k (i 1)

theorem prod (a : S512x4096.Idx → EReal) (b : S4096x1024.Idx → EReal) (y : S512x1024.Idx) :
    k0_pay1 (F := Ideal) a b y = (∑ k : Fin 4096, a (ix2 (y 0) k) * b (ix2 k (y 1)) : EReal) :=
  mulSum dot_S512x4096_S4096x1024_S512x1024_1_0_0_1_n_n 4096 rfl rfl a b y _ _ (fun k x => match x with | ⟨0, _⟩ => rfl | ⟨1, _⟩ => ValueIdx.contrEquiv1_symm_val dot_S512x4096_S4096x1024_S512x1024_1_0_0_1_n_n 4096 rfl rfl k)
    (fun k x => match x with | ⟨0, _⟩ => ValueIdx.contrEquiv1_symm_val dot_S512x4096_S4096x1024_S512x1024_1_0_0_1_n_n 4096 rfl rfl k | ⟨1, _⟩ => rfl)

theorem idx : ∀ t : Fin cfg0.N, win0_0.index t 0 = t.val / 4 ∧ win0_0.index t 1 = t.val % 2 ∧ win0_1.index t 0 = t.val % 2 ∧ win0_1.index t 1 = t.val / 2 % 2 := by decide +kernel

theorem rd0 (t : Fin cfg0.N) (y : S512x4096.Idx) (x : S5632x8192.Idx) (h0 : (x 0).val = (t.val / 4) * 512 + (y 0).val) (h1 : (x 1).val = (t.val % 2) * 4096 + (y 1).val) :
    iblk m c 0 t y = A m c x := by
  have e := idx t
  refine congrArg (A m c) (ext2 ?_ ?_)
  · show win0_0.index t 0 * 512 + 1 * (y 0).val = (x 0).val; omega
  · show win0_0.index t 1 * 4096 + 1 * (y 1).val = (x 1).val; omega

theorem rd1 (t : Fin cfg0.N) (y : S4096x1024.Idx) (x : S8192x2048.Idx) (h0 : (x 0).val = (t.val % 2) * 4096 + (y 0).val) (h1 : (x 1).val = (t.val / 2 % 2) * 1024 + (y 1).val) :
    iblk m c 1 t y = B m c x := by
  have e := idx t
  refine congrArg (B m c) (ext2 ?_ ?_)
  · show win0_1.index t 0 * 4096 + 1 * (y 0).val = (x 0).val; omega
  · show win0_1.index t 1 * 1024 + 1 * (y 1).val = (x 1).val; omega

/-- What a point of the first half leaves in the accumulator. -/
theorem even (n : ℕ) (hn : n < cfg0.N) (h : n % 2 = 0) (y : S512x1024.Idx) :
    (outsAt0 m c n hn).2 y = k0_pay1 (iblk m c 0 ⟨n, hn⟩) (iblk m c 1 ⟨n, hn⟩) y := by
  have e := outsAt0_A m c ⟨n, hn⟩ h (by show ¬ n % 2 = 1; omega)
  refine (congrFun (congrArg Prod.snd e) y).trans ?_
  dsimp only
  unfold sout0_A_0
  refine (congrFun (View.read_writes_full VS0_0 _ inb_S512x1024_S512x1024_0_0 _ _) y).trans ?_
  refine (congrFun (shapeCast_self _ _) y).trans (congrFun (congrArg₂ k0_pay1 ?_ ?_) y)
  · exact (View.readAt_full _ _ inb_S512x4096_S512x4096_0_0).trans (Memref.IsWhole.read_unread _ _)
  · exact (View.readAt_full _ _ inb_S4096x1024_S4096x1024_0_0).trans (Memref.IsWhole.read_unread _ _)

/-- What a point of the second half leaves in its block. -/
theorem odd (t : Fin cfg0.N) (h : t.val % 2 = 1) : (outsAt0 m c t.val t.isLt).1
    = k0_pay3 (iblk m c 0 t) (iblk m c 1 t) (outsAt0 m c (t.val - 1) (Nat.lt_of_le_of_lt (Nat.sub_le _ _) t.isLt)).2 := by
  have e := outsAt0_B m c t (by omega) h
  refine (congrArg Prod.fst e).trans ?_
  dsimp only
  unfold out0_B_2
  refine (View.read_writes_full VO0_2 _ inb_S512x1024_S512x1024_0_0 _ _).trans ?_
  refine congr (congrArg₂ k0_pay3 ?_ ?_) ?_
  · exact (View.readAt_full _ _ inb_S512x4096_S512x4096_0_0).trans (Memref.IsWhole.read_unread _ _)
  · exact (View.readAt_full _ _ inb_S4096x1024_S4096x1024_0_0).trans (Memref.IsWhole.read_unread _ _)
  · exact (View.readAt_full _ _ inb_S512x1024_S512x1024_0_0).trans (Memref.IsWhole.read_unread _ _)

theorem pair (t u : Fin cfg0.N) (hu : t.val = u.val + 1) (h : u.val % 2 = 0) (y : S512x1024.Idx) : (outsAt0 m c t.val t.isLt).1 y
    = k0_pay1 (iblk m c 0 u) (iblk m c 1 u) y + k0_pay1 (iblk m c 0 t) (iblk m c 1 t) y := by
  have e : ∀ (n : ℕ) (hn : n < cfg0.N), n = u.val → (outsAt0 m c n hn).2 y = k0_pay1 (iblk m c 0 u) (iblk m c 1 u) y := by
    rintro n hn rfl
    exact even m c _ _ h _
  refine (congrFun (odd m c t (by omega)) y).trans ?_
  show (outsAt0 m c (t.val - 1) _).2 y + k0_pay1 (iblk m c 0 t) (iblk m c 1 t) y = _
  rw [e _ _ (by omega)]

/-- The result of the call. -/
theorem arr (i : S5632x2048.Idx) : G2 m c i
    = (∑ k : Fin 8192, A m c (ia i k) * B m c (ib i k) : EReal) := by
  have h0 : (i 0).val < 5632 := (i 0).isLt
  have h1 : (i 1).val < 2048 := (i 1).isLt
  have hN : cfg0.N = 44 := N_0
  have hp : pt2Of i < cfg0.N := by rw [hN]; show 2 * (2 * ((i 0).val / 512 - 0) + 1 * ((i 1).val / 1024 - 0)) + 1 < 44; omega
  obtain ⟨t, ht⟩ : ∃ t : Fin cfg0.N, t = ⟨pt2Of i, hp⟩ := ⟨_, rfl⟩
  have hv : t.val = 2 * (2 * ((i 0).val / 512 - 0) + 1 * ((i 1).val / 1024 - 0)) + 1 := by rw [ht]
  obtain ⟨u, hu⟩ : ∃ u : Fin cfg0.N, t.val = u.val + 1 := ⟨⟨t.val - 1, by omega⟩, by show _ = t.val - 1 + 1; omega⟩
  have e : G2 m c i = (outsAt0 m c t.val t.isLt).1 (loc2Of i) := by
    subst ht
    exact (dif_pos hp).trans (congrFun (congrArg Prod.fst (outsAt0_sweep m c _ hp).symm) _)
  refine e.trans ((pair m c t u hu (by omega) _).trans ?_)
  refine Eq.trans (congrArg₂ (· + ·) ?_ ?_) (halves 4096 rfl _).symm
  · exact (prod _ _ _).trans (Finset.sum_congr rfl fun k _ => by
      have hk := k.isLt
      exact congrArg₂ (· * ·) (rd0 m c u _ _ (by show (i 0).val = (u.val / 4) * 512 + (i 0).val % 512; omega) (by show k.val = (u.val % 2) * 4096 + k.val; omega))
        (rd1 m c u _ _ (by show k.val = (u.val % 2) * 4096 + k.val; omega) (by show (i 1).val = (u.val / 2 % 2) * 1024 + (i 1).val % 1024; omega)))
  · exact (prod _ _ _).trans (Finset.sum_congr rfl fun k _ => by
      have hk := k.isLt
      exact congrArg₂ (· * ·) (rd0 m c t _ _ (by show (i 0).val = (t.val / 4) * 512 + (i 0).val % 512; omega) (by show (4096 + k.val) = (t.val % 2) * 4096 + k.val; omega))
        (rd1 m c t _ _ (by show (4096 + k.val) = (t.val % 2) * 4096 + k.val; omega) (by show (i 1).val = (t.val / 2 % 2) * 1024 + (i 1).val % 1024; omega)))

/-- The reference at one index. -/
theorem ref (x0 : S5632x8192.Idx → EReal) (x1 : S8192x2048.Idx → EReal) (i : S5632x2048.Idx) : Reference7Ideal.Read.val_main_v7 (F := Ideal) x0 x1 i
    = (∑ k : Fin 8192, x0 (ia i k) * x1 (ib i k) : EReal) := by
  refine (show _ = Reference7Ideal.Read.val_main_v6 (F := Ideal) x0 x1 i from rfl).trans ((Reference7Ideal.Read.val_main_v6_apply (F := Ideal) x0 x1 i).trans ((Reference7Ideal.Read.val_main_v5_apply x0 x1 _).trans ?_))
  refine Finset.sum_congr rfl fun k _ => ?_
  refine (mul_comm _ _).trans (congrArg₂ (· * ·) ?_ ?_)
  on_goal 2 => exact congrArg x1 (ext2 rfl rfl)
  exact (Reference7Ideal.Read.val_main_v1_apply (F := Ideal) x0 _).trans (congrArg x0 (ext2 rfl rfl))

theorem equal : algebraic_Kernel7Ideal_Reference7Ideal := by
  intro m ρ m' ρ' _ hagree
  refine ⟨fun c => G2 m c, run m ρ, ?_⟩
  refine (θ_run Reference7Ideal.defs _ _).mono (fun r h c => ?_) (Reference7Ideal.Value.run (F := Ideal) m' ρ')
  obtain ⟨r0, rest⟩ := h c
  obtain ⟨g0, g1⟩ := hagree c
  refine ⟨funext fun i => (congrFun (r0.trans (Reference7Ideal.Read.val_main_v7_eq _ _)) i).trans ?_, rest⟩
  rw [g0, g1]
  exact (ref _ _ i).trans (arr m c i).symm

theorem quiet [Reference7Ideal.Facts] : quiescent_Reference7Ideal := fun m ρ _ =>
  (θ_run Reference7Ideal.defs _ _).mono (fun r h => ⟨fun c => (h c).2, sem_eq_zero_of_no_sems (by decide) r.2⟩)
    (Reference7Ideal.Value.run (F := Ideal) m ρ)
end Cert.Prod7
end
-- ==== Proof.Prod8.lean ====
/-
  The product `dg_out`: what its blocks hold, and the equality of its result with the reference's.
-/
module
public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Halves
@[expose] public section
set_option maxRecDepth 65536
noncomputable section
namespace Cert.Prod8
open Kernel8Ideal Kernel8Ideal.Gen Kernel8Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x2048.Idx → EReal := m ((c : Thread nD τ).loc main_arg0)
abbrev B : S4096x2048.Idx → EReal := m ((c : Thread nD τ).loc main_arg1)
abbrev ia (i : S8192x4096.Idx) (k : Fin 2048) : S8192x2048.Idx := ix2 (i 0) k
abbrev ib (i : S8192x4096.Idx) (k : Fin 2048) : S4096x2048.Idx := ix2 (i 1) k

theorem prod (a : S2048x2048.Idx → EReal) (b : S512x2048.Idx → EReal) (y : S2048x512.Idx) :
    k0_pay1 (F := Ideal) a b y = (∑ k : Fin 2048, a (ix2 (y 0) k) * b (ix2 (y 1) k) : EReal) :=
  mulSum dot_S2048x2048_S512x2048_S2048x512_1_1_0_0_n_n 2048 rfl rfl a b y _ _ (fun k x => match x with | ⟨0, _⟩ => rfl | ⟨1, _⟩ => ValueIdx.contrEquiv1_symm_val dot_S2048x2048_S512x2048_S2048x512_1_1_0_0_n_n 2048 rfl rfl k)
    (fun k x => match x with | ⟨0, _⟩ => rfl | ⟨1, _⟩ => ValueIdx.contrEquiv1_symm_val dot_S2048x2048_S512x2048_S2048x512_1_1_0_0_n_n 2048 rfl rfl k)

theorem idx : ∀ t : Fin cfg0.N, win0_0.index t 0 = t.val / 8 ∧ win0_0.index t 1 = 0 ∧ win0_1.index t 0 = t.val % 8 ∧ win0_1.index t 1 = 0 ∧ win0_2.index t 0 = t.val / 8 ∧ win0_2.index t 1 = t.val % 8 := by decide +kernel

theorem rd0 (t : Fin cfg0.N) (y : S2048x2048.Idx) (x : S8192x2048.Idx) (h0 : (x 0).val = (t.val / 8) * 2048 + (y 0).val) (h1 : (x 1).val = 0 * 2048 + (y 1).val) :
    iblk m c 0 t y = A m c x := by
  have e := idx t
  refine congrArg (A m c) (ext2 ?_ ?_)
  · show win0_0.index t 0 * 2048 + 1 * (y 0).val = (x 0).val; omega
  · show win0_0.index t 1 * 2048 + 1 * (y 1).val = (x 1).val; omega

theorem rd1 (t : Fin cfg0.N) (y : S512x2048.Idx) (x : S4096x2048.Idx) (h0 : (x 0).val = (t.val % 8) * 512 + (y 0).val) (h1 : (x 1).val = 0 * 2048 + (y 1).val) :
    iblk m c 1 t y = B m c x := by
  have e := idx t
  refine congrArg (B m c) (ext2 ?_ ?_)
  · show win0_1.index t 0 * 512 + 1 * (y 0).val = (x 0).val; omega
  · show win0_1.index t 1 * 2048 + 1 * (y 1).val = (x 1).val; omega

/-- What a point leaves in its block. -/
theorem left (t : Fin cfg0.N) (y : S2048x512.Idx) : outsAt0 m c t y = k0_pay1 (iblk m c 0 t) (iblk m c 1 t) y := by
  unfold outsAt0 out0_A_2
  refine (congrFun (View.read_writes_full VO0_2 _ inb_S2048x512_S2048x512_0_0 _ _) y).trans ?_
  refine congrFun (congrArg₂ k0_pay1 ?_ ?_) y
  · exact (View.readAt_full _ _ inb_S2048x2048_S2048x2048_0_0).trans (Memref.IsWhole.read_unread _ _)
  · exact (View.readAt_full _ _ inb_S512x2048_S512x2048_0_0).trans (Memref.IsWhole.read_unread _ _)

/-- The result of the call. -/
theorem arr (i : S8192x4096.Idx) : (dats m 0 c).arrAt 2 cfg0.N i
    = (∑ k : Fin 2048, A m c (ia i k) * B m c (ib i k) : EReal) := by
  have h0 : (i 0).val < 8192 := (i 0).isLt
  have h1 : (i 1).val < 4096 := (i 1).isLt
  have hN : cfg0.N = 32 := N_0
  obtain ⟨t, ht⟩ : ∃ t : Fin cfg0.N, t.val = (i 0).val / 2048 * 8 + (i 1).val / 512 := ⟨⟨_, by omega⟩, rfl⟩
  obtain ⟨e00, e01, e10, e11, e20, e21⟩ := idx t
  have e : ((cfg0.win 2).blk t).view.emb (ix2 (n0 := 2048) (n1 := 512) ⟨(i 0).val % 2048, by omega⟩ ⟨(i 1).val % 512, by omega⟩) = i :=
    ext2 (by show win0_2.index t 0 * 2048 + 1 * ((i 0).val % 2048) = (i 0).val; rw [e20]; omega) (by show win0_2.index t 1 * 512 + 1 * ((i 1).val % 512) = (i 1).val; rw [e21]; omega)
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 8) * 2048 + (i 0).val % 2048; omega) (by show k.val = 0 * 2048 + k.val; omega))
        (rd1 m c t _ _ (by show (i 1).val = (t.val % 8) * 512 + (i 1).val % 512; omega) (by show k.val = 0 * 2048 + k.val; omega)))

/-- The reference at one index. -/
theorem ref (x0 : S8192x2048.Idx → EReal) (x1 : S4096x2048.Idx → EReal) (i : S8192x4096.Idx) : Reference8Ideal.Read.val_main_v5 (F := Ideal) x0 x1 i
    = (∑ k : Fin 2048, x0 (ia i k) * x1 (ib i k) : EReal) := by
  refine (show _ = Reference8Ideal.Read.val_main_v4 (F := Ideal) x0 x1 i from rfl).trans ((Reference8Ideal.Read.val_main_v4_apply x0 x1 i).trans ?_)
  exact Finset.sum_congr rfl fun k _ => congrArg₂ (· * ·) (congrArg x0 (ext2 rfl rfl)) (congrArg x1 (ext2 rfl rfl))

theorem equal : algebraic_Kernel8Ideal_Reference8Ideal := by
  intro m ρ m' ρ' _ hagree
  refine ⟨fun c => (dats m 0 c).arrAt 2 cfg0.N, run_blocks m ρ, ?_⟩
  refine (θ_run Reference8Ideal.defs _ _).mono (fun r h c => ?_) (Reference8Ideal.Value.run (F := Ideal) m' ρ')
  obtain ⟨r0, rest⟩ := h c
  obtain ⟨g0, g1⟩ := hagree c
  refine ⟨funext fun i => (congrFun (r0.trans (Reference8Ideal.Read.val_main_v5_eq _ _)) i).trans ?_, rest⟩
  rw [g0, g1]
  exact (ref _ _ i).trans (arr m c i).symm

theorem quiet [Reference8Ideal.Facts] : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)
end Cert.Prod8
end
-- ==== Proof.Prod9.lean ====
/-
  The product `wg_out`: what its blocks hold, and the equality of its result with the reference's.
-/
module
public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Halves
@[expose] public section
set_option maxRecDepth 65536
noncomputable section
namespace Cert.Prod9
open Kernel9Ideal Kernel9Ideal.Gen Kernel9Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S4096x8192.Idx → EReal := m ((c : Thread nD τ).loc main_arg0)
abbrev B : S8192x2048.Idx → EReal := m ((c : Thread nD τ).loc main_arg1)
abbrev ia (i : S4096x2048.Idx) (k : Fin 8192) : S4096x8192.Idx := ix2 (i 0) k
abbrev ib (i : S4096x2048.Idx) (k : Fin 8192) : S8192x2048.Idx := ix2 k (i 1)

theorem prod (a : S1024x4096.Idx → EReal) (b : S4096x1024.Idx → EReal) (y : S1024x1024.Idx) :
    k0_pay1 (F := Ideal) a b y = (∑ k : Fin 4096, a (ix2 (y 0) k) * b (ix2 k (y 1)) : EReal) :=
  mulSum dot_S1024x4096_S4096x1024_S1024x1024_1_0_0_1_n_n 4096 rfl rfl a b y _ _ (fun k x => match x with | ⟨0, _⟩ => rfl | ⟨1, _⟩ => ValueIdx.contrEquiv1_symm_val dot_S1024x4096_S4096x1024_S1024x1024_1_0_0_1_n_n 4096 rfl rfl k)
    (fun k x => match x with | ⟨0, _⟩ => ValueIdx.contrEquiv1_symm_val dot_S1024x4096_S4096x1024_S1024x1024_1_0_0_1_n_n 4096 rfl rfl k | ⟨1, _⟩ => rfl)

theorem idx : ∀ t : Fin cfg0.N, win0_0.index t 0 = t.val / 4 ∧ win0_0.index t 1 = t.val % 2 ∧ win0_1.index t 0 = t.val % 2 ∧ win0_1.index t 1 = t.val / 2 % 2 := by decide +kernel

theorem rd0 (t : Fin cfg0.N) (y : S1024x4096.Idx) (x : S4096x8192.Idx) (h0 : (x 0).val = (t.val / 4) * 1024 + (y 0).val) (h1 : (x 1).val = (t.val % 2) * 4096 + (y 1).val) :
    iblk m c 0 t y = A m c x := by
  have e := idx t
  refine congrArg (A m c) (ext2 ?_ ?_)
  · show win0_0.index t 0 * 1024 + 1 * (y 0).val = (x 0).val; omega
  · show win0_0.index t 1 * 4096 + 1 * (y 1).val = (x 1).val; omega

theorem rd1 (t : Fin cfg0.N) (y : S4096x1024.Idx) (x : S8192x2048.Idx) (h0 : (x 0).val = (t.val % 2) * 4096 + (y 0).val) (h1 : (x 1).val = (t.val / 2 % 2) * 1024 + (y 1).val) :
    iblk m c 1 t y = B m c x := by
  have e := idx t
  refine congrArg (B m c) (ext2 ?_ ?_)
  · show win0_1.index t 0 * 4096 + 1 * (y 0).val = (x 0).val; omega
  · show win0_1.index t 1 * 1024 + 1 * (y 1).val = (x 1).val; omega

/-- What a point of the first half leaves in the accumulator. -/
theorem even (n : ℕ) (hn : n < cfg0.N) (h : n % 2 = 0) (y : S1024x1024.Idx) :
    (outsAt0 m c n hn).2 y = k0_pay1 (iblk m c 0 ⟨n, hn⟩) (iblk m c 1 ⟨n, hn⟩) y := by
  have e := outsAt0_A m c ⟨n, hn⟩ h (by show ¬ n % 2 = 1; omega)
  refine (congrFun (congrArg Prod.snd e) y).trans ?_
  dsimp only
  unfold sout0_A_0
  refine (congrFun (View.read_writes_full VS0_0 _ inb_S1024x1024_S1024x1024_0_0 _ _) y).trans ?_
  refine (congrFun (shapeCast_self _ _) y).trans (congrFun (congrArg₂ k0_pay1 ?_ ?_) y)
  · exact (View.readAt_full _ _ inb_S1024x4096_S1024x4096_0_0).trans (Memref.IsWhole.read_unread _ _)
  · exact (View.readAt_full _ _ inb_S4096x1024_S4096x1024_0_0).trans (Memref.IsWhole.read_unread _ _)

/-- What a point of the second half leaves in its block. -/
theorem odd (t : Fin cfg0.N) (h : t.val % 2 = 1) : (outsAt0 m c t.val t.isLt).1
    = k0_pay3 (iblk m c 0 t) (iblk m c 1 t) (outsAt0 m c (t.val - 1) (Nat.lt_of_le_of_lt (Nat.sub_le _ _) t.isLt)).2 := by
  have e := outsAt0_B m c t (by omega) h
  refine (congrArg Prod.fst e).trans ?_
  dsimp only
  unfold out0_B_2
  refine (View.read_writes_full VO0_2 _ inb_S1024x1024_S1024x1024_0_0 _ _).trans ?_
  refine congr (congrArg₂ k0_pay3 ?_ ?_) ?_
  · exact (View.readAt_full _ _ inb_S1024x4096_S1024x4096_0_0).trans (Memref.IsWhole.read_unread _ _)
  · exact (View.readAt_full _ _ inb_S4096x1024_S4096x1024_0_0).trans (Memref.IsWhole.read_unread _ _)
  · exact (View.readAt_full _ _ inb_S1024x1024_S1024x1024_0_0).trans (Memref.IsWhole.read_unread _ _)

theorem pair (t u : Fin cfg0.N) (hu : t.val = u.val + 1) (h : u.val % 2 = 0) (y : S1024x1024.Idx) : (outsAt0 m c t.val t.isLt).1 y
    = k0_pay1 (iblk m c 0 u) (iblk m c 1 u) y + k0_pay1 (iblk m c 0 t) (iblk m c 1 t) y := by
  have e : ∀ (n : ℕ) (hn : n < cfg0.N), n = u.val → (outsAt0 m c n hn).2 y = k0_pay1 (iblk m c 0 u) (iblk m c 1 u) y := by
    rintro n hn rfl
    exact even m c _ _ h _
  refine (congrFun (odd m c t (by omega)) y).trans ?_
  show (outsAt0 m c (t.val - 1) _).2 y + k0_pay1 (iblk m c 0 t) (iblk m c 1 t) y = _
  rw [e _ _ (by omega)]

/-- The result of the call. -/
theorem arr (i : S4096x2048.Idx) : G2 m c i
    = (∑ k : Fin 8192, A m c (ia i k) * B m c (ib i k) : EReal) := by
  have h0 : (i 0).val < 4096 := (i 0).isLt
  have h1 : (i 1).val < 2048 := (i 1).isLt
  have hN : cfg0.N = 16 := N_0
  have hp : pt2Of i < cfg0.N := by rw [hN]; show 2 * (2 * ((i 0).val / 1024 - 0) + 1 * ((i 1).val / 1024 - 0)) + 1 < 16; omega
  obtain ⟨t, ht⟩ : ∃ t : Fin cfg0.N, t = ⟨pt2Of i, hp⟩ := ⟨_, rfl⟩
  have hv : t.val = 2 * (2 * ((i 0).val / 1024 - 0) + 1 * ((i 1).val / 1024 - 0)) + 1 := by rw [ht]
  obtain ⟨u, hu⟩ : ∃ u : Fin cfg0.N, t.val = u.val + 1 := ⟨⟨t.val - 1, by omega⟩, by show _ = t.val - 1 + 1; omega⟩
  have e : G2 m c i = (outsAt0 m c t.val t.isLt).1 (loc2Of i) := by
    subst ht
    exact (dif_pos hp).trans (congrFun (congrArg Prod.fst (outsAt0_sweep m c _ hp).symm) _)
  refine e.trans ((pair m c t u hu (by omega) _).trans ?_)
  refine Eq.trans (congrArg₂ (· + ·) ?_ ?_) (halves 4096 rfl _).symm
  · exact (prod _ _ _).trans (Finset.sum_congr rfl fun k _ => by
      have hk := k.isLt
      exact congrArg₂ (· * ·) (rd0 m c u _ _ (by show (i 0).val = (u.val / 4) * 1024 + (i 0).val % 1024; omega) (by show k.val = (u.val % 2) * 4096 + k.val; omega))
        (rd1 m c u _ _ (by show k.val = (u.val % 2) * 4096 + k.val; omega) (by show (i 1).val = (u.val / 2 % 2) * 1024 + (i 1).val % 1024; omega)))
  · exact (prod _ _ _).trans (Finset.sum_congr rfl fun k _ => by
      have hk := k.isLt
      exact congrArg₂ (· * ·) (rd0 m c t _ _ (by show (i 0).val = (t.val / 4) * 1024 + (i 0).val % 1024; omega) (by show (4096 + k.val) = (t.val % 2) * 4096 + k.val; omega))
        (rd1 m c t _ _ (by show (4096 + k.val) = (t.val % 2) * 4096 + k.val; omega) (by show (i 1).val = (t.val / 2 % 2) * 1024 + (i 1).val % 1024; omega)))

/-- The reference at one index. -/
theorem ref (x0 : S4096x8192.Idx → EReal) (x1 : S8192x2048.Idx → EReal) (i : S4096x2048.Idx) : Reference9Ideal.Read.val_main_v7 (F := Ideal) x0 x1 i
    = (∑ k : Fin 8192, x0 (ia i k) * x1 (ib i k) : EReal) := by
  refine (show _ = Reference9Ideal.Read.val_main_v6 (F := Ideal) x0 x1 i from rfl).trans ((Reference9Ideal.Read.val_main_v6_apply (F := Ideal) x0 x1 i).trans ((Reference9Ideal.Read.val_main_v5_apply x0 x1 _).trans ?_))
  refine Finset.sum_congr rfl fun k _ => ?_
  refine (mul_comm _ _).trans (congrArg₂ (· * ·) ?_ ?_)
  on_goal 2 => exact congrArg x1 (ext2 rfl rfl)
  exact (Reference9Ideal.Read.val_main_v1_apply (F := Ideal) x0 _).trans (congrArg x0 (ext2 rfl rfl))

theorem equal : algebraic_Kernel9Ideal_Reference9Ideal := by
  intro m ρ m' ρ' _ hagree
  refine ⟨fun c => G2 m c, run m ρ, ?_⟩
  refine (θ_run Reference9Ideal.defs _ _).mono (fun r h c => ?_) (Reference9Ideal.Value.run (F := Ideal) m' ρ')
  obtain ⟨r0, rest⟩ := h c
  obtain ⟨g0, g1⟩ := hagree c
  refine ⟨funext fun i => (congrFun (r0.trans (Reference9Ideal.Read.val_main_v7_eq _ _)) i).trans ?_, rest⟩
  rw [g0, g1]
  exact (ref _ _ i).trans (arr m c i).symm

theorem quiet [Reference9Ideal.Facts] : quiescent_Reference9Ideal := fun m ρ _ =>
  (θ_run Reference9Ideal.defs _ _).mono (fun r h => ⟨fun c => (h c).2, sem_eq_zero_of_no_sems (by decide) r.2⟩)
    (Reference9Ideal.Value.run (F := Ideal) m ρ)
end Cert.Prod9
end
-- ==== Proof.Prod10.lean ====
/-
  The product `dg_pg`: what its blocks hold, and the equality of its result with the reference's.
-/
module
public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Halves
@[expose] public section
set_option maxRecDepth 65536
noncomputable section
namespace Cert.Prod10
open Kernel10Ideal Kernel10Ideal.Gen Kernel10Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x2048.Idx → EReal := m ((c : Thread nD τ).loc main_arg0)
abbrev B : S2048x2048.Idx → EReal := m ((c : Thread nD τ).loc main_arg1)
abbrev ia (i : S8192x2048.Idx) (k : Fin 2048) : S8192x2048.Idx := ix2 (i 0) k
abbrev ib (i : S8192x2048.Idx) (k : Fin 2048) : S2048x2048.Idx := ix2 (i 1) k

theorem prod (a : S2048x2048.Idx → EReal) (b : S512x2048.Idx → EReal) (y : S2048x512.Idx) :
    k0_pay1 (F := Ideal) a b y = (∑ k : Fin 2048, a (ix2 (y 0) k) * b (ix2 (y 1) k) : EReal) :=
  mulSum dot_S2048x2048_S512x2048_S2048x512_1_1_0_0_n_n 2048 rfl rfl a b y _ _ (fun k x => match x with | ⟨0, _⟩ => rfl | ⟨1, _⟩ => ValueIdx.contrEquiv1_symm_val dot_S2048x2048_S512x2048_S2048x512_1_1_0_0_n_n 2048 rfl rfl k)
    (fun k x => match x with | ⟨0, _⟩ => rfl | ⟨1, _⟩ => ValueIdx.contrEquiv1_symm_val dot_S2048x2048_S512x2048_S2048x512_1_1_0_0_n_n 2048 rfl rfl k)

theorem idx : ∀ t : Fin cfg0.N, win0_0.index t 0 = t.val / 4 ∧ win0_0.index t 1 = 0 ∧ win0_1.index t 0 = t.val % 4 ∧ win0_1.index t 1 = 0 ∧ win0_2.index t 0 = t.val / 4 ∧ win0_2.index t 1 = t.val % 4 := by decide +kernel

theorem rd0 (t : Fin cfg0.N) (y : S2048x2048.Idx) (x : S8192x2048.Idx) (h0 : (x 0).val = (t.val / 4) * 2048 + (y 0).val) (h1 : (x 1).val = 0 * 2048 + (y 1).val) :
    iblk m c 0 t y = A m c x := by
  have e := idx t
  refine congrArg (A m c) (ext2 ?_ ?_)
  · show win0_0.index t 0 * 2048 + 1 * (y 0).val = (x 0).val; omega
  · show win0_0.index t 1 * 2048 + 1 * (y 1).val = (x 1).val; omega

theorem rd1 (t : Fin cfg0.N) (y : S512x2048.Idx) (x : S2048x2048.Idx) (h0 : (x 0).val = (t.val % 4) * 512 + (y 0).val) (h1 : (x 1).val = 0 * 2048 + (y 1).val) :
    iblk m c 1 t y = B m c x := by
  have e := idx t
  refine congrArg (B m c) (ext2 ?_ ?_)
  · show win0_1.index t 0 * 512 + 1 * (y 0).val = (x 0).val; omega
  · show win0_1.index t 1 * 2048 + 1 * (y 1).val = (x 1).val; omega

/-- What a point leaves in its block. -/
theorem left (t : Fin cfg0.N) (y : S2048x512.Idx) : outsAt0 m c t y = k0_pay1 (iblk m c 0 t) (iblk m c 1 t) y := by
  unfold outsAt0 out0_A_2
  refine (congrFun (View.read_writes_full VO0_2 _ inb_S2048x512_S2048x512_0_0 _ _) y).trans ?_
  refine congrFun (congrArg₂ k0_pay1 ?_ ?_) y
  · exact (View.readAt_full _ _ inb_S2048x2048_S2048x2048_0_0).trans (Memref.IsWhole.read_unread _ _)
  · exact (View.readAt_full _ _ inb_S512x2048_S512x2048_0_0).trans (Memref.IsWhole.read_unread _ _)

/-- The result of the call. -/
theorem arr (i : S8192x2048.Idx) : (dats m 0 c).arrAt 2 cfg0.N i
    = (∑ k : Fin 2048, A m c (ia i k) * B m c (ib i k) : EReal) := by
  have h0 : (i 0).val < 8192 := (i 0).isLt
  have h1 : (i 1).val < 2048 := (i 1).isLt
  have hN : cfg0.N = 16 := N_0
  obtain ⟨t, ht⟩ : ∃ t : Fin cfg0.N, t.val = (i 0).val / 2048 * 4 + (i 1).val / 512 := ⟨⟨_, by omega⟩, rfl⟩
  obtain ⟨e00, e01, e10, e11, e20, e21⟩ := idx t
  have e : ((cfg0.win 2).blk t).view.emb (ix2 (n0 := 2048) (n1 := 512) ⟨(i 0).val % 2048, by omega⟩ ⟨(i 1).val % 512, by omega⟩) = i :=
    ext2 (by show win0_2.index t 0 * 2048 + 1 * ((i 0).val % 2048) = (i 0).val; rw [e20]; omega) (by show win0_2.index t 1 * 512 + 1 * ((i 1).val % 512) = (i 1).val; rw [e21]; omega)
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 4) * 2048 + (i 0).val % 2048; omega) (by show k.val = 0 * 2048 + k.val; omega))
        (rd1 m c t _ _ (by show (i 1).val = (t.val % 4) * 512 + (i 1).val % 512; omega) (by show k.val = 0 * 2048 + k.val; omega)))

/-- The reference at one index. -/
theorem ref (x0 : S8192x2048.Idx → EReal) (x1 : S2048x2048.Idx → EReal) (i : S8192x2048.Idx) : Reference10Ideal.Read.val_main_v5 (F := Ideal) x0 x1 i
    = (∑ k : Fin 2048, x0 (ia i k) * x1 (ib i k) : EReal) := by
  refine (show _ = Reference10Ideal.Read.val_main_v4 (F := Ideal) x0 x1 i from rfl).trans ((Reference10Ideal.Read.val_main_v4_apply x0 x1 i).trans ?_)
  exact Finset.sum_congr rfl fun k _ => congrArg₂ (· * ·) (congrArg x0 (ext2 rfl rfl)) (congrArg x1 (ext2 rfl rfl))

theorem equal : algebraic_Kernel10Ideal_Reference10Ideal := by
  intro m ρ m' ρ' _ hagree
  refine ⟨fun c => (dats m 0 c).arrAt 2 cfg0.N, run_blocks m ρ, ?_⟩
  refine (θ_run Reference10Ideal.defs _ _).mono (fun r h c => ?_) (Reference10Ideal.Value.run (F := Ideal) m' ρ')
  obtain ⟨r0, rest⟩ := h c
  obtain ⟨g0, g1⟩ := hagree c
  refine ⟨funext fun i => (congrFun (r0.trans (Reference10Ideal.Read.val_main_v5_eq _ _)) i).trans ?_, rest⟩
  rw [g0, g1]
  exact (ref _ _ i).trans (arr m c i).symm

theorem quiet [Reference10Ideal.Facts] : quiescent_Reference10Ideal := fun m ρ _ =>
  (θ_run Reference10Ideal.defs _ _).mono (fun r h => ⟨fun c => (h c).2, sem_eq_zero_of_no_sems (by decide) r.2⟩)
    (Reference10Ideal.Value.run (F := Ideal) m ρ)
end Cert.Prod10
end
-- ==== Proof.Prod11.lean ====
/-
  The product `wg_pg`: what its blocks hold, and the equality of its result with the reference's.
-/
module
public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Halves
@[expose] public section
set_option maxRecDepth 65536
noncomputable section
namespace Cert.Prod11
open Kernel11Ideal Kernel11Ideal.Gen Kernel11Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S2048x8192.Idx → EReal := m ((c : Thread nD τ).loc main_arg0)
abbrev B : S8192x2048.Idx → EReal := m ((c : Thread nD τ).loc main_arg1)
abbrev ia (i : S2048x2048.Idx) (k : Fin 8192) : S2048x8192.Idx := ix2 (i 0) k
abbrev ib (i : S2048x2048.Idx) (k : Fin 8192) : S8192x2048.Idx := ix2 k (i 1)

theorem prod (a : S1024x4096.Idx → EReal) (b : S4096x1024.Idx → EReal) (y : S1024x1024.Idx) :
    k0_pay1 (F := Ideal) a b y = (∑ k : Fin 4096, a (ix2 (y 0) k) * b (ix2 k (y 1)) : EReal) :=
  mulSum dot_S1024x4096_S4096x1024_S1024x1024_1_0_0_1_n_n 4096 rfl rfl a b y _ _ (fun k x => match x with | ⟨0, _⟩ => rfl | ⟨1, _⟩ => ValueIdx.contrEquiv1_symm_val dot_S1024x4096_S4096x1024_S1024x1024_1_0_0_1_n_n 4096 rfl rfl k)
    (fun k x => match x with | ⟨0, _⟩ => ValueIdx.contrEquiv1_symm_val dot_S1024x4096_S4096x1024_S1024x1024_1_0_0_1_n_n 4096 rfl rfl k | ⟨1, _⟩ => rfl)

theorem idx : ∀ t : Fin cfg0.N, win0_0.index t 0 = t.val / 4 ∧ win0_0.index t 1 = t.val % 2 ∧ win0_1.index t 0 = t.val % 2 ∧ win0_1.index t 1 = t.val / 2 % 2 := by decide +kernel

theorem rd0 (t : Fin cfg0.N) (y : S1024x4096.Idx) (x : S2048x8192.Idx) (h0 : (x 0).val = (t.val / 4) * 1024 + (y 0).val) (h1 : (x 1).val = (t.val % 2) * 4096 + (y 1).val) :
    iblk m c 0 t y = A m c x := by
  have e := idx t
  refine congrArg (A m c) (ext2 ?_ ?_)
  · show win0_0.index t 0 * 1024 + 1 * (y 0).val = (x 0).val; omega
  · show win0_0.index t 1 * 4096 + 1 * (y 1).val = (x 1).val; omega

theorem rd1 (t : Fin cfg0.N) (y : S4096x1024.Idx) (x : S8192x2048.Idx) (h0 : (x 0).val = (t.val % 2) * 4096 + (y 0).val) (h1 : (x 1).val = (t.val / 2 % 2) * 1024 + (y 1).val) :
    iblk m c 1 t y = B m c x := by
  have e := idx t
  refine congrArg (B m c) (ext2 ?_ ?_)
  · show win0_1.index t 0 * 4096 + 1 * (y 0).val = (x 0).val; omega
  · show win0_1.index t 1 * 1024 + 1 * (y 1).val = (x 1).val; omega

/-- What a point of the first half leaves in the accumulator. -/
theorem even (n : ℕ) (hn : n < cfg0.N) (h : n % 2 = 0) (y : S1024x1024.Idx) :
    (outsAt0 m c n hn).2 y = k0_pay1 (iblk m c 0 ⟨n, hn⟩) (iblk m c 1 ⟨n, hn⟩) y := by
  have e := outsAt0_A m c ⟨n, hn⟩ h (by show ¬ n % 2 = 1; omega)
  refine (congrFun (congrArg Prod.snd e) y).trans ?_
  dsimp only
  unfold sout0_A_0
  refine (congrFun (View.read_writes_full VS0_0 _ inb_S1024x1024_S1024x1024_0_0 _ _) y).trans ?_
  refine (congrFun (shapeCast_self _ _) y).trans (congrFun (congrArg₂ k0_pay1 ?_ ?_) y)
  · exact (View.readAt_full _ _ inb_S1024x4096_S1024x4096_0_0).trans (Memref.IsWhole.read_unread _ _)
  · exact (View.readAt_full _ _ inb_S4096x1024_S4096x1024_0_0).trans (Memref.IsWhole.read_unread _ _)

/-- What a point of the second half leaves in its block. -/
theorem odd (t : Fin cfg0.N) (h : t.val % 2 = 1) : (outsAt0 m c t.val t.isLt).1
    = k0_pay3 (iblk m c 0 t) (iblk m c 1 t) (outsAt0 m c (t.val - 1) (Nat.lt_of_le_of_lt (Nat.sub_le _ _) t.isLt)).2 := by
  have e := outsAt0_B m c t (by omega) h
  refine (congrArg Prod.fst e).trans ?_
  dsimp only
  unfold out0_B_2
  refine (View.read_writes_full VO0_2 _ inb_S1024x1024_S1024x1024_0_0 _ _).trans ?_
  refine congr (congrArg₂ k0_pay3 ?_ ?_) ?_
  · exact (View.readAt_full _ _ inb_S1024x4096_S1024x4096_0_0).trans (Memref.IsWhole.read_unread _ _)
  · exact (View.readAt_full _ _ inb_S4096x1024_S4096x1024_0_0).trans (Memref.IsWhole.read_unread _ _)
  · exact (View.readAt_full _ _ inb_S1024x1024_S1024x1024_0_0).trans (Memref.IsWhole.read_unread _ _)

theorem pair (t u : Fin cfg0.N) (hu : t.val = u.val + 1) (h : u.val % 2 = 0) (y : S1024x1024.Idx) : (outsAt0 m c t.val t.isLt).1 y
    = k0_pay1 (iblk m c 0 u) (iblk m c 1 u) y + k0_pay1 (iblk m c 0 t) (iblk m c 1 t) y := by
  have e : ∀ (n : ℕ) (hn : n < cfg0.N), n = u.val → (outsAt0 m c n hn).2 y = k0_pay1 (iblk m c 0 u) (iblk m c 1 u) y := by
    rintro n hn rfl
    exact even m c _ _ h _
  refine (congrFun (odd m c t (by omega)) y).trans ?_
  show (outsAt0 m c (t.val - 1) _).2 y + k0_pay1 (iblk m c 0 t) (iblk m c 1 t) y = _
  rw [e _ _ (by omega)]

/-- The result of the call. -/
theorem arr (i : S2048x2048.Idx) : G2 m c i
    = (∑ k : Fin 8192, A m c (ia i k) * B m c (ib i k) : EReal) := by
  have h0 : (i 0).val < 2048 := (i 0).isLt
  have h1 : (i 1).val < 2048 := (i 1).isLt
  have hN : cfg0.N = 8 := N_0
  have hp : pt2Of i < cfg0.N := by rw [hN]; show 2 * (2 * ((i 0).val / 1024 - 0) + 1 * ((i 1).val / 1024 - 0)) + 1 < 8; omega
  obtain ⟨t, ht⟩ : ∃ t : Fin cfg0.N, t = ⟨pt2Of i, hp⟩ := ⟨_, rfl⟩
  have hv : t.val = 2 * (2 * ((i 0).val / 1024 - 0) + 1 * ((i 1).val / 1024 - 0)) + 1 := by rw [ht]
  obtain ⟨u, hu⟩ : ∃ u : Fin cfg0.N, t.val = u.val + 1 := ⟨⟨t.val - 1, by omega⟩, by show _ = t.val - 1 + 1; omega⟩
  have e : G2 m c i = (outsAt0 m c t.val t.isLt).1 (loc2Of i) := by
    subst ht
    exact (dif_pos hp).trans (congrFun (congrArg Prod.fst (outsAt0_sweep m c _ hp).symm) _)
  refine e.trans ((pair m c t u hu (by omega) _).trans ?_)
  refine Eq.trans (congrArg₂ (· + ·) ?_ ?_) (halves 4096 rfl _).symm
  · exact (prod _ _ _).trans (Finset.sum_congr rfl fun k _ => by
      have hk := k.isLt
      exact congrArg₂ (· * ·) (rd0 m c u _ _ (by show (i 0).val = (u.val / 4) * 1024 + (i 0).val % 1024; omega) (by show k.val = (u.val % 2) * 4096 + k.val; omega))
        (rd1 m c u _ _ (by show k.val = (u.val % 2) * 4096 + k.val; omega) (by show (i 1).val = (u.val / 2 % 2) * 1024 + (i 1).val % 1024; omega)))
  · exact (prod _ _ _).trans (Finset.sum_congr rfl fun k _ => by
      have hk := k.isLt
      exact congrArg₂ (· * ·) (rd0 m c t _ _ (by show (i 0).val = (t.val / 4) * 1024 + (i 0).val % 1024; omega) (by show (4096 + k.val) = (t.val % 2) * 4096 + k.val; omega))
        (rd1 m c t _ _ (by show (4096 + k.val) = (t.val % 2) * 4096 + k.val; omega) (by show (i 1).val = (t.val / 2 % 2) * 1024 + (i 1).val % 1024; omega)))

/-- The reference at one index. -/
theorem ref (x0 : S2048x8192.Idx → EReal) (x1 : S8192x2048.Idx → EReal) (i : S2048x2048.Idx) : Reference11Ideal.Read.val_main_v7 (F := Ideal) x0 x1 i
    = (∑ k : Fin 8192, x0 (ia i k) * x1 (ib i k) : EReal) := by
  refine (show _ = Reference11Ideal.Read.val_main_v6 (F := Ideal) x0 x1 i from rfl).trans ((Reference11Ideal.Read.val_main_v6_apply (F := Ideal) x0 x1 i).trans ((Reference11Ideal.Read.val_main_v5_apply x0 x1 _).trans ?_))
  refine Finset.sum_congr rfl fun k _ => ?_
  refine (mul_comm _ _).trans (congrArg₂ (· * ·) ?_ ?_)
  on_goal 2 => exact congrArg x1 (ext2 rfl rfl)
  exact (Reference11Ideal.Read.val_main_v1_apply (F := Ideal) x0 _).trans (congrArg x0 (ext2 rfl rfl))

theorem equal : algebraic_Kernel11Ideal_Reference11Ideal := by
  intro m ρ m' ρ' _ hagree
  refine ⟨fun c => G2 m c, run m ρ, ?_⟩
  refine (θ_run Reference11Ideal.defs _ _).mono (fun r h c => ?_) (Reference11Ideal.Value.run (F := Ideal) m' ρ')
  obtain ⟨r0, rest⟩ := h c
  obtain ⟨g0, g1⟩ := hagree c
  refine ⟨funext fun i => (congrFun (r0.trans (Reference11Ideal.Read.val_main_v7_eq _ _)) i).trans ?_, rest⟩
  rw [g0, g1]
  exact (ref _ _ i).trans (arr m c i).symm

theorem quiet [Reference11Ideal.Facts] : quiescent_Reference11Ideal := fun m ρ _ =>
  (θ_run Reference11Ideal.defs _ _).mono (fun r h => ⟨fun c => (h c).2, sem_eq_zero_of_no_sems (by decide) r.2⟩)
    (Reference11Ideal.Value.run (F := Ideal) m ρ)
end Cert.Prod11
end
-- ==== Proof.Prod12.lean ====
/-
  The product `mm_in`: what its blocks hold, and the equality of its result with the reference's.
-/
module
public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Halves
@[expose] public section
set_option maxRecDepth 65536
noncomputable section
namespace Cert.Prod12
open Kernel12Ideal Kernel12Ideal.Gen Kernel12Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x2048.Idx → EReal := m ((c : Thread nD τ).loc main_arg0)
abbrev B : S2048x10240.Idx → EReal := m ((c : Thread nD τ).loc main_arg1)
abbrev ia (i : S8192x10240.Idx) (k : Fin 2048) : S8192x2048.Idx := ix2 (i 0) k
abbrev ib (i : S8192x10240.Idx) (k : Fin 2048) : S2048x10240.Idx := ix2 k (i 1)

theorem prod (a : S2048x2048.Idx → EReal) (b : S2048x512.Idx → EReal) (y : S2048x512.Idx) :
    k0_pay1 (F := Ideal) a b y = (∑ k : Fin 2048, a (ix2 (y 0) k) * b (ix2 k (y 1)) : EReal) :=
  mulSum dot_S2048x2048_S2048x512_S2048x512_1_0_0_1_n_n 2048 rfl rfl a b y _ _ (fun k x => match x with | ⟨0, _⟩ => rfl | ⟨1, _⟩ => ValueIdx.contrEquiv1_symm_val dot_S2048x2048_S2048x512_S2048x512_1_0_0_1_n_n 2048 rfl rfl k)
    (fun k x => match x with | ⟨0, _⟩ => ValueIdx.contrEquiv1_symm_val dot_S2048x2048_S2048x512_S2048x512_1_0_0_1_n_n 2048 rfl rfl k | ⟨1, _⟩ => rfl)

theorem idx : ∀ t : Fin cfg0.N, win0_0.index t 0 = t.val / 20 ∧ win0_0.index t 1 = 0 ∧ win0_1.index t 0 = 0 ∧ win0_1.index t 1 = t.val % 20 ∧ win0_2.index t 0 = t.val / 20 ∧ win0_2.index t 1 = t.val % 20 := by decide +kernel

theorem rd0 (t : Fin cfg0.N) (y : S2048x2048.Idx) (x : S8192x2048.Idx) (h0 : (x 0).val = (t.val / 20) * 2048 + (y 0).val) (h1 : (x 1).val = 0 * 2048 + (y 1).val) :
    iblk m c 0 t y = A m c x := by
  have e := idx t
  refine congrArg (A m c) (ext2 ?_ ?_)
  · show win0_0.index t 0 * 2048 + 1 * (y 0).val = (x 0).val; omega
  · show win0_0.index t 1 * 2048 + 1 * (y 1).val = (x 1).val; omega

theorem rd1 (t : Fin cfg0.N) (y : S2048x512.Idx) (x : S2048x10240.Idx) (h0 : (x 0).val = 0 * 2048 + (y 0).val) (h1 : (x 1).val = (t.val % 20) * 512 + (y 1).val) :
    iblk m c 1 t y = B m c x := by
  have e := idx t
  refine congrArg (B m c) (ext2 ?_ ?_)
  · show win0_1.index t 0 * 2048 + 1 * (y 0).val = (x 0).val; omega
  · show win0_1.index t 1 * 512 + 1 * (y 1).val = (x 1).val; omega

/-- What a point leaves in its block. -/
theorem left (t : Fin cfg0.N) (y : S2048x512.Idx) : outsAt0 m c t y = k0_pay1 (iblk m c 0 t) (iblk m c 1 t) y := by
  unfold outsAt0 out0_A_2
  refine (congrFun (View.read_writes_full VO0_2 _ inb_S2048x512_S2048x512_0_0 _ _) y).trans ?_
  refine congrFun (congrArg₂ k0_pay1 ?_ ?_) y
  · exact (View.readAt_full _ _ inb_S2048x2048_S2048x2048_0_0).trans (Memref.IsWhole.read_unread _ _)
  · exact (View.readAt_full _ _ inb_S2048x512_S2048x512_0_0).trans (Memref.IsWhole.read_unread _ _)

/-- The result of the call. -/
theorem arr (i : S8192x10240.Idx) : (dats m 0 c).arrAt 2 cfg0.N i
    = (∑ k : Fin 2048, A m c (ia i k) * B m c (ib i k) : EReal) := by
  have h0 : (i 0).val < 8192 := (i 0).isLt
  have h1 : (i 1).val < 10240 := (i 1).isLt
  have hN : cfg0.N = 80 := N_0
  obtain ⟨t, ht⟩ : ∃ t : Fin cfg0.N, t.val = (i 0).val / 2048 * 20 + (i 1).val / 512 := ⟨⟨_, by omega⟩, rfl⟩
  obtain ⟨e00, e01, e10, e11, e20, e21⟩ := idx t
  have e : ((cfg0.win 2).blk t).view.emb (ix2 (n0 := 2048) (n1 := 512) ⟨(i 0).val % 2048, by omega⟩ ⟨(i 1).val % 512, by omega⟩) = i :=
    ext2 (by show win0_2.index t 0 * 2048 + 1 * ((i 0).val % 2048) = (i 0).val; rw [e20]; omega) (by show win0_2.index t 1 * 512 + 1 * ((i 1).val % 512) = (i 1).val; rw [e21]; omega)
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 20) * 2048 + (i 0).val % 2048; omega) (by show k.val = 0 * 2048 + k.val; omega))
        (rd1 m c t _ _ (by show k.val = 0 * 2048 + k.val; omega) (by show (i 1).val = (t.val % 20) * 512 + (i 1).val % 512; omega)))

/-- The reference at one index. -/
theorem ref (x0 : S8192x2048.Idx → EReal) (x1 : S2048x10240.Idx → EReal) (i : S8192x10240.Idx) : Reference12Ideal.Read.val_main_v3 (F := Ideal) x0 x1 i
    = (∑ k : Fin 2048, x0 (ia i k) * x1 (ib i k) : EReal) := by
  refine (show _ = Reference12Ideal.Read.val_main_v2 (F := Ideal) x0 x1 i from rfl).trans ((Reference12Ideal.Read.val_main_v2_apply x0 x1 i).trans ?_)
  exact Finset.sum_congr rfl fun k _ => congrArg₂ (· * ·) (congrArg x0 (ext2 rfl rfl)) (congrArg x1 (ext2 rfl rfl))

theorem equal : algebraic_Kernel12Ideal_Reference12Ideal := by
  intro m ρ m' ρ' _ hagree
  refine ⟨fun c => (dats m 0 c).arrAt 2 cfg0.N, run_blocks m ρ, ?_⟩
  refine (θ_run Reference12Ideal.defs _ _).mono (fun r h c => ?_) (Reference12Ideal.Value.run (F := Ideal) m' ρ')
  obtain ⟨r0, rest⟩ := h c
  obtain ⟨g0, g1⟩ := hagree c
  refine ⟨funext fun i => (congrFun (r0.trans (Reference12Ideal.Read.val_main_v3_eq _ _)) i).trans ?_, rest⟩
  rw [g0, g1]
  exact (ref _ _ i).trans (arr m c i).symm

theorem quiet [Reference12Ideal.Facts] : quiescent_Reference12Ideal := fun m ρ _ =>
  (θ_run Reference12Ideal.defs _ _).mono (fun r h => ⟨fun c => (h c).2, sem_eq_zero_of_no_sems (by decide) r.2⟩)
    (Reference12Ideal.Value.run (F := Ideal) m ρ)
end Cert.Prod12
end
-- ==== Proof.Prod13.lean ====
/-
  The product `mm_up`: what its blocks hold, and the equality of its result with the reference's.
-/
module
public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Halves
@[expose] public section
set_option maxRecDepth 65536
noncomputable section
namespace Cert.Prod13
open Kernel13Ideal Kernel13Ideal.Gen Kernel13Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x2048.Idx → EReal := m ((c : Thread nD τ).loc main_arg0)
abbrev B : S2048x11264.Idx → EReal := m ((c : Thread nD τ).loc main_arg1)
abbrev ia (i : S8192x11264.Idx) (k : Fin 2048) : S8192x2048.Idx := ix2 (i 0) k
abbrev ib (i : S8192x11264.Idx) (k : Fin 2048) : S2048x11264.Idx := ix2 k (i 1)

theorem prod (a : S2048x2048.Idx → EReal) (b : S2048x512.Idx → EReal) (y : S2048x512.Idx) :
    k0_pay1 (F := Ideal) a b y = (∑ k : Fin 2048, a (ix2 (y 0) k) * b (ix2 k (y 1)) : EReal) :=
  mulSum dot_S2048x2048_S2048x512_S2048x512_1_0_0_1_n_n 2048 rfl rfl a b y _ _ (fun k x => match x with | ⟨0, _⟩ => rfl | ⟨1, _⟩ => ValueIdx.contrEquiv1_symm_val dot_S2048x2048_S2048x512_S2048x512_1_0_0_1_n_n 2048 rfl rfl k)
    (fun k x => match x with | ⟨0, _⟩ => ValueIdx.contrEquiv1_symm_val dot_S2048x2048_S2048x512_S2048x512_1_0_0_1_n_n 2048 rfl rfl k | ⟨1, _⟩ => rfl)

theorem idx : ∀ t : Fin cfg0.N, win0_0.index t 0 = t.val / 22 ∧ win0_0.index t 1 = 0 ∧ win0_1.index t 0 = 0 ∧ win0_1.index t 1 = t.val % 22 ∧ win0_2.index t 0 = t.val / 22 ∧ win0_2.index t 1 = t.val % 22 := by decide +kernel

theorem rd0 (t : Fin cfg0.N) (y : S2048x2048.Idx) (x : S8192x2048.Idx) (h0 : (x 0).val = (t.val / 22) * 2048 + (y 0).val) (h1 : (x 1).val = 0 * 2048 + (y 1).val) :
    iblk m c 0 t y = A m c x := by
  have e := idx t
  refine congrArg (A m c) (ext2 ?_ ?_)
  · show win0_0.index t 0 * 2048 + 1 * (y 0).val = (x 0).val; omega
  · show win0_0.index t 1 * 2048 + 1 * (y 1).val = (x 1).val; omega

theorem rd1 (t : Fin cfg0.N) (y : S2048x512.Idx) (x : S2048x11264.Idx) (h0 : (x 0).val = 0 * 2048 + (y 0).val) (h1 : (x 1).val = (t.val % 22) * 512 + (y 1).val) :
    iblk m c 1 t y = B m c x := by
  have e := idx t
  refine congrArg (B m c) (ext2 ?_ ?_)
  · show win0_1.index t 0 * 2048 + 1 * (y 0).val = (x 0).val; omega
  · show win0_1.index t 1 * 512 + 1 * (y 1).val = (x 1).val; omega

/-- What a point leaves in its block. -/
theorem left (t : Fin cfg0.N) (y : S2048x512.Idx) : outsAt0 m c t y = k0_pay1 (iblk m c 0 t) (iblk m c 1 t) y := by
  unfold outsAt0 out0_A_2
  refine (congrFun (View.read_writes_full VO0_2 _ inb_S2048x512_S2048x512_0_0 _ _) y).trans ?_
  refine congrFun (congrArg₂ k0_pay1 ?_ ?_) y
  · exact (View.readAt_full _ _ inb_S2048x2048_S2048x2048_0_0).trans (Memref.IsWhole.read_unread _ _)
  · exact (View.readAt_full _ _ inb_S2048x512_S2048x512_0_0).trans (Memref.IsWhole.read_unread _ _)

/-- The result of the call. -/
theorem arr (i : S8192x11264.Idx) : (dats m 0 c).arrAt 2 cfg0.N i
    = (∑ k : Fin 2048, A m c (ia i k) * B m c (ib i k) : EReal) := by
  have h0 : (i 0).val < 8192 := (i 0).isLt
  have h1 : (i 1).val < 11264 := (i 1).isLt
  have hN : cfg0.N = 88 := N_0
  obtain ⟨t, ht⟩ : ∃ t : Fin cfg0.N, t.val = (i 0).val / 2048 * 22 + (i 1).val / 512 := ⟨⟨_, by omega⟩, rfl⟩
  obtain ⟨e00, e01, e10, e11, e20, e21⟩ := idx t
  have e : ((cfg0.win 2).blk t).view.emb (ix2 (n0 := 2048) (n1 := 512) ⟨(i 0).val % 2048, by omega⟩ ⟨(i 1).val % 512, by omega⟩) = i :=
    ext2 (by show win0_2.index t 0 * 2048 + 1 * ((i 0).val % 2048) = (i 0).val; rw [e20]; omega) (by show win0_2.index t 1 * 512 + 1 * ((i 1).val % 512) = (i 1).val; rw [e21]; omega)
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 22) * 2048 + (i 0).val % 2048; omega) (by show k.val = 0 * 2048 + k.val; omega))
        (rd1 m c t _ _ (by show k.val = 0 * 2048 + k.val; omega) (by show (i 1).val = (t.val % 22) * 512 + (i 1).val % 512; omega)))

/-- The reference at one index. -/
theorem ref (x0 : S8192x2048.Idx → EReal) (x1 : S2048x11264.Idx → EReal) (i : S8192x11264.Idx) : Reference13Ideal.Read.val_main_v3 (F := Ideal) x0 x1 i
    = (∑ k : Fin 2048, x0 (ia i k) * x1 (ib i k) : EReal) := by
  refine (show _ = Reference13Ideal.Read.val_main_v2 (F := Ideal) x0 x1 i from rfl).trans ((Reference13Ideal.Read.val_main_v2_apply x0 x1 i).trans ?_)
  exact Finset.sum_congr rfl fun k _ => congrArg₂ (· * ·) (congrArg x0 (ext2 rfl rfl)) (congrArg x1 (ext2 rfl rfl))

theorem equal : algebraic_Kernel13Ideal_Reference13Ideal := by
  intro m ρ m' ρ' _ hagree
  refine ⟨fun c => (dats m 0 c).arrAt 2 cfg0.N, run_blocks m ρ, ?_⟩
  refine (θ_run Reference13Ideal.defs _ _).mono (fun r h c => ?_) (Reference13Ideal.Value.run (F := Ideal) m' ρ')
  obtain ⟨r0, rest⟩ := h c
  obtain ⟨g0, g1⟩ := hagree c
  refine ⟨funext fun i => (congrFun (r0.trans (Reference13Ideal.Read.val_main_v3_eq _ _)) i).trans ?_, rest⟩
  rw [g0, g1]
  exact (ref _ _ i).trans (arr m c i).symm

theorem quiet [Reference13Ideal.Facts] : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)
end Cert.Prod13
end
-- ==== Proof.Prod14.lean ====
/-
  The product `mm_down`: what its blocks hold, and the equality of its result with the reference's.
-/
module
public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Halves
@[expose] public section
set_option maxRecDepth 65536
noncomputable section
namespace Cert.Prod14
open Kernel14Ideal Kernel14Ideal.Gen Kernel14Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x5632.Idx → EReal := m ((c : Thread nD τ).loc main_arg0)
abbrev B : S5632x2048.Idx → EReal := m ((c : Thread nD τ).loc main_arg1)
abbrev R : S8192x2048.Idx → EReal := m ((c : Thread nD τ).loc main_arg2)
abbrev ia (i : S8192x2048.Idx) (k : Fin 5632) : S8192x5632.Idx := ix2 (i 0) k
abbrev ib (i : S8192x2048.Idx) (k : Fin 5632) : S5632x2048.Idx := ix2 k (i 1)

theorem prod (a : S1024x5632.Idx → EReal) (b : S5632x256.Idx → EReal) (v : S1024x256.Idx → EReal) (y : S1024x256.Idx) :
    k0_pay1 (F := Ideal) a b v y = ((∑ k : Fin 5632, a (ix2 (y 0) k) * b (ix2 k (y 1))) + v y : EReal) :=
  congrArg (· + v y) (mulSum dot_S1024x5632_S5632x256_S1024x256_1_0_0_1_n_n 5632 rfl rfl a b y _ _ (fun k x => match x with | ⟨0, _⟩ => rfl | ⟨1, _⟩ => ValueIdx.contrEquiv1_symm_val dot_S1024x5632_S5632x256_S1024x256_1_0_0_1_n_n 5632 rfl rfl k)
    (fun k x => match x with | ⟨0, _⟩ => ValueIdx.contrEquiv1_symm_val dot_S1024x5632_S5632x256_S1024x256_1_0_0_1_n_n 5632 rfl rfl k | ⟨1, _⟩ => rfl))

theorem idx : ∀ t : Fin cfg0.N, win0_0.index t 0 = t.val / 8 ∧ win0_0.index t 1 = 0 ∧ win0_1.index t 0 = 0 ∧ win0_1.index t 1 = t.val % 8 ∧ win0_2.index t 0 = t.val / 8 ∧ win0_2.index t 1 = t.val % 8 ∧ win0_3.index t 0 = t.val / 8 ∧ win0_3.index t 1 = t.val % 8 := by decide +kernel

theorem rd0 (t : Fin cfg0.N) (y : S1024x5632.Idx) (x : S8192x5632.Idx) (h0 : (x 0).val = (t.val / 8) * 1024 + (y 0).val) (h1 : (x 1).val = 0 * 5632 + (y 1).val) :
    iblk m c 0 t y = A m c x := by
  have e := idx t
  refine congrArg (A m c) (ext2 ?_ ?_)
  · show win0_0.index t 0 * 1024 + 1 * (y 0).val = (x 0).val; omega
  · show win0_0.index t 1 * 5632 + 1 * (y 1).val = (x 1).val; omega

theorem rd1 (t : Fin cfg0.N) (y : S5632x256.Idx) (x : S5632x2048.Idx) (h0 : (x 0).val = 0 * 5632 + (y 0).val) (h1 : (x 1).val = (t.val % 8) * 256 + (y 1).val) :
    iblk m c 1 t y = B m c x := by
  have e := idx t
  refine congrArg (B m c) (ext2 ?_ ?_)
  · show win0_1.index t 0 * 5632 + 1 * (y 0).val = (x 0).val; omega
  · show win0_1.index t 1 * 256 + 1 * (y 1).val = (x 1).val; omega

theorem rd2 (t : Fin cfg0.N) (y : S1024x256.Idx) (x : S8192x2048.Idx) (h0 : (x 0).val = (t.val / 8) * 1024 + (y 0).val) (h1 : (x 1).val = (t.val % 8) * 256 + (y 1).val) :
    iblk m c 2 t y = R m c x := by
  have e := idx t
  refine congrArg (R m c) (ext2 ?_ ?_)
  · show win0_2.index t 0 * 1024 + 1 * (y 0).val = (x 0).val; omega
  · show win0_2.index t 1 * 256 + 1 * (y 1).val = (x 1).val; omega

/-- What a point leaves in its block. -/
theorem left (t : Fin cfg0.N) (y : S1024x256.Idx) : outsAt0 m c t y = k0_pay1 (iblk m c 0 t) (iblk m c 1 t) (iblk m c 2 t) y := by
  unfold outsAt0 out0_A_3
  refine (congrFun (View.read_writes_full VO0_3 _ inb_S1024x256_S1024x256_0_0 _ _) y).trans ?_
  refine congrFun (congr (congrArg₂ k0_pay1 ?_ ?_) ?_) y
  · exact (View.readAt_full _ _ inb_S1024x5632_S1024x5632_0_0).trans (Memref.IsWhole.read_unread _ _)
  · exact (View.readAt_full _ _ inb_S5632x256_S5632x256_0_0).trans (Memref.IsWhole.read_unread _ _)
  · exact (View.readAt_full _ _ inb_S1024x256_S1024x256_0_0).trans (Memref.IsWhole.read_unread _ _)

/-- The result of the call. -/
theorem arr (i : S8192x2048.Idx) : (dats m 0 c).arrAt 3 cfg0.N i
    = (R m c i + ∑ k : Fin 5632, A m c (ia i k) * B m c (ib i k) : EReal) := by
  have h0 : (i 0).val < 8192 := (i 0).isLt
  have h1 : (i 1).val < 2048 := (i 1).isLt
  have hN : cfg0.N = 64 := N_0
  obtain ⟨t, ht⟩ : ∃ t : Fin cfg0.N, t.val = (i 0).val / 1024 * 8 + (i 1).val / 256 := ⟨⟨_, by omega⟩, rfl⟩
  obtain ⟨e00, e01, e10, e11, e20, e21, e30, e31⟩ := idx t
  have e : ((cfg0.win 3).blk t).view.emb (ix2 (n0 := 1024) (n1 := 256) ⟨(i 0).val % 1024, by omega⟩ ⟨(i 1).val % 256, by omega⟩) = i :=
    ext2 (by show win0_3.index t 0 * 1024 + 1 * ((i 0).val % 1024) = (i 0).val; rw [e30]; omega) (by show win0_3.index t 1 * 256 + 1 * ((i 1).val % 256) = (i 1).val; rw [e31]; omega)
  refine (congrArg _ e).symm.trans ((congrFun (blocks3 m c t (flush0_3 t)) _).trans ((congrFun (flushed3 m c t) _).trans ?_))
  refine (left m c t _).trans ?_
  refine (prod _ _ _ _).trans ((congrArg₂ (· + ·) ?_ (rd2 m c t _ i (by show (i 0).val = (t.val / 8) * 1024 + (i 0).val % 1024; omega) (by show (i 1).val = (t.val % 8) * 256 + (i 1).val % 256; omega))).trans (add_comm _ _))
  exact (Finset.sum_congr rfl fun k _ => by
      have hk := k.isLt
      exact congrArg₂ (· * ·) (rd0 m c t _ _ (by show (i 0).val = (t.val / 8) * 1024 + (i 0).val % 1024; omega) (by show k.val = 0 * 5632 + k.val; omega))
        (rd1 m c t _ _ (by show k.val = 0 * 5632 + k.val; omega) (by show (i 1).val = (t.val % 8) * 256 + (i 1).val % 256; omega)))

/-- The reference at one index. -/
theorem ref (x0 : S8192x5632.Idx → EReal) (x1 : S5632x2048.Idx → EReal) (x2 : S8192x2048.Idx → EReal) (i : S8192x2048.Idx) : Reference14Ideal.Read.val_main_v3 (F := Ideal) x0 x1 x2 i
    = (x2 i + ∑ k : Fin 5632, x0 (ia i k) * x1 (ib i k) : EReal) := by
  refine (show _ = x2 i + Reference14Ideal.Read.val_main_v2 (F := Ideal) x0 x1 i from rfl).trans (congrArg (x2 i + ·) ((Reference14Ideal.Read.val_main_v2_apply x0 x1 i).trans ?_))
  exact Finset.sum_congr rfl fun k _ => congrArg₂ (· * ·) (congrArg x0 (ext2 rfl rfl)) (congrArg x1 (ext2 rfl rfl))

theorem equal : algebraic_Kernel14Ideal_Reference14Ideal := by
  intro m ρ m' ρ' _ hagree
  refine ⟨fun c => (dats m 0 c).arrAt 3 cfg0.N, run_blocks m ρ, ?_⟩
  refine (θ_run Reference14Ideal.defs _ _).mono (fun r h c => ?_) (Reference14Ideal.Value.run (F := Ideal) m' ρ')
  obtain ⟨r0, rest⟩ := h c
  obtain ⟨g0, g1, g2⟩ := hagree c
  refine ⟨funext fun i => (congrFun (r0.trans (Reference14Ideal.Read.val_main_v3_eq _ _ _)) i).trans ?_, rest⟩
  rw [g0, g1, g2]
  exact (ref _ _ _ i).trans (arr m c i).symm

theorem quiet [Reference14Ideal.Facts] : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)
end Cert.Prod14
end
-- ==== Proof.Prod15.lean ====
/-
  The product `mm_out`: what its blocks hold, and the equality of its result with the reference's.
-/
module
public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Halves
@[expose] public section
set_option maxRecDepth 65536
noncomputable section
namespace Cert.Prod15
open Kernel15Ideal Kernel15Ideal.Gen Kernel15Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x4096.Idx → EReal := m ((c : Thread nD τ).loc main_arg0)
abbrev B : S4096x2048.Idx → EReal := m ((c : Thread nD τ).loc main_arg1)
abbrev R : S8192x2048.Idx → EReal := m ((c : Thread nD τ).loc main_arg2)
abbrev ia (i : S8192x2048.Idx) (k : Fin 4096) : S8192x4096.Idx := ix2 (i 0) k
abbrev ib (i : S8192x2048.Idx) (k : Fin 4096) : S4096x2048.Idx := ix2 k (i 1)

theorem prod (a : S1024x4096.Idx → EReal) (b : S4096x512.Idx → EReal) (v : S1024x512.Idx → EReal) (y : S1024x512.Idx) :
    k0_pay1 (F := Ideal) a b v y = ((∑ k : Fin 4096, a (ix2 (y 0) k) * b (ix2 k (y 1))) + v y : EReal) :=
  congrArg (· + v y) (mulSum dot_S1024x4096_S4096x512_S1024x512_1_0_0_1_n_n 4096 rfl rfl a b y _ _ (fun k x => match x with | ⟨0, _⟩ => rfl | ⟨1, _⟩ => ValueIdx.contrEquiv1_symm_val dot_S1024x4096_S4096x512_S1024x512_1_0_0_1_n_n 4096 rfl rfl k)
    (fun k x => match x with | ⟨0, _⟩ => ValueIdx.contrEquiv1_symm_val dot_S1024x4096_S4096x512_S1024x512_1_0_0_1_n_n 4096 rfl rfl k | ⟨1, _⟩ => rfl))

theorem idx : ∀ t : Fin cfg0.N, win0_0.index t 0 = t.val / 4 ∧ win0_0.index t 1 = 0 ∧ win0_1.index t 0 = 0 ∧ win0_1.index t 1 = t.val % 4 ∧ win0_2.index t 0 = t.val / 4 ∧ win0_2.index t 1 = t.val % 4 ∧ win0_3.index t 0 = t.val / 4 ∧ win0_3.index t 1 = t.val % 4 := by decide +kernel

theorem rd0 (t : Fin cfg0.N) (y : S1024x4096.Idx) (x : S8192x4096.Idx) (h0 : (x 0).val = (t.val / 4) * 1024 + (y 0).val) (h1 : (x 1).val = 0 * 4096 + (y 1).val) :
    iblk m c 0 t y = A m c x := by
  have e := idx t
  refine congrArg (A m c) (ext2 ?_ ?_)
  · show win0_0.index t 0 * 1024 + 1 * (y 0).val = (x 0).val; omega
  · show win0_0.index t 1 * 4096 + 1 * (y 1).val = (x 1).val; omega

theorem rd1 (t : Fin cfg0.N) (y : S4096x512.Idx) (x : S4096x2048.Idx) (h0 : (x 0).val = 0 * 4096 + (y 0).val) (h1 : (x 1).val = (t.val % 4) * 512 + (y 1).val) :
    iblk m c 1 t y = B m c x := by
  have e := idx t
  refine congrArg (B m c) (ext2 ?_ ?_)
  · show win0_1.index t 0 * 4096 + 1 * (y 0).val = (x 0).val; omega
  · show win0_1.index t 1 * 512 + 1 * (y 1).val = (x 1).val; omega

theorem rd2 (t : Fin cfg0.N) (y : S1024x512.Idx) (x : S8192x2048.Idx) (h0 : (x 0).val = (t.val / 4) * 1024 + (y 0).val) (h1 : (x 1).val = (t.val % 4) * 512 + (y 1).val) :
    iblk m c 2 t y = R m c x := by
  have e := idx t
  refine congrArg (R m c) (ext2 ?_ ?_)
  · show win0_2.index t 0 * 1024 + 1 * (y 0).val = (x 0).val; omega
  · show win0_2.index t 1 * 512 + 1 * (y 1).val = (x 1).val; omega

/-- What a point leaves in its block. -/
theorem left (t : Fin cfg0.N) (y : S1024x512.Idx) : outsAt0 m c t y = k0_pay1 (iblk m c 0 t) (iblk m c 1 t) (iblk m c 2 t) y := by
  unfold outsAt0 out0_A_3
  refine (congrFun (View.read_writes_full VO0_3 _ inb_S1024x512_S1024x512_0_0 _ _) y).trans ?_
  refine congrFun (congr (congrArg₂ k0_pay1 ?_ ?_) ?_) y
  · exact (View.readAt_full _ _ inb_S1024x4096_S1024x4096_0_0).trans (Memref.IsWhole.read_unread _ _)
  · exact (View.readAt_full _ _ inb_S4096x512_S4096x512_0_0).trans (Memref.IsWhole.read_unread _ _)
  · exact (View.readAt_full _ _ inb_S1024x512_S1024x512_0_0).trans (Memref.IsWhole.read_unread _ _)

/-- The result of the call. -/
theorem arr (i : S8192x2048.Idx) : (dats m 0 c).arrAt 3 cfg0.N i
    = (R m c i + ∑ k : Fin 4096, A m c (ia i k) * B m c (ib i k) : EReal) := by
  have h0 : (i 0).val < 8192 := (i 0).isLt
  have h1 : (i 1).val < 2048 := (i 1).isLt
  have hN : cfg0.N = 32 := N_0
  obtain ⟨t, ht⟩ : ∃ t : Fin cfg0.N, t.val = (i 0).val / 1024 * 4 + (i 1).val / 512 := ⟨⟨_, by omega⟩, rfl⟩
  obtain ⟨e00, e01, e10, e11, e20, e21, e30, e31⟩ := idx t
  have e : ((cfg0.win 3).blk t).view.emb (ix2 (n0 := 1024) (n1 := 512) ⟨(i 0).val % 1024, by omega⟩ ⟨(i 1).val % 512, by omega⟩) = i :=
    ext2 (by show win0_3.index t 0 * 1024 + 1 * ((i 0).val % 1024) = (i 0).val; rw [e30]; omega) (by show win0_3.index t 1 * 512 + 1 * ((i 1).val % 512) = (i 1).val; rw [e31]; omega)
  refine (congrArg _ e).symm.trans ((congrFun (blocks3 m c t (flush0_3 t)) _).trans ((congrFun (flushed3 m c t) _).trans ?_))
  refine (left m c t _).trans ?_
  refine (prod _ _ _ _).trans ((congrArg₂ (· + ·) ?_ (rd2 m c t _ i (by show (i 0).val = (t.val / 4) * 1024 + (i 0).val % 1024; omega) (by show (i 1).val = (t.val % 4) * 512 + (i 1).val % 512; omega))).trans (add_comm _ _))
  exact (Finset.sum_congr rfl fun k _ => by
      have hk := k.isLt
      exact congrArg₂ (· * ·) (rd0 m c t _ _ (by show (i 0).val = (t.val / 4) * 1024 + (i 0).val % 1024; omega) (by show k.val = 0 * 4096 + k.val; omega))
        (rd1 m c t _ _ (by show k.val = 0 * 4096 + k.val; omega) (by show (i 1).val = (t.val % 4) * 512 + (i 1).val % 512; omega)))

/-- The reference at one index. -/
theorem ref (x0 : S8192x4096.Idx → EReal) (x1 : S4096x2048.Idx → EReal) (x2 : S8192x2048.Idx → EReal) (i : S8192x2048.Idx) : Reference15Ideal.Read.val_main_v3 (F := Ideal) x0 x1 x2 i
    = (x2 i + ∑ k : Fin 4096, x0 (ia i k) * x1 (ib i k) : EReal) := by
  refine (show _ = x2 i + Reference15Ideal.Read.val_main_v2 (F := Ideal) x0 x1 i from rfl).trans (congrArg (x2 i + ·) ((Reference15Ideal.Read.val_main_v2_apply x0 x1 i).trans ?_))
  exact Finset.sum_congr rfl fun k _ => congrArg₂ (· * ·) (congrArg x0 (ext2 rfl rfl)) (congrArg x1 (ext2 rfl rfl))

theorem equal : algebraic_Kernel15Ideal_Reference15Ideal := by
  intro m ρ m' ρ' _ hagree
  refine ⟨fun c => (dats m 0 c).arrAt 3 cfg0.N, run_blocks m ρ, ?_⟩
  refine (θ_run Reference15Ideal.defs _ _).mono (fun r h c => ?_) (Reference15Ideal.Value.run (F := Ideal) m' ρ')
  obtain ⟨r0, rest⟩ := h c
  obtain ⟨g0, g1, g2⟩ := hagree c
  refine ⟨funext fun i => (congrFun (r0.trans (Reference15Ideal.Read.val_main_v3_eq _ _ _)) i).trans ?_, rest⟩
  rw [g0, g1, g2]
  exact (ref _ _ _ i).trans (arr m c i).symm

theorem quiet [Reference15Ideal.Facts] : quiescent_Reference15Ideal := fun m ρ _ =>
  (θ_run Reference15Ideal.defs _ _).mono (fun r h => ⟨fun c => (h c).2, sem_eq_zero_of_no_sems (by decide) r.2⟩)
    (Reference15Ideal.Value.run (F := Ideal) m ρ)
end Cert.Prod15
end
-- ==== Proof.Prod16.lean ====
/-
  The product `mm_pg`: what its blocks hold, and the equality of its result with the reference's.
-/
module
public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Halves
@[expose] public section
set_option maxRecDepth 65536
noncomputable section
namespace Cert.Prod16
open Kernel16Ideal Kernel16Ideal.Gen Kernel16Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x2048.Idx → EReal := m ((c : Thread nD τ).loc main_arg0)
abbrev B : S2048x2048.Idx → EReal := m ((c : Thread nD τ).loc main_arg1)
abbrev ia (i : S8192x2048.Idx) (k : Fin 2048) : S8192x2048.Idx := ix2 (i 0) k
abbrev ib (i : S8192x2048.Idx) (k : Fin 2048) : S2048x2048.Idx := ix2 k (i 1)

theorem prod (a : S2048x2048.Idx → EReal) (b : S2048x512.Idx → EReal) (y : S2048x512.Idx) :
    k0_pay1 (F := Ideal) a b y = (∑ k : Fin 2048, a (ix2 (y 0) k) * b (ix2 k (y 1)) : EReal) :=
  mulSum dot_S2048x2048_S2048x512_S2048x512_1_0_0_1_n_n 2048 rfl rfl a b y _ _ (fun k x => match x with | ⟨0, _⟩ => rfl | ⟨1, _⟩ => ValueIdx.contrEquiv1_symm_val dot_S2048x2048_S2048x512_S2048x512_1_0_0_1_n_n 2048 rfl rfl k)
    (fun k x => match x with | ⟨0, _⟩ => ValueIdx.contrEquiv1_symm_val dot_S2048x2048_S2048x512_S2048x512_1_0_0_1_n_n 2048 rfl rfl k | ⟨1, _⟩ => rfl)

theorem idx : ∀ t : Fin cfg0.N, win0_0.index t 0 = t.val / 4 ∧ win0_0.index t 1 = 0 ∧ win0_1.index t 0 = 0 ∧ win0_1.index t 1 = t.val % 4 ∧ win0_2.index t 0 = t.val / 4 ∧ win0_2.index t 1 = t.val % 4 := by decide +kernel

theorem rd0 (t : Fin cfg0.N) (y : S2048x2048.Idx) (x : S8192x2048.Idx) (h0 : (x 0).val = (t.val / 4) * 2048 + (y 0).val) (h1 : (x 1).val = 0 * 2048 + (y 1).val) :
    iblk m c 0 t y = A m c x := by
  have e := idx t
  refine congrArg (A m c) (ext2 ?_ ?_)
  · show win0_0.index t 0 * 2048 + 1 * (y 0).val = (x 0).val; omega
  · show win0_0.index t 1 * 2048 + 1 * (y 1).val = (x 1).val; omega

theorem rd1 (t : Fin cfg0.N) (y : S2048x512.Idx) (x : S2048x2048.Idx) (h0 : (x 0).val = 0 * 2048 + (y 0).val) (h1 : (x 1).val = (t.val % 4) * 512 + (y 1).val) :
    iblk m c 1 t y = B m c x := by
  have e := idx t
  refine congrArg (B m c) (ext2 ?_ ?_)
  · show win0_1.index t 0 * 2048 + 1 * (y 0).val = (x 0).val; omega
  · show win0_1.index t 1 * 512 + 1 * (y 1).val = (x 1).val; omega

/-- What a point leaves in its block. -/
theorem left (t : Fin cfg0.N) (y : S2048x512.Idx) : outsAt0 m c t y = k0_pay1 (iblk m c 0 t) (iblk m c 1 t) y := by
  unfold outsAt0 out0_A_2
  refine (congrFun (View.read_writes_full VO0_2 _ inb_S2048x512_S2048x512_0_0 _ _) y).trans ?_
  refine congrFun (congrArg₂ k0_pay1 ?_ ?_) y
  · exact (View.readAt_full _ _ inb_S2048x2048_S2048x2048_0_0).trans (Memref.IsWhole.read_unread _ _)
  · exact (View.readAt_full _ _ inb_S2048x512_S2048x512_0_0).trans (Memref.IsWhole.read_unread _ _)

/-- The result of the call. -/
theorem arr (i : S8192x2048.Idx) : (dats m 0 c).arrAt 2 cfg0.N i
    = (∑ k : Fin 2048, A m c (ia i k) * B m c (ib i k) : EReal) := by
  have h0 : (i 0).val < 8192 := (i 0).isLt
  have h1 : (i 1).val < 2048 := (i 1).isLt
  have hN : cfg0.N = 16 := N_0
  obtain ⟨t, ht⟩ : ∃ t : Fin cfg0.N, t.val = (i 0).val / 2048 * 4 + (i 1).val / 512 := ⟨⟨_, by omega⟩, rfl⟩
  obtain ⟨e00, e01, e10, e11, e20, e21⟩ := idx t
  have e : ((cfg0.win 2).blk t).view.emb (ix2 (n0 := 2048) (n1 := 512) ⟨(i 0).val % 2048, by omega⟩ ⟨(i 1).val % 512, by omega⟩) = i :=
    ext2 (by show win0_2.index t 0 * 2048 + 1 * ((i 0).val % 2048) = (i 0).val; rw [e20]; omega) (by show win0_2.index t 1 * 512 + 1 * ((i 1).val % 512) = (i 1).val; rw [e21]; omega)
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 4) * 2048 + (i 0).val % 2048; omega) (by show k.val = 0 * 2048 + k.val; omega))
        (rd1 m c t _ _ (by show k.val = 0 * 2048 + k.val; omega) (by show (i 1).val = (t.val % 4) * 512 + (i 1).val % 512; omega)))

/-- The reference at one index. -/
theorem ref (x0 : S8192x2048.Idx → EReal) (x1 : S2048x2048.Idx → EReal) (i : S8192x2048.Idx) : Reference16Ideal.Read.val_main_v3 (F := Ideal) x0 x1 i
    = (∑ k : Fin 2048, x0 (ia i k) * x1 (ib i k) : EReal) := by
  refine (show _ = Reference16Ideal.Read.val_main_v2 (F := Ideal) x0 x1 i from rfl).trans ((Reference16Ideal.Read.val_main_v2_apply x0 x1 i).trans ?_)
  exact Finset.sum_congr rfl fun k _ => congrArg₂ (· * ·) (congrArg x0 (ext2 rfl rfl)) (congrArg x1 (ext2 rfl rfl))

theorem equal : algebraic_Kernel16Ideal_Reference16Ideal := by
  intro m ρ m' ρ' _ hagree
  refine ⟨fun c => (dats m 0 c).arrAt 2 cfg0.N, run_blocks m ρ, ?_⟩
  refine (θ_run Reference16Ideal.defs _ _).mono (fun r h c => ?_) (Reference16Ideal.Value.run (F := Ideal) m' ρ')
  obtain ⟨r0, rest⟩ := h c
  obtain ⟨g0, g1⟩ := hagree c
  refine ⟨funext fun i => (congrFun (r0.trans (Reference16Ideal.Read.val_main_v3_eq _ _)) i).trans ?_, rest⟩
  rw [g0, g1]
  exact (ref _ _ i).trans (arr m c i).symm

theorem quiet [Reference16Ideal.Facts] : quiescent_Reference16Ideal := fun m ρ _ =>
  (θ_run Reference16Ideal.defs _ _).mono (fun r h => ⟨fun c => (h c).2, sem_eq_zero_of_no_sems (by decide) r.2⟩)
    (Reference16Ideal.Value.run (F := Ideal) m ρ)
end Cert.Prod16
end
-- ==== Proof.Adam.lean ====
/-
  What the optimiser's calls share: one entry of the sum of eight parts, of the two moments and of the step, and a
  slab of the block of parts read at an index.
-/
module
public import Idealize.ShloMosaic.PureOps.Ideal.Laws
public import Idealize.ShloMosaic.Lib.VecWindow
public import Idealize.ShloMosaic.Lib.WholeRead
public import Idealize.ShloMosaic.Lib.Pipeline.Value
public import Idealize.ShloMosaic.Lib.ValueIdxCore
public import proofs.«01_k».proof.Proof.Halves
@[expose] public section
noncomputable section
namespace Cert.Adam
open Idealize.ShloMosaic Halves
open Idealize.ShloMosaic.ValueIdx (ix1 ix2 ix3)

abbrev lit (b : BitVec 32) : EReal := Scalar.ofBits (F := Ideal) .f32 b

/-- The gradient, the first and second moments and the step at one entry. -/
def grad (p : Fin 8 → EReal) : EReal := p 0 + p 1 + p 2 + p 3 + p 4 + p 5 + p 6 + p 7
def fst (m g : EReal) : EReal := lit 0x3F666666#32 * m + lit 0x3DCCCCCD#32 * g
def snd (v g : EReal) : EReal := lit 0x3F7FBE77#32 * v + lit 0x3A83126F#32 * (g * g)
def step (w m v g : EReal) : EReal :=
  lit 0xBA83126F#32 * (Ideal.div (Ideal.div (fst m g) (lit 0x3F26BD02#32)) (Ideal.sqrt (Ideal.div (snd v g) (lit 0x3C231ACC#32)) + lit 0x322BCC77#32)
    + lit 0x3C23D70A#32 * w)

theorem step4 {w m v g w' m' v' g' : EReal} (hw : w = w') (hm : m = m') (hv : v = v') (hg : g = g') : step w m v g = step w' m' v' g' := by
  rw [hw, hm, hv, hg]

theorem eight (p : Fin 8 → EReal) : lit 0x00000000#32 + ∑ k, p k = grad p := by
  unfold grad
  exact (congrArg (· + _) Ideal.ofBits_zero_f32).trans ((zero_add _).trans (Fin.sum_univ_eight p))

theorem slab {a b : ℕ} {sig : RefSig} {κ : Kind} {sp : Space} {e : EltTy} (v : View sig κ sp ⟨3, ![8, a, b]⟩ e) (f : v.ty.Contents (Elt Ideal))
    (x : (⟨3, ![8, a, b]⟩ : Shape).Idx → Elt Ideal e) (hv : v.read (Elt Ideal) f = x) (k : Fin 8)
    (inb : ∀ d, (![k.val, 0, 0] : Fin 3 → ℕ) d + (![1, a, b] : Fin 3 → ℕ) d ≤ (⟨3, ![8, a, b]⟩ : Shape).size d)
    (h : (⟨3, ![1, a, b]⟩ : Shape).ShapeCasts ⟨2, ![a, b]⟩) (y : (⟨2, ![a, b]⟩ : Shape).Idx) :
    shapeCast ⟨2, ![a, b]⟩ (v.readAt (Elt Ideal) (Rect.unit (s := ⟨3, ![8, a, b]⟩) ![k.val, 0, 0] ![1, a, b] inb).toLoadRect f) h y = x (ix3 k (y 0) (y 1)) := by
  subst hv
  refine (Halves.unsq _ h y).trans (congrArg (v.read (Elt Ideal) f) (funext fun d => Fin.ext (match d with
    | ⟨0, _⟩ => ?_
    | ⟨1, _⟩ => ?_
    | ⟨2, _⟩ => ?_)))
  · show k.val + 1 * 0 = k.val; omega
  · show 0 + 1 * (y 0).val = (y 0).val; omega
  · show 0 + 1 * (y 1).val = (y 1).val; omega

theorem whole {sig : RefSig} {κ : Kind} {sp : Space} {s : Shape} {e : EltTy} {w : Memref sig κ sp s e} (h : w.IsWhole) (x : s.Idx → Elt Ideal e)
    {off : Fin s.rank → ℕ} (inb : ∀ a, off a + s.size a ≤ s.size a) (y : s.Idx) {z : Elt Ideal e} (hz : x y = z) :
    w.view.readAt (Elt Ideal) (Rect.unit (s := s) off s.size inb).toLoadRect (h.unread x) y = z :=
  (congrFun ((View.readAt_full _ _ inb).trans (h.read_unread x)) y).trans hz
end Cert.Adam
end
-- ==== Proof.Prod17.lean ====
/-
  The call `adamw_small_4`: its four results are the reference's.
-/
module
public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Adam
@[expose] public section
set_option maxRecDepth 65536
noncomputable section
namespace Cert.Prod17
open Kernel17Ideal Kernel17Ideal.Gen Kernel17Ideal.Value Idealize.ShloMosaic.TcCoe Idealize.SL.Sem
open Idealize.ShloMosaic Halves Adam Reference17Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x256x128.Idx → EReal) (i : S256x128.Idx) : EReal := grad fun k => x (ix3 k (i 0) (i 1))
abbrev P : S8x256x128.Idx → EReal := m ((c : Thread nD τ).loc main_arg0)
abbrev W : S256x128.Idx → EReal := m ((c : Thread nD τ).loc main_arg1)
abbrev M : S256x128.Idx → EReal := m ((c : Thread nD τ).loc main_arg2)
abbrev U : S256x128.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S256x128.Idx)

/-- The point and the place in its block that an entry of the parameter is at. -/
theorem spot : ∃ (t : Fin cfg0.N) (y : S256x128.Idx), ((cfg0.win 4).blk t).view.emb y = i := by
  have h0 : (i 0).val < 256 := (i 0).isLt
  have h1 : (i 1).val < 128 := (i 1).isLt
  have hN : cfg0.N = 1 := N_0
  have e := (idx ⟨(i 0).val / 256, by omega⟩).2
  refine ⟨⟨(i 0).val / 256, by omega⟩, ix2 (n0 := 256) (n1 := 128) ⟨(i 0).val % 256, by omega⟩ ⟨(i 1).val, h1⟩, ext2 (a := 256) (b := 128) ?_ ?_⟩
  · show win0_4.index _ 0 * 256 + 1 * ((i 0).val % 256) = (i 0).val; rw [e.1]; show (i 0).val / 256 * 256 + _ = _; omega
  · show win0_4.index _ 1 * 128 + 1 * (i 1).val = (i 1).val; rw [e.2]; omega

variable (t : Fin cfg0.N) (y : S256x128.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 256 + 1 * (y 0).val = win0_4.index t 0 * 256 + 1 * (y 0).val; rw [e.2.1, f.1])
    (by show win0_0.index t 2 * 128 + 1 * (y 1).val = win0_4.index t 1 * 128 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x256x128_S256x128 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S256x128_S256x128_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S256x128_S256x128_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S256x128_S256x128_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S256x128_S256x128_0_0 _ _) y).trans (congrArg₂ snd (whole (hs0_3 t) _ _ _ (congrArg (U m c) h)) (tot m c i t y h))

/-- The reference at one index. -/
theorem ref (x : S8x256x128.Idx → EReal) : val_main_v0 (F := Ideal) x i = D x i := by
  refine (val_main_v0_apply x i).trans ((congrArg (_ + ·) (Finset.sum_congr rfl fun k _ => ?_)).trans (eight _))
  exact congrArg x (ext3 rfl rfl rfl)

theorem equal : algebraic_Kernel17Ideal_Reference17Ideal := by
  intro m ρ m' ρ' _ hagree
  refine ⟨_, _, _, _, run_blocks m ρ, ?_⟩
  refine (θ_run Reference17Ideal.defs _ _).mono (fun r h c => ?_) (Reference17Ideal.Value.run (F := Ideal) m' ρ')
  obtain ⟨r0, r1, r2, r3, rest⟩ := h c
  obtain ⟨g0, g1, g2, g3, -⟩ := hagree c
  refine ⟨funext fun i => (congrFun (r0.trans (val_main_v0_eq _)) i).trans ?_, funext fun i => (congrFun (r1.trans (val_main_v24_eq _ _ _ _)) i).trans ?_,
    funext fun i => (congrFun (r2.trans (val_main_v5_eq _ _)) i).trans ?_, funext fun i => (congrFun (r3.trans (val_main_v11_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference17Ideal.Facts] : quiescent_Reference17Ideal := fun m ρ _ =>
  (θ_run Reference17Ideal.defs _ _).mono (fun r h => ⟨fun c => (h c).2.2.2.2, sem_eq_zero_of_no_sems (by decide) r.2⟩) (Reference17Ideal.Value.run (F := Ideal) m ρ)
end Cert.Prod17
end
-- ==== Proof.Prod18.lean ====
/-
  The call `adamw_w_in`: its four results are the reference's.
-/
module
public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Adam
@[expose] public section
set_option maxRecDepth 65536
noncomputable section
namespace Cert.Prod18
open Kernel18Ideal Kernel18Ideal.Gen Kernel18Ideal.Value Idealize.ShloMosaic.TcCoe Idealize.SL.Sem
open Idealize.ShloMosaic Halves Adam Reference18Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x2048x1284.Idx → EReal) (i : S2048x1284.Idx) : EReal := grad fun k => x (ix3 k (i 0) (i 1))
abbrev P : S8x2048x1284.Idx → EReal := m ((c : Thread nD τ).loc main_arg0)
abbrev W : S2048x1284.Idx → EReal := m ((c : Thread nD τ).loc main_arg1)
abbrev M : S2048x1284.Idx → EReal := m ((c : Thread nD τ).loc main_arg2)
abbrev U : S2048x1284.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S2048x1284.Idx)

/-- The point and the place in its block that an entry of the parameter is at. -/
theorem spot : ∃ (t : Fin cfg0.N) (y : S256x1284.Idx), ((cfg0.win 4).blk t).view.emb y = i := by
  have h0 : (i 0).val < 2048 := (i 0).isLt
  have h1 : (i 1).val < 1284 := (i 1).isLt
  have hN : cfg0.N = 8 := N_0
  have e := (idx ⟨(i 0).val / 256, by omega⟩).2
  refine ⟨⟨(i 0).val / 256, by omega⟩, ix2 (n0 := 256) (n1 := 1284) ⟨(i 0).val % 256, by omega⟩ ⟨(i 1).val, h1⟩, ext2 (a := 2048) (b := 1284) ?_ ?_⟩
  · show win0_4.index _ 0 * 256 + 1 * ((i 0).val % 256) = (i 0).val; rw [e.1]; show (i 0).val / 256 * 256 + _ = _; omega
  · show win0_4.index _ 1 * 1284 + 1 * (i 1).val = (i 1).val; rw [e.2]; omega

variable (t : Fin cfg0.N) (y : S256x1284.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 256 + 1 * (y 0).val = win0_4.index t 0 * 256 + 1 * (y 0).val; rw [e.2.1, f.1])
    (by show win0_0.index t 2 * 1284 + 1 * (y 1).val = win0_4.index t 1 * 1284 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x256x1284_S256x1284 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S256x1284_S256x1284_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S256x1284_S256x1284_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S256x1284_S256x1284_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S256x1284_S256x1284_0_0 _ _) y).trans (congrArg₂ snd (whole (hs0_3 t) _ _ _ (congrArg (U m c) h)) (tot m c i t y h))

/-- The reference at one index. -/
theorem ref (x : S8x2048x1284.Idx → EReal) : val_main_v1 (F := Ideal) x i = D x i := by
  refine (val_main_v1_apply x i).trans ((congrArg (_ + ·) (Finset.sum_congr rfl fun k _ => ?_)).trans (eight _))
  exact congrArg x (ext3 rfl rfl rfl)

theorem equal : algebraic_Kernel18Ideal_Reference18Ideal := by
  intro m ρ m' ρ' _ hagree
  refine ⟨_, _, _, _, run_blocks m ρ, ?_⟩
  refine (θ_run Reference18Ideal.defs _ _).mono (fun r h c => ?_) (Reference18Ideal.Value.run (F := Ideal) m' ρ')
  obtain ⟨r0, r1, r2, r3, rest⟩ := h c
  obtain ⟨g0, g1, g2, g3, -⟩ := hagree c
  refine ⟨funext fun i => (congrFun (r0.trans (val_main_v1_eq _)) i).trans ?_, funext fun i => (congrFun (r1.trans (val_main_v25_eq _ _ _ _)) i).trans ?_,
    funext fun i => (congrFun (r2.trans (val_main_v6_eq _ _)) i).trans ?_, funext fun i => (congrFun (r3.trans (val_main_v12_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference18Ideal.Facts] : quiescent_Reference18Ideal := fun m ρ _ =>
  (θ_run Reference18Ideal.defs _ _).mono (fun r h => ⟨fun c => (h c).2.2.2.2, sem_eq_zero_of_no_sems (by decide) r.2⟩) (Reference18Ideal.Value.run (F := Ideal) m ρ)
end Cert.Prod18
end
-- ==== Proof.Prod19.lean ====
/-
  The call `adamw_w_out`: its four results are the reference's.
-/
module
public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Adam
@[expose] public section
set_option maxRecDepth 65536
noncomputable section
namespace Cert.Prod19
open Kernel19Ideal Kernel19Ideal.Gen Kernel19Ideal.Value Idealize.ShloMosaic.TcCoe Idealize.SL.Sem
open Idealize.ShloMosaic Halves Adam Reference19Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x512x2048.Idx → EReal) (i : S512x2048.Idx) : EReal := grad fun k => x (ix3 k (i 0) (i 1))
abbrev P : S8x512x2048.Idx → EReal := m ((c : Thread nD τ).loc main_arg0)
abbrev W : S512x2048.Idx → EReal := m ((c : Thread nD τ).loc main_arg1)
abbrev M : S512x2048.Idx → EReal := m ((c : Thread nD τ).loc main_arg2)
abbrev U : S512x2048.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S512x2048.Idx)

/-- The point and the place in its block that an entry of the parameter is at. -/
theorem spot : ∃ (t : Fin cfg0.N) (y : S256x2048.Idx), ((cfg0.win 4).blk t).view.emb y = i := by
  have h0 : (i 0).val < 512 := (i 0).isLt
  have h1 : (i 1).val < 2048 := (i 1).isLt
  have hN : cfg0.N = 2 := N_0
  have e := (idx ⟨(i 0).val / 256, by omega⟩).2
  refine ⟨⟨(i 0).val / 256, by omega⟩, ix2 (n0 := 256) (n1 := 2048) ⟨(i 0).val % 256, by omega⟩ ⟨(i 1).val, h1⟩, ext2 (a := 512) (b := 2048) ?_ ?_⟩
  · show win0_4.index _ 0 * 256 + 1 * ((i 0).val % 256) = (i 0).val; rw [e.1]; show (i 0).val / 256 * 256 + _ = _; omega
  · show win0_4.index _ 1 * 2048 + 1 * (i 1).val = (i 1).val; rw [e.2]; omega

variable (t : Fin cfg0.N) (y : S256x2048.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 256 + 1 * (y 0).val = win0_4.index t 0 * 256 + 1 * (y 0).val; rw [e.2.1, f.1])
    (by show win0_0.index t 2 * 2048 + 1 * (y 1).val = win0_4.index t 1 * 2048 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x256x2048_S256x2048 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S256x2048_S256x2048_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S256x2048_S256x2048_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S256x2048_S256x2048_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S256x2048_S256x2048_0_0 _ _) y).trans (congrArg₂ snd (whole (hs0_3 t) _ _ _ (congrArg (U m c) h)) (tot m c i t y h))

/-- The reference at one index. -/
theorem ref (x : S8x512x2048.Idx → EReal) : val_main_v1 (F := Ideal) x i = D x i := by
  refine (val_main_v1_apply x i).trans ((congrArg (_ + ·) (Finset.sum_congr rfl fun k _ => ?_)).trans (eight _))
  exact congrArg x (ext3 rfl rfl rfl)

theorem equal : algebraic_Kernel19Ideal_Reference19Ideal := by
  intro m ρ m' ρ' _ hagree
  refine ⟨_, _, _, _, run_blocks m ρ, ?_⟩
  refine (θ_run Reference19Ideal.defs _ _).mono (fun r h c => ?_) (Reference19Ideal.Value.run (F := Ideal) m' ρ')
  obtain ⟨r0, r1, r2, r3, rest⟩ := h c
  obtain ⟨g0, g1, g2, g3, -⟩ := hagree c
  refine ⟨funext fun i => (congrFun (r0.trans (val_main_v1_eq _)) i).trans ?_, funext fun i => (congrFun (r1.trans (val_main_v25_eq _ _ _ _)) i).trans ?_,
    funext fun i => (congrFun (r2.trans (val_main_v6_eq _ _)) i).trans ?_, funext fun i => (congrFun (r3.trans (val_main_v12_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference19Ideal.Facts] : quiescent_Reference19Ideal := fun m ρ _ =>
  (θ_run Reference19Ideal.defs _ _).mono (fun r h => ⟨fun c => (h c).2.2.2.2, sem_eq_zero_of_no_sems (by decide) r.2⟩) (Reference19Ideal.Value.run (F := Ideal) m ρ)
end Cert.Prod19
end
-- ==== Proof.Prod20.lean ====
/-
  The call `adamw_w_up`: its four results are the reference's.
-/
module
public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Adam
@[expose] public section
set_option maxRecDepth 65536
noncomputable section
namespace Cert.Prod20
open Kernel20Ideal Kernel20Ideal.Gen Kernel20Ideal.Value Idealize.ShloMosaic.TcCoe Idealize.SL.Sem
open Idealize.ShloMosaic Halves Adam Reference20Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x2048x1408.Idx → EReal) (i : S2048x1408.Idx) : EReal := grad fun k => x (ix3 k (i 0) (i 1))
abbrev P : S8x2048x1408.Idx → EReal := m ((c : Thread nD τ).loc main_arg0)
abbrev W : S2048x1408.Idx → EReal := m ((c : Thread nD τ).loc main_arg1)
abbrev M : S2048x1408.Idx → EReal := m ((c : Thread nD τ).loc main_arg2)
abbrev U : S2048x1408.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S2048x1408.Idx)

/-- The point and the place in its block that an entry of the parameter is at. -/
theorem spot : ∃ (t : Fin cfg0.N) (y : S256x1408.Idx), ((cfg0.win 4).blk t).view.emb y = i := by
  have h0 : (i 0).val < 2048 := (i 0).isLt
  have h1 : (i 1).val < 1408 := (i 1).isLt
  have hN : cfg0.N = 8 := N_0
  have e := (idx ⟨(i 0).val / 256, by omega⟩).2
  refine ⟨⟨(i 0).val / 256, by omega⟩, ix2 (n0 := 256) (n1 := 1408) ⟨(i 0).val % 256, by omega⟩ ⟨(i 1).val, h1⟩, ext2 (a := 2048) (b := 1408) ?_ ?_⟩
  · show win0_4.index _ 0 * 256 + 1 * ((i 0).val % 256) = (i 0).val; rw [e.1]; show (i 0).val / 256 * 256 + _ = _; omega
  · show win0_4.index _ 1 * 1408 + 1 * (i 1).val = (i 1).val; rw [e.2]; omega

variable (t : Fin cfg0.N) (y : S256x1408.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 256 + 1 * (y 0).val = win0_4.index t 0 * 256 + 1 * (y 0).val; rw [e.2.1, f.1])
    (by show win0_0.index t 2 * 1408 + 1 * (y 1).val = win0_4.index t 1 * 1408 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x256x1408_S256x1408 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S256x1408_S256x1408_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S256x1408_S256x1408_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S256x1408_S256x1408_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S256x1408_S256x1408_0_0 _ _) y).trans (congrArg₂ snd (whole (hs0_3 t) _ _ _ (congrArg (U m c) h)) (tot m c i t y h))

/-- The reference at one index. -/
theorem ref (x : S8x2048x1408.Idx → EReal) : val_main_v1 (F := Ideal) x i = D x i := by
  refine (val_main_v1_apply x i).trans ((congrArg (_ + ·) (Finset.sum_congr rfl fun k _ => ?_)).trans (eight _))
  exact congrArg x (ext3 rfl rfl rfl)

theorem equal : algebraic_Kernel20Ideal_Reference20Ideal := by
  intro m ρ m' ρ' _ hagree
  refine ⟨_, _, _, _, run_blocks m ρ, ?_⟩
  refine (θ_run Reference20Ideal.defs _ _).mono (fun r h c => ?_) (Reference20Ideal.Value.run (F := Ideal) m' ρ')
  obtain ⟨r0, r1, r2, r3, rest⟩ := h c
  obtain ⟨g0, g1, g2, g3, -⟩ := hagree c
  refine ⟨funext fun i => (congrFun (r0.trans (val_main_v1_eq _)) i).trans ?_, funext fun i => (congrFun (r1.trans (val_main_v25_eq _ _ _ _)) i).trans ?_,
    funext fun i => (congrFun (r2.trans (val_main_v6_eq _ _)) i).trans ?_, funext fun i => (congrFun (r3.trans (val_main_v12_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference20Ideal.Facts] : quiescent_Reference20Ideal := fun m ρ _ =>
  (θ_run Reference20Ideal.defs _ _).mono (fun r h => ⟨fun c => (h c).2.2.2.2, sem_eq_zero_of_no_sems (by decide) r.2⟩) (Reference20Ideal.Value.run (F := Ideal) m ρ)
end Cert.Prod20
end
-- ==== Proof.Prod21.lean ====
/-
  The call `adamw_w_down`: its four results are the reference's.
-/
module
public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Adam
@[expose] public section
set_option maxRecDepth 65536
noncomputable section
namespace Cert.Prod21
open Kernel21Ideal Kernel21Ideal.Gen Kernel21Ideal.Value Idealize.ShloMosaic.TcCoe Idealize.SL.Sem
open Idealize.ShloMosaic Halves Adam Reference21Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x704x2048.Idx → EReal) (i : S704x2048.Idx) : EReal := grad fun k => x (ix3 k (i 0) (i 1))
abbrev P : S8x704x2048.Idx → EReal := m ((c : Thread nD τ).loc main_arg0)
abbrev W : S704x2048.Idx → EReal := m ((c : Thread nD τ).loc main_arg1)
abbrev M : S704x2048.Idx → EReal := m ((c : Thread nD τ).loc main_arg2)
abbrev U : S704x2048.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S704x2048.Idx)

/-- The point and the place in its block that an entry of the parameter is at. -/
theorem spot : ∃ (t : Fin cfg0.N) (y : S64x2048.Idx), ((cfg0.win 4).blk t).view.emb y = i := by
  have h0 : (i 0).val < 704 := (i 0).isLt
  have h1 : (i 1).val < 2048 := (i 1).isLt
  have hN : cfg0.N = 11 := N_0
  have e := (idx ⟨(i 0).val / 64, by omega⟩).2
  refine ⟨⟨(i 0).val / 64, by omega⟩, ix2 (n0 := 64) (n1 := 2048) ⟨(i 0).val % 64, by omega⟩ ⟨(i 1).val, h1⟩, ext2 (a := 704) (b := 2048) ?_ ?_⟩
  · show win0_4.index _ 0 * 64 + 1 * ((i 0).val % 64) = (i 0).val; rw [e.1]; show (i 0).val / 64 * 64 + _ = _; omega
  · show win0_4.index _ 1 * 2048 + 1 * (i 1).val = (i 1).val; rw [e.2]; omega

variable (t : Fin cfg0.N) (y : S64x2048.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 64 + 1 * (y 0).val = win0_4.index t 0 * 64 + 1 * (y 0).val; rw [e.2.1, f.1])
    (by show win0_0.index t 2 * 2048 + 1 * (y 1).val = win0_4.index t 1 * 2048 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x64x2048_S64x2048 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S64x2048_S64x2048_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S64x2048_S64x2048_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S64x2048_S64x2048_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S64x2048_S64x2048_0_0 _ _) y).trans (congrArg₂ snd (whole (hs0_3 t) _ _ _ (congrArg (U m c) h)) (tot m c i t y h))

/-- The reference at one index. -/
theorem ref (x : S8x704x2048.Idx → EReal) : val_main_v1 (F := Ideal) x i = D x i := by
  refine (val_main_v1_apply x i).trans ((congrArg (_ + ·) (Finset.sum_congr rfl fun k _ => ?_)).trans (eight _))
  exact congrArg x (ext3 rfl rfl rfl)

theorem equal : algebraic_Kernel21Ideal_Reference21Ideal := by
  intro m ρ m' ρ' _ hagree
  refine ⟨_, _, _, _, run_blocks m ρ, ?_⟩
  refine (θ_run Reference21Ideal.defs _ _).mono (fun r h c => ?_) (Reference21Ideal.Value.run (F := Ideal) m' ρ')
  obtain ⟨r0, r1, r2, r3, rest⟩ := h c
  obtain ⟨g0, g1, g2, g3, -⟩ := hagree c
  refine ⟨funext fun i => (congrFun (r0.trans (val_main_v1_eq _)) i).trans ?_, funext fun i => (congrFun (r1.trans (val_main_v25_eq _ _ _ _)) i).trans ?_,
    funext fun i => (congrFun (r2.trans (val_main_v6_eq _ _)) i).trans ?_, funext fun i => (congrFun (r3.trans (val_main_v12_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference21Ideal.Facts] : quiescent_Reference21Ideal := fun m ρ _ =>
  (θ_run Reference21Ideal.defs _ _).mono (fun r h => ⟨fun c => (h c).2.2.2.2, sem_eq_zero_of_no_sems (by decide) r.2⟩) (Reference21Ideal.Value.run (F := Ideal) m ρ)
end Cert.Prod21
end
-- ==== Proof.Prod22.lean ====
/-
  The call `adamw_w_ple_gate`: its four results are the reference's.
-/
module
public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Adam
@[expose] public section
set_option maxRecDepth 65536
noncomputable section
namespace Cert.Prod22
open Kernel22Ideal Kernel22Ideal.Gen Kernel22Ideal.Value Idealize.ShloMosaic.TcCoe Idealize.SL.Sem
open Idealize.ShloMosaic Halves Adam Reference22Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x256x2048.Idx → EReal) (i : S256x2048.Idx) : EReal := grad fun k => x (ix3 k (i 0) (i 1))
abbrev P : S8x256x2048.Idx → EReal := m ((c : Thread nD τ).loc main_arg0)
abbrev W : S256x2048.Idx → EReal := m ((c : Thread nD τ).loc main_arg1)
abbrev M : S256x2048.Idx → EReal := m ((c : Thread nD τ).loc main_arg2)
abbrev U : S256x2048.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S256x2048.Idx)

/-- The point and the place in its block that an entry of the parameter is at. -/
theorem spot : ∃ (t : Fin cfg0.N) (y : S256x2048.Idx), ((cfg0.win 4).blk t).view.emb y = i := by
  have h0 : (i 0).val < 256 := (i 0).isLt
  have h1 : (i 1).val < 2048 := (i 1).isLt
  have hN : cfg0.N = 1 := N_0
  have e := (idx ⟨(i 0).val / 256, by omega⟩).2
  refine ⟨⟨(i 0).val / 256, by omega⟩, ix2 (n0 := 256) (n1 := 2048) ⟨(i 0).val % 256, by omega⟩ ⟨(i 1).val, h1⟩, ext2 (a := 256) (b := 2048) ?_ ?_⟩
  · show win0_4.index _ 0 * 256 + 1 * ((i 0).val % 256) = (i 0).val; rw [e.1]; show (i 0).val / 256 * 256 + _ = _; omega
  · show win0_4.index _ 1 * 2048 + 1 * (i 1).val = (i 1).val; rw [e.2]; omega

variable (t : Fin cfg0.N) (y : S256x2048.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 256 + 1 * (y 0).val = win0_4.index t 0 * 256 + 1 * (y 0).val; rw [e.2.1, f.1])
    (by show win0_0.index t 2 * 2048 + 1 * (y 1).val = win0_4.index t 1 * 2048 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x256x2048_S256x2048 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S256x2048_S256x2048_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S256x2048_S256x2048_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S256x2048_S256x2048_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S256x2048_S256x2048_0_0 _ _) y).trans (congrArg₂ snd (whole (hs0_3 t) _ _ _ (congrArg (U m c) h)) (tot m c i t y h))

/-- The reference at one index. -/
theorem ref (x : S8x256x2048.Idx → EReal) : val_main_v1 (F := Ideal) x i = D x i := by
  refine (val_main_v1_apply x i).trans ((congrArg (_ + ·) (Finset.sum_congr rfl fun k _ => ?_)).trans (eight _))
  exact congrArg x (ext3 rfl rfl rfl)

theorem equal : algebraic_Kernel22Ideal_Reference22Ideal := by
  intro m ρ m' ρ' _ hagree
  refine ⟨_, _, _, _, run_blocks m ρ, ?_⟩
  refine (θ_run Reference22Ideal.defs _ _).mono (fun r h c => ?_) (Reference22Ideal.Value.run (F := Ideal) m' ρ')
  obtain ⟨r0, r1, r2, r3, rest⟩ := h c
  obtain ⟨g0, g1, g2, g3, -⟩ := hagree c
  refine ⟨funext fun i => (congrFun (r0.trans (val_main_v1_eq _)) i).trans ?_, funext fun i => (congrFun (r1.trans (val_main_v25_eq _ _ _ _)) i).trans ?_,
    funext fun i => (congrFun (r2.trans (val_main_v6_eq _ _)) i).trans ?_, funext fun i => (congrFun (r3.trans (val_main_v12_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference22Ideal.Facts] : quiescent_Reference22Ideal := fun m ρ _ =>
  (θ_run Reference22Ideal.defs _ _).mono (fun r h => ⟨fun c => (h c).2.2.2.2, sem_eq_zero_of_no_sems (by decide) r.2⟩) (Reference22Ideal.Value.run (F := Ideal) m ρ)
end Cert.Prod22
end
-- ==== Proof.Prod23.lean ====
/-
  The call `adamw_w_ple`: its four results are the reference's.
-/
module
public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Adam
@[expose] public section
set_option maxRecDepth 65536
noncomputable section
namespace Cert.Prod23
open Kernel23Ideal Kernel23Ideal.Gen Kernel23Ideal.Value Idealize.ShloMosaic.TcCoe Idealize.SL.Sem
open Idealize.ShloMosaic Halves Adam Reference23Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x256x256.Idx → EReal) (i : S256x256.Idx) : EReal := grad fun k => x (ix3 k (i 0) (i 1))
abbrev P : S8x256x256.Idx → EReal := m ((c : Thread nD τ).loc main_arg0)
abbrev W : S256x256.Idx → EReal := m ((c : Thread nD τ).loc main_arg1)
abbrev M : S256x256.Idx → EReal := m ((c : Thread nD τ).loc main_arg2)
abbrev U : S256x256.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S256x256.Idx)

/-- The point and the place in its block that an entry of the parameter is at. -/
theorem spot : ∃ (t : Fin cfg0.N) (y : S256x256.Idx), ((cfg0.win 4).blk t).view.emb y = i := by
  have h0 : (i 0).val < 256 := (i 0).isLt
  have h1 : (i 1).val < 256 := (i 1).isLt
  have hN : cfg0.N = 1 := N_0
  have e := (idx ⟨(i 0).val / 256, by omega⟩).2
  refine ⟨⟨(i 0).val / 256, by omega⟩, ix2 (n0 := 256) (n1 := 256) ⟨(i 0).val % 256, by omega⟩ ⟨(i 1).val, h1⟩, ext2 (a := 256) (b := 256) ?_ ?_⟩
  · show win0_4.index _ 0 * 256 + 1 * ((i 0).val % 256) = (i 0).val; rw [e.1]; show (i 0).val / 256 * 256 + _ = _; omega
  · show win0_4.index _ 1 * 256 + 1 * (i 1).val = (i 1).val; rw [e.2]; omega

variable (t : Fin cfg0.N) (y : S256x256.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 256 + 1 * (y 0).val = win0_4.index t 0 * 256 + 1 * (y 0).val; rw [e.2.1, f.1])
    (by show win0_0.index t 2 * 256 + 1 * (y 1).val = win0_4.index t 1 * 256 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x256x256_S256x256 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S256x256_S256x256_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S256x256_S256x256_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S256x256_S256x256_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S256x256_S256x256_0_0 _ _) y).trans (congrArg₂ snd (whole (hs0_3 t) _ _ _ (congrArg (U m c) h)) (tot m c i t y h))

/-- The reference at one index. -/
theorem ref (x : S8x256x256.Idx → EReal) : val_main_v1 (F := Ideal) x i = D x i := by
  refine (val_main_v1_apply x i).trans ((congrArg (_ + ·) (Finset.sum_congr rfl fun k _ => ?_)).trans (eight _))
  exact congrArg x (ext3 rfl rfl rfl)

theorem equal : algebraic_Kernel23Ideal_Reference23Ideal := by
  intro m ρ m' ρ' _ hagree
  refine ⟨_, _, _, _, run_blocks m ρ, ?_⟩
  refine (θ_run Reference23Ideal.defs _ _).mono (fun r h c => ?_) (Reference23Ideal.Value.run (F := Ideal) m' ρ')
  obtain ⟨r0, r1, r2, r3, rest⟩ := h c
  obtain ⟨g0, g1, g2, g3, -⟩ := hagree c
  refine ⟨funext fun i => (congrFun (r0.trans (val_main_v1_eq _)) i).trans ?_, funext fun i => (congrFun (r1.trans (val_main_v25_eq _ _ _ _)) i).trans ?_,
    funext fun i => (congrFun (r2.trans (val_main_v6_eq _ _)) i).trans ?_, funext fun i => (congrFun (r3.trans (val_main_v12_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference23Ideal.Facts] : quiescent_Reference23Ideal := fun m ρ _ =>
  (θ_run Reference23Ideal.defs _ _).mono (fun r h => ⟨fun c => (h c).2.2.2.2, sem_eq_zero_of_no_sems (by decide) r.2⟩) (Reference23Ideal.Value.run (F := Ideal) m ρ)
end Cert.Prod23
end
-- ==== Proof.Prod24.lean ====
/-
  The call `adamw_conv_ffn_w`: its four results are the reference's.
-/
module
public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Adam
@[expose] public section
set_option maxRecDepth 65536
noncomputable section
namespace Cert.Prod24
open Kernel24Ideal Kernel24Ideal.Gen Kernel24Ideal.Value Idealize.ShloMosaic.TcCoe Idealize.SL.Sem
open Idealize.ShloMosaic Halves Adam Reference24Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x3x1408.Idx → EReal) (i : S3x1408.Idx) : EReal := grad fun k => x (ix3 k (i 0) (i 1))
abbrev P : S8x3x1408.Idx → EReal := m ((c : Thread nD τ).loc main_arg0)
abbrev W : S3x1408.Idx → EReal := m ((c : Thread nD τ).loc main_arg1)
abbrev M : S3x1408.Idx → EReal := m ((c : Thread nD τ).loc main_arg2)
abbrev U : S3x1408.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S3x1408.Idx)

/-- The point and the place in its block that an entry of the parameter is at. -/
theorem spot : ∃ (t : Fin cfg0.N) (y : S3x1408.Idx), ((cfg0.win 4).blk t).view.emb y = i := by
  have h0 : (i 0).val < 3 := (i 0).isLt
  have h1 : (i 1).val < 1408 := (i 1).isLt
  have hN : cfg0.N = 1 := N_0
  have e := (idx ⟨(i 0).val / 3, by omega⟩).2
  refine ⟨⟨(i 0).val / 3, by omega⟩, ix2 (n0 := 3) (n1 := 1408) ⟨(i 0).val % 3, by omega⟩ ⟨(i 1).val, h1⟩, ext2 (a := 3) (b := 1408) ?_ ?_⟩
  · show win0_4.index _ 0 * 3 + 1 * ((i 0).val % 3) = (i 0).val; rw [e.1]; show (i 0).val / 3 * 3 + _ = _; omega
  · show win0_4.index _ 1 * 1408 + 1 * (i 1).val = (i 1).val; rw [e.2]; omega

variable (t : Fin cfg0.N) (y : S3x1408.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 3 + 1 * (y 0).val = win0_4.index t 0 * 3 + 1 * (y 0).val; rw [e.2.1, f.1])
    (by show win0_0.index t 2 * 1408 + 1 * (y 1).val = win0_4.index t 1 * 1408 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x3x1408_S3x1408 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S3x1408_S3x1408_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S3x1408_S3x1408_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S3x1408_S3x1408_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S3x1408_S3x1408_0_0 _ _) y).trans (congrArg₂ snd (whole (hs0_3 t) _ _ _ (congrArg (U m c) h)) (tot m c i t y h))

/-- The reference at one index. -/
theorem ref (x : S8x3x1408.Idx → EReal) : val_main_v0 (F := Ideal) x i = D x i := by
  refine (val_main_v0_apply x i).trans ((congrArg (_ + ·) (Finset.sum_congr rfl fun k _ => ?_)).trans (eight _))
  exact congrArg x (ext3 rfl rfl rfl)

theorem equal : algebraic_Kernel24Ideal_Reference24Ideal := by
  intro m ρ m' ρ' _ hagree
  refine ⟨_, _, _, _, run_blocks m ρ, ?_⟩
  refine (θ_run Reference24Ideal.defs _ _).mono (fun r h c => ?_) (Reference24Ideal.Value.run (F := Ideal) m' ρ')
  obtain ⟨r0, r1, r2, r3, rest⟩ := h c
  obtain ⟨g0, g1, g2, g3, -⟩ := hagree c
  refine ⟨funext fun i => (congrFun (r0.trans (val_main_v0_eq _)) i).trans ?_, funext fun i => (congrFun (r1.trans (val_main_v24_eq _ _ _ _)) i).trans ?_,
    funext fun i => (congrFun (r2.trans (val_main_v5_eq _ _)) i).trans ?_, funext fun i => (congrFun (r3.trans (val_main_v11_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference24Ideal.Facts] : quiescent_Reference24Ideal := fun m ρ _ =>
  (θ_run Reference24Ideal.defs _ _).mono (fun r h => ⟨fun c => (h c).2.2.2.2, sem_eq_zero_of_no_sems (by decide) r.2⟩) (Reference24Ideal.Value.run (F := Ideal) m ρ)
end Cert.Prod24
end
-- ==== Proof.Prod25.lean ====
/-
  The call `adamw_conv_ssm_w`: its four results are the reference's.
-/
module
public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Adam
@[expose] public section
set_option maxRecDepth 65536
noncomputable section
namespace Cert.Prod25
open Kernel25Ideal Kernel25Ideal.Gen Kernel25Ideal.Value Idealize.ShloMosaic.TcCoe Idealize.SL.Sem
open Idealize.ShloMosaic Halves Adam Reference25Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x4x512.Idx → EReal) (i : S4x512.Idx) : EReal := grad fun k => x (ix3 k (i 0) (i 1))
abbrev P : S8x4x512.Idx → EReal := m ((c : Thread nD τ).loc main_arg0)
abbrev W : S4x512.Idx → EReal := m ((c : Thread nD τ).loc main_arg1)
abbrev M : S4x512.Idx → EReal := m ((c : Thread nD τ).loc main_arg2)
abbrev U : S4x512.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S4x512.Idx)

/-- The point and the place in its block that an entry of the parameter is at. -/
theorem spot : ∃ (t : Fin cfg0.N) (y : S4x512.Idx), ((cfg0.win 4).blk t).view.emb y = i := by
  have h0 : (i 0).val < 4 := (i 0).isLt
  have h1 : (i 1).val < 512 := (i 1).isLt
  have hN : cfg0.N = 1 := N_0
  have e := (idx ⟨(i 0).val / 4, by omega⟩).2
  refine ⟨⟨(i 0).val / 4, by omega⟩, ix2 (n0 := 4) (n1 := 512) ⟨(i 0).val % 4, by omega⟩ ⟨(i 1).val, h1⟩, ext2 (a := 4) (b := 512) ?_ ?_⟩
  · show win0_4.index _ 0 * 4 + 1 * ((i 0).val % 4) = (i 0).val; rw [e.1]; show (i 0).val / 4 * 4 + _ = _; omega
  · show win0_4.index _ 1 * 512 + 1 * (i 1).val = (i 1).val; rw [e.2]; omega

variable (t : Fin cfg0.N) (y : S4x512.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 4 + 1 * (y 0).val = win0_4.index t 0 * 4 + 1 * (y 0).val; rw [e.2.1, f.1])
    (by show win0_0.index t 2 * 512 + 1 * (y 1).val = win0_4.index t 1 * 512 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x4x512_S4x512 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S4x512_S4x512_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S4x512_S4x512_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S4x512_S4x512_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S4x512_S4x512_0_0 _ _) y).trans (congrArg₂ snd (whole (hs0_3 t) _ _ _ (congrArg (U m c) h)) (tot m c i t y h))

/-- The reference at one index. -/
theorem ref (x : S8x4x512.Idx → EReal) : val_main_v0 (F := Ideal) x i = D x i := by
  refine (val_main_v0_apply x i).trans ((congrArg (_ + ·) (Finset.sum_congr rfl fun k _ => ?_)).trans (eight _))
  exact congrArg x (ext3 rfl rfl rfl)

theorem equal : algebraic_Kernel25Ideal_Reference25Ideal := by
  intro m ρ m' ρ' _ hagree
  refine ⟨_, _, _, _, run_blocks m ρ, ?_⟩
  refine (θ_run Reference25Ideal.defs _ _).mono (fun r h c => ?_) (Reference25Ideal.Value.run (F := Ideal) m' ρ')
  obtain ⟨r0, r1, r2, r3, rest⟩ := h c
  obtain ⟨g0, g1, g2, g3, -⟩ := hagree c
  refine ⟨funext fun i => (congrFun (r0.trans (val_main_v0_eq _)) i).trans ?_, funext fun i => (congrFun (r1.trans (val_main_v24_eq _ _ _ _)) i).trans ?_,
    funext fun i => (congrFun (r2.trans (val_main_v5_eq _ _)) i).trans ?_, funext fun i => (congrFun (r3.trans (val_main_v11_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference25Ideal.Facts] : quiescent_Reference25Ideal := fun m ρ _ =>
  (θ_run Reference25Ideal.defs _ _).mono (fun r h => ⟨fun c => (h c).2.2.2.2, sem_eq_zero_of_no_sems (by decide) r.2⟩) (Reference25Ideal.Value.run (F := Ideal) m ρ)
end Cert.Prod25
end
-- ==== Proof.Prod26.lean ====
/-
  The call `adamw_small_3`: its four results are the reference's.
-/
module
public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Adam
@[expose] public section
set_option maxRecDepth 65536
noncomputable section
namespace Cert.Prod26
open Kernel26Ideal Kernel26Ideal.Gen Kernel26Ideal.Value Idealize.ShloMosaic.TcCoe Idealize.SL.Sem
open Idealize.ShloMosaic Halves Adam Reference26Ideal.Read
open Idealize.ShloMosaic.ValueIdx (ix2 ix3)
variable (m : (ℓ : Loc nD τ sig) → Buf (Elt Ideal) ℓ) (c : Dev nD)

/-- The gradient at an entry of the parameter, and the parameter with its moments. -/
abbrev D (x : S8x2560x128.Idx → EReal) (i : S2560x128.Idx) : EReal := grad fun k => x (ix3 k (i 0) (i 1))
abbrev P : S8x2560x128.Idx → EReal := m ((c : Thread nD τ).loc main_arg0)
abbrev W : S2560x128.Idx → EReal := m ((c : Thread nD τ).loc main_arg1)
abbrev M : S2560x128.Idx → EReal := m ((c : Thread nD τ).loc main_arg2)
abbrev U : S2560x128.Idx → EReal := m ((c : Thread nD τ).loc main_arg3)

theorem idx : ∀ t : Fin cfg0.N, (win0_0.index t 0 = 0 ∧ win0_0.index t 1 = t.val ∧ win0_0.index t 2 = 0) ∧ win0_4.index t 0 = t.val ∧ win0_4.index t 1 = 0 := by
  decide +kernel

variable (i : S2560x128.Idx)

/-- The point and the place in its block that an entry of the parameter is at. -/
theorem spot : ∃ (t : Fin cfg0.N) (y : S256x128.Idx), ((cfg0.win 4).blk t).view.emb y = i := by
  have h0 : (i 0).val < 2560 := (i 0).isLt
  have h1 : (i 1).val < 128 := (i 1).isLt
  have hN : cfg0.N = 10 := N_0
  have e := (idx ⟨(i 0).val / 256, by omega⟩).2
  refine ⟨⟨(i 0).val / 256, by omega⟩, ix2 (n0 := 256) (n1 := 128) ⟨(i 0).val % 256, by omega⟩ ⟨(i 1).val, h1⟩, ext2 (a := 2560) (b := 128) ?_ ?_⟩
  · show win0_4.index _ 0 * 256 + 1 * ((i 0).val % 256) = (i 0).val; rw [e.1]; show (i 0).val / 256 * 256 + _ = _; omega
  · show win0_4.index _ 1 * 128 + 1 * (i 1).val = (i 1).val; rw [e.2]; omega

variable (t : Fin cfg0.N) (y : S256x128.Idx)

theorem rd (h : ((cfg0.win 4).blk t).view.emb y = i) (k : Fin 8) : iblk m c 0 t (ix3 k (y 0) (y 1)) = P m c (ix3 k (i 0) (i 1)) := by
  obtain ⟨e, f⟩ := idx t
  subst h
  exact congrArg (P m c) (ext3 (by show win0_0.index t 0 * 8 + 1 * k.val = k.val; rw [e.1]; omega)
    (by show win0_0.index t 1 * 256 + 1 * (y 0).val = win0_4.index t 0 * 256 + 1 * (y 0).val; rw [e.2.1, f.1])
    (by show win0_0.index t 2 * 128 + 1 * (y 1).val = win0_4.index t 1 * 128 + 1 * (y 1).val; rw [e.2.2, f.2]))

theorem tot (h : ((cfg0.win 4).blk t).view.emb y = i) : kernelRun0_A.sl.r c (ms0_0 t) (hs0_0 t) (iblk m c 0 t) y = D (P m c) i := by
  have s := fun k inb => (slab _ _ _ ((hs0_0 t).read_unread (iblk m c 0 t)) k inb shapeCasts_S1x256x128_S256x128 y).trans (rd m c i t y h k)
  unfold kernelRun0_A.sl.r
  exact congrArg₂ (· + ·) (congrArg₂ (· + ·) (congrArg₂ (· + ·) (congrArg₂ (· + ·) (congrArg₂ (· + ·) (congrArg₂ (· + ·) (congrArg₂ (· + ·)
    (s 0 _) (s 1 _)) (s 2 _)) (s 3 _)) (s 4 _)) (s 5 _)) (s 6 _)) (s 7 _)

/-- The results of the call. -/
theorem arr4 : (dats m 0 c).arrAt 4 cfg0.N i = D (P m c) i := by
  obtain ⟨t, y, h⟩ := spot i
  refine (congrArg _ h).symm.trans ((congrFun (blocks4 m c t (flush0_4 t)) _).trans ((congrFun (flushed4 m c t) y).trans ?_))
  unfold outsAt0 out0_A_4 kernelRun0_A
  dsimp only
  exact (congrFun (View.read_writes_full VO0_4 _ inb_S256x128_S256x128_0_0 _ _) y).trans ((tot m c i t y h))
theorem arr5 : (dats m 0 c).arrAt 5 cfg0.N i = step (W m c i) (M m c i) (U m c i) (D (P m c) i) := by
  obtain ⟨t, y, h⟩ := spot i
  refine (congrArg _ h).symm.trans ((congrFun (blocks5 m c t (flush0_5 t)) _).trans ((congrFun (flushed5 m c t) y).trans ?_))
  unfold outsAt0 out0_A_5 kernelRun0_A kernelRun0_A.sl.r_1
  dsimp only
  exact (congrFun (View.read_writes_full VO0_5 _ inb_S256x128_S256x128_0_0 _ _) y).trans (step4 (whole (hs0_1 t) _ _ _ (congrArg (W m c) h)) (whole (hs0_2 t) _ _ _ (congrArg (M m c) h)) (whole (hs0_3 t) _ _ _ (congrArg (U m c) h)) (tot m c i t y h))
theorem arr6 : (dats m 0 c).arrAt 6 cfg0.N i = fst (M m c i) (D (P m c) i) := by
  obtain ⟨t, y, h⟩ := spot i
  refine (congrArg _ h).symm.trans ((congrFun (blocks6 m c t (flush0_6 t)) _).trans ((congrFun (flushed6 m c t) y).trans ?_))
  unfold outsAt0 out0_A_6 kernelRun0_A kernelRun0_A.sl.r_1
  dsimp only
  exact (congrFun (View.read_writes_full VO0_6 _ inb_S256x128_S256x128_0_0 _ _) y).trans (congrArg₂ fst (whole (hs0_2 t) _ _ _ (congrArg (M m c) h)) (tot m c i t y h))
theorem arr7 : (dats m 0 c).arrAt 7 cfg0.N i = snd (U m c i) (D (P m c) i) := by
  obtain ⟨t, y, h⟩ := spot i
  refine (congrArg _ h).symm.trans ((congrFun (blocks7 m c t (flush0_7 t)) _).trans ((congrFun (flushed7 m c t) y).trans ?_))
  unfold outsAt0 out0_A_7 kernelRun0_A
  dsimp only
  exact (congrFun (View.read_writes_full VO0_7 _ inb_S256x128_S256x128_0_0 _ _) y).trans (congrArg₂ snd (whole (hs0_3 t) _ _ _ (congrArg (U m c) h)) (tot m c i t y h))

/-- The reference at one index. -/
theorem ref (x : S8x2560x128.Idx → EReal) : val_main_v0 (F := Ideal) x i = D x i := by
  refine (val_main_v0_apply x i).trans ((congrArg (_ + ·) (Finset.sum_congr rfl fun k _ => ?_)).trans (eight _))
  exact congrArg x (ext3 rfl rfl rfl)

theorem equal : algebraic_Kernel26Ideal_Reference26Ideal := by
  intro m ρ m' ρ' _ hagree
  refine ⟨_, _, _, _, run_blocks m ρ, ?_⟩
  refine (θ_run Reference26Ideal.defs _ _).mono (fun r h c => ?_) (Reference26Ideal.Value.run (F := Ideal) m' ρ')
  obtain ⟨r0, r1, r2, r3, rest⟩ := h c
  obtain ⟨g0, g1, g2, g3, -⟩ := hagree c
  refine ⟨funext fun i => (congrFun (r0.trans (val_main_v0_eq _)) i).trans ?_, funext fun i => (congrFun (r1.trans (val_main_v24_eq _ _ _ _)) i).trans ?_,
    funext fun i => (congrFun (r2.trans (val_main_v5_eq _ _)) i).trans ?_, funext fun i => (congrFun (r3.trans (val_main_v11_eq _ _)) i).trans ?_, rest⟩
  · rw [g0]; exact (ref i _).trans (arr4 m c i).symm
  · rw [g0, g1, g2, g3]; exact (congrArg (step (W m c i) (M m c i) (U m c i)) (ref i _)).trans (arr5 m c i).symm
  · rw [g0, g2]; exact (congrArg (fst (M m c i)) (ref i _)).trans (arr6 m c i).symm
  · rw [g0, g3]; exact (congrArg (snd (U m c i)) (ref i _)).trans (arr7 m c i).symm

theorem quiet [Reference26Ideal.Facts] : quiescent_Reference26Ideal := fun m ρ _ =>
  (θ_run Reference26Ideal.defs _ _).mono (fun r h => ⟨fun c => (h c).2.2.2.2, sem_eq_zero_of_no_sems (by decide) r.2⟩) (Reference26Ideal.Value.run (F := Ideal) m ρ)
end Cert.Prod26
end
-- ==== Proof.Prod27.lean ====
/-
  The call `rms_mix_bwd`: its two results are the reference's.
-/
module
public import proofs.«01_k».proof.Defs
public import proofs.«01_k».proof.Proof.Gen.Kernel27Ideal.Value
public import proofs.«01_k».proof.Proof.Gen.Reference27Ideal.Read
public import proofs.«01_k».proof.Proof.Spec
public import proofs.«01_k».proof.Proof.Halves
public import Idealize.ShloMosaic.Lib.Pointwise
public import Idealize.ShloMosaic.Lib.KernelVsHost
public import Idealize.ShloMosaic.Lib.StableHlo.Run
public import Idealize.ShloMosaic.Lib.Pipeline.ValueKit.Tiles
@[expose] public section
set_option maxRecDepth 65536
noncomputable section
namespace Cert.Prod27
open Kernel27Ideal Kernel27Ideal.Gen Kernel27Ideal.Value Idealize.ShloMosaic.TcCoe Idealize.SL.Sem Spec
open Idealize.ShloMosaic hiding ix1 ix2 ix3
open Halves Reference27Ideal.Read
open Idealize.ShloMosaic.ValueIdx (ix1 ix2)

/-! ## One block of 256 rows -/

abbrev T := FVec Ideal S256x2048 .f32
abbrev at2 (r : Fin 256) (j : Fin 2048) : S256x2048.Idx := ix2 (n0 := 256) (n1 := 2048) r j
abbrev row (z : T) (r : Fin 256) : Fin 2048 → EReal := fun j => z (at2 r j)

theorem col (z : FVec Ideal S256 .f32) (r : Fin 256) (q : Fin 1) : shapeCast S256x1 z shapeCasts_S256_S256x1 (ix2 r q) = z (ix1 r) :=
  shapeCast_apply z _ _ _ (by
    rewrite [Shape.rowMajor_val_one, Shape.rowMajor_val_two]
    show r.val = r.val * 1 + q.val
    omega)
theorem sumW (z : T) (r : Fin 256) (q : Fin 1) : shapeCast S256x1 (multiReduction .add [1] S256 z 0x00000000#32 reduces_S256x2048_S256 (.inl rfl) rfl) shapeCasts_S256_S256x1 (ix2 r q)
    = ∑ d, row z r d := by
  rw [col]
  simp only [pointwise, Ideal.reduceAdd_def]
  exact Finset.sum_congr rfl fun d _ => congrArg z (ext2 (a := 256) (b := 2048) rfl rfl)
theorem sumC (z : FVec Ideal S256x1 .f32) (r : Fin 256) (q : Fin 1) : shapeCast S256x1 (multiReduction .add [1] S256 z 0x00000000#32 reduces_S256x1_S256 (.inl rfl) rfl) shapeCasts_S256_S256x1 (ix2 r q)
    = z (ix2 r 0) := by
  rw [col]
  simp only [pointwise, Ideal.reduceAdd_def]
  rw [Fin.sum_univ_one]
  exact congrArg z (ext2 (a := 256) (b := 1) rfl rfl)
theorem bW (z : FVec Ideal S256x1 .f32) (r : Fin 256) (j : Fin 2048) : broadcastTo S256x2048 z broadcasts_S256x1_S256x2048 (at2 r j) = z (ix2 r 0) :=
  broadcastTo_apply z _ _ _ (fun a => match a with | ⟨0, _⟩ => rfl | ⟨1, _⟩ => rfl)

theorem p4 (x : T) (r : Fin 256) (q : Fin 1) : k0_pay4 (F := Ideal) x (ix2 r q) = me (row x r) :=
  congrArg (fun s => Ideal.div s _ + _) (sumW (mulf x x) r q)
theorem p5 (x : T) (r : Fin 256) (q : Fin 1) : k0_pay5 (F := Ideal) x (ix2 r q) = rr (row x r) := congrArg Ideal.rsqrt (p4 x r q)
theorem p7 (x : T) (d : FVec Ideal S256x2048 .bf16) (q : Fin 1) (j : Fin 2048) :
    k0_pay7 (F := Ideal) x d (ix2 q j) = (∑ t, (x (at2 t j) * rr (row x t)) * d (at2 t j) : EReal) := by
  unfold k0_pay7
  dsimp only
  rw [shapeCast_apply _ shapeCasts_S2048_S1x2048 (ix2 q j) (ix1 j) (by
    rewrite [Shape.rowMajor_val_one, Shape.rowMajor_val_two]
    show j.val = q.val * 2048 + j.val
    omega)]
  simp only [pointwise, Ideal.reduceAdd_def]
  refine Finset.sum_congr rfl fun t _ => ?_
  refine (congrArg (fun i => (x i * broadcastTo S256x2048 (k0_pay5 (F := Ideal) x) broadcasts_S256x1_S256x2048 i) * d i : _ → EReal) (ext2 (a := 256) (b := 2048) (i := at2 t j) rfl rfl)).trans ?_
  exact congrArg (fun s => (x (at2 t j) * s) * d (at2 t j) : EReal → EReal) ((bW _ t j).trans (p5 x t 0))
theorem pq (x e : T) (r : Fin 256) (q : Fin 1) : divf (mulf (shapeCast S256x1 (multiReduction .add [1] S256 (mulf x e) 0x00000000#32 reduces_S256x2048_S256 (.inl rfl) rfl) shapeCasts_S256_S256x1)
      (mulf (broadcast S256x1 (Scalar.ofBits .f32 0xBF000000#32)) (divf (k0_pay5 x) (k0_pay4 x)))) (broadcast S256x1 (Scalar.ofBits .f32 0x45000000#32)) (ix2 r q) = rq (row x r) (row e r) := by
  show Ideal.div (shapeCast S256x1 (multiReduction .add [1] S256 (mulf x e) 0x00000000#32 reduces_S256x2048_S256 (.inl rfl) rfl) shapeCasts_S256_S256x1 (ix2 r q)
    * (k 0xBF000000#32 * Ideal.div (k0_pay5 (F := Ideal) x (ix2 r q)) (k0_pay4 (F := Ideal) x (ix2 r q)))) (k 0x45000000#32) = _
  rw [sumW, p5, p4]
  rfl
theorem p8 (x : T) (g : FVec Ideal S1x2048 .f32) (d : FVec Ideal S256x2048 .bf16) (r : Fin 256) (j : Fin 2048) :
    k0_pay8 (F := Ideal) x g d (at2 r j) = rBk (row x r) (fun j => (d (at2 r j) * g (ix2 0 j) : EReal)) j := by
  obtain ⟨e, he⟩ : ∃ e : T, e = mulf (k0_pay6 d) (broadcastTo S256x2048 (shapeCast S1x2048 g shapeCasts_S1x2048_S1x2048) broadcasts_S1x2048_S256x2048) := ⟨_, rfl⟩
  have e' : row e r = fun j => (d (at2 r j) * g (ix2 0 j) : EReal) := funext fun j => by
    rw [he, shapeCast_self]
    exact congrArg (fun s => (d (at2 r j) * s : EReal)) (broadcastTo_apply g _ _ _ (fun a => match a with | ⟨0, _⟩ => rfl | ⟨1, _⟩ => rfl))
  rw [← e']
  unfold k0_pay8
  dsimp only
  rw [← he]
  have b := (bW _ r j).trans ((sumC _ r 0).trans (pq x e r 0))
  exact congrArg₂ (fun s u : EReal => (e (at2 r j) * s + x (at2 r j) * u) + u * x (at2 r j)) ((bW _ r j).trans (p5 x r 0)) b

/-! ## The 32 blocks -/

variable (m : (ℓ : Loc nD τ sig) → Buf (Elt Ideal) ℓ) (c : Dev nD)
abbrev B := S8192x2048.Idx → EReal
abbrev X : B := m ((c : Thread nD τ).loc main_arg0)
abbrev G : S2048.Idx → EReal := m ((c : Thread nD τ).loc main_arg1)
abbrev D : B := m ((c : Thread nD τ).loc main_arg2)
abbrev H : B := m ((c : Thread nD τ).loc main_arg3)
abbrev big (r : Fin 8192) (j : Fin 2048) : S8192x2048.Idx := ix2 (n0 := 8192) (n1 := 2048) r j
/-- The gradient of the normalisation's input at a row and a lane, and a row's part of the weight's. -/
def dx (x : B) (g : S2048.Idx → EReal) (d : B) (r : Fin 8192) (j : Fin 2048) : EReal := rBk (fun j => x (big r j)) (fun j => d (big r j) * g (ix1 j)) j
def dg (x d : B) (j : Fin 2048) (r : Fin 8192) : EReal := (x (big r j) * rr fun j => x (big r j)) * d (big r j)
abbrev at' (n : ℕ) (r : Fin 256) : Fin 8192 := ⟨256 * (n % 32) + r.val, by omega⟩

theorem idx : ∀ t : Fin cfg0.N, (win0_0.index t 0 = t.val % 32 ∧ win0_0.index t 1 = 0) ∧ (win0_1.index t 0 = 0 ∧ win0_1.index t 1 = 0) ∧ (win0_2.index t 0 = t.val % 32 ∧ win0_2.index t 1 = 0)
    ∧ (win0_3.index t 0 = t.val % 32 ∧ win0_3.index t 1 = 0) ∧ (win0_4.index t 0 = t.val % 32 ∧ win0_4.index t 1 = 0) ∧ (win0_5.index t 0 = 0 ∧ win0_5.index t 1 = 0) := by
  decide +kernel

variable (t : Fin cfg0.N) (r : Fin 256) (j : Fin 2048)
theorem rd0 : iblk m c 0 t (at2 r j) = X m c (big (at' t.val r) j) := by
  have e := (idx t).1
  exact congrArg (X m c) (ext2 (a := 8192) (b := 2048) (by show win0_0.index t 0 * 256 + 1 * r.val = 256 * (t.val % 32) + r.val; omega) (by show win0_0.index t 1 * 2048 + 1 * j.val = j.val; omega))
theorem rd2 : iblk m c 2 t (at2 r j) = D m c (big (at' t.val r) j) := by
  have e := (idx t).2.2.1
  exact congrArg (D m c) (ext2 (a := 8192) (b := 2048) (by show win0_2.index t 0 * 256 + 1 * r.val = 256 * (t.val % 32) + r.val; omega) (by show win0_2.index t 1 * 2048 + 1 * j.val = j.val; omega))
theorem rd3 : iblk m c 3 t (at2 r j) = H m c (big (at' t.val r) j) := by
  have e := (idx t).2.2.2.1
  exact congrArg (H m c) (ext2 (a := 8192) (b := 2048) (by show win0_3.index t 0 * 256 + 1 * r.val = 256 * (t.val % 32) + r.val; omega) (by show win0_3.index t 1 * 2048 + 1 * j.val = j.val; omega))
theorem V_main_v0 : V m c main_v0 = shapeCast S1x2048 (m ((c : Thread nD τ).loc main_arg1)) shapeCasts_S2048_S1x2048 := by
  unfold V
  simp only [hostOps0, List.flatten_cons, List.flatten_nil, List.append_nil, List.cons_append, List.nil_append]
  after_results
  rfl
theorem rd1 : iblk m c 1 t (ix2 (n0 := 1) (n1 := 2048) 0 j) = G m c (ix1 j) := by
  unfold iblk
  rw [View.read_apply]
  show V m c main_v0 _ = _
  rw [V_main_v0]
  have e := (idx t).2.1
  refine shapeCast_apply _ _ _ _ ?_
  show (Shape.rowMajor S2048 (ix1 j)).val = (Shape.rowMajor S1x2048 _).val
  rw [Shape.rowMajor_val_one, Shape.rowMajor_val_two]
  show j.val = (win0_1.index t 0 * 1 + 1 * 0) * 2048 + (win0_1.index t 1 * 2048 + 1 * j.val)
  omega

theorem b8 : k0_pay8 (F := Ideal) (iblk m c 0 t) (iblk m c 1 t) (iblk m c 2 t) (at2 r j) = dx (X m c) (G m c) (D m c) (at' t.val r) j := by
  refine (p8 _ _ _ r j).trans ?_
  have e : row (iblk m c 0 t) r = fun j => X m c (big (at' t.val r) j) := funext fun j => rd0 m c t r j
  rw [e]
  exact congrArg (fun f => rBk _ f j) (funext fun j => congrArg₂ (fun a b : EReal => a * b) (rd2 m c t r j) (rd1 m c t j))
theorem b7 (q : Fin 1) : k0_pay7 (F := Ideal) (iblk m c 0 t) (iblk m c 2 t) (ix2 q j) = ∑ r, dg (X m c) (D m c) j (at' t.val r) := by
  refine (p7 _ _ q j).trans (Finset.sum_congr rfl fun r _ => ?_)
  have e : row (iblk m c 0 t) r = fun j => X m c (big (at' t.val r) j) := funext fun j => rd0 m c t r j
  rw [e]
  exact congrArg₂ (fun a b : EReal => (a * rr fun j => X m c (big (at' t.val r) j)) * b) (rd0 m c t r j) (rd2 m c t r j)

theorem outx : (outsAt0 m c t.val t.isLt).1 (at2 r j) = (H m c (big (at' t.val r) j) + dx (X m c) (G m c) (D m c) (at' t.val r) j : EReal) := by
  have e : (outsAt0 m c t.val t.isLt).1 = k0_pay1 (k0_pay8 (iblk m c 0 t) (iblk m c 1 t) (iblk m c 2 t)) (iblk m c 3 t) := by
    have w0 := (View.readAt_full (Val := Elt Ideal) (ms0_0 t).view ((hs0_0 t).unread (iblk m c 0 t)) inb_S256x2048_S256x2048_0_0).trans (Memref.IsWhole.read_unread _ _)
    have w1 := (View.readAt_full (Val := Elt Ideal) (ms0_1 t).view ((hs0_1 t).unread (iblk m c 1 t)) inb_S1x2048_S1x2048_0_0).trans (Memref.IsWhole.read_unread _ _)
    have w2 := (View.readAt_full (Val := Elt Ideal) (ms0_2 t).view ((hs0_2 t).unread (iblk m c 2 t)) inb_S256x2048_S256x2048_0_0).trans (Memref.IsWhole.read_unread _ _)
    have w3 := (View.readAt_full (Val := Elt Ideal) (ms0_3 t).view ((hs0_3 t).unread (iblk m c 3 t)) inb_S256x2048_S256x2048_0_0).trans (Memref.IsWhole.read_unread _ _)
    by_cases h : t.val % 32 = 0
    · refine (congrArg Prod.fst (outsAt0_A m c t h)).trans ?_
      dsimp only
      unfold out0_A_4 kernelRun0_A kernelRun0_A.sl.r_1
      dsimp only
      refine (View.read_writes_full VO0_4 _ inb_S256x2048_S256x2048_0_0 _ _).trans ?_
      exact congrArg₂ k0_pay1 (congr (congrArg₂ k0_pay8 w0 w1) w2) w3
    · refine (congrArg Prod.fst (outsAt0_B m c t h)).trans ?_
      dsimp only
      unfold out0_B_4 kernelRun0_B kernelRun0_B.sl.r_1
      dsimp only
      refine (View.read_writes_full VO0_4 _ inb_S256x2048_S256x2048_0_0 _ _).trans ?_
      exact congrArg₂ k0_pay1 (congr (congrArg₂ k0_pay8 w0 w1) w2) w3
  exact (congrFun e _).trans (congrArg₂ (fun a b : EReal => a + b) (rd3 m c t r j) (b8 m c t r j))

/-! ## The weight's gradient, summed in row 0 -/

abbrev rN : Rect S8x2048 := Rect.unit (s := S8x2048) ![0, 0] S1x2048.size inb_S8x2048_S1x2048_0_0
theorem emb_rN : rN.emb (ix2 (n0 := 1) (n1 := 2048) 0 j) = ix2 (n0 := 8) (n1 := 2048) 0 j :=
  ext2 (a := 8) (b := 2048) rfl (by show 0 + 1 * j.val = j.val; omega)
theorem acc {sig : RefSig} {sp} (v : View sig .tc sp S8x2048 .f32) (b : v.ty.Contents (Elt Ideal)) (p : rN.shape.Idx → EReal) (L : List (View.Piece (Elt Ideal) S8x2048 .f32)) (q : Fin 8) :
    v.read (Elt Ideal) (v.writes (Elt Ideal) b (⟨rN, p⟩ :: L)) (ix2 (n0 := 8) (n1 := 2048) q j)
      = if q.val = 0 then p (ix2 (n0 := 1) (n1 := 2048) 0 j) else v.read (Elt Ideal) (v.writes (Elt Ideal) b L) (ix2 (n0 := 8) (n1 := 2048) q j) := by
  by_cases h : q.val = 0
  · rw [if_pos h, show q = 0 from Fin.ext h, ← emb_rN, View.read_writes_cons_emb]
  · rw [if_neg h, View.writes_cons, View.read_slice_write_of_not_mem _ _ _ _ (by
      rw [Rect.map_emb_univ, Rect.mem_set_unit]
      intro H
      have h0 := (H 0).2
      change q.val < 0 + 1 at h0
      omega)]

theorem p2 (a b : FVec Ideal S1x2048 .f32) (u v : EReal) (ha : a (ix2 0 j) = v) (hb : b (ix2 0 j) = u) : k0_pay2 (F := Ideal) a b (ix2 0 j) = u + v :=
  congrArg₂ (fun s u : EReal => s + u) ((congrFun (shapeCast_self b _) _).trans hb) ha

theorem outg : ∀ (n : ℕ) (hn : n < cfg0.N) (q : Fin 8), (outsAt0 m c n hn).2 (ix2 (n0 := 8) (n1 := 2048) q j)
    = if q.val = 0 then ∑ k ∈ Finset.range (n + 1), ∑ r, dg (X m c) (D m c) j (at' k r) else 0
  | 0, hn, q => by
    have w0 := (View.readAt_full (Val := Elt Ideal) (ms0_0 ⟨0, hn⟩).view ((hs0_0 ⟨0, hn⟩).unread (iblk m c 0 ⟨0, hn⟩)) inb_S256x2048_S256x2048_0_0).trans (Memref.IsWhole.read_unread _ _)
    have w2 := (View.readAt_full (Val := Elt Ideal) (ms0_2 ⟨0, hn⟩).view ((hs0_2 ⟨0, hn⟩).unread (iblk m c 2 ⟨0, hn⟩)) inb_S256x2048_S256x2048_0_0).trans (Memref.IsWhole.read_unread _ _)
    refine (congrFun (congrArg Prod.snd (outsAt0_A m c ⟨0, hn⟩ rfl)) _).trans ?_
    dsimp only
    unfold out0_A_5 kernelRun0_A kernelRun0_A.sl.r
    dsimp only
    refine (acc j VO0_5 _ _ _ q).trans ?_
    by_cases h : q.val = 0
    · rw [if_pos h, if_pos h, Finset.sum_range_one]
      refine (p2 j _ _ 0 _ ((congrFun (congrArg₂ k0_pay7 w0 w2) _).trans (b7 m c ⟨0, hn⟩ j 0)) ?_).trans (zero_add _)
      unfold kernelRun0_A.sl.v45 kernelRun0_A.sl.H5_1
      rw [View.readCov_eq_canon', View.canon_unit_zero (S := S8x2048) (funext fun a : Fin 2 => match a with | ⟨0, _⟩ => rfl | ⟨1, _⟩ => rfl)]
      exact Ideal.ofBits_zero_f32
    · rw [if_neg h, if_neg h]
      refine (congrFun (View.read_writes_full VO0_5 _ inb_S8x2048_S8x2048_0_0 _ _) _).trans ?_
      exact Ideal.ofBits_zero_f32
  | n + 1, hn, q => by
    have hN : cfg0.N = 32 := N_0
    have w0 := (View.readAt_full (Val := Elt Ideal) (ms0_0 ⟨n + 1, hn⟩).view ((hs0_0 ⟨n + 1, hn⟩).unread (iblk m c 0 ⟨n + 1, hn⟩)) inb_S256x2048_S256x2048_0_0).trans (Memref.IsWhole.read_unread _ _)
    have w2 := (View.readAt_full (Val := Elt Ideal) (ms0_2 ⟨n + 1, hn⟩).view ((hs0_2 ⟨n + 1, hn⟩).unread (iblk m c 2 ⟨n + 1, hn⟩)) inb_S256x2048_S256x2048_0_0).trans (Memref.IsWhole.read_unread _ _)
    refine (congrFun (congrArg Prod.snd (outsAt0_B m c ⟨n + 1, hn⟩ (by dsimp only; omega))) _).trans ?_
    dsimp only
    unfold out0_B_5 kernelRun0_B kernelRun0_B.sl.r
    dsimp only
    refine (acc j (ms0_5 ⟨n + 1, hn⟩).view _ _ _ q).trans ?_
    by_cases h : q.val = 0
    · rw [if_pos h, if_pos h, Finset.sum_range_succ]
      refine p2 j _ _ _ _ ((congrFun (congrArg₂ k0_pay7 w0 w2) _).trans (b7 m c ⟨n + 1, hn⟩ j 0)) ?_
      rw [View.readAt_eq_ld, Memref.IsWhole.read_unread]
      refine (congrArg (outsAt0 m c n _).2 (emb_rN j)).trans ((outg n _ 0).trans (if_pos rfl))
    · rw [if_neg h, if_neg h, View.writes_nil, Memref.IsWhole.read_unread]
      exact (outg n _ q).trans (if_neg h)

/-- A sum over all the rows, block by block. -/
theorem rows (f : Fin 8192 → EReal) : ∑ k ∈ Finset.range 32, ∑ r, f (at' k r) = ∑ r, f r := by
  rw [Finset.sum_range, ← Fintype.sum_prod_type (f := fun p : Fin 32 × Fin 256 => f (at' p.1.val p.2))]
  refine Fintype.sum_bijective (fun p : Fin 32 × Fin 256 => at' p.1.val p.2) ⟨fun p q e => ?_, fun r => ?_⟩ _ _ fun _ => rfl
  · have h : 256 * (p.1.val % 32) + p.2.val = 256 * (q.1.val % 32) + q.2.val := congrArg Fin.val e
    exact Prod.ext (Fin.ext (by omega)) (Fin.ext (by omega))
  · exact ⟨(⟨r.val / 256, by omega⟩, ⟨r.val % 256, by omega⟩), Fin.ext (by show 256 * (r.val / 256 % 32) + r.val % 256 = r.val; omega)⟩

/-! ## The results of the call -/

theorem arr4 (r : Fin 8192) : (dats m 0 c).arrAt 4 cfg0.N (big r j) = (H m c (big r j) + dx (X m c) (G m c) (D m c) r j : EReal) := by
  have hN : cfg0.N = 32 := N_0
  obtain ⟨t, ht⟩ : ∃ t : Fin cfg0.N, t.val = r.val / 256 := ⟨⟨r.val / 256, by omega⟩, rfl⟩
  have e := (idx t).2.2.2.2.1
  have h : ((cfg0.win 4).blk t).view.emb (at2 ⟨r.val % 256, by omega⟩ j) = big r j := ext2 (a := 8192) (b := 2048)
    (by show win0_4.index t 0 * 256 + 1 * (r.val % 256) = r.val; omega) (by show win0_4.index t 1 * 2048 + 1 * j.val = j.val; omega)
  refine (congrArg _ h).symm.trans ((congrFun (blocks4 m c t (flush0_4 t)) _).trans ((congrFun (flushed4 m c t) _).trans ((outx m c t ⟨r.val % 256, by omega⟩ j).trans ?_)))
  rw [show at' t.val ⟨r.val % 256, by omega⟩ = r from Fin.ext (by show 256 * (t.val % 32) + r.val % 256 = r.val; omega)]

theorem arr5 (q : Fin 8) : (dats m 0 c).arrAt 5 cfg0.N (ix2 (n0 := 8) (n1 := 2048) q j) = if q.val = 0 then ∑ r, dg (X m c) (D m c) j r else (0 : EReal) := by
  have hN : cfg0.N = 32 := N_0
  obtain ⟨t, ht⟩ : ∃ t : Fin cfg0.N, t.val = 31 := ⟨⟨31, by omega⟩, rfl⟩
  have e := (idx t).2.2.2.2.2
  have h : ((cfg0.win 5).blk t).view.emb (ix2 (n0 := 8) (n1 := 2048) q j) = ix2 (n0 := 8) (n1 := 2048) q j := ext2 (a := 8) (b := 2048)
    (by show win0_5.index t 0 * 8 + 1 * q.val = q.val; omega) (by show win0_5.index t 1 * 2048 + 1 * j.val = j.val; omega)
  have w := (dats m 0 c).arrAt_emb_eq_flushed 5 (fun t t' h h' hne => absurd (Fin.ext (by
    have a := (flush0_5 t).mp h; have b := (flush0_5 t').mp h'; have := t.isLt; have := t'.isLt; omega)) hne) t ((flush0_5 t).mpr (by omega)) (ix2 (n0 := 8) (n1 := 2048) q j)
  refine (congrArg _ h).symm.trans (w.trans ((congrFun (flushed5 m c t) _).trans ((outg m c j t.val t.isLt q).trans ?_)))
  rw [ht, rows]

/-! ## The reference -/

variable (x d : B) (g : S2048.Idx → EReal)
theorem f6 (i : Reference27Ideal.S8192x1.Idx) : val_main_v6 (F := Ideal) x i = me fun j => x (big (i 0) j) :=
  congrArg₂ (fun a b : EReal => a + b) (congrArg₂ Ideal.div ((val_main_v2_apply (F := Ideal) x i).trans ((val_main_v1_apply x _).trans
    ((congrArg₂ (fun a b : EReal => a + b) Ideal.ofBits_zero_f32 (Finset.sum_congr rfl fun j _ =>
      congrArg (val_main_v0 (F := Ideal) x) (ext2 (a := 8192) (b := 2048) (i := big (i 0) j) (by rfl) (by rfl)))).trans (zero_add _)))) (val_main_v3_apply (F := Ideal) i)) (val_main_v5_apply (F := Ideal) i)
theorem f7 (i : Reference27Ideal.S8192x1.Idx) : val_main_v7 (F := Ideal) x i = rr fun j => x (big (i 0) j) := congrArg Ideal.rsqrt (f6 x i)
theorem f10 (i : Reference27Ideal.S8192x1.Idx) : val_main_v10 (F := Ideal) x i = rd fun j => x (big (i 0) j) :=
  congrArg₂ (fun a b : EReal => a * b) (val_main_v9_apply (F := Ideal) i) (congrArg₂ Ideal.div (f7 x i) (f6 x i))
theorem f21 (r : Fin 8192) (j : Fin 2048) : val_main_v21 (F := Ideal) g d (big r j) = (d (big r j) * g (ix1 j) : EReal) :=
  congrArg (fun s => (d (big r j) * s : EReal)) ((val_main_v20_apply (F := Ideal) g _).trans ((val_main_v13_apply (F := Ideal) g _).trans (congrArg g (ext1 rfl))))
theorem f32 (r : Fin 8192) (j : Fin 2048) : val_main_v32 (F := Ideal) x g d (big r j) = rq (fun j => x (big r j)) (fun j => (d (big r j) * g (ix1 j) : EReal)) := by
  refine (val_main_v32_apply (F := Ideal) x g d _).trans ((val_main_v31_apply x g d _).trans ((congrArg₂ (fun a b : EReal => a + b) Ideal.ofBits_zero_f32 (Fin.sum_univ_one _)).trans ((zero_add _).trans ?_)))
  refine congrArg₂ Ideal.div (congrArg₂ (fun a b : EReal => a * b) ?_ (f10 x _)) (val_main_v29_apply (F := Ideal) _)
  refine (val_main_v25_apply (F := Ideal) x g d _).trans ((val_main_v24_apply x g d _).trans ((congrArg₂ (fun a b : EReal => a + b) Ideal.ofBits_zero_f32 (Finset.sum_congr rfl fun j _ => ?_)).trans (zero_add _)))
  refine (congrArg (val_main_v23 (F := Ideal) x g d) (ext2 (a := 8192) (b := 2048) (i := big r j) (by show r.val * 1 + 0 = r.val; omega) (by rfl))).trans ?_
  exact congrArg (fun s => (x (big r j) * s : EReal)) (f21 d g r j)
theorem refx (y : B) (r : Fin 8192) (j : Fin 2048) : val_main_v38 (F := Ideal) x g d y (big r j) = (y (big r j) + dx x g d r j : EReal) := by
  have e := f32 x d g r j
  exact congrArg (fun s => (y (big r j) + s : EReal)) (congrArg₂ (fun a b : EReal => a + b) (congrArg₂ (fun a b : EReal => a + b)
    (congrArg₂ (fun a b : EReal => a * b) (f21 d g r j) ((val_main_v26_apply (F := Ideal) x _).trans (f7 x _)))
    (congrArg (fun s => (x (big r j) * s : EReal)) e)) (congrArg (fun s => (s * x (big r j) : EReal)) e))
theorem f39 (j : Fin 2048) : val_main_v39 (F := Ideal) x d (ix2 (n0 := 1) (n1 := 2048) 0 j) = ∑ r, dg x d j r := by
  refine (val_main_v39_apply (F := Ideal) x d _).trans ((val_main_v22_apply x d _).trans ((congrArg₂ (fun a b : EReal => a + b) Ideal.ofBits_zero_f32 (Fin.sum_univ_one _)).trans ((zero_add _).trans ?_)))
  refine (val_main_v19_apply (F := Ideal) x d _).trans ((val_main_v18_apply x d _).trans ((congrArg₂ (fun a b : EReal => a + b) Ideal.ofBits_zero_f32 (Finset.sum_congr rfl fun r _ => ?_)).trans (zero_add _)))
  refine (congrArg (val_main_v17 (F := Ideal) x d) (ext2 (a := 8192) (b := 2048) (i := big r j) (by rfl) (by show 0 * 2048 + j.val = j.val; omega))).trans ?_
  exact congrArg (fun s => (x (big r j) * s * d (big r j) : EReal)) ((val_main_v11_apply (F := Ideal) x _).trans (f7 x _))
theorem refg (q : Fin 8) (j : Fin 2048) : val_main_v40 (F := Ideal) x d (ix2 (n0 := 8) (n1 := 2048) q j) = if q.val = 0 then ∑ r, dg x d j r else 0 := by
  unfold val_main_v40
  by_cases h : q.val = 0
  · rw [if_pos h]
    exact (pad_apply_of_inside _ _ _ _ _ _ _ _ (ix2 (n0 := 1) (n1 := 2048) 0 j) (fun a => match a with
      | ⟨0, _⟩ => (by show q.val = 0 + 0 * (0 + 1); omega)
      | ⟨1, _⟩ => (by show j.val = 0 + j.val * (0 + 1); omega))).trans (f39 x d j)
  · rw [if_neg h]
    refine (pad_apply_of_not_inside _ _ _ _ _ _ _ _ 0 (fun hin => h ?_)).trans ?_
    · have h3 : (q.val - 0) / (0 + 1) < 1 := hin.2.2
      omega
    · show ((((0#32 : BitVec 32).toInt : Int) : ℝ) : EReal) = 0
      simp

theorem equal : algebraic_Kernel27Ideal_Reference27Ideal := by
  intro m ρ m' ρ' _ hagree
  refine ⟨_, _, run_blocks m ρ, ?_⟩
  refine (θ_run Reference27Ideal.defs _ _).mono (fun r h c => ?_) (Reference27Ideal.Value.run (F := Ideal) m' ρ')
  obtain ⟨r0, r1, rest⟩ := h c
  obtain ⟨g0, g1, g2, g3⟩ := hagree c
  refine ⟨funext fun i => (congrFun (r0.trans (val_main_v38_eq _ _)) i).trans ?_, funext fun i => (congrFun (r1.trans (val_main_v40_eq _ _)) i).trans ?_, rest⟩
  · rw [g0, g1, g2, g3, show i = big (i 0) (i 1) from ext2 (a := 8192) (b := 2048) rfl rfl]
    exact (refx _ _ _ _ _ _).trans (arr4 m c (i 1) (i 0)).symm
  · rw [g0, g2, show i = ix2 (n0 := 8) (n1 := 2048) (i 0) (i 1) from ext2 (a := 8) (b := 2048) rfl rfl]
    exact (refg _ _ _ _).trans (arr5 m c (i 1) (i 0)).symm

theorem quiet [Reference27Ideal.Facts] : quiescent_Reference27Ideal := fun m ρ _ =>
  (θ_run Reference27Ideal.defs _ _).mono (fun r h => ⟨fun c => (h c).2.2, sem_eq_zero_of_no_sems (by decide) r.2⟩) (Reference27Ideal.Value.run (F := Ideal) m ρ)
end Cert.Prod27
end
-- ==== Proof.Prod28.lean ====
/-
  The product `mm_ple`: what its blocks hold, and the equality of its result with the reference's.
-/
module
public import proofs.«01_k».proof.Defs
public import proofs.«01_k».proof.Proof.Gen.Kernel28Ideal.Value
public import proofs.«01_k».proof.Proof.Gen.Reference28Ideal.Run
public import proofs.«01_k».proof.Proof.Gen.Reference28Ideal.Read
public import proofs.«01_k».proof.Proof.Halves
@[expose] public section
set_option maxRecDepth 65536
noncomputable section
namespace Cert.Prod28
open Kernel28Ideal Kernel28Ideal.Gen Kernel28Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x256.Idx → EReal := m ((c : Thread nD τ).loc main_arg0)
abbrev B : S256x2048.Idx → EReal := m ((c : Thread nD τ).loc main_arg1)
abbrev ia (i : S8192x2048.Idx) (k : Fin 256) : S8192x256.Idx := ix2 (i 0) k
abbrev ib (i : S8192x2048.Idx) (k : Fin 256) : S256x2048.Idx := ix2 k (i 1)

theorem prod (a : S2048x256.Idx → EReal) (b : S256x512.Idx → EReal) (y : S2048x512.Idx) :
    k0_pay1 (F := Ideal) a b y = (∑ k : Fin 256, a (ix2 (y 0) k) * b (ix2 k (y 1)) : EReal) :=
  mulSum dot_S2048x256_S256x512_S2048x512_1_0_0_1_n_n 256 rfl rfl a b y _ _ (fun k x => match x with | ⟨0, _⟩ => rfl | ⟨1, _⟩ => ValueIdx.contrEquiv1_symm_val dot_S2048x256_S256x512_S2048x512_1_0_0_1_n_n 256 rfl rfl k)
    (fun k x => match x with | ⟨0, _⟩ => ValueIdx.contrEquiv1_symm_val dot_S2048x256_S256x512_S2048x512_1_0_0_1_n_n 256 rfl rfl k | ⟨1, _⟩ => rfl)

theorem idx : ∀ t : Fin cfg0.N, win0_0.index t 0 = t.val / 4 ∧ win0_0.index t 1 = 0 ∧ win0_1.index t 0 = 0 ∧ win0_1.index t 1 = t.val % 4 ∧ win0_2.index t 0 = t.val / 4 ∧ win0_2.index t 1 = t.val % 4 := by decide +kernel

theorem rd0 (t : Fin cfg0.N) (y : S2048x256.Idx) (x : S8192x256.Idx) (h0 : (x 0).val = (t.val / 4) * 2048 + (y 0).val) (h1 : (x 1).val = 0 * 256 + (y 1).val) :
    iblk m c 0 t y = A m c x := by
  obtain ⟨e00, e01, e10, e11, e20, e21⟩ := idx t
  unfold iblk
  rw [View.read_apply]
  show V m c main_arg0 _ = _
  rw [V_main_arg0]
  refine congrArg (m _) (funext fun a => Fin.ext (match a with
    | ⟨0, _⟩ => ?_
    | ⟨1, _⟩ => ?_))
  · show win0_0.index t 0 * 2048 + 1 * (y 0).val = (x 0).val; rw [e00, h0]; omega
  · show win0_0.index t 1 * 256 + 1 * (y 1).val = (x 1).val; rw [e01, h1]; omega

theorem rd1 (t : Fin cfg0.N) (y : S256x512.Idx) (x : S256x2048.Idx) (h0 : (x 0).val = 0 * 256 + (y 0).val) (h1 : (x 1).val = (t.val % 4) * 512 + (y 1).val) :
    iblk m c 1 t y = B m c x := by
  obtain ⟨e00, e01, e10, e11, e20, e21⟩ := idx t
  unfold iblk
  rw [View.read_apply]
  show V m c main_arg1 _ = _
  rw [V_main_arg1]
  refine congrArg (m _) (funext fun a => Fin.ext (match a with
    | ⟨0, _⟩ => ?_
    | ⟨1, _⟩ => ?_))
  · show win0_1.index t 0 * 256 + 1 * (y 0).val = (x 0).val; rw [e10, h0]; omega
  · show win0_1.index t 1 * 512 + 1 * (y 1).val = (x 1).val; rw [e11, h1]; omega

/-- What a point leaves in its block. -/
theorem left (t : Fin cfg0.N) (y : S2048x512.Idx) : outsAt0 m c t y = k0_pay1 (iblk m c 0 t) (iblk m c 1 t) y := by
  unfold outsAt0 out0_A_2
  refine (congrFun (View.read_writes_full VO0_2 _ inb_S2048x512_S2048x512_0_0 _ _) y).trans ?_
  refine congrFun (congrArg₂ k0_pay1 ?_ ?_) y
  · exact (View.readAt_full _ _ inb_S2048x256_S2048x256_0_0).trans (Memref.IsWhole.read_unread _ _)
  · exact (View.readAt_full _ _ inb_S256x512_S256x512_0_0).trans (Memref.IsWhole.read_unread _ _)

/-- The result of the call. -/
theorem arr (i : S8192x2048.Idx) : (dats m 0 c).arrAt 2 cfg0.N i
    = (∑ k : Fin 256, A m c (ia i k) * B m c (ib i k) : EReal) := by
  have h0 : (i 0).val < 8192 := (i 0).isLt
  have h1 : (i 1).val < 2048 := (i 1).isLt
  have hN : cfg0.N = 16 := N_0
  obtain ⟨t, ht⟩ : ∃ t : Fin cfg0.N, t.val = (i 0).val / 2048 * 4 + (i 1).val / 512 := ⟨⟨_, by omega⟩, rfl⟩
  obtain ⟨e00, e01, e10, e11, e20, e21⟩ := idx t
  have e : ((cfg0.win 2).blk t).view.emb (ix2 (n0 := 2048) (n1 := 512) ⟨(i 0).val % 2048, by omega⟩ ⟨(i 1).val % 512, by omega⟩) = i :=
    funext fun a => Fin.ext (match a with
      | ⟨0, _⟩ => (by show win0_2.index t 0 * 2048 + 1 * ((i 0).val % 2048) = (i 0).val; rw [e20]; omega)
      | ⟨1, _⟩ => (by show win0_2.index t 1 * 512 + 1 * ((i 1).val % 512) = (i 1).val; rw [e21]; omega))
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 4) * 2048 + (i 0).val % 2048; omega) (by show k.val = 0 * 256 + k.val; omega))
        (rd1 m c t _ _ (by show k.val = 0 * 256 + k.val; omega) (by show (i 1).val = (t.val % 4) * 512 + (i 1).val % 512; omega)))

/-- The reference at one index. -/
theorem ref (x0 : S8192x256.Idx → EReal) (x1 : S256x2048.Idx → EReal) (i : S8192x2048.Idx) : Reference28Ideal.Read.val_main_v3 (F := Ideal) x0 x1 i
    = (∑ k : Fin 256, x0 (ia i k) * x1 (ib i k) : EReal) := by
  refine (show _ = Reference28Ideal.Read.val_main_v2 (F := Ideal) x0 x1 i from rfl).trans ((Reference28Ideal.Read.val_main_v2_apply x0 x1 i).trans ?_)
  exact Finset.sum_congr rfl fun k _ => congrArg₂ (· * ·) (congrArg x0 (funext fun a => Fin.ext (match a with | ⟨0, _⟩ => rfl | ⟨1, _⟩ => rfl))) (congrArg x1 (funext fun a => Fin.ext (match a with | ⟨0, _⟩ => rfl | ⟨1, _⟩ => rfl)))

theorem equal : algebraic_Kernel28Ideal_Reference28Ideal := by
  intro m ρ m' ρ' _ hagree
  refine ⟨fun c => (dats m 0 c).arrAt 2 cfg0.N, run_blocks m ρ, ?_⟩
  refine (θ_run Reference28Ideal.defs _ _).mono (fun r h c => ?_) (Reference28Ideal.Value.run (F := Ideal) m' ρ')
  obtain ⟨r0, rest⟩ := h c
  obtain ⟨g0, g1⟩ := hagree c
  refine ⟨funext fun i => (congrFun (r0.trans (Reference28Ideal.Read.val_main_v3_eq _ _)) i).trans ?_, rest⟩
  rw [g0, g1]
  exact (ref _ _ i).trans (arr m c i).symm

theorem quiet [Reference28Ideal.Facts] : quiescent_Reference28Ideal := fun m ρ _ =>
  (θ_run Reference28Ideal.defs _ _).mono (fun r h => ⟨fun c => (h c).2, sem_eq_zero_of_no_sems (by decide) r.2⟩)
    (Reference28Ideal.Value.run (F := Ideal) m ρ)
end Cert.Prod28
end
-- ==== Proof.Prod29.lean ====
/-
  The product `wg_ple`: what its blocks hold, and the equality of its result with the reference's.
-/
module
public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.Halves
@[expose] public section
set_option maxRecDepth 65536
noncomputable section
namespace Cert.Prod29
open Kernel29Ideal Kernel29Ideal.Gen Kernel29Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S256x8192.Idx → EReal := m ((c : Thread nD τ).loc main_arg0)
abbrev B : S8192x2048.Idx → EReal := m ((c : Thread nD τ).loc main_arg1)
abbrev ia (i : S256x2048.Idx) (k : Fin 8192) : S256x8192.Idx := ix2 (i 0) k
abbrev ib (i : S256x2048.Idx) (k : Fin 8192) : S8192x2048.Idx := ix2 k (i 1)

theorem prod (a : S256x8192.Idx → EReal) (b : S8192x1024.Idx → EReal) (y : S256x1024.Idx) :
    k0_pay1 (F := Ideal) a b y = (∑ k : Fin 8192, a (ix2 (y 0) k) * b (ix2 k (y 1)) : EReal) :=
  mulSum dot_S256x8192_S8192x1024_S256x1024_1_0_0_1_n_n 8192 rfl rfl a b y _ _ (fun k x => match x with | ⟨0, _⟩ => rfl | ⟨1, _⟩ => ValueIdx.contrEquiv1_symm_val dot_S256x8192_S8192x1024_S256x1024_1_0_0_1_n_n 8192 rfl rfl k)
    (fun k x => match x with | ⟨0, _⟩ => ValueIdx.contrEquiv1_symm_val dot_S256x8192_S8192x1024_S256x1024_1_0_0_1_n_n 8192 rfl rfl k | ⟨1, _⟩ => rfl)

theorem idx : ∀ t : Fin cfg0.N, win0_0.index t 0 = t.val / 2 ∧ win0_0.index t 1 = 0 ∧ win0_1.index t 0 = 0 ∧ win0_1.index t 1 = t.val % 2 ∧ win0_2.index t 0 = t.val / 2 ∧ win0_2.index t 1 = t.val % 2 := by decide +kernel

theorem rd0 (t : Fin cfg0.N) (y : S256x8192.Idx) (x : S256x8192.Idx) (h0 : (x 0).val = (t.val / 2) * 256 + (y 0).val) (h1 : (x 1).val = 0 * 8192 + (y 1).val) :
    iblk m c 0 t y = A m c x := by
  obtain ⟨e00, e01, e10, e11, e20, e21⟩ := idx t
  unfold iblk
  rw [View.read_apply]
  show V m c main_arg0 _ = _
  rw [V_main_arg0]
  refine congrArg (m _) (funext fun a => Fin.ext (match a with
    | ⟨0, _⟩ => ?_
    | ⟨1, _⟩ => ?_))
  · show win0_0.index t 0 * 256 + 1 * (y 0).val = (x 0).val; rw [e00, h0]; omega
  · show win0_0.index t 1 * 8192 + 1 * (y 1).val = (x 1).val; rw [e01, h1]; omega

theorem rd1 (t : Fin cfg0.N) (y : S8192x1024.Idx) (x : S8192x2048.Idx) (h0 : (x 0).val = 0 * 8192 + (y 0).val) (h1 : (x 1).val = (t.val % 2) * 1024 + (y 1).val) :
    iblk m c 1 t y = B m c x := by
  obtain ⟨e00, e01, e10, e11, e20, e21⟩ := idx t
  unfold iblk
  rw [View.read_apply]
  show V m c main_arg1 _ = _
  rw [V_main_arg1]
  refine congrArg (m _) (funext fun a => Fin.ext (match a with
    | ⟨0, _⟩ => ?_
    | ⟨1, _⟩ => ?_))
  · show win0_1.index t 0 * 8192 + 1 * (y 0).val = (x 0).val; rw [e10, h0]; omega
  · show win0_1.index t 1 * 1024 + 1 * (y 1).val = (x 1).val; rw [e11, h1]; omega

/-- What a point leaves in its block. -/
theorem left (t : Fin cfg0.N) (y : S256x1024.Idx) : outsAt0 m c t y = k0_pay1 (iblk m c 0 t) (iblk m c 1 t) y := by
  unfold outsAt0 out0_A_2
  refine (congrFun (View.read_writes_full VO0_2 _ inb_S256x1024_S256x1024_0_0 _ _) y).trans ?_
  refine congrFun (congrArg₂ k0_pay1 ?_ ?_) y
  · exact (View.readAt_full _ _ inb_S256x8192_S256x8192_0_0).trans (Memref.IsWhole.read_unread _ _)
  · exact (View.readAt_full _ _ inb_S8192x1024_S8192x1024_0_0).trans (Memref.IsWhole.read_unread _ _)

/-- The result of the call. -/
theorem arr (i : S256x2048.Idx) : (dats m 0 c).arrAt 2 cfg0.N i
    = (∑ k : Fin 8192, A m c (ia i k) * B m c (ib i k) : EReal) := by
  have h0 : (i 0).val < 256 := (i 0).isLt
  have h1 : (i 1).val < 2048 := (i 1).isLt
  have hN : cfg0.N = 2 := N_0
  obtain ⟨t, ht⟩ : ∃ t : Fin cfg0.N, t.val = (i 0).val / 256 * 2 + (i 1).val / 1024 := ⟨⟨_, by omega⟩, rfl⟩
  obtain ⟨e00, e01, e10, e11, e20, e21⟩ := idx t
  have e : ((cfg0.win 2).blk t).view.emb (ix2 (n0 := 256) (n1 := 1024) ⟨(i 0).val % 256, by omega⟩ ⟨(i 1).val % 1024, by omega⟩) = i :=
    funext fun a => Fin.ext (match a with
      | ⟨0, _⟩ => (by show win0_2.index t 0 * 256 + 1 * ((i 0).val % 256) = (i 0).val; rw [e20]; omega)
      | ⟨1, _⟩ => (by show win0_2.index t 1 * 1024 + 1 * ((i 1).val % 1024) = (i 1).val; rw [e21]; omega))
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 2) * 256 + (i 0).val % 256; omega) (by show k.val = 0 * 8192 + k.val; omega))
        (rd1 m c t _ _ (by show k.val = 0 * 8192 + k.val; omega) (by show (i 1).val = (t.val % 2) * 1024 + (i 1).val % 1024; omega)))

/-- The reference at one index. -/
theorem ref (x0 : S256x8192.Idx → EReal) (x1 : S8192x2048.Idx → EReal) (i : S256x2048.Idx) : Reference29Ideal.Read.val_main_v7 (F := Ideal) x0 x1 i
    = (∑ k : Fin 8192, x0 (ia i k) * x1 (ib i k) : EReal) := by
  refine (show _ = Reference29Ideal.Read.val_main_v6 (F := Ideal) x0 x1 i from rfl).trans ((Reference29Ideal.Read.val_main_v6_apply (F := Ideal) x0 x1 i).trans ((Reference29Ideal.Read.val_main_v5_apply x0 x1 _).trans ?_))
  refine Finset.sum_congr rfl fun k _ => ?_
  refine (mul_comm _ _).trans (congrArg₂ (· * ·) ?_ ?_)
  on_goal 2 => exact congrArg x1 (funext fun a => Fin.ext (match a with | ⟨0, _⟩ => rfl | ⟨1, _⟩ => rfl))
  exact (Reference29Ideal.Read.val_main_v1_apply (F := Ideal) x0 _).trans (congrArg x0 (funext fun a => Fin.ext (match a with | ⟨0, _⟩ => rfl | ⟨1, _⟩ => rfl)))

theorem equal : algebraic_Kernel29Ideal_Reference29Ideal := by
  intro m ρ m' ρ' _ hagree
  refine ⟨fun c => (dats m 0 c).arrAt 2 cfg0.N, run_blocks m ρ, ?_⟩
  refine (θ_run Reference29Ideal.defs _ _).mono (fun r h c => ?_) (Reference29Ideal.Value.run (F := Ideal) m' ρ')
  obtain ⟨r0, rest⟩ := h c
  obtain ⟨g0, g1⟩ := hagree c
  refine ⟨funext fun i => (congrFun (r0.trans (Reference29Ideal.Read.val_main_v7_eq _ _)) i).trans ?_, rest⟩
  rw [g0, g1]
  exact (ref _ _ i).trans (arr m c i).symm

theorem quiet [Reference29Ideal.Facts] : quiescent_Reference29Ideal := fun m ρ _ =>
  (θ_run Reference29Ideal.defs _ _).mono (fun r h => ⟨fun c => (h c).2, sem_eq_zero_of_no_sems (by decide) r.2⟩)
    (Reference29Ideal.Value.run (F := Ideal) m ρ)
end Cert.Prod29
end
-- ==== Proof.Prod30.lean ====
/-
  The product `mm_dt`: what its blocks hold, and the equality of its result with the reference's.
-/
module
public import proofs.«01_k».proof.Defs
public import proofs.«01_k».proof.Proof.Gen.Kernel30Ideal.Value
public import proofs.«01_k».proof.Proof.Gen.Reference30Ideal.Run
public import proofs.«01_k».proof.Proof.Gen.Reference30Ideal.Read
public import proofs.«01_k».proof.Proof.Halves
@[expose] public section
set_option maxRecDepth 65536
noncomputable section
namespace Cert.Prod30
open Kernel30Ideal Kernel30Ideal.Gen Kernel30Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x2048.Idx → EReal := m ((c : Thread nD τ).loc main_arg0)
abbrev B : S2048x128.Idx → EReal := m ((c : Thread nD τ).loc main_arg1)
abbrev ia (i : S8192x128.Idx) (k : Fin 2048) : S8192x2048.Idx := ix2 (i 0) k
abbrev ib (i : S8192x128.Idx) (k : Fin 2048) : S2048x128.Idx := ix2 k (i 1)

theorem prod (a : S2048x2048.Idx → EReal) (b : S2048x128.Idx → EReal) (y : S2048x128.Idx) :
    k0_pay1 (F := Ideal) a b y = (∑ k : Fin 2048, a (ix2 (y 0) k) * b (ix2 k (y 1)) : EReal) :=
  mulSum dot_S2048x2048_S2048x128_S2048x128_1_0_0_1_n_n 2048 rfl rfl a b y _ _ (fun k x => match x with | ⟨0, _⟩ => rfl | ⟨1, _⟩ => ValueIdx.contrEquiv1_symm_val dot_S2048x2048_S2048x128_S2048x128_1_0_0_1_n_n 2048 rfl rfl k)
    (fun k x => match x with | ⟨0, _⟩ => ValueIdx.contrEquiv1_symm_val dot_S2048x2048_S2048x128_S2048x128_1_0_0_1_n_n 2048 rfl rfl k | ⟨1, _⟩ => rfl)

theorem idx : ∀ t : Fin cfg0.N, win0_0.index t 0 = t.val / 1 ∧ win0_0.index t 1 = 0 ∧ win0_1.index t 0 = 0 ∧ win0_1.index t 1 = t.val % 1 ∧ win0_2.index t 0 = t.val / 1 ∧ win0_2.index t 1 = t.val % 1 := by decide +kernel

theorem rd0 (t : Fin cfg0.N) (y : S2048x2048.Idx) (x : S8192x2048.Idx) (h0 : (x 0).val = (t.val / 1) * 2048 + (y 0).val) (h1 : (x 1).val = 0 * 2048 + (y 1).val) :
    iblk m c 0 t y = A m c x := by
  obtain ⟨e00, e01, e10, e11, e20, e21⟩ := idx t
  unfold iblk
  rw [View.read_apply]
  show V m c main_arg0 _ = _
  rw [V_main_arg0]
  refine congrArg (m _) (funext fun a => Fin.ext (match a with
    | ⟨0, _⟩ => ?_
    | ⟨1, _⟩ => ?_))
  · show win0_0.index t 0 * 2048 + 1 * (y 0).val = (x 0).val; rw [e00, h0]; omega
  · show win0_0.index t 1 * 2048 + 1 * (y 1).val = (x 1).val; rw [e01, h1]; omega

theorem rd1 (t : Fin cfg0.N) (y : S2048x128.Idx) (x : S2048x128.Idx) (h0 : (x 0).val = 0 * 2048 + (y 0).val) (h1 : (x 1).val = (t.val % 1) * 128 + (y 1).val) :
    iblk m c 1 t y = B m c x := by
  obtain ⟨e00, e01, e10, e11, e20, e21⟩ := idx t
  unfold iblk
  rw [View.read_apply]
  show V m c main_arg1 _ = _
  rw [V_main_arg1]
  refine congrArg (m _) (funext fun a => Fin.ext (match a with
    | ⟨0, _⟩ => ?_
    | ⟨1, _⟩ => ?_))
  · show win0_1.index t 0 * 2048 + 1 * (y 0).val = (x 0).val; rw [e10, h0]; omega
  · show win0_1.index t 1 * 128 + 1 * (y 1).val = (x 1).val; rw [e11, h1]; omega

/-- What a point leaves in its block. -/
theorem left (t : Fin cfg0.N) (y : S2048x128.Idx) : outsAt0 m c t y = k0_pay1 (iblk m c 0 t) (iblk m c 1 t) y := by
  unfold outsAt0 out0_A_2
  refine (congrFun (View.read_writes_full VO0_2 _ inb_S2048x128_S2048x128_0_0 _ _) y).trans ?_
  refine congrFun (congrArg₂ k0_pay1 ?_ ?_) y
  · exact (View.readAt_full _ _ inb_S2048x2048_S2048x2048_0_0).trans (Memref.IsWhole.read_unread _ _)
  · exact (View.readAt_full _ _ inb_S2048x128_S2048x128_0_0).trans (Memref.IsWhole.read_unread _ _)

/-- The result of the call. -/
theorem arr (i : S8192x128.Idx) : (dats m 0 c).arrAt 2 cfg0.N i
    = (∑ k : Fin 2048, A m c (ia i k) * B m c (ib i k) : EReal) := by
  have h0 : (i 0).val < 8192 := (i 0).isLt
  have h1 : (i 1).val < 128 := (i 1).isLt
  have hN : cfg0.N = 4 := N_0
  obtain ⟨t, ht⟩ : ∃ t : Fin cfg0.N, t.val = (i 0).val / 2048 * 1 + (i 1).val / 128 := ⟨⟨_, by omega⟩, rfl⟩
  obtain ⟨e00, e01, e10, e11, e20, e21⟩ := idx t
  have e : ((cfg0.win 2).blk t).view.emb (ix2 (n0 := 2048) (n1 := 128) ⟨(i 0).val % 2048, by omega⟩ ⟨(i 1).val % 128, by omega⟩) = i :=
    funext fun a => Fin.ext (match a with
      | ⟨0, _⟩ => (by show win0_2.index t 0 * 2048 + 1 * ((i 0).val % 2048) = (i 0).val; rw [e20]; omega)
      | ⟨1, _⟩ => (by show win0_2.index t 1 * 128 + 1 * ((i 1).val % 128) = (i 1).val; rw [e21]; omega))
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 1) * 2048 + (i 0).val % 2048; omega) (by show k.val = 0 * 2048 + k.val; omega))
        (rd1 m c t _ _ (by show k.val = 0 * 2048 + k.val; omega) (by show (i 1).val = (t.val % 1) * 128 + (i 1).val % 128; omega)))

/-- The reference at one index. -/
theorem ref (x0 : S8192x2048.Idx → EReal) (x1 : S2048x128.Idx → EReal) (i : S8192x128.Idx) : Reference30Ideal.Read.val_main_v2 (F := Ideal) x0 x1 i
    = (∑ k : Fin 2048, x0 (ia i k) * x1 (ib i k) : EReal) := by
  refine (show _ = Reference30Ideal.Read.val_main_v2 (F := Ideal) x0 x1 i from rfl).trans ((Reference30Ideal.Read.val_main_v2_apply x0 x1 i).trans ?_)
  exact Finset.sum_congr rfl fun k _ => congrArg₂ (· * ·) (congrArg x0 (funext fun a => Fin.ext (match a with | ⟨0, _⟩ => rfl | ⟨1, _⟩ => rfl))) (congrArg x1 (funext fun a => Fin.ext (match a with | ⟨0, _⟩ => rfl | ⟨1, _⟩ => rfl)))

theorem equal : algebraic_Kernel30Ideal_Reference30Ideal := by
  intro m ρ m' ρ' _ hagree
  refine ⟨fun c => (dats m 0 c).arrAt 2 cfg0.N, run_blocks m ρ, ?_⟩
  refine (θ_run Reference30Ideal.defs _ _).mono (fun r h c => ?_) (Reference30Ideal.Value.run (F := Ideal) m' ρ')
  obtain ⟨r0, rest⟩ := h c
  obtain ⟨g0, g1⟩ := hagree c
  refine ⟨funext fun i => (congrFun (r0.trans (Reference30Ideal.Read.val_main_v2_eq _ _)) i).trans ?_, rest⟩
  rw [g0, g1]
  exact (ref _ _ i).trans (arr m c i).symm

theorem quiet [Reference30Ideal.Facts] : quiescent_Reference30Ideal := fun m ρ _ =>
  (θ_run Reference30Ideal.defs _ _).mono (fun r h => ⟨fun c => (h c).2, sem_eq_zero_of_no_sems (by decide) r.2⟩)
    (Reference30Ideal.Value.run (F := Ideal) m ρ)
end Cert.Prod30
end
-- ==== Proof.Prod31.lean ====
/-
  The product `wg_dt`: what its blocks hold, and the equality of its result with the reference's.
-/
module
public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.Halves
@[expose] public section
set_option maxRecDepth 65536
noncomputable section
namespace Cert.Prod31
open Kernel31Ideal Kernel31Ideal.Gen Kernel31Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S2048x8192.Idx → EReal := m ((c : Thread nD τ).loc main_arg0)
abbrev B : S8192x128.Idx → EReal := m ((c : Thread nD τ).loc main_arg1)
abbrev ia (i : S2048x128.Idx) (k : Fin 8192) : S2048x8192.Idx := ix2 (i 0) k
abbrev ib (i : S2048x128.Idx) (k : Fin 8192) : S8192x128.Idx := ix2 k (i 1)

theorem prod (a : S1024x8192.Idx → EReal) (b : S8192x128.Idx → EReal) (y : S1024x128.Idx) :
    k0_pay1 (F := Ideal) a b y = (∑ k : Fin 8192, a (ix2 (y 0) k) * b (ix2 k (y 1)) : EReal) :=
  mulSum dot_S1024x8192_S8192x128_S1024x128_1_0_0_1_n_n 8192 rfl rfl a b y _ _ (fun k x => match x with | ⟨0, _⟩ => rfl | ⟨1, _⟩ => ValueIdx.contrEquiv1_symm_val dot_S1024x8192_S8192x128_S1024x128_1_0_0_1_n_n 8192 rfl rfl k)
    (fun k x => match x with | ⟨0, _⟩ => ValueIdx.contrEquiv1_symm_val dot_S1024x8192_S8192x128_S1024x128_1_0_0_1_n_n 8192 rfl rfl k | ⟨1, _⟩ => rfl)

theorem idx : ∀ t : Fin cfg0.N, win0_0.index t 0 = t.val / 1 ∧ win0_0.index t 1 = 0 ∧ win0_1.index t 0 = 0 ∧ win0_1.index t 1 = t.val % 1 ∧ win0_2.index t 0 = t.val / 1 ∧ win0_2.index t 1 = t.val % 1 := by decide +kernel

theorem rd0 (t : Fin cfg0.N) (y : S1024x8192.Idx) (x : S2048x8192.Idx) (h0 : (x 0).val = (t.val / 1) * 1024 + (y 0).val) (h1 : (x 1).val = 0 * 8192 + (y 1).val) :
    iblk m c 0 t y = A m c x := by
  obtain ⟨e00, e01, e10, e11, e20, e21⟩ := idx t
  unfold iblk
  rw [View.read_apply]
  show V m c main_arg0 _ = _
  rw [V_main_arg0]
  refine congrArg (m _) (funext fun a => Fin.ext (match a with
    | ⟨0, _⟩ => ?_
    | ⟨1, _⟩ => ?_))
  · show win0_0.index t 0 * 1024 + 1 * (y 0).val = (x 0).val; rw [e00, h0]; omega
  · show win0_0.index t 1 * 8192 + 1 * (y 1).val = (x 1).val; rw [e01, h1]; omega

theorem rd1 (t : Fin cfg0.N) (y : S8192x128.Idx) (x : S8192x128.Idx) (h0 : (x 0).val = 0 * 8192 + (y 0).val) (h1 : (x 1).val = (t.val % 1) * 128 + (y 1).val) :
    iblk m c 1 t y = B m c x := by
  obtain ⟨e00, e01, e10, e11, e20, e21⟩ := idx t
  unfold iblk
  rw [View.read_apply]
  show V m c main_arg1 _ = _
  rw [V_main_arg1]
  refine congrArg (m _) (funext fun a => Fin.ext (match a with
    | ⟨0, _⟩ => ?_
    | ⟨1, _⟩ => ?_))
  · show win0_1.index t 0 * 8192 + 1 * (y 0).val = (x 0).val; rw [e10, h0]; omega
  · show win0_1.index t 1 * 128 + 1 * (y 1).val = (x 1).val; rw [e11, h1]; omega

/-- What a point leaves in its block. -/
theorem left (t : Fin cfg0.N) (y : S1024x128.Idx) : outsAt0 m c t y = k0_pay1 (iblk m c 0 t) (iblk m c 1 t) y := by
  unfold outsAt0 out0_A_2
  refine (congrFun (View.read_writes_full VO0_2 _ inb_S1024x128_S1024x128_0_0 _ _) y).trans ?_
  refine congrFun (congrArg₂ k0_pay1 ?_ ?_) y
  · exact (View.readAt_full _ _ inb_S1024x8192_S1024x8192_0_0).trans (Memref.IsWhole.read_unread _ _)
  · exact (View.readAt_full _ _ inb_S8192x128_S8192x128_0_0).trans (Memref.IsWhole.read_unread _ _)

/-- The result of the call. -/
theorem arr (i : S2048x128.Idx) : (dats m 0 c).arrAt 2 cfg0.N i
    = (∑ k : Fin 8192, A m c (ia i k) * B m c (ib i k) : EReal) := by
  have h0 : (i 0).val < 2048 := (i 0).isLt
  have h1 : (i 1).val < 128 := (i 1).isLt
  have hN : cfg0.N = 2 := N_0
  obtain ⟨t, ht⟩ : ∃ t : Fin cfg0.N, t.val = (i 0).val / 1024 * 1 + (i 1).val / 128 := ⟨⟨_, by omega⟩, rfl⟩
  obtain ⟨e00, e01, e10, e11, e20, e21⟩ := idx t
  have e : ((cfg0.win 2).blk t).view.emb (ix2 (n0 := 1024) (n1 := 128) ⟨(i 0).val % 1024, by omega⟩ ⟨(i 1).val % 128, by omega⟩) = i :=
    funext fun a => Fin.ext (match a with
      | ⟨0, _⟩ => (by show win0_2.index t 0 * 1024 + 1 * ((i 0).val % 1024) = (i 0).val; rw [e20]; omega)
      | ⟨1, _⟩ => (by show win0_2.index t 1 * 128 + 1 * ((i 1).val % 128) = (i 1).val; rw [e21]; omega))
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 1) * 1024 + (i 0).val % 1024; omega) (by show k.val = 0 * 8192 + k.val; omega))
        (rd1 m c t _ _ (by show k.val = 0 * 8192 + k.val; omega) (by show (i 1).val = (t.val % 1) * 128 + (i 1).val % 128; omega)))

/-- The reference at one index. -/
theorem ref (x0 : S2048x8192.Idx → EReal) (x1 : S8192x128.Idx → EReal) (i : S2048x128.Idx) : Reference31Ideal.Read.val_main_v7 (F := Ideal) x0 x1 i
    = (∑ k : Fin 8192, x0 (ia i k) * x1 (ib i k) : EReal) := by
  refine (show _ = Reference31Ideal.Read.val_main_v6 (F := Ideal) x0 x1 i from rfl).trans ((Reference31Ideal.Read.val_main_v6_apply (F := Ideal) x0 x1 i).trans ((Reference31Ideal.Read.val_main_v5_apply x0 x1 _).trans ?_))
  refine Finset.sum_congr rfl fun k _ => ?_
  refine (mul_comm _ _).trans (congrArg₂ (· * ·) ?_ ?_)
  on_goal 2 => exact congrArg x1 (funext fun a => Fin.ext (match a with | ⟨0, _⟩ => rfl | ⟨1, _⟩ => rfl))
  exact (Reference31Ideal.Read.val_main_v1_apply (F := Ideal) x0 _).trans (congrArg x0 (funext fun a => Fin.ext (match a with | ⟨0, _⟩ => rfl | ⟨1, _⟩ => rfl)))

theorem equal : algebraic_Kernel31Ideal_Reference31Ideal := by
  intro m ρ m' ρ' _ hagree
  refine ⟨fun c => (dats m 0 c).arrAt 2 cfg0.N, run_blocks m ρ, ?_⟩
  refine (θ_run Reference31Ideal.defs _ _).mono (fun r h c => ?_) (Reference31Ideal.Value.run (F := Ideal) m' ρ')
  obtain ⟨r0, rest⟩ := h c
  obtain ⟨g0, g1⟩ := hagree c
  refine ⟨funext fun i => (congrFun (r0.trans (Reference31Ideal.Read.val_main_v7_eq _ _)) i).trans ?_, rest⟩
  rw [g0, g1]
  exact (ref _ _ i).trans (arr m c i).symm

theorem quiet [Reference31Ideal.Facts] : quiescent_Reference31Ideal := fun m ρ _ =>
  (θ_run Reference31Ideal.defs _ _).mono (fun r h => ⟨fun c => (h c).2, sem_eq_zero_of_no_sems (by decide) r.2⟩)
    (Reference31Ideal.Value.run (F := Ideal) m ρ)
end Cert.Prod31
end
-- ==== Proof.Prod32.lean ====
/-
  The product `dg_dt`: what its blocks hold, and the equality of its result with the reference's.
-/
module
public import proofs.«01_k».proof.Defs
public import proofs.«01_k».proof.Proof.Gen.Kernel32Ideal.Value
public import proofs.«01_k».proof.Proof.Gen.Reference32Ideal.Run
public import proofs.«01_k».proof.Proof.Gen.Reference32Ideal.Read
public import proofs.«01_k».proof.Proof.Halves
@[expose] public section
set_option maxRecDepth 65536
noncomputable section
namespace Cert.Prod32
open Kernel32Ideal Kernel32Ideal.Gen Kernel32Ideal.Value Idealize.ShloMosaic.TcCoe Idealize.SL.Sem
open Idealize.ShloMosaic Halves
open Idealize.ShloMosaic.ValueIdx (ix1 ix2 ix3)
variable (m : (ℓ : Loc nD τ sig) → Buf (Elt Ideal) ℓ) (c : Dev nD)

/-- The operands, and where a term of the sum at one index of the result reads them. -/
abbrev A : S8192x128.Idx → EReal := m ((c : Thread nD τ).loc main_arg0)
abbrev B : S2048x128.Idx → EReal := m ((c : Thread nD τ).loc main_arg1)
abbrev ia (i : S8192x2048.Idx) (k : Fin 128) : S8192x128.Idx := ix2 (i 0) k
abbrev ib (i : S8192x2048.Idx) (k : Fin 128) : S2048x128.Idx := ix2 (i 1) k

theorem prod (a : S2048x128.Idx → EReal) (b : S512x128.Idx → EReal) (y : S2048x512.Idx) :
    k0_pay1 (F := Ideal) a b y = (∑ k : Fin 128, a (ix2 (y 0) k) * b (ix2 (y 1) k) : EReal) :=
  mulSum dot_S2048x128_S512x128_S2048x512_1_1_0_0_n_n 128 rfl rfl a b y _ _ (fun k x => match x with | ⟨0, _⟩ => rfl | ⟨1, _⟩ => ValueIdx.contrEquiv1_symm_val dot_S2048x128_S512x128_S2048x512_1_1_0_0_n_n 128 rfl rfl k)
    (fun k x => match x with | ⟨0, _⟩ => rfl | ⟨1, _⟩ => ValueIdx.contrEquiv1_symm_val dot_S2048x128_S512x128_S2048x512_1_1_0_0_n_n 128 rfl rfl k)

theorem idx : ∀ t : Fin cfg0.N, win0_0.index t 0 = t.val / 4 ∧ win0_0.index t 1 = 0 ∧ win0_1.index t 0 = t.val % 4 ∧ win0_1.index t 1 = 0 ∧ win0_2.index t 0 = t.val / 4 ∧ win0_2.index t 1 = t.val % 4 := by decide +kernel

theorem rd0 (t : Fin cfg0.N) (y : S2048x128.Idx) (x : S8192x128.Idx) (h0 : (x 0).val = (t.val / 4) * 2048 + (y 0).val) (h1 : (x 1).val = 0 * 128 + (y 1).val) :
    iblk m c 0 t y = A m c x := by
  obtain ⟨e00, e01, e10, e11, e20, e21⟩ := idx t
  unfold iblk
  rw [View.read_apply]
  show V m c main_arg0 _ = _
  rw [V_main_arg0]
  refine congrArg (m _) (funext fun a => Fin.ext (match a with
    | ⟨0, _⟩ => ?_
    | ⟨1, _⟩ => ?_))
  · show win0_0.index t 0 * 2048 + 1 * (y 0).val = (x 0).val; rw [e00, h0]; omega
  · show win0_0.index t 1 * 128 + 1 * (y 1).val = (x 1).val; rw [e01, h1]; omega

theorem rd1 (t : Fin cfg0.N) (y : S512x128.Idx) (x : S2048x128.Idx) (h0 : (x 0).val = (t.val % 4) * 512 + (y 0).val) (h1 : (x 1).val = 0 * 128 + (y 1).val) :
    iblk m c 1 t y = B m c x := by
  obtain ⟨e00, e01, e10, e11, e20, e21⟩ := idx t
  unfold iblk
  rw [View.read_apply]
  show V m c main_arg1 _ = _
  rw [V_main_arg1]
  refine congrArg (m _) (funext fun a => Fin.ext (match a with
    | ⟨0, _⟩ => ?_
    | ⟨1, _⟩ => ?_))
  · show win0_1.index t 0 * 512 + 1 * (y 0).val = (x 0).val; rw [e10, h0]; omega
  · show win0_1.index t 1 * 128 + 1 * (y 1).val = (x 1).val; rw [e11, h1]; omega

/-- What a point leaves in its block. -/
theorem left (t : Fin cfg0.N) (y : S2048x512.Idx) : outsAt0 m c t y = k0_pay1 (iblk m c 0 t) (iblk m c 1 t) y := by
  unfold outsAt0 out0_A_2
  refine (congrFun (View.read_writes_full VO0_2 _ inb_S2048x512_S2048x512_0_0 _ _) y).trans ?_
  refine congrFun (congrArg₂ k0_pay1 ?_ ?_) y
  · exact (View.readAt_full _ _ inb_S2048x128_S2048x128_0_0).trans (Memref.IsWhole.read_unread _ _)
  · exact (View.readAt_full _ _ inb_S512x128_S512x128_0_0).trans (Memref.IsWhole.read_unread _ _)

/-- The result of the call. -/
theorem arr (i : S8192x2048.Idx) : (dats m 0 c).arrAt 2 cfg0.N i
    = (∑ k : Fin 128, A m c (ia i k) * B m c (ib i k) : EReal) := by
  have h0 : (i 0).val < 8192 := (i 0).isLt
  have h1 : (i 1).val < 2048 := (i 1).isLt
  have hN : cfg0.N = 16 := N_0
  obtain ⟨t, ht⟩ : ∃ t : Fin cfg0.N, t.val = (i 0).val / 2048 * 4 + (i 1).val / 512 := ⟨⟨_, by omega⟩, rfl⟩
  obtain ⟨e00, e01, e10, e11, e20, e21⟩ := idx t
  have e : ((cfg0.win 2).blk t).view.emb (ix2 (n0 := 2048) (n1 := 512) ⟨(i 0).val % 2048, by omega⟩ ⟨(i 1).val % 512, by omega⟩) = i :=
    funext fun a => Fin.ext (match a with
      | ⟨0, _⟩ => (by show win0_2.index t 0 * 2048 + 1 * ((i 0).val % 2048) = (i 0).val; rw [e20]; omega)
      | ⟨1, _⟩ => (by show win0_2.index t 1 * 512 + 1 * ((i 1).val % 512) = (i 1).val; rw [e21]; omega))
  refine (congrArg _ e).symm.trans ((congrFun (blocks2 m c t (flush0_2 t)) _).trans ((congrFun (flushed2 m c t) _).trans ?_))
  refine (left m c t _).trans ?_
  exact (prod _ _ _).trans (Finset.sum_congr rfl fun k _ => by
      have hk := k.isLt
      exact congrArg₂ (· * ·) (rd0 m c t _ _ (by show (i 0).val = (t.val / 4) * 2048 + (i 0).val % 2048; omega) (by show k.val = 0 * 128 + k.val; omega))
        (rd1 m c t _ _ (by show (i 1).val = (t.val % 4) * 512 + (i 1).val % 512; omega) (by show k.val = 0 * 128 + k.val; omega)))

/-- The reference at one index. -/
theorem ref (x0 : S8192x128.Idx → EReal) (x1 : S2048x128.Idx → EReal) (i : S8192x2048.Idx) : Reference32Ideal.Read.val_main_v4 (F := Ideal) x0 x1 i
    = (∑ k : Fin 128, x0 (ia i k) * x1 (ib i k) : EReal) := by
  refine (show _ = Reference32Ideal.Read.val_main_v4 (F := Ideal) x0 x1 i from rfl).trans ((Reference32Ideal.Read.val_main_v4_apply x0 x1 i).trans ?_)
  exact Finset.sum_congr rfl fun k _ => congrArg₂ (· * ·) (congrArg x0 (funext fun a => Fin.ext (match a with | ⟨0, _⟩ => rfl | ⟨1, _⟩ => rfl))) (congrArg x1 (funext fun a => Fin.ext (match a with | ⟨0, _⟩ => rfl | ⟨1, _⟩ => rfl)))

theorem equal : algebraic_Kernel32Ideal_Reference32Ideal := by
  intro m ρ m' ρ' _ hagree
  refine ⟨fun c => (dats m 0 c).arrAt 2 cfg0.N, run_blocks m ρ, ?_⟩
  refine (θ_run Reference32Ideal.defs _ _).mono (fun r h c => ?_) (Reference32Ideal.Value.run (F := Ideal) m' ρ')
  obtain ⟨r0, rest⟩ := h c
  obtain ⟨g0, g1⟩ := hagree c
  refine ⟨funext fun i => (congrFun (r0.trans (Reference32Ideal.Read.val_main_v4_eq _ _)) i).trans ?_, rest⟩
  rw [g0, g1]
  exact (ref _ _ i).trans (arr m c i).symm

theorem quiet [Reference32Ideal.Facts] : quiescent_Reference32Ideal := fun m ρ _ =>
  (θ_run Reference32Ideal.defs _ _).mono (fun r h => ⟨fun c => (h c).2, sem_eq_zero_of_no_sems (by decide) r.2⟩)
    (Reference32Ideal.Value.run (F := Ideal) m ρ)
end Cert.Prod32
end
-- ==== Proof.Prod33.lean ====
/-
  The call `rms_mix`: its two results are the reference's.
-/
module
public import proofs.«01_k».proof.Defs
public import proofs.«01_k».proof.Proof.Gen.Kernel33Ideal.Value
public import proofs.«01_k».proof.Proof.Gen.Reference33Ideal.Read
public import proofs.«01_k».proof.Proof.Spec
public import proofs.«01_k».proof.Proof.Halves
public import Idealize.ShloMosaic.Lib.Pointwise
public import Idealize.ShloMosaic.Lib.KernelVsHost
public import Idealize.ShloMosaic.Lib.StableHlo.Run
public import Idealize.ShloMosaic.Lib.Pipeline.ValueKit.Tiles
@[expose] public section
set_option maxRecDepth 65536
noncomputable section
namespace Cert.Prod33
open Kernel33Ideal Kernel33Ideal.Gen Kernel33Ideal.Value Idealize.ShloMosaic.TcCoe Idealize.SL.Sem Spec
open Idealize.ShloMosaic hiding ix1 ix2 ix3
open Halves Reference33Ideal.Read
open Idealize.ShloMosaic.ValueIdx (ix1 ix2)

abbrev at2 (r : Fin 512) (j : Fin 2048) : S512x2048.Idx := ix2 (n0 := 512) (n1 := 2048) r j
abbrev B := S8192x2048.Idx → EReal
abbrev big (r : Fin 8192) (j : Fin 2048) : S8192x2048.Idx := ix2 (n0 := 8192) (n1 := 2048) r j
/-- The normalised row at a lane. -/
def out (x : B) (g : S2048.Idx → EReal) (r : Fin 8192) (j : Fin 2048) : EReal := (x (big r j) * rr fun j => x (big r j)) * g (ix1 j)

variable (m : (ℓ : Loc nD τ sig) → Buf (Elt Ideal) ℓ) (c : Dev nD)
abbrev X : B := m ((c : Thread nD τ).loc main_arg0)
abbrev G : S2048.Idx → EReal := m ((c : Thread nD τ).loc main_arg1)
abbrev at' (n : ℕ) (r : Fin 512) : Fin 8192 := ⟨512 * (n % 16) + r.val, by omega⟩

theorem idx : ∀ t : Fin cfg0.N, (win0_0.index t 0 = t.val % 16 ∧ win0_0.index t 1 = 0) ∧ (win0_1.index t 0 = 0 ∧ win0_1.index t 1 = 0) ∧ (win0_2.index t 0 = t.val % 16 ∧ win0_2.index t 1 = 0)
    ∧ (win0_3.index t 0 = 0 ∧ win0_3.index t 1 = t.val % 16) := by
  decide +kernel

variable (t : Fin cfg0.N) (r : Fin 512) (j : Fin 2048)
theorem rd0 : View.ld (iblk m c 0 t) r0_0 (at2 r j) = X m c (big (at' t.val r) j) := by
  have e := (idx t).1
  exact congrArg (X m c) (ext2 (a := 8192) (b := 2048) (by show win0_0.index t 0 * 512 + 1 * (0 + 1 * r.val) = 512 * (t.val % 16) + r.val; omega) (by show win0_0.index t 1 * 2048 + 1 * (0 + 1 * j.val) = j.val; omega))
theorem V_main_v0 : V m c main_v0 = shapeCast S1x2048 (m ((c : Thread nD τ).loc main_arg1)) shapeCasts_S2048_S1x2048 := by
  unfold V
  simp only [hostOps0, List.flatten_cons, List.flatten_nil, List.append_nil, List.cons_append, List.nil_append]
  after_results
  rfl
theorem rd1 : View.ld (iblk m c 1 t) r0_1 (ix2 (n0 := 1) (n1 := 2048) 0 j) = G m c (ix1 j) := by
  have e := (idx t).2.1
  show (win0_1.blk t).view.read (Elt Ideal) (V m c main_v0) _ = _
  rw [View.read_apply, V_main_v0]
  refine shapeCast_apply _ _ _ _ ?_
  show (Shape.rowMajor S2048 (ix1 j)).val = (Shape.rowMajor S1x2048 _).val
  rw [Shape.rowMajor_val_one, Shape.rowMajor_val_two]
  show j.val = (win0_1.index t 0 * 1 + 1 * (0 + 1 * 0)) * 2048 + (win0_1.index t 1 * 2048 + 1 * (0 + 1 * j.val))
  omega

/-- A block's entry, whichever of the two results it stands in. -/
def cell (u : FVec Ideal S512x2048 .f32) (w : FVec Ideal S1x2048 .f32) (r : Fin 512) (j : Fin 2048) : EReal :=
  (u (at2 r j) * Ideal.rsqrt (Ideal.div (multiReduction (F := Ideal) .add [1] S512 (mulf u u) 0x00000000#32 reduces_S512x2048_S512 (.inl rfl) rfl (ix1 r)) (k 0x45000000#32) + k 0x358637BD#32)) * w (ix2 (n0 := 1) (n1 := 2048) 0 j)
theorem cells (u : FVec Ideal S512x2048 .f32) (w : FVec Ideal S1x2048 .f32) {a : S512x2048.Idx} {b : S512.Idx} {d : S1x2048.Idx} (ha : a = at2 r j) (hb : b = ix1 r) (hd : d = ix2 (n0 := 1) (n1 := 2048) 0 j) :
    ((u a * Ideal.rsqrt (Ideal.div (multiReduction (F := Ideal) .add [1] S512 (mulf u u) 0x00000000#32 reduces_S512x2048_S512 (.inl rfl) rfl b) (k 0x45000000#32) + k 0x358637BD#32)) * w d : EReal) = cell u w r j := by
  subst ha hb hd
  rfl
theorem e2 (u : FVec Ideal S512x2048 .f32) (w : FVec Ideal S1x2048 .f32) : E2 (F := Ideal) u w (at2 r j) = cell u w r j :=
  cells r j u w (ext2 (a := 512) (b := 2048) rfl rfl) (ext1 rfl) (ext2 (a := 1) (b := 2048) rfl rfl)
theorem e3 (u : FVec Ideal S512x2048 .f32) (w : FVec Ideal S1x2048 .f32) : E3 (F := Ideal) u w (ix2 (n0 := 2048) (n1 := 512) j r) = cell u w r j :=
  cells r j u w (ext2 (a := 512) (b := 2048) rfl rfl) (ext1 rfl) (ext2 (a := 1) (b := 2048) rfl rfl)
theorem cell_eq (u : FVec Ideal S512x2048 .f32) (w : FVec Ideal S1x2048 .f32) (f : Fin 2048 → EReal) (a : EReal) (hu : ∀ d, u (at2 r d) = f d) (hw : w (ix2 (n0 := 1) (n1 := 2048) 0 j) = a) :
    cell u w r j = (f j * rr f) * a := by
  have s : multiReduction (F := Ideal) .add [1] S512 (mulf u u) 0x00000000#32 reduces_S512x2048_S512 (.inl rfl) rfl (ix1 r) = ∑ d, (f d * f d : EReal) := by
    simp only [pointwise, Ideal.reduceAdd_def]
    refine Finset.sum_congr rfl fun d _ => ?_
    refine (congrArg (fun i => (u i * u i : EReal)) (ext2 (a := 512) (b := 2048) (i := at2 r d) rfl rfl)).trans ?_
    exact congrArg (fun s => (s * s : EReal)) (hu d)
  unfold cell
  rw [hu, hw, s]
  rfl
theorem blk : cell (View.ld (iblk m c 0 t) r0_0) (View.ld (iblk m c 1 t) r0_1) r j = out (X m c) (G m c) (at' t.val r) j :=
  cell_eq r j _ _ (fun j => X m c (big (at' t.val r) j)) _ (rd0 m c t r) (rd1 m c t j)

/-! ## The results of the call -/

theorem arr2 (r : Fin 8192) : (dats m 0 c).arrAt 2 cfg0.N (big r j) = out (X m c) (G m c) r j := by
  have hN : cfg0.N = 16 := N_0
  obtain ⟨t, ht⟩ : ∃ t : Fin cfg0.N, t.val = r.val / 512 := ⟨⟨r.val / 512, by omega⟩, rfl⟩
  have e := (idx t).2.2.1
  have h : ((cfg0.win 2).blk t).view.emb (at2 ⟨r.val % 512, by omega⟩ j) = big r j := ext2 (a := 8192) (b := 2048)
    (by show win0_2.index t 0 * 512 + 1 * (r.val % 512) = r.val; omega) (by show win0_2.index t 1 * 2048 + 1 * j.val = j.val; omega)
  refine (congrArg _ h).symm.trans ((congrFun (blocks2 m c t (flush0_2 t)) _).trans ((congrFun (flushed2 m c t) _).trans ((canon2_eq _ _ _).trans ((e2 _ _ _ _).trans ((blk m c t ⟨r.val % 512, by omega⟩ j).trans ?_)))))
  rw [show at' t.val ⟨r.val % 512, by omega⟩ = r from Fin.ext (by show 512 * (t.val % 16) + r.val % 512 = r.val; omega)]

theorem arr3 (r : Fin 8192) : (dats m 0 c).arrAt 3 cfg0.N (ix2 (n0 := 2048) (n1 := 8192) j r) = out (X m c) (G m c) r j := by
  have hN : cfg0.N = 16 := N_0
  obtain ⟨t, ht⟩ : ∃ t : Fin cfg0.N, t.val = r.val / 512 := ⟨⟨r.val / 512, by omega⟩, rfl⟩
  have e := (idx t).2.2.2
  have h : ((cfg0.win 3).blk t).view.emb (ix2 (n0 := 2048) (n1 := 512) j ⟨r.val % 512, by omega⟩) = ix2 (n0 := 2048) (n1 := 8192) j r := ext2 (a := 2048) (b := 8192)
    (by show win0_3.index t 0 * 2048 + 1 * j.val = j.val; omega) (by show win0_3.index t 1 * 512 + 1 * (r.val % 512) = r.val; omega)
  refine (congrArg _ h).symm.trans ((congrFun (blocks3 m c t (flush0_3 t)) _).trans ((congrFun (flushed3 m c t) _).trans ((canon3_eq _ _ _).trans ((e3 _ _ _ _).trans ((blk m c t ⟨r.val % 512, by omega⟩ j).trans ?_)))))
  rw [show at' t.val ⟨r.val % 512, by omega⟩ = r from Fin.ext (by show 512 * (t.val % 16) + r.val % 512 = r.val; omega)]

/-! ## The reference -/

variable (x : B) (g : S2048.Idx → EReal)
theorem f6 (i : Reference33Ideal.S8192x1.Idx) : val_main_v6 (F := Ideal) x i = me fun j => x (big (i 0) j) :=
  congrArg₂ (fun a b : EReal => a + b) (congrArg₂ Ideal.div ((val_main_v2_apply (F := Ideal) x i).trans ((val_main_v1_apply x _).trans
    ((congrArg₂ (fun a b : EReal => a + b) Ideal.ofBits_zero_f32 (Finset.sum_congr rfl fun j _ =>
      congrArg (val_main_v0 (F := Ideal) x) (ext2 (a := 8192) (b := 2048) (i := big (i 0) j) (by rfl) (by rfl)))).trans (zero_add _)))) (val_main_v3_apply (F := Ideal) i)) (val_main_v5_apply (F := Ideal) i)
theorem ref (r : Fin 8192) (j : Fin 2048) : val_main_v13 (F := Ideal) x g (big r j) = out x g r j :=
  congrArg₂ (fun a b : EReal => a * b) (congrArg (fun s => (x (big r j) * s : EReal)) ((val_main_v8_apply (F := Ideal) x _).trans (congrArg Ideal.rsqrt (f6 x _))))
    ((val_main_v11_apply (F := Ideal) g _).trans ((val_main_v10_apply (F := Ideal) g _).trans (congrArg g (ext1 rfl))))

theorem equal : algebraic_Kernel33Ideal_Reference33Ideal := by
  intro m ρ m' ρ' _ hagree
  refine ⟨_, _, run_blocks m ρ, ?_⟩
  refine (θ_run Reference33Ideal.defs _ _).mono (fun r h c => ?_) (Reference33Ideal.Value.run (F := Ideal) m' ρ')
  obtain ⟨r0, r1, rest⟩ := h c
  obtain ⟨g0, g1⟩ := hagree c
  refine ⟨funext fun i => (congrFun (r0.trans (val_main_v13_eq _ _)) i).trans ?_, funext fun i => (congrFun (r1.trans (val_main_v14_eq _ _)) i).trans ?_, rest⟩
  · rw [g0, g1, show i = big (i 0) (i 1) from ext2 (a := 8192) (b := 2048) rfl rfl]
    exact (ref _ _ _ _).trans (arr2 m c (i 1) (i 0)).symm
  · rw [g0, g1, show i = ix2 (n0 := 2048) (n1 := 8192) (i 0) (i 1) from ext2 (a := 2048) (b := 8192) rfl rfl]
    refine (val_main_v14_apply (F := Ideal) _ _ _).trans ((congrArg (val_main_v13 (F := Ideal) (X m c) (G m c)) (ext2 (a := 8192) (b := 2048) (x := idx_main_v14 (ix2 (n0 := 2048) (n1 := 8192) (i 0) (i 1))) (i := big (i 1) (i 0)) rfl rfl)).trans ?_)
    exact (ref _ _ _ _).trans (arr3 m c (i 0) (i 1)).symm

theorem quiet [Reference33Ideal.Facts] : quiescent_Reference33Ideal := fun m ρ _ =>
  (θ_run Reference33Ideal.defs _ _).mono (fun r h => ⟨fun c => (h c).2.2, sem_eq_zero_of_no_sems (by decide) r.2⟩) (Reference33Ideal.Value.run (F := Ideal) m ρ)
end Cert.Prod33
end
-- ==== Proof.Prod34.lean ====
/-
  The call `rms_ffn`: the same program as `rms_mix`, so that the same proof serves.
-/
module
public import proofs.«01_k».proof.Defs
public import proofs.«01_k».proof.Proof.Gen.Kernel34Ideal.Value
public import proofs.«01_k».proof.Proof.Gen.Reference34Ideal.Read
public import proofs.«01_k».proof.Proof.Prod33
@[expose] public section
set_option maxRecDepth 65536
noncomputable section
namespace Cert.Prod34
open Idealize.ShloMosaic
theorem defs0 : Kernel34Ideal.defs₀ (F := Ideal) = Kernel33Ideal.defs₀ (F := Ideal) :=
  congrArg Defs.onTc (funext fun l => match l with | 0 => rfl)
theorem defs : Kernel34Ideal.defs (F := Ideal) = Kernel33Ideal.defs (F := Ideal) :=
  congrArg (Pipeline.defs Kernel33Ideal.pcfgs) defs0
theorem equal : algebraic_Kernel34Ideal_Reference34Ideal := by
  unfold algebraic_Kernel34Ideal_Reference34Ideal
  rw [defs]
  exact Prod33.equal
theorem quiet [Reference34Ideal.Facts] : quiescent_Reference34Ideal := Prod33.quiet
end Cert.Prod34
end
-- ==== Proof.Prod35.lean ====
/-
  The call `rms_ple`: the same program as `rms_mix`, so that the same proof serves.
-/
module
public import proofs.«01_k».proof.Defs
public import proofs.«01_k».proof.Proof.Gen.Kernel35Ideal.Value
public import proofs.«01_k».proof.Proof.Gen.Reference35Ideal.Read
public import proofs.«01_k».proof.Proof.Prod33
@[expose] public section
set_option maxRecDepth 65536
noncomputable section
namespace Cert.Prod35
open Idealize.ShloMosaic
theorem defs0 : Kernel35Ideal.defs₀ (F := Ideal) = Kernel33Ideal.defs₀ (F := Ideal) :=
  congrArg Defs.onTc (funext fun l => match l with | 0 => rfl)
theorem defs : Kernel35Ideal.defs (F := Ideal) = Kernel33Ideal.defs (F := Ideal) :=
  congrArg (Pipeline.defs Kernel33Ideal.pcfgs) defs0
theorem equal : algebraic_Kernel35Ideal_Reference35Ideal := by
  unfold algebraic_Kernel35Ideal_Reference35Ideal
  rw [defs]
  exact Prod33.equal
theorem quiet [Reference35Ideal.Facts] : quiescent_Reference35Ideal := Prod33.quiet
end Cert.Prod35
end
-- ==== Proof.Prod36.lean ====
/-
  The call `rms_ffn_bwd`: its two results are the reference's.
-/
module
public import proofs.«01_k».proof.Defs
public import proofs.«01_k».proof.Proof.Gen.Kernel36Ideal.Value
public import proofs.«01_k».proof.Proof.Gen.Reference36Ideal.Read
public import proofs.«01_k».proof.Proof.Prod27
public import Idealize.ShloMosaic.Lib.Pointwise
public import Idealize.ShloMosaic.Lib.KernelVsHost
public import Idealize.ShloMosaic.Lib.StableHlo.Run
public import Idealize.ShloMosaic.Lib.Pipeline.ValueKit.Tiles
@[expose] public section
set_option maxRecDepth 65536
noncomputable section
namespace Cert.Prod36
open Kernel36Ideal Kernel36Ideal.Gen Kernel36Ideal.Value Idealize.ShloMosaic.TcCoe Idealize.SL.Sem Spec
open Idealize.ShloMosaic hiding ix1 ix2 ix3
open Halves Reference36Ideal.Read
open Idealize.ShloMosaic.ValueIdx (ix1 ix2)
open Prod27 (T B at2 row big dx dg at' p2 p7 p8 emb_rN acc rows)

/-! ## The 32 blocks; one block, and the reference, are as in `rms_mix_bwd` -/

variable (m : (ℓ : Loc nD τ sig) → Buf (Elt Ideal) ℓ) (c : Dev nD)
abbrev X : B := m ((c : Thread nD τ).loc main_arg0)
abbrev G : S2048.Idx → EReal := m ((c : Thread nD τ).loc main_arg1)
abbrev D : B := m ((c : Thread nD τ).loc main_arg2)
abbrev H : B := m ((c : Thread nD τ).loc main_arg3)
theorem idx : ∀ t : Fin cfg0.N, (win0_0.index t 0 = t.val % 32 ∧ win0_0.index t 1 = 0) ∧ (win0_1.index t 0 = 0 ∧ win0_1.index t 1 = 0) ∧ (win0_2.index t 0 = t.val % 32 ∧ win0_2.index t 1 = 0)
    ∧ (win0_3.index t 0 = t.val % 32 ∧ win0_3.index t 1 = 0) ∧ (win0_4.index t 0 = t.val % 32 ∧ win0_4.index t 1 = 0) ∧ (win0_5.index t 0 = 0 ∧ win0_5.index t 1 = 0) := by
  decide +kernel

variable (t : Fin cfg0.N) (r : Fin 256) (j : Fin 2048)
theorem rd0 : iblk m c 0 t (at2 r j) = X m c (big (at' t.val r) j) := by
  have e := (idx t).1
  exact congrArg (X m c) (ext2 (a := 8192) (b := 2048) (by show win0_0.index t 0 * 256 + 1 * r.val = 256 * (t.val % 32) + r.val; omega) (by show win0_0.index t 1 * 2048 + 1 * j.val = j.val; omega))
theorem rd2 : iblk m c 2 t (at2 r j) = D m c (big (at' t.val r) j) := by
  have e := (idx t).2.2.1
  exact congrArg (D m c) (ext2 (a := 8192) (b := 2048) (by show win0_2.index t 0 * 256 + 1 * r.val = 256 * (t.val % 32) + r.val; omega) (by show win0_2.index t 1 * 2048 + 1 * j.val = j.val; omega))
theorem rd3 : iblk m c 3 t (at2 r j) = H m c (big (at' t.val r) j) := by
  have e := (idx t).2.2.2.1
  exact congrArg (H m c) (ext2 (a := 8192) (b := 2048) (by show win0_3.index t 0 * 256 + 1 * r.val = 256 * (t.val % 32) + r.val; omega) (by show win0_3.index t 1 * 2048 + 1 * j.val = j.val; omega))
theorem V_main_v0 : V m c main_v0 = shapeCast S1x2048 (m ((c : Thread nD τ).loc main_arg1)) shapeCasts_S2048_S1x2048 := by
  unfold V
  simp only [hostOps0, List.flatten_cons, List.flatten_nil, List.append_nil, List.cons_append, List.nil_append]
  after_results
  rfl
theorem rd1 : iblk m c 1 t (ix2 (n0 := 1) (n1 := 2048) 0 j) = G m c (ix1 j) := by
  unfold iblk
  rw [View.read_apply]
  show V m c main_v0 _ = _
  rw [V_main_v0]
  have e := (idx t).2.1
  refine shapeCast_apply _ _ _ _ ?_
  show (Shape.rowMajor S2048 (ix1 j)).val = (Shape.rowMajor S1x2048 _).val
  rw [Shape.rowMajor_val_one, Shape.rowMajor_val_two]
  show j.val = (win0_1.index t 0 * 1 + 1 * 0) * 2048 + (win0_1.index t 1 * 2048 + 1 * j.val)
  omega

theorem b8 : k0_pay8 (F := Ideal) (iblk m c 0 t) (iblk m c 1 t) (iblk m c 2 t) (at2 r j) = dx (X m c) (G m c) (D m c) (at' t.val r) j := by
  refine (p8 _ _ _ r j).trans ?_
  have e : row (iblk m c 0 t) r = fun j => X m c (big (at' t.val r) j) := funext fun j => rd0 m c t r j
  rw [e]
  exact congrArg (fun f => rBk _ f j) (funext fun j => congrArg₂ (fun a b : EReal => a * b) (rd2 m c t r j) (rd1 m c t j))
theorem b7 (q : Fin 1) : k0_pay7 (F := Ideal) (iblk m c 0 t) (iblk m c 2 t) (ix2 q j) = ∑ r, dg (X m c) (D m c) j (at' t.val r) := by
  refine (p7 _ _ q j).trans (Finset.sum_congr rfl fun r _ => ?_)
  have e : row (iblk m c 0 t) r = fun j => X m c (big (at' t.val r) j) := funext fun j => rd0 m c t r j
  rw [e]
  exact congrArg₂ (fun a b : EReal => (a * rr fun j => X m c (big (at' t.val r) j)) * b) (rd0 m c t r j) (rd2 m c t r j)

theorem outx : (outsAt0 m c t.val t.isLt).1 (at2 r j) = (H m c (big (at' t.val r) j) + dx (X m c) (G m c) (D m c) (at' t.val r) j : EReal) := by
  have e : (outsAt0 m c t.val t.isLt).1 = k0_pay1 (k0_pay8 (iblk m c 0 t) (iblk m c 1 t) (iblk m c 2 t)) (iblk m c 3 t) := by
    have w0 := (View.readAt_full (Val := Elt Ideal) (ms0_0 t).view ((hs0_0 t).unread (iblk m c 0 t)) inb_S256x2048_S256x2048_0_0).trans (Memref.IsWhole.read_unread _ _)
    have w1 := (View.readAt_full (Val := Elt Ideal) (ms0_1 t).view ((hs0_1 t).unread (iblk m c 1 t)) inb_S1x2048_S1x2048_0_0).trans (Memref.IsWhole.read_unread _ _)
    have w2 := (View.readAt_full (Val := Elt Ideal) (ms0_2 t).view ((hs0_2 t).unread (iblk m c 2 t)) inb_S256x2048_S256x2048_0_0).trans (Memref.IsWhole.read_unread _ _)
    have w3 := (View.readAt_full (Val := Elt Ideal) (ms0_3 t).view ((hs0_3 t).unread (iblk m c 3 t)) inb_S256x2048_S256x2048_0_0).trans (Memref.IsWhole.read_unread _ _)
    by_cases h : t.val % 32 = 0
    · refine (congrArg Prod.fst (outsAt0_A m c t h)).trans ?_
      dsimp only
      unfold out0_A_4 kernelRun0_A kernelRun0_A.sl.r_1
      dsimp only
      refine (View.read_writes_full VO0_4 _ inb_S256x2048_S256x2048_0_0 _ _).trans ?_
      exact congrArg₂ k0_pay1 (congr (congrArg₂ k0_pay8 w0 w1) w2) w3
    · refine (congrArg Prod.fst (outsAt0_B m c t h)).trans ?_
      dsimp only
      unfold out0_B_4 kernelRun0_B kernelRun0_B.sl.r_1
      dsimp only
      refine (View.read_writes_full VO0_4 _ inb_S256x2048_S256x2048_0_0 _ _).trans ?_
      exact congrArg₂ k0_pay1 (congr (congrArg₂ k0_pay8 w0 w1) w2) w3
  exact (congrFun e _).trans (congrArg₂ (fun a b : EReal => a + b) (rd3 m c t r j) (b8 m c t r j))

/-! ## The weight's gradient, summed in row 0 -/

theorem outg : ∀ (n : ℕ) (hn : n < cfg0.N) (q : Fin 8), (outsAt0 m c n hn).2 (ix2 (n0 := 8) (n1 := 2048) q j)
    = if q.val = 0 then ∑ k ∈ Finset.range (n + 1), ∑ r, dg (X m c) (D m c) j (at' k r) else 0
  | 0, hn, q => by
    have w0 := (View.readAt_full (Val := Elt Ideal) (ms0_0 ⟨0, hn⟩).view ((hs0_0 ⟨0, hn⟩).unread (iblk m c 0 ⟨0, hn⟩)) inb_S256x2048_S256x2048_0_0).trans (Memref.IsWhole.read_unread _ _)
    have w2 := (View.readAt_full (Val := Elt Ideal) (ms0_2 ⟨0, hn⟩).view ((hs0_2 ⟨0, hn⟩).unread (iblk m c 2 ⟨0, hn⟩)) inb_S256x2048_S256x2048_0_0).trans (Memref.IsWhole.read_unread _ _)
    refine (congrFun (congrArg Prod.snd (outsAt0_A m c ⟨0, hn⟩ rfl)) _).trans ?_
    dsimp only
    unfold out0_A_5 kernelRun0_A kernelRun0_A.sl.r
    dsimp only
    refine (acc j VO0_5 _ _ _ q).trans ?_
    by_cases h : q.val = 0
    · rw [if_pos h, if_pos h, Finset.sum_range_one]
      refine (p2 j _ _ 0 _ ((congrFun (congrArg₂ k0_pay7 w0 w2) _).trans (b7 m c ⟨0, hn⟩ j 0)) ?_).trans (zero_add _)
      unfold kernelRun0_A.sl.v46 kernelRun0_A.sl.H5_1
      rw [View.readCov_eq_canon', View.canon_unit_zero (S := S8x2048) (funext fun a : Fin 2 => match a with | ⟨0, _⟩ => rfl | ⟨1, _⟩ => rfl)]
      exact Ideal.ofBits_zero_f32
    · rw [if_neg h, if_neg h]
      refine (congrFun (View.read_writes_full VO0_5 _ inb_S8x2048_S8x2048_0_0 _ _) _).trans ?_
      exact Ideal.ofBits_zero_f32
  | n + 1, hn, q => by
    have hN : cfg0.N = 32 := N_0
    have w0 := (View.readAt_full (Val := Elt Ideal) (ms0_0 ⟨n + 1, hn⟩).view ((hs0_0 ⟨n + 1, hn⟩).unread (iblk m c 0 ⟨n + 1, hn⟩)) inb_S256x2048_S256x2048_0_0).trans (Memref.IsWhole.read_unread _ _)
    have w2 := (View.readAt_full (Val := Elt Ideal) (ms0_2 ⟨n + 1, hn⟩).view ((hs0_2 ⟨n + 1, hn⟩).unread (iblk m c 2 ⟨n + 1, hn⟩)) inb_S256x2048_S256x2048_0_0).trans (Memref.IsWhole.read_unread _ _)
    refine (congrFun (congrArg Prod.snd (outsAt0_B m c ⟨n + 1, hn⟩ (by dsimp only; omega))) _).trans ?_
    dsimp only
    unfold out0_B_5 kernelRun0_B kernelRun0_B.sl.r
    dsimp only
    refine (acc j (ms0_5 ⟨n + 1, hn⟩).view _ _ _ q).trans ?_
    by_cases h : q.val = 0
    · rw [if_pos h, if_pos h, Finset.sum_range_succ]
      refine p2 j _ _ _ _ ((congrFun (congrArg₂ k0_pay7 w0 w2) _).trans (b7 m c ⟨n + 1, hn⟩ j 0)) ?_
      rw [View.readAt_eq_ld, Memref.IsWhole.read_unread]
      refine (congrArg (outsAt0 m c n _).2 (emb_rN j)).trans ((outg n _ 0).trans (if_pos rfl))
    · rw [if_neg h, if_neg h, View.writes_nil, Memref.IsWhole.read_unread]
      exact (outg n _ q).trans (if_neg h)

/-! ## The results of the call -/

theorem arr4 (r : Fin 8192) : (dats m 0 c).arrAt 4 cfg0.N (big r j) = (H m c (big r j) + dx (X m c) (G m c) (D m c) r j : EReal) := by
  have hN : cfg0.N = 32 := N_0
  obtain ⟨t, ht⟩ : ∃ t : Fin cfg0.N, t.val = r.val / 256 := ⟨⟨r.val / 256, by omega⟩, rfl⟩
  have e := (idx t).2.2.2.2.1
  have h : ((cfg0.win 4).blk t).view.emb (at2 ⟨r.val % 256, by omega⟩ j) = big r j := ext2 (a := 8192) (b := 2048)
    (by show win0_4.index t 0 * 256 + 1 * (r.val % 256) = r.val; omega) (by show win0_4.index t 1 * 2048 + 1 * j.val = j.val; omega)
  refine (congrArg _ h).symm.trans ((congrFun (blocks4 m c t (flush0_4 t)) _).trans ((congrFun (flushed4 m c t) _).trans ((outx m c t ⟨r.val % 256, by omega⟩ j).trans ?_)))
  rw [show at' t.val ⟨r.val % 256, by omega⟩ = r from Fin.ext (by show 256 * (t.val % 32) + r.val % 256 = r.val; omega)]

theorem arr5 (q : Fin 8) : (dats m 0 c).arrAt 5 cfg0.N (ix2 (n0 := 8) (n1 := 2048) q j) = if q.val = 0 then ∑ r, dg (X m c) (D m c) j r else (0 : EReal) := by
  have hN : cfg0.N = 32 := N_0
  obtain ⟨t, ht⟩ : ∃ t : Fin cfg0.N, t.val = 31 := ⟨⟨31, by omega⟩, rfl⟩
  have e := (idx t).2.2.2.2.2
  have h : ((cfg0.win 5).blk t).view.emb (ix2 (n0 := 8) (n1 := 2048) q j) = ix2 (n0 := 8) (n1 := 2048) q j := ext2 (a := 8) (b := 2048)
    (by show win0_5.index t 0 * 8 + 1 * q.val = q.val; omega) (by show win0_5.index t 1 * 2048 + 1 * j.val = j.val; omega)
  have w := (dats m 0 c).arrAt_emb_eq_flushed 5 (fun t t' h h' hne => absurd (Fin.ext (by
    have a := (flush0_5 t).mp h; have b := (flush0_5 t').mp h'; have := t.isLt; have := t'.isLt; omega)) hne) t ((flush0_5 t).mpr (by omega)) (ix2 (n0 := 8) (n1 := 2048) q j)
  refine (congrArg _ h).symm.trans (w.trans ((congrFun (flushed5 m c t) _).trans ((outg m c j t.val t.isLt q).trans ?_)))
  rw [ht, rows]

theorem refx (x d : B) (g : S2048.Idx → EReal) (y : B) (r : Fin 8192) (j : Fin 2048) : val_main_v39 (F := Ideal) x g d y (big r j) = (y (big r j) + dx x g d r j : EReal) := Prod27.refx x d g y r j
theorem refg (x d : B) (q : Fin 8) (j : Fin 2048) : val_main_v41 (F := Ideal) x d (ix2 (n0 := 8) (n1 := 2048) q j) = if q.val = 0 then ∑ r, dg x d j r else 0 := Prod27.refg x d q j

theorem equal : algebraic_Kernel36Ideal_Reference36Ideal := by
  intro m ρ m' ρ' _ hagree
  refine ⟨_, _, run_blocks m ρ, ?_⟩
  refine (θ_run Reference36Ideal.defs _ _).mono (fun r h c => ?_) (Reference36Ideal.Value.run (F := Ideal) m' ρ')
  obtain ⟨r0, r1, rest⟩ := h c
  obtain ⟨g0, g1, g2, g3⟩ := hagree c
  refine ⟨funext fun i => (congrFun (r0.trans (val_main_v39_eq _ _)) i).trans ?_, funext fun i => (congrFun (r1.trans (val_main_v41_eq _ _)) i).trans ?_, rest⟩
  · rw [g0, g1, g2, g3, show i = big (i 0) (i 1) from ext2 (a := 8192) (b := 2048) rfl rfl]
    exact (refx _ _ _ _ _ _).trans (arr4 m c (i 1) (i 0)).symm
  · rw [g0, g2, show i = ix2 (n0 := 8) (n1 := 2048) (i 0) (i 1) from ext2 (a := 8) (b := 2048) rfl rfl]
    exact (refg _ _ _ _).trans (arr5 m c (i 1) (i 0)).symm

theorem quiet [Reference36Ideal.Facts] : quiescent_Reference36Ideal := fun m ρ _ =>
  (θ_run Reference36Ideal.defs _ _).mono (fun r h => ⟨fun c => (h c).2.2, sem_eq_zero_of_no_sems (by decide) r.2⟩) (Reference36Ideal.Value.run (F := Ideal) m ρ)
end Cert.Prod36
end
-- ==== Proof.Prod37.lean ====
/-
  The call `rms_ple_bwd`: the same program as `rms_ffn_bwd`, so that the same proof serves.
-/
module
public import proofs.«01_k».proof.Defs
public import proofs.«01_k».proof.Proof.Gen.Kernel37Ideal.Value
public import proofs.«01_k».proof.Proof.Gen.Reference37Ideal.Read
public import proofs.«01_k».proof.Proof.Prod36
@[expose] public section
set_option maxRecDepth 65536
noncomputable section
namespace Cert.Prod37
open Idealize.ShloMosaic
theorem defs0 : Kernel37Ideal.defs₀ (F := Ideal) = Kernel36Ideal.defs₀ (F := Ideal) :=
  congrArg Defs.onTc (funext fun l => match l with | 0 => rfl)
theorem defs : Kernel37Ideal.defs (F := Ideal) = Kernel36Ideal.defs (F := Ideal) :=
  congrArg (Pipeline.defs Kernel36Ideal.pcfgs) defs0
theorem equal : algebraic_Kernel37Ideal_Reference37Ideal := by
  unfold algebraic_Kernel37Ideal_Reference37Ideal
  rw [defs]
  exact Prod36.equal
theorem quiet [Reference37Ideal.Facts] : quiescent_Reference37Ideal := Prod36.quiet
end Cert.Prod37
end
-- ==== Proof.lean ====
/-
  The proof of the claims about the backward pass of the gated spatial mixing, about the products of the step, the optimiser and the norms.
  The frames of the two printed programs are those the generated modules prove; the frame of the reference
  follows from its run; the equality of the results is proved in `Join` and in the `Prod` modules.
-/
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Gen.On_written
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Join
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.Prod19
public import proofs.«01_k».proof.Proof.Prod20
public import proofs.«01_k».proof.Proof.Prod21
public import proofs.«01_k».proof.Proof.Prod22
public import proofs.«01_k».proof.Proof.Prod23
public import proofs.«01_k».proof.Proof.Prod24
public import proofs.«01_k».proof.Proof.Prod25
public import proofs.«01_k».proof.Proof.Prod26
public import proofs.«01_k».proof.Proof.Prod27
public import proofs.«01_k».proof.Proof.Prod28
public import proofs.«01_k».proof.Proof.Prod29
public import proofs.«01_k».proof.Proof.Prod30
public import proofs.«01_k».proof.Proof.Prod31
public import proofs.«01_k».proof.Proof.Prod32
public import proofs.«01_k».proof.Proof.Prod33
public import proofs.«01_k».proof.Proof.Prod34
public import proofs.«01_k».proof.Proof.Prod35
public import proofs.«01_k».proof.Proof.Prod36
public import proofs.«01_k».proof.Proof.Prod37
public import Idealize.ShloMosaic.Adequacy
public import Idealize.ShloMosaic.Init

@[expose] public section

noncomputable section

namespace Cert.Proof

open Idealize.ShloMosaic Idealize.SL.Sem Cert.Kernel

/-- The reference reads and writes no semaphore, and its run leaves its arguments as they were. -/
theorem frame_ref [Cert.ReferenceIdeal.Facts] : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.On_written.Gen.facts,
  fun m ρ _ => Cert.Kernel.Gen.frame m ρ,
  fun m ρ _ => Cert.KernelIdeal.Gen.frame m ρ,
  frame_ref,
  fun m ρ _ => Cert.Kernel2.Gen.frame m ρ,
  fun m ρ _ => Cert.Kernel2Ideal.Gen.frame m ρ,
  Cert.Prod2.quiet,
  fun m ρ _ => Cert.Kernel3.Gen.frame m ρ,
  fun m ρ _ => Cert.Kernel3Ideal.Gen.frame m ρ,
  Cert.Prod3.quiet,
  fun m ρ _ => Cert.Kernel4.Gen.frame m ρ,
  fun m ρ _ => Cert.Kernel4Ideal.Gen.frame m ρ,
  Cert.Prod4.quiet,
  fun m ρ _ => Cert.Kernel5.Gen.frame m ρ,
  fun m ρ _ => Cert.Kernel5Ideal.Gen.frame m ρ,
  Cert.Prod5.quiet,
  fun m ρ _ => Cert.Kernel6.Gen.frame m ρ,
  fun m ρ _ => Cert.Kernel6Ideal.Gen.frame m ρ,
  Cert.Prod6.quiet,
  fun m ρ _ => Cert.Kernel7.Gen.frame m ρ,
  fun m ρ _ => Cert.Kernel7Ideal.Gen.frame m ρ,
  Cert.Prod7.quiet,
  fun m ρ _ => Cert.Kernel8.Gen.frame m ρ,
  fun m ρ _ => Cert.Kernel8Ideal.Gen.frame m ρ,
  Cert.Prod8.quiet,
  fun m ρ _ => Cert.Kernel9.Gen.frame m ρ,
  fun m ρ _ => Cert.Kernel9Ideal.Gen.frame m ρ,
  Cert.Prod9.quiet,
  fun m ρ _ => Cert.Kernel10.Gen.frame m ρ,
  fun m ρ _ => Cert.Kernel10Ideal.Gen.frame m ρ,
  Cert.Prod10.quiet,
  fun m ρ _ => Cert.Kernel11.Gen.frame m ρ,
  fun m ρ _ => Cert.Kernel11Ideal.Gen.frame m ρ,
  Cert.Prod11.quiet,
  fun m ρ _ => Cert.Kernel12.Gen.frame m ρ,
  fun m ρ _ => Cert.Kernel12Ideal.Gen.frame m ρ,
  Cert.Prod12.quiet,
  fun m ρ _ => Cert.Kernel13.Gen.frame m ρ,
  fun m ρ _ => Cert.Kernel13Ideal.Gen.frame m ρ,
  Cert.Prod13.quiet,
  fun m ρ _ => Cert.Kernel14.Gen.frame m ρ,
  fun m ρ _ => Cert.Kernel14Ideal.Gen.frame m ρ,
  Cert.Prod14.quiet,
  fun m ρ _ => Cert.Kernel15.Gen.frame m ρ,
  fun m ρ _ => Cert.Kernel15Ideal.Gen.frame m ρ,
  Cert.Prod15.quiet,
  fun m ρ _ => Cert.Kernel16.Gen.frame m ρ,
  fun m ρ _ => Cert.Kernel16Ideal.Gen.frame m ρ,
  Cert.Prod16.quiet,
  fun m ρ _ => Cert.Kernel17.Gen.frame m ρ,
  fun m ρ _ => Cert.Kernel17Ideal.Gen.frame m ρ,
  Cert.Prod17.quiet,
  fun m ρ _ => Cert.Kernel18.Gen.frame m ρ,
  fun m ρ _ => Cert.Kernel18Ideal.Gen.frame m ρ,
  Cert.Prod18.quiet,
  fun m ρ _ => Cert.Kernel19.Gen.frame m ρ,
  fun m ρ _ => Cert.Kernel19Ideal.Gen.frame m ρ,
  Cert.Prod19.quiet,
  fun m ρ _ => Cert.Kernel20.Gen.frame m ρ,
  fun m ρ _ => Cert.Kernel20Ideal.Gen.frame m ρ,
  Cert.Prod20.quiet,
  fun m ρ _ => Cert.Kernel21.Gen.frame m ρ,
  fun m ρ _ => Cert.Kernel21Ideal.Gen.frame m ρ,
  Cert.Prod21.quiet,
  fun m ρ _ => Cert.Kernel22.Gen.frame m ρ,
  fun m ρ _ => Cert.Kernel22Ideal.Gen.frame m ρ,
  Cert.Prod22.quiet,
  fun m ρ _ => Cert.Kernel23.Gen.frame m ρ,
  fun m ρ _ => Cert.Kernel23Ideal.Gen.frame m ρ,
  Cert.Prod23.quiet,
  fun m ρ _ => Cert.Kernel24.Gen.frame m ρ,
  fun m ρ _ => Cert.Kernel24Ideal.Gen.frame m ρ,
  Cert.Prod24.quiet,
  fun m ρ _ => Cert.Kernel25.Gen.frame m ρ,
  fun m ρ _ => Cert.Kernel25Ideal.Gen.frame m ρ,
  Cert.Prod25.quiet,
  fun m ρ _ => Cert.Kernel26.Gen.frame m ρ,
  fun m ρ _ => Cert.Kernel26Ideal.Gen.frame m ρ,
  Cert.Prod26.quiet,
  fun m ρ _ => Cert.Kernel27.Gen.frame m ρ,
  fun m ρ _ => Cert.Kernel27Ideal.Gen.frame m ρ,
  Cert.Prod27.quiet,
  fun m ρ _ => Cert.Kernel28.Gen.frame m ρ,
  fun m ρ _ => Cert.Kernel28Ideal.Gen.frame m ρ,
  Cert.Prod28.quiet,
  fun m ρ _ => Cert.Kernel29.Gen.frame m ρ,
  fun m ρ _ => Cert.Kernel29Ideal.Gen.frame m ρ,
  Cert.Prod29.quiet,
  fun m ρ _ => Cert.Kernel30.Gen.frame m ρ,
  fun m ρ _ => Cert.Kernel30Ideal.Gen.frame m ρ,
  Cert.Prod30.quiet,
  fun m ρ _ => Cert.Kernel31.Gen.frame m ρ,
  fun m ρ _ => Cert.Kernel31Ideal.Gen.frame m ρ,
  Cert.Prod31.quiet,
  fun m ρ _ => Cert.Kernel32.Gen.frame m ρ,
  fun m ρ _ => Cert.Kernel32Ideal.Gen.frame m ρ,
  Cert.Prod32.quiet,
  fun m ρ _ => Cert.Kernel33.Gen.frame m ρ,
  fun m ρ _ => Cert.Kernel33Ideal.Gen.frame m ρ,
  Cert.Prod33.quiet,
  fun m ρ _ => Cert.Kernel34.Gen.frame m ρ,
  fun m ρ _ => Cert.Kernel34Ideal.Gen.frame m ρ,
  Cert.Prod34.quiet,
  fun m ρ _ => Cert.Kernel35.Gen.frame m ρ,
  fun m ρ _ => Cert.Kernel35Ideal.Gen.frame m ρ,
  Cert.Prod35.quiet,
  fun m ρ _ => Cert.Kernel36.Gen.frame m ρ,
  fun m ρ _ => Cert.Kernel36Ideal.Gen.frame m ρ,
  Cert.Prod36.quiet,
  fun m ρ _ => Cert.Kernel37.Gen.frame m ρ,
  fun m ρ _ => Cert.Kernel37Ideal.Gen.frame m ρ,
  Cert.Prod37.quiet,
  trivial,
  equal,
  trivial,
  Cert.Prod2.equal,
  trivial,
  Cert.Prod3.equal,
  trivial,
  Cert.Prod4.equal,
  trivial,
  Cert.Prod5.equal,
  trivial,
  Cert.Prod6.equal,
  trivial,
  Cert.Prod7.equal,
  trivial,
  Cert.Prod8.equal,
  trivial,
  Cert.Prod9.equal,
  trivial,
  Cert.Prod10.equal,
  trivial,
  Cert.Prod11.equal,
  trivial,
  Cert.Prod12.equal,
  trivial,
  Cert.Prod13.equal,
  trivial,
  Cert.Prod14.equal,
  trivial,
  Cert.Prod15.equal,
  trivial,
  Cert.Prod16.equal,
  trivial,
  Cert.Prod17.equal,
  trivial,
  Cert.Prod18.equal,
  trivial,
  Cert.Prod19.equal,
  trivial,
  Cert.Prod20.equal,
  trivial,
  Cert.Prod21.equal,
  trivial,
  Cert.Prod22.equal,
  trivial,
  Cert.Prod23.equal,
  trivial,
  Cert.Prod24.equal,
  trivial,
  Cert.Prod25.equal,
  trivial,
  Cert.Prod26.equal,
  trivial,
  Cert.Prod27.equal,
  trivial,
  Cert.Prod28.equal,
  trivial,
  Cert.Prod29.equal,
  trivial,
  Cert.Prod30.equal,
  trivial,
  Cert.Prod31.equal,
  trivial,
  Cert.Prod32.equal,
  trivial,
  Cert.Prod33.equal,
  trivial,
  Cert.Prod34.equal,
  trivial,
  Cert.Prod35.equal,
  trivial,
  Cert.Prod36.equal,
  trivial,
  Cert.Prod37.equal⟩

end Cert.Proof

end
